-- ==== Defs.lean ====
def Pre_Kernel [hPre_rows_in_range : Cert.Pre_rows_in_range.Facts] (m : (ℓ : Loc Cert.Kernel.nD Cert.Kernel.τ Cert.Kernel.sig) → Buf (Elt Bits) ℓ) : Prop :=
  ∀ c : Dev Cert.Kernel.nD,
    (Cert.Pre_rows_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_rows_in_range : Cert.Pre_rows_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_rows_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_rows_in_range : Cert.Pre_rows_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rows_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Reference [hPre_rows_in_range : Cert.Pre_rows_in_range.Facts] (m : (ℓ : Loc Cert.Reference.nD Cert.Reference.τ Cert.Reference.sig) → Buf (Elt Bits) ℓ) : Prop :=
  ∀ c : Dev Cert.Reference.nD,
    (Cert.Pre_rows_in_range.fn (F := Bits) (m ((c.tc : Thread Cert.Reference.nD Cert.Reference.τ).loc Cert.Reference.main_arg0)) (m ((c.tc : Thread Cert.Reference.nD Cert.Reference.τ).loc Cert.Reference.main_arg1)) (m ((c.tc : Thread Cert.Reference.nD Cert.Reference.τ).loc Cert.Reference.main_arg2))) = (fun _ => 1#1)

def Pre_Router (m : (ℓ : Loc Cert.Router.nD Cert.Router.τ Cert.Router.sig) → Buf (Elt Bits) ℓ) : Prop :=
  True

def Pre_RouterIdeal (m : (ℓ : Loc Cert.RouterIdeal.nD Cert.RouterIdeal.τ Cert.RouterIdeal.sig) → Buf (Elt Ideal) ℓ) : Prop :=
  True

def Pre_RouterIdeal_router_finite [hPre_router_finite : Cert.Pre_router_finite.Facts] (m : (ℓ : Loc Cert.RouterIdeal.nD Cert.RouterIdeal.τ Cert.RouterIdeal.sig) → Buf (Elt Ideal) ℓ) : Prop :=
  ∀ c : Dev Cert.RouterIdeal.nD,
    (Cert.Pre_router_finite.fn (F := Ideal) (m ((c.tc : Thread Cert.RouterIdeal.nD Cert.RouterIdeal.τ).loc Cert.RouterIdeal.main_arg0)) (m ((c.tc : Thread Cert.RouterIdeal.nD Cert.RouterIdeal.τ).loc Cert.RouterIdeal.main_arg1)) (m ((c.tc : Thread Cert.RouterIdeal.nD Cert.RouterIdeal.τ).loc Cert.RouterIdeal.main_arg2))) = (fun _ => 1#1)

def Pre_RouterReferenceIdeal (m : (ℓ : Loc Cert.RouterReferenceIdeal.nD Cert.RouterReferenceIdeal.τ Cert.RouterReferenceIdeal.sig) → Buf (Elt Ideal) ℓ) : Prop :=
  True

def Pre_RouterReferenceIdeal_router_finite [hPre_router_finite : Cert.Pre_router_finite.Facts] (m : (ℓ : Loc Cert.RouterReferenceIdeal.nD Cert.RouterReferenceIdeal.τ Cert.RouterReferenceIdeal.sig) → Buf (Elt Ideal) ℓ) : Prop :=
  ∀ c : Dev Cert.RouterReferenceIdeal.nD,
    (Cert.Pre_router_finite.fn (F := Ideal) (m ((c.tc : Thread Cert.RouterReferenceIdeal.nD Cert.RouterReferenceIdeal.τ).loc Cert.RouterReferenceIdeal.main_arg0)) (m ((c.tc : Thread Cert.RouterReferenceIdeal.nD Cert.RouterReferenceIdeal.τ).loc Cert.RouterReferenceIdeal.main_arg1)) (m ((c.tc : Thread Cert.RouterReferenceIdeal.nD Cert.RouterReferenceIdeal.τ).loc Cert.RouterReferenceIdeal.main_arg2))) = (fun _ => 1#1)

def Pre_WholeIdeal [hPre_finite : Cert.Pre_finite.Facts] (m : (ℓ : Loc Cert.WholeIdeal.nD Cert.WholeIdeal.τ Cert.WholeIdeal.sig) → Buf (Elt Ideal) ℓ) : Prop :=
  ∀ c : Dev Cert.WholeIdeal.nD,
    (Cert.Pre_finite.fn (F := Ideal) (m ((c.tc : Thread Cert.WholeIdeal.nD Cert.WholeIdeal.τ).loc Cert.WholeIdeal.main_arg0)) (m ((c.tc : Thread Cert.WholeIdeal.nD Cert.WholeIdeal.τ).loc Cert.WholeIdeal.main_arg1)) (m ((c.tc : Thread Cert.WholeIdeal.nD Cert.WholeIdeal.τ).loc Cert.WholeIdeal.main_arg2)) (m ((c.tc : Thread Cert.WholeIdeal.nD Cert.WholeIdeal.τ).loc Cert.WholeIdeal.main_arg3)) (m ((c.tc : Thread Cert.WholeIdeal.nD Cert.WholeIdeal.τ).loc Cert.WholeIdeal.main_arg4)) (m ((c.tc : Thread Cert.WholeIdeal.nD Cert.WholeIdeal.τ).loc Cert.WholeIdeal.main_arg5)) (m ((c.tc : Thread Cert.WholeIdeal.nD Cert.WholeIdeal.τ).loc Cert.WholeIdeal.main_arg6))) = (fun _ => 1#1)

def Pre_WholeReferenceIdeal (m : (ℓ : Loc Cert.WholeReferenceIdeal.nD Cert.WholeReferenceIdeal.τ Cert.WholeReferenceIdeal.sig) → Buf (Elt Ideal) ℓ) : Prop :=
  True

def Pre_WholeReferenceIdeal_finite [hPre_finite : Cert.Pre_finite.Facts] (m : (ℓ : Loc Cert.WholeReferenceIdeal.nD Cert.WholeReferenceIdeal.τ Cert.WholeReferenceIdeal.sig) → Buf (Elt Ideal) ℓ) : Prop :=
  ∀ c : Dev Cert.WholeReferenceIdeal.nD,
    (Cert.Pre_finite.fn (F := Ideal) (m ((c.tc : Thread Cert.WholeReferenceIdeal.nD Cert.WholeReferenceIdeal.τ).loc Cert.WholeReferenceIdeal.main_arg0)) (m ((c.tc : Thread Cert.WholeReferenceIdeal.nD Cert.WholeReferenceIdeal.τ).loc Cert.WholeReferenceIdeal.main_arg1)) (m ((c.tc : Thread Cert.WholeReferenceIdeal.nD Cert.WholeReferenceIdeal.τ).loc Cert.WholeReferenceIdeal.main_arg2)) (m ((c.tc : Thread Cert.WholeReferenceIdeal.nD Cert.WholeReferenceIdeal.τ).loc Cert.WholeReferenceIdeal.main_arg3)) (m ((c.tc : Thread Cert.WholeReferenceIdeal.nD Cert.WholeReferenceIdeal.τ).loc Cert.WholeReferenceIdeal.main_arg4)) (m ((c.tc : Thread Cert.WholeReferenceIdeal.nD Cert.WholeReferenceIdeal.τ).loc Cert.WholeReferenceIdeal.main_arg5)) (m ((c.tc : Thread Cert.WholeReferenceIdeal.nD Cert.WholeReferenceIdeal.τ).loc Cert.WholeReferenceIdeal.main_arg6))) = (fun _ => 1#1)

def quiescent_Kernel [hKernel : Cert.Kernel.Facts] [hPre_rows_in_range : Cert.Pre_rows_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] [hPre_rows_in_range : Cert.Pre_rows_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] [hPre_rows_in_range : Cert.Pre_rows_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Reference [hReference : Cert.Reference.Facts] [hPre_rows_in_range : Cert.Pre_rows_in_range.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2))
      ∧ r.2.sem = fun _ => 0)

def quiescent_Router [hRouter : Cert.Router.Facts] : Prop :=
  ∀ (m : (ℓ : Loc Cert.Router.nD Cert.Router.τ Cert.Router.sig) → Buf (Elt Bits) ℓ) (g : Dev Cert.Router.nD → PrngReg), Pre_Router m →
    θ_run (Cert.Router.defs (F := Bits)) (onTc (τ := Cert.Router.τ) (Cert.Router.main (F := Bits))) ⟨m, fun _ => 0, g⟩ (fun r => (∀ c : Dev Cert.Router.nD,
      r.2.mem ((c.tc : Thread Cert.Router.nD Cert.Router.τ).loc Cert.Router.main_arg0) = m ((c.tc : Thread Cert.Router.nD Cert.Router.τ).loc Cert.Router.main_arg0)
      ∧ r.2.mem ((c.tc : Thread Cert.Router.nD Cert.Router.τ).loc Cert.Router.main_arg1) = m ((c.tc : Thread Cert.Router.nD Cert.Router.τ).loc Cert.Router.main_arg1)
      ∧ r.2.mem ((c.tc : Thread Cert.Router.nD Cert.Router.τ).loc Cert.Router.main_arg2) = m ((c.tc : Thread Cert.Router.nD Cert.Router.τ).loc Cert.Router.main_arg2))
      ∧ r.2.sem = fun _ => 0)

def quiescent_RouterIdeal [hRouterIdeal : Cert.RouterIdeal.Facts] : Prop :=
  ∀ (m : (ℓ : Loc Cert.RouterIdeal.nD Cert.RouterIdeal.τ Cert.RouterIdeal.sig) → Buf (Elt Ideal) ℓ) (g : Dev Cert.RouterIdeal.nD → PrngReg), Pre_RouterIdeal m →
    θ_run (Cert.RouterIdeal.defs (F := Ideal)) (onTc (τ := Cert.RouterIdeal.τ) (Cert.RouterIdeal.main (F := Ideal))) ⟨m, fun _ => 0, g⟩ (fun r => (∀ c : Dev Cert.RouterIdeal.nD,
      r.2.mem ((c.tc : Thread Cert.RouterIdeal.nD Cert.RouterIdeal.τ).loc Cert.RouterIdeal.main_arg0) = m ((c.tc : Thread Cert.RouterIdeal.nD Cert.RouterIdeal.τ).loc Cert.RouterIdeal.main_arg0)
      ∧ r.2.mem ((c.tc : Thread Cert.RouterIdeal.nD Cert.RouterIdeal.τ).loc Cert.RouterIdeal.main_arg1) = m ((c.tc : Thread Cert.RouterIdeal.nD Cert.RouterIdeal.τ).loc Cert.RouterIdeal.main_arg1)
      ∧ r.2.mem ((c.tc : Thread Cert.RouterIdeal.nD Cert.RouterIdeal.τ).loc Cert.RouterIdeal.main_arg2) = m ((c.tc : Thread Cert.RouterIdeal.nD Cert.RouterIdeal.τ).loc Cert.RouterIdeal.main_arg2))
      ∧ r.2.sem = fun _ => 0)

def quiescent_RouterIdeal_pre_router_finite [hRouterIdeal : Cert.RouterIdeal.Facts] [hPre_router_finite : Cert.Pre_router_finite.Facts] : Prop :=
  ∀ (m : (ℓ : Loc Cert.RouterIdeal.nD Cert.RouterIdeal.τ Cert.RouterIdeal.sig) → Buf (Elt Ideal) ℓ) (g : Dev Cert.RouterIdeal.nD → PrngReg), Pre_RouterIdeal_router_finite m →
    θ_run (Cert.RouterIdeal.defs (F := Ideal)) (onTc (τ := Cert.RouterIdeal.τ) (Cert.RouterIdeal.main (F := Ideal))) ⟨m, fun _ => 0, g⟩ (fun r => (∀ c : Dev Cert.RouterIdeal.nD,
      r.2.mem ((c.tc : Thread Cert.RouterIdeal.nD Cert.RouterIdeal.τ).loc Cert.RouterIdeal.main_arg0) = m ((c.tc : Thread Cert.RouterIdeal.nD Cert.RouterIdeal.τ).loc Cert.RouterIdeal.main_arg0)
      ∧ r.2.mem ((c.tc : Thread Cert.RouterIdeal.nD Cert.RouterIdeal.τ).loc Cert.RouterIdeal.main_arg1) = m ((c.tc : Thread Cert.RouterIdeal.nD Cert.RouterIdeal.τ).loc Cert.RouterIdeal.main_arg1)
      ∧ r.2.mem ((c.tc : Thread Cert.RouterIdeal.nD Cert.RouterIdeal.τ).loc Cert.RouterIdeal.main_arg2) = m ((c.tc : Thread Cert.RouterIdeal.nD Cert.RouterIdeal.τ).loc Cert.RouterIdeal.main_arg2))
      ∧ r.2.sem = fun _ => 0)

def quiescent_RouterReferenceIdeal [hRouterReferenceIdeal : Cert.RouterReferenceIdeal.Facts] : Prop :=
  ∀ (m : (ℓ : Loc Cert.RouterReferenceIdeal.nD Cert.RouterReferenceIdeal.τ Cert.RouterReferenceIdeal.sig) → Buf (Elt Ideal) ℓ) (g : Dev Cert.RouterReferenceIdeal.nD → PrngReg), Pre_RouterReferenceIdeal m →
    θ_run (Cert.RouterReferenceIdeal.defs (F := Ideal)) (onTc (τ := Cert.RouterReferenceIdeal.τ) (Cert.RouterReferenceIdeal.main (F := Ideal))) ⟨m, fun _ => 0, g⟩ (fun r => (∀ c : Dev Cert.RouterReferenceIdeal.nD,
      r.2.mem ((c.tc : Thread Cert.RouterReferenceIdeal.nD Cert.RouterReferenceIdeal.τ).loc Cert.RouterReferenceIdeal.main_arg0) = m ((c.tc : Thread Cert.RouterReferenceIdeal.nD Cert.RouterReferenceIdeal.τ).loc Cert.RouterReferenceIdeal.main_arg0)
      ∧ r.2.mem ((c.tc : Thread Cert.RouterReferenceIdeal.nD Cert.RouterReferenceIdeal.τ).loc Cert.RouterReferenceIdeal.main_arg1) = m ((c.tc : Thread Cert.RouterReferenceIdeal.nD Cert.RouterReferenceIdeal.τ).loc Cert.RouterReferenceIdeal.main_arg1)
      ∧ r.2.mem ((c.tc : Thread Cert.RouterReferenceIdeal.nD Cert.RouterReferenceIdeal.τ).loc Cert.RouterReferenceIdeal.main_arg2) = m ((c.tc : Thread Cert.RouterReferenceIdeal.nD Cert.RouterReferenceIdeal.τ).loc Cert.RouterReferenceIdeal.main_arg2))
      ∧ r.2.sem = fun _ => 0)

def quiescent_RouterReferenceIdeal_pre_router_finite [hRouterReferenceIdeal : Cert.RouterReferenceIdeal.Facts] [hPre_router_finite : Cert.Pre_router_finite.Facts] : Prop :=
  ∀ (m : (ℓ : Loc Cert.RouterReferenceIdeal.nD Cert.RouterReferenceIdeal.τ Cert.RouterReferenceIdeal.sig) → Buf (Elt Ideal) ℓ) (g : Dev Cert.RouterReferenceIdeal.nD → PrngReg), Pre_RouterReferenceIdeal_router_finite m →
    θ_run (Cert.RouterReferenceIdeal.defs (F := Ideal)) (onTc (τ := Cert.RouterReferenceIdeal.τ) (Cert.RouterReferenceIdeal.main (F := Ideal))) ⟨m, fun _ => 0, g⟩ (fun r => (∀ c : Dev Cert.RouterReferenceIdeal.nD,
      r.2.mem ((c.tc : Thread Cert.RouterReferenceIdeal.nD Cert.RouterReferenceIdeal.τ).loc Cert.RouterReferenceIdeal.main_arg0) = m ((c.tc : Thread Cert.RouterReferenceIdeal.nD Cert.RouterReferenceIdeal.τ).loc Cert.RouterReferenceIdeal.main_arg0)
      ∧ r.2.mem ((c.tc : Thread Cert.RouterReferenceIdeal.nD Cert.RouterReferenceIdeal.τ).loc Cert.RouterReferenceIdeal.main_arg1) = m ((c.tc : Thread Cert.RouterReferenceIdeal.nD Cert.RouterReferenceIdeal.τ).loc Cert.RouterReferenceIdeal.main_arg1)
      ∧ r.2.mem ((c.tc : Thread Cert.RouterReferenceIdeal.nD Cert.RouterReferenceIdeal.τ).loc Cert.RouterReferenceIdeal.main_arg2) = m ((c.tc : Thread Cert.RouterReferenceIdeal.nD Cert.RouterReferenceIdeal.τ).loc Cert.RouterReferenceIdeal.main_arg2))
      ∧ r.2.sem = fun _ => 0)

def quiescent_WholeIdeal [hWholeIdeal : Cert.WholeIdeal.Facts] [hPre_finite : Cert.Pre_finite.Facts] : Prop :=
  ∀ (m : (ℓ : Loc Cert.WholeIdeal.nD Cert.WholeIdeal.τ Cert.WholeIdeal.sig) → Buf (Elt Ideal) ℓ) (g : Dev Cert.WholeIdeal.nD → PrngReg), Pre_WholeIdeal m →
    θ_run (Cert.WholeIdeal.defs (F := Ideal)) (Cert.WholeIdeal.threads (F := Ideal)) ⟨m, fun _ => 0, g⟩ (fun r => (∀ c : Dev Cert.WholeIdeal.nD,
      r.2.mem ((c.tc : Thread Cert.WholeIdeal.nD Cert.WholeIdeal.τ).loc Cert.WholeIdeal.main_arg0) = m ((c.tc : Thread Cert.WholeIdeal.nD Cert.WholeIdeal.τ).loc Cert.WholeIdeal.main_arg0)
      ∧ r.2.mem ((c.tc : Thread Cert.WholeIdeal.nD Cert.WholeIdeal.τ).loc Cert.WholeIdeal.main_arg1) = m ((c.tc : Thread Cert.WholeIdeal.nD Cert.WholeIdeal.τ).loc Cert.WholeIdeal.main_arg1)
      ∧ r.2.mem ((c.tc : Thread Cert.WholeIdeal.nD Cert.WholeIdeal.τ).loc Cert.WholeIdeal.main_arg2) = m ((c.tc : Thread Cert.WholeIdeal.nD Cert.WholeIdeal.τ).loc Cert.WholeIdeal.main_arg2)
      ∧ r.2.mem ((c.tc : Thread Cert.WholeIdeal.nD Cert.WholeIdeal.τ).loc Cert.WholeIdeal.main_arg3) = m ((c.tc : Thread Cert.WholeIdeal.nD Cert.WholeIdeal.τ).loc Cert.WholeIdeal.main_arg3)
      ∧ r.2.mem ((c.tc : Thread Cert.WholeIdeal.nD Cert.WholeIdeal.τ).loc Cert.WholeIdeal.main_arg4) = m ((c.tc : Thread Cert.WholeIdeal.nD Cert.WholeIdeal.τ).loc Cert.WholeIdeal.main_arg4)
      ∧ r.2.mem ((c.tc : Thread Cert.WholeIdeal.nD Cert.WholeIdeal.τ).loc Cert.WholeIdeal.main_arg5) = m ((c.tc : Thread Cert.WholeIdeal.nD Cert.WholeIdeal.τ).loc Cert.WholeIdeal.main_arg5)
      ∧ r.2.mem ((c.tc : Thread Cert.WholeIdeal.nD Cert.WholeIdeal.τ).loc Cert.WholeIdeal.main_arg6) = m ((c.tc : Thread Cert.WholeIdeal.nD Cert.WholeIdeal.τ).loc Cert.WholeIdeal.main_arg6))
      ∧ r.2.sem = fun _ => 0)

def quiescent_WholeReferenceIdeal [hWholeReferenceIdeal : Cert.WholeReferenceIdeal.Facts] : Prop :=
  ∀ (m : (ℓ : Loc Cert.WholeReferenceIdeal.nD Cert.WholeReferenceIdeal.τ Cert.WholeReferenceIdeal.sig) → Buf (Elt Ideal) ℓ) (g : Dev Cert.WholeReferenceIdeal.nD → PrngReg), Pre_WholeReferenceIdeal m →
    θ_run (Cert.WholeReferenceIdeal.defs (F := Ideal)) (onTc (τ := Cert.WholeReferenceIdeal.τ) (Cert.WholeReferenceIdeal.main (F := Ideal))) ⟨m, fun _ => 0, g⟩ (fun r => (∀ c : Dev Cert.WholeReferenceIdeal.nD,
      r.2.mem ((c.tc : Thread Cert.WholeReferenceIdeal.nD Cert.WholeReferenceIdeal.τ).loc Cert.WholeReferenceIdeal.main_arg0) = m ((c.tc : Thread Cert.WholeReferenceIdeal.nD Cert.WholeReferenceIdeal.τ).loc Cert.WholeReferenceIdeal.main_arg0)
      ∧ r.2.mem ((c.tc : Thread Cert.WholeReferenceIdeal.nD Cert.WholeReferenceIdeal.τ).loc Cert.WholeReferenceIdeal.main_arg1) = m ((c.tc : Thread Cert.WholeReferenceIdeal.nD Cert.WholeReferenceIdeal.τ).loc Cert.WholeReferenceIdeal.main_arg1)
      ∧ r.2.mem ((c.tc : Thread Cert.WholeReferenceIdeal.nD Cert.WholeReferenceIdeal.τ).loc Cert.WholeReferenceIdeal.main_arg2) = m ((c.tc : Thread Cert.WholeReferenceIdeal.nD Cert.WholeReferenceIdeal.τ).loc Cert.WholeReferenceIdeal.main_arg2)
      ∧ r.2.mem ((c.tc : Thread Cert.WholeReferenceIdeal.nD Cert.WholeReferenceIdeal.τ).loc Cert.WholeReferenceIdeal.main_arg3) = m ((c.tc : Thread Cert.WholeReferenceIdeal.nD Cert.WholeReferenceIdeal.τ).loc Cert.WholeReferenceIdeal.main_arg3)
      ∧ r.2.mem ((c.tc : Thread Cert.WholeReferenceIdeal.nD Cert.WholeReferenceIdeal.τ).loc Cert.WholeReferenceIdeal.main_arg4) = m ((c.tc : Thread Cert.WholeReferenceIdeal.nD Cert.WholeReferenceIdeal.τ).loc Cert.WholeReferenceIdeal.main_arg4)
      ∧ r.2.mem ((c.tc : Thread Cert.WholeReferenceIdeal.nD Cert.WholeReferenceIdeal.τ).loc Cert.WholeReferenceIdeal.main_arg5) = m ((c.tc : Thread Cert.WholeReferenceIdeal.nD Cert.WholeReferenceIdeal.τ).loc Cert.WholeReferenceIdeal.main_arg5)
      ∧ r.2.mem ((c.tc : Thread Cert.WholeReferenceIdeal.nD Cert.WholeReferenceIdeal.τ).loc Cert.WholeReferenceIdeal.main_arg6) = m ((c.tc : Thread Cert.WholeReferenceIdeal.nD Cert.WholeReferenceIdeal.τ).loc Cert.WholeReferenceIdeal.main_arg6))
      ∧ r.2.sem = fun _ => 0)

def quiescent_WholeReferenceIdeal_pre_finite [hWholeReferenceIdeal : Cert.WholeReferenceIdeal.Facts] [hPre_finite : Cert.Pre_finite.Facts] : Prop :=
  ∀ (m : (ℓ : Loc Cert.WholeReferenceIdeal.nD Cert.WholeReferenceIdeal.τ Cert.WholeReferenceIdeal.sig) → Buf (Elt Ideal) ℓ) (g : Dev Cert.WholeReferenceIdeal.nD → PrngReg), Pre_WholeReferenceIdeal_finite m →
    θ_run (Cert.WholeReferenceIdeal.defs (F := Ideal)) (onTc (τ := Cert.WholeReferenceIdeal.τ) (Cert.WholeReferenceIdeal.main (F := Ideal))) ⟨m, fun _ => 0, g⟩ (fun r => (∀ c : Dev Cert.WholeReferenceIdeal.nD,
      r.2.mem ((c.tc : Thread Cert.WholeReferenceIdeal.nD Cert.WholeReferenceIdeal.τ).loc Cert.WholeReferenceIdeal.main_arg0) = m ((c.tc : Thread Cert.WholeReferenceIdeal.nD Cert.WholeReferenceIdeal.τ).loc Cert.WholeReferenceIdeal.main_arg0)
      ∧ r.2.mem ((c.tc : Thread Cert.WholeReferenceIdeal.nD Cert.WholeReferenceIdeal.τ).loc Cert.WholeReferenceIdeal.main_arg1) = m ((c.tc : Thread Cert.WholeReferenceIdeal.nD Cert.WholeReferenceIdeal.τ).loc Cert.WholeReferenceIdeal.main_arg1)
      ∧ r.2.mem ((c.tc : Thread Cert.WholeReferenceIdeal.nD Cert.WholeReferenceIdeal.τ).loc Cert.WholeReferenceIdeal.main_arg2) = m ((c.tc : Thread Cert.WholeReferenceIdeal.nD Cert.WholeReferenceIdeal.τ).loc Cert.WholeReferenceIdeal.main_arg2)
      ∧ r.2.mem ((c.tc : Thread Cert.WholeReferenceIdeal.nD Cert.WholeReferenceIdeal.τ).loc Cert.WholeReferenceIdeal.main_arg3) = m ((c.tc : Thread Cert.WholeReferenceIdeal.nD Cert.WholeReferenceIdeal.τ).loc Cert.WholeReferenceIdeal.main_arg3)
      ∧ r.2.mem ((c.tc : Thread Cert.WholeReferenceIdeal.nD Cert.WholeReferenceIdeal.τ).loc Cert.WholeReferenceIdeal.main_arg4) = m ((c.tc : Thread Cert.WholeReferenceIdeal.nD Cert.WholeReferenceIdeal.τ).loc Cert.WholeReferenceIdeal.main_arg4)
      ∧ r.2.mem ((c.tc : Thread Cert.WholeReferenceIdeal.nD Cert.WholeReferenceIdeal.τ).loc Cert.WholeReferenceIdeal.main_arg5) = m ((c.tc : Thread Cert.WholeReferenceIdeal.nD Cert.WholeReferenceIdeal.τ).loc Cert.WholeReferenceIdeal.main_arg5)
      ∧ r.2.mem ((c.tc : Thread Cert.WholeReferenceIdeal.nD Cert.WholeReferenceIdeal.τ).loc Cert.WholeReferenceIdeal.main_arg6) = m ((c.tc : Thread Cert.WholeReferenceIdeal.nD Cert.WholeReferenceIdeal.τ).loc Cert.WholeReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_rows_in_range : Cert.Pre_rows_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def bitexact_Kernel_Reference [hKernel : Cert.Kernel.Facts] [hReference : Cert.Reference.Facts] [hPre_rows_in_range : Cert.Pre_rows_in_range.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)
      ∧ m' ((c.tc : Thread Cert.Reference.nD Cert.Reference.τ).loc Cert.Reference.main_arg2) = m ((c.tc : Thread Cert.Kernel.nD Cert.Kernel.τ).loc Cert.Kernel.main_arg2)) →
    ∃ (v0 : (c : Dev Cert.Kernel.nD) → Buf (Elt Bits) ((c.tc : Thread Cert.Kernel.nD Cert.Kernel.τ).loc Cert.Kernel.main_v0)),
      θ_run (Cert.Kernel.defs (F := Bits)) (Cert.Kernel.threads (F := Bits)) ⟨m, fun _ => 0, g⟩ (fun r => ∀ c : Dev Cert.Kernel.nD,
          r.2.mem ((c.tc : Thread Cert.Kernel.nD Cert.Kernel.τ).loc Cert.Kernel.main_v0) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1)
          ∧ r.2.mem ((c.tc : Thread Cert.Kernel.nD Cert.Kernel.τ).loc Cert.Kernel.main_arg2) = m ((c.tc : Thread Cert.Kernel.nD Cert.Kernel.τ).loc Cert.Kernel.main_arg2))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v14) = v0 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1)
          ∧ r.2.mem ((c.tc : Thread Cert.Reference.nD Cert.Reference.τ).loc Cert.Reference.main_arg2) = m' ((c.tc : Thread Cert.Reference.nD Cert.Reference.τ).loc Cert.Reference.main_arg2))

def preserves_Router_RouterIdeal : Prop :=
  True

def algebraic_RouterIdeal_RouterReferenceIdeal_pre_router_finite [hRouterIdeal : Cert.RouterIdeal.Facts] [hRouterReferenceIdeal : Cert.RouterReferenceIdeal.Facts] [hPre_router_finite : Cert.Pre_router_finite.Facts] : Prop :=
  ∀ (m : (ℓ : Loc Cert.RouterIdeal.nD Cert.RouterIdeal.τ Cert.RouterIdeal.sig) → Buf (Elt Ideal) ℓ) (g : Dev Cert.RouterIdeal.nD → PrngReg)
    (m' : (ℓ : Loc Cert.RouterReferenceIdeal.nD Cert.RouterReferenceIdeal.τ Cert.RouterReferenceIdeal.sig) → Buf (Elt Ideal) ℓ) (g' : Dev Cert.RouterReferenceIdeal.nD → PrngReg), Pre_RouterIdeal_router_finite m →
    (∀ c : Dev Cert.RouterIdeal.nD,
      m' ((c.tc : Thread Cert.RouterReferenceIdeal.nD Cert.RouterReferenceIdeal.τ).loc Cert.RouterReferenceIdeal.main_arg0) = m ((c.tc : Thread Cert.RouterIdeal.nD Cert.RouterIdeal.τ).loc Cert.RouterIdeal.main_arg0)
      ∧ m' ((c.tc : Thread Cert.RouterReferenceIdeal.nD Cert.RouterReferenceIdeal.τ).loc Cert.RouterReferenceIdeal.main_arg1) = m ((c.tc : Thread Cert.RouterIdeal.nD Cert.RouterIdeal.τ).loc Cert.RouterIdeal.main_arg1)
      ∧ m' ((c.tc : Thread Cert.RouterReferenceIdeal.nD Cert.RouterReferenceIdeal.τ).loc Cert.RouterReferenceIdeal.main_arg2) = m ((c.tc : Thread Cert.RouterIdeal.nD Cert.RouterIdeal.τ).loc Cert.RouterIdeal.main_arg2)) →
    ∃ (v0 : (c : Dev Cert.RouterIdeal.nD) → Buf (Elt Ideal) ((c.tc : Thread Cert.RouterIdeal.nD Cert.RouterIdeal.τ).loc Cert.RouterIdeal.main_v2_2)) (v1 : (c : Dev Cert.RouterIdeal.nD) → Buf (Elt Ideal) ((c.tc : Thread Cert.RouterIdeal.nD Cert.RouterIdeal.τ).loc Cert.RouterIdeal.main_v2_3)) (v2 : (c : Dev Cert.RouterIdeal.nD) → Buf (Elt Ideal) ((c.tc : Thread Cert.RouterIdeal.nD Cert.RouterIdeal.τ).loc Cert.RouterIdeal.main_v2_6)),
      θ_run (Cert.RouterIdeal.defs (F := Ideal)) (onTc (τ := Cert.RouterIdeal.τ) (Cert.RouterIdeal.main (F := Ideal))) ⟨m, fun _ => 0, g⟩ (fun r => ∀ c : Dev Cert.RouterIdeal.nD,
          r.2.mem ((c.tc : Thread Cert.RouterIdeal.nD Cert.RouterIdeal.τ).loc Cert.RouterIdeal.main_v2_2) = v0 c
          ∧ r.2.mem ((c.tc : Thread Cert.RouterIdeal.nD Cert.RouterIdeal.τ).loc Cert.RouterIdeal.main_v2_3) = v1 c
          ∧ r.2.mem ((c.tc : Thread Cert.RouterIdeal.nD Cert.RouterIdeal.τ).loc Cert.RouterIdeal.main_v2_6) = v2 c
          ∧ r.2.mem ((c.tc : Thread Cert.RouterIdeal.nD Cert.RouterIdeal.τ).loc Cert.RouterIdeal.main_arg0) = m ((c.tc : Thread Cert.RouterIdeal.nD Cert.RouterIdeal.τ).loc Cert.RouterIdeal.main_arg0)
          ∧ r.2.mem ((c.tc : Thread Cert.RouterIdeal.nD Cert.RouterIdeal.τ).loc Cert.RouterIdeal.main_arg1) = m ((c.tc : Thread Cert.RouterIdeal.nD Cert.RouterIdeal.τ).loc Cert.RouterIdeal.main_arg1)
          ∧ r.2.mem ((c.tc : Thread Cert.RouterIdeal.nD Cert.RouterIdeal.τ).loc Cert.RouterIdeal.main_arg2) = m ((c.tc : Thread Cert.RouterIdeal.nD Cert.RouterIdeal.τ).loc Cert.RouterIdeal.main_arg2))
      ∧ θ_run (Cert.RouterReferenceIdeal.defs (F := Ideal)) (onTc (τ := Cert.RouterReferenceIdeal.τ) (Cert.RouterReferenceIdeal.main (F := Ideal))) ⟨m', fun _ => 0, g'⟩ (fun r => ∀ c : Dev Cert.RouterReferenceIdeal.nD,
          r.2.mem ((c.tc : Thread Cert.RouterReferenceIdeal.nD Cert.RouterReferenceIdeal.τ).loc Cert.RouterReferenceIdeal.main_v32) = v0 c
          ∧ r.2.mem ((c.tc : Thread Cert.RouterReferenceIdeal.nD Cert.RouterReferenceIdeal.τ).loc Cert.RouterReferenceIdeal.main_v35) = v1 c
          ∧ r.2.mem ((c.tc : Thread Cert.RouterReferenceIdeal.nD Cert.RouterReferenceIdeal.τ).loc Cert.RouterReferenceIdeal.main_v36) = v2 c
          ∧ r.2.mem ((c.tc : Thread Cert.RouterReferenceIdeal.nD Cert.RouterReferenceIdeal.τ).loc Cert.RouterReferenceIdeal.main_arg0) = m' ((c.tc : Thread Cert.RouterReferenceIdeal.nD Cert.RouterReferenceIdeal.τ).loc Cert.RouterReferenceIdeal.main_arg0)
          ∧ r.2.mem ((c.tc : Thread Cert.RouterReferenceIdeal.nD Cert.RouterReferenceIdeal.τ).loc Cert.RouterReferenceIdeal.main_arg1) = m' ((c.tc : Thread Cert.RouterReferenceIdeal.nD Cert.RouterReferenceIdeal.τ).loc Cert.RouterReferenceIdeal.main_arg1)
          ∧ r.2.mem ((c.tc : Thread Cert.RouterReferenceIdeal.nD Cert.RouterReferenceIdeal.τ).loc Cert.RouterReferenceIdeal.main_arg2) = m' ((c.tc : Thread Cert.RouterReferenceIdeal.nD Cert.RouterReferenceIdeal.τ).loc Cert.RouterReferenceIdeal.main_arg2))

def algebraic_WholeIdeal_WholeReferenceIdeal [hWholeIdeal : Cert.WholeIdeal.Facts] [hWholeReferenceIdeal : Cert.WholeReferenceIdeal.Facts] [hPre_finite : Cert.Pre_finite.Facts] : Prop :=
  ∀ (m : (ℓ : Loc Cert.WholeIdeal.nD Cert.WholeIdeal.τ Cert.WholeIdeal.sig) → Buf (Elt Ideal) ℓ) (g : Dev Cert.WholeIdeal.nD → PrngReg)
    (m' : (ℓ : Loc Cert.WholeReferenceIdeal.nD Cert.WholeReferenceIdeal.τ Cert.WholeReferenceIdeal.sig) → Buf (Elt Ideal) ℓ) (g' : Dev Cert.WholeReferenceIdeal.nD → PrngReg), Pre_WholeIdeal m →
    (∀ c : Dev Cert.WholeIdeal.nD,
      m' ((c.tc : Thread Cert.WholeReferenceIdeal.nD Cert.WholeReferenceIdeal.τ).loc Cert.WholeReferenceIdeal.main_arg0) = m ((c.tc : Thread Cert.WholeIdeal.nD Cert.WholeIdeal.τ).loc Cert.WholeIdeal.main_arg0)
      ∧ m' ((c.tc : Thread Cert.WholeReferenceIdeal.nD Cert.WholeReferenceIdeal.τ).loc Cert.WholeReferenceIdeal.main_arg1) = m ((c.tc : Thread Cert.WholeIdeal.nD Cert.WholeIdeal.τ).loc Cert.WholeIdeal.main_arg1)
      ∧ m' ((c.tc : Thread Cert.WholeReferenceIdeal.nD Cert.WholeReferenceIdeal.τ).loc Cert.WholeReferenceIdeal.main_arg2) = m ((c.tc : Thread Cert.WholeIdeal.nD Cert.WholeIdeal.τ).loc Cert.WholeIdeal.main_arg2)
      ∧ m' ((c.tc : Thread Cert.WholeReferenceIdeal.nD Cert.WholeReferenceIdeal.τ).loc Cert.WholeReferenceIdeal.main_arg3) = m ((c.tc : Thread Cert.WholeIdeal.nD Cert.WholeIdeal.τ).loc Cert.WholeIdeal.main_arg3)
      ∧ m' ((c.tc : Thread Cert.WholeReferenceIdeal.nD Cert.WholeReferenceIdeal.τ).loc Cert.WholeReferenceIdeal.main_arg4) = m ((c.tc : Thread Cert.WholeIdeal.nD Cert.WholeIdeal.τ).loc Cert.WholeIdeal.main_arg4)
      ∧ m' ((c.tc : Thread Cert.WholeReferenceIdeal.nD Cert.WholeReferenceIdeal.τ).loc Cert.WholeReferenceIdeal.main_arg5) = m ((c.tc : Thread Cert.WholeIdeal.nD Cert.WholeIdeal.τ).loc Cert.WholeIdeal.main_arg5)
      ∧ m' ((c.tc : Thread Cert.WholeReferenceIdeal.nD Cert.WholeReferenceIdeal.τ).loc Cert.WholeReferenceIdeal.main_arg6) = m ((c.tc : Thread Cert.WholeIdeal.nD Cert.WholeIdeal.τ).loc Cert.WholeIdeal.main_arg6)) →
    ∃ (v0 : (c : Dev Cert.WholeIdeal.nD) → Buf (Elt Ideal) ((c.tc : Thread Cert.WholeIdeal.nD Cert.WholeIdeal.τ).loc Cert.WholeIdeal.main_v15)) (v1 : (c : Dev Cert.WholeIdeal.nD) → Buf (Elt Ideal) ((c.tc : Thread Cert.WholeIdeal.nD Cert.WholeIdeal.τ).loc Cert.WholeIdeal.main_v16)),
      θ_run (Cert.WholeIdeal.defs (F := Ideal)) (Cert.WholeIdeal.threads (F := Ideal)) ⟨m, fun _ => 0, g⟩ (fun r => ∀ c : Dev Cert.WholeIdeal.nD,
          r.2.mem ((c.tc : Thread Cert.WholeIdeal.nD Cert.WholeIdeal.τ).loc Cert.WholeIdeal.main_v15) = v0 c
          ∧ r.2.mem ((c.tc : Thread Cert.WholeIdeal.nD Cert.WholeIdeal.τ).loc Cert.WholeIdeal.main_v16) = v1 c
          ∧ r.2.mem ((c.tc : Thread Cert.WholeIdeal.nD Cert.WholeIdeal.τ).loc Cert.WholeIdeal.main_arg0) = m ((c.tc : Thread Cert.WholeIdeal.nD Cert.WholeIdeal.τ).loc Cert.WholeIdeal.main_arg0)
          ∧ r.2.mem ((c.tc : Thread Cert.WholeIdeal.nD Cert.WholeIdeal.τ).loc Cert.WholeIdeal.main_arg1) = m ((c.tc : Thread Cert.WholeIdeal.nD Cert.WholeIdeal.τ).loc Cert.WholeIdeal.main_arg1)
          ∧ r.2.mem ((c.tc : Thread Cert.WholeIdeal.nD Cert.WholeIdeal.τ).loc Cert.WholeIdeal.main_arg2) = m ((c.tc : Thread Cert.WholeIdeal.nD Cert.WholeIdeal.τ).loc Cert.WholeIdeal.main_arg2)
          ∧ r.2.mem ((c.tc : Thread Cert.WholeIdeal.nD Cert.WholeIdeal.τ).loc Cert.WholeIdeal.main_arg3) = m ((c.tc : Thread Cert.WholeIdeal.nD Cert.WholeIdeal.τ).loc Cert.WholeIdeal.main_arg3)
          ∧ r.2.mem ((c.tc : Thread Cert.WholeIdeal.nD Cert.WholeIdeal.τ).loc Cert.WholeIdeal.main_arg4) = m ((c.tc : Thread Cert.WholeIdeal.nD Cert.WholeIdeal.τ).loc Cert.WholeIdeal.main_arg4)
          ∧ r.2.mem ((c.tc : Thread Cert.WholeIdeal.nD Cert.WholeIdeal.τ).loc Cert.WholeIdeal.main_arg5) = m ((c.tc : Thread Cert.WholeIdeal.nD Cert.WholeIdeal.τ).loc Cert.WholeIdeal.main_arg5)
          ∧ r.2.mem ((c.tc : Thread Cert.WholeIdeal.nD Cert.WholeIdeal.τ).loc Cert.WholeIdeal.main_arg6) = m ((c.tc : Thread Cert.WholeIdeal.nD Cert.WholeIdeal.τ).loc Cert.WholeIdeal.main_arg6))
      ∧ θ_run (Cert.WholeReferenceIdeal.defs (F := Ideal)) (onTc (τ := Cert.WholeReferenceIdeal.τ) (Cert.WholeReferenceIdeal.main (F := Ideal))) ⟨m', fun _ => 0, g'⟩ (fun r => ∀ c : Dev Cert.WholeReferenceIdeal.nD,
          r.2.mem ((c.tc : Thread Cert.WholeReferenceIdeal.nD Cert.WholeReferenceIdeal.τ).loc Cert.WholeReferenceIdeal.main_v88) = v0 c
          ∧ r.2.mem ((c.tc : Thread Cert.WholeReferenceIdeal.nD Cert.WholeReferenceIdeal.τ).loc Cert.WholeReferenceIdeal.main_v87) = v1 c
          ∧ r.2.mem ((c.tc : Thread Cert.WholeReferenceIdeal.nD Cert.WholeReferenceIdeal.τ).loc Cert.WholeReferenceIdeal.main_arg0) = m' ((c.tc : Thread Cert.WholeReferenceIdeal.nD Cert.WholeReferenceIdeal.τ).loc Cert.WholeReferenceIdeal.main_arg0)
          ∧ r.2.mem ((c.tc : Thread Cert.WholeReferenceIdeal.nD Cert.WholeReferenceIdeal.τ).loc Cert.WholeReferenceIdeal.main_arg1) = m' ((c.tc : Thread Cert.WholeReferenceIdeal.nD Cert.WholeReferenceIdeal.τ).loc Cert.WholeReferenceIdeal.main_arg1)
          ∧ r.2.mem ((c.tc : Thread Cert.WholeReferenceIdeal.nD Cert.WholeReferenceIdeal.τ).loc Cert.WholeReferenceIdeal.main_arg2) = m' ((c.tc : Thread Cert.WholeReferenceIdeal.nD Cert.WholeReferenceIdeal.τ).loc Cert.WholeReferenceIdeal.main_arg2)
          ∧ r.2.mem ((c.tc : Thread Cert.WholeReferenceIdeal.nD Cert.WholeReferenceIdeal.τ).loc Cert.WholeReferenceIdeal.main_arg3) = m' ((c.tc : Thread Cert.WholeReferenceIdeal.nD Cert.WholeReferenceIdeal.τ).loc Cert.WholeReferenceIdeal.main_arg3)
          ∧ r.2.mem ((c.tc : Thread Cert.WholeReferenceIdeal.nD Cert.WholeReferenceIdeal.τ).loc Cert.WholeReferenceIdeal.main_arg4) = m' ((c.tc : Thread Cert.WholeReferenceIdeal.nD Cert.WholeReferenceIdeal.τ).loc Cert.WholeReferenceIdeal.main_arg4)
          ∧ r.2.mem ((c.tc : Thread Cert.WholeReferenceIdeal.nD Cert.WholeReferenceIdeal.τ).loc Cert.WholeReferenceIdeal.main_arg5) = m' ((c.tc : Thread Cert.WholeReferenceIdeal.nD Cert.WholeReferenceIdeal.τ).loc Cert.WholeReferenceIdeal.main_arg5)
          ∧ r.2.mem ((c.tc : Thread Cert.WholeReferenceIdeal.nD Cert.WholeReferenceIdeal.τ).loc Cert.WholeReferenceIdeal.main_arg6) = m' ((c.tc : Thread Cert.WholeReferenceIdeal.nD Cert.WholeReferenceIdeal.τ).loc Cert.WholeReferenceIdeal.main_arg6))

def Claim : Prop :=
  ∃ (hKernel : Cert.Kernel.Facts) (hKernelIdeal : Cert.KernelIdeal.Facts) (hReferenceIdeal : Cert.ReferenceIdeal.Facts) (hReference : Cert.Reference.Facts) (hRouter : Cert.Router.Facts) (hRouterIdeal : Cert.RouterIdeal.Facts) (hRouterReferenceIdeal : Cert.RouterReferenceIdeal.Facts) (hWholeIdeal : Cert.WholeIdeal.Facts) (hWholeReferenceIdeal : Cert.WholeReferenceIdeal.Facts) (hPre_rows_in_range : Cert.Pre_rows_in_range.Facts) (hPre_router_finite : Cert.Pre_router_finite.Facts) (hPre_finite : Cert.Pre_finite.Facts),
    quiescent_Kernel (hKernel := hKernel) (hPre_rows_in_range := hPre_rows_in_range)
    ∧ quiescent_KernelIdeal (hKernelIdeal := hKernelIdeal) (hPre_rows_in_range := hPre_rows_in_range)
    ∧ quiescent_ReferenceIdeal (hReferenceIdeal := hReferenceIdeal) (hPre_rows_in_range := hPre_rows_in_range)
    ∧ quiescent_Reference (hReference := hReference) (hPre_rows_in_range := hPre_rows_in_range)
    ∧ quiescent_Router (hRouter := hRouter)
    ∧ quiescent_RouterIdeal (hRouterIdeal := hRouterIdeal)
    ∧ quiescent_RouterIdeal_pre_router_finite (hRouterIdeal := hRouterIdeal) (hPre_router_finite := hPre_router_finite)
    ∧ quiescent_RouterReferenceIdeal (hRouterReferenceIdeal := hRouterReferenceIdeal)
    ∧ quiescent_RouterReferenceIdeal_pre_router_finite (hRouterReferenceIdeal := hRouterReferenceIdeal) (hPre_router_finite := hPre_router_finite)
    ∧ quiescent_WholeIdeal (hWholeIdeal := hWholeIdeal) (hPre_finite := hPre_finite)
    ∧ quiescent_WholeReferenceIdeal (hWholeReferenceIdeal := hWholeReferenceIdeal)
    ∧ quiescent_WholeReferenceIdeal_pre_finite (hWholeReferenceIdeal := hWholeReferenceIdeal) (hPre_finite := hPre_finite)
    ∧ preserves_Kernel_KernelIdeal
    ∧ algebraic_KernelIdeal_ReferenceIdeal (hKernelIdeal := hKernelIdeal) (hReferenceIdeal := hReferenceIdeal) (hPre_rows_in_range := hPre_rows_in_range)
    ∧ bitexact_Kernel_Reference (hKernel := hKernel) (hReference := hReference) (hPre_rows_in_range := hPre_rows_in_range)
    ∧ preserves_Router_RouterIdeal
    ∧ algebraic_RouterIdeal_RouterReferenceIdeal_pre_router_finite (hRouterIdeal := hRouterIdeal) (hRouterReferenceIdeal := hRouterReferenceIdeal) (hPre_router_finite := hPre_router_finite)
    ∧ algebraic_WholeIdeal_WholeReferenceIdeal (hWholeIdeal := hWholeIdeal) (hWholeReferenceIdeal := hWholeReferenceIdeal) (hPre_finite := hPre_finite)
-- ==== Pre_finite.lean ====
abbrev S1x2048x768 : Shape := ⟨3, ![1, 2048, 768]⟩
abbrev S768x8 : Shape := ⟨2, ![768, 8]⟩
abbrev S8 : Shape := ⟨1, ![8]⟩
abbrev S8x768x3072 : Shape := ⟨3, ![8, 768, 3072]⟩
abbrev S8x3072 : Shape := ⟨2, ![8, 3072]⟩
abbrev S8x3072x768 : Shape := ⟨3, ![8, 3072, 768]⟩
abbrev S8x768 : Shape := ⟨2, ![8, 768]⟩
abbrev S_ : Shape := ⟨0, ![]⟩

class Facts : Prop where
  bcast_S_S1x2048x768 : S_.BroadcastsInDim S1x2048x768 (![] : Fin 0 → Fin S1x2048x768.rank)
  reducesTo_S1x2048x768_S_d0_1_2 : S1x2048x768.ReducesTo [0, 1, 2] S_
  h_S_ : 0 < S_.numel
  bcast_S_S768x8 : S_.BroadcastsInDim S768x8 (![] : Fin 0 → Fin S768x8.rank)
  reducesTo_S768x8_S_d0_1 : S768x8.ReducesTo [0, 1] S_
  bcast_S_S8 : S_.BroadcastsInDim S8 (![] : Fin 0 → Fin S8.rank)
  reducesTo_S8_S_d0 : S8.ReducesTo [0] S_

variable [Facts]

def fn {F : FTy → Type} [FloatOps F] (main_arg0 : FVec F S1x2048x768 .f32) (main_arg1 : FVec F S768x8 .f32) (main_arg2 : FVec F S8 .f32) (main_arg3 : FVec F S8x768x3072 .f32) (main_arg4 : FVec F S8x3072 .f32) (main_arg5 : FVec F S8x3072x768 .f32) (main_arg6 : FVec F S8x768 .f32) : IVec S_ 1 :=
  let main_v0 : FVec F S1x2048x768 .f32 := Host.absf main_arg0
  let main_cst : FVec F S_ .f32 := constant S_ .f32 0x7F800000#32
  let main_v1 : FVec F S1x2048x768 .f32 := broadcastInDim S1x2048x768 ![] bcast_S_S1x2048x768 main_cst
  let main_v2 : IVec S1x2048x768 1 := cmpf .olt main_v0 main_v1
  let main_c : IVec S_ 1 := constantI S_ 1 1#1
  let main_v3 : IVec S_ 1 := (fun x v => Host.reduce IntOp.andi x v reducesTo_S1x2048x768_S_d0_1_2 h_S_) main_v2 main_c
  let main_v4 : FVec F S768x8 .f32 := Host.absf main_arg1
  let main_cst_0 : FVec F S_ .f32 := constant S_ .f32 0x7F800000#32
  let main_v5 : FVec F S768x8 .f32 := broadcastInDim S768x8 ![] bcast_S_S768x8 main_cst_0
  let main_v6 : IVec S768x8 1 := cmpf .olt main_v4 main_v5
  let main_c_1 : IVec S_ 1 := constantI S_ 1 1#1
  let main_v7 : IVec S_ 1 := (fun x v => Host.reduce IntOp.andi x v reducesTo_S768x8_S_d0_1 h_S_) main_v6 main_c_1
  let main_v8 : IVec S_ 1 := andi main_v3 main_v7
  let main_v9 : FVec F S8 .f32 := Host.absf main_arg2
  let main_cst_2 : FVec F S_ .f32 := constant S_ .f32 0x7F800000#32
  let main_v10 : FVec F S8 .f32 := broadcastInDim S8 ![] bcast_S_S8 main_cst_2
  let main_v11 : IVec S8 1 := cmpf .olt main_v9 main_v10
  let main_c_3 : IVec S_ 1 := constantI S_ 1 1#1
  let main_v12 : IVec S_ 1 := (fun x v => Host.reduce IntOp.andi x v reducesTo_S8_S_d0 h_S_) main_v11 main_c_3
  let main_v13 : IVec S_ 1 := andi main_v8 main_v12
  main_v13
-- ==== Pre_router_finite.lean ====
abbrev S1x2048x768 : Shape := ⟨3, ![1, 2048, 768]⟩
abbrev S768x8 : Shape := ⟨2, ![768, 8]⟩
abbrev S8 : Shape := ⟨1, ![8]⟩
abbrev S_ : Shape := ⟨0, ![]⟩

class Facts : Prop where
  bcast_S_S1x2048x768 : S_.BroadcastsInDim S1x2048x768 (![] : Fin 0 → Fin S1x2048x768.rank)
  reducesTo_S1x2048x768_S_d0_1_2 : S1x2048x768.ReducesTo [0, 1, 2] S_
  h_S_ : 0 < S_.numel
  bcast_S_S768x8 : S_.BroadcastsInDim S768x8 (![] : Fin 0 → Fin S768x8.rank)
  reducesTo_S768x8_S_d0_1 : S768x8.ReducesTo [0, 1] S_
  bcast_S_S8 : S_.BroadcastsInDim S8 (![] : Fin 0 → Fin S8.rank)
  reducesTo_S8_S_d0 : S8.ReducesTo [0] S_

variable [Facts]

def fn {F : FTy → Type} [FloatOps F] (main_arg0 : FVec F S1x2048x768 .f32) (main_arg1 : FVec F S768x8 .f32) (main_arg2 : FVec F S8 .f32) : IVec S_ 1 :=
  let main_v0 : FVec F S1x2048x768 .f32 := Host.absf main_arg0
  let main_cst : FVec F S_ .f32 := constant S_ .f32 0x7F800000#32
  let main_v1 : FVec F S1x2048x768 .f32 := broadcastInDim S1x2048x768 ![] bcast_S_S1x2048x768 main_cst
  let main_v2 : IVec S1x2048x768 1 := cmpf .olt main_v0 main_v1
  let main_c : IVec S_ 1 := constantI S_ 1 1#1
  let main_v3 : IVec S_ 1 := (fun x v => Host.reduce IntOp.andi x v reducesTo_S1x2048x768_S_d0_1_2 h_S_) main_v2 main_c
  let main_v4 : FVec F S768x8 .f32 := Host.absf main_arg1
  let main_cst_0 : FVec F S_ .f32 := constant S_ .f32 0x7F800000#32
  let main_v5 : FVec F S768x8 .f32 := broadcastInDim S768x8 ![] bcast_S_S768x8 main_cst_0
  let main_v6 : IVec S768x8 1 := cmpf .olt main_v4 main_v5
  let main_c_1 : IVec S_ 1 := constantI S_ 1 1#1
  let main_v7 : IVec S_ 1 := (fun x v => Host.reduce IntOp.andi x v reducesTo_S768x8_S_d0_1 h_S_) main_v6 main_c_1
  let main_v8 : IVec S_ 1 := andi main_v3 main_v7
  let main_v9 : FVec F S8 .f32 := Host.absf main_arg2
  let main_cst_2 : FVec F S_ .f32 := constant S_ .f32 0x7F800000#32
  let main_v10 : FVec F S8 .f32 := broadcastInDim S8 ![] bcast_S_S8 main_cst_2
  let main_v11 : IVec S8 1 := cmpf .olt main_v9 main_v10
  let main_c_3 : IVec S_ 1 := constantI S_ 1 1#1
  let main_v12 : IVec S_ 1 := (fun x v => Host.reduce IntOp.andi x v reducesTo_S8_S_d0 h_S_) main_v11 main_c_3
  let main_v13 : IVec S_ 1 := andi main_v8 main_v12
  main_v13
-- ==== Pre_rows_in_range.lean ====
abbrev S6144x768 : Shape := ⟨2, ![6144, 768]⟩
abbrev S2048 : Shape := ⟨1, ![2048]⟩
abbrev S_ : Shape := ⟨0, ![]⟩

class Facts : Prop where
  bcast_S_S2048 : S_.BroadcastsInDim S2048 (![] : Fin 0 → Fin S2048.rank)

variable [Facts]

def fn {F : FTy → Type} [FloatOps F] (main_arg0 : FVec F S6144x768 .f32) (main_arg1 : IVec S2048 32) (main_arg2 : IVec S2048 32) : IVec S2048 1 :=
  let main_c : IVec S_ 32 := constantI S_ 32 0#32
  let main_v0 : IVec S2048 32 := broadcastInDim S2048 ![] bcast_S_S2048 main_c
  let main_v1 : IVec S2048 1 := cmpi .sge main_arg1 main_v0
  let main_c_0 : IVec S_ 32 := constantI S_ 32 6144#32
  let main_v2 : IVec S2048 32 := broadcastInDim S2048 ![] bcast_S_S2048 main_c_0
  let main_v3 : IVec S2048 1 := cmpi .slt main_arg1 main_v2
  let main_v4 : IVec S2048 1 := andi main_v1 main_v3
  let main_c_1 : IVec S_ 32 := constantI S_ 32 0#32
  let main_v5 : IVec S2048 32 := broadcastInDim S2048 ![] bcast_S_S2048 main_c_1
  let main_v6 : IVec S2048 1 := cmpi .sge main_arg2 main_v5
  let main_v7 : IVec S2048 1 := andi main_v4 main_v6
  let main_c_2 : IVec S_ 32 := constantI S_ 32 6144#32
  let main_v8 : IVec S2048 32 := broadcastInDim S2048 ![] bcast_S_S2048 main_c_2
  let main_v9 : IVec S2048 1 := cmpi .slt main_arg2 main_v8
  let main_v10 : IVec S2048 1 := andi main_v7 main_v9
  main_v10
-- ==== Kernel.lean ====
abbrev S6144x768 : Shape := ⟨2, ![6144, 768]⟩
abbrev S2048 : Shape := ⟨1, ![2048]⟩
abbrev S2048x768 : Shape := ⟨2, ![2048, 768]⟩
abbrev S64 : Shape := ⟨1, ![64]⟩
abbrev S64x768 : Shape := ⟨2, ![64, 768]⟩
abbrev S6 : Shape := ⟨1, ![6]⟩
abbrev S_ : Shape := ⟨0, ![]⟩
abbrev S64x128 : Shape := ⟨2, ![64, 128]⟩
abbrev S6144x128 : Shape := ⟨2, ![6144, 128]⟩
abbrev S1 : Shape := ⟨1, ![1]⟩
abbrev S16 : Shape := ⟨1, ![16]⟩
abbrev S1x16 : Shape := ⟨2, ![1, 16]⟩

abbrev nBuf : Table → Nat
  | .hbm => 4
  | .local .scVector .vmem => 4
  | _ => 0

abbrev bufTy : (tb : Table) → Fin (nBuf tb) → BufTy
  | .hbm, ⟨0, _⟩ => ⟨S6144x768, .f32⟩
  | .hbm, ⟨1, _⟩ => ⟨S2048, .i32⟩
  | .hbm, ⟨2, _⟩ => ⟨S2048, .i32⟩
  | .hbm, ⟨3, _⟩ => ⟨S2048x768, .f32⟩
  | .local .scVector .vmem, ⟨0, _⟩ => ⟨S64, .i32⟩
  | .local .scVector .vmem, ⟨1, _⟩ => ⟨S64, .i32⟩
  | .local .scVector .vmem, ⟨2, _⟩ => ⟨S64x768, .f32⟩
  | .local .scVector .vmem, ⟨3, _⟩ => ⟨S64x768, .f32⟩
  | _, _ => ⟨S6144x768, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 15 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | _ => false

abbrev sig : RefSig :=
  ofTables nBuf rfl bufTy 4 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_arg0_scv : Ref sig .scVector := ⟨.hbm, 0, rfl⟩
abbrev main_arg1_scv : Ref sig .scVector := ⟨.hbm, 1, rfl⟩
abbrev main_arg2_scv : Ref sig .scVector := ⟨.hbm, 2, rfl⟩
abbrev main_v0_scv : Ref sig .scVector := ⟨.hbm, 3, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  ![v2.toNat]
@[reducible] def k0_t1_loop : Scf.Loop 32 :=
  let c0_i32_111 : BitVec 32 := 0#32
  let c64_i32_112 : BitVec 32 := 64#32
  let v99 : BitVec 32 := Scalar.addi c0_i32_111 c64_i32_112
  let c1_i32_113 : BitVec 32 := 1#32
  ⟨c0_i32_111, v99, c1_i32_113⟩
def k0_off2 (k0_t1 : Fin k0_t1_loop.trips) : Fin 2 → Nat :=
  let c0_i32_111 : BitVec 32 := 0#32
  let c1_i32_113 : BitVec 32 := 1#32
  let arg12 : BitVec 32 := Scf.iv c0_i32_111 c1_i32_113 k0_t1
  let v100 : Index := Scalar.indexCast arg12
  let c0 : Index := 0#32
  ![v100.toNat, 0]
def k0_off3 (k0_t1 : Fin k0_t1_loop.trips) : Fin 2 → Nat :=
  let c0_i32_111 : BitVec 32 := 0#32
  let c1_i32_113 : BitVec 32 := 1#32
  let arg12 : BitVec 32 := Scf.iv c0_i32_111 c1_i32_113 k0_t1
  let v107 : Index := Scalar.indexCast arg12
  let c16 : Index := 16#32
  ![v107.toNat, 16]
def k0_off4 (k0_t1 : Fin k0_t1_loop.trips) : Fin 2 → Nat :=
  let c0_i32_111 : BitVec 32 := 0#32
  let c1_i32_113 : BitVec 32 := 1#32
  let arg12 : BitVec 32 := Scf.iv c0_i32_111 c1_i32_113 k0_t1
  let v114 : Index := Scalar.indexCast arg12
  let c32 : Index := 32#32
  ![v114.toNat, 32]
def k0_off5 (k0_t1 : Fin k0_t1_loop.trips) : Fin 2 → Nat :=
  let c0_i32_111 : BitVec 32 := 0#32
  let c1_i32_113 : BitVec 32 := 1#32
  let arg12 : BitVec 32 := Scf.iv c0_i32_111 c1_i32_113 k0_t1
  let v121 : Index := Scalar.indexCast arg12
  let c48 : Index := 48#32
  ![v121.toNat, 48]
def k0_off6 (k0_t1 : Fin k0_t1_loop.trips) : Fin 2 → Nat :=
  let c0_i32_111 : BitVec 32 := 0#32
  let c1_i32_113 : BitVec 32 := 1#32
  let arg12 : BitVec 32 := Scf.iv c0_i32_111 c1_i32_113 k0_t1
  let v128 : Index := Scalar.indexCast arg12
  let c64 : Index := 64#32
  ![v128.toNat, 64]
def k0_off7 (k0_t1 : Fin k0_t1_loop.trips) : Fin 2 → Nat :=
  let c0_i32_111 : BitVec 32 := 0#32
  let c1_i32_113 : BitVec 32 := 1#32
  let arg12 : BitVec 32 := Scf.iv c0_i32_111 c1_i32_113 k0_t1
  let v135 : Index := Scalar.indexCast arg12
  let c80 : Index := 80#32
  ![v135.toNat, 80]
def k0_off8 (k0_t1 : Fin k0_t1_loop.trips) : Fin 2 → Nat :=
  let c0_i32_111 : BitVec 32 := 0#32
  let c1_i32_113 : BitVec 32 := 1#32
  let arg12 : BitVec 32 := Scf.iv c0_i32_111 c1_i32_113 k0_t1
  let v142 : Index := Scalar.indexCast arg12
  let c96 : Index := 96#32
  ![v142.toNat, 96]
def k0_off9 (k0_t1 : Fin k0_t1_loop.trips) : Fin 2 → Nat :=
  let c0_i32_111 : BitVec 32 := 0#32
  let c1_i32_113 : BitVec 32 := 1#32
  let arg12 : BitVec 32 := Scf.iv c0_i32_111 c1_i32_113 k0_t1
  let v149 : Index := Scalar.indexCast arg12
  let c112 : Index := 112#32
  ![v149.toNat, 112]
def k0_off10 (k0_t1 : Fin k0_t1_loop.trips) : Fin 2 → Nat :=
  let c0_i32_111 : BitVec 32 := 0#32
  let c1_i32_113 : BitVec 32 := 1#32
  let arg12 : BitVec 32 := Scf.iv c0_i32_111 c1_i32_113 k0_t1
  let v156 : Index := Scalar.indexCast arg12
  let c128 : Index := 128#32
  ![v156.toNat, 128]
def k0_off11 (k0_t1 : Fin k0_t1_loop.trips) : Fin 2 → Nat :=
  let c0_i32_111 : BitVec 32 := 0#32
  let c1_i32_113 : BitVec 32 := 1#32
  let arg12 : BitVec 32 := Scf.iv c0_i32_111 c1_i32_113 k0_t1
  let v163 : Index := Scalar.indexCast arg12
  let c144 : Index := 144#32
  ![v163.toNat, 144]
def k0_off12 (k0_t1 : Fin k0_t1_loop.trips) : Fin 2 → Nat :=
  let c0_i32_111 : BitVec 32 := 0#32
  let c1_i32_113 : BitVec 32 := 1#32
  let arg12 : BitVec 32 := Scf.iv c0_i32_111 c1_i32_113 k0_t1
  let v170 : Index := Scalar.indexCast arg12
  let c160 : Index := 160#32
  ![v170.toNat, 160]
def k0_off13 (k0_t1 : Fin k0_t1_loop.trips) : Fin 2 → Nat :=
  let c0_i32_111 : BitVec 32 := 0#32
  let c1_i32_113 : BitVec 32 := 1#32
  let arg12 : BitVec 32 := Scf.iv c0_i32_111 c1_i32_113 k0_t1
  let v177 : Index := Scalar.indexCast arg12
  let c176 : Index := 176#32
  ![v177.toNat, 176]
def k0_off14 (k0_t1 : Fin k0_t1_loop.trips) : Fin 2 → Nat :=
  let c0_i32_111 : BitVec 32 := 0#32
  let c1_i32_113 : BitVec 32 := 1#32
  let arg12 : BitVec 32 := Scf.iv c0_i32_111 c1_i32_113 k0_t1
  let v184 : Index := Scalar.indexCast arg12
  let c192 : Index := 192#32
  ![v184.toNat, 192]
def k0_off15 (k0_t1 : Fin k0_t1_loop.trips) : Fin 2 → Nat :=
  let c0_i32_111 : BitVec 32 := 0#32
  let c1_i32_113 : BitVec 32 := 1#32
  let arg12 : BitVec 32 := Scf.iv c0_i32_111 c1_i32_113 k0_t1
  let v191 : Index := Scalar.indexCast arg12
  let c208 : Index := 208#32
  ![v191.toNat, 208]
def k0_off16 (k0_t1 : Fin k0_t1_loop.trips) : Fin 2 → Nat :=
  let c0_i32_111 : BitVec 32 := 0#32
  let c1_i32_113 : BitVec 32 := 1#32
  let arg12 : BitVec 32 := Scf.iv c0_i32_111 c1_i32_113 k0_t1
  let v198 : Index := Scalar.indexCast arg12
  let c224 : Index := 224#32
  ![v198.toNat, 224]
def k0_off17 (k0_t1 : Fin k0_t1_loop.trips) : Fin 2 → Nat :=
  let c0_i32_111 : BitVec 32 := 0#32
  let c1_i32_113 : BitVec 32 := 1#32
  let arg12 : BitVec 32 := Scf.iv c0_i32_111 c1_i32_113 k0_t1
  let v205 : Index := Scalar.indexCast arg12
  let c240 : Index := 240#32
  ![v205.toNat, 240]
def k0_off18 (k0_t1 : Fin k0_t1_loop.trips) : Fin 2 → Nat :=
  let c0_i32_111 : BitVec 32 := 0#32
  let c1_i32_113 : BitVec 32 := 1#32
  let arg12 : BitVec 32 := Scf.iv c0_i32_111 c1_i32_113 k0_t1
  let v212 : Index := Scalar.indexCast arg12
  let c256 : Index := 256#32
  ![v212.toNat, 256]
def k0_off19 (k0_t1 : Fin k0_t1_loop.trips) : Fin 2 → Nat :=
  let c0_i32_111 : BitVec 32 := 0#32
  let c1_i32_113 : BitVec 32 := 1#32
  let arg12 : BitVec 32 := Scf.iv c0_i32_111 c1_i32_113 k0_t1
  let v219 : Index := Scalar.indexCast arg12
  let c272 : Index := 272#32
  ![v219.toNat, 272]
def k0_off20 (k0_t1 : Fin k0_t1_loop.trips) : Fin 2 → Nat :=
  let c0_i32_111 : BitVec 32 := 0#32
  let c1_i32_113 : BitVec 32 := 1#32
  let arg12 : BitVec 32 := Scf.iv c0_i32_111 c1_i32_113 k0_t1
  let v226 : Index := Scalar.indexCast arg12
  let c288 : Index := 288#32
  ![v226.toNat, 288]
def k0_off21 (k0_t1 : Fin k0_t1_loop.trips) : Fin 2 → Nat :=
  let c0_i32_111 : BitVec 32 := 0#32
  let c1_i32_113 : BitVec 32 := 1#32
  let arg12 : BitVec 32 := Scf.iv c0_i32_111 c1_i32_113 k0_t1
  let v233 : Index := Scalar.indexCast arg12
  let c304 : Index := 304#32
  ![v233.toNat, 304]
def k0_off22 (k0_t1 : Fin k0_t1_loop.trips) : Fin 2 → Nat :=
  let c0_i32_111 : BitVec 32 := 0#32
  let c1_i32_113 : BitVec 32 := 1#32
  let arg12 : BitVec 32 := Scf.iv c0_i32_111 c1_i32_113 k0_t1
  let v240 : Index := Scalar.indexCast arg12
  let c320 : Index := 320#32
  ![v240.toNat, 320]
def k0_off23 (k0_t1 : Fin k0_t1_loop.trips) : Fin 2 → Nat :=
  let c0_i32_111 : BitVec 32 := 0#32
  let c1_i32_113 : BitVec 32 := 1#32
  let arg12 : BitVec 32 := Scf.iv c0_i32_111 c1_i32_113 k0_t1
  let v247 : Index := Scalar.indexCast arg12
  let c336 : Index := 336#32
  ![v247.toNat, 336]
def k0_off24 (k0_t1 : Fin k0_t1_loop.trips) : Fin 2 → Nat :=
  let c0_i32_111 : BitVec 32 := 0#32
  let c1_i32_113 : BitVec 32 := 1#32
  let arg12 : BitVec 32 := Scf.iv c0_i32_111 c1_i32_113 k0_t1
  let v254 : Index := Scalar.indexCast arg12
  let c352 : Index := 352#32
  ![v254.toNat, 352]
def k0_off25 (k0_t1 : Fin k0_t1_loop.trips) : Fin 2 → Nat :=
  let c0_i32_111 : BitVec 32 := 0#32
  let c1_i32_113 : BitVec 32 := 1#32
  let arg12 : BitVec 32 := Scf.iv c0_i32_111 c1_i32_113 k0_t1
  let v261 : Index := Scalar.indexCast arg12
  let c368 : Index := 368#32
  ![v261.toNat, 368]
def k0_off26 (k0_t1 : Fin k0_t1_loop.trips) : Fin 2 → Nat :=
  let c0_i32_111 : BitVec 32 := 0#32
  let c1_i32_113 : BitVec 32 := 1#32
  let arg12 : BitVec 32 := Scf.iv c0_i32_111 c1_i32_113 k0_t1
  let v268 : Index := Scalar.indexCast arg12
  let c384 : Index := 384#32
  ![v268.toNat, 384]
def k0_off27 (k0_t1 : Fin k0_t1_loop.trips) : Fin 2 → Nat :=
  let c0_i32_111 : BitVec 32 := 0#32
  let c1_i32_113 : BitVec 32 := 1#32
  let arg12 : BitVec 32 := Scf.iv c0_i32_111 c1_i32_113 k0_t1
  let v275 : Index := Scalar.indexCast arg12
  let c400 : Index := 400#32
  ![v275.toNat, 400]
def k0_off28 (k0_t1 : Fin k0_t1_loop.trips) : Fin 2 → Nat :=
  let c0_i32_111 : BitVec 32 := 0#32
  let c1_i32_113 : BitVec 32 := 1#32
  let arg12 : BitVec 32 := Scf.iv c0_i32_111 c1_i32_113 k0_t1
  let v282 : Index := Scalar.indexCast arg12
  let c416 : Index := 416#32
  ![v282.toNat, 416]
def k0_off29 (k0_t1 : Fin k0_t1_loop.trips) : Fin 2 → Nat :=
  let c0_i32_111 : BitVec 32 := 0#32
  let c1_i32_113 : BitVec 32 := 1#32
  let arg12 : BitVec 32 := Scf.iv c0_i32_111 c1_i32_113 k0_t1
  let v289 : Index := Scalar.indexCast arg12
  let c432 : Index := 432#32
  ![v289.toNat, 432]
def k0_off30 (k0_t1 : Fin k0_t1_loop.trips) : Fin 2 → Nat :=
  let c0_i32_111 : BitVec 32 := 0#32
  let c1_i32_113 : BitVec 32 := 1#32
  let arg12 : BitVec 32 := Scf.iv c0_i32_111 c1_i32_113 k0_t1
  let v296 : Index := Scalar.indexCast arg12
  let c448 : Index := 448#32
  ![v296.toNat, 448]
def k0_off31 (k0_t1 : Fin k0_t1_loop.trips) : Fin 2 → Nat :=
  let c0_i32_111 : BitVec 32 := 0#32
  let c1_i32_113 : BitVec 32 := 1#32
  let arg12 : BitVec 32 := Scf.iv c0_i32_111 c1_i32_113 k0_t1
  let v303 : Index := Scalar.indexCast arg12
  let c464 : Index := 464#32
  ![v303.toNat, 464]
def k0_off32 (k0_t1 : Fin k0_t1_loop.trips) : Fin 2 → Nat :=
  let c0_i32_111 : BitVec 32 := 0#32
  let c1_i32_113 : BitVec 32 := 1#32
  let arg12 : BitVec 32 := Scf.iv c0_i32_111 c1_i32_113 k0_t1
  let v310 : Index := Scalar.indexCast arg12
  let c480 : Index := 480#32
  ![v310.toNat, 480]
def k0_off33 (k0_t1 : Fin k0_t1_loop.trips) : Fin 2 → Nat :=
  let c0_i32_111 : BitVec 32 := 0#32
  let c1_i32_113 : BitVec 32 := 1#32
  let arg12 : BitVec 32 := Scf.iv c0_i32_111 c1_i32_113 k0_t1
  let v317 : Index := Scalar.indexCast arg12
  let c496 : Index := 496#32
  ![v317.toNat, 496]
def k0_off34 (k0_t1 : Fin k0_t1_loop.trips) : Fin 2 → Nat :=
  let c0_i32_111 : BitVec 32 := 0#32
  let c1_i32_113 : BitVec 32 := 1#32
  let arg12 : BitVec 32 := Scf.iv c0_i32_111 c1_i32_113 k0_t1
  let v324 : Index := Scalar.indexCast arg12
  let c512 : Index := 512#32
  ![v324.toNat, 512]
def k0_off35 (k0_t1 : Fin k0_t1_loop.trips) : Fin 2 → Nat :=
  let c0_i32_111 : BitVec 32 := 0#32
  let c1_i32_113 : BitVec 32 := 1#32
  let arg12 : BitVec 32 := Scf.iv c0_i32_111 c1_i32_113 k0_t1
  let v331 : Index := Scalar.indexCast arg12
  let c528 : Index := 528#32
  ![v331.toNat, 528]
def k0_off36 (k0_t1 : Fin k0_t1_loop.trips) : Fin 2 → Nat :=
  let c0_i32_111 : BitVec 32 := 0#32
  let c1_i32_113 : BitVec 32 := 1#32
  let arg12 : BitVec 32 := Scf.iv c0_i32_111 c1_i32_113 k0_t1
  let v338 : Index := Scalar.indexCast arg12
  let c544 : Index := 544#32
  ![v338.toNat, 544]
def k0_off37 (k0_t1 : Fin k0_t1_loop.trips) : Fin 2 → Nat :=
  let c0_i32_111 : BitVec 32 := 0#32
  let c1_i32_113 : BitVec 32 := 1#32
  let arg12 : BitVec 32 := Scf.iv c0_i32_111 c1_i32_113 k0_t1
  let v345 : Index := Scalar.indexCast arg12
  let c560 : Index := 560#32
  ![v345.toNat, 560]
def k0_off38 (k0_t1 : Fin k0_t1_loop.trips) : Fin 2 → Nat :=
  let c0_i32_111 : BitVec 32 := 0#32
  let c1_i32_113 : BitVec 32 := 1#32
  let arg12 : BitVec 32 := Scf.iv c0_i32_111 c1_i32_113 k0_t1
  let v352 : Index := Scalar.indexCast arg12
  let c576 : Index := 576#32
  ![v352.toNat, 576]
def k0_off39 (k0_t1 : Fin k0_t1_loop.trips) : Fin 2 → Nat :=
  let c0_i32_111 : BitVec 32 := 0#32
  let c1_i32_113 : BitVec 32 := 1#32
  let arg12 : BitVec 32 := Scf.iv c0_i32_111 c1_i32_113 k0_t1
  let v359 : Index := Scalar.indexCast arg12
  let c592 : Index := 592#32
  ![v359.toNat, 592]
def k0_off40 (k0_t1 : Fin k0_t1_loop.trips) : Fin 2 → Nat :=
  let c0_i32_111 : BitVec 32 := 0#32
  let c1_i32_113 : BitVec 32 := 1#32
  let arg12 : BitVec 32 := Scf.iv c0_i32_111 c1_i32_113 k0_t1
  let v366 : Index := Scalar.indexCast arg12
  let c608 : Index := 608#32
  ![v366.toNat, 608]
def k0_off41 (k0_t1 : Fin k0_t1_loop.trips) : Fin 2 → Nat :=
  let c0_i32_111 : BitVec 32 := 0#32
  let c1_i32_113 : BitVec 32 := 1#32
  let arg12 : BitVec 32 := Scf.iv c0_i32_111 c1_i32_113 k0_t1
  let v373 : Index := Scalar.indexCast arg12
  let c624 : Index := 624#32
  ![v373.toNat, 624]
def k0_off42 (k0_t1 : Fin k0_t1_loop.trips) : Fin 2 → Nat :=
  let c0_i32_111 : BitVec 32 := 0#32
  let c1_i32_113 : BitVec 32 := 1#32
  let arg12 : BitVec 32 := Scf.iv c0_i32_111 c1_i32_113 k0_t1
  let v380 : Index := Scalar.indexCast arg12
  let c640 : Index := 640#32
  ![v380.toNat, 640]
def k0_off43 (k0_t1 : Fin k0_t1_loop.trips) : Fin 2 → Nat :=
  let c0_i32_111 : BitVec 32 := 0#32
  let c1_i32_113 : BitVec 32 := 1#32
  let arg12 : BitVec 32 := Scf.iv c0_i32_111 c1_i32_113 k0_t1
  let v387 : Index := Scalar.indexCast arg12
  let c656 : Index := 656#32
  ![v387.toNat, 656]
def k0_off44 (k0_t1 : Fin k0_t1_loop.trips) : Fin 2 → Nat :=
  let c0_i32_111 : BitVec 32 := 0#32
  let c1_i32_113 : BitVec 32 := 1#32
  let arg12 : BitVec 32 := Scf.iv c0_i32_111 c1_i32_113 k0_t1
  let v394 : Index := Scalar.indexCast arg12
  let c672 : Index := 672#32
  ![v394.toNat, 672]
def k0_off45 (k0_t1 : Fin k0_t1_loop.trips) : Fin 2 → Nat :=
  let c0_i32_111 : BitVec 32 := 0#32
  let c1_i32_113 : BitVec 32 := 1#32
  let arg12 : BitVec 32 := Scf.iv c0_i32_111 c1_i32_113 k0_t1
  let v401 : Index := Scalar.indexCast arg12
  let c688 : Index := 688#32
  ![v401.toNat, 688]
def k0_off46 (k0_t1 : Fin k0_t1_loop.trips) : Fin 2 → Nat :=
  let c0_i32_111 : BitVec 32 := 0#32
  let c1_i32_113 : BitVec 32 := 1#32
  let arg12 : BitVec 32 := Scf.iv c0_i32_111 c1_i32_113 k0_t1
  let v408 : Index := Scalar.indexCast arg12
  let c704 : Index := 704#32
  ![v408.toNat, 704]
def k0_off47 (k0_t1 : Fin k0_t1_loop.trips) : Fin 2 → Nat :=
  let c0_i32_111 : BitVec 32 := 0#32
  let c1_i32_113 : BitVec 32 := 1#32
  let arg12 : BitVec 32 := Scf.iv c0_i32_111 c1_i32_113 k0_t1
  let v415 : Index := Scalar.indexCast arg12
  let c720 : Index := 720#32
  ![v415.toNat, 720]
def k0_off48 (k0_t1 : Fin k0_t1_loop.trips) : Fin 2 → Nat :=
  let c0_i32_111 : BitVec 32 := 0#32
  let c1_i32_113 : BitVec 32 := 1#32
  let arg12 : BitVec 32 := Scf.iv c0_i32_111 c1_i32_113 k0_t1
  let v422 : Index := Scalar.indexCast arg12
  let c736 : Index := 736#32
  ![v422.toNat, 736]
def k0_off49 (k0_t1 : Fin k0_t1_loop.trips) : Fin 2 → Nat :=
  let c0_i32_111 : BitVec 32 := 0#32
  let c1_i32_113 : BitVec 32 := 1#32
  let arg12 : BitVec 32 := Scf.iv c0_i32_111 c1_i32_113 k0_t1
  let v429 : Index := Scalar.indexCast arg12
  let c752 : Index := 752#32
  ![v429.toNat, 752]
def k0_off50 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let c0_i32_115_r2 : BitVec 32 := 0#32
  ![v2.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== Reference.lean ====
abbrev S6144x768 : Shape := ⟨2, ![6144, 768]⟩
abbrev S2048 : Shape := ⟨1, ![2048]⟩
abbrev S_ : Shape := ⟨0, ![]⟩
abbrev S2048x1 : Shape := ⟨2, ![2048, 1]⟩
abbrev S2048x768 : Shape := ⟨2, ![2048, 768]⟩

abbrev nBuf : Space → Nat
  | .hbm => 22
  | .vmem => 0
  | .smem => 0
  | _ => 0

abbrev bufTy : (tb : Table) → Fin (tcTables nBuf tb) → BufTy
  | .hbm, ⟨0, _⟩ => ⟨S6144x768, .f32⟩
  | .hbm, ⟨1, _⟩ => ⟨S2048, .i32⟩
  | .hbm, ⟨2, _⟩ => ⟨S2048, .i32⟩
  | .hbm, ⟨3, _⟩ => ⟨S_, .i32⟩
  | .hbm, ⟨4, _⟩ => ⟨S2048, .i32⟩
  | .hbm, ⟨5, _⟩ => ⟨S2048, .i1⟩
  | .hbm, ⟨6, _⟩ => ⟨S_, .i32⟩
  | .hbm, ⟨7, _⟩ => ⟨S2048, .i32⟩
  | .hbm, ⟨8, _⟩ => ⟨S2048, .i32⟩
  | .hbm, ⟨9, _⟩ => ⟨S2048, .i32⟩
  | .hbm, ⟨10, _⟩ => ⟨S2048x1, .i32⟩
  | .hbm, ⟨11, _⟩ => ⟨S2048x768, .f32⟩
  | .hbm, ⟨12, _⟩ => ⟨S_, .i32⟩
  | .hbm, ⟨13, _⟩ => ⟨S2048, .i32⟩
  | .hbm, ⟨14, _⟩ => ⟨S2048, .i1⟩
  | .hbm, ⟨15, _⟩ => ⟨S_, .i32⟩
  | .hbm, ⟨16, _⟩ => ⟨S2048, .i32⟩
  | .hbm, ⟨17, _⟩ => ⟨S2048, .i32⟩
  | .hbm, ⟨18, _⟩ => ⟨S2048, .i32⟩
  | .hbm, ⟨19, _⟩ => ⟨S2048x1, .i32⟩
  | .hbm, ⟨20, _⟩ => ⟨S2048x768, .f32⟩
  | .hbm, ⟨21, _⟩ => ⟨S2048x768, .f32⟩
  | _, _ => ⟨S6144x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c_1 : Ref sig .tc := ⟨.hbm, 12, rfl⟩
abbrev main_v7 : Ref sig .tc := ⟨.hbm, 13, rfl⟩
abbrev main_v8 : Ref sig .tc := ⟨.hbm, 14, rfl⟩
abbrev main_c_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]
-- ==== Router.lean ====
abbrev S1x2048x768 : Shape := ⟨3, ![1, 2048, 768]⟩
abbrev S768x8 : Shape := ⟨2, ![768, 8]⟩
abbrev S8 : Shape := ⟨1, ![8]⟩
abbrev S2048x768 : Shape := ⟨2, ![2048, 768]⟩
abbrev S1x8 : Shape := ⟨2, ![1, 8]⟩
abbrev S1x2048 : Shape := ⟨2, ![1, 2048]⟩
abbrev S1x24 : Shape := ⟨2, ![1, 24]⟩
abbrev S1x1 : Shape := ⟨2, ![1, 1]⟩
abbrev S8x2048 : Shape := ⟨2, ![8, 2048]⟩
abbrev S8x1 : Shape := ⟨2, ![8, 1]⟩
abbrev S2048 : Shape := ⟨1, ![2048]⟩
abbrev S8x2047 : Shape := ⟨2, ![8, 2047]⟩
abbrev S8x2 : Shape := ⟨2, ![8, 2]⟩
abbrev S8x2046 : Shape := ⟨2, ![8, 2046]⟩
abbrev S8x4 : Shape := ⟨2, ![8, 4]⟩
abbrev S8x2044 : Shape := ⟨2, ![8, 2044]⟩
abbrev S8x8 : Shape := ⟨2, ![8, 8]⟩
abbrev S8x2040 : Shape := ⟨2, ![8, 2040]⟩
abbrev S8x16 : Shape := ⟨2, ![8, 16]⟩
abbrev S8x2032 : Shape := ⟨2, ![8, 2032]⟩
abbrev S8x32 : Shape := ⟨2, ![8, 32]⟩
abbrev S8x2016 : Shape := ⟨2, ![8, 2016]⟩
abbrev S8x64 : Shape := ⟨2, ![8, 64]⟩
abbrev S8x1984 : Shape := ⟨2, ![8, 1984]⟩
abbrev S8x128 : Shape := ⟨2, ![8, 128]⟩
abbrev S8x1920 : Shape := ⟨2, ![8, 1920]⟩
abbrev S8x256 : Shape := ⟨2, ![8, 256]⟩
abbrev S8x1792 : Shape := ⟨2, ![8, 1792]⟩
abbrev S8x512 : Shape := ⟨2, ![8, 512]⟩
abbrev S8x1536 : Shape := ⟨2, ![8, 1536]⟩
abbrev S8x1024 : Shape := ⟨2, ![8, 1024]⟩
abbrev S7x1 : Shape := ⟨2, ![7, 1]⟩
abbrev S2x1 : Shape := ⟨2, ![2, 1]⟩
abbrev S6x1 : Shape := ⟨2, ![6, 1]⟩
abbrev S3x1 : Shape := ⟨2, ![3, 1]⟩
abbrev S5x1 : Shape := ⟨2, ![5, 1]⟩
abbrev S4x1 : Shape := ⟨2, ![4, 1]⟩
abbrev S1 : Shape := ⟨1, ![1]⟩
abbrev S8x24 : Shape := ⟨2, ![8, 24]⟩
abbrev S24 : Shape := ⟨1, ![24]⟩
abbrev S1x8x1 : Shape := ⟨3, ![1, 8, 1]⟩
abbrev S1x1x1 : Shape := ⟨3, ![1, 1, 1]⟩

abbrev nBuf : Space → Nat
  | .hbm => 12
  | .vmem => 10
  | .smem => 0
  | _ => 0

abbrev bufTy : (tb : Table) → Fin (tcTables nBuf tb) → BufTy
  | .hbm, ⟨0, _⟩ => ⟨S1x2048x768, .f32⟩
  | .hbm, ⟨1, _⟩ => ⟨S768x8, .f32⟩
  | .hbm, ⟨2, _⟩ => ⟨S8, .f32⟩
  | .hbm, ⟨3, _⟩ => ⟨S2048x768, .f32⟩
  | .hbm, ⟨4, _⟩ => ⟨S1x8, .f32⟩
  | .hbm, ⟨5, _⟩ => ⟨S1x2048, .i32⟩
  | .hbm, ⟨6, _⟩ => ⟨S1x2048, .i32⟩
  | .hbm, ⟨7, _⟩ => ⟨S1x2048, .f32⟩
  | .hbm, ⟨8, _⟩ => ⟨S1x2048, .f32⟩
  | .hbm, ⟨9, _⟩ => ⟨S1x24, .i32⟩
  | .hbm, ⟨10, _⟩ => ⟨S1x24, .i32⟩
  | .hbm, ⟨11, _⟩ => ⟨S1x1, .f32⟩
  | .local _ .vmem, ⟨0, _⟩ => ⟨S2048x768, .f32⟩
  | .local _ .vmem, ⟨1, _⟩ => ⟨S768x8, .f32⟩
  | .local _ .vmem, ⟨2, _⟩ => ⟨S1x8, .f32⟩
  | .local _ .vmem, ⟨3, _⟩ => ⟨S1x2048, .i32⟩
  | .local _ .vmem, ⟨4, _⟩ => ⟨S1x2048, .i32⟩
  | .local _ .vmem, ⟨5, _⟩ => ⟨S1x2048, .f32⟩
  | .local _ .vmem, ⟨6, _⟩ => ⟨S1x2048, .f32⟩
  | .local _ .vmem, ⟨7, _⟩ => ⟨S1x24, .i32⟩
  | .local _ .vmem, ⟨8, _⟩ => ⟨S1x24, .i32⟩
  | .local _ .vmem, ⟨9, _⟩ => ⟨S1x1, .f32⟩
  | _, _ => ⟨S1x2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev main_v2_3 : Ref sig .tc := ⟨.hbm, 8, rfl⟩
abbrev main_v2_4 : Ref sig .tc := ⟨.hbm, 9, rfl⟩
abbrev main_v2_5 : Ref sig .tc := ⟨.hbm, 10, rfl⟩
abbrev main_v2_6 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .vmem S2048x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S768x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x2048 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x2048 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x24 .i32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x24 .i32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== RouterReferenceIdeal.lean ====
abbrev S1x2048x768 : Shape := ⟨3, ![1, 2048, 768]⟩
abbrev S768x8 : Shape := ⟨2, ![768, 8]⟩
abbrev S8 : Shape := ⟨1, ![8]⟩
abbrev S2048x768 : Shape := ⟨2, ![2048, 768]⟩
abbrev S2048x8 : Shape := ⟨2, ![2048, 8]⟩
abbrev S1x8 : Shape := ⟨2, ![1, 8]⟩
abbrev S_ : Shape := ⟨0, ![]⟩
abbrev S2048 : Shape := ⟨1, ![2048]⟩
abbrev S2048x1 : Shape := ⟨2, ![2048, 1]⟩
abbrev S2048x2 : Shape := ⟨2, ![2048, 2]⟩
abbrev S2048x2x1 : Shape := ⟨3, ![2048, 2, 1]⟩
abbrev S1x1x8 : Shape := ⟨3, ![1, 1, 8]⟩
abbrev S2048x2x8 : Shape := ⟨3, ![2048, 2, 8]⟩
abbrev S1 : Shape := ⟨1, ![1]⟩
abbrev S1x2048 : Shape := ⟨2, ![1, 2048]⟩
abbrev S1x1 : Shape := ⟨2, ![1, 1]⟩

abbrev nBuf : Space → Nat
  | .hbm => 77
  | .vmem => 0
  | .smem => 0
  | _ => 0

abbrev bufTy : (tb : Table) → Fin (tcTables nBuf tb) → BufTy
  | .hbm, ⟨0, _⟩ => ⟨S1x2048x768, .f32⟩
  | .hbm, ⟨1, _⟩ => ⟨S768x8, .f32⟩
  | .hbm, ⟨2, _⟩ => ⟨S8, .f32⟩
  | .hbm, ⟨3, _⟩ => ⟨S2048x768, .f32⟩
  | .hbm, ⟨4, _⟩ => ⟨S2048x8, .f32⟩
  | .hbm, ⟨5, _⟩ => ⟨S1x8, .f32⟩
  | .hbm, ⟨6, _⟩ => ⟨S2048x8, .f32⟩
  | .hbm, ⟨7, _⟩ => ⟨S2048x8, .f32⟩
  | .hbm, ⟨8, _⟩ => ⟨S_, .f32⟩
  | .hbm, ⟨9, _⟩ => ⟨S2048, .f32⟩
  | .hbm, ⟨10, _⟩ => ⟨S_, .f32⟩
  | .hbm, ⟨11, _⟩ => ⟨S2048, .f32⟩
  | .hbm, ⟨12, _⟩ => ⟨S2048, .f32⟩
  | .hbm, ⟨13, _⟩ => ⟨S2048x1, .f32⟩
  | .hbm, ⟨14, _⟩ => ⟨S2048x8, .f32⟩
  | .hbm, ⟨15, _⟩ => ⟨S2048x8, .f32⟩
  | .hbm, ⟨16, _⟩ => ⟨S2048x8, .f32⟩
  | .hbm, ⟨17, _⟩ => ⟨S_, .f32⟩
  | .hbm, ⟨18, _⟩ => ⟨S2048, .f32⟩
  | .hbm, ⟨19, _⟩ => ⟨S2048x1, .f32⟩
  | .hbm, ⟨20, _⟩ => ⟨S2048x8, .f32⟩
  | .hbm, ⟨21, _⟩ => ⟨S2048x8, .f32⟩
  | .hbm, ⟨22, _⟩ => ⟨S2048x2, .f32⟩
  | .hbm, ⟨23, _⟩ => ⟨S2048x2, .i32⟩
  | .hbm, ⟨24, _⟩ => ⟨S_, .f32⟩
  | .hbm, ⟨25, _⟩ => ⟨S2048, .f32⟩
  | .hbm, ⟨26, _⟩ => ⟨S2048x1, .f32⟩
  | .hbm, ⟨27, _⟩ => ⟨S2048x2, .f32⟩
  | .hbm, ⟨28, _⟩ => ⟨S2048x2, .f32⟩
  | .hbm, ⟨29, _⟩ => ⟨S2048x2x1, .i32⟩
  | .hbm, ⟨30, _⟩ => ⟨S1x1x8, .i32⟩
  | .hbm, ⟨31, _⟩ => ⟨S2048x2x8, .i32⟩
  | .hbm, ⟨32, _⟩ => ⟨S2048x2x8, .i32⟩
  | .hbm, ⟨33, _⟩ => ⟨S2048x2x8, .i1⟩
  | .hbm, ⟨34, _⟩ => ⟨S2048x2x8, .f32⟩
  | .hbm, ⟨35, _⟩ => ⟨S_, .f32⟩
  | .hbm, ⟨36, _⟩ => ⟨S8, .f32⟩
  | .hbm, ⟨37, _⟩ => ⟨S_, .f32⟩
  | .hbm, ⟨38, _⟩ => ⟨S8, .f32⟩
  | .hbm, ⟨39, _⟩ => ⟨S8, .f32⟩
  | .hbm, ⟨40, _⟩ => ⟨S_, .i32⟩
  | .hbm, ⟨41, _⟩ => ⟨S_, .f32⟩
  | .hbm, ⟨42, _⟩ => ⟨S_, .f32⟩
  | .hbm, ⟨43, _⟩ => ⟨S1, .f32⟩
  | .hbm, ⟨44, _⟩ => ⟨S_, .f32⟩
  | .hbm, ⟨45, _⟩ => ⟨S1, .f32⟩
  | .hbm, ⟨46, _⟩ => ⟨S1, .f32⟩
  | .hbm, ⟨47, _⟩ => ⟨S8, .f32⟩
  | .hbm, ⟨48, _⟩ => ⟨S8, .f32⟩
  | .hbm, ⟨49, _⟩ => ⟨S8, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .i1⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S2048x1, .f32⟩
  | .hbm, ⟨71, _⟩ => ⟨S2048, .f32⟩
  | .hbm, ⟨72, _⟩ => ⟨S1x2048, .f32⟩
  | .hbm, ⟨73, _⟩ => ⟨S2048x1, .f32⟩
  | .hbm, ⟨74, _⟩ => ⟨S2048, .f32⟩
  | .hbm, ⟨75, _⟩ => ⟨S1x2048, .f32⟩
  | .hbm, ⟨76, _⟩ => ⟨S1x1, .f32⟩
  | _, _ => ⟨S1x2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_values : Ref sig .tc := ⟨.hbm, 22, rfl⟩
abbrev main_indices : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_call0_v0 : Ref sig .tc := ⟨.hbm, 29, rfl⟩
abbrev main_call0_v1 : Ref sig .tc := ⟨.hbm, 30, rfl⟩
abbrev main_call0_v2 : Ref sig .tc := ⟨.hbm, 31, rfl⟩
abbrev main_call0_v3 : Ref sig .tc := ⟨.hbm, 32, rfl⟩
abbrev main_call0_v4 : Ref sig .tc := ⟨.hbm, 33, rfl⟩
abbrev main_v20 : Ref sig .tc := ⟨.hbm, 34, rfl⟩
abbrev main_cst_3 : Ref sig .tc := ⟨.hbm, 35, rfl⟩
abbrev main_v21 : Ref sig .tc := ⟨.hbm, 36, rfl⟩
abbrev main_cst_4 : Ref sig .tc := ⟨.hbm, 37, rfl⟩
abbrev main_v22 : Ref sig .tc := ⟨.hbm, 38, rfl⟩
abbrev main_v23 : Ref sig .tc := ⟨.hbm, 39, rfl⟩
abbrev main_c : Ref sig .tc := ⟨.hbm, 40, rfl⟩
abbrev main_call1_call0_cst : Ref sig .tc := ⟨.hbm, 41, rfl⟩
abbrev main_call1_call0_v0 : Ref sig .tc := ⟨.hbm, 42, rfl⟩
abbrev main_call1_call0_v1 : Ref sig .tc := ⟨.hbm, 43, rfl⟩
abbrev main_call1_call0_cst_0 : Ref sig .tc := ⟨.hbm, 44, rfl⟩
abbrev main_call1_call0_v2 : Ref sig .tc := ⟨.hbm, 45, rfl⟩
abbrev main_call1_call0_v3 : Ref sig .tc := ⟨.hbm, 46, rfl⟩
abbrev main_call1_call0_v4 : Ref sig .tc := ⟨.hbm, 47, rfl⟩
abbrev main_call1_call0_v5 : Ref sig .tc := ⟨.hbm, 48, rfl⟩
abbrev main_call1_call0_v6 : Ref sig .tc := ⟨.hbm, 49, rfl⟩
abbrev main_call1_call0_v7 : Ref sig .tc := ⟨.hbm, 50, rfl⟩
abbrev main_call1_call0_cst_1 : Ref sig .tc := ⟨.hbm, 51, rfl⟩
abbrev main_call1_call0_v8 : Ref sig .tc := ⟨.hbm, 52, rfl⟩
abbrev main_call1_call0_cst_2 : Ref sig .tc := ⟨.hbm, 53, rfl⟩
abbrev main_call1_call0_v9 : Ref sig .tc := ⟨.hbm, 54, rfl⟩
abbrev main_call1_call0_v10 : Ref sig .tc := ⟨.hbm, 55, rfl⟩
abbrev main_call1_call0_cst_3 : Ref sig .tc := ⟨.hbm, 56, rfl⟩
abbrev main_call1_call0_v11 : Ref sig .tc := ⟨.hbm, 57, rfl⟩
abbrev main_call1_call0_cst_4 : Ref sig .tc := ⟨.hbm, 58, rfl⟩
abbrev main_call1_call0_call0_v0 : Ref sig .tc := ⟨.hbm, 59, rfl⟩
abbrev main_call1_v0 : Ref sig .tc := ⟨.hbm, 60, rfl⟩
abbrev main_v24 : Ref sig .tc := ⟨.hbm, 61, rfl⟩
abbrev main_cst_5 : Ref sig .tc := ⟨.hbm, 62, rfl⟩
abbrev main_v25 : Ref sig .tc := ⟨.hbm, 63, rfl⟩
abbrev main_cst_6 : Ref sig .tc := ⟨.hbm, 64, rfl⟩
abbrev main_v26 : Ref sig .tc := ⟨.hbm, 65, rfl⟩
abbrev main_cst_7 : Ref sig .tc := ⟨.hbm, 66, rfl⟩
abbrev main_v27 : Ref sig .tc := ⟨.hbm, 67, rfl⟩
abbrev main_v28 : Ref sig .tc := ⟨.hbm, 68, rfl⟩
abbrev main_v29 : Ref sig .tc := ⟨.hbm, 69, rfl⟩
abbrev main_v30 : Ref sig .tc := ⟨.hbm, 70, rfl⟩
abbrev main_v31 : Ref sig .tc := ⟨.hbm, 71, rfl⟩
abbrev main_v32 : Ref sig .tc := ⟨.hbm, 72, rfl⟩
abbrev main_v33 : Ref sig .tc := ⟨.hbm, 73, rfl⟩
abbrev main_v34 : Ref sig .tc := ⟨.hbm, 74, rfl⟩
abbrev main_v35 : Ref sig .tc := ⟨.hbm, 75, rfl⟩
abbrev main_v36 : Ref sig .tc := ⟨.hbm, 76, rfl⟩

abbrev nD : Nat := 1
abbrev τ : Topo := Topo.v7x

variable {F : FTy → Type} [FloatOps F]
-- ==== WholeIdeal.lean ====
abbrev S1x2048x768 : Shape := ⟨3, ![1, 2048, 768]⟩
abbrev S768x8 : Shape := ⟨2, ![768, 8]⟩
abbrev S8 : Shape := ⟨1, ![8]⟩
abbrev S8x768x3072 : Shape := ⟨3, ![8, 768, 3072]⟩
abbrev S8x3072 : Shape := ⟨2, ![8, 3072]⟩
abbrev S8x3072x768 : Shape := ⟨3, ![8, 3072, 768]⟩
abbrev S8x768 : Shape := ⟨2, ![8, 768]⟩
abbrev S2048x768 : Shape := ⟨2, ![2048, 768]⟩
abbrev S1x8 : Shape := ⟨2, ![1, 8]⟩
abbrev S1x2048 : Shape := ⟨2, ![1, 2048]⟩
abbrev S1x24 : Shape := ⟨2, ![1, 24]⟩
abbrev S1x1 : Shape := ⟨2, ![1, 1]⟩
abbrev S8x2048 : Shape := ⟨2, ![8, 2048]⟩
abbrev S8x1 : Shape := ⟨2, ![8, 1]⟩
abbrev S2048 : Shape := ⟨1, ![2048]⟩
abbrev S8x2047 : Shape := ⟨2, ![8, 2047]⟩
abbrev S8x2 : Shape := ⟨2, ![8, 2]⟩
abbrev S8x2046 : Shape := ⟨2, ![8, 2046]⟩
abbrev S8x4 : Shape := ⟨2, ![8, 4]⟩
abbrev S8x2044 : Shape := ⟨2, ![8, 2044]⟩
abbrev S8x8 : Shape := ⟨2, ![8, 8]⟩
abbrev S8x2040 : Shape := ⟨2, ![8, 2040]⟩
abbrev S8x16 : Shape := ⟨2, ![8, 16]⟩
abbrev S8x2032 : Shape := ⟨2, ![8, 2032]⟩
abbrev S8x32 : Shape := ⟨2, ![8, 32]⟩
abbrev S8x2016 : Shape := ⟨2, ![8, 2016]⟩
abbrev S8x64 : Shape := ⟨2, ![8, 64]⟩
abbrev S8x1984 : Shape := ⟨2, ![8, 1984]⟩
abbrev S8x128 : Shape := ⟨2, ![8, 128]⟩
abbrev S8x1920 : Shape := ⟨2, ![8, 1920]⟩
abbrev S8x256 : Shape := ⟨2, ![8, 256]⟩
abbrev S8x1792 : Shape := ⟨2, ![8, 1792]⟩
abbrev S8x512 : Shape := ⟨2, ![8, 512]⟩
abbrev S8x1536 : Shape := ⟨2, ![8, 1536]⟩
abbrev S8x1024 : Shape := ⟨2, ![8, 1024]⟩
abbrev S7x1 : Shape := ⟨2, ![7, 1]⟩
abbrev S2x1 : Shape := ⟨2, ![2, 1]⟩
abbrev S6x1 : Shape := ⟨2, ![6, 1]⟩
abbrev S3x1 : Shape := ⟨2, ![3, 1]⟩
abbrev S5x1 : Shape := ⟨2, ![5, 1]⟩
abbrev S4x1 : Shape := ⟨2, ![4, 1]⟩
abbrev S1 : Shape := ⟨1, ![1]⟩
abbrev S8x24 : Shape := ⟨2, ![8, 24]⟩
abbrev S24 : Shape := ⟨1, ![24]⟩
abbrev S1x8x1 : Shape := ⟨3, ![1, 8, 1]⟩
abbrev S1x1x1 : Shape := ⟨3, ![1, 1, 1]⟩
abbrev S6144x768 : Shape := ⟨2, ![6144, 768]⟩
abbrev S6144 : Shape := ⟨1, ![6144]⟩
abbrev S64 : Shape := ⟨1, ![64]⟩
abbrev S64x768 : Shape := ⟨2, ![64, 768]⟩
abbrev S6 : Shape := ⟨1, ![6]⟩
abbrev S_ : Shape := ⟨0, ![]⟩
abbrev S64x128 : Shape := ⟨2, ![64, 128]⟩
abbrev S6144x128 : Shape := ⟨2, ![6144, 128]⟩
abbrev S16 : Shape := ⟨1, ![16]⟩
abbrev S8x1x3072 : Shape := ⟨3, ![8, 1, 3072]⟩
abbrev S8x1x768 : Shape := ⟨3, ![8, 1, 768]⟩
abbrev S6144x1 : Shape := ⟨2, ![6144, 1]⟩
abbrev S256x768 : Shape := ⟨2, ![256, 768]⟩
abbrev S1x1x3072 : Shape := ⟨3, ![1, 1, 3072]⟩
abbrev S1x1x768 : Shape := ⟨3, ![1, 1, 768]⟩
abbrev S256x1 : Shape := ⟨2, ![256, 1]⟩
abbrev S2x768x3072 : Shape := ⟨3, ![2, 768, 3072]⟩
abbrev S2x3072x768 : Shape := ⟨3, ![2, 3072, 768]⟩
abbrev S2 : Shape := ⟨1, ![2]⟩
abbrev S1x768x3072 : Shape := ⟨3, ![1, 768, 3072]⟩
abbrev S768x3072 : Shape := ⟨2, ![768, 3072]⟩
abbrev S1x3072x768 : Shape := ⟨3, ![1, 3072, 768]⟩
abbrev S3072x768 : Shape := ⟨2, ![3072, 768]⟩
abbrev S256x3072 : Shape := ⟨2, ![256, 3072]⟩
abbrev S1x3072 : Shape := ⟨2, ![1, 3072]⟩
abbrev S1x768 : Shape := ⟨2, ![1, 768]⟩
abbrev S1x16 : Shape := ⟨2, ![1, 16]⟩

abbrev nBuf : Table → Nat
  | .hbm => 29
  | .local .tc .vmem => 22
  | .local .tc .smem => 2
  | .local .scVector .vmem => 12
  | _ => 0

abbrev bufTy : (tb : Table) → Fin (nBuf tb) → BufTy
  | .hbm, ⟨0, _⟩ => ⟨S1x2048x768, .f32⟩
  | .hbm, ⟨1, _⟩ => ⟨S768x8, .f32⟩
  | .hbm, ⟨2, _⟩ => ⟨S8, .f32⟩
  | .hbm, ⟨3, _⟩ => ⟨S8x768x3072, .f32⟩
  | .hbm, ⟨4, _⟩ => ⟨S8x3072, .f32⟩
  | .hbm, ⟨5, _⟩ => ⟨S8x3072x768, .f32⟩
  | .hbm, ⟨6, _⟩ => ⟨S8x768, .f32⟩
  | .hbm, ⟨7, _⟩ => ⟨S2048x768, .f32⟩
  | .hbm, ⟨8, _⟩ => ⟨S1x8, .f32⟩
  | .hbm, ⟨9, _⟩ => ⟨S1x2048, .i32⟩
  | .hbm, ⟨10, _⟩ => ⟨S1x2048, .i32⟩
  | .hbm, ⟨11, _⟩ => ⟨S1x2048, .f32⟩
  | .hbm, ⟨12, _⟩ => ⟨S1x2048, .f32⟩
  | .hbm, ⟨13, _⟩ => ⟨S1x24, .i32⟩
  | .hbm, ⟨14, _⟩ => ⟨S1x24, .i32⟩
  | .hbm, ⟨15, _⟩ => ⟨S1x1, .f32⟩
  | .hbm, ⟨16, _⟩ => ⟨S2048, .i32⟩
  | .hbm, ⟨17, _⟩ => ⟨S2048, .i32⟩
  | .hbm, ⟨18, _⟩ => ⟨S2048, .f32⟩
  | .hbm, ⟨19, _⟩ => ⟨S2048, .f32⟩
  | .hbm, ⟨20, _⟩ => ⟨S6144x768, .f32⟩
  | .hbm, ⟨21, _⟩ => ⟨S6144, .f32⟩
  | .hbm, ⟨22, _⟩ => ⟨S8x1x3072, .f32⟩
  | .hbm, ⟨23, _⟩ => ⟨S8x1x768, .f32⟩
  | .hbm, ⟨24, _⟩ => ⟨S6144x1, .f32⟩
  | .hbm, ⟨25, _⟩ => ⟨S6144x768, .f32⟩
  | .hbm, ⟨26, _⟩ => ⟨S2048x768, .f32⟩
  | .hbm, ⟨27, _⟩ => ⟨S1x2048x768, .f32⟩
  | .hbm, ⟨28, _⟩ => ⟨S_, .f32⟩
  | .local .tc .vmem, ⟨0, _⟩ => ⟨S2048x768, .f32⟩
  | .local .tc .vmem, ⟨1, _⟩ => ⟨S768x8, .f32⟩
  | .local .tc .vmem, ⟨2, _⟩ => ⟨S1x8, .f32⟩
  | .local .tc .vmem, ⟨3, _⟩ => ⟨S1x2048, .i32⟩
  | .local .tc .vmem, ⟨4, _⟩ => ⟨S1x2048, .i32⟩
  | .local .tc .vmem, ⟨5, _⟩ => ⟨S1x2048, .f32⟩
  | .local .tc .vmem, ⟨6, _⟩ => ⟨S1x2048, .f32⟩
  | .local .tc .vmem, ⟨7, _⟩ => ⟨S1x24, .i32⟩
  | .local .tc .vmem, ⟨8, _⟩ => ⟨S1x24, .i32⟩
  | .local .tc .vmem, ⟨9, _⟩ => ⟨S1x1, .f32⟩
  | .local .tc .vmem, ⟨10, _⟩ => ⟨S256x768, .f32⟩
  | .local .tc .vmem, ⟨11, _⟩ => ⟨S256x768, .f32⟩
  | .local .tc .vmem, ⟨12, _⟩ => ⟨S1x1x3072, .f32⟩
  | .local .tc .vmem, ⟨13, _⟩ => ⟨S1x1x3072, .f32⟩
  | .local .tc .vmem, ⟨14, _⟩ => ⟨S1x1x768, .f32⟩
  | .local .tc .vmem, ⟨15, _⟩ => ⟨S1x1x768, .f32⟩
  | .local .tc .vmem, ⟨16, _⟩ => ⟨S256x1, .f32⟩
  | .local .tc .vmem, ⟨17, _⟩ => ⟨S256x1, .f32⟩
  | .local .tc .vmem, ⟨18, _⟩ => ⟨S256x768, .f32⟩
  | .local .tc .vmem, ⟨19, _⟩ => ⟨S256x768, .f32⟩
  | .local .tc .vmem, ⟨20, _⟩ => ⟨S2x768x3072, .f32⟩
  | .local .tc .vmem, ⟨21, _⟩ => ⟨S2x3072x768, .f32⟩
  | .local .tc .smem, ⟨0, _⟩ => ⟨S24, .i32⟩
  | .local .tc .smem, ⟨1, _⟩ => ⟨S24, .i32⟩
  | .local .scVector .vmem, ⟨0, _⟩ => ⟨S64, .i32⟩
  | .local .scVector .vmem, ⟨1, _⟩ => ⟨S64, .i32⟩
  | .local .scVector .vmem, ⟨2, _⟩ => ⟨S2048, .f32⟩
  | .local .scVector .vmem, ⟨3, _⟩ => ⟨S2048, .f32⟩
  | .local .scVector .vmem, ⟨4, _⟩ => ⟨S2048, .i32⟩
  | .local .scVector .vmem, ⟨5, _⟩ => ⟨S2048, .i32⟩
  | .local .scVector .vmem, ⟨6, _⟩ => ⟨S6144, .f32⟩
  | .local .scVector .vmem, ⟨7, _⟩ => ⟨S64x768, .f32⟩
  | .local .scVector .vmem, ⟨8, _⟩ => ⟨S64, .i32⟩
  | .local .scVector .vmem, ⟨9, _⟩ => ⟨S64, .i32⟩
  | .local .scVector .vmem, ⟨10, _⟩ => ⟨S64x768, .f32⟩
  | .local .scVector .vmem, ⟨11, _⟩ => ⟨S64x768, .f32⟩
  | _, _ => ⟨S1x2048x768, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 59 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => false
  | ⟨11, _⟩ => false
  | ⟨12, _⟩ => false
  | ⟨13, _⟩ => false
  | ⟨14, _⟩ => false
  | ⟨15, _⟩ => false
  | ⟨16, _⟩ => false
  | ⟨17, _⟩ => false
  | ⟨18, _⟩ => false
  | ⟨19, _⟩ => false
  | ⟨20, _⟩ => false
  | ⟨21, _⟩ => false
  | ⟨22, _⟩ => false
  | ⟨23, _⟩ => false
  | ⟨24, _⟩ => false
  | ⟨25, _⟩ => false
  | ⟨26, _⟩ => false
  | ⟨27, _⟩ => false
  | ⟨28, _⟩ => false
  | ⟨29, _⟩ => false
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => false
  | ⟨45, _⟩ => false
  | ⟨46, _⟩ => false
  | ⟨47, _⟩ => false
  | ⟨48, _⟩ => false
  | ⟨49, _⟩ => false
  | ⟨50, _⟩ => false
  | ⟨51, _⟩ => false
  | ⟨52, _⟩ => false
  | ⟨53, _⟩ => false
  | ⟨54, _⟩ => false
  | ⟨55, _⟩ => false
  | ⟨56, _⟩ => false
  | ⟨57, _⟩ => false
  | ⟨58, _⟩ => false
  | _ => false

abbrev sig : RefSig :=
  ofTables nBuf rfl bufTy 4 59 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev main_v2_2 : Ref sig .tc := ⟨.hbm, 11, rfl⟩
abbrev main_v2_3 : Ref sig .tc := ⟨.hbm, 12, rfl⟩
abbrev main_v2_4 : Ref sig .tc := ⟨.hbm, 13, rfl⟩
abbrev main_v2_5 : Ref sig .tc := ⟨.hbm, 14, rfl⟩
abbrev main_v2_6 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7_0 : Ref sig .tc := ⟨.hbm, 20, rfl⟩
abbrev main_v7_1 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v8 : Ref sig .tc := ⟨.smem, 0, rfl⟩
abbrev main_v9 : Ref sig .tc := ⟨.smem, 1, rfl⟩
abbrev main_v3_scv : Ref sig .scVector := ⟨.hbm, 16, rfl⟩
abbrev main_v4_scv : Ref sig .scVector := ⟨.hbm, 17, rfl⟩
abbrev main_v5_scv : Ref sig .scVector := ⟨.hbm, 18, rfl⟩
abbrev main_v6_scv : Ref sig .scVector := ⟨.hbm, 19, rfl⟩
abbrev main_v0_scv : Ref sig .scVector := ⟨.hbm, 7, rfl⟩
abbrev main_v7_0_scv : Ref sig .scVector := ⟨.hbm, 20, rfl⟩
abbrev main_v7_1_scv : Ref sig .scVector := ⟨.hbm, 21, rfl⟩
abbrev main_v13_scv : Ref sig .scVector := ⟨.hbm, 25, rfl⟩
abbrev main_v14_scv : Ref sig .scVector := ⟨.hbm, 26, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_stg2_1 : Ref sig .tc := ⟨.vmem, 15, rfl⟩
abbrev cc2_stg3_0 : Ref sig .tc := ⟨.vmem, 16, rfl⟩
abbrev cc2_stg3_1 : Ref sig .tc := ⟨.vmem, 17, rfl⟩
abbrev cc2_stg4_0 : Ref sig .tc := ⟨.vmem, 18, rfl⟩
abbrev cc2_stg4_1 : Ref sig .tc := ⟨.vmem, 19, rfl⟩
abbrev cc2_scratch0 : Ref sig .tc := ⟨.vmem, 20, rfl⟩
abbrev cc2_scratch1 : Ref sig .tc := ⟨.vmem, 21, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc1_scratch3 : Ref sig .scVector := ⟨.vmem, 3, rfl⟩
abbrev cc1_scratch4 : Ref sig .scVector := ⟨.vmem, 4, rfl⟩
abbrev cc1_scratch5 : Ref sig .scVector := ⟨.vmem, 5, rfl⟩
abbrev cc1_scratch6 : Ref sig .scVector := ⟨.vmem, 6, rfl⟩
abbrev cc1_scratch7 : Ref sig .scVector := ⟨.vmem, 7, rfl⟩
abbrev cc3_scratch0 : Ref sig .scVector := ⟨.vmem, 8, rfl⟩
abbrev cc3_scratch1 : Ref sig .scVector := ⟨.vmem, 9, rfl⟩
abbrev cc3_scratch2 : Ref sig .scVector := ⟨.vmem, 10, rfl⟩
abbrev cc3_scratch3 : Ref sig .scVector := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc2_sem0_0 : DmaSem sig := 30
abbrev cc2_sem0_1 : DmaSem sig := 31
abbrev cc2_sem1_0 : DmaSem sig := 32
abbrev cc2_sem1_1 : DmaSem sig := 33
abbrev cc2_sem2_0 : DmaSem sig := 34
abbrev cc2_sem2_1 : DmaSem sig := 35
abbrev cc2_sem3_0 : DmaSem sig := 36
abbrev cc2_sem3_1 : DmaSem sig := 37
abbrev cc2_sem4_0 : DmaSem sig := 38
abbrev cc2_sem4_1 : DmaSem sig := 39
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := .none

abbrev stage0_0 : Fin 1 → Memref sig .tc .vmem S2048x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S768x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x2048 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x2048 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x24 .i32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x24 .i32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev grid1 : Pipeline.Grid := ⟨2, ![2, 16], ![false, false]⟩

def k1_off1 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  ![v2.toNat]
def k1_off2 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let c0_i32_112_r2 : BitVec 32 := 0#32
  ![v2.toNat, 0]
def k1_cond1 (i : grid1.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_50 : BitVec 32 := 0#32
  let v51 : BitVec 1 := Scalar.cmpi .eq v1 c0_i32_50
  let v52 : BitVec 32 := Scalar.extui v51
  let c0_i32_51 : BitVec 32 := 0#32
  let v53 : BitVec 1 := Scalar.cmpi .ne v52 c0_i32_51
  v53

@[reducible] def k1_t1_loop : Scf.Loop 32 :=
  let c0_i32_113 : BitVec 32 := 0#32
  let c128_i32_114 : BitVec 32 := 128#32
  let v102 : BitVec 32 := Scalar.addi c0_i32_113 c128_i32_114
  let c1_i32_115 : BitVec 32 := 1#32
  ⟨c0_i32_113, v102, c1_i32_115⟩
def k1_off3 (k1_t1 : Fin k1_t1_loop.trips) : Fin 1 → Nat :=
  let c0_i32_113 : BitVec 32 := 0#32
  let c1_i32_115 : BitVec 32 := 1#32
  let arg19 : BitVec 32 := Scf.iv c0_i32_113 c1_i32_115 k1_t1
  let c16_i32 : BitVec 32 := 16#32
  let v103 : BitVec 32 := Scalar.muli arg19 c16_i32
  let v104 : Index := Scalar.indexCast v103
  ![v104.toNat]

def k1_chk1 (i : grid1.Coords) (v105 : IVec S16 32) : Prop :=
  (∀ (k1_h1 : k1_cond1 i = 1#1), ∀ a x, ((![v105] : Fin 1 → IVec S16 32) a x).toNat < S6144.size a)
theorem k1_idx1_inb : ∀ (i : grid1.Coords) (v105 : IVec S16 32) (k1_hw1 : k1_chk1 i v105), ∀ (k1_h1 : k1_cond1 i = 1#1), ∀ a x, ((![v105] : Fin 1 → IVec S16 32) a x).toNat < S6144.size a := fun i v105 k1_hw1 k1_h1 => k1_hw1 k1_h1
def k1_off4 (k1_t1 : Fin k1_t1_loop.trips) : Fin 1 → Nat :=
  let c0_i32_113 : BitVec 32 := 0#32
  let c1_i32_115 : BitVec 32 := 1#32
  let arg19 : BitVec 32 := Scf.iv c0_i32_113 c1_i32_115 k1_t1
  let c16_i32_119 : BitVec 32 := 16#32
  let v112 : BitVec 32 := Scalar.muli arg19 c16_i32_119
  let v113 : Index := Scalar.indexCast v112
  ![v113.toNat]

def k1_chk2 (i : grid1.Coords) (v108 : IVec S16 32) : Prop :=
  (∀ (k1_h1 : k1_cond1 i = 1#1), ∀ a x, ((![v108] : Fin 1 → IVec S16 32) a x).toNat < S6144.size a)
theorem k1_idx2_inb : ∀ (i : grid1.Coords) (v108 : IVec S16 32) (k1_hw2 : k1_chk2 i v108), ∀ (k1_h1 : k1_cond1 i = 1#1), ∀ a x, ((![v108] : Fin 1 → IVec S16 32) a x).toNat < S6144.size a := fun i v108 k1_hw2 k1_h1 => k1_hw2 k1_h1
abbrev grid2 : Pipeline.Grid := ⟨1, ![24], ![false]⟩

abbrev pre2 : Pipeline.Prefetch sig := ⟨2, ![main_v8.idx, main_v9.idx], fun | 0 => main_v8.names | 1 => main_v9.names | ⟨_ + 2, h⟩ => absurd h (Nat.not_lt.2 (Nat.le_add_left _ _)), fun | 0 => rfl | 1 => rfl | ⟨_ + 2, h⟩ => absurd h (Nat.not_lt.2 (Nat.le_add_left _ _))⟩

def k2_off1 (i : grid2.Coords) : Fin 1 → Nat :=
  let arg0 : BitVec 32 := BitVec.ofNat 32 (i 0).val
  let v0 : Index := Scalar.indexCast arg0
  ![v0.toNat]
@[reducible] def k2_t1_loop (i : grid2.Coords) : Scf.Loop 32 :=
  let c1_i32_0 : BitVec 32 := 1#32
  let arg0 : BitVec 32 := BitVec.ofNat 32 (i 0).val
  let c1_i32 : BitVec 32 := 1#32
  let v2 : BitVec 32 := Scalar.addi arg0 c1_i32
  let v3 : BitVec 32 := Scalar.subi v2 c1_i32_0
  let c1_i32_1 : BitVec 32 := 1#32
  let v5 : BitVec 32 := Scalar.divsi v3 c1_i32_1
  let v6 : BitVec 32 := Scalar.muli v5 c1_i32_1
  let v7 : BitVec 32 := Scalar.addi c1_i32_0 v6
  let c1_i32_2 : BitVec 32 := 1#32
  ⟨c1_i32_0, v7, c1_i32_2⟩
def k2_off2 (i : grid2.Coords) (k2_t1 : Fin (k2_t1_loop i).trips) : Fin 1 → Nat :=
  let c1_i32_0 : BitVec 32 := 1#32
  let c1_i32_2 : BitVec 32 := 1#32
  let arg14 : BitVec 32 := Scf.iv c1_i32_0 c1_i32_2 k2_t1
  let v44 : Index := Scalar.indexCast arg14
  ![v44.toNat]
def k2_off3 (i : grid2.Coords) (k2_t1 : Fin (k2_t1_loop i).trips) : Fin 1 → Nat :=
  let c1_i32_0 : BitVec 32 := 1#32
  let c1_i32_2 : BitVec 32 := 1#32
  let arg14 : BitVec 32 := Scf.iv c1_i32_0 c1_i32_2 k2_t1
  let c1_i32_19 : BitVec 32 := 1#32
  let v46 : BitVec 32 := Scalar.subi arg14 c1_i32_19
  let v47 : Index := Scalar.indexCast v46
  ![v47.toNat]
@[reducible] def k2_t2_loop (i : grid2.Coords) : Scf.Loop 32 :=
  let c1_i32_0 : BitVec 32 := 1#32
  let arg0 : BitVec 32 := BitVec.ofNat 32 (i 0).val
  let c1_i32 : BitVec 32 := 1#32
  let v2 : BitVec 32 := Scalar.addi arg0 c1_i32
  let v3 : BitVec 32 := Scalar.subi v2 c1_i32_0
  let c1_i32_1 : BitVec 32 := 1#32
  let v5 : BitVec 32 := Scalar.divsi v3 c1_i32_1
  let v6 : BitVec 32 := Scalar.muli v5 c1_i32_1
  let v7 : BitVec 32 := Scalar.addi c1_i32_0 v6
  let v4 : BitVec 32 := Scalar.addi c1_i32_0 v3
  let c1_i32_3 : BitVec 32 := 1#32
  ⟨v7, v4, c1_i32_3⟩
def k2_off4 (i : grid2.Coords) (k2_t2 : Fin (k2_t2_loop i).trips) : Fin 1 → Nat :=
  let c1_i32_0 : BitVec 32 := 1#32
  let arg0 : BitVec 32 := BitVec.ofNat 32 (i 0).val
  let c1_i32 : BitVec 32 := 1#32
  let v2 : BitVec 32 := Scalar.addi arg0 c1_i32
  let v3 : BitVec 32 := Scalar.subi v2 c1_i32_0
  let c1_i32_1 : BitVec 32 := 1#32
  let v5 : BitVec 32 := Scalar.divsi v3 c1_i32_1
  let v6 : BitVec 32 := Scalar.muli v5 c1_i32_1
  let v7 : BitVec 32 := Scalar.addi c1_i32_0 v6
  let c1_i32_3 : BitVec 32 := 1#32
  let arg14 : BitVec 32 := Scf.iv v7 c1_i32_3 k2_t2
  let v44 : Index := Scalar.indexCast arg14
  ![v44.toNat]
def k2_off5 (i : grid2.Coords) (k2_t2 : Fin (k2_t2_loop i).trips) : Fin 1 → Nat :=
  let c1_i32_0 : BitVec 32 := 1#32
  let arg0 : BitVec 32 := BitVec.ofNat 32 (i 0).val
  let c1_i32 : BitVec 32 := 1#32
  let v2 : BitVec 32 := Scalar.addi arg0 c1_i32
  let v3 : BitVec 32 := Scalar.subi v2 c1_i32_0
  let c1_i32_1 : BitVec 32 := 1#32
  let v5 : BitVec 32 := Scalar.divsi v3 c1_i32_1
  let v6 : BitVec 32 := Scalar.muli v5 c1_i32_1
  let v7 : BitVec 32 := Scalar.addi c1_i32_0 v6
  let c1_i32_3 : BitVec 32 := 1#32
  let arg14 : BitVec 32 := Scf.iv v7 c1_i32_3 k2_t2
  let c1_i32_19 : BitVec 32 := 1#32
  let v46 : BitVec 32 := Scalar.subi arg14 c1_i32_19
  let v47 : Index := Scalar.indexCast v46
  ![v47.toNat]
def k2_off6 (i : grid2.Coords) : Fin 1 → Nat :=
  let arg0 : BitVec 32 := BitVec.ofNat 32 (i 0).val
  let c1_i32_5 : BitVec 32 := 1#32
  let v14 : BitVec 32 := Scalar.subi arg0 c1_i32_5
  let c0_i32_6 : BitVec 32 := 0#32
  let v15 : BitVec 32 := Scalar.maxsi v14 c0_i32_6
  let v16 : Index := Scalar.indexCast v15
  ![v16.toNat]
@[reducible] def k2_t3_loop (i : grid2.Coords) : Scf.Loop 32 :=
  let arg0 : BitVec 32 := BitVec.ofNat 32 (i 0).val
  let c1_i32_7 : BitVec 32 := 1#32
  let v20 : BitVec 32 := Scalar.addi arg0 c1_i32_7
  let c24_i32 : BitVec 32 := 24#32
  let v21 : BitVec 32 := Scalar.subi c24_i32 v20
  let c1_i32_9 : BitVec 32 := 1#32
  let v23 : BitVec 32 := Scalar.divsi v21 c1_i32_9
  let v24 : BitVec 32 := Scalar.muli v23 c1_i32_9
  let v25 : BitVec 32 := Scalar.addi v20 v24
  let c1_i32_10 : BitVec 32 := 1#32
  ⟨v20, v25, c1_i32_10⟩
def k2_off7 (i : grid2.Coords) (k2_t3 : Fin (k2_t3_loop i).trips) : Fin 1 → Nat :=
  let arg0 : BitVec 32 := BitVec.ofNat 32 (i 0).val
  let c1_i32_7 : BitVec 32 := 1#32
  let v20 : BitVec 32 := Scalar.addi arg0 c1_i32_7
  let c1_i32_10 : BitVec 32 := 1#32
  let arg14 : BitVec 32 := Scf.iv v20 c1_i32_10 k2_t3
  let v44 : Index := Scalar.indexCast arg14
  ![v44.toNat]
@[reducible] def k2_t4_loop (i : grid2.Coords) : Scf.Loop 32 :=
  let arg0 : BitVec 32 := BitVec.ofNat 32 (i 0).val
  let c1_i32_7 : BitVec 32 := 1#32
  let v20 : BitVec 32 := Scalar.addi arg0 c1_i32_7
  let c24_i32 : BitVec 32 := 24#32
  let v21 : BitVec 32 := Scalar.subi c24_i32 v20
  let c1_i32_9 : BitVec 32 := 1#32
  let v23 : BitVec 32 := Scalar.divsi v21 c1_i32_9
  let v24 : BitVec 32 := Scalar.muli v23 c1_i32_9
  let v25 : BitVec 32 := Scalar.addi v20 v24
  let v22 : BitVec 32 := Scalar.addi v20 v21
  let c1_i32_11 : BitVec 32 := 1#32
  ⟨v25, v22, c1_i32_11⟩
def k2_off8 (i : grid2.Coords) (k2_t4 : Fin (k2_t4_loop i).trips) : Fin 1 → Nat :=
  let arg0 : BitVec 32 := BitVec.ofNat 32 (i 0).val
  let c1_i32_7 : BitVec 32 := 1#32
  let v20 : BitVec 32 := Scalar.addi arg0 c1_i32_7
  let c24_i32 : BitVec 32 := 24#32
  let v21 : BitVec 32 := Scalar.subi c24_i32 v20
  let c1_i32_9 : BitVec 32 := 1#32
  let v23 : BitVec 32 := Scalar.divsi v21 c1_i32_9
  let v24 : BitVec 32 := Scalar.muli v23 c1_i32_9
  let v25 : BitVec 32 := Scalar.addi v20 v24
  let c1_i32_11 : BitVec 32 := 1#32
  let arg14 : BitVec 32 := Scf.iv v25 c1_i32_11 k2_t4
  let v44 : Index := Scalar.indexCast arg14
  ![v44.toNat]
def k2_off9 (v27 : BitVec 32) : Fin 1 → Nat :=
  let c23_i32 : BitVec 32 := 23#32
  let v29 : BitVec 32 := Scalar.minsi v27 c23_i32
  let v30 : Index := Scalar.indexCast v29
  ![v30.toNat]

def k2_cond1 (i : grid2.Coords) : BitVec 1 :=
  let arg0 : BitVec 32 := BitVec.ofNat 32 (i 0).val
  let c0_i32_13 : BitVec 32 := 0#32
  let v32 : BitVec 1 := Scalar.cmpi .eq arg0 c0_i32_13
  let v33 : BitVec 32 := Scalar.extui v32
  let c0_i32_14 : BitVec 32 := 0#32
  let v34 : BitVec 1 := Scalar.cmpi .ne v33 c0_i32_14
  v34

def k2_off10 (v1 : BitVec 32) : Fin 3 → Nat :=
  let c0_i32_23 : BitVec 32 := 0#32
  let c0_i32_24 : BitVec 32 := 0#32
  ![v1.toNat, 0, 0]

def k2_off11 (v1 : BitVec 32) : Fin 3 → Nat :=
  let c0_i32_29 : BitVec 32 := 0#32
  let c0_i32_30 : BitVec 32 := 0#32
  ![v1.toNat, 0, 0]

def k2_chk2 (i : grid2.Coords) (v1 : BitVec 32) : Prop :=
  (∀ (k2_h1 : k2_cond1 i = 1#1), ∀ a, (k2_off10 v1) a + S1x768x3072.size a ≤ S8x768x3072.size a) ∧
  (∀ (k2_h1 : k2_cond1 i = 1#1), ∀ a, (k2_off11 v1) a + S1x3072x768.size a ≤ S8x3072x768.size a)
theorem k2_off10_inb : ∀ (i : grid2.Coords) (v1 : BitVec 32) (k2_hw2 : k2_chk2 i v1), ∀ (k2_h1 : k2_cond1 i = 1#1), ∀ a, (k2_off10 v1) a + S1x768x3072.size a ≤ S8x768x3072.size a := fun i v1 k2_hw2 k2_h1 => k2_hw2.1 k2_h1
theorem k2_off11_inb : ∀ (i : grid2.Coords) (v1 : BitVec 32) (k2_hw2 : k2_chk2 i v1), ∀ (k2_h1 : k2_cond1 i = 1#1), ∀ a, (k2_off11 v1) a + S1x3072x768.size a ≤ S8x3072x768.size a := fun i v1 k2_hw2 k2_h1 => k2_hw2.2 k2_h1

def k2_off12 (v31 : BitVec 32) : Fin 3 → Nat :=
  let c0_i32_50 : BitVec 32 := 0#32
  let c0_i32_51 : BitVec 32 := 0#32
  ![v31.toNat, 0, 0]
def k2_cond2 (v27 : BitVec 32) : BitVec 1 :=
  let c24_i32_12 : BitVec 32 := 24#32
  let v28 : BitVec 1 := Scalar.cmpi .slt v27 c24_i32_12
  let v56 : BitVec 32 := Scalar.extui v28
  let c0_i32_31 : BitVec 32 := 0#32
  let v57 : BitVec 1 := Scalar.cmpi .ne v56 c0_i32_31
  v57

def k2_off13 (v31 : BitVec 32) : Fin 3 → Nat :=
  let c0_i32_56 : BitVec 32 := 0#32
  let c0_i32_57 : BitVec 32 := 0#32
  ![v31.toNat, 0, 0]
def k2_off14 (v9 : BitVec 32) : Fin 1 → Nat :=
  let c2_i32 : BitVec 32 := 2#32
  let v10 : BitVec 32 := Scalar.remsi v9 c2_i32
  ![v10.toNat]
def k2_cond3 (i : grid2.Coords) (v13 : BitVec 32) (v17 : BitVec 32) : BitVec 1 :=
  let arg0 : BitVec 32 := BitVec.ofNat 32 (i 0).val
  let c0_i32_4 : BitVec 32 := 0#32
  let v11 : BitVec 1 := Scalar.cmpi .eq arg0 c0_i32_4
  let v18 : BitVec 1 := Scalar.cmpi .ne v13 v17
  let v19 : BitVec 1 := Scalar.ori v11 v18
  let c0_i32_15 : BitVec 32 := 0#32
  let v35 : BitVec 1 := Scalar.cmpi .sgt arg0 c0_i32_15
  let v36 : BitVec 1 := Scalar.andi v19 v35
  let v37 : BitVec 32 := Scalar.extui v36
  let c0_i32_16 : BitVec 32 := 0#32
  let v38 : BitVec 1 := Scalar.cmpi .ne v37 c0_i32_16
  v38

def k2_off15 (v9 : BitVec 32) : Fin 3 → Nat :=
  let c2_i32 : BitVec 32 := 2#32
  let v10 : BitVec 32 := Scalar.remsi v9 c2_i32
  let c0_i32_20 : BitVec 32 := 0#32
  let c0_i32_21 : BitVec 32 := 0#32
  ![v10.toNat, 0, 0]
def k2_off16 (v9 : BitVec 32) : Fin 3 → Nat :=
  let c2_i32 : BitVec 32 := 2#32
  let v10 : BitVec 32 := Scalar.remsi v9 c2_i32
  let c0_i32_25 : BitVec 32 := 0#32
  let c0_i32_26 : BitVec 32 := 0#32
  ![v10.toNat, 0, 0]

def k2_chk4 (i : grid2.Coords) (v9 : BitVec 32) (v13 : BitVec 32) (v17 : BitVec 32) : Prop :=
  (∀ (k2_h3 : k2_cond3 i v13 v17 = 1#1), ∀ a, (k2_off14 v9) a + S1.size a ≤ S2.size a) ∧
  (∀ (k2_h3 : k2_cond3 i v13 v17 = 1#1), ∀ a, (k2_off15 v9) a + S1x768x3072.size a ≤ S2x768x3072.size a) ∧
  (∀ (k2_h3 : k2_cond3 i v13 v17 = 1#1), ∀ a, (k2_off16 v9) a + S1x3072x768.size a ≤ S2x3072x768.size a)
theorem k2_off14_inb : ∀ (i : grid2.Coords) (v9 : BitVec 32) (v13 : BitVec 32) (v17 : BitVec 32) (k2_hw4 : k2_chk4 i v9 v13 v17), ∀ (k2_h3 : k2_cond3 i v13 v17 = 1#1), ∀ a, (k2_off14 v9) a + S1.size a ≤ S2.size a := fun i v9 v13 v17 k2_hw4 k2_h3 => k2_hw4.1 k2_h3
theorem k2_off15_inb : ∀ (i : grid2.Coords) (v9 : BitVec 32) (v13 : BitVec 32) (v17 : BitVec 32) (k2_hw4 : k2_chk4 i v9 v13 v17), ∀ (k2_h3 : k2_cond3 i v13 v17 = 1#1), ∀ a, (k2_off15 v9) a + S1x768x3072.size a ≤ S2x768x3072.size a := fun i v9 v13 v17 k2_hw4 k2_h3 => k2_hw4.2.1 k2_h3
theorem k2_off16_inb : ∀ (i : grid2.Coords) (v9 : BitVec 32) (v13 : BitVec 32) (v17 : BitVec 32) (k2_hw4 : k2_chk4 i v9 v13 v17), ∀ (k2_h3 : k2_cond3 i v13 v17 = 1#1), ∀ a, (k2_off16 v9) a + S1x3072x768.size a ≤ S2x3072x768.size a := fun i v9 v13 v17 k2_hw4 k2_h3 => k2_hw4.2.2 k2_h3

def k2_off17 (v9 : BitVec 32) : Fin 1 → Nat :=
  let c1_i32_30 : BitVec 32 := 1#32
  let c2_i32 : BitVec 32 := 2#32
  let v10 : BitVec 32 := Scalar.remsi v9 c2_i32
  let v58 : BitVec 32 := Scalar.subi c1_i32_30 v10
  ![v58.toNat]
def k2_cond4 (v27 : BitVec 32) : BitVec 1 :=
  let c24_i32_12 : BitVec 32 := 24#32
  let v28 : BitVec 1 := Scalar.cmpi .slt v27 c24_i32_12
  let v56 : BitVec 32 := Scalar.extui v28
  let c0_i32_29 : BitVec 32 := 0#32
  let v57 : BitVec 1 := Scalar.cmpi .ne v56 c0_i32_29
  v57

def k2_off18 (v9 : BitVec 32) : Fin 3 → Nat :=
  let c1_i32_30 : BitVec 32 := 1#32
  let c2_i32 : BitVec 32 := 2#32
  let v10 : BitVec 32 := Scalar.remsi v9 c2_i32
  let v58 : BitVec 32 := Scalar.subi c1_i32_30 v10
  let c0_i32_31 : BitVec 32 := 0#32
  let c0_i32_32 : BitVec 32 := 0#32
  ![v58.toNat, 0, 0]
def k2_off19 (v31 : BitVec 32) : Fin 3 → Nat :=
  let c0_i32_33 : BitVec 32 := 0#32
  let c0_i32_34 : BitVec 32 := 0#32
  ![v31.toNat, 0, 0]
def k2_off20 (v9 : BitVec 32) : Fin 3 → Nat :=
  let c1_i32_30 : BitVec 32 := 1#32
  let c2_i32 : BitVec 32 := 2#32
  let v10 : BitVec 32 := Scalar.remsi v9 c2_i32
  let v58 : BitVec 32 := Scalar.subi c1_i32_30 v10
  let c0_i32_35 : BitVec 32 := 0#32
  let c0_i32_36 : BitVec 32 := 0#32
  ![v58.toNat, 0, 0]

def k2_chk1 (i : grid2.Coords) (v9 : BitVec 32) (v13 : BitVec 32) (v17 : BitVec 32) (v27 : BitVec 32) : Prop :=
  (∀ a, (k2_off9 v27) a + S1.size a ≤ S24.size a) ∧
  (∀ (k2_h3 : k2_cond3 i v13 v17 = 1#1), ∀ (k2_h4 : k2_cond4 v27 = 1#1), ∀ a, (k2_off17 v9) a + S1.size a ≤ S2.size a) ∧
  (∀ (k2_h3 : k2_cond3 i v13 v17 = 1#1), ∀ (k2_h4 : k2_cond4 v27 = 1#1), ∀ a, (k2_off18 v9) a + S1x768x3072.size a ≤ S2x768x3072.size a) ∧
  (∀ (k2_h3 : k2_cond3 i v13 v17 = 1#1), ∀ (k2_h4 : k2_cond4 v27 = 1#1), ∀ a, (k2_off20 v9) a + S1x3072x768.size a ≤ S2x3072x768.size a)
theorem k2_off9_inb : ∀ (i : grid2.Coords) (v9 : BitVec 32) (v13 : BitVec 32) (v17 : BitVec 32) (v27 : BitVec 32) (k2_hw1 : k2_chk1 i v9 v13 v17 v27), ∀ a, (k2_off9 v27) a + S1.size a ≤ S24.size a := fun i v9 v13 v17 v27 k2_hw1 => k2_hw1.1
theorem k2_off17_inb : ∀ (i : grid2.Coords) (v9 : BitVec 32) (v13 : BitVec 32) (v17 : BitVec 32) (v27 : BitVec 32) (k2_hw1 : k2_chk1 i v9 v13 v17 v27), ∀ (k2_h3 : k2_cond3 i v13 v17 = 1#1), ∀ (k2_h4 : k2_cond4 v27 = 1#1), ∀ a, (k2_off17 v9) a + S1.size a ≤ S2.size a := fun i v9 v13 v17 v27 k2_hw1 k2_h3 k2_h4 => k2_hw1.2.1 k2_h3 k2_h4
theorem k2_off18_inb : ∀ (i : grid2.Coords) (v9 : BitVec 32) (v13 : BitVec 32) (v17 : BitVec 32) (v27 : BitVec 32) (k2_hw1 : k2_chk1 i v9 v13 v17 v27), ∀ (k2_h3 : k2_cond3 i v13 v17 = 1#1), ∀ (k2_h4 : k2_cond4 v27 = 1#1), ∀ a, (k2_off18 v9) a + S1x768x3072.size a ≤ S2x768x3072.size a := fun i v9 v13 v17 v27 k2_hw1 k2_h3 k2_h4 => k2_hw1.2.2.1 k2_h3 k2_h4
theorem k2_off20_inb : ∀ (i : grid2.Coords) (v9 : BitVec 32) (v13 : BitVec 32) (v17 : BitVec 32) (v27 : BitVec 32) (k2_hw1 : k2_chk1 i v9 v13 v17 v27), ∀ (k2_h3 : k2_cond3 i v13 v17 = 1#1), ∀ (k2_h4 : k2_cond4 v27 = 1#1), ∀ a, (k2_off20 v9) a + S1x3072x768.size a ≤ S2x3072x768.size a := fun i v9 v13 v17 v27 k2_hw1 k2_h3 k2_h4 => k2_hw1.2.2.2 k2_h3 k2_h4

def k2_off21 (v31 : BitVec 32) : Fin 3 → Nat :=
  let c0_i32_37 : BitVec 32 := 0#32
  let c0_i32_38 : BitVec 32 := 0#32
  ![v31.toNat, 0, 0]

def k2_chk3 (i : grid2.Coords) (v13 : BitVec 32) (v17 : BitVec 32) (v27 : BitVec 32) (v31 : BitVec 32) : Prop :=
  (∀ (k2_h1 : k2_cond1 i = 1#1), ∀ (k2_h2 : k2_cond2 v27 = 1#1), ∀ a, (k2_off12 v31) a + S1x768x3072.size a ≤ S8x768x3072.size a) ∧
  (∀ (k2_h1 : k2_cond1 i = 1#1), ∀ (k2_h2 : k2_cond2 v27 = 1#1), ∀ a, (k2_off13 v31) a + S1x3072x768.size a ≤ S8x3072x768.size a) ∧
  (∀ (k2_h3 : k2_cond3 i v13 v17 = 1#1), ∀ (k2_h4 : k2_cond4 v27 = 1#1), ∀ a, (k2_off19 v31) a + S1x768x3072.size a ≤ S8x768x3072.size a) ∧
  (∀ (k2_h3 : k2_cond3 i v13 v17 = 1#1), ∀ (k2_h4 : k2_cond4 v27 = 1#1), ∀ a, (k2_off21 v31) a + S1x3072x768.size a ≤ S8x3072x768.size a)
theorem k2_off12_inb : ∀ (i : grid2.Coords) (v13 : BitVec 32) (v17 : BitVec 32) (v27 : BitVec 32) (v31 : BitVec 32) (k2_hw3 : k2_chk3 i v13 v17 v27 v31), ∀ (k2_h1 : k2_cond1 i = 1#1), ∀ (k2_h2 : k2_cond2 v27 = 1#1), ∀ a, (k2_off12 v31) a + S1x768x3072.size a ≤ S8x768x3072.size a := fun i v13 v17 v27 v31 k2_hw3 k2_h1 k2_h2 => k2_hw3.1 k2_h1 k2_h2
theorem k2_off13_inb : ∀ (i : grid2.Coords) (v13 : BitVec 32) (v17 : BitVec 32) (v27 : BitVec 32) (v31 : BitVec 32) (k2_hw3 : k2_chk3 i v13 v17 v27 v31), ∀ (k2_h1 : k2_cond1 i = 1#1), ∀ (k2_h2 : k2_cond2 v27 = 1#1), ∀ a, (k2_off13 v31) a + S1x3072x768.size a ≤ S8x3072x768.size a := fun i v13 v17 v27 v31 k2_hw3 k2_h1 k2_h2 => k2_hw3.2.1 k2_h1 k2_h2
theorem k2_off19_inb : ∀ (i : grid2.Coords) (v13 : BitVec 32) (v17 : BitVec 32) (v27 : BitVec 32) (v31 : BitVec 32) (k2_hw3 : k2_chk3 i v13 v17 v27 v31), ∀ (k2_h3 : k2_cond3 i v13 v17 = 1#1), ∀ (k2_h4 : k2_cond4 v27 = 1#1), ∀ a, (k2_off19 v31) a + S1x768x3072.size a ≤ S8x768x3072.size a := fun i v13 v17 v27 v31 k2_hw3 k2_h3 k2_h4 => k2_hw3.2.2.1 k2_h3 k2_h4
theorem k2_off21_inb : ∀ (i : grid2.Coords) (v13 : BitVec 32) (v17 : BitVec 32) (v27 : BitVec 32) (v31 : BitVec 32) (k2_hw3 : k2_chk3 i v13 v17 v27 v31), ∀ (k2_h3 : k2_cond3 i v13 v17 = 1#1), ∀ (k2_h4 : k2_cond4 v27 = 1#1), ∀ a, (k2_off21 v31) a + S1x3072x768.size a ≤ S8x3072x768.size a := fun i v13 v17 v27 v31 k2_hw3 k2_h3 k2_h4 => k2_hw3.2.2.2 k2_h3 k2_h4

def k2_off22 (i : grid2.Coords) : Fin 1 → Nat :=
  let arg0 : BitVec 32 := BitVec.ofNat 32 (i 0).val
  let v39 : Index := Scalar.indexCast arg0
  ![v39.toNat]
def k2_off23 (v9 : BitVec 32) : Fin 3 → Nat :=
  let c2_i32 : BitVec 32 := 2#32
  let v10 : BitVec 32 := Scalar.remsi v9 c2_i32
  let v46 : Index := Scalar.indexCast v10
  let c0_20 : Index := 0#32
  let c0_21 : Index := 0#32
  ![v46.toNat, 0, 0]
def k2_cond5 (v40 : BitVec 32) : BitVec 1 :=
  let c0_i32_17 : BitVec 32 := 0#32
  let v41 : BitVec 1 := Scalar.cmpi .ne v40 c0_i32_17
  let v42 : BitVec 32 := Scalar.extui v41
  let c0_i32_18 : BitVec 32 := 0#32
  let v43 : BitVec 1 := Scalar.cmpi .ne v42 c0_i32_18
  v43

def k2_off24 (v9 : BitVec 32) : Fin 3 → Nat :=
  let c2_i32 : BitVec 32 := 2#32
  let v10 : BitVec 32 := Scalar.remsi v9 c2_i32
  let v62 : Index := Scalar.indexCast v10
  let c0_28 : Index := 0#32
  let c0_29 : Index := 0#32
  ![v62.toNat, 0, 0]

def k2_chk5 (v9 : BitVec 32) (v40 : BitVec 32) : Prop :=
  (∀ (k2_h5 : k2_cond5 v40 = 1#1), ∀ a, (k2_off23 v9) a + S1x768x3072.size a ≤ S2x768x3072.size a) ∧
  (∀ (k2_h5 : k2_cond5 v40 = 1#1), ∀ a, (k2_off24 v9) a + S1x3072x768.size a ≤ S2x3072x768.size a)
theorem k2_off23_inb : ∀ (v9 : BitVec 32) (v40 : BitVec 32) (k2_hw5 : k2_chk5 v9 v40), ∀ (k2_h5 : k2_cond5 v40 = 1#1), ∀ a, (k2_off23 v9) a + S1x768x3072.size a ≤ S2x768x3072.size a := fun v9 v40 k2_hw5 k2_h5 => k2_hw5.1 k2_h5
theorem k2_off24_inb : ∀ (v9 : BitVec 32) (v40 : BitVec 32) (k2_hw5 : k2_chk5 v9 v40), ∀ (k2_h5 : k2_cond5 v40 = 1#1), ∀ a, (k2_off24 v9) a + S1x3072x768.size a ≤ S2x3072x768.size a := fun v9 v40 k2_hw5 k2_h5 => k2_hw5.2 k2_h5

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (k2_off1_inb : ∀ i : grid2.Coords, ∀ a, (k2_off1 i) a + S1.size a ≤ S24.size a) (numel1_S1 : S1.numel = 1) (pf : pre2.Contents (Elt F)) (i : grid2.Coords) : Fin 3 → Nat :=
  let arg0 : BitVec 32 := BitVec.ofNat 32 (i 0).val
  let v0 : Index := Scalar.indexCast arg0
  let v1 : BitVec 32 := pf.at 0 (Rect.unit (s := S24) ![v0.toNat] S1.size (k2_off1_inb i)) numel1_S1
  let c0_i32 : BitVec 32 := 0#32
  let c0_i32_0 : BitVec 32 := 0#32
  let c0_i32_1 : BitVec 32 := 0#32
  ![v1.toNat, c0_i32.toNat, c0_i32_0.toNat]

def cc2_transform_2 (k2_off1_inb : ∀ i : grid2.Coords, ∀ a, (k2_off1 i) a + S1.size a ≤ S24.size a) (numel1_S1 : S1.numel = 1) (pf : pre2.Contents (Elt F)) (i : grid2.Coords) : Fin 3 → Nat :=
  let arg0 : BitVec 32 := BitVec.ofNat 32 (i 0).val
  let v0 : Index := Scalar.indexCast arg0
  let v1 : BitVec 32 := pf.at 0 (Rect.unit (s := S24) ![v0.toNat] S1.size (k2_off1_inb i)) numel1_S1
  let c0_i32 : BitVec 32 := 0#32
  let c0_i32_0 : BitVec 32 := 0#32
  let c0_i32_1 : BitVec 32 := 0#32
  ![v1.toNat, c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S256x768 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1x1x3072 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1x1x768 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S256x1 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S256x768 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨2, ![2, 16], ![false, false]⟩

def k3_off1 (i : grid3.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  ![v2.toNat]
@[reducible] def k3_t1_loop : Scf.Loop 32 :=
  let c0_i32_111 : BitVec 32 := 0#32
  let c64_i32_112 : BitVec 32 := 64#32
  let v99 : BitVec 32 := Scalar.addi c0_i32_111 c64_i32_112
  let c1_i32_113 : BitVec 32 := 1#32
  ⟨c0_i32_111, v99, c1_i32_113⟩
def k3_off2 (k3_t1 : Fin k3_t1_loop.trips) : Fin 2 → Nat :=
  let c0_i32_111 : BitVec 32 := 0#32
  let c1_i32_113 : BitVec 32 := 1#32
  let arg12 : BitVec 32 := Scf.iv c0_i32_111 c1_i32_113 k3_t1
  let v100 : Index := Scalar.indexCast arg12
  let c0 : Index := 0#32
  ![v100.toNat, 0]
def k3_off3 (k3_t1 : Fin k3_t1_loop.trips) : Fin 2 → Nat :=
  let c0_i32_111 : BitVec 32 := 0#32
  let c1_i32_113 : BitVec 32 := 1#32
  let arg12 : BitVec 32 := Scf.iv c0_i32_111 c1_i32_113 k3_t1
  let v107 : Index := Scalar.indexCast arg12
  let c16 : Index := 16#32
  ![v107.toNat, 16]
def k3_off4 (k3_t1 : Fin k3_t1_loop.trips) : Fin 2 → Nat :=
  let c0_i32_111 : BitVec 32 := 0#32
  let c1_i32_113 : BitVec 32 := 1#32
  let arg12 : BitVec 32 := Scf.iv c0_i32_111 c1_i32_113 k3_t1
  let v114 : Index := Scalar.indexCast arg12
  let c32 : Index := 32#32
  ![v114.toNat, 32]
def k3_off5 (k3_t1 : Fin k3_t1_loop.trips) : Fin 2 → Nat :=
  let c0_i32_111 : BitVec 32 := 0#32
  let c1_i32_113 : BitVec 32 := 1#32
  let arg12 : BitVec 32 := Scf.iv c0_i32_111 c1_i32_113 k3_t1
  let v121 : Index := Scalar.indexCast arg12
  let c48 : Index := 48#32
  ![v121.toNat, 48]
def k3_off6 (k3_t1 : Fin k3_t1_loop.trips) : Fin 2 → Nat :=
  let c0_i32_111 : BitVec 32 := 0#32
  let c1_i32_113 : BitVec 32 := 1#32
  let arg12 : BitVec 32 := Scf.iv c0_i32_111 c1_i32_113 k3_t1
  let v128 : Index := Scalar.indexCast arg12
  let c64 : Index := 64#32
  ![v128.toNat, 64]
def k3_off7 (k3_t1 : Fin k3_t1_loop.trips) : Fin 2 → Nat :=
  let c0_i32_111 : BitVec 32 := 0#32
  let c1_i32_113 : BitVec 32 := 1#32
  let arg12 : BitVec 32 := Scf.iv c0_i32_111 c1_i32_113 k3_t1
  let v135 : Index := Scalar.indexCast arg12
  let c80 : Index := 80#32
  ![v135.toNat, 80]
def k3_off8 (k3_t1 : Fin k3_t1_loop.trips) : Fin 2 → Nat :=
  let c0_i32_111 : BitVec 32 := 0#32
  let c1_i32_113 : BitVec 32 := 1#32
  let arg12 : BitVec 32 := Scf.iv c0_i32_111 c1_i32_113 k3_t1
  let v142 : Index := Scalar.indexCast arg12
  let c96 : Index := 96#32
  ![v142.toNat, 96]
def k3_off9 (k3_t1 : Fin k3_t1_loop.trips) : Fin 2 → Nat :=
  let c0_i32_111 : BitVec 32 := 0#32
  let c1_i32_113 : BitVec 32 := 1#32
  let arg12 : BitVec 32 := Scf.iv c0_i32_111 c1_i32_113 k3_t1
  let v149 : Index := Scalar.indexCast arg12
  let c112 : Index := 112#32
  ![v149.toNat, 112]
def k3_off10 (k3_t1 : Fin k3_t1_loop.trips) : Fin 2 → Nat :=
  let c0_i32_111 : BitVec 32 := 0#32
  let c1_i32_113 : BitVec 32 := 1#32
  let arg12 : BitVec 32 := Scf.iv c0_i32_111 c1_i32_113 k3_t1
  let v156 : Index := Scalar.indexCast arg12
  let c128 : Index := 128#32
  ![v156.toNat, 128]
def k3_off11 (k3_t1 : Fin k3_t1_loop.trips) : Fin 2 → Nat :=
  let c0_i32_111 : BitVec 32 := 0#32
  let c1_i32_113 : BitVec 32 := 1#32
  let arg12 : BitVec 32 := Scf.iv c0_i32_111 c1_i32_113 k3_t1
  let v163 : Index := Scalar.indexCast arg12
  let c144 : Index := 144#32
  ![v163.toNat, 144]
def k3_off12 (k3_t1 : Fin k3_t1_loop.trips) : Fin 2 → Nat :=
  let c0_i32_111 : BitVec 32 := 0#32
  let c1_i32_113 : BitVec 32 := 1#32
  let arg12 : BitVec 32 := Scf.iv c0_i32_111 c1_i32_113 k3_t1
  let v170 : Index := Scalar.indexCast arg12
  let c160 : Index := 160#32
  ![v170.toNat, 160]
def k3_off13 (k3_t1 : Fin k3_t1_loop.trips) : Fin 2 → Nat :=
  let c0_i32_111 : BitVec 32 := 0#32
  let c1_i32_113 : BitVec 32 := 1#32
  let arg12 : BitVec 32 := Scf.iv c0_i32_111 c1_i32_113 k3_t1
  let v177 : Index := Scalar.indexCast arg12
  let c176 : Index := 176#32
  ![v177.toNat, 176]
def k3_off14 (k3_t1 : Fin k3_t1_loop.trips) : Fin 2 → Nat :=
  let c0_i32_111 : BitVec 32 := 0#32
  let c1_i32_113 : BitVec 32 := 1#32
  let arg12 : BitVec 32 := Scf.iv c0_i32_111 c1_i32_113 k3_t1
  let v184 : Index := Scalar.indexCast arg12
  let c192 : Index := 192#32
  ![v184.toNat, 192]
def k3_off15 (k3_t1 : Fin k3_t1_loop.trips) : Fin 2 → Nat :=
  let c0_i32_111 : BitVec 32 := 0#32
  let c1_i32_113 : BitVec 32 := 1#32
  let arg12 : BitVec 32 := Scf.iv c0_i32_111 c1_i32_113 k3_t1
  let v191 : Index := Scalar.indexCast arg12
  let c208 : Index := 208#32
  ![v191.toNat, 208]
def k3_off16 (k3_t1 : Fin k3_t1_loop.trips) : Fin 2 → Nat :=
  let c0_i32_111 : BitVec 32 := 0#32
  let c1_i32_113 : BitVec 32 := 1#32
  let arg12 : BitVec 32 := Scf.iv c0_i32_111 c1_i32_113 k3_t1
  let v198 : Index := Scalar.indexCast arg12
  let c224 : Index := 224#32
  ![v198.toNat, 224]
def k3_off17 (k3_t1 : Fin k3_t1_loop.trips) : Fin 2 → Nat :=
  let c0_i32_111 : BitVec 32 := 0#32
  let c1_i32_113 : BitVec 32 := 1#32
  let arg12 : BitVec 32 := Scf.iv c0_i32_111 c1_i32_113 k3_t1
  let v205 : Index := Scalar.indexCast arg12
  let c240 : Index := 240#32
  ![v205.toNat, 240]
def k3_off18 (k3_t1 : Fin k3_t1_loop.trips) : Fin 2 → Nat :=
  let c0_i32_111 : BitVec 32 := 0#32
  let c1_i32_113 : BitVec 32 := 1#32
  let arg12 : BitVec 32 := Scf.iv c0_i32_111 c1_i32_113 k3_t1
  let v212 : Index := Scalar.indexCast arg12
  let c256 : Index := 256#32
  ![v212.toNat, 256]
def k3_off19 (k3_t1 : Fin k3_t1_loop.trips) : Fin 2 → Nat :=
  let c0_i32_111 : BitVec 32 := 0#32
  let c1_i32_113 : BitVec 32 := 1#32
  let arg12 : BitVec 32 := Scf.iv c0_i32_111 c1_i32_113 k3_t1
  let v219 : Index := Scalar.indexCast arg12
  let c272 : Index := 272#32
  ![v219.toNat, 272]
def k3_off20 (k3_t1 : Fin k3_t1_loop.trips) : Fin 2 → Nat :=
  let c0_i32_111 : BitVec 32 := 0#32
  let c1_i32_113 : BitVec 32 := 1#32
  let arg12 : BitVec 32 := Scf.iv c0_i32_111 c1_i32_113 k3_t1
  let v226 : Index := Scalar.indexCast arg12
  let c288 : Index := 288#32
  ![v226.toNat, 288]
def k3_off21 (k3_t1 : Fin k3_t1_loop.trips) : Fin 2 → Nat :=
  let c0_i32_111 : BitVec 32 := 0#32
  let c1_i32_113 : BitVec 32 := 1#32
  let arg12 : BitVec 32 := Scf.iv c0_i32_111 c1_i32_113 k3_t1
  let v233 : Index := Scalar.indexCast arg12
  let c304 : Index := 304#32
  ![v233.toNat, 304]
def k3_off22 (k3_t1 : Fin k3_t1_loop.trips) : Fin 2 → Nat :=
  let c0_i32_111 : BitVec 32 := 0#32
  let c1_i32_113 : BitVec 32 := 1#32
  let arg12 : BitVec 32 := Scf.iv c0_i32_111 c1_i32_113 k3_t1
  let v240 : Index := Scalar.indexCast arg12
  let c320 : Index := 320#32
  ![v240.toNat, 320]
def k3_off23 (k3_t1 : Fin k3_t1_loop.trips) : Fin 2 → Nat :=
  let c0_i32_111 : BitVec 32 := 0#32
  let c1_i32_113 : BitVec 32 := 1#32
  let arg12 : BitVec 32 := Scf.iv c0_i32_111 c1_i32_113 k3_t1
  let v247 : Index := Scalar.indexCast arg12
  let c336 : Index := 336#32
  ![v247.toNat, 336]
def k3_off24 (k3_t1 : Fin k3_t1_loop.trips) : Fin 2 → Nat :=
  let c0_i32_111 : BitVec 32 := 0#32
  let c1_i32_113 : BitVec 32 := 1#32
  let arg12 : BitVec 32 := Scf.iv c0_i32_111 c1_i32_113 k3_t1
  let v254 : Index := Scalar.indexCast arg12
  let c352 : Index := 352#32
  ![v254.toNat, 352]
def k3_off25 (k3_t1 : Fin k3_t1_loop.trips) : Fin 2 → Nat :=
  let c0_i32_111 : BitVec 32 := 0#32
  let c1_i32_113 : BitVec 32 := 1#32
  let arg12 : BitVec 32 := Scf.iv c0_i32_111 c1_i32_113 k3_t1
  let v261 : Index := Scalar.indexCast arg12
  let c368 : Index := 368#32
  ![v261.toNat, 368]
def k3_off26 (k3_t1 : Fin k3_t1_loop.trips) : Fin 2 → Nat :=
  let c0_i32_111 : BitVec 32 := 0#32
  let c1_i32_113 : BitVec 32 := 1#32
  let arg12 : BitVec 32 := Scf.iv c0_i32_111 c1_i32_113 k3_t1
  let v268 : Index := Scalar.indexCast arg12
  let c384 : Index := 384#32
  ![v268.toNat, 384]
def k3_off27 (k3_t1 : Fin k3_t1_loop.trips) : Fin 2 → Nat :=
  let c0_i32_111 : BitVec 32 := 0#32
  let c1_i32_113 : BitVec 32 := 1#32
  let arg12 : BitVec 32 := Scf.iv c0_i32_111 c1_i32_113 k3_t1
  let v275 : Index := Scalar.indexCast arg12
  let c400 : Index := 400#32
  ![v275.toNat, 400]
def k3_off28 (k3_t1 : Fin k3_t1_loop.trips) : Fin 2 → Nat :=
  let c0_i32_111 : BitVec 32 := 0#32
  let c1_i32_113 : BitVec 32 := 1#32
  let arg12 : BitVec 32 := Scf.iv c0_i32_111 c1_i32_113 k3_t1
  let v282 : Index := Scalar.indexCast arg12
  let c416 : Index := 416#32
  ![v282.toNat, 416]
def k3_off29 (k3_t1 : Fin k3_t1_loop.trips) : Fin 2 → Nat :=
  let c0_i32_111 : BitVec 32 := 0#32
  let c1_i32_113 : BitVec 32 := 1#32
  let arg12 : BitVec 32 := Scf.iv c0_i32_111 c1_i32_113 k3_t1
  let v289 : Index := Scalar.indexCast arg12
  let c432 : Index := 432#32
  ![v289.toNat, 432]
def k3_off30 (k3_t1 : Fin k3_t1_loop.trips) : Fin 2 → Nat :=
  let c0_i32_111 : BitVec 32 := 0#32
  let c1_i32_113 : BitVec 32 := 1#32
  let arg12 : BitVec 32 := Scf.iv c0_i32_111 c1_i32_113 k3_t1
  let v296 : Index := Scalar.indexCast arg12
  let c448 : Index := 448#32
  ![v296.toNat, 448]
def k3_off31 (k3_t1 : Fin k3_t1_loop.trips) : Fin 2 → Nat :=
  let c0_i32_111 : BitVec 32 := 0#32
  let c1_i32_113 : BitVec 32 := 1#32
  let arg12 : BitVec 32 := Scf.iv c0_i32_111 c1_i32_113 k3_t1
  let v303 : Index := Scalar.indexCast arg12
  let c464 : Index := 464#32
  ![v303.toNat, 464]
def k3_off32 (k3_t1 : Fin k3_t1_loop.trips) : Fin 2 → Nat :=
  let c0_i32_111 : BitVec 32 := 0#32
  let c1_i32_113 : BitVec 32 := 1#32
  let arg12 : BitVec 32 := Scf.iv c0_i32_111 c1_i32_113 k3_t1
  let v310 : Index := Scalar.indexCast arg12
  let c480 : Index := 480#32
  ![v310.toNat, 480]
def k3_off33 (k3_t1 : Fin k3_t1_loop.trips) : Fin 2 → Nat :=
  let c0_i32_111 : BitVec 32 := 0#32
  let c1_i32_113 : BitVec 32 := 1#32
  let arg12 : BitVec 32 := Scf.iv c0_i32_111 c1_i32_113 k3_t1
  let v317 : Index := Scalar.indexCast arg12
  let c496 : Index := 496#32
  ![v317.toNat, 496]
def k3_off34 (k3_t1 : Fin k3_t1_loop.trips) : Fin 2 → Nat :=
  let c0_i32_111 : BitVec 32 := 0#32
  let c1_i32_113 : BitVec 32 := 1#32
  let arg12 : BitVec 32 := Scf.iv c0_i32_111 c1_i32_113 k3_t1
  let v324 : Index := Scalar.indexCast arg12
  let c512 : Index := 512#32
  ![v324.toNat, 512]
def k3_off35 (k3_t1 : Fin k3_t1_loop.trips) : Fin 2 → Nat :=
  let c0_i32_111 : BitVec 32 := 0#32
  let c1_i32_113 : BitVec 32 := 1#32
  let arg12 : BitVec 32 := Scf.iv c0_i32_111 c1_i32_113 k3_t1
  let v331 : Index := Scalar.indexCast arg12
  let c528 : Index := 528#32
  ![v331.toNat, 528]
def k3_off36 (k3_t1 : Fin k3_t1_loop.trips) : Fin 2 → Nat :=
  let c0_i32_111 : BitVec 32 := 0#32
  let c1_i32_113 : BitVec 32 := 1#32
  let arg12 : BitVec 32 := Scf.iv c0_i32_111 c1_i32_113 k3_t1
  let v338 : Index := Scalar.indexCast arg12
  let c544 : Index := 544#32
  ![v338.toNat, 544]
def k3_off37 (k3_t1 : Fin k3_t1_loop.trips) : Fin 2 → Nat :=
  let c0_i32_111 : BitVec 32 := 0#32
  let c1_i32_113 : BitVec 32 := 1#32
  let arg12 : BitVec 32 := Scf.iv c0_i32_111 c1_i32_113 k3_t1
  let v345 : Index := Scalar.indexCast arg12
  let c560 : Index := 560#32
  ![v345.toNat, 560]
def k3_off38 (k3_t1 : Fin k3_t1_loop.trips) : Fin 2 → Nat :=
  let c0_i32_111 : BitVec 32 := 0#32
  let c1_i32_113 : BitVec 32 := 1#32
  let arg12 : BitVec 32 := Scf.iv c0_i32_111 c1_i32_113 k3_t1
  let v352 : Index := Scalar.indexCast arg12
  let c576 : Index := 576#32
  ![v352.toNat, 576]
def k3_off39 (k3_t1 : Fin k3_t1_loop.trips) : Fin 2 → Nat :=
  let c0_i32_111 : BitVec 32 := 0#32
  let c1_i32_113 : BitVec 32 := 1#32
  let arg12 : BitVec 32 := Scf.iv c0_i32_111 c1_i32_113 k3_t1
  let v359 : Index := Scalar.indexCast arg12
  let c592 : Index := 592#32
  ![v359.toNat, 592]
def k3_off40 (k3_t1 : Fin k3_t1_loop.trips) : Fin 2 → Nat :=
  let c0_i32_111 : BitVec 32 := 0#32
  let c1_i32_113 : BitVec 32 := 1#32
  let arg12 : BitVec 32 := Scf.iv c0_i32_111 c1_i32_113 k3_t1
  let v366 : Index := Scalar.indexCast arg12
  let c608 : Index := 608#32
  ![v366.toNat, 608]
def k3_off41 (k3_t1 : Fin k3_t1_loop.trips) : Fin 2 → Nat :=
  let c0_i32_111 : BitVec 32 := 0#32
  let c1_i32_113 : BitVec 32 := 1#32
  let arg12 : BitVec 32 := Scf.iv c0_i32_111 c1_i32_113 k3_t1
  let v373 : Index := Scalar.indexCast arg12
  let c624 : Index := 624#32
  ![v373.toNat, 624]
def k3_off42 (k3_t1 : Fin k3_t1_loop.trips) : Fin 2 → Nat :=
  let c0_i32_111 : BitVec 32 := 0#32
  let c1_i32_113 : BitVec 32 := 1#32
  let arg12 : BitVec 32 := Scf.iv c0_i32_111 c1_i32_113 k3_t1
  let v380 : Index := Scalar.indexCast arg12
  let c640 : Index := 640#32
  ![v380.toNat, 640]
def k3_off43 (k3_t1 : Fin k3_t1_loop.trips) : Fin 2 → Nat :=
  let c0_i32_111 : BitVec 32 := 0#32
  let c1_i32_113 : BitVec 32 := 1#32
  let arg12 : BitVec 32 := Scf.iv c0_i32_111 c1_i32_113 k3_t1
  let v387 : Index := Scalar.indexCast arg12
  let c656 : Index := 656#32
  ![v387.toNat, 656]
def k3_off44 (k3_t1 : Fin k3_t1_loop.trips) : Fin 2 → Nat :=
  let c0_i32_111 : BitVec 32 := 0#32
  let c1_i32_113 : BitVec 32 := 1#32
  let arg12 : BitVec 32 := Scf.iv c0_i32_111 c1_i32_113 k3_t1
  let v394 : Index := Scalar.indexCast arg12
  let c672 : Index := 672#32
  ![v394.toNat, 672]
def k3_off45 (k3_t1 : Fin k3_t1_loop.trips) : Fin 2 → Nat :=
  let c0_i32_111 : BitVec 32 := 0#32
  let c1_i32_113 : BitVec 32 := 1#32
  let arg12 : BitVec 32 := Scf.iv c0_i32_111 c1_i32_113 k3_t1
  let v401 : Index := Scalar.indexCast arg12
  let c688 : Index := 688#32
  ![v401.toNat, 688]
def k3_off46 (k3_t1 : Fin k3_t1_loop.trips) : Fin 2 → Nat :=
  let c0_i32_111 : BitVec 32 := 0#32
  let c1_i32_113 : BitVec 32 := 1#32
  let arg12 : BitVec 32 := Scf.iv c0_i32_111 c1_i32_113 k3_t1
  let v408 : Index := Scalar.indexCast arg12
  let c704 : Index := 704#32
  ![v408.toNat, 704]
def k3_off47 (k3_t1 : Fin k3_t1_loop.trips) : Fin 2 → Nat :=
  let c0_i32_111 : BitVec 32 := 0#32
  let c1_i32_113 : BitVec 32 := 1#32
  let arg12 : BitVec 32 := Scf.iv c0_i32_111 c1_i32_113 k3_t1
  let v415 : Index := Scalar.indexCast arg12
  let c720 : Index := 720#32
  ![v415.toNat, 720]
def k3_off48 (k3_t1 : Fin k3_t1_loop.trips) : Fin 2 → Nat :=
  let c0_i32_111 : BitVec 32 := 0#32
  let c1_i32_113 : BitVec 32 := 1#32
  let arg12 : BitVec 32 := Scf.iv c0_i32_111 c1_i32_113 k3_t1
  let v422 : Index := Scalar.indexCast arg12
  let c736 : Index := 736#32
  ![v422.toNat, 736]
def k3_off49 (k3_t1 : Fin k3_t1_loop.trips) : Fin 2 → Nat :=
  let c0_i32_111 : BitVec 32 := 0#32
  let c1_i32_113 : BitVec 32 := 1#32
  let arg12 : BitVec 32 := Scf.iv c0_i32_111 c1_i32_113 k3_t1
  let v429 : Index := Scalar.indexCast arg12
  let c752 : Index := 752#32
  ![v429.toNat, 752]
def k3_off50 (i : grid3.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let c0_i32_115_r2 : BitVec 32 := 0#32
  ![v2.toNat, 0]
abbrev scKind : Fin 2 → Kind := fun | 0 => .scVector | 1 => .scVector | ⟨_ + 2, h⟩ => absurd h (Nat.not_lt.2 (Nat.le_add_left _ _))
abbrev scNCore : Fin 2 → Nat := fun | 0 => 2 | 1 => 2 | ⟨_ + 2, h⟩ => absurd h (Nat.not_lt.2 (Nat.le_add_left _ _))
abbrev scNSub : Fin 2 → Nat := fun | 0 => 16 | 1 => 16 | ⟨_ + 2, h⟩ => absurd h (Nat.not_lt.2 (Nat.le_add_left _ _))
-- ==== WholeReferenceIdeal.lean ====
abbrev S1x2048x768 : Shape := ⟨3, ![1, 2048, 768]⟩
abbrev S768x8 : Shape := ⟨2, ![768, 8]⟩
abbrev S8 : Shape := ⟨1, ![8]⟩
abbrev S8x768x3072 : Shape := ⟨3, ![8, 768, 3072]⟩
abbrev S8x3072 : Shape := ⟨2, ![8, 3072]⟩
abbrev S8x3072x768 : Shape := ⟨3, ![8, 3072, 768]⟩
abbrev S8x768 : Shape := ⟨2, ![8, 768]⟩
abbrev S2048x768 : Shape := ⟨2, ![2048, 768]⟩
abbrev S2048x8 : Shape := ⟨2, ![2048, 8]⟩
abbrev S1x8 : Shape := ⟨2, ![1, 8]⟩
abbrev S_ : Shape := ⟨0, ![]⟩
abbrev S2048 : Shape := ⟨1, ![2048]⟩
abbrev S2048x1 : Shape := ⟨2, ![2048, 1]⟩
abbrev S2048x2 : Shape := ⟨2, ![2048, 2]⟩
abbrev S8x3072x2048 : Shape := ⟨3, ![8, 3072, 2048]⟩
abbrev S8x2048x3072 : Shape := ⟨3, ![8, 2048, 3072]⟩
abbrev S8x1x3072 : Shape := ⟨3, ![8, 1, 3072]⟩
abbrev S8x2048x768 : Shape := ⟨3, ![8, 2048, 768]⟩
abbrev S8x1x768 : Shape := ⟨3, ![8, 1, 768]⟩
abbrev S2048x2x1 : Shape := ⟨3, ![2048, 2, 1]⟩
abbrev S1x1x8 : Shape := ⟨3, ![1, 1, 8]⟩
abbrev S2048x2x8 : Shape := ⟨3, ![2048, 2, 8]⟩
abbrev S1 : Shape := ⟨1, ![1]⟩

abbrev nBuf : Space → Nat
  | .hbm => 144
  | .vmem => 0
  | .smem => 0
  | _ => 0

abbrev hbmTy0_0 (i : Nat) : BufTy := match i % 128 with
  | 0 => ⟨S1x2048x768, .f32⟩
  | 1 => ⟨S768x8, .f32⟩
  | 2 => ⟨S8, .f32⟩
  | 3 => ⟨S8x768x3072, .f32⟩
  | 4 => ⟨S8x3072, .f32⟩
  | 5 => ⟨S8x3072x768, .f32⟩
  | 6 => ⟨S8x768, .f32⟩
  | 7 => ⟨S2048x768, .f32⟩
  | 8 => ⟨S2048x8, .f32⟩
  | 9 => ⟨S1x8, .f32⟩
  | 10 => ⟨S2048x8, .f32⟩
  | 11 => ⟨S2048x8, .f32⟩
  | 12 => ⟨S_, .f32⟩
  | 13 => ⟨S2048, .f32⟩
  | 14 => ⟨S_, .f32⟩
  | 15 => ⟨S2048, .f32⟩
  | 16 => ⟨S2048, .f32⟩
  | 17 => ⟨S2048x1, .f32⟩
  | 18 => ⟨S2048x8, .f32⟩
  | 19 => ⟨S2048x8, .f32⟩
  | 20 => ⟨S2048x8, .f32⟩
  | 21 => ⟨S_, .f32⟩
  | 22 => ⟨S2048, .f32⟩
  | 23 => ⟨S2048x1, .f32⟩
  | 24 => ⟨S2048x8, .f32⟩
  | 25 => ⟨S2048x8, .f32⟩
  | 26 => ⟨S2048x2, .f32⟩
  | 27 => ⟨S2048x2, .i32⟩
  | 28 => ⟨S_, .f32⟩
  | 29 => ⟨S2048, .f32⟩
  | 30 => ⟨S2048x1, .f32⟩
  | 31 => ⟨S2048x2, .f32⟩
  | 32 => ⟨S2048x2, .f32⟩
  | 33 => ⟨S8x3072x2048, .f32⟩
  | 34 => ⟨S8x2048x3072, .f32⟩
  | 35 => ⟨S8x1x3072, .f32⟩
  | 36 => ⟨S8x2048x3072, .f32⟩
  | 37 => ⟨S8x2048x3072, .f32⟩
  | 38 => ⟨S_, .f32⟩
  | 39 => ⟨S8x2048x3072, .f32⟩
  | 40 => ⟨S8x2048x3072, .f32⟩
  | 41 => ⟨S8x2048x3072, .f32⟩
  | 42 => ⟨S_, .f32⟩
  | 43 => ⟨S8x2048x3072, .f32⟩
  | 44 => ⟨S8x2048x3072, .f32⟩
  | 45 => ⟨S8x2048x3072, .f32⟩
  | 46 => ⟨S8x2048x3072, .f32⟩
  | 47 => ⟨S8x2048x768, .f32⟩
  | 48 => ⟨S8x1x768, .f32⟩
  | 49 => ⟨S8x2048x768, .f32⟩
  | 50 => ⟨S8x2048x768, .f32⟩
  | 51 => ⟨S2048, .i32⟩
  | 52 => ⟨S_, .f32⟩
  | 53 => ⟨S2048x768, .f32⟩
  | 54 => ⟨S2048x1, .f32⟩
  | 55 => ⟨S2048x1, .i32⟩
  | 56 => ⟨S2048, .i32⟩
  | 57 => ⟨S_, .i32⟩
  | 58 => ⟨S2048, .i32⟩
  | 59 => ⟨S2048, .i1⟩
  | 60 => ⟨S_, .i32⟩
  | 61 => ⟨S2048, .i32⟩
  | 62 => ⟨S2048, .i32⟩
  | 63 => ⟨S2048, .i32⟩
  | 64 => ⟨S_, .i32⟩
  | 65 => ⟨S2048, .i32⟩
  | 66 => ⟨S2048, .i1⟩
  | 67 => ⟨S_, .i32⟩
  | 68 => ⟨S2048, .i32⟩
  | 69 => ⟨S2048, .i32⟩
  | 70 => ⟨S2048, .i32⟩
  | 71 => ⟨S2048x1, .i32⟩
  | 72 => ⟨S2048x1, .i32⟩
  | 73 => ⟨S2048x2, .i32⟩
  | 74 => ⟨S2048x768, .f32⟩
  | 75 => ⟨S2048x768, .f32⟩
  | 76 => ⟨S2048x768, .f32⟩
  | 77 => ⟨S2048x768, .f32⟩
  | 78 => ⟨S2048x1, .f32⟩
  | 79 => ⟨S2048x1, .i32⟩
  | 80 => ⟨S2048, .i32⟩
  | 81 => ⟨S_, .i32⟩
  | 82 => ⟨S2048, .i32⟩
  | 83 => ⟨S2048, .i1⟩
  | 84 => ⟨S_, .i32⟩
  | 85 => ⟨S2048, .i32⟩
  | 86 => ⟨S2048, .i32⟩
  | 87 => ⟨S2048, .i32⟩
  | 88 => ⟨S_, .i32⟩
  | 89 => ⟨S2048, .i32⟩
  | 90 => ⟨S2048, .i1⟩
  | 91 => ⟨S_, .i32⟩
  | 92 => ⟨S2048, .i32⟩
  | 93 => ⟨S2048, .i32⟩
  | 94 => ⟨S2048, .i32⟩
  | 95 => ⟨S2048x1, .i32⟩
  | 96 => ⟨S2048x1, .i32⟩
  | 97 => ⟨S2048x2, .i32⟩
  | 98 => ⟨S2048x768, .f32⟩
  | 99 => ⟨S2048x768, .f32⟩
  | 100 => ⟨S2048x768, .f32⟩
  | 101 => ⟨S2048x768, .f32⟩
  | 102 => ⟨S2048x2x1, .i32⟩
  | 103 => ⟨S1x1x8, .i32⟩
  | 104 => ⟨S2048x2x8, .i32⟩
  | 105 => ⟨S2048x2x8, .i32⟩
  | 106 => ⟨S2048x2x8, .i1⟩
  | 107 => ⟨S2048x2x8, .f32⟩
  | 108 => ⟨S_, .f32⟩
  | 109 => ⟨S8, .f32⟩
  | 110 => ⟨S_, .f32⟩
  | 111 => ⟨S8, .f32⟩
  | 112 => ⟨S8, .f32⟩
  | 113 => ⟨S_, .i32⟩
  | 114 => ⟨S_, .f32⟩
  | 115 => ⟨S_, .f32⟩
  | 116 => ⟨S1, .f32⟩
  | 117 => ⟨S_, .f32⟩
  | 118 => ⟨S1, .f32⟩
  | 119 => ⟨S1, .f32⟩
  | 120 => ⟨S8, .f32⟩
  | 121 => ⟨S8, .f32⟩
  | 122 => ⟨S8, .f32⟩
  | 123 => ⟨S_, .f32⟩
  | 124 => ⟨S_, .f32⟩
  | 125 => ⟨S_, .f32⟩
  | 126 => ⟨S_, .f32⟩
  | 127 => ⟨S_, .f32⟩
  | _ => ⟨S1x2048x768, .f32⟩

abbrev hbmTy0_1 (i : Nat) : BufTy := match i % 128 with
  | 0 => ⟨S_, .f32⟩
  | 1 => ⟨S_, .f32⟩
  | 2 => ⟨S_, .i1⟩
  | 3 => ⟨S_, .f32⟩
  | 4 => ⟨S_, .f32⟩
  | 5 => ⟨S_, .f32⟩
  | 6 => ⟨S_, .f32⟩
  | 7 => ⟨S_, .f32⟩
  | 8 => ⟨S_, .f32⟩
  | 9 => ⟨S_, .f32⟩
  | 10 => ⟨S_, .f32⟩
  | 11 => ⟨S_, .f32⟩
  | 12 => ⟨S_, .f32⟩
  | 13 => ⟨S_, .f32⟩
  | 14 => ⟨S_, .f32⟩
  | 15 => ⟨S1x2048x768, .f32⟩
  | _ => ⟨S1x2048x768, .f32⟩

abbrev hbmTy (i : Nat) : BufTy := match i / 128 with
  | 0 => hbmTy0_0 i
  | 1 => hbmTy0_1 i
  | _ => ⟨S1x2048x768, .f32⟩

abbrev bufTy : (tb : Table) → Fin (tcTables nBuf tb) → BufTy
  | .hbm, ⟨i, _⟩ => hbmTy i
  | _, _ => ⟨S1x2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_values : Ref sig .tc := ⟨.hbm, 26, rfl⟩
abbrev main_indices : Ref sig .tc := ⟨.hbm, 27, rfl⟩
abbrev main_cst_2 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_3 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_4 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_5 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_c : Ref sig .tc := ⟨.hbm, 57, rfl⟩
abbrev main_v41 : Ref sig .tc := ⟨.hbm, 58, rfl⟩
abbrev main_v42 : Ref sig .tc := ⟨.hbm, 59, rfl⟩
abbrev main_c_6 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_c_7 : Ref sig .tc := ⟨.hbm, 64, rfl⟩
abbrev main_v46 : Ref sig .tc := ⟨.hbm, 65, rfl⟩
abbrev main_v47 : Ref sig .tc := ⟨.hbm, 66, rfl⟩
abbrev main_c_8 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_c_9 : Ref sig .tc := ⟨.hbm, 81, rfl⟩
abbrev main_v61 : Ref sig .tc := ⟨.hbm, 82, rfl⟩
abbrev main_v62 : Ref sig .tc := ⟨.hbm, 83, rfl⟩
abbrev main_c_10 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_c_11 : Ref sig .tc := ⟨.hbm, 88, rfl⟩
abbrev main_v66 : Ref sig .tc := ⟨.hbm, 89, rfl⟩
abbrev main_v67 : Ref sig .tc := ⟨.hbm, 90, rfl⟩
abbrev main_c_12 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_call0_v0 : Ref sig .tc := ⟨.hbm, 102, rfl⟩
abbrev main_call0_v1 : Ref sig .tc := ⟨.hbm, 103, rfl⟩
abbrev main_call0_v2 : Ref sig .tc := ⟨.hbm, 104, rfl⟩
abbrev main_call0_v3 : Ref sig .tc := ⟨.hbm, 105, rfl⟩
abbrev main_call0_v4 : Ref sig .tc := ⟨.hbm, 106, rfl⟩
abbrev main_v78 : Ref sig .tc := ⟨.hbm, 107, rfl⟩
abbrev main_cst_13 : Ref sig .tc := ⟨.hbm, 108, rfl⟩
abbrev main_v79 : Ref sig .tc := ⟨.hbm, 109, rfl⟩
abbrev main_cst_14 : Ref sig .tc := ⟨.hbm, 110, rfl⟩
abbrev main_v80 : Ref sig .tc := ⟨.hbm, 111, rfl⟩
abbrev main_v81 : Ref sig .tc := ⟨.hbm, 112, rfl⟩
abbrev main_c_15 : Ref sig .tc := ⟨.hbm, 113, rfl⟩
abbrev main_call1_call0_cst : Ref sig .tc := ⟨.hbm, 114, rfl⟩
abbrev main_call1_call0_v0 : Ref sig .tc := ⟨.hbm, 115, rfl⟩
abbrev main_call1_call0_v1 : Ref sig .tc := ⟨.hbm, 116, rfl⟩
abbrev main_call1_call0_cst_0 : Ref sig .tc := ⟨.hbm, 117, rfl⟩
abbrev main_call1_call0_v2 : Ref sig .tc := ⟨.hbm, 118, rfl⟩
abbrev main_call1_call0_v3 : Ref sig .tc := ⟨.hbm, 119, rfl⟩
abbrev main_call1_call0_v4 : Ref sig .tc := ⟨.hbm, 120, rfl⟩
abbrev main_call1_call0_v5 : Ref sig .tc := ⟨.hbm, 121, rfl⟩
abbrev main_call1_call0_v6 : Ref sig .tc := ⟨.hbm, 122, rfl⟩
abbrev main_call1_call0_v7 : Ref sig .tc := ⟨.hbm, 123, rfl⟩
abbrev main_call1_call0_cst_1 : Ref sig .tc := ⟨.hbm, 124, rfl⟩
abbrev main_call1_call0_v8 : Ref sig .tc := ⟨.hbm, 125, rfl⟩
abbrev main_call1_call0_cst_2 : Ref sig .tc := ⟨.hbm, 126, rfl⟩
abbrev main_call1_call0_v9 : Ref sig .tc := ⟨.hbm, 127, rfl⟩
abbrev main_call1_call0_v10 : Ref sig .tc := ⟨.hbm, 128, rfl⟩
abbrev main_call1_call0_cst_3 : Ref sig .tc := ⟨.hbm, 129, rfl⟩
abbrev main_call1_call0_v11 : Ref sig .tc := ⟨.hbm, 130, rfl⟩
abbrev main_call1_call0_cst_4 : Ref sig .tc := ⟨.hbm, 131, rfl⟩
abbrev main_call1_call0_call0_v0 : Ref sig .tc := ⟨.hbm, 132, rfl⟩
abbrev main_call1_v0 : Ref sig .tc := ⟨.hbm, 133, rfl⟩
abbrev main_v82 : Ref sig .tc := ⟨.hbm, 134, rfl⟩
abbrev main_cst_16 : Ref sig .tc := ⟨.hbm, 135, rfl⟩
abbrev main_v83 : Ref sig .tc := ⟨.hbm, 136, rfl⟩
abbrev main_cst_17 : Ref sig .tc := ⟨.hbm, 137, rfl⟩
abbrev main_v84 : Ref sig .tc := ⟨.hbm, 138, rfl⟩
abbrev main_cst_18 : Ref sig .tc := ⟨.hbm, 139, rfl⟩
abbrev main_v85 : Ref sig .tc := ⟨.hbm, 140, rfl⟩
abbrev main_v86 : Ref sig .tc := ⟨.hbm, 141, rfl⟩
abbrev main_v87 : Ref sig .tc := ⟨.hbm, 142, rfl⟩
abbrev main_v88 : Ref sig .tc := ⟨.hbm, 143, rfl⟩

abbrev nD : Nat := 1
abbrev τ : Topo := Topo.v7x

variable {F : FTy → Type} [FloatOps F]
-- ==== Proof.Setup.lean ====
/-
  The set-up of the kernel's run: the program as the launch theorem sees it, the ghost state, the buffers the task
  names, and the values the proof speaks of — the rows an index list names, and the sum of two such rows.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Writes
public import Idealize.ShloMosaic.Lib.Tactic
public import proofs.«01_k».proof.Proof.Gen.KernelIdeal
public import proofs.«01_k».proof.Proof.Gen.KernelIdeal.Skeleton

@[expose] public section

noncomputable section

namespace Cert.Proof.Combine

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The call's semaphores and buffers are placed as the launch asks. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The buffers -/

abbrev yLoc (d : Dev nD) : Loc nD τ sig := (SparseCore.T d).loc main_arg0
abbrev aLoc (d : Dev nD) : Loc nD τ sig := (SparseCore.T d).loc main_arg1
abbrev bLoc (d : Dev nD) : Loc nD τ sig := (SparseCore.T d).loc main_arg2
abbrev oLoc (d : Dev nD) : Loc nD τ sig := (SparseCore.T d).loc main_v0

/-- The table, the two position lists and the result, and the task's scratch: its two lists, its two blocks of rows. -/
abbrev yV : Memref sig .scVector .hbm S6144x768 .f32 := Memref.whole main_arg0_scv
abbrev aV : Memref sig .scVector .hbm S2048 .i32 := Memref.whole main_arg1_scv
abbrev bV : Memref sig .scVector .hbm S2048 .i32 := Memref.whole main_arg2_scv
abbrev oV : Memref sig .scVector .hbm S2048x768 .f32 := Memref.whole main_v0_scv
abbrev paV : Memref sig .scVector .vmem S64 .i32 := Memref.whole cc0_scratch0
abbrev pbV : Memref sig .scVector .vmem S64 .i32 := Memref.whole cc0_scratch1
abbrev raV : Memref sig .scVector .vmem S64x768 .f32 := Memref.whole cc0_scratch2
abbrev rbV : Memref sig .scVector .vmem S64x768 .f32 := Memref.whole cc0_scratch3

abbrev cV (L : grid0.Coords) : Fin τ.nSC := (L 0).castLE hcore0
abbrev jV (L : grid0.Coords) : Fin τ.nSub := (L 1).castLE hsub0
/-- The subcore a task runs on. -/
abbrev thr (d : Dev nD) (L : grid0.Coords) : Thread nD τ := V d (cV L) (jV L)

/-- The rows a task adds up: task `(c, i)` is number `2 i + c`. -/
abbrev wL (L : grid0.Coords) : Fin 32 := ⟨2 * (L 1).val + (L 0).val, by
  have h0 : (L 0).val < 2 := (L 0).isLt
  have h1 : (L 1).val < 16 := (L 1).isLt
  omega⟩

/-! ## Values -/

/-- Element `n` of a list of 2048. -/
def ix1 (n : Fin 2048) : S2048.Idx := fun | 0 => n

/-- Column `k` of the table's row that a position names (a position past the table is the last row). -/
def rowIx (v : BitVec 32) (k : Fin 768) : S6144x768.Idx := fun
  | 0 => ⟨min v.toNat 6143, by show _ < 6144; omega⟩
  | 1 => k

/-- The combined rows: row `t` is the table's row named by `pa t` plus the row named by `pb t`. -/
def comb [FloatOps F] (ys : S6144x768.Idx → Elt F .f32) (pa pb : S2048.Idx → Elt F .i32) : S2048x768.Idx → Elt F .f32 :=
  fun y => FloatOps.addf (ys (rowIx (pa (ix1 (y 0))) (y 1))) (ys (rowIx (pb (ix1 (y 0))) (y 1)))

/-! ## Shares: a share cut into six and into twelve -/

section Shares
variable {ℓ : Loc nD τ sig}

/-- Elements held at a share are held at its six pieces. -/
theorem pointsTo_six (I : Finset (Idx ℓ)) (f : Buf (Elt F) ℓ) (q : PosShare TreeShare) :
    (ℓ ↦[I]{q} f : sProp 𝕄) = iprop((ℓ ↦[I]{pieceOf q 6 (by omega) 0} f) ∗ (ℓ ↦[I]{pieceOf q 6 (by omega) 1} f)
      ∗ (ℓ ↦[I]{pieceOf q 6 (by omega) 2} f) ∗ (ℓ ↦[I]{pieceOf q 6 (by omega) 3} f)
      ∗ (ℓ ↦[I]{pieceOf q 6 (by omega) 4} f) ∗ (ℓ ↦[I]{pieceOf q 6 (by omega) 5} f)) := by
  rw [pointsTo_piecesOf I f (o := 6) (by omega) q]
  simp only [bigSep_univ_succ, bigSep_univ_of_subsingleton (0 : Fin 1)]
  rfl

end Shares

end Cert.Proof.Combine
-- ==== Proof.Trip.lean ====
/-
  One trip of the task's loop: row `t` of the first block of gathered rows becomes its sum with row `t` of the second,
  sixteen columns at a time.
-/
module

public import proofs.«01_k».proof.Proof.Setup
@[expose] public section
noncomputable section
namespace Cert.Proof.Combine
open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
variable {F : FTy → Type}
local notation "𝕄" => MT nD τ sig (HIx 1) (Elt F) ℕ UU ℕ
variable [FloatOps F]

/-! ## A row's strips -/

/-- The first block with its rows below `n` summed with the second's. -/
def acc (n : Nat) (f g : S64x768.Idx → Elt F .f32) : S64x768.Idx → Elt F .f32 :=
  fun y => if (y 0).val < n then FloatOps.addf (f y) (g y) else f y

/-- The first block with the columns below `16 n` of row `t` summed with the second's. -/
def mid (t n : Nat) (f g : S64x768.Idx → Elt F .f32) : S64x768.Idx → Elt F .f32 :=
  fun y => if (y 0).val = t ∧ (y 1).val < 16 * n then FloatOps.addf (f y) (g y) else f y

theorem mid_acc (t : Nat) (f g : S64x768.Idx → Elt F .f32) : mid t 48 (acc t f g) g = acc (t + 1) f g := by
  funext y
  have h1 : (y 1).val < 768 := (y 1).isLt
  unfold mid acc
  by_cases h : (y 0).val = t
  · rw [if_pos ⟨h, by omega⟩, if_neg (by omega), if_pos (by omega)]
  · rw [if_neg (fun hh => h hh.1)]
    by_cases h' : (y 0).val < t
    · rw [if_pos h', if_pos (by omega)]
    · rw [if_neg h', if_neg (by omega)]

/-- A store of strip `n` of row `t` — the sum of the two blocks' strips — takes the columns below `16 n` to those
    below `16 (n + 1)`. -/
theorem mid_step (t n : Nat) (f g : S64x768.Idx → Elt F .f32) (off : Fin 2 → Nat) (inb : ∀ a, off a + S1x16.size a ≤ S64x768.size a)
    (w : S1x16.Idx → Elt F .f32) (Lw : List (View.Piece (Elt F) S64x768 .f32)) (hoff : off = ![t, 16 * n])
    (hw : w = shapeCast S1x16 (addf (shapeCast S16 ((raV).view.readAt (Elt F) (Rect.unit (s := S64x768) off S1x16.size inb).toLoadRect f) shapeCasts_S1x16_S16)
      (shapeCast S16 ((rbV).view.readAt (Elt F) (Rect.unit (s := S64x768) off S1x16.size inb).toLoadRect g) shapeCasts_S1x16_S16)) shapeCasts_S16_S1x16)
    (ih : (raV).view.writes (Elt F) f Lw = mid t n f g) :
    (raV).view.writes (Elt F) f (⟨Rect.unit (s := S64x768) off S1x16.size inb, w⟩ :: Lw) = mid t (n + 1) f g := by
  subst hw
  funext y
  have hread : ∀ h : S64x768.Idx → Elt F .f32, h y = (raV).view.read (Elt F) h y := fun h => (congrFun (View.read_whole (cc0_scratch2 : Ref sig .scVector) h) y).symm
  rw [hread ((raV).view.writes (Elt F) f _)]
  by_cases hy : (y 0).val = t ∧ 16 * n ≤ (y 1).val ∧ (y 1).val < 16 * n + 16
  · obtain ⟨h0, h1, h2⟩ := hy
    have hx : ∀ a, (y a).val = (Rect.unit (s := S64x768) off S1x16.size inb).off a + (Rect.unit (s := S64x768) off S1x16.size inb).stride a
        * ((fun | 0 => ⟨0, by show 0 < 1; omega⟩ | 1 => ⟨(y 1).val - 16 * n, by show _ < 16; omega⟩ : (Rect.unit (s := S64x768) off S1x16.size inb).shape.Idx) a).val := by
      subst hoff
      intro a
      match a with
      | 0 => show (y 0).val = t + 1 * 0; omega
      | 1 => show (y 1).val = 16 * n + 1 * ((y 1).val - 16 * n); omega
    rw [View.read_writes_cons_hit_of_coords _ _ _ _ _ _ y hx]
    have he := (Rect.unit (s := S64x768) off S1x16.size inb).emb_eq_of_coords _ y hx
    unfold mid
    rw [if_pos ⟨h0, by omega⟩]
    have hc : ∀ x : S1x16.Idx, Shape.reshapeEquiv shapeCasts_S1x16_S16 (Shape.reshapeEquiv shapeCasts_S16_S1x16 x) = x := fun x => by
      rw [Shape.reshapeEquiv_reshapeEquiv]; exact Shape.reshapeEquiv_self _ x
    show FloatOps.addf ((raV).view.readAt (Elt F) _ f (Shape.reshapeEquiv _ (Shape.reshapeEquiv _ _))) ((rbV).view.readAt (Elt F) _ g (Shape.reshapeEquiv _ (Shape.reshapeEquiv _ _))) = _
    rw [hc]
    exact congrArg₂ FloatOps.addf (congrArg f he) (congrArg g he)
  · rw [View.read_writes_cons_miss, ih, ← hread]
    · unfold mid
      by_cases h : (y 0).val = t ∧ (y 1).val < 16 * n
      · rw [if_pos h, if_pos ⟨h.1, by omega⟩]
      · rw [if_neg h, if_neg (by intro h'; exact hy ⟨h'.1, by omega, by omega⟩)]
    · subst hoff
      intro hm
      obtain ⟨j0, hj0, e0⟩ := (Rect.unit (s := S64x768) ![t, 16 * n] S1x16.size inb).mem_set.mp hm 0
      obtain ⟨j1, hj1, e1⟩ := (Rect.unit (s := S64x768) ![t, 16 * n] S1x16.size inb).mem_set.mp hm 1
      refine hy ⟨?_, ?_, ?_⟩
      · have : j0 < 1 := hj0
        have e0' : (y 0).val = t + 1 * j0 := e0
        omega
      · have e1' : (y 1).val = 16 * n + 1 * j1 := e1
        omega
      · have : j1 < 16 := hj1
        have e1' : (y 1).val = 16 * n + 1 * j1 := e1
        omega

set_option maxHeartbeats 8000000 in
/-- One trip: from both blocks whole, row `t` of the first becomes its sum with row `t` of the second. -/
theorem trip (d : Dev nD) (L : grid0.Coords) (t : Fin k0_t1_loop.trips) (f : Buf (Elt F) ((thr d L).loc cc0_scratch2)) (g : Buf (Elt F) ((thr d L).loc cc0_scratch3)) :
    iprop(((raV).view.loc (thr d L) ↦{fullShare} f) ∗ ((rbV).view.loc (thr d L) ↦{fullShare} g))
      ⊢ (wp frame (wpE (defs₀ (F := F)) 𝒱₀ (thr d L) none) Set.univ
          (k0_t1_body (F := F) L yV (Memref.isWhole_whole _) aV (Memref.isWhole_whole _) bV (Memref.isWhole_whole _) oV (Memref.isWhole_whole _)
            paV (Memref.isWhole_whole _) pbV (Memref.isWhole_whole _) raV (Memref.isWhole_whole _) rbV (Memref.isWhole_whole _)
            cc0_scratch4 cc0_scratch5 cc0_scoped0 cc0_scoped1 cc0_scoped2 t ⟨⟩)
          fun _ => iprop(((raV).view.loc (thr d L) ↦{fullShare} (mid t.val 48 f g : S64x768.Idx → Elt F .f32)) ∗ ((rbV).view.loc (thr d L) ↦{fullShare} g)) : sProp 𝕄) := by
  unfold k0_t1_body
  iintro ⟨Ha, Hb⟩
  sl_exec
  sl_step
  isplitr [Hb]
  · iapply (Entails.of_eq (congrArg (fun h : Buf (Elt F) ((raV).view.loc (thr d L)) => ((raV).view.loc (thr d L) ↦{fullShare} h : sProp 𝕄)) ?_))
    swap; · iexact Ha
    refine mid_step t.val 47 f g _ _ _ _ (k0_off49_eq t) rfl ?_
    refine mid_step t.val 46 f g _ _ _ _ (k0_off48_eq t) rfl ?_
    refine mid_step t.val 45 f g _ _ _ _ (k0_off47_eq t) rfl ?_
    refine mid_step t.val 44 f g _ _ _ _ (k0_off46_eq t) rfl ?_
    refine mid_step t.val 43 f g _ _ _ _ (k0_off45_eq t) rfl ?_
    refine mid_step t.val 42 f g _ _ _ _ (k0_off44_eq t) rfl ?_
    refine mid_step t.val 41 f g _ _ _ _ (k0_off43_eq t) rfl ?_
    refine mid_step t.val 40 f g _ _ _ _ (k0_off42_eq t) rfl ?_
    refine mid_step t.val 39 f g _ _ _ _ (k0_off41_eq t) rfl ?_
    refine mid_step t.val 38 f g _ _ _ _ (k0_off40_eq t) rfl ?_
    refine mid_step t.val 37 f g _ _ _ _ (k0_off39_eq t) rfl ?_
    refine mid_step t.val 36 f g _ _ _ _ (k0_off38_eq t) rfl ?_
    refine mid_step t.val 35 f g _ _ _ _ (k0_off37_eq t) rfl ?_
    refine mid_step t.val 34 f g _ _ _ _ (k0_off36_eq t) rfl ?_
    refine mid_step t.val 33 f g _ _ _ _ (k0_off35_eq t) rfl ?_
    refine mid_step t.val 32 f g _ _ _ _ (k0_off34_eq t) rfl ?_
    refine mid_step t.val 31 f g _ _ _ _ (k0_off33_eq t) rfl ?_
    refine mid_step t.val 30 f g _ _ _ _ (k0_off32_eq t) rfl ?_
    refine mid_step t.val 29 f g _ _ _ _ (k0_off31_eq t) rfl ?_
    refine mid_step t.val 28 f g _ _ _ _ (k0_off30_eq t) rfl ?_
    refine mid_step t.val 27 f g _ _ _ _ (k0_off29_eq t) rfl ?_
    refine mid_step t.val 26 f g _ _ _ _ (k0_off28_eq t) rfl ?_
    refine mid_step t.val 25 f g _ _ _ _ (k0_off27_eq t) rfl ?_
    refine mid_step t.val 24 f g _ _ _ _ (k0_off26_eq t) rfl ?_
    refine mid_step t.val 23 f g _ _ _ _ (k0_off25_eq t) rfl ?_
    refine mid_step t.val 22 f g _ _ _ _ (k0_off24_eq t) rfl ?_
    refine mid_step t.val 21 f g _ _ _ _ (k0_off23_eq t) rfl ?_
    refine mid_step t.val 20 f g _ _ _ _ (k0_off22_eq t) rfl ?_
    refine mid_step t.val 19 f g _ _ _ _ (k0_off21_eq t) rfl ?_
    refine mid_step t.val 18 f g _ _ _ _ (k0_off20_eq t) rfl ?_
    refine mid_step t.val 17 f g _ _ _ _ (k0_off19_eq t) rfl ?_
    refine mid_step t.val 16 f g _ _ _ _ (k0_off18_eq t) rfl ?_
    refine mid_step t.val 15 f g _ _ _ _ (k0_off17_eq t) rfl ?_
    refine mid_step t.val 14 f g _ _ _ _ (k0_off16_eq t) rfl ?_
    refine mid_step t.val 13 f g _ _ _ _ (k0_off15_eq t) rfl ?_
    refine mid_step t.val 12 f g _ _ _ _ (k0_off14_eq t) rfl ?_
    refine mid_step t.val 11 f g _ _ _ _ (k0_off13_eq t) rfl ?_
    refine mid_step t.val 10 f g _ _ _ _ (k0_off12_eq t) rfl ?_
    refine mid_step t.val 9 f g _ _ _ _ (k0_off11_eq t) rfl ?_
    refine mid_step t.val 8 f g _ _ _ _ (k0_off10_eq t) rfl ?_
    refine mid_step t.val 7 f g _ _ _ _ (k0_off9_eq t) rfl ?_
    refine mid_step t.val 6 f g _ _ _ _ (k0_off8_eq t) rfl ?_
    refine mid_step t.val 5 f g _ _ _ _ (k0_off7_eq t) rfl ?_
    refine mid_step t.val 4 f g _ _ _ _ (k0_off6_eq t) rfl ?_
    refine mid_step t.val 3 f g _ _ _ _ (k0_off5_eq t) rfl ?_
    refine mid_step t.val 2 f g _ _ _ _ (k0_off4_eq t) rfl ?_
    refine mid_step t.val 1 f g _ _ _ _ (k0_off3_eq t) rfl ?_
    refine mid_step t.val 0 f g _ _ _ _ (k0_off2_eq t) rfl ?_
    · funext y
      exact (if_neg (fun h => absurd h.2 (by omega))).symm
  · iexact Hb

end Cert.Proof.Combine
-- ==== Proof.Blocks.lean ====
/-
  What the gathers land: six strips of 128 columns, strip `j` of row `r` from the table's row named by entry `r` of the
  list, are together the block whose row `r` is that row of the table.
-/
module

public import proofs.«01_k».proof.Proof.Trip

@[expose] public section
noncomputable section
namespace Cert.Proof.Combine
open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
variable {F : FTy → Type}
local notation "𝕄" => MT nD τ sig (HIx 1) (Elt F) ℕ UU ℕ
variable [FloatOps F]

/-- Entry `n` of a list of 64. -/
def ix64 (n : Fin 64) : S64.Idx := fun | 0 => n

/-- The block of rows a list names: row `r` is the table's row named by entry `r`. -/
def blk (ys : S6144x768.Idx → Elt F .f32) (p : S64.Idx → Elt F .i32) : S64x768.Idx → Elt F .f32 :=
  fun y => ys (rowIx (p (ix64 (y 0))) (y 1))

omit [FloatOps F] in
theorem rowMajor_symm_64 (k : Fin S64.numel) : S64.rowMajor.symm k = ix64 (k.cast (by decide)) := by
  rw [Equiv.symm_apply_eq]
  exact Fin.ext (Shape.rowMajor_val_one (ix64 (k.cast (by decide)))).symm

omit [FloatOps F] in
/-- Strip `o` of the table, gathered by a list, is strip `o` of the block the list names. -/
theorem strip_val (ys : S6144x768.Idx → Elt F .f32) (p : S64.Idx → Elt F .i32) (o : ℕ)
    (inb : ∀ a, (![0, o] : Fin 2 → ℕ) a + S6144x128.size a ≤ S6144x768.size a) (inb' : ∀ a, (![0, o] : Fin 2 → ℕ) a + S64x128.size a ≤ S64x768.size a)
    (hn : S64.numel = S64x128.size gathers_S6144x128_S64x128.axis') (hin : ∀ x, (p x : BitVec 32).toNat < S6144x128.size gathers_S6144x128_S64x128.axis)
    (x : S64x128.Idx) :
    SparseCore.gatherPayload (F := F) (e := .f32) gathers_S6144x128_S64x128
        (fun i => ys ((Rect.unit (s := S6144x768) ![0, o] S6144x128.size inb).emb i)) (SparseCore.rows (F := F) p hn hin) x
      = blk ys p ((Rect.unit (s := S64x768) ![0, o] S64x128.size inb').emb x) := by
  refine congrArg ys (funext fun a => Fin.ext ?_)
  match a with
  | 0 =>
    show 0 + 1 * (Shape.Gathers.idx gathers_S6144x128_S64x128 (SparseCore.rows (F := F) p hn hin) x gathers_S6144x128_S64x128.axis).val = _
    rw [Shape.Gathers.idx_axis]
    have hp : (SparseCore.rows (F := F) p hn hin (x gathers_S6144x128_S64x128.axis')).val = (p (ix64 (x 0)) : BitVec 32).toNat := by
      exact congrArg (fun i => (p i : BitVec 32).toNat) (rowMajor_symm_64 ((x gathers_S6144x128_S64x128.axis').cast hn.symm))
    have hlt : (p (ix64 (x 0)) : BitVec 32).toNat < 6144 := hin _
    have he : (Rect.unit (s := S64x768) ![0, o] S64x128.size inb').emb x 0 = x 0 := Fin.ext (show 0 + 1 * (x 0).val = (x 0).val by omega)
    show 0 + 1 * (SparseCore.rows (F := F) p hn hin (x gathers_S6144x128_S64x128.axis')).val
      = min (p (ix64 ((Rect.unit (s := S64x768) ![0, o] S64x128.size inb').emb x 0)) : BitVec 32).toNat 6143
    rw [hp, he]
    omega
  | 1 =>
    show o + 1 * (Shape.Gathers.idx gathers_S6144x128_S64x128 (SparseCore.rows (F := F) p hn hin) x 1).val = _
    rw [Shape.Gathers.idx_of_ne _ _ _ (b := (1 : Fin S6144x128.rank)) (by decide)]
    rfl

/-- A block written strip by strip with the strips of `G` reads `G`. -/
theorem strips_read {κ : Kind} {sp : Space} (v : View sig κ sp S64x768 .f32) (f : v.ty.Contents (Elt F)) (G : S64x768.Idx → Elt F .f32)
    (w0 w1 w2 w3 w4 w5 : S64x128.Idx → Elt F .f32)
    (h0 : ∀ x, w0 x = G ((Rect.unit (s := S64x768) ![0, 0] S64x128.size inb_S64x768_S64x128_0_0).emb x))
    (h1 : ∀ x, w1 x = G ((Rect.unit (s := S64x768) ![0, 128] S64x128.size inb_S64x768_S64x128_0_128).emb x))
    (h2 : ∀ x, w2 x = G ((Rect.unit (s := S64x768) ![0, 256] S64x128.size inb_S64x768_S64x128_0_256).emb x))
    (h3 : ∀ x, w3 x = G ((Rect.unit (s := S64x768) ![0, 384] S64x128.size inb_S64x768_S64x128_0_384).emb x))
    (h4 : ∀ x, w4 x = G ((Rect.unit (s := S64x768) ![0, 512] S64x128.size inb_S64x768_S64x128_0_512).emb x))
    (h5 : ∀ x, w5 x = G ((Rect.unit (s := S64x768) ![0, 640] S64x128.size inb_S64x768_S64x128_0_640).emb x)) (y : S64x768.Idx) :
    v.read (Elt F) (v.writes (Elt F) f
      [⟨Rect.unit (s := S64x768) ![0, 640] S64x128.size inb_S64x768_S64x128_0_640, w5⟩, ⟨Rect.unit (s := S64x768) ![0, 512] S64x128.size inb_S64x768_S64x128_0_512, w4⟩,
        ⟨Rect.unit (s := S64x768) ![0, 384] S64x128.size inb_S64x768_S64x128_0_384, w3⟩, ⟨Rect.unit (s := S64x768) ![0, 256] S64x128.size inb_S64x768_S64x128_0_256, w2⟩,
        ⟨Rect.unit (s := S64x768) ![0, 128] S64x128.size inb_S64x768_S64x128_0_128, w1⟩, ⟨Rect.unit (s := S64x768) ![0, 0] S64x128.size inb_S64x768_S64x128_0_0, w0⟩]) y = G y := by
  refine View.read_writes_apply_of_pieces v f G _ ?_ y ?_
  · simp only [List.forall_mem_cons]
    exact ⟨h5, h4, h3, h2, h1, h0, fun p hp => absurd hp List.not_mem_nil⟩
  · have hy1 : (y 1).val < 768 := (y 1).isLt
    have hy0 : (y 0).val < 64 := (y 0).isLt
    have key : ∀ (o : ℕ) (inb : ∀ a, (![0, o] : Fin 2 → ℕ) a + S64x128.size a ≤ S64x768.size a), o ≤ (y 1).val → (y 1).val < o + 128 →
        y ∈ (Rect.unit (s := S64x768) ![0, o] S64x128.size inb).set := fun o inb hl hu =>
      (Rect.unit (s := S64x768) ![0, o] S64x128.size inb).mem_set.mpr fun a => by
        match a with
        | 0 => exact ⟨(y 0).val, hy0, show (y 0).val = 0 + 1 * (y 0).val by omega⟩
        | 1 => exact ⟨(y 1).val - o, show _ < 128 by omega, show (y 1).val = o + 1 * ((y 1).val - o) by omega⟩
    simp only [List.exists_mem_cons_iff]
    rcases Nat.lt_or_ge (y 1).val 128 with h | h
    · exact .inr (.inr (.inr (.inr (.inr (.inl (key 0 _ (by omega) (by omega)))))))
    rcases Nat.lt_or_ge (y 1).val 256 with h' | h'
    · exact .inr (.inr (.inr (.inr (.inl (key 128 _ (by omega) (by omega))))))
    rcases Nat.lt_or_ge (y 1).val 384 with h'' | h''
    · exact .inr (.inr (.inr (.inl (key 256 _ (by omega) (by omega)))))
    rcases Nat.lt_or_ge (y 1).val 512 with h3' | h3'
    · exact .inr (.inr (.inl (key 384 _ (by omega) (by omega))))
    rcases Nat.lt_or_ge (y 1).val 640 with h4' | h4'
    · exact .inr (.inl (key 512 _ (by omega) (by omega)))
    · exact .inl (key 640 _ (by omega) (by omega))

theorem acc_zero (f g : S64x768.Idx → Elt F .f32) : acc 0 f g = f := by
  funext y; exact if_neg (Nat.not_lt_zero _)

theorem acc_full (f g : S64x768.Idx → Elt F .f32) : acc 64 f g = fun y => FloatOps.addf (f y) (g y) := by
  funext y; exact if_pos (y 0).isLt

/-- A buffer held at contents that read `G` is held at `G`. -/
theorem ra_eq (d : Dev nD) (L : grid0.Coords) {f : (raV).view.ty.Contents (Elt F)} {G : S64x768.Idx → Elt F .f32}
    (h : ∀ y, (raV).view.read (Elt F) f y = G y) :
    ((raV).view.loc (thr d L) ↦{fullShare} f) ⊢ ((raV).view.loc (thr d L) ↦{fullShare} G : sProp 𝕄) := by
  obtain rfl : f = G := funext h
  exact BI.BIBase.Entails.rfl

theorem rb_eq (d : Dev nD) (L : grid0.Coords) {f : (rbV).view.ty.Contents (Elt F)} {G : S64x768.Idx → Elt F .f32}
    (h : ∀ y, (rbV).view.read (Elt F) f y = G y) :
    ((rbV).view.loc (thr d L) ↦{fullShare} f) ⊢ ((rbV).view.loc (thr d L) ↦{fullShare} G : sProp 𝕄) := by
  obtain rfl : f = G := funext h
  exact BI.BIBase.Entails.rfl

end Cert.Proof.Combine
-- ==== Proof.Tile.lean ====
/-
  The task on one vector subcore: its two position lists fetched, the rows they name gathered strip by strip into its
  two blocks, the blocks summed row by row, the sum written out to its 64 rows of the result.
-/
module

public import proofs.«01_k».proof.Proof.Blocks

@[expose] public section
noncomputable section
namespace Cert.Proof.Combine
open Cert.KernelIdeal Cert.KernelIdeal.Gen
open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
variable {F : FTy → Type}
local notation "𝕄" => MT nD τ sig (HIx 1) (Elt F) ℕ UU ℕ
variable [FloatOps F]

variable (m : (ℓ : Loc nD τ sig) → Buf (Elt F) ℓ)

/-! ## The task's semaphores and buffers -/

abbrev cell (d : Dev nD) (L : grid0.Coords) (k : Fin 15) : GSem nD τ sig := (thr d L, .dma k)

omit [FloatOps F] in
theorem cell_scoped (d : Dev nD) (L : grid0.Coords) (k : Fin 15) : (cell d L k).isScoped = true := by
  show (SemLoc.dma (sig := sig) k).isScoped .scVector = true
  revert k; decide

omit [FloatOps F] in
/-- The fifteen transfer cells are among the subcore's own semaphores. -/
theorem ownSems0_V (d : Dev nD) (L : grid0.Coords) :
    (ownSems0 (thr d L) : sProp 𝕄)
      = iprop((semVal (cell d L 0) 0 ∗ semVal (cell d L 1) 0 ∗ semVal (cell d L 2) 0 ∗ semVal (cell d L 3) 0 ∗ semVal (cell d L 4) 0
          ∗ semVal (cell d L 5) 0 ∗ semVal (cell d L 6) 0 ∗ semVal (cell d L 7) 0 ∗ semVal (cell d L 8) 0 ∗ semVal (cell d L 9) 0
          ∗ semVal (cell d L 10) 0 ∗ semVal (cell d L 11) 0 ∗ semVal (cell d L 12) 0 ∗ semVal (cell d L 13) 0 ∗ semVal (cell d L 14) 0)
          ∗ bigSep (ownCells (thr d L) \ (Finset.univ : Finset (Fin 15)).image (cell d L)) fun g => semVal g 0) := by
  unfold SparseCore.Cfg.ownSems0
  rw [bigSep_sdiff_split (t := (Finset.univ : Finset (Fin 15)).image (cell d L)) (fun g hg => by
      obtain ⟨k, -, rfl⟩ := Finset.mem_image.mp hg
      exact mem_ownCells.mpr ⟨rfl, cell_scoped d L k⟩),
    SparseCore.bigSep_image_of_injOn (fun k _ k' _ h => by
      have := (Prod.ext_iff.mp h).2
      exact SemLoc.dma.inj this)]
  simp only [bigSep_univ_succ, bigSep_univ_of_subsingleton (0 : Fin 1)]
  rfl

omit [FloatOps F] in
/-- The four scratch buffers are among the subcore's own. -/
theorem ownBufs_V (d : Dev nD) (L : grid0.Coords) :
    (ownBufs (thr d L) : sProp 𝕄)
      = iprop((∃ f, (thr d L).loc cc0_scratch0 ↦{fullShare} f) ∗ (∃ f, (thr d L).loc cc0_scratch1 ↦{fullShare} f)
          ∗ (∃ f, (thr d L).loc cc0_scratch2 ↦{fullShare} f) ∗ (∃ f, (thr d L).loc cc0_scratch3 ↦{fullShare} f)
          ∗ bigSep (((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2)).erase
              ((Proc.scVector (cV L) (jV L)).devRef cc0_scratch3))
              fun b => iprop(∃ f, ((d, b) : Loc nD τ sig) ↦{fullShare} f)) := by
  unfold SparseCore.Cfg.ownBufs
  have ho : ∀ b : Ref sig .scVector, ((Proc.scVector (cV L) (jV L)).devRef b).owner = .proc (Proc.scVector (cV L) (jV L)) →
      (Proc.scVector (cV L) (jV L)).devRef b ∈ ownRefs (τ := τ) (Proc.scVector (cV L) (jV L)) := fun b h =>
    SparseCore.Cfg.mem_ownRefs_of_owner h
  have hne : ∀ b b' : Ref sig .scVector, b ≠ b' → (Proc.scVector (cV L) (jV L)).devRef b ≠ (Proc.scVector (cV L) (jV L)).devRef b' :=
    fun b b' h e => h (Proc.devRef_injective _ e)
  refine (SparseCore.bigSep_erase' (ho cc0_scratch0 rfl)).trans ?_
  rw [SparseCore.bigSep_erase' (Finset.mem_erase.mpr ⟨hne cc0_scratch1 cc0_scratch0 (by decide), ho cc0_scratch1 rfl⟩),
    SparseCore.bigSep_erase' (Finset.mem_erase.mpr ⟨hne cc0_scratch2 cc0_scratch1 (by decide),
      Finset.mem_erase.mpr ⟨hne cc0_scratch2 cc0_scratch0 (by decide), ho cc0_scratch2 rfl⟩⟩),
    SparseCore.bigSep_erase' (Finset.mem_erase.mpr ⟨hne cc0_scratch3 cc0_scratch2 (by decide),
      Finset.mem_erase.mpr ⟨hne cc0_scratch3 cc0_scratch1 (by decide),
        Finset.mem_erase.mpr ⟨hne cc0_scratch3 cc0_scratch0 (by decide), ho cc0_scratch3 rfl⟩⟩⟩)]

/-! ## The waits recorded -/

/-- Each wait of `W'` is one of `W` or has no index. -/
def OkW (W W' : Waits sig (HIx 1)) : Prop := ∀ p ∈ W', p ∈ W ∨ p.2 = none

theorem okW_self (W : Waits sig (HIx 1)) : OkW W W := fun _ h => .inl h

theorem OkW.insert {W W' : Waits sig (HIx 1)} {s : SemLoc sig} (h : OkW W W') : OkW W (insert (s, (default : HIx 1)) W') := fun p hp => by
  rcases Finset.mem_insert.mp hp with rfl | hp
  · exact .inr rfl
  · exact h p hp

/-! ## The task's parts of the arrays -/

abbrev lrow (L : grid0.Coords) : Rect S2048 := Rect.unit (s := S2048) (k0_off1 L) S64.size (k0_off1_inb L)
abbrev orow (L : grid0.Coords) : Rect S2048x768 := Rect.unit (s := S2048x768) (k0_off50 L) S64x768.size (k0_off50_inb L)
abbrev aK (L : grid0.Coords) : Memref sig .scVector .hbm S64 .i32 := (aV).slice (lrow L) (fun _ => rfl)
abbrev bK (L : grid0.Coords) : Memref sig .scVector .hbm S64 .i32 := (bV).slice (lrow L) (fun _ => rfl)
abbrev oK (L : grid0.Coords) : Memref sig .scVector .hbm S64x768 .f32 := (oV).slice (orow L) (fun _ => rfl)

/-- A task's share of the table: one of thirty-two pieces. -/
abbrev yq (L : grid0.Coords) : PosShare TreeShare := pieceOf fullShare 32 (by omega) (wL L)

/-- The positions are rows of the table. -/
def PreOK : Prop := ∀ d : Dev nD, (∀ j, (m (aLoc d) j : BitVec 32).toNat < 6144) ∧ (∀ j, (m (bLoc d) j : BitVec 32).toNat < 6144)

/-- What a task is given: its share of the table, its parts of the two position lists, its rows of the result. -/
abbrev goPts (d : Dev nD) (L : grid0.Coords) (f : Buf (Elt F) (oLoc d)) : sProp 𝕄 :=
  iprop(((yV).view.loc (thr d L) ↦{yq L} m (yLoc d)) ∗ ((aK L).view.loc (thr d L) ↦[(aK L).view.set]{fullShare} m (aLoc d))
    ∗ ((bK L).view.loc (thr d L) ↦[(bK L).view.set]{fullShare} m (bLoc d)) ∗ ((oK L).view.loc (thr d L) ↦[(oK L).view.set]{fullShare} f))

/-- The positions a task fetches. -/
abbrev pA (d : Dev nD) (L : grid0.Coords) : S64.Idx → Elt F .i32 := (aK L).view.read (Elt F) (m (aLoc d))
abbrev pB (d : Dev nD) (L : grid0.Coords) : S64.Idx → Elt F .i32 := (bK L).view.read (Elt F) (m (bLoc d))

/-- The blocks of rows the task gathers. -/
abbrev gA (d : Dev nD) (L : grid0.Coords) : S64x768.Idx → Elt F .f32 := blk (m (yLoc d)) (pA m d L)
abbrev gB (d : Dev nD) (L : grid0.Coords) : S64x768.Idx → Elt F .f32 := blk (m (yLoc d)) (pB m d L)

/-- Position entry `n` of a task is entry `64 w + n` of the list, and its block's rows are the result's rows from `64 w`. -/
theorem sum_val (d : Dev nD) (L : grid0.Coords) (y : S64x768.Idx) :
    comb (m (yLoc d)) (m (aLoc d)) (m (bLoc d)) ((orow L).emb y) = FloatOps.addf (gA m d L y) (gB m d L y) := by
  have h0 : (orow L).emb y 1 = y 1 := Fin.ext (by
    show k0_off50 L 1 + 1 * (y 1).val = (y 1).val
    rw [k0_off50_eq]; show 0 + 1 * (y 1).val = _; omega)
  have h1 : (lrow L).emb (ix64 (y 0)) = ix1 ((orow L).emb y 0) := funext fun a => Fin.ext (by
    match a with
    | 0 =>
      show k0_off1 L 0 + 1 * (y 0).val = k0_off50 L 0 + 1 * (y 0).val
      rw [k0_off1_eq, k0_off50_eq]; rfl)
  show FloatOps.addf (m (yLoc d) (rowIx (m (aLoc d) (ix1 ((orow L).emb y 0))) ((orow L).emb y 1))) (m (yLoc d) (rowIx (m (bLoc d) (ix1 ((orow L).emb y 0))) ((orow L).emb y 1)))
    = FloatOps.addf (m (yLoc d) (rowIx (m (aLoc d) ((lrow L).emb (ix64 (y 0)))) (y 1))) (m (yLoc d) (rowIx (m (bLoc d) ((lrow L).emb (ix64 (y 0)))) (y 1)))
  rw [h1, h0]

omit [FloatOps F] in
/-- Elements written whole through a view are held at any contents that read what was written. -/
theorem whole_written {sp : Space} {sh : Shape} {e : EltTy} (c : Thread nD τ) (v : View sig c.2.kind sp sh e) (f g : Buf (Elt F) (v.loc c))
    (w : sh.Idx → Elt F e) (hw : ∀ y, v.read (Elt F) g y = w y) :
    (v.loc c ↦[v.set]{fullShare} v.writes (Elt F) f [⟨Rect.whole sh, w⟩] : sProp 𝕄) = (v.loc c ↦[v.set]{fullShare} g) :=
  pointsTo_congr fun i hi => by
    obtain ⟨y, -, rfl⟩ := Finset.mem_map.mp hi
    have hem : ∀ x : sh.Idx, (Rect.whole sh).emb x = x := fun x => funext fun a => Fin.ext (by
      show 0 + 1 * (x a).val = (x a).val; omega)
    have h := View.read_writes_apply_of_pieces v f w [⟨Rect.whole sh, w⟩] (fun p hp => by
        obtain rfl := List.mem_singleton.mp hp
        intro x; rw [hem]) y
      ⟨_, List.mem_singleton.mpr rfl, (Rect.whole sh).mem_set.mpr fun a => ⟨(y a).val, (y a).isLt, show (y a).val = 0 + 1 * (y a).val by omega⟩⟩
    rw [← hw y, View.read_apply, View.read_apply] at h
    exact (cast_inj _).mp h

/-- The task's rows of the result, written with the summed block, hold the combined rows. -/
theorem out_eq (d : Dev nD) (L : grid0.Coords) (f : Buf (Elt F) (oLoc d)) (w : S64x768.Idx → Elt F .f32)
    (hw : ∀ y, w y = FloatOps.addf (gA m d L y) (gB m d L y)) :
    ((oK L).view.loc (thr d L) ↦[(oK L).view.set]{fullShare} (oK L).view.writes (Elt F) f [⟨Rect.whole S64x768, w⟩] : sProp 𝕄)
      = ((oK L).view.loc (thr d L) ↦[(oK L).view.set]{fullShare} comb (m (yLoc d)) (m (aLoc d)) (m (bLoc d))) :=
  whole_written (thr d L) (oK L).view f _ w fun y => (sum_val m d L y).trans (hw y).symm

/-- The loop's invariant: after `t` trips the first block's rows below `t` are summed with the second's. -/
def inv (d : Dev nD) (L : grid0.Coords) (t : Nat) (_ : PUnit) : sProp 𝕄 :=
  iprop(((raV).view.loc (thr d L) ↦{fullShare} (acc t (gA m d L) (gB m d L) : S64x768.Idx → Elt F .f32))
    ∗ ((rbV).view.loc (thr d L) ↦{fullShare} (gB m d L : S64x768.Idx → Elt F .f32)))

set_option maxHeartbeats 8000000 in
theorem tile_body (hF : (K (F := F)).Facts) (hpre : PreOK m) (d : Dev nD) (L : grid0.Coords) (O : CellTallies nD τ sig (HIx 1)) (W : Waits sig (HIx 1)) (hO : ∀ g, O g none = 0) :
    iprop(levAts (K (F := F)).L (K (F := F)).lev ∗ emp ∗ goPts m d L (m (oLoc d))
        ∗ scopedBufs (thr d L) ∗ scopedSems0 (thr d L) ∗ owes (thr d L) O W)
      ⊢ (wp frame (wpE (defs₀ (F := F)) 𝒱₀ (thr d L) none) Set.univ
          (cc0__combine_body (F := F) L yV (Memref.isWhole_whole _) aV (Memref.isWhole_whole _) bV (Memref.isWhole_whole _) oV (Memref.isWhole_whole _)
            paV (Memref.isWhole_whole _) pbV (Memref.isWhole_whole _) raV (Memref.isWhole_whole _) rbV (Memref.isWhole_whole _)
            cc0_scratch4 cc0_scratch5 cc0_scoped0 cc0_scoped1 cc0_scoped2)
          fun _ => iprop(goPts m d L (comb (m (yLoc d)) (m (aLoc d)) (m (bLoc d)))
            ∗ scopedBufs (thr d L) ∗ scopedSems0 (thr d L)
            ∗ ∃ W', ⌜∀ p ∈ W', p ∈ W ∨ p.2 = none⌝ ∗ owes (thr d L) O W') : sProp 𝕄) := by
  simp only [cc0__combine_body_eq_skeleton]; unfold cc0__combine_body_skel
  rw [(K (F := F)).scopedBufs_V hF d (cV L) (jV L), SparseCore.Cfg.scopedSems0_V (Val := Elt F) d (cV L) (jV L), ownSems0_V, ownBufs_V]
  iintro ⟨#Hlv, -, ⟨Hy, Ha, Hb, Ho⟩, ⟨⟨%f0, Hpa⟩, ⟨%f1, Hpb⟩, ⟨%f2, Hra⟩, ⟨%f3, Hrb⟩, Hbufs⟩,
    ⟨⟨S0, S1, S2, S3, S4, S5, S6, S7, S8, S9, S10, S11, S12, S13, S14⟩, Hsems⟩, HO⟩
  ihave Hmw := (show levAts (K (F := F)).L (K (F := F)).lev ⊢ Transfers.MayWaits (thr d L) (default : HIx 1) O from
    (K (F := F)).mayWaits_none (thr := thr d L) hO) $$ Hlv
  ihave Hpa := (Entails.of_eq (show ((thr d L).loc cc0_scratch0 ↦{fullShare} f0 : sProp 𝕄) = (paV).view.loc (thr d L) ↦{fullShare} f0 from rfl)) $$ Hpa
  ihave Hpb := (Entails.of_eq (show ((thr d L).loc cc0_scratch1 ↦{fullShare} f1 : sProp 𝕄) = (pbV).view.loc (thr d L) ↦{fullShare} f1 from rfl)) $$ Hpb
  ihave Hra := (Entails.of_eq (show ((thr d L).loc cc0_scratch2 ↦{fullShare} f2 : sProp 𝕄) = (raV).view.loc (thr d L) ↦{fullShare} f2 from rfl)) $$ Hra
  ihave Hrb := (Entails.of_eq (show ((thr d L).loc cc0_scratch3 ↦{fullShare} f3 : sProp 𝕄) = (rbV).view.loc (thr d L) ↦{fullShare} f3 from rfl)) $$ Hrb
  sl_exec
  have hinA : ∀ x, ((paV).view.read (Elt F) (pA m d L) x : BitVec 32).toNat < 6144 := fun x => (hpre d).1 _
  have hinB : ∀ x, ((pbV).view.read (Elt F) (pB m d L) x : BitVec 32).toNat < 6144 := fun x => (hpre d).2 _
  ihave Hpa := (Entails.of_eq (congrArg (fun h : Buf (Elt F) ((paV).view.loc (thr d L)) => ((paV).view.loc (thr d L) ↦{fullShare} h : sProp 𝕄))
    (show View.write (Elt F) (paV).view f0 (tile_body.sl.dma0 m d L) Finset.univ = pA m d L from View.write_whole_univ _ _ _))) $$ Hpa
  ihave Hpb := (Entails.of_eq (congrArg (fun h : Buf (Elt F) ((pbV).view.loc (thr d L)) => ((pbV).view.loc (thr d L) ↦{fullShare} h : sProp 𝕄))
    (show View.write (Elt F) (pbV).view f1 (tile_body.sl.dma0_1 m d L) Finset.univ = pB m d L from View.write_whole_univ _ _ _))) $$ Hpb
  ihave Hpa := (Entails.of_eq (pointsTo_six (F := F) (ℓ := (paV).view.loc (thr d L)) Finset.univ (pA m d L) fullShare)) $$ Hpa
  ihave Hpb := (Entails.of_eq (pointsTo_six (F := F) (ℓ := (pbV).view.loc (thr d L)) Finset.univ (pB m d L) fullShare)) $$ Hpb
  icases Hpa with ⟨A0, A1, A2, A3, A4, A5⟩
  icases Hpb with ⟨B0, B1, B2, B3, B4, B5⟩
  ihave Hy := (pointsTo_share (PosShare.mem_left_op_right (yq L))).1 $$ Hy
  icases Hy with ⟨Hy, Hy'⟩
  ihave Hy := (Entails.of_eq (pointsTo_six (F := F) (ℓ := (yV).view.loc (thr d L)) Finset.univ (m (yLoc d)) (yq L).left)) $$ Hy
  ihave Hy' := (Entails.of_eq (pointsTo_six (F := F) (ℓ := (yV).view.loc (thr d L)) Finset.univ (m (yLoc d)) (yq L).right)) $$ Hy'
  icases Hy with ⟨Y0, Y1, Y2, Y3, Y4, Y5⟩
  icases Hy' with ⟨Y6, Y7, Y8, Y9, Y10, Y11⟩
  sl_exec
  ihave Hra := (ra_eq d L (G := gA m d L) (strips_read (raV).view (raV).view.junk (gA m d L)
    (tile_body.sl.gather0 m d L hinA) (tile_body.sl.gather2 m d L hinA) (tile_body.sl.gather4 m d L hinA) (tile_body.sl.gather6 m d L hinA) (tile_body.sl.gather8 m d L hinA) (tile_body.sl.gather10 m d L hinA)
    (fun x => strip_val (m (yLoc d)) (pA m d L) 0 _ _ _ _ x) (fun x => strip_val (m (yLoc d)) (pA m d L) 128 _ _ _ _ x)
    (fun x => strip_val (m (yLoc d)) (pA m d L) 256 _ _ _ _ x) (fun x => strip_val (m (yLoc d)) (pA m d L) 384 _ _ _ _ x)
    (fun x => strip_val (m (yLoc d)) (pA m d L) 512 _ _ _ _ x) (fun x => strip_val (m (yLoc d)) (pA m d L) 640 _ _ _ _ x))) $$ Hra
  ihave Hrb := (rb_eq d L (G := gB m d L) (strips_read (rbV).view (rbV).view.junk (gB m d L)
    (tile_body.sl.gather1 m d L hinB) (tile_body.sl.gather3 m d L hinB) (tile_body.sl.gather5 m d L hinB) (tile_body.sl.gather7 m d L hinB) (tile_body.sl.gather9 m d L hinB) (tile_body.sl.gather11 m d L hinB)
    (fun x => strip_val (m (yLoc d)) (pB m d L) 0 _ _ _ _ x) (fun x => strip_val (m (yLoc d)) (pB m d L) 128 _ _ _ _ x)
    (fun x => strip_val (m (yLoc d)) (pB m d L) 256 _ _ _ _ x) (fun x => strip_val (m (yLoc d)) (pB m d L) 384 _ _ _ _ x)
    (fun x => strip_val (m (yLoc d)) (pB m d L) 512 _ _ _ _ x) (fun x => strip_val (m (yLoc d)) (pB m d L) 640 _ _ _ _ x))) $$ Hrb
  sl_for (inv m d L) $$ [Hra Hrb]
  case region =>
    intro t _
    unfold inv
    rw [← mid_acc]
    exact trip d L t (acc t.val (gA m d L) (gB m d L)) (gB m d L)
  · unfold inv
    rw [acc_zero]
    isplitl [Hra]; · iexact Hra
    iexact Hrb
  iintro %_ HI
  unfold inv
  icases HI with ⟨Hra, Hrb⟩
  sl_exec
  have htrips : Scf.trips k0_t1_loop.lb k0_t1_loop.ub k0_t1_loop.st = 64 := by decide
  ihave Ho := (Entails.of_eq (out_eq m d L (m (oLoc d)) (tile_body.sl.dma0_2 m d L) (fun y => by
    show acc (Scf.trips k0_t1_loop.lb k0_t1_loop.ub k0_t1_loop.st) (gA m d L) (gB m d L) y = _
    rw [htrips, acc_full]))) $$ Ho
  sl_step
  isplitl [Y0 Y1 Y2 Y3 Y4 Y5 Y6 Y7 Y8 Y9 Y10 Y11 Ha Hb Ho]
  · isplitl [Y0 Y1 Y2 Y3 Y4 Y5 Y6 Y7 Y8 Y9 Y10 Y11]
    · iapply (pointsTo_share (PosShare.mem_left_op_right (yq L))).2
      isplitl [Y0 Y1 Y2 Y3 Y4 Y5]
      · iapply (Entails.of_eq (pointsTo_six (F := F) (ℓ := (yV).view.loc (thr d L)) Finset.univ (m (yLoc d)) (yq L).left).symm)
        isplitl [Y0]; · iexact Y0
        isplitl [Y1]; · iexact Y1
        isplitl [Y2]; · iexact Y2
        isplitl [Y3]; · iexact Y3
        isplitl [Y4]; · iexact Y4
        iexact Y5
      · iapply (Entails.of_eq (pointsTo_six (F := F) (ℓ := (yV).view.loc (thr d L)) Finset.univ (m (yLoc d)) (yq L).right).symm)
        isplitl [Y6]; · iexact Y6
        isplitl [Y7]; · iexact Y7
        isplitl [Y8]; · iexact Y8
        isplitl [Y9]; · iexact Y9
        isplitl [Y10]; · iexact Y10
        iexact Y11
    isplitl [Ha]; · iexact Ha
    isplitl [Hb]; · iexact Hb
    iexact Ho
  isplitl [A0 A1 A2 A3 A4 A5 B0 B1 B2 B3 B4 B5 Hra Hrb Hbufs]
  · isplitl [A0 A1 A2 A3 A4 A5]
    · iexists (pA m d L)
      iapply (Entails.of_eq (pointsTo_six (F := F) (ℓ := (paV).view.loc (thr d L)) Finset.univ (pA m d L) fullShare).symm)
      isplitl [A0]; · iexact A0
      isplitl [A1]; · iexact A1
      isplitl [A2]; · iexact A2
      isplitl [A3]; · iexact A3
      isplitl [A4]; · iexact A4
      iexact A5
    isplitl [B0 B1 B2 B3 B4 B5]
    · iexists (pB m d L)
      iapply (Entails.of_eq (pointsTo_six (F := F) (ℓ := (pbV).view.loc (thr d L)) Finset.univ (pB m d L) fullShare).symm)
      isplitl [B0]; · iexact B0
      isplitl [B1]; · iexact B1
      isplitl [B2]; · iexact B2
      isplitl [B3]; · iexact B3
      isplitl [B4]; · iexact B4
      iexact B5
    isplitl [Hra]; · iexists _; iexact Hra
    isplitl [Hrb]; · iexists _; iexact Hrb
    iexact Hbufs
  isplitl [S0 S1 S2 S3 S4 S5 S6 S7 S8 S9 S10 S11 S12 S13 S14 Hsems]
  · isplitl [S0 S1 S2 S3 S4 S5 S6 S7 S8 S9 S10 S11 S12 S13 S14]
    · isplitl [S0]; · iexact S0
      isplitl [S1]; · iexact S1
      isplitl [S2]; · iexact S2
      isplitl [S3]; · iexact S3
      isplitl [S4]; · iexact S4
      isplitl [S5]; · iexact S5
      isplitl [S6]; · iexact S6
      isplitl [S7]; · iexact S7
      isplitl [S8]; · iexact S8
      isplitl [S9]; · iexact S9
      isplitl [S10]; · iexact S10
      isplitl [S11]; · iexact S11
      isplitl [S12]; · iexact S12
      isplitl [S13]; · iexact S13
      iexact S14
    iexact Hsems
  iexists _
  isplitr
  swap; · iexact HO
  ipureintro
  exact (okW_self W).insert.insert.insert.insert.insert.insert.insert.insert.insert.insert.insert.insert.insert.insert.insert

end Cert.Proof.Combine
-- ==== Proof.Launch.lean ====
/-
  The launch: the arrays dealt out to the 32 tasks and put together again, the call from @main, the run of the whole
  program with the value its result ends with.
-/
module

public import proofs.«01_k».proof.Proof.Tile
public import Idealize.ShloMosaic.Lib.SparseCore.Quiescent
public import proofs.«01_k».proof.Proof.Gen.Pre_rows_in_range

@[expose] public section
noncomputable section
namespace Cert.Proof.Combine
open Cert.KernelIdeal Cert.KernelIdeal.Gen
open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
variable {F : FTy → Type}
local notation "𝕄" => MT nD τ sig (HIx 1) (Elt F) ℕ UU ℕ
variable [FloatOps F]

variable (m : (ℓ : Loc nD τ sig) → Buf (Elt F) ℓ) (ρ : Dev nD → PrngReg)

/-! ## The arrays dealt out -/

/-- The task of SparseCore `c`, subcore `s`. -/
def coordsV (c : Fin (grid0.bound 0)) (s : Fin (grid0.bound 1)) : grid0.Coords :=
  fun | 0 => c | 1 => s | ⟨_ + 2, h⟩ => absurd h (Nat.not_lt.2 (Nat.le_add_left _ _))

/-- The task of a pair. -/
abbrev pairV (p : Fin 2 × Fin 16) : grid0.Coords := coordsV p.1 p.2

/-- The pairs numbered: task `(c, i)` is number `2 i + c`. -/
def pairNo : Fin 2 × Fin 16 ≃ Fin 32 where
  toFun p := wL (pairV p)
  invFun w := (⟨w.val % 2, by omega⟩, ⟨w.val / 2, by omega⟩)
  left_inv p := by
    obtain ⟨c, i⟩ := p
    refine Prod.ext (Fin.ext ?_) (Fin.ext ?_)
    · show (2 * i.val + c.val) % 2 = c.val; omega
    · show (2 * i.val + c.val) / 2 = i.val; omega
  right_inv w := Fin.ext (show 2 * (w.val / 2) + w.val % 2 = w.val by omega)

theorem lrow_mem (L : grid0.Coords) (x : S2048.Idx) :
    x ∈ (lrow L).set ↔ 128 * (L 1).val + 64 * (L 0).val ≤ (x 0).val ∧ (x 0).val < 128 * (L 1).val + 64 * (L 0).val + 64 := by
  rw [(lrow L).mem_set]
  have ho : k0_off1 L 0 = 128 * (L 1).val + 64 * (L 0).val := congrFun (k0_off1_eq L) 0
  constructor
  · intro h
    obtain ⟨j, hj, e⟩ := h 0
    have hj' : j < 64 := hj
    have e' : (x 0).val = k0_off1 L 0 + 1 * j := e
    omega
  · intro h a
    match a with
    | 0 => exact ⟨(x 0).val - (128 * (L 1).val + 64 * (L 0).val), show _ < 64 by omega, show (x 0).val = k0_off1 L 0 + 1 * _ by omega⟩

theorem orow_mem (L : grid0.Coords) (x : S2048x768.Idx) :
    x ∈ (orow L).set ↔ 128 * (L 1).val + 64 * (L 0).val ≤ (x 0).val ∧ (x 0).val < 128 * (L 1).val + 64 * (L 0).val + 64 := by
  rw [(orow L).mem_set]
  have ho : k0_off50 L 0 = 128 * (L 1).val + 64 * (L 0).val := congrFun (k0_off50_eq L) 0
  have ho1 : k0_off50 L 1 = 0 := congrFun (k0_off50_eq L) 1
  have hx1 : (x 1).val < 768 := (x 1).isLt
  constructor
  · intro h
    obtain ⟨j, hj, e⟩ := h 0
    have hj' : j < 64 := hj
    have e' : (x 0).val = k0_off50 L 0 + 1 * j := e
    omega
  · intro h a
    match a with
    | 0 => exact ⟨(x 0).val - (128 * (L 1).val + 64 * (L 0).val), show _ < 64 by omega, show (x 0).val = k0_off50 L 0 + 1 * _ by omega⟩
    | 1 => exact ⟨(x 1).val, show _ < 768 from hx1, show (x 1).val = k0_off50 L 1 + 1 * _ by omega⟩

/-- Two tasks whose 64 rows share one are the same. -/
theorem pair_inj {p p' : Fin 2 × Fin 16} {n : ℕ} (h : 128 * p.2.val + 64 * p.1.val ≤ n ∧ n < 128 * p.2.val + 64 * p.1.val + 64)
    (h' : 128 * p'.2.val + 64 * p'.1.val ≤ n ∧ n < 128 * p'.2.val + 64 * p'.1.val + 64) : p = p' := by
  obtain ⟨c, i⟩ := p; obtain ⟨c', i'⟩ := p'
  have hc := c.isLt; have hc' := c'.isLt
  simp only at h h'
  exact Prod.ext (Fin.ext (by show c.val = c'.val; omega)) (Fin.ext (by show i.val = i'.val; omega))

/-- Each row is one task's. -/
theorem pair_cover {n : ℕ} (h : n < 2048) : ∃ p : Fin 2 × Fin 16, 128 * p.2.val + 64 * p.1.val ≤ n ∧ n < 128 * p.2.val + 64 * p.1.val + 64 :=
  ⟨(⟨n / 64 % 2, by omega⟩, ⟨n / 128, by omega⟩), show 128 * (n / 128) + 64 * (n / 64 % 2) ≤ n by omega, show n < 128 * (n / 128) + 64 * (n / 64 % 2) + 64 by omega⟩

omit [FloatOps F] in
/-- An array held whole is held part by part, each element in one part. -/
theorem deal_out {ℓ : Loc nD τ sig} (f : Buf (Elt F) ℓ) (A : Fin 2 × Fin 16 → Finset (Idx ℓ)) (hd : ∀ p p' x, x ∈ A p → x ∈ A p' → p = p')
    (hc : ∀ x, ∃ p, x ∈ A p) : (ℓ ↦{fullShare} f : sProp 𝕄) = bigSep Finset.univ fun p => ℓ ↦[A p]{fullShare} f := by
  rw [← pointsTo_biUnion Finset.univ A (fun p _ p' _ h => Finset.disjoint_left.mpr fun x hx hx' => h (hd p p' x hx hx')),
    Finset.eq_univ_of_forall fun x => Finset.mem_biUnion.mpr ((hc x).imp fun p hp => ⟨Finset.mem_univ _, hp⟩)]

theorem lrow_inj (p p' : Fin 2 × Fin 16) (x : S2048.Idx) (h : x ∈ (lrow (pairV p)).set) (h' : x ∈ (lrow (pairV p')).set) : p = p' :=
  pair_inj ((lrow_mem _ x).mp h) ((lrow_mem _ x).mp h')

theorem lrow_cover (x : S2048.Idx) : ∃ p : Fin 2 × Fin 16, x ∈ (lrow (pairV p)).set :=
  (pair_cover (x 0).isLt).imp fun p hp => (lrow_mem (pairV p) x).mpr hp

theorem orow_inj (p p' : Fin 2 × Fin 16) (x : S2048x768.Idx) (h : x ∈ (orow (pairV p)).set) (h' : x ∈ (orow (pairV p')).set) : p = p' :=
  pair_inj ((orow_mem _ x).mp h) ((orow_mem _ x).mp h')

theorem orow_cover (x : S2048x768.Idx) : ∃ p : Fin 2 × Fin 16, x ∈ (orow (pairV p)).set :=
  (pair_cover (x 0).isLt).imp fun p hp => (orow_mem (pairV p) x).mpr hp

omit [FloatOps F] in
theorem a_split (d : Dev nD) (f : Buf (Elt F) (aLoc d)) :
    (aLoc d ↦{fullShare} f : sProp 𝕄) = bigSep Finset.univ fun p : Fin 2 × Fin 16 => aLoc d ↦[(lrow (pairV p)).set]{fullShare} f :=
  deal_out (ℓ := aLoc d) f (fun p => (lrow (pairV p)).set) lrow_inj lrow_cover

omit [FloatOps F] in
theorem b_split (d : Dev nD) (f : Buf (Elt F) (bLoc d)) :
    (bLoc d ↦{fullShare} f : sProp 𝕄) = bigSep Finset.univ fun p : Fin 2 × Fin 16 => bLoc d ↦[(lrow (pairV p)).set]{fullShare} f :=
  deal_out (ℓ := bLoc d) f (fun p => (lrow (pairV p)).set) lrow_inj lrow_cover

omit [FloatOps F] in
theorem o_split (d : Dev nD) (f : Buf (Elt F) (oLoc d)) :
    (oLoc d ↦{fullShare} f : sProp 𝕄) = bigSep Finset.univ fun p : Fin 2 × Fin 16 => oLoc d ↦[(orow (pairV p)).set]{fullShare} f :=
  deal_out (ℓ := oLoc d) f (fun p => (orow (pairV p)).set) orow_inj orow_cover

omit [FloatOps F] in
theorem y_split (d : Dev nD) (f : Buf (Elt F) (yLoc d)) :
    (yLoc d ↦{fullShare} f : sProp 𝕄) = bigSep Finset.univ fun p : Fin 2 × Fin 16 => yLoc d ↦{yq (pairV p)} f := by
  rw [pointsTo_piecesOf Finset.univ f (o := 32) (by omega) fullShare, bigSep_univ_equiv pairNo]
  rfl

omit [FloatOps F] in
theorem goPts_eq (d : Dev nD) (L : grid0.Coords) (f : Buf (Elt F) (oLoc d)) :
    goPts m d L f = iprop((yLoc d ↦{yq L} m (yLoc d)) ∗ (aLoc d ↦[(lrow L).set]{fullShare} m (aLoc d))
      ∗ (bLoc d ↦[(lrow L).set]{fullShare} m (bLoc d)) ∗ (oLoc d ↦[(orow L).set]{fullShare} f)) := by
  have ha : (aK L).view.set = (lrow L).set := View.set_slice_whole _ _
  have hb : (bK L).view.set = (lrow L).set := View.set_slice_whole _ _
  have ho : (oK L).view.set = (orow L).set := View.set_slice_whole _ _
  unfold goPts
  rw [ha, hb, ho]

omit [FloatOps F] in
/-- The four arrays are the tasks' parts of them. -/
theorem deal (d : Dev nD) (f : Buf (Elt F) (oLoc d)) :
    (iprop((yLoc d ↦{fullShare} m (yLoc d)) ∗ (aLoc d ↦{fullShare} m (aLoc d)) ∗ (bLoc d ↦{fullShare} m (bLoc d)) ∗ (oLoc d ↦{fullShare} f)) : sProp 𝕄)
      = bigSep Finset.univ fun c : Fin ((K (F := F)).nCore 0) => bigSep Finset.univ fun i : Fin ((K (F := F)).nSub 0) => goPts m d (coordsV c i) f := by
  rw [y_split, a_split, b_split, o_split, ← bigSep_sep', ← bigSep_sep', ← bigSep_sep', bigSep_univ_prod]
  simp only [goPts_eq]

/-! ## The launch's payloads -/

/-- What the result ends with. -/
abbrev outV (d : Dev nD) : Buf (Elt F) (oLoc d) := comb (m (yLoc d)) (m (aLoc d)) (m (bLoc d))

abbrev coreGo (d : Dev nD) (f : Buf (Elt F) (oLoc d)) (c : Fin ((K (F := F)).nCore 0)) : sProp 𝕄 :=
  bigSep Finset.univ fun i : Fin ((K (F := F)).nSub 0) => goPts m d (coordsV c i) f

def P : (K (F := F)).Pay (nD := nD) (Val := Elt F) (Name := ℕ) (U := UU) where
  st := fun q d c => match q with | 0 => coreGo m d (m (oLoc d)) c
  dn := fun q d c => match q with | 0 => coreGo m d (outV m d) c
  go := fun q d c i => match q with | 0 => goPts m d (coordsV c i) (m (oLoc d))
  td := fun q d c i => match q with | 0 => goPts m d (coordsV c i) (outV m d)
  x := fun _ _ => iprop(emp)

instance P_storable : (P (F := F) m).IsStorable where
  st q d c := match q with | 0 => (inferInstance : BI.Storable (upEmb : UEmb _ 𝕄) (coreGo m d (m (oLoc d)) c))
  dn q d c := match q with | 0 => (inferInstance : BI.Storable (upEmb : UEmb _ 𝕄) (coreGo m d (outV m d) c))
  go q d c i := match q with | 0 => (inferInstance : BI.Storable (upEmb : UEmb _ 𝕄) (goPts m d (coordsV c i) (m (oLoc d))))
  td q d c i := match q with | 0 => (inferInstance : BI.Storable (upEmb : UEmb _ 𝕄) (goPts m d (coordsV c i) (outV m d)))

/-! ## The tasks' obligation -/

theorem defs₀_vector (c : Fin τ.nSC) (s : Fin τ.nSub) :
    defs₀ (F := F) (.scVector c s) 0 ()
      = SparseCore.onTile hcore0 hsub0 (fun c s => cc0__combine_body (coordsV c s)
          yV (Memref.isWhole_whole _) aV (Memref.isWhole_whole _) bV (Memref.isWhole_whole _) oV (Memref.isWhole_whole _)
          paV (Memref.isWhole_whole _) pbV (Memref.isWhole_whole _) raV (Memref.isWhole_whole _) rbV (Memref.isWhole_whole _)
          cc0_scratch4 cc0_scratch5 cc0_scoped0 cc0_scoped1 cc0_scoped2) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m hF hpre d (coordsV ⟨_, hci.1⟩ ⟨_, hci.2⟩) O W hO).trans (wp_mono frame _ _ fun _ => obl_post)

theorem vecSplit : (K (F := F)).VecSplit' (P m) 0 := by
  intro d c
  show coreGo m d (m (oLoc d)) c ⊢ |={Set.univ}=> iprop(coreGo m d (m (oLoc d)) c ∗ (coreGo m d (outV m d) c -∗ coreGo m d (outV m d) c))
  iintro H; imodintro
  isplitl [H]; · iexact H
  iintro H; iexact H

/-! ## The launch element -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## @main on the TensorCore -/

omit [FloatOps F] in
theorem unscopedBufs_eq (d : Dev nD) (W : (b : Ref sig .tc) → Buf (Elt F) ((d.tc : Thread nD τ).loc b)) :
    (unscopedBufs d W : sProp 𝕄) = iprop((yLoc d ↦{fullShare} W main_arg0) ∗ (aLoc d ↦{fullShare} W main_arg1) ∗ (bLoc d ↦{fullShare} W main_arg2)
      ∗ oLoc d ↦{fullShare} W main_v0) := by
  unfold unscopedBufs
  rw [show (Finset.univ.filter fun b : Ref sig .tc => ¬ b.isScoped) = {main_arg0, main_arg1, main_arg2, main_v0} by decide,
    SparseCore.bigSep_insert' (by decide), SparseCore.bigSep_insert' (by decide), SparseCore.bigSep_insert' (by decide), bigSep_singleton]

/-- What @main ends with: the arguments as launched, the result combined. -/
abbrev FIN (d : Dev nD) : sProp 𝕄 :=
  iprop((yLoc d ↦{fullShare} m (yLoc d)) ∗ (aLoc d ↦{fullShare} m (aLoc d)) ∗ (bLoc d ↦{fullShare} m (bLoc d)) ∗ (oLoc d ↦{fullShare} outV m d))

theorem st0_eq (d : Dev nD) : (bigSep Finset.univ fun c : Fin ((K (F := F)).nCore 0) => (P m).st 0 d c)
    = iprop((yLoc d ↦{fullShare} m (yLoc d)) ∗ (aLoc d ↦{fullShare} m (aLoc d)) ∗ (bLoc d ↦{fullShare} m (bLoc d)) ∗ (oLoc d ↦{fullShare} m (oLoc d))) :=
  (deal m d (m (oLoc d))).symm

theorem dn0_eq (d : Dev nD) : (bigSep Finset.univ fun c : Fin ((K (F := F)).nCore 0) => (P m).dn 0 d c) = FIN m d :=
  (deal m d (outV m d)).symm

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, Harr, Hts, -⟩, -⟩
  iapply ((K (F := F)).wp_run (D (F := F)) 𝒱 (EH := EH) (P := P m) κ d 0) $$ [Hst Harr Hb Hts]
  isplitr; · iexact Hctx
  isplitl [Hst]; · iexact Hst
  isplitl [Harr]
  · rw [st0_eq]; iexact Harr
  iintro ⟨Hst, Hdn⟩
  ihave Hdn := (Entails.of_eq (dn0_eq m d)) $$ Hdn
  imodintro
  isplitl [Hst]; · iexact Hst
  isplitl [Hdn]; · iexact Hdn
  isplitl [Hb] <;> iassumption

/-- What is read off the final memory of a device. -/
def fq (d : Dev nD) (s' : Phys nD τ sig (Elt F)) : Prop :=
  s'.mem.mem (yLoc d) = m (yLoc d) ∧ s'.mem.mem (aLoc d) = m (aLoc d) ∧ s'.mem.mem (bLoc d) = m (bLoc d) ∧ s'.mem.mem (oLoc d) = outV m d

omit [FloatOps F] in
theorem agree {ℓ : Loc nD τ sig} {f : Buf (Elt F) ℓ} {s' : Phys nD τ sig (Elt F)} :
    iprop(SI s' ∗ ℓ ↦{fullShare} f) ⊢ (iprop(⌜s'.mem.mem ℓ = f⌝ ∗ SI s') : sProp 𝕄) := by
  iintro ⟨HSI, Hx⟩
  ihave H := (persistent_entails_right (SI_pointsTo_agree (st := s') (ℓ := ℓ) (I := Finset.univ) (q := fullShare) (f := f))) $$ [HSI Hx]
  · isplitl [HSI] <;> iassumption
  icases H with ⟨%h, HSI, -⟩
  isplitr
  · ipureintro; exact funext fun i => h i (Finset.mem_univ i)
  iexact HSI

set_option maxRecDepth 16384 in
theorem hfin (d : Dev nD) (s' : Phys nD τ sig (Elt F)) : iprop(FIN m d ∗ SI s') ⊢ (⌜fq m d s'⌝ : sProp 𝕄) := by
  iintro ⟨⟨Hy, Ha, Hb, Ho⟩, HSI⟩
  ihave H := (agree (F := F)) $$ [HSI Hy]
  · isplitl [HSI] <;> iassumption
  icases H with ⟨%h1, HSI⟩
  ihave H := (agree (F := F)) $$ [HSI Ha]
  · isplitl [HSI] <;> iassumption
  icases H with ⟨%h2, HSI⟩
  ihave H := (agree (F := F)) $$ [HSI Hb]
  · isplitl [HSI] <;> iassumption
  icases H with ⟨%h3, HSI⟩
  ihave H := (agree (F := F)) $$ [HSI Ho]
  · isplitl [HSI] <;> iassumption
  icases H with ⟨%h4, -⟩
  ipureintro; exact ⟨h1, h2, h3, h4⟩

/-! ## The program's run -/

/-- Every device's arguments as launched, its result combined, every semaphore at zero. -/
def QC : PUnit × MemSt nD τ sig (Elt F) → Prop := fun r =>
  (∀ d : Dev nD, r.2.mem (yLoc d) = m (yLoc d) ∧ r.2.mem (aLoc d) = m (aLoc d) ∧ r.2.mem (bLoc d) = m (bLoc d) ∧ r.2.mem (oLoc d) = outV m d)
    ∧ r.2.sem = fun _ => 0

/-- From positions in range, every execution ends with the combined rows in the result. -/
theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts hpre)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof.Combine
-- ==== Proof.Reference.lean ====
/-
  What the reference computes: its two gathers of whole rows, read element by element, are the rows the positions name.
-/
module

public import proofs.«01_k».proof.Proof.Launch
public import proofs.«01_k».proof.Proof.Gen.ReferenceIdeal.Run
public import Idealize.ShloMosaic.Lib.Routing.Ops

@[expose] public section
noncomputable section
namespace Cert.Proof.Reference
open Idealize.ShloMosaic
open Cert.Proof.Combine (comb rowIx ix1)
variable {F : FTy → Type} [FloatOps F]

/-- A position as the reference indexes with it: one below zero would count from the table's end; one in range is itself. -/
theorem wrapped_eq {v : BitVec 32} (h : v.toNat < 6144) : Scalar.select (IntOp.cmpi .slt v 0#32) (IntOp.addi v 6144#32) v = v := by
  have h0 : v.slt 0#32 = false := by
    rw [BitVec.slt_eq_decide, decide_eq_false_iff_not, BitVec.toInt_eq_toNat_cond]
    simp only [BitVec.toInt_zero]
    omega
  show (if BitVec.ofBool (v.slt 0#32) = 1 then _ else v) = v
  rw [h0]
  exact if_neg (by decide)

open Cert.ReferenceIdeal Cert.ReferenceIdeal.Gen in
/-- The reference's gather by positions in range, read at an element: the named row's column. -/
theorem gather_val (d : GatherDims S6144x768 S2048x1 S2048x768) (hoff : d.offsetDims = [1]) (hcoll : d.collapsedSliceDims = [0]) (hob : d.operandBatchingDims = [])
    (hsim : d.startIndexMap = [0]) (hivd : d.indexVectorDim = 1) (hb : S2048.BroadcastsInDim S2048x1 ![0]) (hb' : S_.BroadcastsInDim S2048 ![])
    (ys : S6144x768.Idx → Elt F .f32) (p : S2048.Idx → Elt F .i32) (hp : ∀ j, (p j : BitVec 32).toNat < 6144) (y : S2048x768.Idx) :
    Host.gather d ys (broadcastInDim S2048x1 ![0] hb
        (select (cmpi .slt p (broadcastInDim S2048 ![] hb' (constantI S_ 32 0#32))) (addi p (broadcastInDim S2048 ![] hb' (constantI S_ 32 6144#32))) p)) y
      = ys (rowIx (p (ix1 (y 0))) (y 1)) := by
  have hy : y = ValueIdx.ix2 (y 0) (y 1) := funext fun a => by
    match a with
    | 0 => rfl
    | 1 => rfl
  have hlt := hp (ix1 (y 0))
  rw [hy]
  refine (Routing.gather_row d hoff hcoll hob hsim hivd ys _ (y 0) (y 1) ⟨(p (ix1 (y 0)) : BitVec 32).toNat, hlt⟩ ?_ (by decide)).trans (congrArg ys (funext fun a => ?_))
  · show Scalar.select (IntOp.cmpi .slt (p _) 0#32) (IntOp.addi (p _) 6144#32) (p _) = _
    rw [wrapped_eq (hp _)]
    refine (congrArg p (funext fun a => ?_)).trans (BitVec.eq_of_toNat_eq (by rw [BitVec.toNat_ofNat]; exact Nat.mod_eq_of_lt (BitVec.isLt _))).symm
    match a with
    | 0 => exact Fin.ext rfl
  · match a with
    | 0 => exact Fin.ext (show (p (ix1 (y 0)) : BitVec 32).toNat = min (p (ix1 (y 0)) : BitVec 32).toNat 6143 by omega)
    | 1 => rfl

/-- The precondition, all ones, says each position is below 6144. -/
theorem in_range {a b : BitVec 32} (e : IntOp.andi (IntOp.andi (IntOp.andi (IntOp.cmpi .sge a 0#32) (IntOp.cmpi .slt a 6144#32)) (IntOp.cmpi .sge b 0#32)) (IntOp.cmpi .slt b 6144#32) = 1#1) :
    a.toNat < 6144 ∧ b.toNat < 6144 := by
  have hand (p q : Bool) : IntOp.andi (BitVec.ofBool p) (BitVec.ofBool q) = BitVec.ofBool (p && q) := by
    cases p <;> cases q <;> decide
  have hone (p : Bool) : (BitVec.ofBool p = 1#1) ↔ p = true := by cases p <;> decide
  simp only [IntOp.cmpi, hand, hone, Bool.and_eq_true, BitVec.sle_eq_decide, BitVec.slt_eq_decide, decide_eq_true_eq, BitVec.toInt_eq_toNat_cond,
    BitVec.toNat_ofNat, Nat.reducePow, Nat.reduceMod] at e
  omega

open Cert.Pre_rows_in_range in
theorem pre_range [Cert.Pre_rows_in_range.Facts] {ys : FVec F S6144x768 .f32} {pa pb : IVec S2048 32} (h : Cert.Pre_rows_in_range.fn (F := F) ys pa pb = fun _ => 1#1) :
    (∀ j, (pa j : BitVec 32).toNat < 6144) ∧ ∀ j, (pb j : BitVec 32).toNat < 6144 := by
  have key : ∀ j, (pa j : BitVec 32).toNat < 6144 ∧ (pb j : BitVec 32).toNat < 6144 := fun j => in_range (congrFun h j)
  exact ⟨fun j => (key j).1, fun j => (key j).2⟩

end Cert.Proof.Reference
-- ==== Proof.RouterTop.lean ====
/-
  The two best of eight values: the better value first, the smaller index at a tie. The kernel finds them by two maxima and
  two least indices, the reference by a stable sort; both answers are determined by the order alone.
-/
module

public import Idealize.ShloMosaic.Lib.SortFacts
public import Idealize.ShloMosaic.Lib.Pointwise

@[expose] public section
noncomputable section
namespace Cert.Proof.Router
open Idealize.ShloMosaic

/-- Entry `a` comes before entry `b`: greater, or as great and at a smaller index. -/
def Beats (f : Fin 8 → EReal) (a b : Fin 8) : Prop := f b < f a ∨ (f a = f b ∧ a < b)

/-- The first of all. -/
def First (f : Fin 8 → EReal) (a : Fin 8) : Prop := ∀ b, b ≠ a → Beats f a b

/-- The first of all but `a`. -/
def Second (f : Fin 8 → EReal) (a c : Fin 8) : Prop := c ≠ a ∧ ∀ b, b ≠ a → b ≠ c → Beats f c b

theorem Beats.asymm {f : Fin 8 → EReal} {a b : Fin 8} (h : Beats f a b) (h' : Beats f b a) : False := by
  rcases h with h | ⟨h, l⟩ <;> rcases h' with h' | ⟨h', l'⟩
  · exact lt_asymm h h'
  · exact h.ne h'
  · exact h'.ne h
  · exact lt_asymm l l'

theorem First.unique {f : Fin 8 → EReal} {a a' : Fin 8} (h : First f a) (h' : First f a') : a = a' := by
  by_contra n
  exact (h a' (Ne.symm n)).asymm (h' a n)

theorem Second.unique {f : Fin 8 → EReal} {a c c' : Fin 8} (h : Second f a c) (h' : Second f a c') : c = c' := by
  by_contra n
  exact (h.2 c' h'.1 (Ne.symm n)).asymm (h'.2 c h.1 n)

/-- Two families ordered alike have the same entries before the same entries. -/
theorem beats_congr {f g : Fin 8 → EReal} (h : ∀ a b, f a < f b ↔ g a < g b) {a b : Fin 8} : Beats f a b ↔ Beats g a b := by
  have e : f a = f b ↔ g a = g b := by
    constructor <;> intro q
    · exact le_antisymm (not_lt.mp fun l => (lt_irrefl _ (q ▸ (h b a).mpr l))) (not_lt.mp fun l => (lt_irrefl _ (q ▸ (h a b).mpr l)))
    · exact le_antisymm (not_lt.mp fun l => (lt_irrefl _ (q ▸ (h b a).mp l))) (not_lt.mp fun l => (lt_irrefl _ (q ▸ (h a b).mp l)))
  unfold Beats
  rw [h b a, e]

/-- Eight values' greatest is one of them. -/
theorem fold_max_mem (f : Fin 8 → EReal) : ∃ e, Finset.fold max ⊥ f Finset.univ = f e ∧ ∀ b, f b ≤ f e := by
  have hle : ∀ b, f b ≤ Finset.fold max ⊥ f Finset.univ := fun b => Finset.le_fold_max _ |>.mpr (Or.inr ⟨b, Finset.mem_univ b, le_rfl⟩)
  rcases (Finset.le_fold_max (Finset.fold max ⊥ f Finset.univ)).mp le_rfl with h | ⟨e, -, h⟩
  · have h0 : Finset.fold max ⊥ f Finset.univ = f 0 := le_antisymm (h.trans bot_le) (hle 0)
    exact ⟨0, h0, fun b => h0 ▸ hle b⟩
  · have h0 := le_antisymm h (hle e)
    exact ⟨e, h0, fun b => h0 ▸ hle b⟩

/-- The least index that satisfies a condition, as the kernel's words give it: the least of the indices, 8 standing for an
    index that fails. -/
theorem least_bool : ∀ c : Fin 8 → Bool, (∃ e, c e = true) →
    ∃ a : Fin 8, Finset.fold IntOp.minsi 2147483647#32 (fun e : Fin 8 => if c e = true then BitVec.ofNat 32 e.val else 8#32) Finset.univ
        = BitVec.ofNat 32 a.val ∧ c a = true ∧ ∀ b, b < a → c b = false := by
  decide +kernel

theorem least_index (p : Fin 8 → Prop) [DecidablePred p] (h : ∃ e, p e) :
    ∃ a : Fin 8, Finset.fold IntOp.minsi 2147483647#32 (fun e : Fin 8 => if p e then BitVec.ofNat 32 e.val else 8#32) Finset.univ
        = BitVec.ofNat 32 a.val ∧ p a ∧ ∀ b, b < a → ¬ p b := by
  simpa using least_bool (fun e => decide (p e)) (by simpa using h)

/-- The least index at which the greatest value stands is the first entry. -/
theorem least_first (f : Fin 8 → EReal) (M : EReal) (hM : M = Finset.fold max ⊥ f Finset.univ) :
    ∃ a : Fin 8, Finset.fold IntOp.minsi 2147483647#32 (fun e : Fin 8 => if f e = M then BitVec.ofNat 32 e.val else 8#32) Finset.univ
        = BitVec.ofNat 32 a.val ∧ First f a := by
  obtain ⟨e, he, hle⟩ := fold_max_mem f
  rw [← hM] at he
  obtain ⟨a, ha, hpa, hb⟩ := least_index (fun e => f e = M) ⟨e, he.symm⟩
  refine ⟨a, ha, fun b hba => ?_⟩
  rcases lt_or_eq_of_le (show f b ≤ f a from hpa.trans he ▸ hle b) with l | q
  · exact Or.inl l
  · refine Or.inr ⟨q.symm, lt_of_le_of_ne (not_lt.mp fun l => hb b l (q.trans hpa)) (Ne.symm hba)⟩

/-- With the first entry lowered below every other, the first of what is left is the second. -/
theorem second_of_lowered {f : Fin 8 → EReal} {a c : Fin 8} (hf : ∀ e, ⊥ < f e)
    (h : First (fun e => if e = a then ⊥ else f e) c) : Second f a c := by
  have hca : c ≠ a := by
    rintro rfl
    obtain ⟨b, hb⟩ : ∃ b : Fin 8, b ≠ c := exists_ne c
    have := h b hb
    simp only [Beats, if_neg hb, if_true] at this
    rcases this with l | ⟨q, -⟩
    · exact not_lt_bot l
    · exact (hf b).ne q
  refine ⟨hca, fun b hba hbc => ?_⟩
  have := h b hbc
  simpa only [Beats, if_neg hba, if_neg hca] using this

/-! ## The stable sort -/

theorem insert_pairwise (f : Fin 8 → EReal) (before : Fin 8 → Fin 8 → Bool) (hb : ∀ x y, before x y = true ↔ f y < f x) (a : Fin 8) :
    ∀ l : List (Fin 8), (∀ b ∈ l, a < b) → l.Pairwise (Beats f) → (insertBefore before a l).Pairwise (Beats f)
  | [], _, _ => List.pairwise_singleton _ _
  | b :: l, hal, hl => by
    have hl' := List.pairwise_cons.mp hl
    by_cases hba : before b a = true
    · rw [show insertBefore before a (b :: l) = b :: insertBefore before a l from if_pos hba]
      refine List.pairwise_cons.mpr ⟨fun c hc => ?_,
        insert_pairwise f before hb a l (fun c hc => hal c (List.mem_cons_of_mem _ hc)) hl'.2⟩
      rcases List.mem_cons.mp ((perm_insertBefore before a l).mem_iff.mp hc) with rfl | hc
      · exact Or.inl ((hb _ _).mp hba)
      · exact hl'.1 c hc
    · rw [show insertBefore before a (b :: l) = a :: b :: l from if_neg hba]
      have hle : f b ≤ f a := not_lt.mp fun h => hba ((hb _ _).mpr h)
      refine List.pairwise_cons.mpr ⟨fun c hc => ?_, hl⟩
      have hac := hal c hc
      have hcle : f c ≤ f a := by
        rcases List.mem_cons.mp hc with rfl | hc
        · exact hle
        · rcases hl'.1 c hc with l | ⟨q, -⟩
          · exact l.le.trans hle
          · exact q ▸ hle
      rcases lt_or_eq_of_le hcle with l | q
      · exact Or.inl l
      · exact Or.inr ⟨q.symm, hac⟩

theorem sort_pairwise (f : Fin 8 → EReal) (before : Fin 8 → Fin 8 → Bool) (hb : ∀ x y, before x y = true ↔ f y < f x) :
    ∀ l : List (Fin 8), l.Pairwise (· < ·) → (stableSort before l).Pairwise (Beats f)
  | [], _ => List.Pairwise.nil
  | a :: l, hl => by
    have hl' := List.pairwise_cons.mp hl
    exact insert_pairwise f before hb a _ (fun b hb' => hl'.1 b ((perm_stableSort before l).mem_iff.mp hb')) (sort_pairwise f before hb l hl'.2)

/-- The sorted positions: an earlier one comes before a later one. -/
theorem sorted_beats (f : Fin 8 → EReal) (before : Fin 8 → Fin 8 → Bool) (hb : ∀ x y, before x y = true ↔ f y < f x)
    {i j : Fin 8} (hij : i < j) : Beats f (sortedFrom before i) (sortedFrom before j) :=
  List.pairwise_iff_get.mp (sort_pairwise f before hb (List.finRange 8) (List.pairwise_lt_finRange 8)) _ _ (by show i.val < j.val; exact hij)

theorem sorted_first (f : Fin 8 → EReal) (before : Fin 8 → Fin 8 → Bool) (hb : ∀ x y, before x y = true ↔ f y < f x) :
    First f (sortedFrom before 0) := fun b hne => by
  obtain ⟨k, rfl⟩ := sortedFrom_surjective before b
  exact sorted_beats f before hb (Fin.pos_iff_ne_zero.mpr fun h => hne (h ▸ rfl))

theorem sorted_second (f : Fin 8 → EReal) (before : Fin 8 → Fin 8 → Bool) (hb : ∀ x y, before x y = true ↔ f y < f x) :
    Second f (sortedFrom before 0) (sortedFrom before 1) := by
  refine ⟨fun h => absurd (sortedFrom_injective before h) (by decide), fun b h0 h1 => ?_⟩
  obtain ⟨k, rfl⟩ := sortedFrom_surjective before b
  refine sorted_beats f before hb ?_
  have k0 : k ≠ 0 := fun h => h0 (h ▸ rfl)
  have k1 : k ≠ 1 := fun h => h1 (h ▸ rfl)
  omega

/-! ## The softmax of real values keeps their order -/

theorem coe_sum {ι : Type} (s : Finset ι) (g : ι → ℝ) : ((∑ i ∈ s, g i : ℝ) : EReal) = ∑ i ∈ s, (g i : EReal) := by
  classical
  induction s using Finset.induction_on with
  | empty => rfl
  | insert a s ha ih => rw [Finset.sum_insert ha, Finset.sum_insert ha, EReal.coe_add, ih]

/-- The softmax as both programs compute it: each value less the greatest, exponentiated, over the sum of these. -/
def soft (f : Fin 8 → EReal) (e : Fin 8) : EReal :=
  Ideal.div (Ideal.exp (f e - Finset.fold max ⊥ f Finset.univ)) (∑ b : Fin 8, Ideal.exp (f b - Finset.fold max ⊥ f Finset.univ))

theorem soft_lt {f : Fin 8 → EReal} (hf : ∀ e, ∃ r : ℝ, f e = r) (a b : Fin 8) : soft f a < soft f b ↔ f a < f b := by
  choose l hl using hf
  obtain ⟨m, hm, -⟩ := fold_max_mem f
  have hz : ∀ e, Ideal.exp (f e - Finset.fold max ⊥ f Finset.univ) = ((Real.exp (l e - l m) : ℝ) : EReal) := fun e => by
    rw [hm, hl e, hl m, ← EReal.coe_sub, Ideal.exp_coe]
  have hs : (∑ b : Fin 8, Ideal.exp (f b - Finset.fold max ⊥ f Finset.univ)) = ((∑ b : Fin 8, Real.exp (l b - l m) : ℝ) : EReal) := by
    rw [Finset.sum_congr rfl fun e _ => hz e, coe_sum]
  have hpos : 0 < ∑ b : Fin 8, Real.exp (l b - l m) := Finset.sum_pos (fun _ _ => Real.exp_pos _) ⟨0, Finset.mem_univ _⟩
  have hv : ∀ e, soft f e = ((Real.exp (l e - l m) * (1 / ∑ b : Fin 8, Real.exp (l b - l m)) : ℝ) : EReal) := fun e => by
    rw [soft, hs, hz, Ideal.div_coe hpos.ne', ← EReal.coe_mul]
  rw [hv, hv, hl, hl, EReal.coe_lt_coe_iff, EReal.coe_lt_coe_iff, mul_lt_mul_iff_left₀ (one_div_pos.mpr hpos), Real.exp_lt_exp, sub_lt_sub_iff_right]

end Cert.Proof.Router
-- ==== Proof.RouterKernel.lean ====
/-
  What the router's kernel leaves in its three claimed results, read at an index over the extended reals: the two weights of
  each token and the loss.
-/
module

public import proofs.«01_k».proof.Proof.RouterTop
public import proofs.«01_k».proof.Proof.Gen.RouterIdeal.Value

@[expose] public section
noncomputable section
namespace Cert.Proof.Router.Kernel
open Cert.RouterIdeal Cert.RouterIdeal.Gen Cert.RouterIdeal.Value Idealize.ShloMosaic Idealize.ShloMosaic.TcCoe Idealize.SL.Sem

theorem hz : (![0, 0] : Fin 2 → ℕ) = fun _ => 0 := by
  funext a
  fin_cases a <;> rfl

section Arrays
variable {F : FTy → Type} [FloatOps F]
variable (m : (ℓ : Loc nD τ sig) → Buf (Elt F) ℓ) (c : Dev nD)

/-- The region's one point. -/
abbrev t0 : Fin cfg0.N := ⟨0, by decide⟩

theorem V_v0 : V m c main_v0 = shapeCast S2048x768 (m ((c.tc : Thread nD τ).loc main_arg0)) shapeCasts_S1x2048x768_S2048x768 := by
  show StableHlo.after hostOps0 _ _ = _
  after_results
  rfl

theorem V_v1 : V m c main_v1 = shapeCast S1x8 (m ((c.tc : Thread nD τ).loc main_arg2)) shapeCasts_S8_S1x8 := by
  show StableHlo.after hostOps0 _ _ = _
  after_results
  rfl

theorem iblk0 : (iblk m c 0 t0 : Vec F S2048x768 .f32) = V m c main_v0 := by
  funext i
  refine congrArg (V m c main_v0) ?_
  funext a
  apply Fin.ext
  fin_cases a
  · show 0 + 1 * (i 0).val = (i 0).val; omega
  · show 0 + 1 * (i 1).val = (i 1).val; omega

theorem iblk1 : (iblk m c 1 t0 : Vec F S768x8 .f32) = V m c main_arg1 := by
  funext i
  refine congrArg (V m c main_arg1) ?_
  funext a
  apply Fin.ext
  fin_cases a
  · show 0 + 1 * (i 0).val = (i 0).val; omega
  · show 0 + 1 * (i 1).val = (i 1).val; omega

theorem iblk2 : (iblk m c 2 t0 : Vec F S1x8 .f32) = V m c main_v1 := by
  funext i
  refine congrArg (V m c main_v1) ?_
  funext a
  apply Fin.ext
  fin_cases a
  · show 0 + 1 * (i 0).val = (i 0).val; omega
  · show 0 + 1 * (i 1).val = (i 1).val; omega

theorem arr5 : ((dats m 0 c).arrAt 5 cfg0.N : Vec F S1x2048 .f32) = out0_5 (iblk m c 0 t0) (iblk m c 1 t0) (iblk m c 2 t0) := by
  have h := (blocks5 m c t0 (flush0_5 t0)).trans (flushed5 m c t0)
  funext i
  refine Eq.trans (congrArg ((dats m 0 c).arrAt 5 cfg0.N) (Eq.symm ?_)) (congrFun h i)
  funext a
  apply Fin.ext
  fin_cases a
  · show 0 + 1 * (i 0).val = (i 0).val; omega
  · show 0 + 1 * (i 1).val = (i 1).val; omega

theorem arr6 : ((dats m 0 c).arrAt 6 cfg0.N : Vec F S1x2048 .f32) = out0_6 (iblk m c 0 t0) (iblk m c 1 t0) (iblk m c 2 t0) := by
  have h := (blocks6 m c t0 (flush0_6 t0)).trans (flushed6 m c t0)
  funext i
  refine Eq.trans (congrArg ((dats m 0 c).arrAt 6 cfg0.N) (Eq.symm ?_)) (congrFun h i)
  funext a
  apply Fin.ext
  fin_cases a
  · show 0 + 1 * (i 0).val = (i 0).val; omega
  · show 0 + 1 * (i 1).val = (i 1).val; omega

theorem arr9 : ((dats m 0 c).arrAt 9 cfg0.N : Vec F S1x1 .f32) = out0_9 (iblk m c 0 t0) (iblk m c 1 t0) (iblk m c 2 t0) := by
  have h := (blocks9 m c t0 (flush0_9 t0)).trans (flushed9 m c t0)
  funext i
  refine Eq.trans (congrArg ((dats m 0 c).arrAt 9 cfg0.N) (Eq.symm ?_)) (congrFun h i)
  funext a
  apply Fin.ext
  fin_cases a
  · show 0 + 1 * (i 0).val = (i 0).val; omega
  · show 0 + 1 * (i 1).val = (i 1).val; omega

/-- The tokens as the region finds them, token by feature. -/
abbrev X (c : Dev nD) : Vec F S2048x768 .f32 := shapeCast S2048x768 (m ((c.tc : Thread nD τ).loc main_arg0)) shapeCasts_S1x2048x768_S2048x768
/-- The router's weights. -/
abbrev Wt (c : Dev nD) : Vec F S768x8 .f32 := m ((c.tc : Thread nD τ).loc main_arg1)
/-- The router's biases. -/
abbrev B (c : Dev nD) : Vec F S1x8 .f32 := shapeCast S1x8 (m ((c.tc : Thread nD τ).loc main_arg2)) shapeCasts_S8_S1x8

/-- The first weights' array after the run. -/
theorem first_eq : ((dats m 0 c).arrAt 5 cfg0.N : Vec F S1x2048 .f32)
    = k0_pay19 (k0_pay3 (Wt m c) (X m c) (B m c)) (k0_pay8 (k0_pay6 (Wt m c) (X m c) (B m c)) (k0_pay7 (Wt m c) (X m c) (B m c))) := by
  rw [arr5, iblk0, iblk1, iblk2, V_v0, V_v1, V_main_arg1]
  unfold out0_5 k0_pay24 k0_pay27
  rw [View.canon_unit_zero hz, View.ld_unit_zero hz,
    View.ld_unit_zero hz, View.ld_unit_zero hz]

/-- The second weights'. -/
theorem second_eq : ((dats m 0 c).arrAt 6 cfg0.N : Vec F S1x2048 .f32)
    = k0_pay20 (k0_pay4 (Wt m c) (X m c) (B m c)) (k0_pay8 (k0_pay6 (Wt m c) (X m c) (B m c)) (k0_pay7 (Wt m c) (X m c) (B m c))) := by
  rw [arr6, iblk0, iblk1, iblk2, V_v0, V_v1, V_main_arg1]
  unfold out0_6 k0_pay25 k0_pay27
  rw [View.canon_unit_zero hz, View.ld_unit_zero hz,
    View.ld_unit_zero hz, View.ld_unit_zero hz]

/-- The loss's. -/
theorem loss_eq : ((dats m 0 c).arrAt 9 cfg0.N : Vec F S1x1 .f32)
    = k0_pay23 (k0_pay10 (k0_pay9 (F := F) (k0_pay5 (Wt m c) (X m c) (B m c)))) := by
  rw [arr9, iblk0, iblk1, iblk2, V_v0, V_v1, V_main_arg1]
  unfold out0_9 k0_pay28 k0_pay26
  rw [View.canon_unit_zero hz, View.ld_unit_zero hz,
    View.ld_unit_zero hz, View.ld_unit_zero hz]

end Arrays
end Cert.Proof.Router.Kernel
-- ==== Proof.RouterReference.lean ====
/-
  What the router's reference computes, stage by stage, and each stage read at an index over the extended reals.
-/
module

public import proofs.«01_k».proof.Proof.RouterTop
public import proofs.«01_k».proof.Proof.Gen.RouterReferenceIdeal.Run

@[expose] public section
noncomputable section
namespace Cert.Proof.Router.Ref
open Cert.RouterReferenceIdeal Cert.RouterReferenceIdeal.Gen Idealize.ShloMosaic Idealize.ShloMosaic.TcCoe Idealize.SL.Sem
open Cert.RouterReferenceIdeal.Value
variable {F : FTy → Type} [FloatOps F]

/-- The router's logits, token by expert. -/
def logits (x : FVec F S1x2048x768 .f32) (w : FVec F S768x8 .f32) (b : FVec F S8 .f32) : FVec F S2048x8 .f32 :=
  addf (Host.dotGeneral dot_S2048x768_S768x8_S2048x8_1_0_0_1_n_n none (shapeCast _ x shapeCasts_S1x2048x768_S2048x768) w)
    (broadcastInDim S2048x8 ![0, 1] bcast_S1x8_S2048x8_0_1 (broadcastInDim S1x8 ![1] bcast_S8_S1x8_1 b))

/-- A row's maximum, at least −∞. -/
def rowMax (L : FVec F S2048x8 .f32) : FVec F S2048 .f32 :=
  maximumf (broadcastInDim S2048 ![] bcast_S_S2048 (constant S_ .f32 0xFF800000#32))
    (Host.reduce FloatOps.maximumf L (constant S_ .f32 0xFF800000#32) reducesTo_S2048x8_S2048_d1 h_S_)

/-- The exponentials of the logits less their row's maximum. -/
def expo (L : FVec F S2048x8 .f32) : FVec F S2048x8 .f32 :=
  Host.exp (subf L (broadcastInDim S2048x8 ![0, 1] bcast_S2048x1_S2048x8_0_1 (broadcastInDim S2048x1 ![0] bcast_S2048_S2048x1_0 (rowMax L))))

/-- The softmax of the logits. -/
def softm (z : FVec F S2048x8 .f32) : FVec F S2048x8 .f32 :=
  Host.divf z (broadcastInDim S2048x8 ![0, 1] bcast_S2048x1_S2048x8_0_1 (broadcastInDim S2048x1 ![0] bcast_S2048_S2048x1_0
    (Host.reduceAdd z (constant S_ .f32 0x00000000#32) reducesTo_S2048x8_S2048_d1 h_S_)))

/-- The two greatest of each row. -/
def topV (W : FVec F S2048x8 .f32) : FVec F S2048x2 .f32 := (Host.topK S2048x2 1 (FloatOps.cmpfTotal .gt) W sliceFits_S2048x8_S2048x2).1

/-- Where the two greatest of each row stand. -/
def topI (W : FVec F S2048x8 .f32) : IVec S2048x2 32 := (Host.topK S2048x2 1 (FloatOps.cmpfTotal .gt) W sliceFits_S2048x8_S2048x2).2

/-- The two greatest of each row over their sum. -/
def topW (v : FVec F S2048x2 .f32) : FVec F S2048x2 .f32 :=
  Host.divf v (broadcastInDim S2048x2 ![0, 1] bcast_S2048x1_S2048x2_0_1 (broadcastInDim S2048x1 ![0] bcast_S2048_S2048x1_0
    (Host.reduceAdd v (constant S_ .f32 0x00000000#32) reducesTo_S2048x2_S2048_d1 h_S_)))

/-- Which expert each choice takes, one column per expert. -/
def hot (i : IVec S2048x2 32) : FVec F S2048x2x8 .f32 :=
  uitofp .f32 (cmpi .eq (broadcastInDim S2048x2x8 ![0, 1, 2] bcast_S2048x2x1_S2048x2x8_0_1_2 (broadcastInDim S2048x2x1 ![0, 1] bcast_S2048x2_S2048x2x1_0_1 i))
        (broadcastInDim S2048x2x8 ![0, 1, 2] bcast_S1x1x8_S2048x2x8_0_1_2 (iotaInDim S1x1x8 32 2)))

/-- Each expert's share of the choices. -/
def util (h : FVec F S2048x2x8 .f32) : FVec F S8 .f32 :=
  Host.divf (Host.reduceAdd h (constant S_ .f32 0x00000000#32) reducesTo_S2048x2x8_S8_d0_1 h_S_)
    (broadcastInDim S8 ![] bcast_S_S8 (constant S_ .f32 0x45800000#32))

variable (m : (ℓ : Loc nD τ sig) → Buf (Elt F) ℓ) (c : Dev nD)

/-- The routing weights. -/
def W (c : Dev nD) : FVec F S2048x8 .f32 := softm (expo (logits (m ((c.tc : Thread nD τ).loc main_arg0)) (m ((c.tc : Thread nD τ).loc main_arg1)) (m ((c.tc : Thread nD τ).loc main_arg2))))

theorem res0 : res_main_v32 m c = shapeCast _ (shapeCast _ (extractStridedSlice S2048x1 ![0, 0] (topW (topV (W m c))) slices_S2048x2_S2048x1_0_0) shapeCasts_S2048x1_S2048) shapeCasts_S2048_S1x2048 := rfl
theorem res1 : res_main_v35 m c = shapeCast _ (shapeCast _ (extractStridedSlice S2048x1 ![0, 1] (topW (topV (W m c))) slices_S2048x2_S2048x1_0_1) shapeCasts_S2048x1_S2048) shapeCasts_S2048_S1x2048 := rfl

/-- The mean of the shares. -/
def mean (u : FVec F S8 .f32) : FVec F S_ .f32 := Host.divf (Host.reduceAdd u (constant S_ .f32 0x00000000#32) reducesTo_S8_S_d0 h_S_) (constant S_ .f32 0x41000000#32)

/-- Eight less one. -/
def dof : FVec F S_ .f32 := subf (constant S_ .f32 0x41000000#32) (sitofp .f32 (constantI S_ 32 1#32))

/-- The shares less their mean. -/
def dev (u : FVec F S8 .f32) : FVec F S8 .f32 := subf u (broadcastInDim S8 ![0] bcast_S1_S8_0 (Host.divf (broadcastInDim S1 ![] bcast_S_S1 (Host.reduceAdd u (constant S_ .f32 0x00000000#32) reducesTo_S8_S_d0 h_S_))
   (broadcastInDim S1 ![] bcast_S_S1 (constant S_ .f32 0x41000000#32))))

/-- The shares' deviation, over one less than their number. -/
def std (u : FVec F S8 .f32) : FVec F S_ .f32 :=
  Host.sqrt (select (cmpf .ogt (dof (F := F)) (constant S_ .f32 0x00000000#32))
    (Host.divf (Host.reduceAdd (mulf (dev u) (dev u)) (constant S_ .f32 0x00000000#32) reducesTo_S8_S_d0 h_S_) (dof (F := F)))
    (constant S_ .f32 0x7FC00000#32))

/-- The deviation over the mean. -/
def cv (u : FVec F S8 .f32) : FVec F S_ .f32 := Host.divf (std u) (addf (mean u) (constant S_ .f32 0x358637BD#32))

theorem res2 : res_main_v36 m c = shapeCast _ (mulf (cv (util (hot (topI (W m c))))) (cv (util (hot (topI (W m c)))))) shapeCasts_S_S1x1 := rfl

section Readings
variable (x : FVec Ideal S1x2048x768 .f32) (w : FVec Ideal S768x8 .f32) (b : FVec Ideal S8 .f32)

theorem neg_inf : Ideal.ofBits .f32 0xFF800000#32 = ⊥ := by simp [Ideal.ofBits, Ideal.ieee]

theorem logits_apply (t : Fin 2048) (e : Fin 8) : logits x w b (ix2 t e) = ∑ k : Fin 768, x (ix3 0 t k) * w (ix2 k e) + b (ix1 e) := by
  pointwise [logits]

theorem rowMax_apply (L : FVec Ideal S2048x8 .f32) (t : Fin 2048) :
    rowMax L (ix1 t) = Finset.fold max ⊥ (fun e : Fin 8 => L (ix2 t e)) Finset.univ := by
  pointwise [rowMax]
  rw [neg_inf]
  exact max_eq_right bot_le

theorem weights_apply (L : FVec Ideal S2048x8 .f32) (t : Fin 2048) (e : Fin 8) :
    softm (expo L) (ix2 t e) = Router.soft (fun e => L (ix2 t e)) e := by
  have h : ∀ e, expo L (ix2 t e) = Ideal.exp (L (ix2 t e) - Finset.fold max ⊥ (fun e : Fin 8 => L (ix2 t e)) Finset.univ) := fun e => by
    rw [← rowMax_apply]; pointwise [expo]
  have h' : softm (expo L) (ix2 t e) = Ideal.div (expo L (ix2 t e)) (∑ e' : Fin 8, expo L (ix2 t e')) := by pointwise [softm]
  rw [h']; simp only [h]; rfl

/-- Where the `k`-th of a row's entries in order stands. -/
def at_ (V : FVec Ideal S2048x8 .f32) (t : Fin 2048) (k : Fin 8) : Fin 8 :=
  sortedFrom (fun a b : Fin 8 => FloatOps.cmpfTotal (F := Ideal) (φ := .f32) .gt (V (ix2 t a)) (V (ix2 t b)) == 1#1) k

theorem along_eq (t : Fin 2048) (e k : Fin 8) : Shape.Idx.along (s := S2048x8) (ix2 t e) (1 : Fin 2) k = ix2 t k := by
  funext a
  fin_cases a
  · rfl
  · rfl

theorem topV_apply (V : FVec Ideal S2048x8 .f32) (t : Fin 2048) (k : Fin 2) :
    topV V (ix2 t k) = V (ix2 t (at_ V t (k.castLE (by decide)))) := by
  have h : ∀ e : Fin 8, (Host.sort2 S2048x8 1 (fun l r => FloatOps.cmpfTotal (F := Ideal) (φ := .f32) .gt l.1 r.1) V
      (fun i => if hd : 1 < S2048x8.rank then iotaInDim S2048x8 32 ⟨1, hd⟩ i else 0#32)).1 (ix2 t e) = V (ix2 t (at_ V t e)) := fun e => by
    show V (Shape.Idx.along (s := S2048x8) (ix2 t e) (1 : Fin 2) (sortedFrom (fun a b : Fin 8 => FloatOps.cmpfTotal (F := Ideal) (φ := .f32) .gt
      (V (Shape.Idx.along (s := S2048x8) (ix2 t e) (1 : Fin 2) a)) (V (Shape.Idx.along (s := S2048x8) (ix2 t e) (1 : Fin 2) b)) == 1#1) e)) = _
    simp only [along_eq]; exact congrArg V (along_eq _ _ _)
  refine Eq.trans ?_ (h _)
  unfold topV Host.topK
  pointwise
  rfl

theorem topI_apply (V : FVec Ideal S2048x8 .f32) (t : Fin 2048) (k : Fin 2) :
    topI V (ix2 t k) = BitVec.ofNat 32 (at_ V t (k.castLE (by decide))).val := by
  have h : ∀ e : Fin 8, (Host.sort2 S2048x8 1 (fun l r => FloatOps.cmpfTotal (F := Ideal) (φ := .f32) .gt l.1 r.1) V
      (fun i => if hd : 1 < S2048x8.rank then iotaInDim S2048x8 32 ⟨1, hd⟩ i else 0#32)).2 (ix2 t e) = BitVec.ofNat 32 (at_ V t e).val := fun e => by
    show iotaInDim S2048x8 32 1 (Shape.Idx.along (s := S2048x8) (ix2 t e) (1 : Fin 2) (sortedFrom (fun a b : Fin 8 => FloatOps.cmpfTotal (F := Ideal) (φ := .f32) .gt
      (V (Shape.Idx.along (s := S2048x8) (ix2 t e) (1 : Fin 2) a)) (V (Shape.Idx.along (s := S2048x8) (ix2 t e) (1 : Fin 2) b)) == 1#1) e)) = _
    simp only [along_eq]; rfl
  refine Eq.trans ?_ (h _)
  unfold topI Host.topK
  pointwise
  rfl

theorem topW_apply (v : FVec Ideal S2048x2 .f32) (t : Fin 2048) (k : Fin 2) :
    topW v (ix2 t k) = Ideal.div (v (ix2 t k)) (v (ix2 t 0) + v (ix2 t 1)) := by
  pointwise [topW]
  rw [Fin.sum_univ_two]

theorem hot_apply (i : IVec S2048x2 32) (t : Fin 2048) (k : Fin 2) (e : Fin 8) :
    hot (F := Ideal) i (ix3 t k e) = FloatOps.uitofp .f32 (IntOp.cmpi .eq (i (ix2 t k)) (BitVec.ofNat 32 e.val)) := by
  pointwise [hot]

theorem sum_apply (h : FVec Ideal S2048x2x8 .f32) (e : Fin 8) :
    Ideal.hostReduceAdd reducesTo_S2048x2x8_S8_d0_1 h 0 (ix1 e) = ∑ t : Fin 2048, (h (ix3 t 0 e) + h (ix3 t 1 e)) := by
  unfold Ideal.hostReduceAdd
  rw [zero_add, Finset.sum_congr rfl fun t _ => (Fin.sum_univ_two fun k => h (ix3 t k e)).symm,
    ← Fintype.sum_prod_type' fun (t : Fin 2048) (k : Fin 2) => h (ix3 t k e)]
  refine Finset.sum_nbij' (fun i => ((i 0, i 1) : Fin 2048 × Fin 2)) (fun p => ix3 p.1 p.2 e) ?_
    (fun p _ => Finset.mem_filter.mpr ⟨@Finset.mem_univ S2048x2x8.Idx _ _, ?_⟩) (fun i hi => ?_) (fun _ _ => rfl) (fun i hi => ?_)
  · intro i _; exact @Finset.mem_univ (Fin 2048 × Fin 2) _ _
  · funext a; fin_cases a; rfl
  · have h2 := congrFun (Finset.mem_filter.mp hi).2 0
    have h2' : i 2 = e := h2
    funext a
    fin_cases a
    · rfl
    · rfl
    · exact h2'.symm
  · have h2 := congrFun (Finset.mem_filter.mp hi).2 0
    have h2' : i 2 = e := h2
    congr 1
    funext a
    fin_cases a
    · rfl
    · rfl
    · exact h2'

theorem util_apply (h : FVec Ideal S2048x2x8 .f32) (e : Fin 8) :
    util h (ix1 e) = Ideal.div (∑ t : Fin 2048, (h (ix3 t 0 e) + h (ix3 t 1 e))) (Ideal.ofBits .f32 0x45800000#32) := by
  rw [← sum_apply]
  pointwise [util]

theorem word_seven : Ideal.ofBits .f32 0x40E00000#32 = ((7 : ℝ) : EReal) := by
  simp [Ideal.ofBits, Ideal.ieee]; rw [← EReal.coe_mul]; norm_num

theorem word_eight : Ideal.ofBits .f32 0x41000000#32 = ((8 : ℝ) : EReal) := by
  simp [Ideal.ofBits, Ideal.ieee]; rw [← EReal.coe_mul]; norm_num

/-- The loss's square root, as a function of the eight shares. -/
def loss (u : Fin 8 → EReal) : EReal :=
  Ideal.div (Ideal.sqrt (Ideal.div
      (∑ x : Fin 8, (u x - Ideal.div (∑ k : Fin 8, u k) (Ideal.ofBits .f32 0x41000000#32)) * (u x - Ideal.div (∑ k : Fin 8, u k) (Ideal.ofBits .f32 0x41000000#32)))
      (Ideal.ofBits .f32 0x40E00000#32)))
    (Ideal.div (∑ k : Fin 8, u k) (Ideal.ofBits .f32 0x41000000#32) + Ideal.ofBits .f32 0x358637BD#32)

theorem dof_eq : Ideal.ofBits .f32 0x41000000#32 - FloatOps.sitofp (F := Ideal) .f32 1#32 = Ideal.ofBits .f32 0x40E00000#32 := by
  have h1 : FloatOps.sitofp (F := Ideal) .f32 1#32 = ((1 : ℝ) : EReal) := by
    show (((1#32 : BitVec 32).toInt : ℝ) : EReal) = _
    norm_num
  rw [h1, word_seven, word_eight, ← EReal.coe_sub]
  norm_num

theorem cv_apply (u : FVec Ideal S8 .f32) (z : S_.Idx) : cv u z = loss fun e => u (ix1 e) := by
  pointwise [cv, std, dev, dof, mean]
  rw [dof_eq, if_pos (by rw [word_seven]; exact_mod_cast (by norm_num : (0 : ℝ) < 7))]
  rfl

end Readings

end Cert.Proof.Router.Ref
-- ==== Proof.RouterRead.lean ====
/-
  The router's kernel read over the extended reals: the two experts it picks for a token, the weights it gives them, and the
  counts its doubling shifts add up.
-/
module

public import proofs.«01_k».proof.Proof.RouterKernel
public import proofs.«01_k».proof.Proof.RouterReference

@[expose] public section
noncomputable section
namespace Cert.Proof.Router.Kernel
open Cert.RouterIdeal Cert.RouterIdeal.Gen Idealize.ShloMosaic
open Cert.Proof.Router.Ref (neg_inf loss)

/-- A truth value as a one-bit word. -/
def bit (p : Prop) [Decidable p] : BitVec 1 := if p then 1#1 else 0#1

theorem cmpi_index (e a : Fin 8) : IntOp.cmpi .eq (BitVec.ofNat 32 e.val) (BitVec.ofNat 32 a.val) = bit (e = a) := by
  revert e a; decide

theorem select_bit {α : Type} (p : Prop) [Decidable p] (u v : α) : Scalar.select (bit p) u v = if p then u else v := by
  unfold bit
  by_cases h : p
  · rw [if_pos h, if_pos h]; rfl
  · rw [if_neg h, if_neg h]; rfl

theorem ori_bit (p q : Prop) [Decidable p] [Decidable q] : IntOp.ori (bit p) (bit q) = bit (p ∨ q) := by
  unfold bit
  by_cases hp : p <;> by_cases hq : q <;> simp [hp, hq, IntOp.ori]

/-- A sum of one term. -/
theorem sum_one (a : Fin 8) (s : Fin 8 → EReal) : (∑ e : Fin 8, if e = a then s e else 0) = s a := by
  rw [Finset.sum_ite_eq' Finset.univ a s, if_pos (Finset.mem_univ a)]

/-- A sum of two. -/
theorem sum_two {a c : Fin 8} (h : c ≠ a) (s : Fin 8 → EReal) : (∑ e : Fin 8, if e = a ∨ e = c then s e else 0) = s a + s c := by
  rw [← sum_one a s, ← sum_one c s, ← Finset.sum_add_distrib]
  refine Finset.sum_congr rfl fun e _ => ?_
  by_cases ha : e = a
  · rw [if_pos (Or.inl ha), if_pos ha, if_neg (fun hc => h (hc.symm.trans ha)), add_zero]
  · by_cases hc : e = c
    · rw [if_pos (Or.inr hc), if_neg ha, if_pos hc, zero_add]
    · rw [if_neg (not_or.mpr ⟨ha, hc⟩), if_neg ha, if_neg hc, zero_add]

section Picks
variable (w : Vec Ideal S768x8 .f32) (x : Vec Ideal S2048x768 .f32) (b : Vec Ideal S1x8 .f32)

/-- A token's logits, expert by expert. -/
def logit (t : Fin 2048) (e : Fin 8) : EReal := ∑ k : Fin 768, w (ix2 k e) * x (ix2 t k) + b (ix2 0 e)

theorem pay1_apply (e : Fin 8) (t : Fin 2048) : k0_pay1 w x b (ix2 e t) = logit w x b t e := by
  pointwise [k0_pay1]
  rfl

theorem pay2_apply (t : Fin 2048) : k0_pay2 w x b (ix2 0 t) = Finset.fold max ⊥ (logit w x b t) Finset.univ := by
  pointwise [k0_pay2]
  simp only [pay1_apply, neg_inf]

/-- The kernel's picks: the first expert and the second, as masks over the experts. -/
theorem picks (hf : ∀ t e, ⊥ < logit w x b t e) (t : Fin 2048) : ∃ a c : Fin 8, First (logit w x b t) a ∧ Second (logit w x b t) a c
    ∧ (∀ e, k0_pay3 w x b (ix2 e t) = bit (e = a)) ∧ ∀ e, k0_pay4 w x b (ix2 e t) = bit (e = c) := by
  obtain ⟨a, ha, hA⟩ := least_first (logit w x b t) _ rfl
  have h3 : ∀ e, k0_pay3 w x b (ix2 e t) = bit (e = a) := fun e => by
    rw [← cmpi_index, ← ha]
    pointwise [k0_pay3]
    simp only [pay1_apply, pay2_apply]
  obtain ⟨c, hc, hC⟩ := least_first (fun e => if e = a then ⊥ else logit w x b t e) _ rfl
  refine ⟨a, c, hA, second_of_lowered (hf t) hC, h3, fun e => ?_⟩
  rw [← cmpi_index, ← hc]
  pointwise [k0_pay4]
  simp only [pay1_apply, h3, select_bit, neg_inf]

variable {w x b}

theorem pay5_apply {t : Fin 2048} {a c : Fin 8} (h3 : ∀ e, k0_pay3 w x b (ix2 e t) = bit (e = a))
    (h4 : ∀ e, k0_pay4 w x b (ix2 e t) = bit (e = c)) (e : Fin 8) : k0_pay5 w x b (ix2 e t) = bit (e = a ∨ e = c) := by
  rw [← ori_bit, ← h3, ← h4]
  pointwise [k0_pay5]

theorem pay6_apply {t : Fin 2048} {a c : Fin 8} (h3 : ∀ e, k0_pay3 w x b (ix2 e t) = bit (e = a))
    (h4 : ∀ e, k0_pay4 w x b (ix2 e t) = bit (e = c)) (e : Fin 8) :
    k0_pay6 w x b (ix2 e t) = if e = a ∨ e = c then soft (logit w x b t) e else 0 := by
  rw [← select_bit, ← pay5_apply h3 h4]
  pointwise [k0_pay6]
  simp only [pay1_apply, pay2_apply]
  rfl

/-- The weights the kernel gives the experts: the two picked, each over the two's sum. -/
theorem pay8_apply {t : Fin 2048} {a c : Fin 8} (hca : c ≠ a) (h3 : ∀ e, k0_pay3 w x b (ix2 e t) = bit (e = a))
    (h4 : ∀ e, k0_pay4 w x b (ix2 e t) = bit (e = c)) (e : Fin 8) :
    k0_pay8 (k0_pay6 w x b) (k0_pay7 w x b) (ix2 e t)
      = Ideal.div (if e = a ∨ e = c then soft (logit w x b t) e else 0) (soft (logit w x b t) a + soft (logit w x b t) c) := by
  have h7 : k0_pay7 w x b (ix1 t) = soft (logit w x b t) a + soft (logit w x b t) c := by
    rw [← sum_two hca]
    pointwise [k0_pay7]
    simp only [pay6_apply h3 h4]
  rw [← pay6_apply h3 h4 e, ← h7]
  pointwise [k0_pay8]

theorem first_apply {t : Fin 2048} {a c : Fin 8} (hca : c ≠ a) (h3 : ∀ e, k0_pay3 w x b (ix2 e t) = bit (e = a))
    (h4 : ∀ e, k0_pay4 w x b (ix2 e t) = bit (e = c)) (z : Fin 1) :
    k0_pay19 (k0_pay3 w x b) (k0_pay8 (k0_pay6 w x b) (k0_pay7 w x b)) (ix2 z t)
      = Ideal.div (soft (logit w x b t) a) (soft (logit w x b t) a + soft (logit w x b t) c) := by
  pointwise [k0_pay19]
  simp only [h3, select_bit, pay8_apply hca h3 h4]
  rw [sum_one a fun e => Ideal.div (if e = a ∨ e = c then soft (logit w x b t) e else 0) (soft (logit w x b t) a + soft (logit w x b t) c),
    if_pos (Or.inl rfl)]

theorem second_apply {t : Fin 2048} {a c : Fin 8} (hca : c ≠ a) (h3 : ∀ e, k0_pay3 w x b (ix2 e t) = bit (e = a))
    (h4 : ∀ e, k0_pay4 w x b (ix2 e t) = bit (e = c)) (z : Fin 1) :
    k0_pay20 (k0_pay4 w x b) (k0_pay8 (k0_pay6 w x b) (k0_pay7 w x b)) (ix2 z t)
      = Ideal.div (soft (logit w x b t) c) (soft (logit w x b t) a + soft (logit w x b t) c) := by
  pointwise [k0_pay20]
  simp only [h4, select_bit, pay8_apply hca h3 h4]
  rw [sum_one c fun e => Ideal.div (if e = a ∨ e = c then soft (logit w x b t) e else 0) (soft (logit w x b t) a + soft (logit w x b t) c),
    if_pos (Or.inr rfl)]

end Picks

/-! ## The doubling shifts -/

/-- The sum of the `n` entries up to `t`. -/
def win (f : ℕ → EReal) (n t : ℕ) : EReal := ∑ j ∈ Finset.range n, if j ≤ t then f (t - j) else 0

theorem win_one (f : ℕ → EReal) (t : ℕ) : win f 1 t = f t := by
  unfold win
  rw [Finset.sum_range_one, if_pos (Nat.zero_le t), Nat.sub_zero]

theorem win_double (f : ℕ → EReal) (n t : ℕ) : win f (n + n) t = win f n t + if t < n then 0 else win f n (t - n) := by
  unfold win
  rw [Finset.sum_range_add]
  congr 1
  by_cases h : t < n
  · rw [if_pos h]
    exact Finset.sum_eq_zero fun j _ => if_neg (by omega)
  · rw [if_neg h]
    refine Finset.sum_congr rfl fun j _ => ?_
    by_cases hj : j ≤ t - n
    · rw [if_pos hj, if_pos (by omega), Nat.sub_sub]
    · rw [if_neg hj, if_neg (by omega)]

theorem win_all (f : ℕ → EReal) : win f 2048 2047 = ∑ t : Fin 2048, f t.val := by
  unfold win
  rw [Finset.sum_congr rfl fun j hj => if_pos (by have := Finset.mem_range.mp hj; omega), Fin.sum_univ_eq_sum_range f,
    ← Finset.sum_range_reflect f 2048]

/-- One shift: the vector plus itself moved right by `k`, zeros moving in. -/
def shift {F : FTy → Type} [FloatOps F] (k n : ℕ) (hs : S8x2048.Slices ![0, 0] ⟨2, ![8, n]⟩) (hc : Shape.Concatenates [(⟨2, ![8, k]⟩ : Shape), ⟨2, ![8, n]⟩] S8x2048 1)
    (v : FVec F S8x2048 .f32) : FVec F S8x2048 .f32 :=
  addf v (concatenate S8x2048 1 [⟨(⟨2, ![8, k]⟩ : Shape), broadcast (⟨2, ![8, k]⟩ : Shape) (Scalar.ofBits .f32 0x00000000#32)⟩,
    ⟨(⟨2, ![8, n]⟩ : Shape), extractStridedSlice ⟨2, ![8, n]⟩ ![0, 0] v hs⟩] hc)

theorem pay9_eq {F : FTy → Type} [FloatOps F] (v : IVec S8x2048 1) : k0_pay9 (F := F) v =
    shift 1024 1024 slices_S8x2048_o0_0_S8x1024 concatenates_S8x1024_S8x1024_S8x2048_d1
    (shift 512 1536 slices_S8x2048_o0_0_S8x1536 concatenates_S8x512_S8x1536_S8x2048_d1
    (shift 256 1792 slices_S8x2048_o0_0_S8x1792 concatenates_S8x256_S8x1792_S8x2048_d1
    (shift 128 1920 slices_S8x2048_o0_0_S8x1920 concatenates_S8x128_S8x1920_S8x2048_d1
    (shift 64 1984 slices_S8x2048_o0_0_S8x1984 concatenates_S8x64_S8x1984_S8x2048_d1
    (shift 32 2016 slices_S8x2048_o0_0_S8x2016 concatenates_S8x32_S8x2016_S8x2048_d1
    (shift 16 2032 slices_S8x2048_o0_0_S8x2032 concatenates_S8x16_S8x2032_S8x2048_d1
    (shift 8 2040 slices_S8x2048_o0_0_S8x2040 concatenates_S8x8_S8x2040_S8x2048_d1
    (shift 4 2044 slices_S8x2048_o0_0_S8x2044 concatenates_S8x4_S8x2044_S8x2048_d1
    (shift 2 2046 slices_S8x2048_o0_0_S8x2046 concatenates_S8x2_S8x2046_S8x2048_d1
    (shift 1 2047 slices_S8x2048_o0_0_S8x2047 concatenates_S8x1_S8x2047_S8x2048_d1
      (sitofp .f32 (extui 32 v natLt_1_32)))))))))))) := rfl

theorem shift_apply {k n : ℕ} (hkn : k + n = 2048) (hs : S8x2048.Slices ![0, 0] ⟨2, ![8, n]⟩)
    (hc : Shape.Concatenates [(⟨2, ![8, k]⟩ : Shape), ⟨2, ![8, n]⟩] S8x2048 1) (v : FVec Ideal S8x2048 .f32) (e : Fin 8) (t : Fin 2048) :
    shift k n hs hc v (ix2 e t) = v (ix2 e t) + if t.val < k then 0 else v (ix2 e ⟨t.val - k, by have := t.isLt; omega⟩) := by
  pointwise [shift]
  rfl

theorem shift_win {k n : ℕ} (hkn : k + n = 2048) (hs : S8x2048.Slices ![0, 0] ⟨2, ![8, n]⟩)
    (hc : Shape.Concatenates [(⟨2, ![8, k]⟩ : Shape), ⟨2, ![8, n]⟩] S8x2048 1) (v : FVec Ideal S8x2048 .f32) (f : ℕ → EReal) (e : Fin 8)
    (h : ∀ t : Fin 2048, v (ix2 e t) = win f k t.val) (t : Fin 2048) : shift k n hs hc v (ix2 e t) = win f (k + k) t.val := by
  rw [shift_apply hkn, win_double, h, h]

/-- The counts: a row's last entry after the shifts is the sum of the row. -/
theorem counts_apply (v : IVec S8x2048 1) (e : Fin 8) :
    k0_pay9 (F := Ideal) v (ix2 e ⟨2047, by decide⟩) = ∑ t : Fin 2048, FloatOps.sitofp (F := Ideal) .f32 (BitVec.setWidth 32 (v (ix2 e t))) := by
  rw [pay9_eq]
  let f : ℕ → EReal := fun n => if h : n < 2048 then FloatOps.sitofp (F := Ideal) .f32 (BitVec.setWidth 32 (v (ix2 e ⟨n, h⟩))) else 0
  have h0 : ∀ t : Fin 2048, (sitofp .f32 (extui 32 v natLt_1_32) : FVec Ideal S8x2048 .f32) (ix2 e t) = win f 1 t.val := fun t => by
    rw [win_one]
    pointwise
    show _ = dite _ _ _
    rw [dif_pos t.isLt]
  refine (shift_win (by norm_num) _ _ _ f e (shift_win (by norm_num) _ _ _ f e (shift_win (by norm_num) _ _ _ f e (shift_win (by norm_num) _ _ _ f e
    (shift_win (by norm_num) _ _ _ f e (shift_win (by norm_num) _ _ _ f e (shift_win (by norm_num) _ _ _ f e (shift_win (by norm_num) _ _ _ f e
    (shift_win (by norm_num) _ _ _ f e (shift_win (by norm_num) _ _ _ f e (shift_win (by norm_num) _ _ _ f e h0)))))))))) _).trans ?_
  refine (win_all f).trans (Finset.sum_congr rfl fun t _ => dif_pos t.isLt)

/-- The loss, from the counts. -/
theorem loss_apply (v : FVec Ideal S8x2048 .f32) (z z' : Fin 1) : k0_pay23 (k0_pay10 v) (ix2 z z')
    = (loss fun e => Ideal.div (v (ix2 e ⟨2047, by decide⟩)) (Ideal.ofBits .f32 0x45800000#32))
      * loss fun e => Ideal.div (v (ix2 e ⟨2047, by decide⟩)) (Ideal.ofBits .f32 0x45800000#32) := by
  have h : ∀ e : Fin 8, k0_pay10 v (ix2 e 0) = v (ix2 e ⟨2047, by decide⟩) := fun e => by pointwise [k0_pay10]
  pointwise [k0_pay23]
  simp only [h, Fin.sum_univ_one, Finset.univ_unique, Finset.sum_singleton]
  rfl

end Cert.Proof.Router.Kernel
-- ==== Proof.RouterEq.lean ====
/-
  From finite arguments the router's kernel and its reference give the same three arrays: the two routing weights of each
  token, and the loss.
-/
module

public import proofs.«01_k».proof.Pre_router_finite
public import proofs.«01_k».proof.Proof.RouterRead
public import Idealize.ShloMosaic.Lib.ReduceAll

@[expose] public section
noncomputable section
namespace Cert.Proof.Router.Eq
open Idealize.ShloMosaic
open Cert.Proof.Router.Kernel

/-! ## Finite arguments -/

theorem real_of_olt {v : EReal} (h : Ideal.cmp .olt (max v (-v)) (Ideal.ofBits .f32 0x7F800000#32) = 1#1) : ∃ r : ℝ, v = r := by
  have htop : Ideal.ofBits .f32 0x7F800000#32 = ⊤ := by simp [Ideal.ofBits, Ideal.ieee]
  rw [htop] at h
  have hlt : max v (-v) < ⊤ := by
    by_contra n
    have : Ideal.cmp .olt (max v (-v)) ⊤ = BitVec.ofBool (decide (max v (-v) < ⊤)) := rfl
    rw [this, decide_eq_false n] at h
    exact absurd h (by decide)
  induction v with
  | bot => exact absurd hlt (by simp)
  | top => exact absurd hlt (by simp)
  | coe r => exact ⟨r, rfl⟩

open Cert.Pre_router_finite in
theorem pre_finite [Cert.Pre_router_finite.Facts] {x : FVec Ideal S1x2048x768 .f32} {w : FVec Ideal S768x8 .f32} {b : FVec Ideal S8 .f32}
    (h : Cert.Pre_router_finite.fn (F := Ideal) x w b = fun _ => 1#1) : (∀ i, ∃ r : ℝ, x i = r) ∧ (∀ i, ∃ r : ℝ, w i = r) ∧ ∀ i, ∃ r : ℝ, b i = r := by
  have h0 := congrFun h ix0
  obtain ⟨h1, hb⟩ := IntOp.andi_eq_one.1 h0
  obtain ⟨hx, hw⟩ := IntOp.andi_eq_one.1 h1
  haveI : Subsingleton S_.Idx := ⟨fun a b => funext fun i => i.elim0⟩
  exact ⟨fun i => real_of_olt (Host.reduce_andi_all _ _ _ _ _ hx i), fun i => real_of_olt (Host.reduce_andi_all _ _ _ _ _ hw i),
    fun i => real_of_olt (Host.reduce_andi_all _ _ _ _ _ hb i)⟩

/-! ## The kernel's arrays are the reference's -/

section Main
open Cert.RouterReferenceIdeal
variable (x : FVec Ideal S1x2048x768 .f32) (w : FVec Ideal S768x8 .f32) (b : FVec Ideal S8 .f32)

/-- The kernel's tokens. -/
abbrev xk : FVec Ideal Cert.RouterIdeal.S2048x768 .f32 := shapeCast _ x Cert.RouterIdeal.Facts₀.shapeCasts_S1x2048x768_S2048x768
/-- The kernel's biases. -/
abbrev bk : FVec Ideal Cert.RouterIdeal.S1x8 .f32 := shapeCast _ b Cert.RouterIdeal.Facts₀.shapeCasts_S8_S1x8

/-- The kernel's logits are the reference's. -/
theorem logit_eq (t : Fin 2048) (e : Fin 8) : logit w (xk x) (bk b) t e = Ref.logits x w b (ix2 t e) := by
  have hx : ∀ k, xk x (ix2 t k) = x (ix3 0 t k) := fun k => by pointwise
  have hb : bk b (ix2 0 e) = b (ix1 e) := by pointwise
  rw [Ref.logits_apply, logit, hb]
  simp only [hx, mul_comm]

variable {x w b}

theorem logits_real (hx : ∀ i, ∃ r : ℝ, x i = r) (hw : ∀ i, ∃ r : ℝ, w i = r) (hb : ∀ i, ∃ r : ℝ, b i = r) (t : Fin 2048) (e : Fin 8) :
    ∃ r : ℝ, Ref.logits x w b (ix2 t e) = r := by
  choose fx hx using hx
  choose fw hw using hw
  choose fb hb using hb
  refine ⟨∑ k : Fin 768, fx (ix3 0 t k) * fw (ix2 k e) + fb (ix1 e), ?_⟩
  rw [Ref.logits_apply, EReal.coe_add, coe_sum, hb]
  simp only [hx, hw, EReal.coe_mul]

/-- The experts the two programs pick for a token, and what the kernel and the reference make of them. -/
theorem picks_eq (hr : ∀ t e, ∃ r : ℝ, Ref.logits x w b (ix2 t e) = r) (t : Fin 2048) : ∃ a c : Fin 8, c ≠ a
    ∧ (∀ e, Cert.RouterIdeal.Gen.k0_pay3 (F := Ideal) w (xk x) (bk b) (ix2 e t) = bit (e = a)) ∧ (∀ e, Cert.RouterIdeal.Gen.k0_pay4 (F := Ideal) w (xk x) (bk b) (ix2 e t) = bit (e = c))
    ∧ Ref.at_ (Ref.softm (Ref.expo (Ref.logits x w b))) t 0 = a ∧ Ref.at_ (Ref.softm (Ref.expo (Ref.logits x w b))) t 1 = c := by
  have hl : logit w (xk x) (bk b) t = fun e => Ref.logits x w b (ix2 t e) := funext (logit_eq x w b t)
  obtain ⟨a, c, hA, hC, h3, h4⟩ := picks w (xk x) (bk b) (fun t e => by
    obtain ⟨r, h⟩ := hr t e
    rw [logit_eq, h]
    exact EReal.bot_lt_coe r) t
  rw [hl] at hA hC
  have hbef : ∀ p q : Fin 8, (FloatOps.cmpfTotal (F := Ideal) (φ := .f32) .gt (Ref.softm (Ref.expo (Ref.logits x w b)) (ix2 t p))
      (Ref.softm (Ref.expo (Ref.logits x w b)) (ix2 t q)) == 1#1) = true ↔ Ref.logits x w b (ix2 t q) < Ref.logits x w b (ix2 t p) := fun p q => by
    rw [Ref.weights_apply, Ref.weights_apply, ← soft_lt (hr t)]
    show ((BitVec.ofBool (decide (_ < _))) == 1#1) = true ↔ _
    by_cases hlt : soft (fun e => Ref.logits x w b (ix2 t e)) q < soft (fun e => Ref.logits x w b (ix2 t e)) p
    · simp [hlt]
    · simp [hlt]
  have h0 : Ref.at_ (Ref.softm (Ref.expo (Ref.logits x w b))) t 0 = a := (sorted_first _ _ hbef).unique hA
  exact ⟨a, c, hC.1, h3, h4, h0, (h0 ▸ sorted_second _ _ hbef : Second _ a _).unique hC⟩

/-- The first routing weights. -/
theorem first_weight (hr : ∀ t e, ∃ r : ℝ, Ref.logits x w b (ix2 t e) = r) (t : Fin 2048) (z : Fin 1) :
    Cert.RouterIdeal.Gen.k0_pay19 (F := Ideal) (Cert.RouterIdeal.Gen.k0_pay3 (F := Ideal) w (xk x) (bk b)) (Cert.RouterIdeal.Gen.k0_pay8 (F := Ideal)
      (Cert.RouterIdeal.Gen.k0_pay6 (F := Ideal) w (xk x) (bk b)) (Cert.RouterIdeal.Gen.k0_pay7 (F := Ideal) w (xk x) (bk b))) (ix2 z t)
      = Ref.topW (Ref.topV (Ref.softm (Ref.expo (Ref.logits x w b)))) (ix2 t 0) := by
  obtain ⟨a, c, hca, h3, h4, h0, h1⟩ := picks_eq hr t
  have hl : logit w (xk x) (bk b) t = fun e => Ref.logits x w b (ix2 t e) := funext (logit_eq x w b t)
  rw [first_apply hca h3 h4, Ref.topW_apply, Ref.topV_apply, Ref.topV_apply, hl]
  have e0 : Ref.at_ (Ref.softm (Ref.expo (Ref.logits x w b))) t (Fin.castLE (by decide) (0 : Fin 2)) = a := h0
  have e1 : Ref.at_ (Ref.softm (Ref.expo (Ref.logits x w b))) t (Fin.castLE (by decide) (1 : Fin 2)) = c := h1
  rw [e0, e1, Ref.weights_apply, Ref.weights_apply]

/-- The second. -/
theorem second_weight (hr : ∀ t e, ∃ r : ℝ, Ref.logits x w b (ix2 t e) = r) (t : Fin 2048) (z : Fin 1) :
    Cert.RouterIdeal.Gen.k0_pay20 (F := Ideal) (Cert.RouterIdeal.Gen.k0_pay4 (F := Ideal) w (xk x) (bk b)) (Cert.RouterIdeal.Gen.k0_pay8 (F := Ideal)
      (Cert.RouterIdeal.Gen.k0_pay6 (F := Ideal) w (xk x) (bk b)) (Cert.RouterIdeal.Gen.k0_pay7 (F := Ideal) w (xk x) (bk b))) (ix2 z t)
      = Ref.topW (Ref.topV (Ref.softm (Ref.expo (Ref.logits x w b)))) (ix2 t 1) := by
  obtain ⟨a, c, hca, h3, h4, h0, h1⟩ := picks_eq hr t
  have hl : logit w (xk x) (bk b) t = fun e => Ref.logits x w b (ix2 t e) := funext (logit_eq x w b t)
  rw [second_apply hca h3 h4, Ref.topW_apply, Ref.topV_apply, Ref.topV_apply, hl]
  have e0 : Ref.at_ (Ref.softm (Ref.expo (Ref.logits x w b))) t (Fin.castLE (by decide) (0 : Fin 2)) = a := h0
  have e1 : Ref.at_ (Ref.softm (Ref.expo (Ref.logits x w b))) t (Fin.castLE (by decide) (1 : Fin 2)) = c := h1
  rw [e0, e1, Ref.weights_apply, Ref.weights_apply]

theorem sitofp_bit (p : Prop) [Decidable p] : FloatOps.sitofp (F := Ideal) .f32 (BitVec.setWidth 32 (bit p)) = if p then 1 else 0 := by
  unfold bit
  show (((BitVec.setWidth 32 (if p then 1#1 else 0#1)).toInt : ℝ) : EReal) = _
  by_cases h : p
  · rw [if_pos h, if_pos h]; norm_num
  · rw [if_neg h, if_neg h]; norm_num

theorem uitofp_bit (p : Prop) [Decidable p] : FloatOps.uitofp (F := Ideal) .f32 (bit p) = if p then 1 else 0 := by
  unfold bit
  show (((if p then 1#1 else 0#1 : BitVec 1).toNat : ℝ) : EReal) = _
  by_cases h : p
  · rw [if_pos h, if_pos h]; norm_num
  · rw [if_neg h, if_neg h]; norm_num

/-- The experts' counts. -/
theorem counts_eq (hr : ∀ t e, ∃ r : ℝ, Ref.logits x w b (ix2 t e) = r) (e : Fin 8) :
    Cert.RouterIdeal.Gen.k0_pay9 (F := Ideal) (Cert.RouterIdeal.Gen.k0_pay5 (F := Ideal) w (xk x) (bk b)) (ix2 e ⟨2047, by decide⟩)
      = ∑ t : Fin 2048, (Ref.hot (F := Ideal) (Ref.topI (Ref.softm (Ref.expo (Ref.logits x w b)))) (ix3 t 0 e)
        + Ref.hot (F := Ideal) (Ref.topI (Ref.softm (Ref.expo (Ref.logits x w b)))) (ix3 t 1 e)) := by
  rw [counts_apply]
  refine Finset.sum_congr rfl fun t _ => ?_
  obtain ⟨a, c, hca, h3, h4, h0, h1⟩ := picks_eq hr t
  have e0 : Ref.at_ (Ref.softm (Ref.expo (Ref.logits x w b))) t (Fin.castLE (by decide) (0 : Fin 2)) = a := h0
  have e1 : Ref.at_ (Ref.softm (Ref.expo (Ref.logits x w b))) t (Fin.castLE (by decide) (1 : Fin 2)) = c := h1
  rw [pay5_apply h3 h4, sitofp_bit, Ref.hot_apply, Ref.hot_apply, Ref.topI_apply, Ref.topI_apply, e0, e1, cmpi_index, cmpi_index, uitofp_bit, uitofp_bit]
  by_cases ha : e = a
  · rw [if_pos (Or.inl ha), if_pos ha.symm, if_neg (fun hc => hca (hc.trans ha)), add_zero]
  · by_cases hc : e = c
    · rw [if_pos (Or.inr hc), if_neg (fun h => ha h.symm), if_pos hc.symm, zero_add]
    · rw [if_neg (not_or.mpr ⟨ha, hc⟩), if_neg (fun h => ha h.symm), if_neg (fun h => hc h.symm), add_zero]

/-- The loss. -/
theorem loss_same (hr : ∀ t e, ∃ r : ℝ, Ref.logits x w b (ix2 t e) = r) (z z' : Fin 1) :
    Cert.RouterIdeal.Gen.k0_pay23 (Cert.RouterIdeal.Gen.k0_pay10 (Cert.RouterIdeal.Gen.k0_pay9 (F := Ideal) (Cert.RouterIdeal.Gen.k0_pay5 (F := Ideal) w (xk x) (bk b)))) (ix2 z z')
      = mulf (Ref.cv (Ref.util (Ref.hot (Ref.topI (Ref.softm (Ref.expo (Ref.logits x w b)))))))
        (Ref.cv (Ref.util (Ref.hot (Ref.topI (Ref.softm (Ref.expo (Ref.logits x w b))))))) ix0 := by
  have hm : ∀ u : FVec Ideal S_ .f32, mulf u u ix0 = u ix0 * u ix0 := fun u => rfl
  rw [hm, Ref.cv_apply, loss_apply]
  simp only [Ref.util_apply, counts_eq hr]

end Main

/-! ## The arrays the two programs return -/

section Arrays
open Cert.RouterReferenceIdeal
variable {x : FVec Ideal S1x2048x768 .f32} {w : FVec Ideal S768x8 .f32} {b : FVec Ideal S8 .f32}

theorem result0 (hr : ∀ t e, ∃ r : ℝ, Ref.logits x w b (ix2 t e) = r) :
    (shapeCast S1x2048 (shapeCast S2048 (extractStridedSlice S2048x1 ![0, 0] (Ref.topW (Ref.topV (Ref.softm (Ref.expo (Ref.logits x w b))))) Facts₀.slices_S2048x2_S2048x1_0_0)
        Facts₀.shapeCasts_S2048x1_S2048) Facts₀.shapeCasts_S2048_S1x2048 : FVec Ideal S1x2048 .f32)
      = Cert.RouterIdeal.Gen.k0_pay19 (F := Ideal) (Cert.RouterIdeal.Gen.k0_pay3 (F := Ideal) w (xk x) (bk b)) (Cert.RouterIdeal.Gen.k0_pay8 (F := Ideal)
      (Cert.RouterIdeal.Gen.k0_pay6 (F := Ideal) w (xk x) (bk b)) (Cert.RouterIdeal.Gen.k0_pay7 (F := Ideal) w (xk x) (bk b))) := by
  funext i
  obtain ⟨z, t, rfl⟩ : ∃ (z : Fin 1) (t : Fin 2048), i = ix2 z t := ⟨i 0, i 1, funext fun a => by fin_cases a <;> rfl⟩
  rw [first_weight hr]
  pointwise

theorem result1 (hr : ∀ t e, ∃ r : ℝ, Ref.logits x w b (ix2 t e) = r) :
    (shapeCast S1x2048 (shapeCast S2048 (extractStridedSlice S2048x1 ![0, 1] (Ref.topW (Ref.topV (Ref.softm (Ref.expo (Ref.logits x w b))))) Facts₀.slices_S2048x2_S2048x1_0_1)
        Facts₀.shapeCasts_S2048x1_S2048) Facts₀.shapeCasts_S2048_S1x2048 : FVec Ideal S1x2048 .f32)
      = Cert.RouterIdeal.Gen.k0_pay20 (F := Ideal) (Cert.RouterIdeal.Gen.k0_pay4 (F := Ideal) w (xk x) (bk b)) (Cert.RouterIdeal.Gen.k0_pay8 (F := Ideal)
      (Cert.RouterIdeal.Gen.k0_pay6 (F := Ideal) w (xk x) (bk b)) (Cert.RouterIdeal.Gen.k0_pay7 (F := Ideal) w (xk x) (bk b))) := by
  funext i
  obtain ⟨z, t, rfl⟩ : ∃ (z : Fin 1) (t : Fin 2048), i = ix2 z t := ⟨i 0, i 1, funext fun a => by fin_cases a <;> rfl⟩
  rw [second_weight hr]
  pointwise

theorem result2 (hr : ∀ t e, ∃ r : ℝ, Ref.logits x w b (ix2 t e) = r) :
    (shapeCast S1x1 (mulf (Ref.cv (Ref.util (Ref.hot (Ref.topI (Ref.softm (Ref.expo (Ref.logits x w b)))))))
        (Ref.cv (Ref.util (Ref.hot (Ref.topI (Ref.softm (Ref.expo (Ref.logits x w b)))))))) Facts₀.shapeCasts_S_S1x1 : FVec Ideal S1x1 .f32)
      = Cert.RouterIdeal.Gen.k0_pay23 (Cert.RouterIdeal.Gen.k0_pay10 (Cert.RouterIdeal.Gen.k0_pay9 (F := Ideal) (Cert.RouterIdeal.Gen.k0_pay5 (F := Ideal) w (xk x) (bk b)))) := by
  funext i
  obtain ⟨z, t, rfl⟩ : ∃ (z : Fin 1) (t : Fin 1), i = ix2 z t := ⟨i 0, i 1, funext fun a => by fin_cases a <;> rfl⟩
  rw [loss_same hr]
  pointwise

end Arrays
end Cert.Proof.Router.Eq
-- ==== Proof.WholeCounts.lean ====
/-
  The counting behind the layer's permutation, on natural numbers: each expert's rows, the blocks of 256 rows they fill, where an
  expert's blocks start, and the position of a token's row among them.
-/
module

public import proofs.«01_k».proof.Proof.RouterRead

@[expose] public section
noncomputable section
namespace Cert.Proof.Whole.Count

variable (a c : Fin 2048 → Fin 8)

/-- Whether a token, by its number, goes to an expert. -/
def ind (e : Fin 8) (n : ℕ) : ℕ := if h : n < 2048 then if e = a ⟨n, h⟩ ∨ e = c ⟨n, h⟩ then 1 else 0 else 0

/-- How many of the first `n` tokens go to an expert. -/
def rk (e : Fin 8) (n : ℕ) : ℕ := ∑ s ∈ Finset.range n, ind a c e s

/-- The blocks an expert's rows fill. -/
def nb (e : Fin 8) : ℕ := (rk a c e 2048 + 255) / 256

/-- The block an expert's rows start at. -/
def off (e : Fin 8) : ℕ := ∑ e' : Fin 8, if e' < e then nb a c e' else 0

/-- All the blocks in use. -/
def tot : ℕ := ∑ e : Fin 8, nb a c e

/-- The position of a token's row among an expert's. -/
def pos (e : Fin 8) (t : Fin 2048) : ℕ := 256 * off a c e + rk a c e t.val

variable {a c}

theorem ind_le (e : Fin 8) (n : ℕ) : ind a c e n ≤ 1 := by
  unfold ind
  split
  · split <;> omega
  · omega

theorem ind_hit {e : Fin 8} {t : Fin 2048} (h : e = a t ∨ e = c t) : ind a c e t.val = 1 := by
  unfold ind
  rw [dif_pos t.isLt, if_pos h]

theorem rk_le (e : Fin 8) (n : ℕ) : rk a c e n ≤ n := by
  unfold rk
  exact (Finset.sum_le_sum fun s _ => ind_le e s).trans (by simp)

theorem rk_succ (e : Fin 8) (n : ℕ) : rk a c e (n + 1) = rk a c e n + ind a c e n := Finset.sum_range_succ _ _

theorem rk_mono (e : Fin 8) {m n : ℕ} (h : m ≤ n) : rk a c e m ≤ rk a c e n :=
  Finset.sum_le_sum_of_subset (Finset.range_mono h)

theorem rk_lt {e : Fin 8} {t : Fin 2048} (h : e = a t ∨ e = c t) {n : ℕ} (hn : t.val < n) : rk a c e t.val < rk a c e n := by
  have h1 := rk_succ (a := a) (c := c) e t.val
  rw [ind_hit h] at h1
  have h2 := rk_mono (a := a) (c := c) e (show t.val + 1 ≤ n from hn)
  omega

theorem rk_sum (hne : ∀ t, c t ≠ a t) : ∑ e : Fin 8, rk a c e 2048 = 4096 := by
  unfold rk
  rw [Finset.sum_comm, Finset.sum_congr rfl (g := fun _ => 2) fun s hs => ?_]
  · simp
  have hs' := Finset.mem_range.mp hs
  simp only [ind, dif_pos hs']
  have : ∀ p q : Fin 8, q ≠ p → (∑ e : Fin 8, if e = p ∨ e = q then 1 else 0) = 2 := by decide
  exact this _ _ (hne _)

theorem nb_spec (e : Fin 8) : rk a c e 2048 ≤ 256 * nb a c e ∧ 256 * nb a c e ≤ rk a c e 2048 + 255 := by
  unfold nb
  omega

theorem tot_le (hne : ∀ t, c t ≠ a t) : tot a c ≤ 23 := by
  have h : 256 * tot a c ≤ 4096 + 8 * 255 := by
    unfold tot
    rw [Finset.mul_sum]
    refine (Finset.sum_le_sum fun e _ => (nb_spec e).2).trans ?_
    rw [Finset.sum_add_distrib, rk_sum hne]
    simp
  omega

theorem off_le {e e' : Fin 8} (h : e < e') : off a c e + nb a c e ≤ off a c e' := by
  unfold off
  generalize nb a c = f
  simp only [Fin.sum_univ_eight]
  revert h
  fin_cases e <;> fin_cases e' <;> simp <;> omega

theorem off_tot (e : Fin 8) : off a c e + nb a c e ≤ tot a c := by
  unfold off tot
  generalize nb a c = f
  simp only [Fin.sum_univ_eight]
  fin_cases e <;> simp <;> omega

theorem pos_ge (e : Fin 8) (t : Fin 2048) : 256 * off a c e ≤ pos a c e t := Nat.le_add_right _ _

theorem pos_lt {e : Fin 8} {t : Fin 2048} (h : e = a t ∨ e = c t) : pos a c e t < 256 * (off a c e + nb a c e) := by
  have h1 := rk_lt h t.isLt
  have h2 := (nb_spec (a := a) (c := c) e).1
  unfold pos
  omega

theorem pos_bound (hne : ∀ t, c t ≠ a t) {e : Fin 8} {t : Fin 2048} (h : e = a t ∨ e = c t) : pos a c e t < 6144 := by
  have h1 := pos_lt h
  have h2 := off_tot (a := a) (c := c) e
  have h3 := tot_le hne
  omega

/-- No two rows have one position. -/
theorem pos_inj {e e' : Fin 8} {t t' : Fin 2048} (h : e = a t ∨ e = c t) (h' : e' = a t' ∨ e' = c t') (hp : pos a c e t = pos a c e' t') :
    e = e' ∧ t = t' := by
  have h1 := pos_lt h
  have h2 := pos_lt h'
  have h3 := pos_ge (a := a) (c := c) e t
  have h4 := pos_ge (a := a) (c := c) e' t'
  have he : e = e' := by
    rcases lt_trichotomy e e' with g | g | g
    · have := off_le (a := a) (c := c) g; omega
    · exact g
    · have := off_le (a := a) (c := c) g; omega
  subst he
  refine ⟨rfl, ?_⟩
  have hr : rk a c e t.val = rk a c e t'.val := by unfold pos at hp; omega
  rcases lt_trichotomy t t' with g | g | g
  · have := rk_lt h (show t.val < t'.val from g); omega
  · exact g
  · have := rk_lt h' (show t'.val < t.val from g); omega

/-- The block of a row is one of its expert's: the experts whose blocks end at or before it are the ones before its expert. -/
theorem block_of {e : Fin 8} {t : Fin 2048} (h : e = a t ∨ e = c t) :
    (∑ e' : Fin 8, if off a c e' + nb a c e' ≤ pos a c e t / 256 then 1 else 0) = e.val ∧ pos a c e t / 256 < tot a c := by
  have h1 := pos_lt h
  have h3 := pos_ge (a := a) (c := c) e t
  have h5 := off_tot (a := a) (c := c) e
  refine ⟨?_, by omega⟩
  have hc : ∀ e' : Fin 8, (off a c e' + nb a c e' ≤ pos a c e t / 256) ↔ e' < e := fun e' => by
    rcases lt_trichotomy e' e with g | g | g
    · have := off_le (a := a) (c := c) g
      exact ⟨fun _ => g, fun _ => by omega⟩
    · subst g; exact ⟨fun _ => by omega, fun g => absurd g (lt_irrefl _)⟩
    · have := off_le (a := a) (c := c) g
      exact ⟨fun _ => by omega, fun g' => absurd (g'.trans g) (lt_irrefl _)⟩
  simp only [hc]
  have : ∀ e : Fin 8, (∑ e' : Fin 8, if e' < e then 1 else 0) = e.val := by decide
  exact this e

end Cert.Proof.Whole.Count
-- ==== Proof.WholePlaces.lean ====
/-
  The router's positions and block tables over the extended reals: what the kernel computes with floats and words is the counting
  of `Count`.
-/
module

public import proofs.«01_k».proof.Proof.RouterEq
public import proofs.«01_k».proof.Proof.WholeCounts

@[expose] public section
noncomputable section
namespace Cert.Proof.Whole.Places
open Cert.RouterIdeal Cert.RouterIdeal.Gen Idealize.ShloMosaic
open Cert.Proof.Router.Kernel Cert.Proof.Router.Eq Cert.Proof.Whole.Count

/-- A natural number's word, back from the float that carries it. -/
theorem fptosi_nat (n : ℕ) (h : n < 2 ^ 31) : FloatOps.fptosi (F := Ideal) (φ := .f32) 32 (((n : ℝ) : EReal)) = BitVec.ofNat 32 n := by
  show BitVec.ofInt 32 (max (-(2 ^ (32 - 1) : ℕ)) (min ((2 ^ (32 - 1) : ℕ) - 1) (if 0 ≤ (n : ℝ) then ⌊(n : ℝ)⌋ else ⌈(n : ℝ)⌉))) = _
  rw [if_pos (Nat.cast_nonneg n), Int.floor_natCast, min_eq_right (by push_cast; omega), max_eq_right (by push_cast; omega)]
  rfl

/-- A small word as a float. -/
theorem sitofp_nat (n : ℕ) (h : n < 2 ^ 31) : FloatOps.sitofp (F := Ideal) .f32 (BitVec.ofNat 32 n) = ((n : ℝ) : EReal) := by
  show (((BitVec.ofNat 32 n).toInt : ℝ) : EReal) = _
  rw [BitVec.toInt_eq_toNat_cond, BitVec.toNat_ofNat, Nat.mod_eq_of_lt (by omega), if_pos (by omega)]
  norm_num

variable {a c : Fin 2048 → Fin 8}

/-- The window over every token is the running count. -/
theorem win_rk (e : Fin 8) (t : Fin 2048) : win (fun n => ((ind a c e n : ℝ) : EReal)) 2048 t.val = ((rk a c e (t.val + 1) : ℝ) : EReal) := by
  have hcast : ∀ (s : Finset ℕ) (f : ℕ → ℝ), ((∑ i ∈ s, f i : ℝ) : EReal) = ∑ i ∈ s, ((f i : ℝ) : EReal) := fun s f => by
    classical
    induction s using Finset.induction_on with
    | empty => simp
    | insert x s hx ih => rw [Finset.sum_insert hx, Finset.sum_insert hx, EReal.coe_add, ih]
  unfold win rk
  rw [← Finset.sum_filter, show (Finset.range 2048).filter (fun j => j ≤ t.val) = Finset.range (t.val + 1) from by
    ext j; simp only [Finset.mem_filter, Finset.mem_range]; have := t.isLt; omega, Nat.cast_sum, hcast,
    ← Finset.sum_range_reflect (fun s => ((ind a c e s : ℝ) : EReal))]
  refine Finset.sum_congr rfl fun j _ => ?_
  rw [show t.val + 1 - 1 - j = t.val - j by omega]

section
variable {sel : IVec S8x2048 1} (hs : ∀ e t, sel (ix2 e t) = bit (e = a t ∨ e = c t))
include hs

/-- The running counts. -/
theorem pay9_rk (e : Fin 8) (t : Fin 2048) : k0_pay9 (F := Ideal) sel (ix2 e t) = ((rk a c e (t.val + 1) : ℝ) : EReal) := by
  rw [pay9_eq, ← win_rk]
  set f : ℕ → EReal := fun n => ((ind a c e n : ℝ) : EReal) with hf
  have h0 : ∀ t : Fin 2048, (sitofp .f32 (extui 32 sel natLt_1_32) : FVec Ideal S8x2048 .f32) (ix2 e t) = win f 1 t.val := fun t => by
    rw [win_one]
    pointwise
    rw [hs, sitofp_bit, hf]
    simp only [ind, dif_pos t.isLt]
    split <;> simp
  exact shift_win (by norm_num) _ _ _ f e (shift_win (by norm_num) _ _ _ f e (shift_win (by norm_num) _ _ _ f e (shift_win (by norm_num) _ _ _ f e
    (shift_win (by norm_num) _ _ _ f e (shift_win (by norm_num) _ _ _ f e (shift_win (by norm_num) _ _ _ f e (shift_win (by norm_num) _ _ _ f e
    (shift_win (by norm_num) _ _ _ f e (shift_win (by norm_num) _ _ _ f e (shift_win (by norm_num) _ _ _ f e h0)))))))))) t

/-- A token's rank among its expert's. -/
theorem pay11_rk (e : Fin 8) (t : Fin 2048) : k0_pay11 (F := Ideal) sel (k0_pay9 sel) (ix2 e t) = ((rk a c e t.val : ℝ) : EReal) := by
  pointwise [k0_pay11]
  rw [pay9_rk hs, hs, sitofp_bit, rk_succ]
  show ((_ : ℝ) : EReal) - _ = _
  by_cases h : e = a t ∨ e = c t
  · rw [if_pos h, ind_hit h, show (1 : EReal) = ((1 : ℝ) : EReal) from rfl, ← EReal.coe_sub]
    norm_num
  · rw [if_neg h]
    simp only [ind, dif_pos t.isLt, if_neg h]
    norm_num

/-- The experts' counts. -/
theorem pay10_rk (e : Fin 8) : k0_pay10 (F := Ideal) (k0_pay9 sel) (ix2 e 0) = ((rk a c e 2048 : ℝ) : EReal) := by
  have h : k0_pay10 (F := Ideal) (k0_pay9 sel) (ix2 e 0) = k0_pay9 sel (ix2 e ⟨2047, by decide⟩) := by pointwise [k0_pay10]
  rw [h, pay9_rk hs]

end

/-- The kernel's rounded-up division of a count by 256, on one word. -/
def blocks (v : BitVec 32) : BitVec 32 :=
  Scalar.select (IntOp.andi (IntOp.cmpi .ne (IntOp.subi (BitVec.setWidth 32 (IntOp.cmpi .sgt (IntOp.addi v 255#32) 0#32)) (BitVec.setWidth 32 (IntOp.cmpi .slt (IntOp.addi v 255#32) 0#32)))
      (Scalar.subi (Scalar.extui (Scalar.cmpi .sgt 256#32 0#32)) (Scalar.extui (Scalar.cmpi .slt 256#32 0#32))))
      (IntOp.cmpi .ne (IntOp.remsi .vector (IntOp.addi v 255#32) 256#32) 0#32))
    (IntOp.subi (IntOp.divsi .vector (IntOp.addi v 255#32) 256#32) 1#32) (IntOp.divsi .vector (IntOp.addi v 255#32) 256#32)

theorem pay12_blocks (v : FVec Ideal S8x2048 .f32) (e : Fin 8) : k0_pay12 v (ix2 e 0) = blocks (FloatOps.fptosi 32 (k0_pay10 v (ix2 e 0))) := by
  unfold blocks
  pointwise [k0_pay12]

theorem blocks_nat (n : Fin 2049) : blocks (BitVec.ofNat 32 n.val) = BitVec.ofNat 32 ((n.val + 255) / 256) := by
  revert n
  unfold blocks
  decide +kernel

theorem fold_nat (f : Fin 8 → ℕ) (s : Finset (Fin 8)) : Finset.fold IntOp.addi (0#32) (fun x => BitVec.ofNat 32 (f x)) s = BitVec.ofNat 32 (∑ x ∈ s, f x) := by
  induction s using Finset.induction_on with
  | empty => rfl
  | insert x s hx ih => rw [Finset.fold_insert hx, Finset.sum_insert hx, ih, BitVec.ofNat_add]; rfl

theorem sge_small (n m : Fin 24) : BitVec.setWidth 32 (IntOp.cmpi CmpIPredicate.sge (BitVec.ofNat 32 n.val) (BitVec.ofNat 32 m.val)) = BitVec.ofNat 32 (if m.val ≤ n.val then 1 else 0) := by
  revert n m; decide

theorem slt_small (n m : Fin 24) : BitVec.setWidth 32 (IntOp.cmpi CmpIPredicate.slt (BitVec.ofNat 32 n.val) (BitVec.ofNat 32 m.val)) = if n.val < m.val then 1#32 else 0#32 := by
  revert n m; decide

theorem min_small (k : Fin 9) : IntOp.minsi (BitVec.ofNat 32 k.val) 7#32 = BitVec.ofNat 32 (min 7 k.val) := by
  revert k; decide

section
variable {sel : IVec S8x2048 1} (hs : ∀ e t, sel (ix2 e t) = bit (e = a t ∨ e = c t))
include hs

theorem pay12_nb (e : Fin 8) : k0_pay12 (F := Ideal) (k0_pay9 sel) (ix2 e 0) = BitVec.ofNat 32 (nb a c e) := by
  have h := rk_le (a := a) (c := c) e 2048
  rw [pay12_blocks, pay10_rk hs, fptosi_nat _ (by omega)]
  exact blocks_nat ⟨rk a c e 2048, by omega⟩

theorem pay15_off (e : Fin 8) : k0_pay15 (k0_pay12 (F := Ideal) (k0_pay9 sel)) (k0_pay13 (F := Ideal) (k0_pay9 sel)) (k0_pay14 (F := Ideal) (k0_pay9 sel)) (ix2 e 0)
    = BitVec.ofNat 32 (off a c e) := by
  have h := pay12_nb hs
  pointwise [k0_pay15, k0_pay13, k0_pay14]
  unfold off
  simp only [h, Fin.sum_univ_eight]
  fin_cases e <;> simp [IntOp.addi] <;> simp only [← BitVec.ofNat_add] <;> exact congrArg (BitVec.ofNat 32) (by omega)

/-- The words the position rows are made of. -/
theorem pay16_pos (hne : ∀ t, c t ≠ a t) (e : Fin 8) (t : Fin 2048) :
    k0_pay16 (F := Ideal) (k0_pay11 sel (k0_pay9 sel)) (k0_pay12 (F := Ideal) (k0_pay9 sel)) (k0_pay13 (F := Ideal) (k0_pay9 sel)) (k0_pay14 (F := Ideal) (k0_pay9 sel)) (ix2 e t)
      = ((pos a c e t : ℝ) : EReal) := by
  have h1 := pay15_off hs e
  have h2 := pay11_rk hs e t
  have h3 := off_tot (a := a) (c := c) e
  have h4 := tot_le hne
  pointwise [k0_pay16]
  rw [h1, h2, show IntOp.muli (BitVec.ofNat 32 (off a c e)) 256#32 = BitVec.ofNat 32 (256 * off a c e) from by
    show BitVec.ofNat 32 _ * BitVec.ofNat 32 256 = _
    rw [← BitVec.ofNat_mul, Nat.mul_comm], sitofp_nat _ (by omega)]
  show ((_ : ℝ) : EReal) + ((_ : ℝ) : EReal) = _
  rw [← EReal.coe_add, ← Nat.cast_add, Nat.add_comm]
  rfl

theorem posA (hne : ∀ t, c t ≠ a t) {s3 : IVec S8x2048 1} (h3 : ∀ e t, s3 (ix2 e t) = bit (e = a t)) (z : Fin 1) (t : Fin 2048) :
    k0_pay17 (F := Ideal) s3 (k0_pay11 sel (k0_pay9 sel)) (k0_pay12 (F := Ideal) (k0_pay9 sel)) (k0_pay13 (F := Ideal) (k0_pay9 sel)) (k0_pay14 (F := Ideal) (k0_pay9 sel)) (ix2 z t)
      = BitVec.ofNat 32 (pos a c (a t) t) := by
  have hb := pos_bound hne (e := a t) (t := t) (.inl rfl)
  pointwise [k0_pay17]
  simp only [pay16_pos hs hne, h3, select_bit]
  rw [← fptosi_nat _ (by omega)]
  congr 1
  exact sum_one (a t) fun e => ((pos a c e t : ℝ) : EReal)

theorem posB (hne : ∀ t, c t ≠ a t) {s4 : IVec S8x2048 1} (h4 : ∀ e t, s4 (ix2 e t) = bit (e = c t)) (z : Fin 1) (t : Fin 2048) :
    k0_pay18 (F := Ideal) s4 (k0_pay11 sel (k0_pay9 sel)) (k0_pay12 (F := Ideal) (k0_pay9 sel)) (k0_pay13 (F := Ideal) (k0_pay9 sel)) (k0_pay14 (F := Ideal) (k0_pay9 sel)) (ix2 z t)
      = BitVec.ofNat 32 (pos a c (c t) t) := by
  have hb := pos_bound hne (e := c t) (t := t) (.inr rfl)
  pointwise [k0_pay18]
  simp only [pay16_pos hs hne, h4, select_bit]
  rw [← fptosi_nat _ (by omega)]
  congr 1
  exact sum_one (c t) fun e => ((pos a c e t : ℝ) : EReal)

theorem pay21_apply (hne : ∀ t, c t ≠ a t) (z : Fin 1) (n : Fin 24) :
    k0_pay21 (k0_pay12 (F := Ideal) (k0_pay9 sel)) (k0_pay15 (k0_pay12 (F := Ideal) (k0_pay9 sel)) (k0_pay13 (F := Ideal) (k0_pay9 sel)) (k0_pay14 (F := Ideal) (k0_pay9 sel))) (ix2 z n)
      = BitVec.ofNat 32 (min 7 (∑ e' : Fin 8, if off a c e' + nb a c e' ≤ n.val then 1 else 0)) := by
  have h1 := pay15_off hs
  have h2 := pay12_nb hs
  pointwise [k0_pay21]
  have hm : ∀ x : Fin 8, off a c x + nb a c x ≤ 23 := fun x => (off_tot x).trans (tot_le hne)
  have hx : ∀ x : Fin 8, BitVec.setWidth 32 (IntOp.cmpi CmpIPredicate.sge (BitVec.ofNat 32 n.val) (IntOp.addi (BitVec.ofNat 32 (off a c x)) (BitVec.ofNat 32 (nb a c x))))
      = BitVec.ofNat 32 (if off a c x + nb a c x ≤ n.val then 1 else 0) := fun x => by
    rw [show IntOp.addi (BitVec.ofNat 32 (off a c x)) (BitVec.ofNat 32 (nb a c x)) = BitVec.ofNat 32 (off a c x + nb a c x) from (BitVec.ofNat_add _ _).symm]
    exact sge_small n ⟨_, Nat.lt_succ_of_le (hm x)⟩
  simp only [h1, h2, hx]
  rw [fold_nat]
  have hc : (∑ e' : Fin 8, if off a c e' + nb a c e' ≤ n.val then 1 else 0) ≤ 8 :=
    (Finset.sum_le_sum (g := fun _ => 1) fun e' _ => by split <;> omega).trans (by simp)
  exact min_small ⟨_, Nat.lt_succ_of_le hc⟩

theorem pay22_apply (hne : ∀ t, c t ≠ a t) (z : Fin 1) (n : Fin 24) :
    k0_pay22 (k0_pay12 (F := Ideal) (k0_pay9 sel)) (ix2 z n) = if n.val < tot a c then 1#32 else 0#32 := by
  have h2 := pay12_nb hs
  pointwise [k0_pay22]
  simp only [h2]
  rw [fold_nat]
  exact slt_small n ⟨_, Nat.lt_succ_of_le (tot_le hne)⟩

end

end Cert.Proof.Whole.Places
-- ==== Proof.WholeSetup.lean ====
/-
  The set-up of the whole layer's run: the program as the launch theorem sees it and the ghost state — the handshakes'
  rounds, the two pipelines' rounds, the transfers' counters.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Pipeline.Regions
public import Idealize.ShloMosaic.Lib.Writes
public import Idealize.ShloMosaic.Lib.Tactic
public import proofs.«01_k».proof.Proof.Gen.WholeIdeal
public import proofs.«01_k».proof.Proof.Gen.WholeIdeal.Skeleton
public import proofs.«01_k».proof.Proof.Gen.WholeIdeal.Launch
public import proofs.«01_k».proof.Proof.Gen.WholeIdeal.Points

@[expose] public section

noncomputable section

namespace Cert.Proof.Whole

open Cert.WholeIdeal Cert.WholeIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

/-! ## The program as the launch theorem sees it -/

abbrev ΛP : Labels := Pipeline.Sig Λ₀ (Fin 2) fun p => (pcfgs (F := F) p).Adm
abbrev K : SparseCore.Cfg τ sig (ΛP (F := F)) 2 := sc (F := F)
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

/-- The calls' semaphores and buffers are placed as the launch asks. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun q => by match q with | 0 => rfl | 1 => rfl⟩

/-! ## The resource algebra: the handshakes' rounds, the pipelines' rounds, the transfers' counters -/

abbrev UH : Type := URounds (GSem nD τ sig) ℕ
abbrev UP : Type := URounds (GSem nD τ sig) Unit
abbrev UU : Type := UH × (UP × Counters)

local notation "𝕄" => MT nD τ sig (HIx 2) (Elt F) ℕ UU ℕ

abbrev EH : Emb UH (MT nD τ sig (HIx 2) (Elt F) ℕ UU ℕ) := embL

/-- The pipelines' rounds: the middle of the three parts. -/
def EP : Emb UP (MT nD τ sig (HIx 2) (Elt F) ℕ UU ℕ) :=
  ((Emb.inl : Emb UP (UP × Counters)).trans (Emb.inr : Emb (UP × Counters) UU)).trans
    (uEmb (nD := nD) (τ := τ) (sig := sig) (Ix := HIx 2) (Val := Elt F) (Name := ℕ) (U := UU) (Lvl := ℕ)).toEmb

instance : (EP (F := F)).LandsIn (upEmb : UEmb _ (MT nD τ sig (HIx 2) (Elt F) ℕ UU ℕ)) := by
  unfold EP; infer_instance

example : CountersIn UU := inferInstance

end Cert.Proof.Whole
-- ==== Proof.WholeTables.lean ====
/-
  The table of experts, one entry a block: how many times the entry changes up to a block, the first later block with
  another entry, and how the two move from one block to the next.
-/
module

public import proofs.«01_k».proof.Proof.WholeSetup

@[expose] public section
noncomputable section
namespace Cert.Proof.Whole
open Cert.WholeIdeal Cert.WholeIdeal.Gen
open Idealize.ShloMosaic

/-- Entry `n` of a table of 24 (the last past its end). -/
def ix24 (n : Nat) : S24.Idx := fun | 0 => ⟨min n 23, by show _ < 24; omega⟩
def tb (be : S24.Idx → BitVec 32) (n : Nat) : BitVec 32 := be (ix24 n)

variable (be : S24.Idx → BitVec 32)

/-- How many of the blocks `1 … n` have another entry than the block before. -/
def ord : Nat → Nat
  | 0 => 0
  | n + 1 => ord n + if tb be (n + 1) ≠ tb be n then 1 else 0

theorem ord_le (n : Nat) : ord be n ≤ n := by
  induction n with
  | zero => exact Nat.le_refl 0
  | succ n ih => unfold ord; split <;> omega

/-- The search for the next block with another entry, after `k` of the blocks from `b + 1`: 24 if none is found. -/
def nx (b : Nat) : Nat → Nat
  | 0 => 24
  | k + 1 => if tb be (b + 1 + k) ≠ tb be b ∧ nx b k = 24 then b + 1 + k else nx b k

/-- The first block past `b` with another entry than `b`'s; 24 if there is none. -/
def nxt (b : Nat) : Nat := nx be b (23 - b)

/-- `n` is the first block past `b` with another entry. -/
def IsNxt (b n : Nat) : Prop := b < n ∧ n ≤ 24 ∧ (∀ j, b ≤ j → j < n → tb be j = tb be b) ∧ (n < 24 → tb be n ≠ tb be b)

theorem nx_spec (b : Nat) : ∀ k, b + 1 + k ≤ 24 →
    (nx be b k = 24 ∧ ∀ j, b ≤ j → j < b + 1 + k → tb be j = tb be b)
      ∨ (nx be b k < b + 1 + k ∧ IsNxt be b (nx be b k))
  | 0, _ => .inl ⟨rfl, fun j h h' => by rw [show j = b by omega]⟩
  | k + 1, hk => by
    unfold nx
    rcases nx_spec b k (by omega) with ⟨h, hj⟩ | ⟨h, hn⟩
    · by_cases hne : tb be (b + 1 + k) ≠ tb be b
      · rw [if_pos ⟨hne, h⟩]
        exact .inr ⟨by omega, by omega, by omega, hj, fun _ => hne⟩
      · rw [if_neg (fun h' => hne h'.1), h]
        refine .inl ⟨rfl, fun j h1 h2 => ?_⟩
        rcases Nat.lt_or_ge j (b + 1 + k) with h3 | h3
        · exact hj j h1 h3
        · rw [show j = b + 1 + k by omega]; exact Classical.not_not.mp hne
    · rw [if_neg (fun h' => by omega)]
      exact .inr ⟨by omega, hn⟩

theorem nxt_spec {b : Nat} (hb : b < 24) : IsNxt be b (nxt be b) := by
  unfold nxt
  rcases nx_spec be b (23 - b) (by omega) with ⟨h, hj⟩ | ⟨_, hn⟩
  · rw [h]; exact ⟨hb, Nat.le_refl _, fun j h1 h2 => hj j h1 (by omega), fun h => absurd h (Nat.lt_irrefl _)⟩
  · exact hn

theorem IsNxt.unique {b n n' : Nat} (h : IsNxt be b n) (h' : IsNxt be b n') : n = n' := by
  obtain ⟨h1, h2, h3, h4⟩ := h
  obtain ⟨h1', h2', h3', h4'⟩ := h'
  rcases Nat.lt_trichotomy n n' with hl | hl | hl
  · exact absurd (h3' n (by omega) hl) (h4 (by omega))
  · exact hl
  · exact absurd (h3 n' (by omega) hl) (h4' (by omega))

theorem nxt_le {b : Nat} (hb : b < 24) : nxt be b ≤ 24 := (nxt_spec be hb).2.1
theorem lt_nxt {b : Nat} (hb : b < 24) : b < nxt be b := (nxt_spec be hb).1

/-- A block with its predecessor's entry has its predecessor's next. -/
theorem nxt_same {b : Nat} (hb : b + 1 < 24) (h : tb be (b + 1) = tb be b) : nxt be (b + 1) = nxt be b := by
  refine (IsNxt.unique be (b := b + 1) (nxt_spec be hb) ?_)
  obtain ⟨h1, h2, h3, h4⟩ := nxt_spec be (b := b) (by omega)
  refine ⟨?_, h2, fun j hj hj' => (h3 j (by omega) hj').trans h.symm, fun hn => by rw [h]; exact h4 hn⟩
  rcases Nat.lt_or_ge (b + 1) (nxt be b) with hl | hl
  · exact hl
  · have : nxt be b = b + 1 := by omega
    exact absurd (h) (this ▸ h4 (by omega))

/-- A block with another entry than its predecessor is its predecessor's next. -/
theorem nxt_diff {b : Nat} (hb : b + 1 < 24) (h : tb be (b + 1) ≠ tb be b) : nxt be b = b + 1 := by
  refine (IsNxt.unique be (nxt_spec be (by omega)) ⟨by omega, by omega, fun j h1 h2 => by rw [show j = b by omega], fun _ => h⟩)

theorem ord_same {b : Nat} (h : tb be (b + 1) = tb be b) : ord be (b + 1) = ord be b := by
  conv => lhs; unfold ord
  rw [if_neg (fun h' => h' h)]; rfl
theorem ord_diff {b : Nat} (h : tb be (b + 1) ≠ tb be b) : ord be (b + 1) = ord be b + 1 := by
  conv => lhs; unfold ord
  rw [if_pos h]

end Cert.Proof.Whole
-- ==== Proof.WholeScan.lean ====
/-
  What a block's visit reads off the table of experts before it moves anything: the block's expert, the number of changes
  up to it, its predecessor's expert, the next block with another expert.
-/
module

public import proofs.«01_k».proof.Proof.WholeTables

@[expose] public section
noncomputable section
namespace Cert.Proof.Whole
open Cert.WholeIdeal Cert.WholeIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.TcCoe
variable {F : FTy → Type} [FloatOps F]
local notation "𝕄" => MT nD τ sig (HIx 2) (Elt F) ℕ UU ℕ

/-! ## The words -/

theorem trips_t1 : ∀ i : grid2.Coords, (k2_t1_loop i).trips = (i 0).val := by decide +kernel
theorem trips_t2 : ∀ i : grid2.Coords, (k2_t2_loop i).trips = 0 := by decide +kernel
theorem trips_t3 : ∀ i : grid2.Coords, (k2_t3_loop i).trips = 23 - (i 0).val := by decide +kernel
theorem trips_t4 : ∀ i : grid2.Coords, (k2_t4_loop i).trips = 0 := by decide +kernel
theorem off6_eq : ∀ i : grid2.Coords, k2_off6 i = ![(i 0).val - 1] := by decide +kernel
theorem off9_eq : ∀ n : Fin 25, k2_off9 (BitVec.ofNat 32 n.val) = ![min n.val 23] := by decide +kernel
theorem cond1_iff : ∀ i : grid2.Coords, k2_cond1 i = 1#1 ↔ (i 0).val = 0 := by decide +kernel
theorem cond2_iff : ∀ n : Fin 25, k2_cond2 (BitVec.ofNat 32 n.val) = 1#1 ↔ n.val < 24 := by decide +kernel
theorem cond4_iff : ∀ n : Fin 25, k2_cond4 (BitVec.ofNat 32 n.val) = 1#1 ↔ n.val < 24 := by decide +kernel
theorem off14_eq : ∀ n : Fin 25, k2_off14 (BitVec.ofNat 32 n.val) = ![n.val % 2] := by decide +kernel
theorem off15_eq : ∀ n : Fin 25, k2_off15 (BitVec.ofNat 32 n.val) = ![n.val % 2, 0, 0] := by decide +kernel
theorem off16_eq : ∀ n : Fin 25, k2_off16 (BitVec.ofNat 32 n.val) = ![n.val % 2, 0, 0] := by decide +kernel
theorem off17_eq : ∀ n : Fin 25, k2_off17 (BitVec.ofNat 32 n.val) = ![1 - n.val % 2] := by decide +kernel
theorem off18_eq : ∀ n : Fin 25, k2_off18 (BitVec.ofNat 32 n.val) = ![1 - n.val % 2, 0, 0] := by decide +kernel
theorem off20_eq : ∀ n : Fin 25, k2_off20 (BitVec.ofNat 32 n.val) = ![1 - n.val % 2, 0, 0] := by decide +kernel
theorem off23_eq : ∀ n : Fin 25, k2_off23 (BitVec.ofNat 32 n.val) = ![n.val % 2, 0, 0] := by decide +kernel
theorem off24_eq : ∀ n : Fin 25, k2_off24 (BitVec.ofNat 32 n.val) = ![n.val % 2, 0, 0] := by decide +kernel

theorem cond3_iff (i : grid2.Coords) (v v' : BitVec 32) : k2_cond3 i v v' = 1#1 ↔ v ≠ v' ∧ 0 < (i 0).val := by
  have h : ∀ (i : grid2.Coords) (c : BitVec 1),
      (Scalar.cmpi .ne (Scalar.extui (Scalar.andi (Scalar.ori (Scalar.cmpi .eq (BitVec.ofNat 32 (i 0).val) 0#32) c)
        (Scalar.cmpi .sgt (BitVec.ofNat 32 (i 0).val) 0#32)) : BitVec 32) 0#32) = 1#1 ↔ c = 1#1 ∧ 0 < (i 0).val := by decide +kernel
  have h' : Scalar.cmpi .ne v v' = 1#1 ↔ v ≠ v' := by
    by_cases hv : v = v'
    · simp [Scalar.cmpi, IntOp.cmpi, hv]
    · have : (v != v') = true := bne_iff_ne.mpr hv
      simp [Scalar.cmpi, IntOp.cmpi, hv, this]
  exact (h i _).trans (and_congr_left fun _ => h')

/-! ## The run -/

abbrev beM : Memref sig .tc .smem S24 .i32 := Memref.whole main_v8
abbrev beAt (d : Dev nD) (be : S24.Idx → BitVec 32) : sProp 𝕄 := (beM).view.loc (d : Thread nD τ) ↦{fullShare} (be : Buf (Elt F) ((beM).view.loc (d : Thread nD τ)))

variable (d : Dev nD) (be : S24.Idx → BitVec 32) (i : grid2.Coords)
  (arg2 : Memref sig .tc .smem S24 .i32) (harg2 : arg2.IsWhole) (arg3 : Memref sig .tc .vmem S256x768 .f32) (harg3 : arg3.IsWhole) (arg4 : Memref sig .tc .vmem S1x1x3072 .f32) (harg4 : arg4.IsWhole) (arg5 : Memref sig .tc .vmem S1x1x768 .f32) (harg5 : arg5.IsWhole) (arg6 : Memref sig .tc .vmem S256x1 .f32) (harg6 : arg6.IsWhole) (arg7 : Memref sig .tc .hbm S8x768x3072 .f32) (harg7 : arg7.IsWhole) (arg8 : Memref sig .tc .hbm S8x3072x768 .f32) (harg8 : arg8.IsWhole) (arg9 : Memref sig .tc .vmem S256x768 .f32) (harg9 : arg9.IsWhole) (arg10 : Memref sig .tc .vmem S2x768x3072 .f32) (harg10 : arg10.IsWhole) (arg11 : Memref sig .tc .vmem S2x3072x768 .f32) (harg11 : arg11.IsWhole) (arg12 : DmaSems sig S2) (arg13 : DmaSems sig S2)

/-- A read of the table at entry `n`. -/
theorem wp_read (o : Fin 1 → Nat) (inb : ∀ a, o a + S1.size a ≤ S24.size a) (n : Nat) (ho : o = ![n]) (hn : n < 24) (h1 hp) (Φ : Elt F .i32 → sProp 𝕄) :
    iprop(beAt (F := F) d be ∗ (beAt (F := F) d be -∗ Φ (tb be n))) ⊢ wp frame (wpE (defs₀ (F := F)) 𝒱₀ (d : Thread nD τ) none) Set.univ
      (smemLoad beM (Rect.unit (s := S24) o S1.size inb) h1 hp) Φ := by
  subst ho
  have hx : (Rect.unit (s := S24) ![n] S1.size inb).emb (Shape.Idx.first (h1.symm ▸ Nat.one_pos)) = ix24 n := funext fun a => Fin.ext (by
    match a with
    | 0 => show n + 1 * 0 = min n 23; omega)
  iintro ⟨H, Hk⟩
  unfold smemLoad
  iapply (wp_smemLoadElt (defs := defs₀ (F := F)) 𝒱₀ (d : Thread nD τ) none Set.univ (m := beM) (r := Rect.unit (s := S24) ![n] S1.size inb) (k := .ret) (f := be)
    (S := Finset.univ) (Finset.subset_univ _)) $$ H
  iintro H
  rw [wp_ret]
  imodintro
  ihave Hk := Hk $$ H
  rw [show ((beM).access (Rect.unit (s := S24) ![n] S1.size inb)).read (Elt F) be (Shape.Idx.first (h1.symm ▸ Nat.one_pos)) = tb be n from
    congrArg be hx]
  iexact Hk

/-- A check that holds. -/
theorem wp_check {P : Prop} (dec : Decidable P) (h : P) (Φ : PLift P → sProp 𝕄) :
    Φ ⟨h⟩ ⊢ wp frame (wpE (defs₀ (F := F)) 𝒱₀ (d : Thread nD τ) none) Set.univ (Prog.lift (TpuEff.assume P dec)) Φ := by
  unfold Prog.lift
  refine .trans ?_ (wp_assume 𝒱₀ (d : Thread nD τ) none Set.univ h)
  rw [wp_ret]
  iintro H
  imodintro
  iexact H

/-- The words a trip of the counting loop computes. -/
theorem count_word (n : Nat) (v v' : BitVec 32) :
    Scalar.addi (BitVec.ofNat 32 n) (Scalar.select (Scalar.cmpi .ne v v') 1#32 0#32) = BitVec.ofNat 32 (n + if v ≠ v' then 1 else 0) := by
  by_cases hv : v = v'
  · subst hv
    simp [Scalar.cmpi, IntOp.cmpi, Scalar.select, Scalar.addi, IntOp.addi]
  · have h : (v != v') = true := bne_iff_ne.mpr hv
    simp [Scalar.cmpi, IntOp.cmpi, Scalar.select, Scalar.addi, IntOp.addi, hv, h, BitVec.ofNat_add]

/-- The counting loop. -/
theorem loop1 (Φ : BitVec 32 → sProp 𝕄) :
    iprop(beAt (F := F) d be ∗ (beAt (F := F) d be -∗ Φ (BitVec.ofNat 32 (ord be (i 0).val)))) ⊢ wp frame (wpE (defs₀ (F := F)) 𝒱₀ (d : Thread nD τ) none) Set.univ
      (Scf.Loop.for (k2_t1_loop i) (k2_t1_ok i) 0#32 (k2_t1_body (F := F) i beM (Memref.isWhole_whole _) arg2 harg2 arg3 harg3 arg4 harg4 arg5 harg5 arg6 harg6 arg7 harg7 arg8 harg8 arg9 harg9 arg10 harg10 arg11 harg11 arg12 arg13)) Φ := by
  iintro ⟨H, Hk⟩
  iapply (Scf.wp_for Idealize.ShloMosaic.frame (wpE (defs₀ (F := F)) 𝒱₀ (d : Thread nD τ) none) Set.univ (k2_t1_loop i).lb (k2_t1_loop i).ub (k2_t1_loop i).st (k2_t1_ok i) 0#32 _
    (fun k acc => iprop(beAt (F := F) d be ∗ ⌜acc = BitVec.ofNat 32 (ord be k)⌝)) ?_)
  case _ =>
    intro k acc
    have hk : k.val < (i 0).val := lt_of_lt_of_eq k.isLt (trips_t1 i)
    have hi : (i 0).val < 24 := (i 0).isLt
    unfold k2_t1_body
    simp only [wp_bind]
    iintro ⟨H, %h⟩
    subst h
    iapply (wp_read d be _ _ (k.val + 1) (k2_off2_eq i k) (by omega)) $$ [H]
    isplitl [H]; · iexact H
    iintro H
    iapply (wp_read d be _ _ k.val (k2_off3_eq i k) (by omega)) $$ [H]
    isplitl [H]; · iexact H
    iintro H
    simp only [wp_pure]
    imodintro
    isplitl [H]; · iexact H
    ipureintro
    rw [count_word]; rfl
  isplitl [H]
  · isplitl [H]; · iexact H
    ipureintro; rfl
  iintro %acc ⟨H, %h⟩
  subst h
  rw [show Scf.trips (k2_t1_loop i).lb (k2_t1_loop i).ub (k2_t1_loop i).st = (i 0).val from trips_t1 i]
  iapply Hk
  iexact H

/-- The counting loop's remainder makes no trip. -/
theorem loop2 (v : BitVec 32) (Φ : BitVec 32 → sProp 𝕄) :
    Φ v ⊢ wp frame (wpE (defs₀ (F := F)) 𝒱₀ (d : Thread nD τ) none) Set.univ
      (Scf.Loop.for (k2_t2_loop i) (k2_t2_ok i) v (k2_t2_body (F := F) i beM (Memref.isWhole_whole _) arg2 harg2 arg3 harg3 arg4 harg4 arg5 harg5 arg6 harg6 arg7 harg7 arg8 harg8 arg9 harg9 arg10 harg10 arg11 harg11 arg12 arg13)) Φ := by
  iintro H
  iapply (Scf.wp_for Idealize.ShloMosaic.frame (wpE (defs₀ (F := F)) 𝒱₀ (d : Thread nD τ) none) Set.univ (k2_t2_loop i).lb (k2_t2_loop i).ub (k2_t2_loop i).st (k2_t2_ok i) v _
    (fun _ acc => Φ acc) ?_)
  case _ =>
    intro k acc
    exact absurd (lt_of_lt_of_eq k.isLt (trips_t2 i)) (Nat.not_lt_zero _)
  isplitl [H]; · iexact H
  iintro %acc H
  iexact H

/-- The words a trip of the search computes. -/
theorem search_word (b k n : Nat) (hb : b + 1 + k < 25) (hn : n ≤ 24) (v v' : BitVec 32) :
    Scalar.select (Scalar.andi (Scalar.cmpi .ne v v') (Scalar.cmpi .eq (BitVec.ofNat 32 n) 24#32)) (BitVec.ofNat 32 (b + 1 + k)) (BitVec.ofNat 32 n)
      = BitVec.ofNat 32 (if v ≠ v' ∧ n = 24 then b + 1 + k else n) := by
  have h24 : (BitVec.ofNat 32 n == 24#32) = decide (n = 24) := by
    rw [Bool.eq_iff_iff]
    simp only [beq_iff_eq, decide_eq_true_eq]
    constructor
    · intro h
      have := congrArg BitVec.toNat h
      simp at this
      omega
    · rintro rfl; rfl
  by_cases hv : v = v'
  · subst hv
    simp [Scalar.cmpi, IntOp.cmpi, Scalar.select, Scalar.andi, IntOp.andi]
  · have h : (v != v') = true := bne_iff_ne.mpr hv
    by_cases h4 : n = 24 <;> simp [Scalar.cmpi, IntOp.cmpi, Scalar.select, Scalar.andi, IntOp.andi, hv, h, h24, h4]

theorem nx_le (b k : Nat) (h : b + 1 + k ≤ 24) : nx be b k ≤ 24 := by
  rcases nx_spec be b k h with ⟨h, -⟩ | ⟨-, h⟩
  · omega
  · exact h.2.1

/-- The search. -/
theorem loop3 (Φ : BitVec 32 → sProp 𝕄) :
    iprop(beAt (F := F) d be ∗ (beAt (F := F) d be -∗ Φ (BitVec.ofNat 32 (nxt be (i 0).val)))) ⊢ wp frame (wpE (defs₀ (F := F)) 𝒱₀ (d : Thread nD τ) none) Set.univ
      (Scf.Loop.for (k2_t3_loop i) (k2_t3_ok i) 24#32 (k2_t3_body (F := F) i beM (Memref.isWhole_whole _) arg2 harg2 arg3 harg3 arg4 harg4 arg5 harg5 arg6 harg6 arg7 harg7 arg8 harg8 arg9 harg9 arg10 harg10 arg11 harg11 arg12 arg13
        (tb be (i 0).val) (Scalar.addi (BitVec.ofNat 32 (i 0).val) 1#32))) Φ := by
  iintro ⟨H, Hk⟩
  iapply (Scf.wp_for Idealize.ShloMosaic.frame (wpE (defs₀ (F := F)) 𝒱₀ (d : Thread nD τ) none) Set.univ (k2_t3_loop i).lb (k2_t3_loop i).ub (k2_t3_loop i).st (k2_t3_ok i) 24#32 _
    (fun k acc => iprop(beAt (F := F) d be ∗ ⌜acc = BitVec.ofNat 32 (nx be (i 0).val k)⌝)) ?_)
  case _ =>
    intro k acc
    have hk : k.val < 23 - (i 0).val := lt_of_lt_of_eq k.isLt (trips_t3 i)
    have hi : (i 0).val < 24 := (i 0).isLt
    unfold k2_t3_body
    simp only [wp_bind]
    iintro ⟨H, %h⟩
    subst h
    iapply (wp_read d be _ _ ((i 0).val + k.val + 1) (k2_off7_eq i k) (by omega)) $$ [H]
    isplitl [H]; · iexact H
    iintro H
    simp only [wp_pure]
    imodintro
    isplitl [H]; · iexact H
    ipureintro
    have hiv : Scf.iv (Scalar.addi (BitVec.ofNat 32 (i 0).val) 1#32) 1#32 k.val = BitVec.ofNat 32 ((i 0).val + 1 + k.val) := by
      simp [Scf.iv, Scalar.addi, IntOp.addi, BitVec.ofNat_add]
    rw [hiv, search_word _ _ _ (by omega) (nx_le be _ _ (by omega)), show (i 0).val + k.val + 1 = (i 0).val + 1 + k.val by omega]
    rfl
  isplitl [H]
  · isplitl [H]; · iexact H
    ipureintro; rfl
  iintro %acc ⟨H, %h⟩
  subst h
  rw [show Scf.trips (k2_t3_loop i).lb (k2_t3_loop i).ub (k2_t3_loop i).st = 23 - (i 0).val from trips_t3 i,
    show nx be (i 0).val (23 - (i 0).val) = nxt be (i 0).val from rfl]
  iapply Hk
  iexact H

/-- The search's remainder makes no trip. -/
theorem loop4 (v u w : BitVec 32) (Φ : BitVec 32 → sProp 𝕄) :
    Φ v ⊢ wp frame (wpE (defs₀ (F := F)) 𝒱₀ (d : Thread nD τ) none) Set.univ
      (Scf.Loop.for (k2_t4_loop i) (k2_t4_ok i) v (k2_t4_body (F := F) i beM (Memref.isWhole_whole _) arg2 harg2 arg3 harg3 arg4 harg4 arg5 harg5 arg6 harg6 arg7 harg7 arg8 harg8 arg9 harg9 arg10 harg10 arg11 harg11 arg12 arg13 u w)) Φ := by
  iintro H
  iapply (Scf.wp_for Idealize.ShloMosaic.frame (wpE (defs₀ (F := F)) 𝒱₀ (d : Thread nD τ) none) Set.univ (k2_t4_loop i).lb (k2_t4_loop i).ub (k2_t4_loop i).st (k2_t4_ok i) v _
    (fun _ acc => Φ acc) ?_)
  case _ =>
    intro k acc
    exact absurd (lt_of_lt_of_eq k.isLt (trips_t4 i)) (Nat.not_lt_zero _)
  isplitl [H]; · iexact H
  iintro %acc H
  iexact H

/-! ## The checks -/

theorem inb3 {n m q r : Nat} (h : n + 1 ≤ m) : ∀ a : Fin 3, (![n, 0, 0] : Fin 3 → Nat) a + (⟨3, ![1, q, r]⟩ : Shape).size a ≤ (⟨3, ![m, q, r]⟩ : Shape).size a := fun a => by
  match a with
  | 0 => exact h
  | 1 => show 0 + q ≤ q; omega
  | 2 => show 0 + r ≤ r; omega

theorem inb1 {n m : Nat} (h : n + 1 ≤ m) : ∀ a : Fin 1, (![n] : Fin 1 → Nat) a + (⟨1, ![1]⟩ : Shape).size a ≤ (⟨1, ![m]⟩ : Shape).size a := fun a => by
  match a with
  | 0 => exact h

/-- Every entry of the table is an expert. -/
def InRange (be : S24.Idx → BitVec 32) : Prop := ∀ n, (tb be n).toNat < 8

variable (hbe : InRange be)
include hbe

theorem chk2 : k2_chk2 i (tb be (i 0).val) := ⟨fun _ => inb3 (hbe _), fun _ => inb3 (hbe _)⟩

omit hbe in
theorem mod2 (n : Nat) : n % 2 + 1 ≤ 2 := by omega
omit hbe in
theorem mod2' (n : Nat) : 1 - n % 2 + 1 ≤ 2 := by omega

omit hbe in
theorem chk4 (v v' : BitVec 32) : k2_chk4 i (BitVec.ofNat 32 (ord be (i 0).val)) v v' := by
  have hi : (i 0).val < 24 := (i 0).isLt
  have ho := ord_le be (i 0).val
  refine ⟨fun _ => ?_, fun _ => ?_, fun _ => ?_⟩
  · rw [off14_eq ⟨ord be (i 0).val, by omega⟩]; exact inb1 (mod2 _)
  · rw [off15_eq ⟨ord be (i 0).val, by omega⟩]; exact inb3 (mod2 _)
  · rw [off16_eq ⟨ord be (i 0).val, by omega⟩]; exact inb3 (mod2 _)

omit hbe in
theorem chk1 (v v' : BitVec 32) : k2_chk1 i (BitVec.ofNat 32 (ord be (i 0).val)) v v' (BitVec.ofNat 32 (nxt be (i 0).val)) := by
  have hi : (i 0).val < 24 := (i 0).isLt
  have ho := ord_le be (i 0).val
  have hn := nxt_le be hi
  refine ⟨?_, fun _ _ => ?_, fun _ _ => ?_, fun _ _ => ?_⟩
  · rw [off9_eq ⟨nxt be (i 0).val, by omega⟩]; exact inb1 (by show min _ 23 + 1 ≤ 24; omega)
  · rw [off17_eq ⟨ord be (i 0).val, by omega⟩]; exact inb1 (mod2' _)
  · rw [off18_eq ⟨ord be (i 0).val, by omega⟩]; exact inb3 (mod2' _)
  · rw [off20_eq ⟨ord be (i 0).val, by omega⟩]; exact inb3 (mod2' _)

theorem chk3 (v v' u : BitVec 32) (n : Nat) : k2_chk3 i v v' u (tb be n) :=
  ⟨fun _ _ => inb3 (hbe _), fun _ _ => inb3 (hbe _), fun _ _ => inb3 (hbe _), fun _ _ => inb3 (hbe _)⟩

omit hbe in
theorem chk5 (v : BitVec 32) : k2_chk5 (BitVec.ofNat 32 (ord be (i 0).val)) v := by
  have hi : (i 0).val < 24 := (i 0).isLt
  have ho := ord_le be (i 0).val
  refine ⟨fun _ => ?_, fun _ => ?_⟩
  · rw [off23_eq ⟨ord be (i 0).val, by omega⟩]; exact inb3 (mod2 _)
  · rw [off24_eq ⟨ord be (i 0).val, by omega⟩]; exact inb3 (mod2 _)

/-- The first part of a block's visit: its reads of the table, and nothing else. -/
theorem part1 (Φ) :
    iprop(beAt (F := F) d be ∗ (beAt (F := F) d be -∗ Φ ⟨BitVec.ofNat 32 (i 0).val, tb be (i 0).val, chk2 be i hbe, BitVec.ofNat 32 (ord be (i 0).val),
      Scalar.remsi (BitVec.ofNat 32 (ord be (i 0).val)) 2#32, tb be (i 0).val, tb be ((i 0).val - 1), chk4 be i _ _,
      Scalar.ori (Scalar.cmpi .eq (BitVec.ofNat 32 (i 0).val) 0#32) (Scalar.cmpi .ne (tb be (i 0).val) (tb be ((i 0).val - 1))),
      BitVec.ofNat 32 (nxt be (i 0).val), chk1 be i _ _, Scalar.cmpi .slt (BitVec.ofNat 32 (nxt be (i 0).val)) 24#32, tb be (min (nxt be (i 0).val) 23), chk3 be i hbe _ _ _ _⟩))
      ⊢ wp frame (wpE (defs₀ (F := F)) 𝒱₀ (d : Thread nD τ) none) Set.univ
      (k2_part1 (F := F) i beM (Memref.isWhole_whole _) arg2 harg2 arg3 harg3 arg4 harg4 arg5 harg5 arg6 harg6 arg7 harg7 arg8 harg8 arg9 harg9 arg10 harg10 arg11 harg11 arg12 arg13) Φ := by
  have hi : (i 0).val < 24 := (i 0).isLt
  have hn := nxt_le be hi
  rw [k2_part1_eq_skeleton]
  unfold k2_part1_skel
  simp only [wp_bind]
  iintro ⟨H, HQ⟩
  iapply (wp_read d be _ _ (i 0).val (k2_off1_eq i) hi) $$ [-]
  isplitl [H]; · iexact H
  iintro H
  iapply (wp_check d _ (chk2 be i hbe)) $$ [-]
  iapply (loop1 d be i) $$ [-]
  isplitl [H]; · iexact H
  iintro H
  iapply (loop2 d i) $$ [-]
  iapply (wp_read d be _ _ (i 0).val (k2_off1_eq i) hi) $$ [-]
  isplitl [H]; · iexact H
  iintro H
  iapply (wp_read d be _ _ ((i 0).val - 1) (off6_eq i) (by omega)) $$ [-]
  isplitl [H]; · iexact H
  iintro H
  iapply (wp_check d _ (chk4 be i _ _)) $$ [-]
  iapply (loop3 d be i) $$ [-]
  isplitl [H]; · iexact H
  iintro H
  iapply (loop4 d i) $$ [-]
  iapply (wp_check d _ (chk1 be i _ _)) $$ [-]
  iapply (wp_read d be _ _ (min (nxt be (i 0).val) 23) (off9_eq ⟨nxt be (i 0).val, by omega⟩) (by omega)) $$ [-]
  isplitl [H]; · iexact H
  iintro H
  iapply (wp_check d _ (chk3 be i hbe _ _ _ _)) $$ [-]
  simp only [wp_pure]
  imodintro
  iapply HQ
  iexact H

end Cert.Proof.Whole
-- ==== Proof.WholeSlots.lean ====
/-
  The two slots the experts' matrices pass through: a slot idle, filling from an expert's matrices, or full of them, and
  the two steps between — a copy issued, a copy waited for.
-/
module

public import proofs.«01_k».proof.Proof.WholeScan

@[expose] public section
noncomputable section
namespace Cert.Proof.Whole
open Cert.WholeIdeal Cert.WholeIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.TcCoe
variable {F : FTy → Type} [FloatOps F]
local notation "𝕄" => MT nD τ sig (HIx 2) (Elt F) ℕ UU ℕ

/-! ## One copy -/

section One

variable (d : Dev nD) {s : Shape} (src : Memref sig .tc .hbm s .f32) (dst : Memref sig .tc .vmem s .f32) (sm : DmaSem sig)
  (q : PosShare TreeShare) (w : Buf (Elt F) (src.view.loc (d : Thread nD τ)))

/-- A copy under way: at the wait, the destination holding what the source does. -/
def Fly : sProp 𝕄 :=
  iprop(Transfers.Flight countersEmb (d : Thread nD τ) (.dma sm) (none : HIx 2) (dst.view.amount (.dma sm))
      iprop((∃ f : Buf (Elt F) (dst.view.loc (d : Thread nD τ)), (dst.view.loc (d : Thread nD τ) ↦[dst.view.set]{fullShare} f) ∗ ⌜dst.view.read (Elt F) f = src.view.read (Elt F) w⌝)
        ∗ (src.view.loc (d : Thread nD τ) ↦[src.view.set]{q} w))
    ∗ (src.view.loc (d : Thread nD τ) ↦[Finset.univ \ src.view.set]{q} w))

/-- A copy done. -/
def Full : sProp 𝕄 :=
  iprop((src.view.loc (d : Thread nD τ) ↦{q} w)
    ∗ (∃ f : Buf (Elt F) (dst.view.loc (d : Thread nD τ)), (dst.view.loc (d : Thread nD τ) ↦[dst.view.set]{fullShare} f) ∗ ⌜dst.view.read (Elt F) f = src.view.read (Elt F) w⌝)
    ∗ semVal ((d : Thread nD τ), .dma sm) 0)

theorem issue (hs : 0 < s.numel) (hsrc : src.view.WordExact) (hdst : dst.view.WordExact) (hsem) (Φ : PUnit → sProp 𝕄) :
    iprop(((src.view.loc (d : Thread nD τ) ↦{q} w) ∗ (∃ f : Buf (Elt F) (dst.view.loc (d : Thread nD τ)), dst.view.loc (d : Thread nD τ) ↦[dst.view.set]{fullShare} f)
        ∗ semVal ((d : Thread nD τ), .dma sm) 0) ∗ (Fly d src dst sm q w -∗ Φ ⟨⟩))
      ⊢ wp frame (wpE (defs₀ (F := F)) 𝒱₀ (d : Thread nD τ) none) Set.univ
        (Prog.lift (.enqueueDma src (.here dst) (.dma sm) hsrc hdst hsem)) Φ := by
  iintro ⟨⟨Hw, ⟨%f, Hd⟩, Hs⟩, Hk⟩
  ihave Hw := (pointsTo_split_subset (Finset.subset_univ src.view.set)).1 $$ Hw
  icases Hw with ⟨Hr, Hw⟩
  unfold Prog.lift
  iapply (Transfers.wp_dmaLocal countersEmb 𝒱₀ (d : Thread nD τ) none (src := src) (dst := dst) (sm := .dma sm) (via := .same) (fs := w) (fd := f)
    (none : HIx 2) (dst.view.amount (.dma sm)) rfl (View.dmaCredit_pos _ hs) (Finset.Subset.refl _)) $$ [Hr Hd Hs]
  · isplitl [Hr]; · iexact Hr
    isplitl [Hd]; · iexact Hd
    iexact Hs
  iintro Hf
  rw [wp_ret]
  imodintro
  iapply Hk
  unfold Fly
  isplitl [Hf]
  · iapply (Transfers.Flight_mono countersEmb (d : Thread nD τ) ?_) $$ Hf
    iintro ⟨Hd, Hr⟩
    isplitl [Hd]
    · iexists _
      isplitl [Hd]; · iexact Hd
      ipureintro
      exact View.read_write_univ _ _
    iexact Hr
  iexact Hw

theorem await (srcw : Memref sig .tc .hbm s .f32) (dstw : Memref sig .tc .vmem s .f32) (hN : dstw.view.dmaCredit = dst.view.amount (.dma sm))
    (hsrc : srcw.view.WordExact) (hdst : dstw.view.WordExact) (O W) (Φ : PUnit → sProp 𝕄) :
    iprop((Fly d src dst sm q w ∗ owes (d : Thread nD τ) O W ∗ MayWait (d : Thread nD τ) (.dma sm) (none : HIx 2) O)
        ∗ ((Full d src dst sm q w ∗ owes (d : Thread nD τ) O (insert (SemLoc.dma sm, (none : HIx 2)) W)) -∗ Φ ⟨⟩))
      ⊢ wp frame (wpE (defs₀ (F := F)) 𝒱₀ (d : Thread nD τ) none) Set.univ
        (Prog.lift (.waitDma2 sm srcw dstw hsrc hdst)) Φ := by
  unfold Fly Full
  iintro ⟨⟨⟨Hf, Hw⟩, HO, HM⟩, Hk⟩
  unfold Prog.lift
  iapply (Transfers.wp_waitLocalO countersEmb 𝒱₀ (d : Thread nD τ) none (srcw := srcw) (dstw := dstw) (none : HIx 2) hN) $$ [Hf HO HM]
  · isplitl [Hf]; · iexact Hf
    isplitl [HO]; · iexact HO
    iexact HM
  iintro ⟨⟨Hd, Hr⟩, Hs, HO⟩
  rw [wp_ret]
  imodintro
  iapply Hk
  isplitr [HO]
  · isplitl [Hr Hw]
    · iapply (pointsTo_split_subset (Finset.subset_univ src.view.set)).2
      isplitl [Hr]; · iexact Hr
      iexact Hw
    isplitl [Hd]; · iexact Hd
    iexact Hs
  iexact HO

end One

/-! ## The slots -/

abbrev w1M : Memref sig .tc .hbm S8x768x3072 .f32 := Memref.whole main_arg3
abbrev w2M : Memref sig .tc .hbm S8x3072x768 .f32 := Memref.whole main_arg5
abbrev s1M : Memref sig .tc .vmem S2x768x3072 .f32 := Memref.whole cc2_scratch0
abbrev s2M : Memref sig .tc .vmem S2x3072x768 .f32 := Memref.whole cc2_scratch1

abbrev row1 (o : Fin 3 → Nat) (h : ∀ a, o a + S1x768x3072.size a ≤ S8x768x3072.size a) : Memref sig .tc .hbm S768x3072 .f32 :=
  (w1M.slice (Rect.unit (s := S8x768x3072) o S1x768x3072.size h) (fun _ => rfl)).squeeze S768x3072 squeezes_S1x768x3072_S768x3072
abbrev row2 (o : Fin 3 → Nat) (h : ∀ a, o a + S1x3072x768.size a ≤ S8x3072x768.size a) : Memref sig .tc .hbm S3072x768 .f32 :=
  (w2M.slice (Rect.unit (s := S8x3072x768) o S1x3072x768.size h) (fun _ => rfl)).squeeze S3072x768 squeezes_S1x3072x768_S3072x768
abbrev slot1 (o : Fin 3 → Nat) (h : ∀ a, o a + S1x768x3072.size a ≤ S2x768x3072.size a) : Memref sig .tc .vmem S768x3072 .f32 :=
  (s1M.slice (Rect.unit (s := S2x768x3072) o S1x768x3072.size h) (fun _ => rfl)).squeeze S768x3072 squeezes_S1x768x3072_S768x3072
abbrev slot2 (o : Fin 3 → Nat) (h : ∀ a, o a + S1x3072x768.size a ≤ S2x3072x768.size a) : Memref sig .tc .vmem S3072x768 .f32 :=
  (s2M.slice (Rect.unit (s := S2x3072x768) o S1x3072x768.size h) (fun _ => rfl)).squeeze S3072x768 squeezes_S1x3072x768_S3072x768
abbrev cel1 (o : Fin 1 → Nat) (h : ∀ a, o a + S1.size a ≤ S2.size a) : DmaSem sig :=
  ((cc2_scratch2.slice (Rect.unit (s := S2) o S1.size h)).squeeze S_ squeezes_S1_S_).sem
abbrev cel2 (o : Fin 1 → Nat) (h : ∀ a, o a + S1.size a ≤ S2.size a) : DmaSem sig :=
  ((cc2_scratch3.slice (Rect.unit (s := S2) o S1.size h)).squeeze S_ squeezes_S1_S_).sem

/-- The share of the experts' matrices a slot copies from. -/
def qs (s : Fin 2) : PosShare TreeShare := if s = 0 then fullShare.left else fullShare.right

section Slot

variable (d : Dev nD) (w1 : Buf (Elt F) ((w1M).view.loc (d : Thread nD τ))) (w2 : Buf (Elt F) ((w2M).view.loc (d : Thread nD τ)))

abbrev V1 (s : Fin 2) := slot1 ![s.val, 0, 0] (inb3 s.isLt)
abbrev V2 (s : Fin 2) := slot2 ![s.val, 0, 0] (inb3 s.isLt)
abbrev R1 (e : Fin 8) := row1 ![e.val, 0, 0] (inb3 e.isLt)
abbrev R2 (e : Fin 8) := row2 ![e.val, 0, 0] (inb3 e.isLt)
abbrev C1 (s : Fin 2) := cel1 ![s.val] (inb1 s.isLt)
abbrev C2 (s : Fin 2) := cel2 ![s.val] (inb1 s.isLt)

def Idle1 (s : Fin 2) : sProp 𝕄 :=
  iprop(((w1M).view.loc (d : Thread nD τ) ↦{qs s} w1)
    ∗ (∃ f : Buf (Elt F) ((V1 s).view.loc (d : Thread nD τ)), (V1 s).view.loc (d : Thread nD τ) ↦[(V1 s).view.set]{fullShare} f)
    ∗ semVal ((d : Thread nD τ), .dma (C1 s)) 0)
def Idle2 (s : Fin 2) : sProp 𝕄 :=
  iprop(((w2M).view.loc (d : Thread nD τ) ↦{qs s} w2)
    ∗ (∃ f : Buf (Elt F) ((V2 s).view.loc (d : Thread nD τ)), (V2 s).view.loc (d : Thread nD τ) ↦[(V2 s).view.set]{fullShare} f)
    ∗ semVal ((d : Thread nD τ), .dma (C2 s)) 0)
abbrev Fly1 (s : Fin 2) (e : Fin 8) : sProp 𝕄 := Fly d (R1 e) (V1 s) (C1 s) (qs s) w1
abbrev Fly2 (s : Fin 2) (e : Fin 8) : sProp 𝕄 := Fly d (R2 e) (V2 s) (C2 s) (qs s) w2
abbrev Full1 (s : Fin 2) (e : Fin 8) : sProp 𝕄 := Full d (R1 e) (V1 s) (C1 s) (qs s) w1
abbrev Full2 (s : Fin 2) (e : Fin 8) : sProp 𝕄 := Full d (R2 e) (V2 s) (C2 s) (qs s) w2

theorem full1_idle (s : Fin 2) (e : Fin 8) : Full1 d w1 s e ⊢ Idle1 d w1 s := by
  unfold Full1 Full Idle1
  iintro ⟨H, ⟨%f, Hf, -⟩, Hs⟩
  isplitl [H]; · iexact H
  isplitl [Hf]; · iexists f; iexact Hf
  iexact Hs
theorem full2_idle (s : Fin 2) (e : Fin 8) : Full2 d w2 s e ⊢ Idle2 d w2 s := by
  unfold Full2 Full Idle2
  iintro ⟨H, ⟨%f, Hf, -⟩, Hs⟩
  isplitl [H]; · iexact H
  isplitl [Hf]; · iexists f; iexact Hf
  iexact Hs

theorem issue1 {oe os : Fin 3 → Nat} {oc : Fin 1 → Nat} {h h' h''} (s : Fin 2) (e : Fin 8) (he : oe = ![e.val, 0, 0]) (hs : os = ![s.val, 0, 0]) (hc : oc = ![s.val])
    (hsrc hdst hsem) (Φ : PUnit → sProp 𝕄) :
    iprop(Idle1 d w1 s ∗ (Fly1 d w1 s e -∗ Φ ⟨⟩)) ⊢ wp frame (wpE (defs₀ (F := F)) 𝒱₀ (d : Thread nD τ) none) Set.univ
      (Prog.lift (.enqueueDma (row1 oe h) (.here (slot1 os h')) (.dma (cel1 oc h'')) hsrc hdst hsem)) Φ := by
  subst he hs hc
  exact issue d (R1 e) (V1 s) (C1 s) (qs s) w1 (by decide) hsrc hdst hsem Φ
theorem issue2 {oe os : Fin 3 → Nat} {oc : Fin 1 → Nat} {h h' h''} (s : Fin 2) (e : Fin 8) (he : oe = ![e.val, 0, 0]) (hs : os = ![s.val, 0, 0]) (hc : oc = ![s.val])
    (hsrc hdst hsem) (Φ : PUnit → sProp 𝕄) :
    iprop(Idle2 d w2 s ∗ (Fly2 d w2 s e -∗ Φ ⟨⟩)) ⊢ wp frame (wpE (defs₀ (F := F)) 𝒱₀ (d : Thread nD τ) none) Set.univ
      (Prog.lift (.enqueueDma (row2 oe h) (.here (slot2 os h')) (.dma (cel2 oc h'')) hsrc hdst hsem)) Φ := by
  subst he hs hc
  exact issue d (R2 e) (V2 s) (C2 s) (qs s) w2 (by decide) hsrc hdst hsem Φ

variable (O : CellTallies nD τ sig (HIx 2)) (B : Set (SemLoc sig × HIx 2)) (hB : ∀ sm, (sm, (none : HIx 2)) ∈ B)

/-- What the core owes, its recorded waits within a bound, and its licence to wait for its own copies. -/
def OW : sProp 𝕄 := iprop(Pipeline.owesWithin d O B ∗ Transfers.MayWaits (d : Thread nD τ) (none : HIx 2) O)

include hB

theorem await1 {os oe : Fin 3 → Nat} {oc : Fin 1 → Nat} {h h' h''} (s : Fin 2) (e : Fin 8) (hs : os = ![s.val, 0, 0]) (hc : oc = ![s.val])
    (hsrc hdst) (Φ : PUnit → sProp 𝕄) :
    iprop(Fly1 d w1 s e ∗ OW d O B ∗ ((Full1 d w1 s e ∗ OW d O B) -∗ Φ ⟨⟩)) ⊢ wp frame (wpE (defs₀ (F := F)) 𝒱₀ (d : Thread nD τ) none) Set.univ
      (Prog.lift (.waitDma2 (cel1 oc h'') (row1 oe h) (slot1 os h') hsrc hdst)) Φ := by
  subst hs hc
  unfold OW
  iintro ⟨Hf, ⟨⟨%W, %hW, HO⟩, #HM⟩, Hk⟩
  iapply (await d (R1 e) (V1 s) (C1 s) (qs s) w1 _ _ rfl hsrc hdst O W Φ)
  isplitl [Hf HO]
  · isplitl [Hf]; · iexact Hf
    isplitl [HO]; · iexact HO
    iapply (Transfers.MayWaits.elim _) $$ HM
  iintro ⟨H, HO⟩
  iapply Hk
  isplitl [H]; · iexact H
  isplitl [HO]
  · iexists _
    isplitr; rotate_left; · iexact HO
    ipureintro
    rw [Finset.coe_insert]
    exact Set.insert_subset (hB _) hW
  iexact HM

theorem await2 {os oe : Fin 3 → Nat} {oc : Fin 1 → Nat} {h h' h''} (s : Fin 2) (e : Fin 8) (hs : os = ![s.val, 0, 0]) (hc : oc = ![s.val])
    (hsrc hdst) (Φ : PUnit → sProp 𝕄) :
    iprop(Fly2 d w2 s e ∗ OW d O B ∗ ((Full2 d w2 s e ∗ OW d O B) -∗ Φ ⟨⟩)) ⊢ wp frame (wpE (defs₀ (F := F)) 𝒱₀ (d : Thread nD τ) none) Set.univ
      (Prog.lift (.waitDma2 (cel2 oc h'') (row2 oe h) (slot2 os h') hsrc hdst)) Φ := by
  subst hs hc
  unfold OW
  iintro ⟨Hf, ⟨⟨%W, %hW, HO⟩, #HM⟩, Hk⟩
  iapply (await d (R2 e) (V2 s) (C2 s) (qs s) w2 _ _ rfl hsrc hdst O W Φ)
  isplitl [Hf HO]
  · isplitl [Hf]; · iexact Hf
    isplitl [HO]; · iexact HO
    iapply (Transfers.MayWaits.elim _) $$ HM
  iintro ⟨H, HO⟩
  iapply Hk
  isplitl [H]; · iexact H
  isplitl [HO]
  · iexists _
    isplitr; rotate_left; · iexact HO
    ipureintro
    rw [Finset.coe_insert]
    exact Set.insert_subset (hB _) hW
  iexact HM

end Slot

end Cert.Proof.Whole
-- ==== Proof.WholeBody.lean ====
/-
  One visit of the experts' kernel: whichever way the visit goes, the block's expert's matrices are in the slot the block
  computes from, and a block with tokens leaves the expert's network applied to its rows.
-/
module

public import proofs.«01_k».proof.Proof.WholeSlots

@[expose] public section
noncomputable section
namespace Cert.Proof.Whole
open Cert.WholeIdeal Cert.WholeIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.TcCoe
variable {F : FTy → Type} [FloatOps F]
local notation "𝕄" => MT nD τ sig (HIx 2) (Elt F) ℕ UU ℕ

/-! ## Loads and stores of whole buffers and of a slot -/

section Ops

variable (d : Dev nD)

theorem zero2 : ∀ a : Fin 2, (![0, 0] : Fin 2 → Nat) a = 0 := by decide
theorem zero3 : ∀ a : Fin 3, (![0, 0, 0] : Fin 3 → Nat) a = 0 := by decide

theorem emb_whole {s : Shape} (o : Fin s.rank → Nat) (ho : ∀ a, o a = 0) (inb : ∀ a, o a + s.size a ≤ s.size a) (x : s.Idx) :
    (Rect.unit (s := s) o s.size inb).emb x = x := funext fun a => Fin.ext (by
  show o a + 1 * (x a).val = (x a).val
  rw [ho a]; omega)

theorem wp_loadAll {s : Shape} (m : Memref sig .tc .vmem s .f32) (o : Fin s.rank → Nat) (ho : ∀ a, o a = 0) (inb : ∀ a, o a + s.size a ≤ s.size a) (hl)
    (X : s.Idx → Elt F .f32) (Φ : (s.Idx → Elt F .f32) → sProp 𝕄) :
    iprop(owns (d : Thread nD τ) m fullShare X ∗ (owns (d : Thread nD τ) m fullShare X -∗ Φ X))
      ⊢ wp frame (wpE (defs₀ (F := F)) 𝒱₀ (d : Thread nD τ) none) Set.univ (Prog.lift (.load m (Rect.unit (s := s) o s.size inb).toLoadRect hl)) Φ := by
  unfold owns
  iintro ⟨⟨%f, %hf, H⟩, Hk⟩
  unfold Prog.lift
  iapply (wp_load_rect (defs := defs₀ (F := F)) 𝒱₀ (d : Thread nD τ) none Set.univ (m := m) (r := Rect.unit (s := s) o s.size inb) (k := .ret) (f := f)
    (S := m.view.set) (View.set_slice_subset _ _)) $$ H
  iintro H
  rw [wp_ret]
  imodintro
  rw [show (m.access (Rect.unit (s := s) o s.size inb)).read (Elt F) f = X from by
    funext x
    subst hf
    exact congrArg (m.view.read (Elt F) f) (emb_whole o ho inb x)]
  iapply Hk
  iexists f
  isplitr; · ipureintro; exact hf
  iexact H

theorem wp_storeAll {s : Shape} (m : Memref sig .tc .vmem s .f32) (o : Fin s.rank → Nat) (ho : ∀ a, o a = 0) (inb : ∀ a, o a + s.size a ≤ s.size a) (hx hm)
    (w X : s.Idx → Elt F .f32) (Φ : PUnit → sProp 𝕄) :
    iprop(owns (d : Thread nD τ) m fullShare X ∗ (owns (d : Thread nD τ) m fullShare w -∗ Φ ⟨⟩))
      ⊢ wp frame (wpE (defs₀ (F := F)) 𝒱₀ (d : Thread nD τ) none) Set.univ (Prog.lift (.store m (Rect.unit (s := s) o s.size inb) w Finset.univ hx hm)) Φ := by
  unfold owns
  iintro ⟨⟨%f, %hf, H⟩, Hk⟩
  unfold Prog.lift
  iapply (wp_store (defs := defs₀ (F := F)) 𝒱₀ (d : Thread nD τ) none Set.univ (m := m) (r := Rect.unit (s := s) o s.size inb) (k := .ret) (f := f)
    (S := m.view.set) (View.set_slice_subset _ _)) $$ H
  iintro H
  rw [wp_ret]
  imodintro
  iapply Hk
  iexists _
  isplitr; rotate_left; · iexact H
  ipureintro
  funext x
  have h := congrFun (View.read_write_univ (v := m.access (Rect.unit (s := s) o s.size inb)) (Val := Elt F) f w) x
  rw [← h]
  exact (congrArg (m.view.read (Elt F) _) (emb_whole o ho inb x)).symm

abbrev A1 (e : Fin 8) := (w1M).access (Rect.unit (s := S8x768x3072) ![e.val, 0, 0] S1x768x3072.size (inb3 e.isLt))
abbrev A2 (e : Fin 8) := (w2M).access (Rect.unit (s := S8x3072x768) ![e.val, 0, 0] S1x3072x768.size (inb3 e.isLt))

variable (w1 : Buf (Elt F) ((w1M).view.loc (d : Thread nD τ))) (w2 : Buf (Elt F) ((w2M).view.loc (d : Thread nD τ)))

/-- An expert's matrices, as a slot holding them is read. -/
def E1 (e : Fin 8) : Vec F S1x768x3072 .f32 := (A1 e).read (Elt F) w1
def E2 (e : Fin 8) : Vec F S1x3072x768 .f32 := (A2 e).read (Elt F) w2

theorem wp_load1 (s : Fin 2) (e : Fin 8) (o : Fin 3 → Nat) (ho : o = ![s.val, 0, 0]) (inb hl) (Φ : Vec F S1x768x3072 .f32 → sProp 𝕄) :
    iprop(Full1 d w1 s e ∗ (Full1 d w1 s e -∗ Φ (E1 d w1 e)))
      ⊢ wp frame (wpE (defs₀ (F := F)) 𝒱₀ (d : Thread nD τ) none) Set.univ (Prog.lift (.load s1M (Rect.unit (s := S2x768x3072) o S1x768x3072.size inb).toLoadRect hl)) Φ := by
  subst ho
  unfold Full1 Full
  iintro ⟨⟨Hw, ⟨%f, H, %hf⟩, Hs⟩, Hk⟩
  unfold Prog.lift
  iapply (wp_load_rect (defs := defs₀ (F := F)) 𝒱₀ (d : Thread nD τ) none Set.univ (m := s1M) (r := Rect.unit (s := S2x768x3072) ![s.val, 0, 0] S1x768x3072.size inb) (k := .ret) (f := f)
    (S := (V1 s).view.set) (View.set_reshape ((s1M).access (Rect.unit (s := S2x768x3072) ![s.val, 0, 0] S1x768x3072.size inb)) (Shape.Squeezes.numel_eq squeezes_S1x768x3072_S768x3072)).symm.le) $$ H
  iintro H
  rw [wp_ret]
  imodintro
  rw [show ((s1M).access (Rect.unit (s := S2x768x3072) ![s.val, 0, 0] S1x768x3072.size inb)).read (Elt F) f = E1 d w1 e from by
    funext x
    obtain ⟨y, rfl⟩ := (Shape.reshapeEquiv squeezes_S1x768x3072_S768x3072.numel_eq).surjective x
    exact congrFun hf y]
  iapply Hk
  isplitl [Hw]; · iexact Hw
  isplitl [H]
  · iexists f
    isplitl [H]; · iexact H
    ipureintro; exact hf
  iexact Hs

theorem wp_load2 (s : Fin 2) (e : Fin 8) (o : Fin 3 → Nat) (ho : o = ![s.val, 0, 0]) (inb hl) (Φ : Vec F S1x3072x768 .f32 → sProp 𝕄) :
    iprop(Full2 d w2 s e ∗ (Full2 d w2 s e -∗ Φ (E2 d w2 e)))
      ⊢ wp frame (wpE (defs₀ (F := F)) 𝒱₀ (d : Thread nD τ) none) Set.univ (Prog.lift (.load s2M (Rect.unit (s := S2x3072x768) o S1x3072x768.size inb).toLoadRect hl)) Φ := by
  subst ho
  unfold Full2 Full
  iintro ⟨⟨Hw, ⟨%f, H, %hf⟩, Hs⟩, Hk⟩
  unfold Prog.lift
  iapply (wp_load_rect (defs := defs₀ (F := F)) 𝒱₀ (d : Thread nD τ) none Set.univ (m := s2M) (r := Rect.unit (s := S2x3072x768) ![s.val, 0, 0] S1x3072x768.size inb) (k := .ret) (f := f)
    (S := (V2 s).view.set) (View.set_reshape ((s2M).access (Rect.unit (s := S2x3072x768) ![s.val, 0, 0] S1x3072x768.size inb)) (Shape.Squeezes.numel_eq squeezes_S1x3072x768_S3072x768)).symm.le) $$ H
  iintro H
  rw [wp_ret]
  imodintro
  rw [show ((s2M).access (Rect.unit (s := S2x3072x768) ![s.val, 0, 0] S1x3072x768.size inb)).read (Elt F) f = E2 d w2 e from by
    funext x
    obtain ⟨y, rfl⟩ := (Shape.reshapeEquiv squeezes_S1x3072x768_S3072x768.numel_eq).surjective x
    exact congrFun hf y]
  iapply Hk
  isplitl [Hw]; · iexact Hw
  isplitl [H]
  · iexists f
    isplitl [H]; · iexact H
    ipureintro; exact hf
  iexact Hs

abbrev bvM : Memref sig .tc .smem S24 .i32 := Memref.whole main_v9
abbrev bvAt (bv : S24.Idx → BitVec 32) : sProp 𝕄 := (bvM).view.loc (d : Thread nD τ) ↦{fullShare} (bv : Buf (Elt F) ((bvM).view.loc (d : Thread nD τ)))

/-- A read of the other table at entry `n`. -/
theorem wp_readV (bv : S24.Idx → BitVec 32) (o : Fin 1 → Nat) (inb : ∀ a, o a + S1.size a ≤ S24.size a) (n : Nat) (ho : o = ![n]) (hn : n < 24) (h1 hp) (Φ : Elt F .i32 → sProp 𝕄) :
    iprop(bvAt (F := F) d bv ∗ (bvAt (F := F) d bv -∗ Φ (tb bv n))) ⊢ wp frame (wpE (defs₀ (F := F)) 𝒱₀ (d : Thread nD τ) none) Set.univ
      (smemLoad bvM (Rect.unit (s := S24) o S1.size inb) h1 hp) Φ := by
  subst ho
  have hx : (Rect.unit (s := S24) ![n] S1.size inb).emb (Shape.Idx.first (h1.symm ▸ Nat.one_pos)) = ix24 n := funext fun a => Fin.ext (by
    match a with
    | 0 => show n + 1 * 0 = min n 23; omega)
  iintro ⟨H, Hk⟩
  unfold smemLoad
  iapply (wp_smemLoadElt (defs := defs₀ (F := F)) 𝒱₀ (d : Thread nD τ) none Set.univ (m := bvM) (r := Rect.unit (s := S24) ![n] S1.size inb) (k := .ret) (f := bv)
    (S := Finset.univ) (Finset.subset_univ _)) $$ H
  iintro H
  rw [wp_ret]
  imodintro
  ihave Hk := Hk $$ H
  rw [show ((bvM).access (Rect.unit (s := S24) ![n] S1.size inb)).read (Elt F) bv (Shape.Idx.first (h1.symm ▸ Nat.one_pos)) = tb bv n from
    congrArg bv hx]
  iexact Hk

end Ops

end Cert.Proof.Whole
-- ==== Proof.WholeVisit.lean ====
/-
  One visit of the experts' kernel run: the slots before and after it, and what a block with tokens leaves.
-/
module

public import proofs.«01_k».proof.Proof.WholeBody

@[expose] public section
noncomputable section
namespace Cert.Proof.Whole
open Cert.WholeIdeal Cert.WholeIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.TcCoe
variable {F : FTy → Type} [FloatOps F]
local notation "𝕄" => MT nD τ sig (HIx 2) (Elt F) ℕ UU ℕ

section Visit

variable (d : Dev nD) (w1 : Buf (Elt F) ((w1M).view.loc (d : Thread nD τ))) (w2 : Buf (Elt F) ((w2M).view.loc (d : Thread nD τ)))
  (be bv : S24.Idx → BitVec 32) (hbe : InRange be)

def sl (n : Nat) : Fin 2 := ⟨n % 2, Nat.mod_lt _ (by decide)⟩
def ex (n : Nat) : Fin 8 := ⟨(tb be n).toNat, hbe n⟩

/-- The slot the next expert's matrices go to: filling, unless no block is left with another expert. -/
def Next (b : Nat) : sProp 𝕄 :=
  if nxt be b < 24 then iprop(Fly1 d w1 (sl (ord be b + 1)) (ex be hbe (nxt be b)) ∗ Fly2 d w2 (sl (ord be b + 1)) (ex be hbe (nxt be b)))
  else iprop(Idle1 d w1 (sl (ord be b + 1)) ∗ Idle2 d w2 (sl (ord be b + 1)))

/-- The slots before block `t`'s visit. -/
def Slots : Nat → sProp 𝕄
  | 0 => iprop((Idle1 d w1 0 ∗ Idle2 d w2 0) ∗ (Idle1 d w1 1 ∗ Idle2 d w2 1))
  | b + 1 => iprop((Full1 d w1 (sl (ord be b)) (ex be hbe b) ∗ Full2 d w2 (sl (ord be b)) (ex be hbe b)) ∗ Next d w1 w2 be hbe b)

variable (i : grid2.Coords)
  (arg3 : Memref sig .tc .vmem S256x768 .f32) (harg3 : arg3.IsWhole) (arg4 : Memref sig .tc .vmem S1x1x3072 .f32) (harg4 : arg4.IsWhole) (arg5 : Memref sig .tc .vmem S1x1x768 .f32) (harg5 : arg5.IsWhole) (arg6 : Memref sig .tc .vmem S256x1 .f32) (harg6 : arg6.IsWhole) (arg9 : Memref sig .tc .vmem S256x768 .f32) (harg9 : arg9.IsWhole)
  (X3 : S256x768.Idx → Elt F .f32) (X4 : S1x1x3072.Idx → Elt F .f32) (X5 : S1x1x768.Idx → Elt F .f32) (X6 : S256x1.Idx → Elt F .f32) (X9 : S256x768.Idx → Elt F .f32)
  (O : CellTallies nD τ sig (HIx 2)) (B : Set (SemLoc sig × HIx 2)) (hB : ∀ sm, (sm, (none : HIx 2)) ∈ B)

/-- The blocks staged in. -/
def Ins : sProp 𝕄 :=
  iprop(owns (d : Thread nD τ) arg3 fullShare X3 ∗ owns (d : Thread nD τ) arg4 fullShare X4 ∗ owns (d : Thread nD τ) arg5 fullShare X5
    ∗ owns (d : Thread nD τ) arg6 fullShare X6)

theorem cond5_iff (v : BitVec 32) : k2_cond5 v = 1#1 ↔ v ≠ 0#32 := by
  unfold k2_cond5
  by_cases h : v = 0#32
  · subst h; decide
  · have h' : (v != 0#32) = true := bne_iff_ne.mpr h
    simp [Scalar.cmpi, IntOp.cmpi, Scalar.extui, h, h']

/-- What a visit leaves in the block of results. -/
def Left (b : Nat) (X9' : S256x768.Idx → Elt F .f32) : Prop :=
  tb bv b ≠ 0#32 → X9' = k2_pay1 X3 (E1 d w1 (ex be hbe b)) X4 (E2 d w2 (ex be hbe b)) X5 X6

theorem compute (Φ : PUnit → sProp 𝕄) :
    iprop(bvAt (F := F) d bv ∗ Full1 d w1 (sl (ord be (i 0).val)) (ex be hbe (i 0).val) ∗ Full2 d w2 (sl (ord be (i 0).val)) (ex be hbe (i 0).val)
        ∗ Ins d arg3 arg4 arg5 arg6 X3 X4 X5 X6 ∗ owns (d : Thread nD τ) arg9 fullShare X9
        ∗ (iprop(bvAt (F := F) d bv ∗ Full1 d w1 (sl (ord be (i 0).val)) (ex be hbe (i 0).val) ∗ Full2 d w2 (sl (ord be (i 0).val)) (ex be hbe (i 0).val)
            ∗ Ins d arg3 arg4 arg5 arg6 X3 X4 X5 X6 ∗ (∃ X9', ⌜Left d w1 w2 be bv hbe X3 X4 X5 X6 (i 0).val X9'⌝ ∗ owns (d : Thread nD τ) arg9 fullShare X9')) -∗ Φ ⟨⟩))
      ⊢ wp frame (wpE (defs₀ (F := F)) 𝒱₀ (d : Thread nD τ) none) Set.univ (do
          let v40 : Elt F .i32 ← smemLoad bvM (Rect.unit (s := S24) (k2_off22 i) S1.size (k2_off22_inb i)) numel1_S1 rfl
          have k2_hw5 : k2_chk5 (BitVec.ofNat 32 (ord be (i 0).val)) v40 := (← Prog.lift (TpuEff.assume (k2_chk5 (BitVec.ofNat 32 (ord be (i 0).val)) v40) (k2_chk5.dec (BitVec.ofNat 32 (ord be (i 0).val)) v40))).down
          if k2_h5 : k2_cond5 v40 = 1#1 then do
            let v44 : Vec F S256x768 .f32 ← Prog.lift (.load arg3 (Rect.unit (s := S256x768) ![0, 0] S256x768.size inb_S256x768_S256x768_0_0).toLoadRect (View.loadsAt_vmem h_S256x768))
            let v47 : Vec F S1x768x3072 .f32 ← Prog.lift (.load s1M (Rect.unit (s := S2x768x3072) (k2_off23 (BitVec.ofNat 32 (ord be (i 0).val))) S1x768x3072.size (k2_off23_inb (BitVec.ofNat 32 (ord be (i 0).val)) v40 k2_hw5 k2_h5)).toLoadRect (View.loadsAt_vmem h_S1x768x3072))
            let v50 : Vec F S1x1x3072 .f32 ← Prog.lift (.load arg4 (Rect.unit (s := S1x1x3072) ![0, 0, 0] S1x1x3072.size inb_S1x1x3072_S1x1x3072_0_0_0).toLoadRect (View.loadsAt_vmem h_S1x1x3072))
            let v63 : Vec F S1x3072x768 .f32 ← Prog.lift (.load s2M (Rect.unit (s := S2x3072x768) (k2_off24 (BitVec.ofNat 32 (ord be (i 0).val))) S1x3072x768.size (k2_off24_inb (BitVec.ofNat 32 (ord be (i 0).val)) v40 k2_hw5 k2_h5)).toLoadRect (View.loadsAt_vmem h_S1x3072x768))
            let v66 : Vec F S1x1x768 .f32 ← Prog.lift (.load arg5 (Rect.unit (s := S1x1x768) ![0, 0, 0] S1x1x768.size inb_S1x1x768_S1x1x768_0_0_0).toLoadRect (View.loadsAt_vmem h_S1x1x768))
            let v70 : Vec F S256x1 .f32 ← Prog.lift (.load arg6 (Rect.unit (s := S256x1) ![0, 0] S256x1.size inb_S256x1_S256x1_0_0).toLoadRect (View.loadsAt_vmem h_S256x1))
            let v74 : Vec F S256x768 .f32 ← Prog.lift (.load arg9 (Rect.unit (s := S256x768) ![0, 0] S256x768.size inb_S256x768_S256x768_0_0).toLoadRect (View.loadsAt_vmem h_S256x768))
            Prog.lift (.store arg9 (Rect.unit (s := S256x768) ![0, 0] S256x768.size inb_S256x768_S256x768_0_0) (k2_pay1 v44 v47 v50 v63 v66 v70) Finset.univ (View.stores_vmem_bits_univ h_S256x768 rfl) (.inl rfl))
            pure ⟨⟩
          else do
            pure ⟨⟩
          pure ⟨⟩ : Prog (TpuEff nD τ sig (Elt F) Λ₀ .tc) PUnit) Φ := by
  have hi : (i 0).val < 24 := (i 0).isLt
  have ho := ord_le be (i 0).val
  simp only [wp_bind]
  iintro ⟨Hv, H1, H2, HI, H9, Hk⟩
  iapply (wp_readV d bv _ _ (i 0).val (k2_off22_eq i) hi) $$ [-]
  isplitl [Hv]; · iexact Hv
  iintro Hv
  iapply (wp_check d _ (chk5 be i _)) $$ [-]
  by_cases h5 : k2_cond5 (tb bv (i 0).val) = 1#1
  · simp only [dif_pos h5, wp_bind]
    unfold Ins
    icases HI with ⟨H3, H4, H5, H6⟩
    iapply (wp_loadAll d arg3 _ zero2 _ _ X3) $$ [-]
    isplitl [H3]; · iexact H3
    iintro H3
    iapply (wp_load1 d w1 (sl (ord be (i 0).val)) (ex be hbe (i 0).val) _ (off23_eq ⟨ord be (i 0).val, by omega⟩)) $$ [-]
    isplitl [H1]; · iexact H1
    iintro H1
    iapply (wp_loadAll d arg4 _ zero3 _ _ X4) $$ [-]
    isplitl [H4]; · iexact H4
    iintro H4
    iapply (wp_load2 d w2 (sl (ord be (i 0).val)) (ex be hbe (i 0).val) _ (off24_eq ⟨ord be (i 0).val, by omega⟩)) $$ [-]
    isplitl [H2]; · iexact H2
    iintro H2
    iapply (wp_loadAll d arg5 _ zero3 _ _ X5) $$ [-]
    isplitl [H5]; · iexact H5
    iintro H5
    iapply (wp_loadAll d arg6 _ zero2 _ _ X6) $$ [-]
    isplitl [H6]; · iexact H6
    iintro H6
    iapply (wp_loadAll d arg9 _ zero2 _ _ X9) $$ [-]
    isplitl [H9]; · iexact H9
    iintro H9
    iapply (wp_storeAll d arg9 _ zero2 _ _ _ _ X9) $$ [-]
    isplitl [H9]; · iexact H9
    iintro H9
    simp only [wp_pure]
    imodintro
    iapply Hk
    isplitl [Hv]; · iexact Hv
    isplitl [H1]; · iexact H1
    isplitl [H2]; · iexact H2
    isplitl [H3 H4 H5 H6]
    · isplitl [H3]; · iexact H3
      isplitl [H4]; · iexact H4
      isplitl [H5]; · iexact H5
      iexact H6
    iexists _
    isplitr; rotate_left; · iexact H9
    ipureintro
    intro _; rfl
  · simp only [dif_neg h5, wp_pure]
    imodintro
    iapply Hk
    isplitl [Hv]; · iexact Hv
    isplitl [H1]; · iexact H1
    isplitl [H2]; · iexact H2
    isplitl [HI]; · iexact HI
    iexists X9
    isplitr; rotate_left; · iexact H9
    ipureintro
    intro h; exact absurd ((cond5_iff _).mpr h) h5

include hB in
set_option maxHeartbeats 4000000 in
theorem visit (Φ : PUnit → sProp 𝕄) :
    iprop(beAt (F := F) d be ∗ bvAt (F := F) d bv ∗ Slots d w1 w2 be hbe (i 0).val ∗ OW d O B
        ∗ Ins d arg3 arg4 arg5 arg6 X3 X4 X5 X6 ∗ owns (d : Thread nD τ) arg9 fullShare X9
        ∗ (iprop(beAt (F := F) d be ∗ bvAt (F := F) d bv ∗ Slots d w1 w2 be hbe ((i 0).val + 1) ∗ OW d O B
            ∗ Ins d arg3 arg4 arg5 arg6 X3 X4 X5 X6 ∗ (∃ X9', ⌜Left d w1 w2 be bv hbe X3 X4 X5 X6 (i 0).val X9'⌝ ∗ owns (d : Thread nD τ) arg9 fullShare X9')) -∗ Φ ⟨⟩))
      ⊢ wp frame (wpE (defs₀ (F := F)) 𝒱₀ (d : Thread nD τ) none) Set.univ
        (cc2__expert_body (F := F) i beM (Memref.isWhole_whole _) bvM (Memref.isWhole_whole _) arg3 harg3 arg4 harg4 arg5 harg5 arg6 harg6
          w1M (Memref.isWhole_whole _) w2M (Memref.isWhole_whole _) arg9 harg9 s1M (Memref.isWhole_whole _) s2M (Memref.isWhole_whole _) cc2_scratch2 cc2_scratch3) Φ := by
  have hi : (i 0).val < 24 := (i 0).isLt
  have hn := nxt_le be hi
  have ho := ord_le be (i 0).val
  rw [cc2__expert_body_eq_skeleton]
  unfold cc2__expert_body_skel
  simp only [wp_bind]
  iintro ⟨He, Hv, HS, HO, HI, H9, Hk⟩
  iapply (part1 d be i _ _ _ _ _ _ _ _ _ _ _ _ _ _ _ _ _ _ _ _ _ _ hbe) $$ [-]
  isplitl [He]; · iexact He
  iintro He
  dsimp only
  have HC := compute d w1 w2 be bv hbe i arg3 arg4 arg5 arg6 arg9 X3 X4 X5 X6 X9
  simp only [wp_bind] at HC
  by_cases h0 : (i 0).val = 0
  · have h1 : k2_cond1 i = 1#1 := (cond1_iff i).mpr h0
    have h3 : ¬ k2_cond3 i (tb be (i 0).val) (tb be ((i 0).val - 1)) = 1#1 := fun h => absurd ((cond3_iff i _ _).mp h).2 (by omega)
    have hs : sl (ord be (i 0).val) = 0 := by rw [h0]; rfl
    have hs' : sl (ord be (i 0).val + 1) = 1 := by rw [h0]; rfl
    simp only [dif_pos h1, dif_neg h3, wp_bind]
    ihave HS := (show Slots d w1 w2 be hbe (i 0).val ⊢ iprop((Idle1 d w1 0 ∗ Idle2 d w2 0) ∗ Idle1 d w1 1 ∗ Idle2 d w2 1) from by rw [h0]; exact .rfl) $$ HS
    icases HS with ⟨⟨H1, H2⟩, H1', H2'⟩
    iapply (issue1 d w1 0 (ex be hbe (i 0).val) rfl rfl rfl) $$ [-]
    isplitl [H1]; · iexact H1
    iintro H1
    iapply (issue2 d w2 0 (ex be hbe (i 0).val) rfl rfl rfl) $$ [-]
    isplitl [H2]; · iexact H2
    iintro H2
    by_cases h2 : nxt be (i 0).val < 24
    · have h2' : k2_cond2 (BitVec.ofNat 32 (nxt be (i 0).val)) = 1#1 := (cond2_iff ⟨nxt be (i 0).val, by omega⟩).mpr h2
      have hm : min (nxt be (i 0).val) 23 = nxt be (i 0).val := by omega
      simp only [dif_pos h2', wp_bind]
      iapply (issue1 d w1 1 (ex be hbe (min (nxt be (i 0).val) 23)) rfl rfl rfl) $$ [-]
      isplitl [H1']; · iexact H1'
      iintro H1'
      iapply (issue2 d w2 1 (ex be hbe (min (nxt be (i 0).val) 23)) rfl rfl rfl) $$ [-]
      isplitl [H2']; · iexact H2'
      iintro H2'
      iapply (await1 d w1 O B hB 0 (ex be hbe (i 0).val) rfl rfl) $$ [-]
      isplitl [H1]; · iexact H1
      isplitl [HO]; · iexact HO
      iintro ⟨H1, HO⟩
      iapply (await2 d w2 O B hB 0 (ex be hbe (i 0).val) rfl rfl) $$ [-]
      isplitl [H2]; · iexact H2
      isplitl [HO]; · iexact HO
      iintro ⟨H2, HO⟩
      ihave HN := (show iprop(Fly1 d w1 1 (ex be hbe (min (nxt be (i 0).val) 23)) ∗ Fly2 d w2 1 (ex be hbe (min (nxt be (i 0).val) 23))) ⊢ Next d w1 w2 be hbe (i 0).val from by
        unfold Next; rw [if_pos h2, hs', hm]) $$ [H1' H2']
      · isplitl [H1'] <;> iassumption
      rw [← hs]
      iapply (HC _) $$ [-]
      isplitl [Hv]; · iexact Hv
      isplitl [H1]; · iexact H1
      isplitl [H2]; · iexact H2
      isplitl [HI]; · iexact HI
      isplitl [H9]; · iexact H9
      iintro ⟨Hv, H1, H2, HI, H9⟩
      iapply Hk
      isplitl [He]; · iexact He
      isplitl [Hv]; · iexact Hv
      isplitl [H1 H2 HN]
      · iapply (show iprop((Full1 d w1 (sl (ord be (i 0).val)) (ex be hbe (i 0).val) ∗ Full2 d w2 (sl (ord be (i 0).val)) (ex be hbe (i 0).val)) ∗ Next d w1 w2 be hbe (i 0).val) ⊢ Slots d w1 w2 be hbe ((i 0).val + 1) from .rfl)
        isplitl [H1 H2]
        · isplitl [H1]; · iexact H1
          iexact H2
        iexact HN
      isplitl [HO]; · iexact HO
      isplitl [HI]; · iexact HI
      iexact H9
    · have h2' : ¬ k2_cond2 (BitVec.ofNat 32 (nxt be (i 0).val)) = 1#1 := fun h => h2 ((cond2_iff ⟨nxt be (i 0).val, by omega⟩).mp h)
      simp only [dif_neg h2', wp_bind]
      iapply (await1 d w1 O B hB 0 (ex be hbe (i 0).val) rfl rfl) $$ [-]
      isplitl [H1]; · iexact H1
      isplitl [HO]; · iexact HO
      iintro ⟨H1, HO⟩
      iapply (await2 d w2 O B hB 0 (ex be hbe (i 0).val) rfl rfl) $$ [-]
      isplitl [H2]; · iexact H2
      isplitl [HO]; · iexact HO
      iintro ⟨H2, HO⟩
      ihave HN := (show iprop(Idle1 d w1 1 ∗ Idle2 d w2 1) ⊢ Next d w1 w2 be hbe (i 0).val from by
        unfold Next; rw [if_neg h2, hs']) $$ [H1' H2']
      · isplitl [H1'] <;> iassumption
      rw [← hs]
      iapply (HC _) $$ [-]
      isplitl [Hv]; · iexact Hv
      isplitl [H1]; · iexact H1
      isplitl [H2]; · iexact H2
      isplitl [HI]; · iexact HI
      isplitl [H9]; · iexact H9
      iintro ⟨Hv, H1, H2, HI, H9⟩
      iapply Hk
      isplitl [He]; · iexact He
      isplitl [Hv]; · iexact Hv
      isplitl [H1 H2 HN]
      · iapply (show iprop((Full1 d w1 (sl (ord be (i 0).val)) (ex be hbe (i 0).val) ∗ Full2 d w2 (sl (ord be (i 0).val)) (ex be hbe (i 0).val)) ∗ Next d w1 w2 be hbe (i 0).val) ⊢ Slots d w1 w2 be hbe ((i 0).val + 1) from .rfl)
        isplitl [H1 H2]
        · isplitl [H1]; · iexact H1
          iexact H2
        iexact HN
      isplitl [HO]; · iexact HO
      isplitl [HI]; · iexact HI
      iexact H9
  · obtain ⟨b, hb⟩ : ∃ b, (i 0).val = b + 1 := ⟨(i 0).val - 1, by omega⟩
    have h1 : ¬ k2_cond1 i = 1#1 := fun h => h0 ((cond1_iff i).mp h)
    have hb1 : (i 0).val - 1 = b := by omega
    ihave HS := (show Slots d w1 w2 be hbe (i 0).val ⊢ iprop((Full1 d w1 (sl (ord be b)) (ex be hbe b) ∗ Full2 d w2 (sl (ord be b)) (ex be hbe b)) ∗ Next d w1 w2 be hbe b) from by rw [hb]; exact .rfl) $$ HS
    icases HS with ⟨⟨H1, H2⟩, HN⟩
    by_cases hc : tb be (b + 1) = tb be b
    · have h3 : ¬ k2_cond3 i (tb be (i 0).val) (tb be ((i 0).val - 1)) = 1#1 := fun h => ((cond3_iff i _ _).mp h).1 (by rw [hb1, hb]; exact hc)
      have hor : ord be (i 0).val = ord be b := by rw [hb]; exact ord_same be hc
      have hnx : nxt be (i 0).val = nxt be b := by rw [hb]; exact nxt_same be (by omega) hc
      have hex : ex be hbe (i 0).val = ex be hbe b := Fin.ext (by show (tb be (i 0).val).toNat = (tb be b).toNat; rw [hb, hc])
      have hN : Next d w1 w2 be hbe b = Next d w1 w2 be hbe (i 0).val := by unfold Next; rw [hor, hnx]
      simp only [dif_neg h1, dif_neg h3, wp_bind]
      ihave HN := (show Next d w1 w2 be hbe b ⊢ Next d w1 w2 be hbe (i 0).val from hN ▸ .rfl) $$ HN
      ihave H1 := (show Full1 d w1 (sl (ord be b)) (ex be hbe b) ⊢ Full1 d w1 (sl (ord be (i 0).val)) (ex be hbe (i 0).val) from by rw [hor, hex]) $$ H1
      ihave H2 := (show Full2 d w2 (sl (ord be b)) (ex be hbe b) ⊢ Full2 d w2 (sl (ord be (i 0).val)) (ex be hbe (i 0).val) from by rw [hor, hex]) $$ H2
      iapply (HC _) $$ [-]
      isplitl [Hv]; · iexact Hv
      isplitl [H1]; · iexact H1
      isplitl [H2]; · iexact H2
      isplitl [HI]; · iexact HI
      isplitl [H9]; · iexact H9
      iintro ⟨Hv, H1, H2, HI, H9⟩
      iapply Hk
      isplitl [He]; · iexact He
      isplitl [Hv]; · iexact Hv
      isplitl [H1 H2 HN]
      · iapply (show iprop((Full1 d w1 (sl (ord be (i 0).val)) (ex be hbe (i 0).val) ∗ Full2 d w2 (sl (ord be (i 0).val)) (ex be hbe (i 0).val)) ∗ Next d w1 w2 be hbe (i 0).val) ⊢ Slots d w1 w2 be hbe ((i 0).val + 1) from .rfl)
        isplitl [H1 H2]
        · isplitl [H1]; · iexact H1
          iexact H2
        iexact HN
      isplitl [HO]; · iexact HO
      isplitl [HI]; · iexact HI
      iexact H9
    · have h3 : k2_cond3 i (tb be (i 0).val) (tb be ((i 0).val - 1)) = 1#1 := (cond3_iff i _ _).mpr ⟨by rw [hb1, hb]; exact hc, by omega⟩
      have hor : ord be (i 0).val = ord be b + 1 := by rw [hb]; exact ord_diff be hc
      have hnx : nxt be b = (i 0).val := by rw [hb]; exact nxt_diff be (by omega) hc
      have hs : sl (ord be b) = sl (ord be (i 0).val + 1) := Fin.ext (by show _ % 2 = _ % 2; rw [hor]; omega)
      have hN : Next d w1 w2 be hbe b = iprop(Fly1 d w1 (sl (ord be (i 0).val)) (ex be hbe (i 0).val) ∗ Fly2 d w2 (sl (ord be (i 0).val)) (ex be hbe (i 0).val)) := by
        unfold Next; rw [hor, hnx, if_pos hi]
      have hu : (sl (ord be (i 0).val + 1)).val = 1 - ord be (i 0).val % 2 := by show (ord be (i 0).val + 1) % 2 = _; omega
      ihave HN := (show Next d w1 w2 be hbe b ⊢ iprop(Fly1 d w1 (sl (ord be (i 0).val)) (ex be hbe (i 0).val) ∗ Fly2 d w2 (sl (ord be (i 0).val)) (ex be hbe (i 0).val)) from by rw [hN]) $$ HN
      ihave H1 := (show Full1 d w1 (sl (ord be b)) (ex be hbe b) ⊢ Full1 d w1 (sl (ord be (i 0).val + 1)) (ex be hbe b) from by rw [hs]) $$ H1
      ihave H2 := (show Full2 d w2 (sl (ord be b)) (ex be hbe b) ⊢ Full2 d w2 (sl (ord be (i 0).val + 1)) (ex be hbe b) from by rw [hs]) $$ H2
      icases HN with ⟨G1, G2⟩
      simp only [dif_neg h1, dif_pos h3, wp_bind]
      iapply (await1 d w1 O B hB (sl (ord be (i 0).val)) (ex be hbe (i 0).val) (off15_eq ⟨ord be (i 0).val, by omega⟩) (off14_eq ⟨ord be (i 0).val, by omega⟩)) $$ [-]
      isplitl [G1]; · iexact G1
      isplitl [HO]; · iexact HO
      iintro ⟨G1, HO⟩
      iapply (await2 d w2 O B hB (sl (ord be (i 0).val)) (ex be hbe (i 0).val) (off16_eq ⟨ord be (i 0).val, by omega⟩) (off14_eq ⟨ord be (i 0).val, by omega⟩)) $$ [-]
      isplitl [G2]; · iexact G2
      isplitl [HO]; · iexact HO
      iintro ⟨G2, HO⟩
      ihave H1 := (full1_idle d w1 _ _) $$ H1
      ihave H2 := (full2_idle d w2 _ _) $$ H2
      by_cases h4 : nxt be (i 0).val < 24
      · have h4' : k2_cond4 (BitVec.ofNat 32 (nxt be (i 0).val)) = 1#1 := (cond4_iff ⟨nxt be (i 0).val, by omega⟩).mpr h4
        have hm : min (nxt be (i 0).val) 23 = nxt be (i 0).val := by omega
        simp only [dif_pos h4', wp_bind]
        iapply (issue1 d w1 (sl (ord be (i 0).val + 1)) (ex be hbe (min (nxt be (i 0).val) 23)) rfl ((off18_eq ⟨ord be (i 0).val, by omega⟩).trans (by rw [hu])) ((off17_eq ⟨ord be (i 0).val, by omega⟩).trans (by rw [hu]))) $$ [-]
        isplitl [H1]; · iexact H1
        iintro H1
        iapply (issue2 d w2 (sl (ord be (i 0).val + 1)) (ex be hbe (min (nxt be (i 0).val) 23)) rfl ((off20_eq ⟨ord be (i 0).val, by omega⟩).trans (by rw [hu])) ((off17_eq ⟨ord be (i 0).val, by omega⟩).trans (by rw [hu]))) $$ [-]
        isplitl [H2]; · iexact H2
        iintro H2
        ihave HN := (show iprop(Fly1 d w1 (sl (ord be (i 0).val + 1)) (ex be hbe (min (nxt be (i 0).val) 23)) ∗ Fly2 d w2 (sl (ord be (i 0).val + 1)) (ex be hbe (min (nxt be (i 0).val) 23))) ⊢ Next d w1 w2 be hbe (i 0).val from by
          unfold Next; rw [if_pos h4, hm]) $$ [H1 H2]
        · isplitl [H1] <;> iassumption
        iapply (HC _) $$ [-]
        isplitl [Hv]; · iexact Hv
        isplitl [G1]; · iexact G1
        isplitl [G2]; · iexact G2
        isplitl [HI]; · iexact HI
        isplitl [H9]; · iexact H9
        iintro ⟨Hv, H1, H2, HI, H9⟩
        iapply Hk
        isplitl [He]; · iexact He
        isplitl [Hv]; · iexact Hv
        isplitl [H1 H2 HN]
        · iapply (show iprop((Full1 d w1 (sl (ord be (i 0).val)) (ex be hbe (i 0).val) ∗ Full2 d w2 (sl (ord be (i 0).val)) (ex be hbe (i 0).val)) ∗ Next d w1 w2 be hbe (i 0).val) ⊢ Slots d w1 w2 be hbe ((i 0).val + 1) from .rfl)
          isplitl [H1 H2]
          · isplitl [H1]; · iexact H1
            iexact H2
          iexact HN
        isplitl [HO]; · iexact HO
        isplitl [HI]; · iexact HI
        iexact H9
      · have h4' : ¬ k2_cond4 (BitVec.ofNat 32 (nxt be (i 0).val)) = 1#1 := fun h => h4 ((cond4_iff ⟨nxt be (i 0).val, by omega⟩).mp h)
        simp only [dif_neg h4', wp_bind]
        ihave HN := (show iprop(Idle1 d w1 (sl (ord be (i 0).val + 1)) ∗ Idle2 d w2 (sl (ord be (i 0).val + 1))) ⊢ Next d w1 w2 be hbe (i 0).val from by
          unfold Next; rw [if_neg h4]) $$ [H1 H2]
        · isplitl [H1] <;> iassumption
        iapply (HC _) $$ [-]
        isplitl [Hv]; · iexact Hv
        isplitl [G1]; · iexact G1
        isplitl [G2]; · iexact G2
        isplitl [HI]; · iexact HI
        isplitl [H9]; · iexact H9
        iintro ⟨Hv, H1, H2, HI, H9⟩
        iapply Hk
        isplitl [He]; · iexact He
        isplitl [Hv]; · iexact Hv
        isplitl [H1 H2 HN]
        · iapply (show iprop((Full1 d w1 (sl (ord be (i 0).val)) (ex be hbe (i 0).val) ∗ Full2 d w2 (sl (ord be (i 0).val)) (ex be hbe (i 0).val)) ∗ Next d w1 w2 be hbe (i 0).val) ⊢ Slots d w1 w2 be hbe ((i 0).val + 1) from .rfl)
          isplitl [H1 H2]
          · isplitl [H1]; · iexact H1
            iexact H2
          iexact HN
        isplitl [HO]; · iexact HO
        isplitl [HI]; · iexact HI
        iexact H9

end Visit

end Cert.Proof.Whole
-- ==== Proof.WholeExperts.lean ====
/-
  The experts' pipeline: its proof data over known entry contents, its body at every block, and its region.
-/
module

public import proofs.«01_k».proof.Proof.WholeVisit

@[expose] public section
noncomputable section
namespace Cert.Proof.Whole
open Cert.WholeIdeal Cert.WholeIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.TcCoe
open Idealize.ShloMosaic.Pipeline (RDat cellOf)
variable {F : FTy → Type} [FloatOps F]
local notation "𝕄" => MT nD τ sig (HIx 2) (Elt F) ℕ UU ℕ

/-! ## The tables -/

def tabs (be bv : S24.Idx → BitVec 32) : pre2.Contents (Elt F) := fun | 0 => be | 1 => bv

theorem tabs_ok (be bv : S24.Idx → BitVec 32) (hbe : InRange be) : ok2 (F := F) (tabs be bv) := by
  have h8 : ∀ x : S24.Idx, (be x).toNat < 8 := fun x => by
    have h := hbe (x 0).val
    have hx : ix24 (x 0).val = x := funext fun a => by
      match a with
      | 0 => exact Fin.ext (Nat.min_eq_left (Nat.le_of_lt_succ (x 0).isLt))
    unfold tb at h; rwa [hx] at h
  refine ⟨fun i => ⟨fun a => ?_, .inl rfl⟩, fun i => ⟨fun a => ?_, .inl rfl⟩⟩
  · match a with
    | 0 => exact Nat.le_trans (Nat.mul_le_mul_right _ (Nat.succ_le_of_lt (h8 _))) (by decide)
    | 1 => exact (show (0 + 1) * 1 ≤ 1 by decide)
    | 2 => exact (show (0 + 1) * 3072 ≤ 3072 by decide)
  · match a with
    | 0 => exact Nat.le_trans (Nat.mul_le_mul_right _ (Nat.succ_le_of_lt (h8 _))) (by decide)
    | 1 => exact (show (0 + 1) * 1 ≤ 1 by decide)
    | 2 => exact (show (0 + 1) * 768 ≤ 768 by decide)

/-- Both pipelines' tables: the router has none. -/
def adm (be bv : S24.Idx → BitVec 32) (hbe : InRange be) : (p : Fin 2) → (pcfgs (F := F) p).Adm
  | ⟨0, _⟩ => cfg0.toPCfg_adm
  | ⟨1, _⟩ => ⟨tabs be bv, tabs_ok be bv hbe⟩

/-! ## What the arrays hold on entry -/

variable (F) in
structure Ent where
  xs : S6144x768.Idx → Elt F .f32
  b1 : S8x1x3072.Idx → Elt F .f32
  b2 : S8x1x768.Idx → Elt F .f32
  ws : S6144x1.Idx → Elt F .f32
  ys : S6144x768.Idx → Elt F .f32
  w1 : S8x768x3072.Idx → Elt F .f32
  w2 : S8x3072x768.Idx → Elt F .f32
  be : S24.Idx → BitVec 32
  bv : S24.Idx → BitVec 32
  hbe : InRange be

def at6 (p : Fin 6144) (c : Fin 768) : S6144x768.Idx := fun | 0 => p | 1 => c
def at61 (p : Fin 6144) : S6144x1.Idx := fun | 0 => p | 1 => (0 : Fin 1)
def atB1 (e : Fin 8) (c : Fin 3072) : S8x1x3072.Idx := fun | 0 => e | 1 => (0 : Fin 1) | 2 => c
def atB2 (e : Fin 8) (c : Fin 768) : S8x1x768.Idx := fun | 0 => e | 1 => (0 : Fin 1) | 2 => c
/-- Row `r` of block `t`. -/
def rowOf (t : Fin 24) (r : Fin 256) : Fin 6144 := ⟨256 * t.val + r.val, by omega⟩

namespace Ent
variable (V : Ent F)

/-- Block `t` of the rows and of their weights, and the staged rows of the biases. -/
def X (t : Fin 24) : S256x768.Idx → Elt F .f32 := fun j => V.xs (at6 (rowOf t (j 0)) (j 1))
def W (t : Fin 24) : S256x1.Idx → Elt F .f32 := fun j => V.ws (at61 (rowOf t (j 0)))
def B1 (e : Fin 8) : S1x1x3072.Idx → Elt F .f32 := fun j => V.b1 (atB1 e (j 2))
def B2 (e : Fin 8) : S1x1x768.Idx → Elt F .f32 := fun j => V.b2 (atB2 e (j 2))
def e (t : Fin 24) : Fin 8 := ⟨(tb V.be t.val).toNat, V.hbe t.val⟩

/-- What block `t` of the experts' outputs is, of a block with tokens. -/
def out (d : Dev nD) (t : Fin 24) : S256x768.Idx → Elt F .f32 :=
  k2_pay1 (V.X t) (E1 d V.w1 (V.e t)) (V.B1 (V.e t)) (E2 d V.w2 (V.e t)) (V.B2 (V.e t)) (V.W t)

end Ent

abbrev aV (V : Ent F) := adm (F := F) V.be V.bv V.hbe
abbrev c2 (V : Ent F) : Pipeline.Cfg sig Λ₀ := Pipeline.pin (pcfgs (F := F)) (aV V) 1

set_option maxRecDepth 10000 in
theorem coords2 : ∀ t : Fin grid2.N, (grid2.coords t 0).val = t.val := by decide

def pt24 (t : Fin grid2.N) : Fin 24 := t.cast N_2

abbrev w2At (d : Dev nD) (V : Ent F) : Buf (Elt F) ((w2M).view.loc (d : Thread nD τ)) := V.w2
abbrev w1At (d : Dev nD) (V : Ent F) : Buf (Elt F) ((w1M).view.loc (d : Thread nD τ)) := V.w1

/-- The other scoped buffers: the router's staging buffers, which the experts do not touch. -/
def Rest (d : Dev nD) : sProp 𝕄 :=
  iprop((∃ f : Buf (Elt F) ((d : Thread nD τ).loc cc0_stg0_0), (d : Thread nD τ).loc cc0_stg0_0 ↦{fullShare} f)
    ∗ (∃ f : Buf (Elt F) ((d : Thread nD τ).loc cc0_stg1_0), (d : Thread nD τ).loc cc0_stg1_0 ↦{fullShare} f)
    ∗ (∃ f : Buf (Elt F) ((d : Thread nD τ).loc cc0_stg2_0), (d : Thread nD τ).loc cc0_stg2_0 ↦{fullShare} f)
    ∗ (∃ f : Buf (Elt F) ((d : Thread nD τ).loc cc0_stg3_0), (d : Thread nD τ).loc cc0_stg3_0 ↦{fullShare} f)
    ∗ (∃ f : Buf (Elt F) ((d : Thread nD τ).loc cc0_stg4_0), (d : Thread nD τ).loc cc0_stg4_0 ↦{fullShare} f)
    ∗ (∃ f : Buf (Elt F) ((d : Thread nD τ).loc cc0_stg5_0), (d : Thread nD τ).loc cc0_stg5_0 ↦{fullShare} f)
    ∗ (∃ f : Buf (Elt F) ((d : Thread nD τ).loc cc0_stg6_0), (d : Thread nD τ).loc cc0_stg6_0 ↦{fullShare} f)
    ∗ (∃ f : Buf (Elt F) ((d : Thread nD τ).loc cc0_stg7_0), (d : Thread nD τ).loc cc0_stg7_0 ↦{fullShare} f)
    ∗ (∃ f : Buf (Elt F) ((d : Thread nD τ).loc cc0_stg8_0), (d : Thread nD τ).loc cc0_stg8_0 ↦{fullShare} f)
    ∗ (∃ f : Buf (Elt F) ((d : Thread nD τ).loc cc0_stg9_0), (d : Thread nD τ).loc cc0_stg9_0 ↦{fullShare} f))

/-- What the TensorCore owes and what it has recorded before call `n`. -/
abbrev tcO (d : Dev nD) (n : ℕ) : CellTallies nD τ sig (HIx 2) := (K (F := F)).Otc (N := 2) d n
abbrev tcB (d : Dev nD) (n : ℕ) : Set (SemLoc sig × HIx 2) := {p | (K (F := F)).lev (N := 2) ((d : Thread nD τ), p.1) p.2 ≤ 8 * n}

/-- The invariant between blocks. -/
def Inv (V : Ent F) (d : Dev nD) (n : ℕ) : sProp 𝕄 :=
  iprop(beAt (F := F) d V.be ∗ bvAt (F := F) d V.bv ∗ Slots d (w1At d V) (w2At d V) V.be V.hbe n
    ∗ Transfers.MayWaits (d : Thread nD τ) (none : HIx 2) (tcO (F := F) d 1) ∗ Rest d)

/-- The pipeline's data from the entry contents: each block staged in stays, the result's block of a block with
    tokens is its payload. -/
def rd (V : Ent F) (d : Dev nD) : RDat τ (Elt F) (HIx 2) ℕ UU ℕ (c2 V) d where
  A := fun | ⟨0, _⟩ => V.xs | ⟨1, _⟩ => V.b1 | ⟨2, _⟩ => V.b2 | ⟨3, _⟩ => V.ws | ⟨4, _⟩ => V.ys
  after := fun
    | ⟨0, _⟩ => fun _ Y X => X = Y | ⟨1, _⟩ => fun _ Y X => X = Y | ⟨2, _⟩ => fun _ Y X => X = Y | ⟨3, _⟩ => fun _ Y X => X = Y
    | ⟨4, _⟩ => fun t _ X => tb V.bv t.val ≠ 0#32 → X = V.out d (pt24 t)
  Φ t := Inv V d t.val
  q _ := fullShare
  owed _ := tcO (F := F) d 1
  recorded _ := tcB (F := F) d 1

/-- A staged-in window whose buffer is left as found holds its block at every point. -/
theorem finds_in {cfg : Pipeline.Cfg sig Λ₀} {d : Dev nD} (r : RDat τ (Elt F) (HIx 2) ℕ UU ℕ cfg d) (w : Fin cfg.W) (hout : (cfg.win w).isOut = false)
    (hclip : ∀ i i', (cfg.win w).clip i = (cfg.win w).clip i') (haft : ∀ t Y X, r.after w t Y X → X = Y) :
    ∀ (n : ℕ) (t : Fin cfg.N), t.val = n → ∀ X, r.Finds w t X → ∃ D, X = r.fetched w t D := by
  intro n
  induction n with
  | zero =>
    intro t ht X h
    refine (r.finds_of_fetch ?_ X).mp h
    unfold Pipeline.Window.fetch
    simp [hout, ht]
  | succ n ih =>
    intro t ht X h
    by_cases hf : (cfg.win w).fetch t = true
    · exact (r.finds_of_fetch hf X).mp h
    · have hf' : (cfg.win w).fetch t = false := by simpa using hf
      rcases (r.finds_of_pos hf' (by omega) X).mp h with hfl | ⟨Y, hY, hYX⟩
      · unfold Pipeline.Window.flush at hfl; rw [hout] at hfl; simp at hfl
      · obtain ⟨D, rfl⟩ := ih _ (by show t.val - 1 = n; omega) Y hY
        refine ⟨D, (haft _ _ _ hYX).trans (r.fetched_congr w ?_ (hclip _ _) D)⟩
        unfold Pipeline.Window.fetch at hf'
        rw [hout] at hf'
        by_contra hne
        simp at hf'
        exact hne (hf'.2 (by omega)).symm

theorem t2_lt (t : Fin grid2.N) : t.val < 24 := lt_of_lt_of_eq t.isLt N_2

/-- What each window staged in holds at block `t`. -/
theorem find0 (V : Ent F) (d : Dev nD) (t : Fin (c2 V).N) (X) (h : (rd V d).Finds (0 : Fin 5) t X) : X = V.X (pt24 t) := by
  obtain ⟨D, rfl⟩ := finds_in (rd V d) (0 : Fin 5) rfl (fun _ _ => rfl) (fun _ _ _ h => h) _ t rfl X h
  refine funext fun j => congrArg V.xs (funext fun a => Fin.ext ?_)
  match a with
  | 0 =>
    show (BitVec.ofNat 32 (grid2.coords t 0).val).toNat * 256 + 1 * (j 0).val = 256 * t.val + (j 0).val
    rw [coords2, BitVec.toNat_ofNat, Nat.mod_eq_of_lt (by have := t2_lt t; omega)]; omega
  | 1 => show 0 * 768 + 1 * (j 1).val = (j 1).val; omega

theorem find3 (V : Ent F) (d : Dev nD) (t : Fin (c2 V).N) (X) (h : (rd V d).Finds (3 : Fin 5) t X) : X = V.W (pt24 t) := by
  obtain ⟨D, rfl⟩ := finds_in (rd V d) (3 : Fin 5) rfl (fun _ _ => rfl) (fun _ _ _ h => h) _ t rfl X h
  refine funext fun j => congrArg V.ws (funext fun a => Fin.ext ?_)
  match a with
  | 0 =>
    show (BitVec.ofNat 32 (grid2.coords t 0).val).toNat * 256 + 1 * (j 0).val = 256 * t.val + (j 0).val
    rw [coords2, BitVec.toNat_ofNat, Nat.mod_eq_of_lt (by have := t2_lt t; omega)]; omega
  | 1 => show 0 * 1 + 1 * (j 1).val = 0; have : (j 1).val < 1 := (j 1).isLt; omega

theorem tab_at (V : Ent F) (t : Fin grid2.N) (inb : ∀ a, (k2_off1 (grid2.coords t)) a + S1.size a ≤ S24.size a) :
    ((tabs (F := F) V.be V.bv).at 0 (Rect.unit (s := S24) (k2_off1 (grid2.coords t)) S1.size inb) numel1_S1 : BitVec 32) = tb V.be t.val := by
  refine congrArg V.be (funext fun (a : Fin 1) => Fin.ext ?_)
  match a with
  | 0 =>
    show (BitVec.ofNat 32 (grid2.coords t 0).val).toNat + 1 * 0 = min t.val 23
    have := t2_lt t
    rw [coords2, BitVec.toNat_ofNat, Nat.mod_eq_of_lt (by omega)]; omega

theorem tr1 (V : Ent F) (t : Fin grid2.N) : cc2_transform_1 k2_off1_inb numel1_S1 (tabs (F := F) V.be V.bv) (grid2.coords t) 0 = (tb V.be t.val).toNat :=
  congrArg BitVec.toNat (tab_at V t _)
theorem tr2 (V : Ent F) (t : Fin grid2.N) : cc2_transform_2 k2_off1_inb numel1_S1 (tabs (F := F) V.be V.bv) (grid2.coords t) 0 = (tb V.be t.val).toNat :=
  congrArg BitVec.toNat (tab_at V t _)

theorem find1 (V : Ent F) (d : Dev nD) (t : Fin (c2 V).N) (X) (h : (rd V d).Finds (1 : Fin 5) t X) : X = V.B1 (V.e (pt24 t)) := by
  obtain ⟨D, rfl⟩ := finds_in (rd V d) (1 : Fin 5) rfl (fun _ _ => rfl) (fun _ _ _ h => h) _ t rfl X h
  refine funext fun j => congrArg V.b1 (funext fun a => Fin.ext ?_)
  match a with
  | 0 =>
    show cc2_transform_1 k2_off1_inb numel1_S1 (tabs (F := F) V.be V.bv) (grid2.coords t) 0 * 1 + 1 * (j 0).val = (tb V.be t.val).toNat
    have : (j 0).val < 1 := (j 0).isLt
    rw [tr1]; omega
  | 1 => show 0 * 1 + 1 * (j 1).val = 0; have : (j 1).val < 1 := (j 1).isLt; omega
  | 2 => show 0 * 3072 + 1 * (j 2).val = (j 2).val; omega

theorem find2 (V : Ent F) (d : Dev nD) (t : Fin (c2 V).N) (X) (h : (rd V d).Finds (2 : Fin 5) t X) : X = V.B2 (V.e (pt24 t)) := by
  obtain ⟨D, rfl⟩ := finds_in (rd V d) (2 : Fin 5) rfl (fun _ _ => rfl) (fun _ _ _ h => h) _ t rfl X h
  refine funext fun j => congrArg V.b2 (funext fun a => Fin.ext ?_)
  match a with
  | 0 =>
    show cc2_transform_2 k2_off1_inb numel1_S1 (tabs (F := F) V.be V.bv) (grid2.coords t) 0 * 1 + 1 * (j 0).val = (tb V.be t.val).toNat
    have : (j 0).val < 1 := (j 0).isLt
    rw [tr2]; omega
  | 1 => show 0 * 1 + 1 * (j 1).val = 0; have : (j 1).val < 1 := (j 1).isLt; omega
  | 2 => show 0 * 768 + 1 * (j 2).val = (j 2).val; omega

/-! ## What the result's array holds at the end -/

def at25 (r : Fin 256) (c : Fin 768) : S256x768.Idx := fun | 0 => r | 1 => c

theorem ix4 (V : Ent F) (t : Fin (c2 V).N) : ((c2 V).win (4 : Fin 5)).index t = ![t.val, 0] := by
  show (![(BitVec.ofNat 32 (grid2.coords t 0).val).toNat, 0] : Fin 2 → Nat) = _
  rw [coords2, BitVec.toNat_ofNat, Nat.mod_eq_of_lt (by have := t2_lt t; omega)]

theorem flush4 (V : Ent F) (t : Fin (c2 V).N) : ((c2 V).win (4 : Fin 5)).flush t = true := by
  unfold Pipeline.Window.flush
  have h1 : ((c2 V).win (4 : Fin 5)).isOut = true := rfl
  rw [h1, Bool.true_and, Bool.or_eq_true]
  by_cases h : t.val + 1 = (c2 V).N
  · exact .inl (decide_eq_true h)
  · refine .inr (decide_eq_true ⟨by have := t.isLt; show t.val + 1 < (c2 V).N; omega, fun he => ?_⟩)
    rw [ix4, ix4] at he
    have := congrFun he 0
    simp at this

/-- The experts' outputs of every block with tokens. -/
def GoodYs (V : Ent F) (d : Dev nD) (n : ℕ) (ys : S6144x768.Idx → Elt F .f32) : Prop :=
  ∀ t : Fin 24, t.val < n → tb V.bv t.val ≠ 0#32 → ∀ r c, ys (at6 (rowOf t r) c) = V.out d t (at25 r c)

theorem blk4_emb (V : Ent F) (t : Fin (c2 V).N) (r : Fin 256) (c : Fin 768) :
    (((c2 V).win (4 : Fin 5)).blk t).view.emb (at25 r c) = at6 (rowOf (pt24 t) r) c := by
  refine funext fun a => Fin.ext ?_
  match a with
  | 0 =>
    show (BitVec.ofNat 32 (grid2.coords t 0).val).toNat * 256 + 1 * r.val = 256 * t.val + r.val
    rw [coords2, BitVec.toNat_ofNat, Nat.mod_eq_of_lt (by have := t2_lt t; omega)]; omega
  | 1 => show 0 * 768 + 1 * c.val = c.val; omega

theorem arr_good (V : Ent F) (d : Dev nD) : ∀ n ≤ 24, ∀ ys, (rd V d).ArrAt (4 : Fin 5) n ys → GoodYs V d n ys := by
  intro n
  induction n with
  | zero => intro _ ys _ t ht; omega
  | succ n ih =>
    intro hn ys h
    have hlt : n < (c2 V).N := lt_of_lt_of_eq (Nat.lt_of_succ_le hn) N_2.symm
    have h' := (RDat.ArrAt_succ (rd V d) (4 : Fin 5) ⟨n, hlt⟩) ▸ h
    rw [flush4, if_pos rfl] at h'
    obtain ⟨G, X, hG, ⟨Y, -, hX⟩, rfl⟩ := h'
    intro t ht hb r c
    by_cases htn : t.val = n
    · have hX' : X = V.out d t := by
        have := hX (by show tb V.bv n ≠ 0#32; rw [← htn]; exact hb)
        rw [this]; congr 1; exact Fin.ext htn.symm
      subst hX'
      rw [show at6 (rowOf t r) c = _ from (show at6 (rowOf t r) c = at6 (rowOf (pt24 ⟨n, hlt⟩) r) c by congr 2; exact Fin.ext htn).trans (blk4_emb V ⟨n, hlt⟩ r c).symm]
      rw [View.write_emb_of_mem _ _ (Finset.mem_univ _)]
      rfl
    · rw [View.write_of_not_mem]
      · exact ih (by omega) G hG t (by omega) hb r c
      · intro hm
        obtain ⟨j, -, hj⟩ := Finset.mem_map.mp hm
        have h0 := congrArg Fin.val (congrFun hj (0 : Fin 2))
        have h0' : (BitVec.ofNat 32 (grid2.coords ⟨n, hlt⟩ 0).val).toNat * 256 + 1 * (j (0 : Fin 2)).val = 256 * t.val + r.val := h0
        rw [coords2, BitVec.toNat_ofNat, Nat.mod_eq_of_lt (by show n < _; omega)] at h0'
        have hj : (j (0 : Fin 2)).val < 256 := (j (0 : Fin 2)).isLt
        have hr := r.isLt
        have : n * 256 + 1 * (j (0 : Fin 2)).val = 256 * t.val + r.val := h0'
        omega

/-! ## The body at every block -/

theorem mem_bound (V : Ent F) (d : Dev nD) (t) (sm : SemLoc sig) : (sm, (none : HIx 2)) ∈ (rd V d).bound (none : HIx 2) t :=
  Or.inl (Nat.zero_le _)

theorem body2 (V : Ent F) (d : Dev nD) : (rd V d).BodyObligation (defs₀ (F := F)) 𝒱₀ (none : HIx 2) Set.univ := fun t Y hY => by
  have h0 := find0 V d t _ (hY (0 : Fin 5))
  have h1 := find1 V d t _ (hY (1 : Fin 5))
  have h2 := find2 V d t _ (hY (2 : Fin 5))
  have h3 := find3 V d t _ (hY (3 : Fin 5))
  rw [bigSep_W2, bigSep_W2]
  iintro ⟨HΦ, HO, H0, H1, H2, H3, H4⟩
  ihave HΦ := (show (rd V d).Φ t.castSucc ⊢ iprop(beAt (F := F) d V.be ∗ bvAt (F := F) d V.bv ∗ Slots d (w1At d V) (w2At d V) V.be V.hbe (grid2.coords t 0).val
    ∗ Transfers.MayWaits (d : Thread nD τ) (none : HIx 2) (tcO (F := F) d 1) ∗ Rest d) from by rw [coords2]; exact .rfl) $$ HΦ
  icases HΦ with ⟨He, Hv, HS, #Hm, HR⟩
  ihave H0 := (show _ ⊢ owns (d : Thread nD τ) (spec2_0.stage ((c2 V).slots t (0 : Fin 5))) fullShare (V.X (pt24 t)) from by rw [← h0]; exact .rfl) $$ H0
  ihave H1 := (show _ ⊢ owns (d : Thread nD τ) (spec2_1.stage ((c2 V).slots t (1 : Fin 5))) fullShare (V.B1 (V.e (pt24 t))) from by rw [← h1]; exact .rfl) $$ H1
  ihave H2 := (show _ ⊢ owns (d : Thread nD τ) (spec2_2.stage ((c2 V).slots t (2 : Fin 5))) fullShare (V.B2 (V.e (pt24 t))) from by rw [← h2]; exact .rfl) $$ H2
  ihave H3 := (show _ ⊢ owns (d : Thread nD τ) (spec2_3.stage ((c2 V).slots t (3 : Fin 5))) fullShare (V.W (pt24 t)) from by rw [← h3]; exact .rfl) $$ H3
  iapply (visit d (w1At d V) (w2At d V) V.be V.bv V.hbe (grid2.coords t) _ _ _ _ _ _ _ _ _ _ (V.X (pt24 t)) (V.B1 (V.e (pt24 t))) (V.B2 (V.e (pt24 t))) (V.W (pt24 t)) (Y (4 : Fin 5))
    (tcO (F := F) d 1) ((rd V d).bound (none : HIx 2) t.castSucc) (mem_bound V d _) _)
  isplitl [He]; · iexact He
  isplitl [Hv]; · iexact Hv
  isplitl [HS]; · iexact HS
  isplitl [HO]
  · unfold OW
    isplitl [HO]; · iexact HO
    iexact Hm
  isplitl [H0 H1 H2 H3]
  · unfold Ins
    isplitl [H0]; · iexact H0
    isplitl [H1]; · iexact H1
    isplitl [H2]; · iexact H2
    iexact H3
  isplitl [H4]; · iexact H4
  unfold OW Ins
  iintro ⟨He, Hv, HS, ⟨HO, -⟩, ⟨H0, H1, H2, H3⟩, %X9, %hX9, H4⟩
  isplitl [He Hv HS HR]
  · iapply (show iprop(beAt (F := F) d V.be ∗ bvAt (F := F) d V.bv ∗ Slots d (w1At d V) (w2At d V) V.be V.hbe ((grid2.coords t 0).val + 1)
    ∗ Transfers.MayWaits (d : Thread nD τ) (none : HIx 2) (tcO (F := F) d 1) ∗ Rest d) ⊢ (rd V d).Φ t.succ from by rw [coords2]; exact .rfl)
    isplitl [He]; · iexact He
    isplitl [Hv]; · iexact Hv
    isplitl [HS]; · iexact HS
    isplitr; · iexact Hm
    iexact HR
  isplitl [HO]; · iexact HO
  isplitl [H0]; · iexists _; isplitr; swap; (· iexact H0); ipureintro; exact h0.symm
  isplitl [H1]; · iexists _; isplitr; swap; (· iexact H1); ipureintro; exact h1.symm
  isplitl [H2]; · iexists _; isplitr; swap; (· iexact H2); ipureintro; exact h2.symm
  isplitl [H3]; · iexists _; isplitr; swap; (· iexact H3); ipureintro; exact h3.symm
  iexists _; isplitr; swap; (· iexact H4); ipureintro
  intro hb
  have h := hX9 (by rw [coords2]; exact hb)
  rw [h]; unfold Ent.out
  have he : ex V.be V.hbe (grid2.coords t 0).val = V.e (pt24 t) := Fin.ext (by show (tb V.be _).toNat = (tb V.be _).toNat; rw [coords2]; rfl)
  rw [he]

end Cert.Proof.Whole
end
-- ==== Proof.WholeRegion.lean ====
/-
  The experts' region: the arrays in at known contents, the outputs out with every block with tokens at its payload.
-/
module

public import proofs.«01_k».proof.Proof.WholeExperts

@[expose] public section
noncomputable section
namespace Cert.Proof.Whole
open Cert.WholeIdeal Cert.WholeIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.TcCoe
open Idealize.ShloMosaic.Pipeline (RDat cellOf)
variable {F : FTy → Type} [FloatOps F]
local notation "𝕄" => MT nD τ sig (HIx 2) (Elt F) ℕ UU ℕ

/-! ## The slots' buffers and semaphores, split and joined -/

theorem set1 (s : Fin 2) (x : S2x768x3072.Idx) : x ∈ (V1 s).view.set ↔ (x 0).val = s.val := by
  have e : (V1 s).view.set = (Rect.unit (s := S2x768x3072) ![s.val, 0, 0] S1x768x3072.size (inb3 s.isLt)).set :=
    (View.set_reshape _ _).trans (View.set_slice_whole _ _)
  rw [e, Rect.mem_set_unit]
  constructor
  · intro h; have := h 0; have h1 : s.val ≤ (x 0).val := this.1; have h2 : (x 0).val < s.val + 1 := this.2; omega
  · intro h a
    match a with
    | 0 => show s.val ≤ (x 0).val ∧ (x 0).val < s.val + 1; omega
    | 1 => exact ⟨Nat.zero_le _, by show (x 1).val < 0 + 768; have : (x 1).val < 768 := (x 1).isLt; omega⟩
    | 2 => exact ⟨Nat.zero_le _, by show (x 2).val < 0 + 3072; have : (x 2).val < 3072 := (x 2).isLt; omega⟩
theorem set2 (s : Fin 2) (x : S2x3072x768.Idx) : x ∈ (V2 s).view.set ↔ (x 0).val = s.val := by
  have e : (V2 s).view.set = (Rect.unit (s := S2x3072x768) ![s.val, 0, 0] S1x3072x768.size (inb3 s.isLt)).set :=
    (View.set_reshape _ _).trans (View.set_slice_whole _ _)
  rw [e, Rect.mem_set_unit]
  constructor
  · intro h; have := h 0; have h1 : s.val ≤ (x 0).val := this.1; have h2 : (x 0).val < s.val + 1 := this.2; omega
  · intro h a
    match a with
    | 0 => show s.val ≤ (x 0).val ∧ (x 0).val < s.val + 1; omega
    | 1 => exact ⟨Nat.zero_le _, by show (x 1).val < 0 + 3072; have : (x 1).val < 3072 := (x 1).isLt; omega⟩
    | 2 => exact ⟨Nat.zero_le _, by show (x 2).val < 0 + 768; have : (x 2).val < 768 := (x 2).isLt; omega⟩

theorem rest1 : (Finset.univ : Finset S2x768x3072.Idx) \ (V1 0).view.set = (V1 1).view.set := by
  ext x
  have hx : (x 0).val < 2 := (x 0).isLt
  rw [Finset.mem_sdiff, set1, set1]
  refine ⟨fun h => by have := h.2; show _ = 1; have : (x 0).val ≠ 0 := this; omega, fun h => ⟨Finset.mem_univ _, fun h' => ?_⟩⟩
  have a : (x 0).val = 1 := h
  have b : (x 0).val = 0 := h'
  omega
theorem rest2 : (Finset.univ : Finset S2x3072x768.Idx) \ (V2 0).view.set = (V2 1).view.set := by
  ext x
  have hx : (x 0).val < 2 := (x 0).isLt
  rw [Finset.mem_sdiff, set2, set2]
  refine ⟨fun h => by have := h.2; show _ = 1; have : (x 0).val ≠ 0 := this; omega, fun h => ⟨Finset.mem_univ _, fun h' => ?_⟩⟩
  have a : (x 0).val = 1 := h
  have b : (x 0).val = 0 := h'
  omega

section Regs
variable (d : Dev nD) (w1 : Buf (Elt F) ((w1M).view.loc (d : Thread nD τ))) (w2 : Buf (Elt F) ((w2M).view.loc (d : Thread nD τ)))

/-- The four cells the copies signal. -/
def osem : Fin 4 → SemLoc sig := fun | 0 => .dma (C1 0) | 1 => .dma (C2 0) | 2 => .dma (C1 1) | 3 => .dma (C2 1)
theorem ownSems : Pipeline.OwnSemFacts spec2 osem := by decide

theorem osem_eq : (Pipeline.ownSems0 osem d : sProp 𝕄)
    = iprop(semVal ((d : Thread nD τ), .dma (C1 0)) 0 ∗ semVal ((d : Thread nD τ), .dma (C2 0)) 0
        ∗ semVal ((d : Thread nD τ), .dma (C1 1)) 0 ∗ semVal ((d : Thread nD τ), .dma (C2 1)) 0) :=
  bigSep_univ_eq_bigSepL [(0 : Fin 4), 1, 2, 3] (by decide) (by decide) _

/-- Both slots idle, from the matrices, the scratch buffers and the cells. -/
theorem idle_in : iprop(((w1M).view.loc (d : Thread nD τ) ↦{fullShare} w1) ∗ ((w2M).view.loc (d : Thread nD τ) ↦{fullShare} w2)
      ∗ (∃ f : Buf (Elt F) ((d : Thread nD τ).loc cc2_scratch0), (d : Thread nD τ).loc cc2_scratch0 ↦{fullShare} f)
      ∗ (∃ f : Buf (Elt F) ((d : Thread nD τ).loc cc2_scratch1), (d : Thread nD τ).loc cc2_scratch1 ↦{fullShare} f)
      ∗ Pipeline.ownSems0 osem d)
    ⊢ iprop((Idle1 d w1 0 ∗ Idle2 d w2 0) ∗ (Idle1 d w1 1 ∗ Idle2 d w2 1)) := by
  rw [osem_eq]
  unfold Idle1 Idle2
  iintro ⟨H1, H2, ⟨%f, Hf⟩, ⟨%g, Hg⟩, Ha, Hb, Hc, Hd⟩
  ihave H1 := (pointsTo_share (PosShare.mem_left_op_right fullShare)).1 $$ H1
  icases H1 with ⟨H1, H1'⟩
  ihave H2 := (pointsTo_share (PosShare.mem_left_op_right fullShare)).1 $$ H2
  icases H2 with ⟨H2, H2'⟩
  ihave Hf := (pointsTo_split_subset (Finset.subset_univ (V1 0).view.set)).1 $$ Hf
  icases Hf with ⟨Hf, Hf'⟩
  ihave Hg := (pointsTo_split_subset (Finset.subset_univ (V2 0).view.set)).1 $$ Hg
  icases Hg with ⟨Hg, Hg'⟩
  isplitl [H1 H2 Hf Hg Ha Hb]
  · isplitl [H1 Hf Ha]
    · isplitl [H1]; · iexact H1
      isplitl [Hf]; · iexists f; iexact Hf
      iexact Ha
    · isplitl [H2]; · iexact H2
      isplitl [Hg]; · iexists g; iexact Hg
      iexact Hb
  · isplitl [H1' Hf' Hc]
    · isplitl [H1']; · iexact H1'
      isplitl [Hf']; · iexists f; iapply (show _ ⊢ _ from by rw [← rest1]) $$ Hf'
      iexact Hc
    · isplitl [H2']; · iexact H2'
      isplitl [Hg']; · iexists g; iapply (show _ ⊢ _ from by rw [← rest2]) $$ Hg'
      iexact Hd

/-- and back. -/
theorem idle_out (s s' : Fin 2) (h : s' ≠ s) : iprop((Idle1 d w1 s ∗ Idle2 d w2 s) ∗ (Idle1 d w1 s' ∗ Idle2 d w2 s'))
    ⊢ iprop(((w1M).view.loc (d : Thread nD τ) ↦{fullShare} w1) ∗ ((w2M).view.loc (d : Thread nD τ) ↦{fullShare} w2)
      ∗ (∃ f : Buf (Elt F) ((d : Thread nD τ).loc cc2_scratch0), (d : Thread nD τ).loc cc2_scratch0 ↦{fullShare} f)
      ∗ (∃ f : Buf (Elt F) ((d : Thread nD τ).loc cc2_scratch1), (d : Thread nD τ).loc cc2_scratch1 ↦{fullShare} f)
      ∗ Pipeline.ownSems0 osem d) := by
  have key : iprop((Idle1 d w1 0 ∗ Idle2 d w2 0) ∗ (Idle1 d w1 1 ∗ Idle2 d w2 1))
    ⊢ iprop(((w1M).view.loc (d : Thread nD τ) ↦{fullShare} w1) ∗ ((w2M).view.loc (d : Thread nD τ) ↦{fullShare} w2)
      ∗ (∃ f : Buf (Elt F) ((d : Thread nD τ).loc cc2_scratch0), (d : Thread nD τ).loc cc2_scratch0 ↦{fullShare} f)
      ∗ (∃ f : Buf (Elt F) ((d : Thread nD τ).loc cc2_scratch1), (d : Thread nD τ).loc cc2_scratch1 ↦{fullShare} f)
      ∗ Pipeline.ownSems0 osem d) := by
    rw [osem_eq]
    unfold Idle1 Idle2
    iintro ⟨⟨⟨H1, ⟨%f, Hf⟩, Ha⟩, H2, ⟨%g, Hg⟩, Hb⟩, ⟨H1', ⟨%f', Hf'⟩, Hc⟩, H2', ⟨%g', Hg'⟩, Hd⟩
    isplitl [H1 H1']
    · iapply (pointsTo_share (PosShare.mem_left_op_right fullShare)).2
      isplitl [H1]; · iexact H1
      iexact H1'
    isplitl [H2 H2']
    · iapply (pointsTo_share (PosShare.mem_left_op_right fullShare)).2
      isplitl [H2]; · iexact H2
      iexact H2'
    isplitl [Hf Hf']
    · iexists _
      iapply (pointsTo_join_subset (Finset.subset_univ (V1 0).view.set))
      isplitl [Hf]; · iexact Hf
      iapply (show _ ⊢ _ from by rw [rest1]) $$ Hf'
    isplitl [Hg Hg']
    · iexists _
      iapply (pointsTo_join_subset (Finset.subset_univ (V2 0).view.set))
      isplitl [Hg]; · iexact Hg
      iapply (show _ ⊢ _ from by rw [rest2]) $$ Hg'
    isplitl [Ha]; · iexact Ha
    isplitl [Hb]; · iexact Hb
    isplitl [Hc]; · iexact Hc
    iexact Hd
  match s, s', h with
  | 0, 1, _ => exact key
  | 1, 0, _ => exact sep_comm.1.trans key
  | 0, 0, h => exact absurd rfl h
  | 1, 1, h => exact absurd rfl h

end Regs

/-! ## The region -/

theorem otc_none (d : Dev nD) (n : ℕ) (g : GSem nD τ sig) : tcO (F := F) d n g none = 0 := by
  by_contra h
  have := SparseCore.Cfg.lev_of_Otc_pos (K := K (F := F)) (N := 2) (Nat.pos_of_ne_zero h)
  exact absurd this (Nat.not_succ_le_zero _)

/-- The TensorCore's debts and recorded waits before call `n`. -/
def Owe (d : Dev nD) (n : ℕ) : sProp 𝕄 :=
  iprop(∃ W, ⌜(K (F := F)).WBelow (N := 2) (T d) W (8 * n)⌝ ∗ owes (T d) (tcO (F := F) d n) W)

theorem owe_in (d : Dev nD) (n : ℕ) (B' : Set (SemLoc sig × HIx 2)) : Owe (F := F) d n ⊢ Pipeline.owesWithin d (tcO (F := F) d n) (tcB (F := F) d n ∪ B') := by
  unfold Owe Pipeline.owesWithin
  iintro ⟨%W, %hW, H⟩
  iexists W
  isplitr; · ipureintro; exact fun p hp => Or.inl (hW p hp)
  iexact H

theorem owe_out (d : Dev nD) (n : ℕ) (cfg : Pipeline.Cfg sig Λ₀) :
    Pipeline.owesWithin d (tcO (F := F) d n) (tcB (F := F) d n ∪ cfg.waitPairs (none : HIx 2)) ⊢ Owe (F := F) d n := by
  unfold Owe Pipeline.owesWithin
  iintro ⟨%W, %hW, H⟩
  iexists W
  isplitr
  · ipureintro
    intro p hp
    rcases hW hp with h | ⟨w, s, rfl⟩
    · exact h
    · exact Nat.zero_le _
  iexact H

/-- What the experts' region takes and gives: its arrays, the result's at `ys`. -/
def Arr2 (V : Ent F) (d : Dev nD) (ys : S6144x768.Idx → Elt F .f32) : sProp 𝕄 :=
  iprop(((d : Thread nD τ).loc main_v7_0 ↦{fullShare} (V.xs : Buf (Elt F) ((d : Thread nD τ).loc main_v7_0)))
    ∗ ((d : Thread nD τ).loc main_v10 ↦{fullShare} (V.b1 : Buf (Elt F) ((d : Thread nD τ).loc main_v10)))
    ∗ ((d : Thread nD τ).loc main_v11 ↦{fullShare} (V.b2 : Buf (Elt F) ((d : Thread nD τ).loc main_v11)))
    ∗ ((d : Thread nD τ).loc main_v12 ↦{fullShare} (V.ws : Buf (Elt F) ((d : Thread nD τ).loc main_v12)))
    ∗ ((d : Thread nD τ).loc main_v13 ↦{fullShare} (ys : Buf (Elt F) ((d : Thread nD τ).loc main_v13))))
def Mats (V : Ent F) (d : Dev nD) : sProp 𝕄 :=
  iprop(((w1M).view.loc (d : Thread nD τ) ↦{fullShare} w1At d V) ∗ ((w2M).view.loc (d : Thread nD τ) ↦{fullShare} w2At d V))
def Tabs (V : Ent F) (d : Dev nD) : sProp 𝕄 := iprop(beAt (F := F) d V.be ∗ bvAt (F := F) d V.bv)

/-- Any data for the pipeline a region does not run. -/
def junk {cfg : Pipeline.Cfg sig Λ₀} (d : Dev nD) : RDat τ (Elt F) (HIx 2) ℕ UU ℕ cfg d where
  A _ := fun _ => Classical.arbitrary _
  after _ _ _ _ := True
  Φ _ := BI.emp
  q _ := fullShare
  owed _ := 0

def rdats2 (V : Ent F) : (p : Fin 2) → (c : Dev nD) → RDat τ (Elt F) (HIx 2) ℕ UU ℕ (Pipeline.pin (pcfgs (F := F)) (aV V) p) c
  | ⟨0, _⟩ => fun c => junk c
  | ⟨1, _⟩ => fun c => rd V c

theorem pref_eq (V : Ent F) (d : Dev nD) : (Pipeline.prefHeld pre2 d (fun _ => fullShare) (tabs (F := F) V.be V.bv) : sProp 𝕄) = Tabs V d :=
  bigSep_univ_eq_bigSepL [(0 : Fin 2), 1] (by decide) (by decide) _

theorem arrays_eq (V : Ent F) (d : Dev nD) : ((rd V d).arrays (rd V d).A : sProp 𝕄) = Arr2 V d V.ys := by
  unfold RDat.arrays
  rw [bigSep_W2]
  have e : ∀ {b : Ref sig .tc} (f : Buf (Elt F) ((d : Thread nD τ).loc b)), ((d : Thread nD τ).loc b ↦[(View.whole b).set]{fullShare} f : sProp 𝕄) = ((d : Thread nD τ).loc b ↦{fullShare} f) :=
    fun {b} f => by rw [View.set_whole]
  exact congrArg₂ _ (e (b := main_v7_0) _) (congrArg₂ _ (e (b := main_v10) _) (congrArg₂ _ (e (b := main_v11) _) (congrArg₂ _ (e (b := main_v12) _) (e (b := main_v13) _))))

/-- The arrays as the pipeline leaves them. -/
theorem arraysAt_out (V : Ent F) (d : Dev nD) : ((rd V d).arraysAt 24 : sProp 𝕄) ⊢ iprop(∃ ys, ⌜GoodYs V d 24 ys⌝ ∗ Arr2 V d ys) := by
  unfold RDat.arraysAt
  rw [bigSep_W2]
  have e : ∀ {b : Ref sig .tc} (f : Buf (Elt F) ((d : Thread nD τ).loc b)), ((d : Thread nD τ).loc b ↦[(View.whole b).set]{fullShare} f : sProp 𝕄) ⊢ ((d : Thread nD τ).loc b ↦{fullShare} f) :=
    fun {b} f => by rw [View.set_whole]
  have i0 := (rd V d).ArrAt_in (0 : Fin 5) rfl 24
  have i1 := (rd V d).ArrAt_in (1 : Fin 5) rfl 24
  have i2 := (rd V d).ArrAt_in (2 : Fin 5) rfl 24
  have i3 := (rd V d).ArrAt_in (3 : Fin 5) rfl 24
  have e0 : ∀ f, ((((c2 V).win (0 : Fin 5)).arr.view.loc (d : Thread nD τ)) ↦[((c2 V).win (0 : Fin 5)).arr.view.set]{(rd V d).share (0 : Fin 5)} f : sProp 𝕄)
      ⊢ ((d : Thread nD τ).loc main_v7_0 ↦{fullShare} f) := fun f => e (b := main_v7_0) f
  have e1 : ∀ f, ((((c2 V).win (1 : Fin 5)).arr.view.loc (d : Thread nD τ)) ↦[((c2 V).win (1 : Fin 5)).arr.view.set]{(rd V d).share (1 : Fin 5)} f : sProp 𝕄)
      ⊢ ((d : Thread nD τ).loc main_v10 ↦{fullShare} f) := fun f => e (b := main_v10) f
  have e2 : ∀ f, ((((c2 V).win (2 : Fin 5)).arr.view.loc (d : Thread nD τ)) ↦[((c2 V).win (2 : Fin 5)).arr.view.set]{(rd V d).share (2 : Fin 5)} f : sProp 𝕄)
      ⊢ ((d : Thread nD τ).loc main_v11 ↦{fullShare} f) := fun f => e (b := main_v11) f
  have e3 : ∀ f, ((((c2 V).win (3 : Fin 5)).arr.view.loc (d : Thread nD τ)) ↦[((c2 V).win (3 : Fin 5)).arr.view.set]{(rd V d).share (3 : Fin 5)} f : sProp 𝕄)
      ⊢ ((d : Thread nD τ).loc main_v12 ↦{fullShare} f) := fun f => e (b := main_v12) f
  have e4 : ∀ f, ((((c2 V).win (4 : Fin 5)).arr.view.loc (d : Thread nD τ)) ↦[((c2 V).win (4 : Fin 5)).arr.view.set]{(rd V d).share (4 : Fin 5)} f : sProp 𝕄)
      ⊢ ((d : Thread nD τ).loc main_v13 ↦{fullShare} f) := fun f => e (b := main_v13) f
  iintro ⟨⟨%f0, %h0, H0⟩, ⟨%f1, %h1, H1⟩, ⟨%f2, %h2, H2⟩, ⟨%f3, %h3, H3⟩, ⟨%f4, %h4, H4⟩⟩
  have h0 : f0 = V.xs := by rw [i0] at h0; exact h0
  have h1 : f1 = V.b1 := by rw [i1] at h1; exact h1
  have h2 : f2 = V.b2 := by rw [i2] at h2; exact h2
  have h3 : f3 = V.ws := by rw [i3] at h3; exact h3
  subst h0 h1 h2 h3
  iexists f4
  isplitr; · ipureintro; exact arr_good V d 24 (le_refl _) f4 h4
  unfold Arr2
  isplitl [H0]; · iapply (e0 _) $$ H0
  isplitl [H1]; · iapply (e1 _) $$ H1
  isplitl [H2]; · iapply (e2 _) $$ H2
  isplitl [H3]; · iapply (e3 _) $$ H3
  iapply (e4 _) $$ H4

/-- The slots after the last block. -/
theorem slots_end (V : Ent F) (d : Dev nD) : Slots d (w1At d V) (w2At d V) V.be V.hbe 24
    ⊢ iprop((Idle1 d (w1At d V) (sl (ord V.be 23)) ∗ Idle2 d (w2At d V) (sl (ord V.be 23))) ∗ (Idle1 d (w1At d V) (sl (ord V.be 23 + 1)) ∗ Idle2 d (w2At d V) (sl (ord V.be 23 + 1)))) := by
  have h := lt_nxt V.be (show 23 < 24 by decide)
  have hN : Next d (w1At d V) (w2At d V) V.be V.hbe 23 = iprop(Idle1 d (w1At d V) (sl (ord V.be 23 + 1)) ∗ Idle2 d (w2At d V) (sl (ord V.be 23 + 1))) := by
    unfold Next; rw [if_neg (by omega)]
  refine (show _ ⊢ iprop((Full1 d (w1At d V) (sl (ord V.be 23)) (ex V.be V.hbe 23) ∗ Full2 d (w2At d V) (sl (ord V.be 23)) (ex V.be V.hbe 23)) ∗ Next d (w1At d V) (w2At d V) V.be V.hbe 23) from .rfl).trans ?_
  rw [hN]
  exact BIClass.sep_mono (BIClass.sep_mono (full1_idle d _ _ _) (full2_idle d _ _ _)) .rfl

theorem out_N (V : Ent F) (d : Dev nD) : ((rd V d).arraysAt (c2 V).N : sProp 𝕄) ⊢ iprop(∃ ys, ⌜GoodYs V d 24 ys⌝ ∗ Arr2 V d ys) := by
  rw [show (c2 V).N = 24 from N_2]; exact arraysAt_out V d
theorem inv_N (V : Ent F) (d : Dev nD) : (rd V d).Φ (Fin.last (c2 V).N) ⊢ Inv V d 24 := by
  show Inv V d (c2 V).N ⊢ _
  rw [show (c2 V).N = 24 from N_2]

theorem sl_ne (n : ℕ) : sl (n + 1) ≠ sl n := fun h => by
  have := congrArg Fin.val h
  unfold sl at this
  simp only at this
  omega

set_option backward.isDefEq.respectTransparency.types false in
def reg2 (V : Ent F) : RDat.RegionSeg (pcfgs (F := F)) (aV V) (rdats2 V) (none : HIx 2) (defs₀ (F := F)) 𝒱₀ (K (F := F)).L ((K (F := F)).lev (N := 2)) 1 where
  win := (launch2 (F := F)).win.to₀
  block_pos := (launch2 (F := F)).block_pos
  stage_whole := (launch2 (F := F)).stage_whole
  K := Fin 4
  osem := osem
  ho := ownSems
  hbody c := body2 V c
  hwaits c := RDat.cellsWaits_intro _ _ _ 1 c fun w s t => (K (F := F)).mayWait_none _ (otc_none (F := F) c 1)
  pre c := iprop(Arr2 V c V.ys ∗ Mats V c ∗ Tabs V c ∗ Owe (F := F) c 1)
  post c := iprop((∃ ys, ⌜GoodYs V c 24 ys⌝ ∗ Arr2 V c ys) ∗ Mats V c ∗ Tabs V c ∗ Owe (F := F) c 1)
  X c := iprop(Mats V c ∗ Pipeline.ownSems0 osem c ∗ Transfers.MayWaits (c : Thread nD τ) (none : HIx 2) (tcO (F := F) c 1))
  Y c := iprop(Mats V c ∗ Tabs V c)
  Z _ := BI.emp
  hentry c := by
    iintro ⟨⟨HA, HM, HT, HO⟩, Hs, #Hl⟩
    imodintro
    isplitl [HA]; · iapply (show Arr2 V c V.ys ⊢ _ from by rw [← arrays_eq]; exact .rfl) $$ HA
    isplitl [HT]; · iapply (show Tabs V c ⊢ _ from by rw [← pref_eq]; exact .rfl) $$ HT
    isplitl [HO]; · iapply (owe_in (F := F) c 1 _) $$ HO
    isplitl [HM Hs]
    · isplitl [HM]; · iexact HM
      isplitl [Hs]; · iexact Hs
      iapply ((K (F := F)).mayWaits_none (otc_none (F := F) c 1)) $$ Hl
    iempintro
  hin c := by
    refine (?_ : iprop((Mats V c ∗ Pipeline.ownSems0 osem c ∗ Transfers.MayWaits (c : Thread nD τ) (none : HIx 2) (tcO (F := F) c 1))
      ∗ Pipeline.prefHeld pre2 c (fun _ => fullShare) (tabs (F := F) V.be V.bv) ∗ Pipeline.scopedRest spec2 c) ⊢ Inv V c 0)
    rw [pref_eq]
    iintro ⟨⟨HM, Hs, Hm⟩, HT, HR⟩
    ihave HR := (show Pipeline.scopedRest spec2 c ⊢ _ from by rw [scopedRest2_eq]) $$ HR
    icases HR with ⟨R0, R1, R2, R3, R4, R5, R6, R7, R8, R9, S0, S1⟩
    unfold Inv Mats Rest Tabs
    icases HT with ⟨He, Hv⟩
    icases HM with ⟨H1, H2⟩
    isplitl [He]; · iexact He
    isplitl [Hv]; · iexact Hv
    isplitl [H1 H2 S0 S1 Hs]
    · iapply (show _ ⊢ Slots c (w1At c V) (w2At c V) V.be V.hbe 0 from idle_in c (w1At c V) (w2At c V))
      isplitl [H1]; · iexact H1
      isplitl [H2]; · iexact H2
      isplitl [S0]; · iexact S0
      isplitl [S1]; · iexact S1
      iexact Hs
    isplitl [Hm]; · iexact Hm
    isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    iexact R9
  hout c := by
    refine BIBase.Entails.trans (inv_N V c) ?_
    iintro HI
    unfold Inv Mats Rest Tabs
    icases HI with ⟨He, Hv, HS, -, R0, R1, R2, R3, R4, R5, R6, R7, R8, R9⟩
    ihave HS := (slots_end V c).trans (idle_out c (w1At c V) (w2At c V) _ _ (sl_ne _)) $$ HS
    icases HS with ⟨H1, H2, S0, S1, Hs⟩
    isplitl [H1 H2 He Hv]
    · isplitl [H1 H2]
      · isplitl [H1]; · iexact H1
        iexact H2
      isplitl [He]; · iexact He
      iexact Hv
    isplitl [Hs]; · iexact Hs
    iapply (show _ ⊢ Pipeline.scopedRest spec2 c from by rw [scopedRest2_eq])
    isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    isplitl [S0]; · iexact S0
    iexact S1
  hexit c := by
    refine (?_ : iprop((rd V c).arraysAt (c2 V).N ∗ Pipeline.owesWithin c (tcO (F := F) c 1) (tcB (F := F) c 1 ∪ (c2 V).waitPairs (none : HIx 2)) ∗ (Mats V c ∗ Tabs V c) ∗ BI.emp) ⊢ _)
    iintro ⟨HA, HO, ⟨HM, HT⟩, -⟩
    imodintro
    isplitl [HA]; · iapply (out_N V c) $$ HA
    isplitl [HM]; · iexact HM
    isplitl [HT]; · iexact HT
    iapply (owe_out (F := F) c 1 _) $$ HO

end Cert.Proof.Whole
end
-- ==== Proof.WholeRouter.lean ====
/-
  The router's region: the tokens, the weights and the biases in, the printed payloads of them out.
-/
module

public import proofs.«01_k».proof.Proof.WholeRegion
public import Idealize.ShloMosaic.Lib.Pipeline.Value

@[expose] public section
noncomputable section
namespace Cert.Proof.Whole
open Cert.WholeIdeal Cert.WholeIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.TcCoe
open Idealize.ShloMosaic.Pipeline (RDat cellOf)
variable {F : FTy → Type} [FloatOps F]
local notation "𝕄" => MT nD τ sig (HIx 2) (Elt F) ℕ UU ℕ

theorem hz2 : (![0, 0] : Fin 2 → ℕ) = fun _ => 0 := by
  funext a
  fin_cases a <;> rfl

/-! ## What the router computes -/

section Vals
variable (x : Vec F S2048x768 .f32) (w : Vec F S768x8 .f32) (b : Vec F S1x8 .f32)

/-- The assignments' running counts, and each expert's number of blocks. -/
def rCnt : FVec F S8x2048 .f32 := k0_pay9 (F := F) (k0_pay5 w x b)
/-- The two positions of each token. -/
def rPosA : Vec F S1x2048 .i32 := k0_pay17 (k0_pay3 w x b) (k0_pay11 (k0_pay5 w x b) (rCnt x w b)) (k0_pay12 (rCnt x w b)) (k0_pay13 (rCnt x w b)) (k0_pay14 (rCnt x w b))
def rPosB : Vec F S1x2048 .i32 := k0_pay18 (k0_pay4 w x b) (k0_pay11 (k0_pay5 w x b) (rCnt x w b)) (k0_pay12 (rCnt x w b)) (k0_pay13 (rCnt x w b)) (k0_pay14 (rCnt x w b))
/-- Their two weights. -/
def rWa : Vec F S1x2048 .f32 := k0_pay19 (k0_pay3 w x b) (k0_pay8 (k0_pay6 w x b) (k0_pay7 w x b))
def rWb : Vec F S1x2048 .f32 := k0_pay20 (k0_pay4 w x b) (k0_pay8 (k0_pay6 w x b) (k0_pay7 w x b))
/-- The blocks' experts, and whether a block has tokens. -/
def rBe : Vec F S1x24 .i32 := k0_pay21 (k0_pay12 (rCnt x w b)) (k0_pay15 (k0_pay12 (rCnt x w b)) (k0_pay13 (rCnt x w b)) (k0_pay14 (rCnt x w b)))
def rBv : Vec F S1x24 .i32 := k0_pay22 (k0_pay12 (rCnt x w b))
/-- The loss. -/
def rLoss : Vec F S1x1 .f32 := k0_pay23 (k0_pay10 (rCnt x w b))
end Vals

/-! ## The body -/

section
attribute [local irreducible] k0_pay3 k0_pay4 k0_pay5 k0_pay6 k0_pay7 k0_pay8 k0_pay9 k0_pay10 k0_pay11 k0_pay12 k0_pay13 k0_pay14 k0_pay15 k0_pay16 k0_pay17 k0_pay18 k0_pay19 k0_pay20 k0_pay21 k0_pay22 k0_pay23
set_option maxHeartbeats 1000000 in
theorem visit0 (d : Dev nD) (arg0 : Memref sig .tc .vmem S2048x768 .f32) (harg0 : arg0.IsWhole) (arg1 : Memref sig .tc .vmem S768x8 .f32) (harg1 : arg1.IsWhole)
    (arg2 : Memref sig .tc .vmem S1x8 .f32) (harg2 : arg2.IsWhole) (arg3 : Memref sig .tc .vmem S1x2048 .i32) (harg3 : arg3.IsWhole)
    (arg4 : Memref sig .tc .vmem S1x2048 .i32) (harg4 : arg4.IsWhole) (arg5 : Memref sig .tc .vmem S1x2048 .f32) (harg5 : arg5.IsWhole)
    (arg6 : Memref sig .tc .vmem S1x2048 .f32) (harg6 : arg6.IsWhole) (arg7 : Memref sig .tc .vmem S1x24 .i32) (harg7 : arg7.IsWhole)
    (arg8 : Memref sig .tc .vmem S1x24 .i32) (harg8 : arg8.IsWhole) (arg9 : Memref sig .tc .vmem S1x1 .f32) (harg9 : arg9.IsWhole)
    (x : Vec F S2048x768 .f32) (w : Vec F S768x8 .f32) (b : Vec F S1x8 .f32) (Y3 Y4 Y5 Y6 Y7 Y8 Y9) (Φ : PUnit → sProp 𝕄) :
    iprop(owns (d : Thread nD τ) arg0 fullShare x ∗ owns (d : Thread nD τ) arg1 fullShare w ∗ owns (d : Thread nD τ) arg2 fullShare b
        ∗ owns (d : Thread nD τ) arg3 fullShare Y3 ∗ owns (d : Thread nD τ) arg4 fullShare Y4 ∗ owns (d : Thread nD τ) arg5 fullShare Y5
        ∗ owns (d : Thread nD τ) arg6 fullShare Y6 ∗ owns (d : Thread nD τ) arg7 fullShare Y7 ∗ owns (d : Thread nD τ) arg8 fullShare Y8 ∗ owns (d : Thread nD τ) arg9 fullShare Y9
        ∗ (iprop(owns (d : Thread nD τ) arg0 fullShare x ∗ owns (d : Thread nD τ) arg1 fullShare w ∗ owns (d : Thread nD τ) arg2 fullShare b
        ∗ owns (d : Thread nD τ) arg3 fullShare (rPosA x w b) ∗ owns (d : Thread nD τ) arg4 fullShare (rPosB x w b) ∗ owns (d : Thread nD τ) arg5 fullShare (rWa x w b)
        ∗ owns (d : Thread nD τ) arg6 fullShare (rWb x w b) ∗ owns (d : Thread nD τ) arg7 fullShare (rBe x w b) ∗ owns (d : Thread nD τ) arg8 fullShare (rBv x w b)
        ∗ owns (d : Thread nD τ) arg9 fullShare (rLoss x w b)) -∗ Φ ⟨⟩))
      ⊢ wp frame (wpE (defs₀ (F := F)) 𝒱₀ (d : Thread nD τ) none) Set.univ
        (cc0__router_body arg0 harg0 arg1 harg1 arg2 harg2 arg3 harg3 arg4 harg4 arg5 harg5 arg6 harg6 arg7 harg7 arg8 harg8 arg9 harg9) Φ := by
  simp only [cc0__router_body_eq_skeleton]; unfold cc0__router_body_skel
  simp only [k0_part1_eq_skeleton, k0_part2_eq_skeleton, k0_part3_eq_skeleton, k0_part4_eq_skeleton, k0_part5_eq_skeleton]
  unfold owns
  iintro ⟨⟨%f0, %hf0, H0⟩, ⟨%f1, %hf1, H1⟩, ⟨%f2, %hf2, H2⟩, ⟨%f3, -, H3⟩, ⟨%f4, -, H4⟩, ⟨%f5, -, H5⟩, ⟨%f6, -, H6⟩, ⟨%f7, -, H7⟩, ⟨%f8, -, H8⟩, ⟨%f9, -, H9⟩, Hk⟩
  subst hf0 hf1 hf2
  have e0 : View.readAt (Elt F) arg0.view (Rect.unit (s := S2048x768) ![0, 0] S2048x768.size inb_S2048x768_S2048x768_0_0).toLoadRect f0 = View.read (Elt F) arg0.view f0 :=
    (show _ = View.ld (View.read (Elt F) arg0.view f0) (Rect.unit (s := S2048x768) ![0, 0] S2048x768.size inb_S2048x768_S2048x768_0_0) from rfl).trans (View.ld_unit_zero hz2 _ _)
  have e1 : View.readAt (Elt F) arg1.view (Rect.unit (s := S768x8) ![0, 0] S768x8.size inb_S768x8_S768x8_0_0).toLoadRect f1 = View.read (Elt F) arg1.view f1 :=
    (show _ = View.ld (View.read (Elt F) arg1.view f1) (Rect.unit (s := S768x8) ![0, 0] S768x8.size inb_S768x8_S768x8_0_0) from rfl).trans (View.ld_unit_zero hz2 _ _)
  have e2 : View.readAt (Elt F) arg2.view (Rect.unit (s := S1x8) ![0, 0] S1x8.size inb_S1x8_S1x8_0_0).toLoadRect f2 = View.read (Elt F) arg2.view f2 :=
    (show _ = View.ld (View.read (Elt F) arg2.view f2) (Rect.unit (s := S1x8) ![0, 0] S1x8.size inb_S1x8_S1x8_0_0) from rfl).trans (View.ld_unit_zero hz2 _ _)
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    refine (View.read_writes_eq_canon _ _ _ (fun y => View.cover_of_tiled [⟨_, _⟩] S1x2048.size (by rfl) y)).trans ((View.canon_unit_zero hz2 _ _).trans ?_)
    unfold rPosA rCnt; (try unfold visit0.sl.r_11); (try unfold visit0.sl.r_10); (try unfold visit0.sl.r_9); (try unfold visit0.sl.r_8); (try unfold visit0.sl.r_6); (try unfold visit0.sl.r_2); (try unfold visit0.sl.r); rfl
  isplitl [H4]
  · iexists _; isplitr
    swap; · iexact H4
    ipureintro
    refine (View.read_writes_eq_canon _ _ _ (fun y => View.cover_of_tiled [⟨_, _⟩] S1x2048.size (by rfl) y)).trans ((View.canon_unit_zero hz2 _ _).trans ?_)
    unfold rPosB rCnt; (try unfold visit0.sl.r_11); (try unfold visit0.sl.r_10); (try unfold visit0.sl.r_9); (try unfold visit0.sl.r_8); (try unfold visit0.sl.r_6); (try unfold visit0.sl.r_2); (try unfold visit0.sl.r_1); rfl
  isplitl [H5]
  · iexists _; isplitr
    swap; · iexact H5
    ipureintro
    refine (View.read_writes_eq_canon _ _ _ (fun y => View.cover_of_tiled [⟨_, _⟩] S1x2048.size (by rfl) y)).trans ((View.canon_unit_zero hz2 _ _).trans ?_)
    unfold rWa; (try unfold visit0.sl.r_5); (try unfold visit0.sl.r_4); (try unfold visit0.sl.r_3); (try unfold visit0.sl.r); rfl
  isplitl [H6]
  · iexists _; isplitr
    swap; · iexact H6
    ipureintro
    refine (View.read_writes_eq_canon _ _ _ (fun y => View.cover_of_tiled [⟨_, _⟩] S1x2048.size (by rfl) y)).trans ((View.canon_unit_zero hz2 _ _).trans ?_)
    unfold rWb; (try unfold visit0.sl.r_13); (try unfold visit0.sl.r_5); (try unfold visit0.sl.r_4); (try unfold visit0.sl.r_3); (try unfold visit0.sl.r_1); rfl
  isplitl [H7]
  · iexists _; isplitr
    swap; · iexact H7
    ipureintro
    refine (View.read_writes_eq_canon _ _ _ (fun y => View.cover_of_tiled [⟨_, _⟩] S1x24.size (by rfl) y)).trans ((View.canon_unit_zero hz2 _ _).trans ?_)
    unfold rBe rCnt; (try unfold visit0.sl.r_12); (try unfold visit0.sl.r_11); (try unfold visit0.sl.r_10); (try unfold visit0.sl.r_9); (try unfold visit0.sl.r_6); (try unfold visit0.sl.r_2); rfl
  isplitl [H8]
  · iexists _; isplitr
    swap; · iexact H8
    ipureintro
    refine (View.read_writes_eq_canon _ _ _ (fun y => View.cover_of_tiled [⟨_, _⟩] S1x24.size (by rfl) y)).trans ((View.canon_unit_zero hz2 _ _).trans ?_)
    unfold rBv rCnt; (try unfold visit0.sl.r_9); (try unfold visit0.sl.r_6); (try unfold visit0.sl.r_2); rfl
  iexists _; isplitr
  swap; · iexact H9
  ipureintro
  refine (View.read_writes_eq_canon _ _ _ (fun y => View.cover_of_tiled [⟨_, _⟩] S1x1.size (by rfl) y)).trans ((View.canon_unit_zero hz2 _ _).trans ?_)
  unfold rLoss rCnt; (try unfold visit0.sl.r_7); (try unfold visit0.sl.r_6); (try unfold visit0.sl.r_2); rfl

end

/-! ## The region's data -/

section Region
variable (be bv : S24.Idx → BitVec 32) (hbe : InRange be)
variable (x : Vec F S2048x768 .f32) (w : Vec F S768x8 .f32) (b : Vec F S1x8 .f32)

abbrev c0 : Pipeline.Cfg sig Λ₀ := Pipeline.pin (pcfgs (F := F)) (adm be bv hbe) 0

variable (F) in
/-- The router's results' arrays. -/
structure Res where
  pa : Vec F S1x2048 .i32
  pb : Vec F S1x2048 .i32
  wa : Vec F S1x2048 .f32
  wb : Vec F S1x2048 .f32
  be : Vec F S1x24 .i32
  bv : Vec F S1x24 .i32
  ls : Vec F S1x1 .f32

def res : Res F := ⟨rPosA x w b, rPosB x w b, rWa x w b, rWb x w b, rBe x w b, rBv x w b, rLoss x w b⟩

def rd0 (R : Res F) (d : Dev nD) : RDat τ (Elt F) (HIx 2) ℕ UU ℕ (c0 (F := F) be bv hbe) d where
  A := fun | ⟨0, _⟩ => x | ⟨1, _⟩ => w | ⟨2, _⟩ => b | ⟨3, _⟩ => R.pa | ⟨4, _⟩ => R.pb | ⟨5, _⟩ => R.wa | ⟨6, _⟩ => R.wb | ⟨7, _⟩ => R.be | ⟨8, _⟩ => R.bv | ⟨9, _⟩ => R.ls
  after := fun
    | ⟨0, _⟩ => fun _ Y X => X = Y | ⟨1, _⟩ => fun _ Y X => X = Y | ⟨2, _⟩ => fun _ Y X => X = Y
    | ⟨3, _⟩ => fun _ _ X => X = rPosA x w b | ⟨4, _⟩ => fun _ _ X => X = rPosB x w b
    | ⟨5, _⟩ => fun _ _ X => X = rWa x w b | ⟨6, _⟩ => fun _ _ X => X = rWb x w b
    | ⟨7, _⟩ => fun _ _ X => X = rBe x w b | ⟨8, _⟩ => fun _ _ X => X = rBv x w b
    | ⟨9, _⟩ => fun _ _ X => X = rLoss x w b
  Φ _ := Pipeline.scopedRest spec0 d
  q _ := fullShare
  owed _ := tcO (F := F) d 0
  recorded _ := tcB (F := F) d 0

variable (R : Res F) (d : Dev nD)

theorem find0_0 (t : Fin (c0 (F := F) be bv hbe).N) (X) (h : (rd0 be bv hbe x w b R d).Finds (0 : Fin 10) t X) : X = x := by
  obtain ⟨D, rfl⟩ := finds_in (rd0 be bv hbe x w b R d) (0 : Fin 10) rfl (fun _ _ => rfl) (fun _ _ _ h => h) _ t rfl X h
  refine funext fun j => congrArg x (funext fun a => Fin.ext ?_)
  match a with
  | 0 => show 0 * 2048 + 1 * (j 0).val = (j 0).val; omega
  | 1 => show 0 * 768 + 1 * (j 1).val = (j 1).val; omega
theorem find0_1 (t : Fin (c0 (F := F) be bv hbe).N) (X) (h : (rd0 be bv hbe x w b R d).Finds (1 : Fin 10) t X) : X = w := by
  obtain ⟨D, rfl⟩ := finds_in (rd0 be bv hbe x w b R d) (1 : Fin 10) rfl (fun _ _ => rfl) (fun _ _ _ h => h) _ t rfl X h
  refine funext fun j => congrArg w (funext fun a => Fin.ext ?_)
  match a with
  | 0 => show 0 * 768 + 1 * (j 0).val = (j 0).val; omega
  | 1 => show 0 * 8 + 1 * (j 1).val = (j 1).val; omega
theorem find0_2 (t : Fin (c0 (F := F) be bv hbe).N) (X) (h : (rd0 be bv hbe x w b R d).Finds (2 : Fin 10) t X) : X = b := by
  obtain ⟨D, rfl⟩ := finds_in (rd0 be bv hbe x w b R d) (2 : Fin 10) rfl (fun _ _ => rfl) (fun _ _ _ h => h) _ t rfl X h
  refine funext fun j => congrArg b (funext fun a => Fin.ext ?_)
  match a with
  | 0 => show 0 * 1 + 1 * (j 0).val = (j 0).val; omega
  | 1 => show 0 * 8 + 1 * (j 1).val = (j 1).val; omega

theorem body0 : (rd0 be bv hbe x w b R d).BodyObligation (defs₀ (F := F)) 𝒱₀ (none : HIx 2) Set.univ := fun t Y hY => by
  have h0 := find0_0 be bv hbe x w b R d t _ (hY (0 : Fin 10))
  have h1 := find0_1 be bv hbe x w b R d t _ (hY (1 : Fin 10))
  have h2 := find0_2 be bv hbe x w b R d t _ (hY (2 : Fin 10))
  rw [bigSep_W0, bigSep_W0]
  iintro ⟨HΦ, HO, H0, H1, H2, H3, H4, H5, H6, H7, H8, H9⟩
  ihave H0 := (show _ ⊢ owns (d : Thread nD τ) (win0_0.stage ((c0 (F := F) be bv hbe).slots t (0 : Fin 10))) fullShare x from by rw [← h0]; exact .rfl) $$ H0
  ihave H1 := (show _ ⊢ owns (d : Thread nD τ) (win0_1.stage ((c0 (F := F) be bv hbe).slots t (1 : Fin 10))) fullShare w from by rw [← h1]; exact .rfl) $$ H1
  ihave H2 := (show _ ⊢ owns (d : Thread nD τ) (win0_2.stage ((c0 (F := F) be bv hbe).slots t (2 : Fin 10))) fullShare b from by rw [← h2]; exact .rfl) $$ H2
  iapply (visit0 d _ _ _ _ _ _ _ _ _ _ _ _ _ _ _ _ _ _ _ _ x w b (Y (3 : Fin 10)) (Y (4 : Fin 10)) (Y (5 : Fin 10)) (Y (6 : Fin 10)) (Y (7 : Fin 10)) (Y (8 : Fin 10)) (Y (9 : Fin 10)) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iintro ⟨H0, H1, H2, H3, H4, H5, H6, H7, H8, H9⟩
  isplitl [HΦ]; · iapply (show (rd0 be bv hbe x w b R d).Φ t.castSucc ⊢ (rd0 be bv hbe x w b R d).Φ t.succ from .rfl) $$ HΦ
  isplitl [HO]; · iexact HO
  isplitl [H0]; · iexists _; isplitr; swap; (· iexact H0); ipureintro; exact h0.symm
  isplitl [H1]; · iexists _; isplitr; swap; (· iexact H1); ipureintro; exact h1.symm
  isplitl [H2]; · iexists _; isplitr; swap; (· iexact H2); ipureintro; exact h2.symm
  isplitl [H3]; · iexists _; isplitr; swap; (· iexact H3); ipureintro; rfl
  isplitl [H4]; · iexists _; isplitr; swap; (· iexact H4); ipureintro; rfl
  isplitl [H5]; · iexists _; isplitr; swap; (· iexact H5); ipureintro; rfl
  isplitl [H6]; · iexists _; isplitr; swap; (· iexact H6); ipureintro; rfl
  isplitl [H7]; · iexists _; isplitr; swap; (· iexact H7); ipureintro; rfl
  isplitl [H8]; · iexists _; isplitr; swap; (· iexact H8); ipureintro; rfl
  iexists _; isplitr; swap; (· iexact H9); ipureintro; rfl

/-! ## The arrays in and out -/

def Arr0 : sProp 𝕄 :=
  iprop(((d : Thread nD τ).loc main_v0 ↦{fullShare} (x : Buf (Elt F) ((d : Thread nD τ).loc main_v0)))
    ∗ ((d : Thread nD τ).loc main_arg1 ↦{fullShare} (w : Buf (Elt F) ((d : Thread nD τ).loc main_arg1)))
    ∗ ((d : Thread nD τ).loc main_v1 ↦{fullShare} (b : Buf (Elt F) ((d : Thread nD τ).loc main_v1)))
    ∗ ((d : Thread nD τ).loc main_v2_0 ↦{fullShare} (R.pa : Buf (Elt F) ((d : Thread nD τ).loc main_v2_0)))
    ∗ ((d : Thread nD τ).loc main_v2_1 ↦{fullShare} (R.pb : Buf (Elt F) ((d : Thread nD τ).loc main_v2_1)))
    ∗ ((d : Thread nD τ).loc main_v2_2 ↦{fullShare} (R.wa : Buf (Elt F) ((d : Thread nD τ).loc main_v2_2)))
    ∗ ((d : Thread nD τ).loc main_v2_3 ↦{fullShare} (R.wb : Buf (Elt F) ((d : Thread nD τ).loc main_v2_3)))
    ∗ ((d : Thread nD τ).loc main_v2_4 ↦{fullShare} (R.be : Buf (Elt F) ((d : Thread nD τ).loc main_v2_4)))
    ∗ ((d : Thread nD τ).loc main_v2_5 ↦{fullShare} (R.bv : Buf (Elt F) ((d : Thread nD τ).loc main_v2_5)))
    ∗ ((d : Thread nD τ).loc main_v2_6 ↦{fullShare} (R.ls : Buf (Elt F) ((d : Thread nD τ).loc main_v2_6))))

theorem arrays0_eq : ((rd0 be bv hbe x w b R d).arrays (rd0 be bv hbe x w b R d).A : sProp 𝕄) = Arr0 x w b R d := by
  unfold RDat.arrays
  rw [bigSep_W0]
  have e : ∀ {b : Ref sig .tc} (f : Buf (Elt F) ((d : Thread nD τ).loc b)), ((d : Thread nD τ).loc b ↦[(View.whole b).set]{fullShare} f : sProp 𝕄) = ((d : Thread nD τ).loc b ↦{fullShare} f) :=
    fun {b} f => by rw [View.set_whole]
  exact congrArg₂ _ (e (b := main_v0) _) <| congrArg₂ _ (e (b := main_arg1) _) <| congrArg₂ _ (e (b := main_v1) _) <| congrArg₂ _ (e (b := main_v2_0) _) <| congrArg₂ _ (e (b := main_v2_1) _) <| congrArg₂ _ (e (b := main_v2_2) _) <| congrArg₂ _ (e (b := main_v2_3) _) <| congrArg₂ _ (e (b := main_v2_4) _) <| congrArg₂ _ (e (b := main_v2_5) _) <| e (b := main_v2_6) _

theorem out0_3 (f) (h : (rd0 be bv hbe x w b R d).ArrAt (3 : Fin 10) 1 f) : f = rPosA x w b := by
  have h' := (RDat.ArrAt_succ (rd0 be bv hbe x w b R d) (3 : Fin 10) t0_0) ▸ h
  rw [show ((c0 (F := F) be bv hbe).win (3 : Fin 10)).flush t0_0 = true from flush0_3 t0_0, if_pos rfl] at h'
  obtain ⟨G, X, hG, ⟨Y, -, hX⟩, rfl⟩ := h'
  have hX : X = rPosA x w b := hX
  subst hX
  refine funext fun (i : S1x2048.Idx) => ?_
  have hi : (((c0 (F := F) be bv hbe).win (3 : Fin 10)).blk t0_0).view.emb i = i := by
    refine funext fun a => Fin.ext ?_
    match a with
    | 0 => show 0 * 1 + 1 * (i 0).val = (i 0).val; omega
    | 1 => show 0 * 2048 + 1 * (i 1).val = (i 1).val; omega
  refine (congrArg _ hi.symm).trans ((View.write_emb_of_mem _ _ (Finset.mem_univ _)).trans ?_)
  rfl

theorem out0_4 (f) (h : (rd0 be bv hbe x w b R d).ArrAt (4 : Fin 10) 1 f) : f = rPosB x w b := by
  have h' := (RDat.ArrAt_succ (rd0 be bv hbe x w b R d) (4 : Fin 10) t0_0) ▸ h
  rw [show ((c0 (F := F) be bv hbe).win (4 : Fin 10)).flush t0_0 = true from flush0_4 t0_0, if_pos rfl] at h'
  obtain ⟨G, X, hG, ⟨Y, -, hX⟩, rfl⟩ := h'
  have hX : X = rPosB x w b := hX
  subst hX
  refine funext fun (i : S1x2048.Idx) => ?_
  have hi : (((c0 (F := F) be bv hbe).win (4 : Fin 10)).blk t0_0).view.emb i = i := by
    refine funext fun a => Fin.ext ?_
    match a with
    | 0 => show 0 * 1 + 1 * (i 0).val = (i 0).val; omega
    | 1 => show 0 * 2048 + 1 * (i 1).val = (i 1).val; omega
  refine (congrArg _ hi.symm).trans ((View.write_emb_of_mem _ _ (Finset.mem_univ _)).trans ?_)
  rfl

theorem out0_5 (f) (h : (rd0 be bv hbe x w b R d).ArrAt (5 : Fin 10) 1 f) : f = rWa x w b := by
  have h' := (RDat.ArrAt_succ (rd0 be bv hbe x w b R d) (5 : Fin 10) t0_0) ▸ h
  rw [show ((c0 (F := F) be bv hbe).win (5 : Fin 10)).flush t0_0 = true from flush0_5 t0_0, if_pos rfl] at h'
  obtain ⟨G, X, hG, ⟨Y, -, hX⟩, rfl⟩ := h'
  have hX : X = rWa x w b := hX
  subst hX
  refine funext fun (i : S1x2048.Idx) => ?_
  have hi : (((c0 (F := F) be bv hbe).win (5 : Fin 10)).blk t0_0).view.emb i = i := by
    refine funext fun a => Fin.ext ?_
    match a with
    | 0 => show 0 * 1 + 1 * (i 0).val = (i 0).val; omega
    | 1 => show 0 * 2048 + 1 * (i 1).val = (i 1).val; omega
  refine (congrArg _ hi.symm).trans ((View.write_emb_of_mem _ _ (Finset.mem_univ _)).trans ?_)
  rfl

theorem out0_6 (f) (h : (rd0 be bv hbe x w b R d).ArrAt (6 : Fin 10) 1 f) : f = rWb x w b := by
  have h' := (RDat.ArrAt_succ (rd0 be bv hbe x w b R d) (6 : Fin 10) t0_0) ▸ h
  rw [show ((c0 (F := F) be bv hbe).win (6 : Fin 10)).flush t0_0 = true from flush0_6 t0_0, if_pos rfl] at h'
  obtain ⟨G, X, hG, ⟨Y, -, hX⟩, rfl⟩ := h'
  have hX : X = rWb x w b := hX
  subst hX
  refine funext fun (i : S1x2048.Idx) => ?_
  have hi : (((c0 (F := F) be bv hbe).win (6 : Fin 10)).blk t0_0).view.emb i = i := by
    refine funext fun a => Fin.ext ?_
    match a with
    | 0 => show 0 * 1 + 1 * (i 0).val = (i 0).val; omega
    | 1 => show 0 * 2048 + 1 * (i 1).val = (i 1).val; omega
  refine (congrArg _ hi.symm).trans ((View.write_emb_of_mem _ _ (Finset.mem_univ _)).trans ?_)
  rfl

theorem out0_7 (f) (h : (rd0 be bv hbe x w b R d).ArrAt (7 : Fin 10) 1 f) : f = rBe x w b := by
  have h' := (RDat.ArrAt_succ (rd0 be bv hbe x w b R d) (7 : Fin 10) t0_0) ▸ h
  rw [show ((c0 (F := F) be bv hbe).win (7 : Fin 10)).flush t0_0 = true from flush0_7 t0_0, if_pos rfl] at h'
  obtain ⟨G, X, hG, ⟨Y, -, hX⟩, rfl⟩ := h'
  have hX : X = rBe x w b := hX
  subst hX
  refine funext fun (i : S1x24.Idx) => ?_
  have hi : (((c0 (F := F) be bv hbe).win (7 : Fin 10)).blk t0_0).view.emb i = i := by
    refine funext fun a => Fin.ext ?_
    match a with
    | 0 => show 0 * 1 + 1 * (i 0).val = (i 0).val; omega
    | 1 => show 0 * 24 + 1 * (i 1).val = (i 1).val; omega
  refine (congrArg _ hi.symm).trans ((View.write_emb_of_mem _ _ (Finset.mem_univ _)).trans ?_)
  rfl

theorem out0_8 (f) (h : (rd0 be bv hbe x w b R d).ArrAt (8 : Fin 10) 1 f) : f = rBv x w b := by
  have h' := (RDat.ArrAt_succ (rd0 be bv hbe x w b R d) (8 : Fin 10) t0_0) ▸ h
  rw [show ((c0 (F := F) be bv hbe).win (8 : Fin 10)).flush t0_0 = true from flush0_8 t0_0, if_pos rfl] at h'
  obtain ⟨G, X, hG, ⟨Y, -, hX⟩, rfl⟩ := h'
  have hX : X = rBv x w b := hX
  subst hX
  refine funext fun (i : S1x24.Idx) => ?_
  have hi : (((c0 (F := F) be bv hbe).win (8 : Fin 10)).blk t0_0).view.emb i = i := by
    refine funext fun a => Fin.ext ?_
    match a with
    | 0 => show 0 * 1 + 1 * (i 0).val = (i 0).val; omega
    | 1 => show 0 * 24 + 1 * (i 1).val = (i 1).val; omega
  refine (congrArg _ hi.symm).trans ((View.write_emb_of_mem _ _ (Finset.mem_univ _)).trans ?_)
  rfl

theorem out0_9 (f) (h : (rd0 be bv hbe x w b R d).ArrAt (9 : Fin 10) 1 f) : f = rLoss x w b := by
  have h' := (RDat.ArrAt_succ (rd0 be bv hbe x w b R d) (9 : Fin 10) t0_0) ▸ h
  rw [show ((c0 (F := F) be bv hbe).win (9 : Fin 10)).flush t0_0 = true from flush0_9 t0_0, if_pos rfl] at h'
  obtain ⟨G, X, hG, ⟨Y, -, hX⟩, rfl⟩ := h'
  have hX : X = rLoss x w b := hX
  subst hX
  refine funext fun (i : S1x1.Idx) => ?_
  have hi : (((c0 (F := F) be bv hbe).win (9 : Fin 10)).blk t0_0).view.emb i = i := by
    refine funext fun a => Fin.ext ?_
    match a with
    | 0 => show 0 * 1 + 1 * (i 0).val = (i 0).val; omega
    | 1 => show 0 * 1 + 1 * (i 1).val = (i 1).val; omega
  refine (congrArg _ hi.symm).trans ((View.write_emb_of_mem _ _ (Finset.mem_univ _)).trans ?_)
  rfl

theorem arraysAt0_out : ((rd0 be bv hbe x w b R d).arraysAt 1 : sProp 𝕄) ⊢ Arr0 x w b (res x w b) d := by
  unfold RDat.arraysAt
  rw [bigSep_W0]
  have e : ∀ {b : Ref sig .tc} (f : Buf (Elt F) ((d : Thread nD τ).loc b)), ((d : Thread nD τ).loc b ↦[(View.whole b).set]{fullShare} f : sProp 𝕄) ⊢ ((d : Thread nD τ).loc b ↦{fullShare} f) :=
    fun {b} f => by rw [View.set_whole]
  have i0 := (rd0 be bv hbe x w b R d).ArrAt_in (0 : Fin 10) rfl 1
  have i1 := (rd0 be bv hbe x w b R d).ArrAt_in (1 : Fin 10) rfl 1
  have i2 := (rd0 be bv hbe x w b R d).ArrAt_in (2 : Fin 10) rfl 1
  have e0 : ∀ f, ((((c0 (F := F) be bv hbe).win (0 : Fin 10)).arr.view.loc (d : Thread nD τ)) ↦[((c0 (F := F) be bv hbe).win (0 : Fin 10)).arr.view.set]{(rd0 be bv hbe x w b R d).share (0 : Fin 10)} f : sProp 𝕄)
      ⊢ ((d : Thread nD τ).loc main_v0 ↦{fullShare} f) := fun f => e (b := main_v0) f
  have e1 : ∀ f, ((((c0 (F := F) be bv hbe).win (1 : Fin 10)).arr.view.loc (d : Thread nD τ)) ↦[((c0 (F := F) be bv hbe).win (1 : Fin 10)).arr.view.set]{(rd0 be bv hbe x w b R d).share (1 : Fin 10)} f : sProp 𝕄)
      ⊢ ((d : Thread nD τ).loc main_arg1 ↦{fullShare} f) := fun f => e (b := main_arg1) f
  have e2 : ∀ f, ((((c0 (F := F) be bv hbe).win (2 : Fin 10)).arr.view.loc (d : Thread nD τ)) ↦[((c0 (F := F) be bv hbe).win (2 : Fin 10)).arr.view.set]{(rd0 be bv hbe x w b R d).share (2 : Fin 10)} f : sProp 𝕄)
      ⊢ ((d : Thread nD τ).loc main_v1 ↦{fullShare} f) := fun f => e (b := main_v1) f
  have e3 : ∀ f, ((((c0 (F := F) be bv hbe).win (3 : Fin 10)).arr.view.loc (d : Thread nD τ)) ↦[((c0 (F := F) be bv hbe).win (3 : Fin 10)).arr.view.set]{(rd0 be bv hbe x w b R d).share (3 : Fin 10)} f : sProp 𝕄)
      ⊢ ((d : Thread nD τ).loc main_v2_0 ↦{fullShare} f) := fun f => e (b := main_v2_0) f
  have e4 : ∀ f, ((((c0 (F := F) be bv hbe).win (4 : Fin 10)).arr.view.loc (d : Thread nD τ)) ↦[((c0 (F := F) be bv hbe).win (4 : Fin 10)).arr.view.set]{(rd0 be bv hbe x w b R d).share (4 : Fin 10)} f : sProp 𝕄)
      ⊢ ((d : Thread nD τ).loc main_v2_1 ↦{fullShare} f) := fun f => e (b := main_v2_1) f
  have e5 : ∀ f, ((((c0 (F := F) be bv hbe).win (5 : Fin 10)).arr.view.loc (d : Thread nD τ)) ↦[((c0 (F := F) be bv hbe).win (5 : Fin 10)).arr.view.set]{(rd0 be bv hbe x w b R d).share (5 : Fin 10)} f : sProp 𝕄)
      ⊢ ((d : Thread nD τ).loc main_v2_2 ↦{fullShare} f) := fun f => e (b := main_v2_2) f
  have e6 : ∀ f, ((((c0 (F := F) be bv hbe).win (6 : Fin 10)).arr.view.loc (d : Thread nD τ)) ↦[((c0 (F := F) be bv hbe).win (6 : Fin 10)).arr.view.set]{(rd0 be bv hbe x w b R d).share (6 : Fin 10)} f : sProp 𝕄)
      ⊢ ((d : Thread nD τ).loc main_v2_3 ↦{fullShare} f) := fun f => e (b := main_v2_3) f
  have e7 : ∀ f, ((((c0 (F := F) be bv hbe).win (7 : Fin 10)).arr.view.loc (d : Thread nD τ)) ↦[((c0 (F := F) be bv hbe).win (7 : Fin 10)).arr.view.set]{(rd0 be bv hbe x w b R d).share (7 : Fin 10)} f : sProp 𝕄)
      ⊢ ((d : Thread nD τ).loc main_v2_4 ↦{fullShare} f) := fun f => e (b := main_v2_4) f
  have e8 : ∀ f, ((((c0 (F := F) be bv hbe).win (8 : Fin 10)).arr.view.loc (d : Thread nD τ)) ↦[((c0 (F := F) be bv hbe).win (8 : Fin 10)).arr.view.set]{(rd0 be bv hbe x w b R d).share (8 : Fin 10)} f : sProp 𝕄)
      ⊢ ((d : Thread nD τ).loc main_v2_5 ↦{fullShare} f) := fun f => e (b := main_v2_5) f
  have e9 : ∀ f, ((((c0 (F := F) be bv hbe).win (9 : Fin 10)).arr.view.loc (d : Thread nD τ)) ↦[((c0 (F := F) be bv hbe).win (9 : Fin 10)).arr.view.set]{(rd0 be bv hbe x w b R d).share (9 : Fin 10)} f : sProp 𝕄)
      ⊢ ((d : Thread nD τ).loc main_v2_6 ↦{fullShare} f) := fun f => e (b := main_v2_6) f
  iintro ⟨⟨%f0, %h0, H0⟩, ⟨%f1, %h1, H1⟩, ⟨%f2, %h2, H2⟩, ⟨%f3, %h3, H3⟩, ⟨%f4, %h4, H4⟩, ⟨%f5, %h5, H5⟩, ⟨%f6, %h6, H6⟩, ⟨%f7, %h7, H7⟩, ⟨%f8, %h8, H8⟩, ⟨%f9, %h9, H9⟩⟩
  have h0 : f0 = x := by rw [i0] at h0; exact h0
  have h1 : f1 = w := by rw [i1] at h1; exact h1
  have h2 : f2 = b := by rw [i2] at h2; exact h2
  have h3 := out0_3 be bv hbe x w b R d f3 h3
  have h4 := out0_4 be bv hbe x w b R d f4 h4
  have h5 := out0_5 be bv hbe x w b R d f5 h5
  have h6 := out0_6 be bv hbe x w b R d f6 h6
  have h7 := out0_7 be bv hbe x w b R d f7 h7
  have h8 := out0_8 be bv hbe x w b R d f8 h8
  have h9 := out0_9 be bv hbe x w b R d f9 h9
  subst h0 h1 h2 h3 h4 h5 h6 h7 h8 h9
  unfold Arr0 res
  isplitl [H0]; · iapply (e0 _) $$ H0
  isplitl [H1]; · iapply (e1 _) $$ H1
  isplitl [H2]; · iapply (e2 _) $$ H2
  isplitl [H3]; · iapply (e3 _) $$ H3
  isplitl [H4]; · iapply (e4 _) $$ H4
  isplitl [H5]; · iapply (e5 _) $$ H5
  isplitl [H6]; · iapply (e6 _) $$ H6
  isplitl [H7]; · iapply (e7 _) $$ H7
  isplitl [H8]; · iapply (e8 _) $$ H8
  iapply (e9 _) $$ H9

end Region

theorem pref_none (d : Dev nD) (v : ((pcfgs (F := F) 0).pre).Contents (Elt F)) : (iprop(emp) : sProp 𝕄) ⊢ Pipeline.prefHeld ((pcfgs (F := F) 0).pre) d (fun _ => fullShare) v := by
  refine BIBase.Entails.trans ?_ (show BI.emp ⊢ _ from ?_)
  · exact .rfl
  · unfold Pipeline.prefHeld
    exact (show (BI.emp : sProp 𝕄) ⊢ bigSep (Finset.univ : Finset (Fin 0)) _ from by rw [show (Finset.univ : Finset (Fin 0)) = ∅ from rfl, bigSep_empty])

/-- The data of both pipelines at the router's region. -/
def rdats0 (be bv : S24.Idx → BitVec 32) (hbe : InRange be) (x : Vec F S2048x768 .f32) (w : Vec F S768x8 .f32) (b : Vec F S1x8 .f32) (R : Res F) :
    (p : Fin 2) → (c : Dev nD) → RDat τ (Elt F) (HIx 2) ℕ UU ℕ (Pipeline.pin (pcfgs (F := F)) (adm be bv hbe) p) c
  | ⟨0, _⟩ => fun c => rd0 be bv hbe x w b R c
  | ⟨1, _⟩ => fun c => junk c

theorem out0_N (be bv : S24.Idx → BitVec 32) (hbe : InRange be) (x : Vec F S2048x768 .f32) (w : Vec F S768x8 .f32) (b : Vec F S1x8 .f32) (R : Res F) (d : Dev nD) :
    ((rd0 be bv hbe x w b R d).arraysAt (c0 (F := F) be bv hbe).N : sProp 𝕄) ⊢ Arr0 x w b (res x w b) d := by
  rw [show (c0 (F := F) be bv hbe).N = 1 from N_0]; exact arraysAt0_out be bv hbe x w b R d

set_option backward.isDefEq.respectTransparency.types false in
def reg0 (be bv : S24.Idx → BitVec 32) (hbe : InRange be) (x : Vec F S2048x768 .f32) (w : Vec F S768x8 .f32) (b : Vec F S1x8 .f32) (R : Res F) :
    RDat.RegionSeg (pcfgs (F := F)) (adm be bv hbe) (rdats0 be bv hbe x w b R) (none : HIx 2) (defs₀ (F := F)) 𝒱₀ (K (F := F)).L ((K (F := F)).lev (N := 2)) 0 where
  win := (launch0 (F := F)).win.to₀
  block_pos := (launch0 (F := F)).block_pos
  stage_whole := (launch0 (F := F)).stage_whole
  K := PEmpty
  osem k := k.elim
  ho := Pipeline.OwnSemFacts.none _
  hbody c := body0 be bv hbe x w b R c
  hwaits c := RDat.cellsWaits_intro _ _ _ 0 c fun w s t => (K (F := F)).mayWait_none _ (otc_none (F := F) c 0)
  pre c := iprop(Arr0 x w b R c ∗ Owe (F := F) c 0)
  post c := iprop(Arr0 x w b (res x w b) c ∗ Owe (F := F) c 0)
  X _ := BI.emp
  Y _ := BI.emp
  Z _ := BI.emp
  hentry c := by
    iintro ⟨⟨HA, HO⟩, -, -⟩
    imodintro
    isplitl [HA]; · iapply (show Arr0 x w b R c ⊢ _ from by rw [← arrays0_eq be bv hbe]; exact .rfl) $$ HA
    isplitr; · iapply (pref_none (F := F) c _); iempintro
    isplitl [HO]; · iapply (owe_in (F := F) c 0 _) $$ HO
    isplitr <;> iempintro
  hin c := by
    refine (?_ : iprop(BI.emp ∗ Pipeline.prefHeld _ c (fun _ => fullShare) _ ∗ Pipeline.scopedRest spec0 c) ⊢ (Pipeline.scopedRest spec0 c : sProp 𝕄))
    iintro ⟨-, -, H⟩
    iexact H
  hout c := by
    refine (?_ : (Pipeline.scopedRest spec0 c : sProp 𝕄) ⊢ iprop(BI.emp ∗ Pipeline.ownSems0 (fun k : PEmpty => k.elim) c ∗ Pipeline.scopedRest spec0 c))
    rw [Pipeline.ownSems0_none]
    iintro H
    isplitr; · iempintro
    isplitr; · iempintro
    iexact H
  hexit c := by
    refine (?_ : iprop((rd0 be bv hbe x w b R c).arraysAt (c0 (F := F) be bv hbe).N ∗ Pipeline.owesWithin c (tcO (F := F) c 0) (tcB (F := F) c 0 ∪ (c0 (F := F) be bv hbe).waitPairs (none : HIx 2)) ∗ BI.emp ∗ BI.emp) ⊢ _)
    iintro ⟨HA, HO, -, -⟩
    imodintro
    isplitl [HA]; · iapply (out0_N be bv hbe x w b R c) $$ HA
    iapply (owe_out (F := F) c 0 _) $$ HO

end Cert.Proof.Whole
end
-- ==== Proof.WholeTasks.lean ====
/-
  The tasks of the two SparseCore calls: which subcore runs which task, its 64 tokens of the 2048, and how an array is dealt
  out to the 32 tasks and put together again.
-/
module

public import proofs.«01_k».proof.Proof.WholeSetup
public import Idealize.ShloMosaic.Lib.SparseCore.Quiescent

@[expose] public section
noncomputable section
namespace Cert.Proof.Whole
open Cert.WholeIdeal Cert.WholeIdeal.Gen
open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
variable {F : FTy → Type}
local notation "𝕄" => MT nD τ sig (HIx 2) (Elt F) ℕ UU ℕ
variable [FloatOps F]

abbrev cV (L : grid1.Coords) : Fin τ.nSC := (L 0).castLE hcore1
abbrev jV (L : grid1.Coords) : Fin τ.nSub := (L 1).castLE hsub1
/-- The subcore a task runs on. -/
abbrev thr (d : Dev nD) (L : grid1.Coords) : Thread nD τ := V d (cV L) (jV L)

/-- A task's number: task `(c, i)` is number `2 i + c`. -/
abbrev wL (L : grid1.Coords) : Fin 32 := ⟨2 * (L 1).val + (L 0).val, by
  have h0 : (L 0).val < 2 := (L 0).isLt
  have h1 : (L 1).val < 16 := (L 1).isLt
  omega⟩

/-- A task's share of an array every task reads: one of thirty-two pieces. -/
abbrev shr (L : grid1.Coords) : PosShare TreeShare := pieceOf fullShare 32 (by omega) (wL L)

/-- Element `n` of a list of 2048. -/
def ix1 (n : Fin 2048) : S2048.Idx := fun | 0 => n

/-- Token `n` of a task. -/
def tok (L : grid1.Coords) (n : Fin 64) : Fin 2048 := ⟨128 * (L 1).val + 64 * (L 0).val + n.val, by
  have h0 : (L 0).val < 2 := (L 0).isLt
  have h1 : (L 1).val < 16 := (L 1).isLt
  omega⟩

/-- The task of SparseCore `c`, subcore `s`. -/
def coordsV (c : Fin (grid1.bound 0)) (s : Fin (grid1.bound 1)) : grid1.Coords :=
  fun | 0 => c | 1 => s | ⟨_ + 2, h⟩ => absurd h (Nat.not_lt.2 (Nat.le_add_left _ _))

/-- The task of a pair. -/
abbrev pairV (p : Fin 2 × Fin 16) : grid1.Coords := coordsV p.1 p.2

/-- The pairs numbered. -/
def pairNo : Fin 2 × Fin 16 ≃ Fin 32 where
  toFun p := wL (pairV p)
  invFun w := (⟨w.val % 2, by omega⟩, ⟨w.val / 2, by omega⟩)
  left_inv p := by
    obtain ⟨c, i⟩ := p
    refine Prod.ext (Fin.ext ?_) (Fin.ext ?_)
    · show (2 * i.val + c.val) % 2 = c.val; omega
    · show (2 * i.val + c.val) / 2 = i.val; omega
  right_inv w := Fin.ext (show 2 * (w.val / 2) + w.val % 2 = w.val by omega)

/-- Two tasks with one token are the same, and so is its number. -/
theorem tok_inj {p p' : Fin 2 × Fin 16} {n n' : Fin 64} (h : tok (pairV p) n = tok (pairV p') n') : p = p' ∧ n = n' := by
  obtain ⟨c, i⟩ := p; obtain ⟨c', i'⟩ := p'
  have hc := c.isLt; have hc' := c'.isLt
  have hv : 128 * i.val + 64 * c.val + n.val = 128 * i'.val + 64 * c'.val + n'.val := congrArg Fin.val h
  exact ⟨Prod.ext (Fin.ext (by show c.val = c'.val; omega)) (Fin.ext (by show i.val = i'.val; omega)), Fin.ext (by omega)⟩

/-- Each token is one task's. -/
theorem tok_cover (t : Fin 2048) : ∃ (p : Fin 2 × Fin 16) (n : Fin 64), tok (pairV p) n = t :=
  ⟨(⟨t.val / 64 % 2, by omega⟩, ⟨t.val / 128, by omega⟩), ⟨t.val % 64, by omega⟩,
    Fin.ext (show 128 * (t.val / 128) + 64 * (t.val / 64 % 2) + t.val % 64 = t.val by omega)⟩

omit [FloatOps F] in
/-- An array held whole is held at the tasks' shares of it. -/
theorem share_split {ℓ : Loc nD τ sig} (f : Buf (Elt F) ℓ) :
    (ℓ ↦{fullShare} f : sProp 𝕄) = bigSep Finset.univ fun p : Fin 2 × Fin 16 => ℓ ↦{shr (pairV p)} f := by
  rw [pointsTo_piecesOf Finset.univ f (o := 32) (by omega) fullShare, bigSep_univ_equiv pairNo]
  rfl

omit [FloatOps F] in
/-- An array held whole is held part by part, each element in one part. -/
theorem deal_out {ℓ : Loc nD τ sig} (f : Buf (Elt F) ℓ) (A : Fin 2 × Fin 16 → Finset (Idx ℓ)) (hd : ∀ p p' x, x ∈ A p → x ∈ A p' → p = p')
    (hc : ∀ x, ∃ p, x ∈ A p) : (ℓ ↦{fullShare} f : sProp 𝕄) = bigSep Finset.univ fun p => ℓ ↦[A p]{fullShare} f := by
  rw [← pointsTo_biUnion Finset.univ A (fun p _ p' _ h => Finset.disjoint_left.mpr fun x hx hx' => h (hd p p' x hx hx')),
    Finset.eq_univ_of_forall fun x => Finset.mem_biUnion.mpr ((hc x).imp fun p hp => ⟨Finset.mem_univ _, hp⟩)]

/-- Each wait of `W'` is one of `W` or has no index. -/
def OkW (W W' : Waits sig (HIx 2)) : Prop := ∀ p ∈ W', p ∈ W ∨ p.2 = none

theorem okW_self (W : Waits sig (HIx 2)) : OkW W W := fun _ h => .inl h

theorem OkW.insert {W W' : Waits sig (HIx 2)} {s : SemLoc sig} (h : OkW W W') : OkW W (insert (s, (default : HIx 2)) W') := fun p hp => by
  rcases Finset.mem_insert.mp hp with rfl | hp
  · exact .inr rfl
  · exact h p hp

abbrev cell (d : Dev nD) (L : grid1.Coords) (k : Fin 59) : GSem nD τ sig := (thr d L, .dma k)

omit [FloatOps F] in
theorem cell_scoped (d : Dev nD) (L : grid1.Coords) (k : Fin 59) (hk : 10 ≤ k.val) (hk' : ¬ (30 ≤ k.val ∧ k.val < 44)) : (cell d L k).isScoped = true := by
  show (SemLoc.dma (sig := sig) k).isScoped .scVector = true
  revert k; decide

section Shares
variable {ℓ : Loc nD τ sig}

omit [FloatOps F] in
/-- Elements held at a share are held at its six pieces. -/
theorem pointsTo_six (I : Finset (Idx ℓ)) (f : Buf (Elt F) ℓ) (q : PosShare TreeShare) :
    (ℓ ↦[I]{q} f : sProp 𝕄) = iprop((ℓ ↦[I]{pieceOf q 6 (by omega) 0} f) ∗ (ℓ ↦[I]{pieceOf q 6 (by omega) 1} f)
      ∗ (ℓ ↦[I]{pieceOf q 6 (by omega) 2} f) ∗ (ℓ ↦[I]{pieceOf q 6 (by omega) 3} f)
      ∗ (ℓ ↦[I]{pieceOf q 6 (by omega) 4} f) ∗ (ℓ ↦[I]{pieceOf q 6 (by omega) 5} f)) := by
  rw [pointsTo_piecesOf I f (o := 6) (by omega) q]
  simp only [bigSep_univ_succ, bigSep_univ_of_subsingleton (0 : Fin 1)]
  rfl
end Shares

end Cert.Proof.Whole
-- ==== Proof.WholeWeights.lean ====
/-
  The first task's loop of the dispatch call: sixteen tokens a trip, it puts each token's two weights into a list at the
  token's two positions.
-/
module

public import proofs.«01_k».proof.Proof.WholeTasks
public import proofs.«01_k».proof.Proof.WholeScan

@[expose] public section
noncomputable section
namespace Cert.Proof.Whole
open Cert.WholeIdeal Cert.WholeIdeal.Gen
open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
variable {F : FTy → Type}
local notation "𝕄" => MT nD τ sig (HIx 2) (Elt F) ℕ UU ℕ
variable [FloatOps F]

/-- Every token's two positions are rows of the sorted table, and no two of the 4096 are the same. -/
structure Pos (pa pb : S2048.Idx → Elt F .i32) : Prop where
  la : ∀ j, (pa j : BitVec 32).toNat < 6144
  lb : ∀ j, (pb j : BitVec 32).toNat < 6144
  ia : Function.Injective fun j => (pa j : BitVec 32).toNat
  ib : Function.Injective fun j => (pb j : BitVec 32).toNat
  ab : ∀ i j, (pa i : BitVec 32).toNat ≠ (pb j : BitVec 32).toNat

/-! ## Sixteen elements put into a list -/

section Put
variable {e : EltTy}

/-- Lane `k` of sixteen. -/
def l16 (k : Fin 16) : S16.Idx := Shape.ofLane (d := S16.size) k

/-- The lanes of a list of lanes put one after another. -/
def puts (ix : IVec S16 32) (v : Vec F S16 e) (l : List (Fin 16)) (f : S6144.Idx → Elt F e) : S6144.Idx → Elt F e :=
  l.foldl (fun g k j => if (j 0).val = (ix (l16 k) : BitVec 32).toNat then v (l16 k) else g j) f

omit [FloatOps F] in
theorem puts_miss (ix : IVec S16 32) (v : Vec F S16 e) (l : List (Fin 16)) (f : S6144.Idx → Elt F e) (j : S6144.Idx)
    (h : ∀ k ∈ l, (j 0).val ≠ (ix (l16 k) : BitVec 32).toNat) : puts ix v l f j = f j := by
  induction l generalizing f with
  | nil => rfl
  | cons k l ih =>
    show puts ix v l _ j = f j
    rw [ih _ fun k' hk' => h k' (List.mem_cons_of_mem _ hk')]
    exact if_neg (h k List.mem_cons_self)

omit [FloatOps F] in
theorem puts_hit (ix : IVec S16 32) (v : Vec F S16 e) (l : List (Fin 16)) (f : S6144.Idx → Elt F e) (j : S6144.Idx) (k : Fin 16) (hk : k ∈ l)
    (hi : Function.Injective fun k : Fin 16 => (ix (l16 k) : BitVec 32).toNat) (hj : (j 0).val = (ix (l16 k) : BitVec 32).toNat) :
    puts ix v l f j = v (l16 k) := by
  induction l generalizing f with
  | nil => exact absurd hk List.not_mem_nil
  | cons k' l ih =>
    show puts ix v l _ j = _
    by_cases hkl : k ∈ l
    · exact ih _ hkl
    · obtain rfl : k = k' := (List.mem_cons.mp hk).resolve_right hkl
      rw [puts_miss]
      · exact if_pos hj
      · intro k'' hk'' e
        exact hkl (hi (hj.symm.trans e) ▸ hk'')

theorem storeIdx_eq (f : Vec F S6144 e) (ix : IVec S16 32) (v : Vec F S16 e) (h : ∀ a x, ((![ix] : Fin 1 → IVec S16 32) a x).toNat < S6144.size a) :
    storeIdx (s := S6144) (d := S16.size) f ![ix] v (fun _ => 1#1) false h = puts ix v (List.finRange 16) f := by
  unfold storeIdx puts
  refine congrArg (fun st : (S6144.Idx → Elt F e) → Fin 16 → S6144.Idx → Elt F e => List.foldl st f (List.finRange 16)) (funext fun g => funext fun k => ?_)
  show (if (1#1 : BitVec 1) = 1 then _ else _) = _
  refine (if_pos rfl).trans ?_
  funext j
  by_cases hj : (j 0).val = (ix (l16 k) : BitVec 32).toNat
  · refine (if_pos fun a => ?_).trans (if_pos hj).symm
    match a with
    | 0 => exact hj
  · exact (if_neg fun hh => hj (hh 0)).trans (if_neg hj).symm

end Put

/-! ## What the list holds after `n` trips -/

/-- The weights of the tokens below `16 n` are at their positions. -/
def Put (pa pb : S2048.Idx → Elt F .i32) (wa wb : S2048.Idx → Elt F .f32) (n : Nat) (f : S6144.Idx → Elt F .f32) : Prop :=
  ∀ j : S2048.Idx, (j 0).val < 16 * n → ∀ y : S6144.Idx, ((y 0).val = (pa j : BitVec 32).toNat → f y = wa j)
    ∧ ((y 0).val = (pb j : BitVec 32).toNat → f y = wb j)

/-- Lane `k` of trip `n`'s sixteen tokens. -/
def lane (n : Nat) (hn : n < 128) (k : Fin 16) : S2048.Idx := ix1 ⟨16 * n + k.val, by omega⟩

omit [FloatOps F] in
theorem put_step {pa pb : S2048.Idx → Elt F .i32} (hp : Pos pa pb) (wa wb : S2048.Idx → Elt F .f32) (n : Nat) (hn : n < 128) (f : S6144.Idx → Elt F .f32)
    (ia ib : IVec S16 32) (va vb : Vec F S16 .f32) (hia : ∀ k, ia (l16 k) = pa (lane n hn k)) (hib : ∀ k, ib (l16 k) = pb (lane n hn k))
    (hva : ∀ k, va (l16 k) = wa (lane n hn k)) (hvb : ∀ k, vb (l16 k) = wb (lane n hn k)) (h : Put pa pb wa wb n f) :
    Put pa pb wa wb (n + 1) (puts ib vb (List.finRange 16) (puts ia va (List.finRange 16) f)) := by
  have hl : ∀ k k', lane n hn k = lane n hn k' → k = k' := fun k k' e => Fin.ext (by
    have := congrArg Fin.val (congrFun e 0)
    have h' : 16 * n + k.val = 16 * n + k'.val := this
    omega)
  have hinja : Function.Injective fun k : Fin 16 => (ia (l16 k) : BitVec 32).toNat := fun k k' e => by
    simp only [hia] at e
    exact hl _ _ (hp.ia e)
  have hinjb : Function.Injective fun k : Fin 16 => (ib (l16 k) : BitVec 32).toNat := fun k k' e => by
    simp only [hib] at e
    exact hl _ _ (hp.ib e)
  intro j hj y
  by_cases hlt : (j 0).val < 16 * n
  · have hne : ∀ k, lane n hn k ≠ j := fun k e => by
      have := congrArg Fin.val (congrFun e 0)
      have h' : 16 * n + k.val = (j 0).val := this
      omega
    refine ⟨fun hy => ?_, fun hy => ?_⟩
    · rw [puts_miss _ _ _ _ _ fun k _ e => hp.ab j (lane n hn k) (by rw [← hib]; exact hy.symm.trans e),
        puts_miss _ _ _ _ _ fun k _ e => hne k (hp.ia (by show (pa (lane n hn k)).toNat = (pa j).toNat; rw [← hia]; exact e.symm.trans hy))]
      exact (h j hlt y).1 hy
    · rw [puts_miss _ _ _ _ _ fun k _ e => hne k (hp.ib (by show (pb (lane n hn k)).toNat = (pb j).toNat; rw [← hib]; exact e.symm.trans hy)),
        puts_miss _ _ _ _ _ fun k _ e => hp.ab (lane n hn k) j (by rw [← hia]; exact e.symm.trans hy)]
      exact (h j hlt y).2 hy
  · have hj' : (j 0).val < 16 * n + 16 := by omega
    obtain ⟨k, rfl⟩ : ∃ k, j = lane n hn k := ⟨⟨(j 0).val - 16 * n, by omega⟩, funext fun a => by
      match a with
      | 0 => exact Fin.ext (show (j 0).val = 16 * n + ((j 0).val - 16 * n) by omega)⟩
    refine ⟨fun hy => ?_, fun hy => ?_⟩
    · rw [puts_miss _ _ _ _ _ fun k' _ e => hp.ab (lane n hn k) (lane n hn k') (by rw [← hib]; exact hy.symm.trans e),
        puts_hit _ _ _ _ _ k (List.mem_finRange k) hinja (by rw [hia]; exact hy), hva]
    · rw [puts_hit _ _ _ _ _ k (List.mem_finRange k) hinjb (by rw [hib]; exact hy), hvb]

/-! ## The loop -/

abbrev afV : Memref sig .scVector .vmem S2048 .i32 := Memref.whole cc1_scratch4
abbrev bfV : Memref sig .scVector .vmem S2048 .i32 := Memref.whole cc1_scratch5
abbrev uaV : Memref sig .scVector .vmem S2048 .f32 := Memref.whole cc1_scratch2
abbrev ubV : Memref sig .scVector .vmem S2048 .f32 := Memref.whole cc1_scratch3
abbrev usV : Memref sig .scVector .vmem S6144 .f32 := Memref.whole cc1_scratch6
abbrev paH : Memref sig .scVector .hbm S2048 .i32 := Memref.whole main_v3_scv
abbrev pbH : Memref sig .scVector .hbm S2048 .i32 := Memref.whole main_v4_scv
abbrev waH : Memref sig .scVector .hbm S2048 .f32 := Memref.whole main_v5_scv
abbrev wbH : Memref sig .scVector .hbm S2048 .f32 := Memref.whole main_v6_scv
abbrev xH : Memref sig .scVector .hbm S2048x768 .f32 := Memref.whole main_v0_scv
abbrev xsH : Memref sig .scVector .hbm S6144x768 .f32 := Memref.whole main_v7_0_scv
abbrev wsH : Memref sig .scVector .hbm S6144 .f32 := Memref.whole main_v7_1_scv
abbrev paS : Memref sig .scVector .vmem S64 .i32 := Memref.whole cc1_scratch0
abbrev pbS : Memref sig .scVector .vmem S64 .i32 := Memref.whole cc1_scratch1
abbrev rwS : Memref sig .scVector .vmem S64x768 .f32 := Memref.whole cc1_scratch7

/-- The loop's state after `n` trips. -/
def putInv (d : Dev nD) (L : grid1.Coords) (pa pb : S2048.Idx → Elt F .i32) (wa wb : S2048.Idx → Elt F .f32) (n : Nat) (_ : PUnit) : sProp 𝕄 :=
  iprop(((afV).view.loc (thr d L) ↦{fullShare} pa) ∗ ((bfV).view.loc (thr d L) ↦{fullShare} pb) ∗ ((uaV).view.loc (thr d L) ↦{fullShare} wa)
    ∗ ((ubV).view.loc (thr d L) ↦{fullShare} wb) ∗ ∃ f, ⌜Put pa pb wa wb n f⌝ ∗ ((usV).view.loc (thr d L) ↦{fullShare} f))

theorem off3_eq : ∀ t : Fin k1_t1_loop.trips, k1_off3 t = ![16 * t.val] := by decide +kernel
theorem off4_eq : ∀ t : Fin k1_t1_loop.trips, k1_off4 t = ![16 * t.val] := by decide +kernel

omit [FloatOps F] in
theorem us_whole (d : Dev nD) (L : grid1.Coords) (f : S6144.Idx → Elt F .f32) :
    (((usV).access (Rect.whole S6144)).loc (thr d L) ↦[((usV).access (Rect.whole S6144)).set]{fullShare} f : sProp 𝕄)
      = ((usV).view.loc (thr d L) ↦{fullShare} f) := by
  rw [show ((usV).access (Rect.whole S6144)).set = Finset.univ from (View.set_slice_whole _ _).trans (Rect.set_whole _)]

omit [FloatOps F] in
theorem us_write (f g : S6144.Idx → Elt F .f32) : ((usV).access (Rect.whole S6144)).write (Elt F) f g Finset.univ = g := by
  have h : ∀ h : S6144.Idx → Elt F .f32, ((usV).access (Rect.whole S6144)).read (Elt F) h = h := fun h => funext fun x => congrArg h (funext fun a => Fin.ext (by
      show 0 + 1 * (x a).val = (x a).val; omega))
  rw [← h (((usV).access (Rect.whole S6144)).write (Elt F) f g Finset.univ), View.read_write_univ]

omit [FloatOps F] in
theorem us_read (h : S6144.Idx → Elt F .f32) : ((usV).access (Rect.whole S6144)).read (Elt F) h = h :=
  funext fun x => congrArg h (funext fun a => Fin.ext (by
      show 0 + 1 * (x a).val = (x a).val; omega))

/-- The sixteen elements of a list a trip loads. -/
theorem lanes_at {κ : Kind} {e : EltTy} (v : View sig κ .vmem S2048 e) (f : v.ty.Contents (Elt F)) (g : S2048.Idx → Elt F e) (h : v.read (Elt F) f = g)
    (off : Fin 1 → Nat) (inb : ∀ a, off a + S16.size a ≤ S2048.size a) (n : Nat) (hn : n < 128) (ho : off = ![16 * n]) (k : Fin 16) :
    v.readAt (Elt F) (Rect.unit (s := S2048) off S16.size inb).toLoadRect f (l16 k) = g (lane n hn k) := by
  subst h ho
  show v.read (Elt F) f ((Rect.unit (s := S2048) ![16 * n] S16.size inb).emb (l16 k)) = _
  refine congrArg (v.read (Elt F) f) (funext fun a => Fin.ext ?_)
  match a with
  | 0 =>
    show 16 * n + 1 * (l16 k 0).val = 16 * n + k.val
    have : (l16 k 0).val = k.val := rfl
    omega

set_option maxHeartbeats 4000000 in
theorem put_trip (d : Dev nD) (L : grid1.Coords) (h1 : k1_cond1 L = 1#1) {pa pb : S2048.Idx → Elt F .i32} (hp : Pos pa pb)
    (wa wb : S2048.Idx → Elt F .f32) (v1 : BitVec 32) (t : Fin k1_t1_loop.trips) :
    putInv d L pa pb wa wb t.val ⟨⟩
      ⊢ (wp frame (wpE (defs₀ (F := F)) 𝒱₀ (thr d L) none) Set.univ
          (k1_t1_body (F := F) L paH (Memref.isWhole_whole _) pbH (Memref.isWhole_whole _) waH (Memref.isWhole_whole _) wbH (Memref.isWhole_whole _)
            xH (Memref.isWhole_whole _) xsH (Memref.isWhole_whole _) wsH (Memref.isWhole_whole _) paS (Memref.isWhole_whole _) pbS (Memref.isWhole_whole _)
            uaV (Memref.isWhole_whole _) ubV (Memref.isWhole_whole _) afV (Memref.isWhole_whole _) bfV (Memref.isWhole_whole _) usV (Memref.isWhole_whole _)
            rwS (Memref.isWhole_whole _) cc1_scratch8 cc1_scratch9 cc1_scoped0 cc1_scoped1 cc1_scoped2 cc1_scoped3 cc1_scoped4 cc1_scoped5 cc1_scoped6 cc1_scoped7
            v1 h1 t ⟨⟩)
          fun _ => putInv d L pa pb wa wb (t.val + 1) ⟨⟩ : sProp 𝕄) := by
  unfold k1_t1_body putInv
  iintro ⟨Ha, Hb, Hu, Hv, %f, %hf, Hf⟩
  sl_exec
  rw [wp_assume_of _ _ _ _ (show k1_chk1 L _ from fun _ a x => by match a with | 0 => exact hp.la _)]
  sl_exec
  rw [wp_assume_of _ _ _ _ (show k1_chk2 L _ from fun _ a x => by match a with | 0 => exact hp.lb _)]
  sl_exec
  ihave Hf := (Entails.of_eq (us_whole d L f).symm) $$ Hf
  iapply (SparseCore.wp_vectorStoreIdx 𝒱₀ (thr d L) none Set.univ (base := usV)) $$ Hf
  iintro Hf
  ihave Hf := (Entails.of_eq (us_whole d L _)) $$ Hf
  rw [us_write, us_read, storeIdx_eq]
  sl_exec
  ihave Hf := (Entails.of_eq (us_whole d L _).symm) $$ Hf
  iapply (SparseCore.wp_vectorStoreIdx 𝒱₀ (thr d L) none Set.univ (base := usV)) $$ Hf
  iintro Hf
  ihave Hf := (Entails.of_eq (us_whole d L _)) $$ Hf
  rw [us_write, us_read, storeIdx_eq]
  sl_exec
  sl_step
  isplitl [Ha]; · iexact Ha
  isplitl [Hb]; · iexact Hb
  isplitl [Hu]; · iexact Hu
  isplitl [Hv]; · iexact Hv
  iexists _
  isplitr
  swap; · iexact Hf
  ipureintro
  have ht : t.val < 128 := lt_of_lt_of_eq t.isLt (show k1_t1_loop.trips = 128 by decide)
  exact put_step hp wa wb t.val ht f _ _ _ _
    (fun k => lanes_at (afV).view pa pa (View.read_whole _ _) _ _ t.val ht (off3_eq t) k)
    (fun k => lanes_at (bfV).view pb pb (View.read_whole _ _) _ _ t.val ht (off3_eq t) k)
    (fun k => lanes_at (uaV).view wa wa (View.read_whole _ _) _ _ t.val ht (off3_eq t) k)
    (fun k => lanes_at (ubV).view wb wb (View.read_whole _ _) _ _ t.val ht (off4_eq t) k) hf

end Cert.Proof.Whole
-- ==== Proof.WholeRouting.lean ====
/-
  The router's results of the whole program over the extended reals, in terms of the two experts each token takes: the
  positions are distinct, and the block a position falls in belongs to the position's expert.
-/
module

public import proofs.«01_k».proof.Proof.WholePlaces
public import proofs.«01_k».proof.Proof.WholeRouter
public import proofs.«01_k».proof.Proof.WholeWeights

@[expose] public section
noncomputable section
namespace Cert.Proof.Whole.Routing
open Cert.WholeIdeal Cert.WholeIdeal.Gen Idealize.ShloMosaic
open Cert.Proof.Router.Kernel Cert.Proof.Router.Eq Cert.Proof.Whole.Count Cert.Proof.Whole.Places

/-- What the positions and the block tables are, of the two experts each token takes. -/
structure Placed (a c : Fin 2048 → Fin 8) (pa pb : S2048.Idx → Elt Ideal .i32) (be bv : S24.Idx → BitVec 32) : Prop where
  ne : ∀ t, c t ≠ a t
  A : ∀ t : Fin 2048, (pa (ix1 t) : BitVec 32) = BitVec.ofNat 32 (pos a c (a t) t)
  B : ∀ t : Fin 2048, (pb (ix1 t) : BitVec 32) = BitVec.ofNat 32 (pos a c (c t) t)
  E : ∀ n : Fin 24, be (ValueIdx.ix1 n) = BitVec.ofNat 32 (min 7 (∑ e' : Fin 8, if off a c e' + nb a c e' ≤ n.val then 1 else 0))
  V : ∀ n : Fin 24, bv (ValueIdx.ix1 n) = if n.val < tot a c then 1#32 else 0#32

namespace Placed
variable {a c : Fin 2048 → Fin 8} {pa pb : S2048.Idx → Elt Ideal .i32} {be bv : S24.Idx → BitVec 32} (H : Placed a c pa pb be bv)
include H

theorem nA (t : Fin 2048) : (pa (ix1 t) : BitVec 32).toNat = pos a c (a t) t := by
  have := pos_bound H.ne (e := a t) (t := t) (.inl rfl)
  rw [H.A, BitVec.toNat_ofNat]
  exact Nat.mod_eq_of_lt (by omega)

theorem nB (t : Fin 2048) : (pb (ix1 t) : BitVec 32).toNat = pos a c (c t) t := by
  have := pos_bound H.ne (e := c t) (t := t) (.inr rfl)
  rw [H.B, BitVec.toNat_ofNat]
  exact Nat.mod_eq_of_lt (by omega)

omit H in
theorem ix1_eq (j : S2048.Idx) : ∃ t : Fin 2048, j = ix1 t := ⟨j 0, funext fun a => match a with | 0 => rfl⟩

theorem places : Pos pa pb where
  la j := by
    obtain ⟨t, rfl⟩ := ix1_eq j
    rw [H.nA]; exact pos_bound H.ne (.inl rfl)
  lb j := by
    obtain ⟨t, rfl⟩ := ix1_eq j
    rw [H.nB]; exact pos_bound H.ne (.inr rfl)
  ia i j h := by
    obtain ⟨t, rfl⟩ := ix1_eq i
    obtain ⟨s, rfl⟩ := ix1_eq j
    have h' : pos a c (a t) t = pos a c (a s) s := by rw [← H.nA, ← H.nA]; exact h
    rw [(pos_inj (.inl rfl) (.inl rfl) h').2]
  ib i j h := by
    obtain ⟨t, rfl⟩ := ix1_eq i
    obtain ⟨s, rfl⟩ := ix1_eq j
    have h' : pos a c (c t) t = pos a c (c s) s := by rw [← H.nB, ← H.nB]; exact h
    rw [(pos_inj (.inr rfl) (.inr rfl) h').2]
  ab i j h := by
    obtain ⟨t, rfl⟩ := ix1_eq i
    obtain ⟨s, rfl⟩ := ix1_eq j
    rw [H.nA, H.nB] at h
    obtain ⟨h1, h2⟩ := pos_inj (.inl rfl) (.inr rfl) h
    rw [← h2] at h1
    exact H.ne _ h1.symm

omit H in
theorem tb_eq (v : S24.Idx → BitVec 32) (n : ℕ) (h : n < 24) : tb v n = v (ValueIdx.ix1 ⟨n, h⟩) :=
  congrArg v (funext fun a => match a with | 0 => Fin.ext (show min n 23 = n by omega))

theorem inRange : InRange be := fun n => by
  have h : tb be n = be (ValueIdx.ix1 (⟨min n 23, by omega⟩ : Fin 24)) := congrArg be (funext fun a => match a with | 0 => rfl)
  rw [h, H.E, BitVec.toNat_ofNat]
  exact (Nat.mod_le _ _).trans_lt (by omega)

/-- The block a token's row falls in has tokens, and is the row's expert's. -/
theorem block {e : Fin 8} {t : Fin 2048} (h : e = a t ∨ e = c t) :
    (tb be (pos a c e t / 256)).toNat = e.val ∧ tb bv (pos a c e t / 256) ≠ 0#32 := by
  have hb := pos_bound H.ne h
  obtain ⟨h1, h2⟩ := block_of h
  have he := e.isLt
  have hn : pos a c e t / 256 < 24 := by omega
  clear hb
  generalize pos a c e t / 256 = n at *
  rw [tb_eq be n hn, tb_eq bv n hn, H.E, H.V]
  refine ⟨?_, ?_⟩
  · simp only [h1]
    rw [BitVec.toNat_ofNat, show min 7 e.val = e.val by omega]
    exact Nat.mod_eq_of_lt (by omega)
  · simp only [h2, if_true]
    decide

end Placed

section Facts
variable {x : FVec Ideal S1x2048x768 .f32} {w : FVec Ideal S768x8 .f32} {b : FVec Ideal S8 .f32}

theorem ix1_val (t : Fin 2048) : (ix1 t : S2048.Idx) = ValueIdx.ix1 t := funext fun a => match a with | 0 => rfl

/-- The routing weights of the reference. -/
abbrev soft (x : FVec Ideal S1x2048x768 .f32) (w : FVec Ideal S768x8 .f32) (b : FVec Ideal S8 .f32) := Router.Ref.softm (F := Ideal) (Router.Ref.expo (Router.Ref.logits x w b))

theorem routed (hr : ∀ t e, ∃ r : ℝ, Router.Ref.logits x w b (ix2 t e) = r) : ∃ a c : Fin 2048 → Fin 8,
    Placed a c (shapeCast S2048 (rPosA (F := Ideal) (xk x) w (bk b)) shapeCasts_S1x2048_S2048) (shapeCast S2048 (rPosB (F := Ideal) (xk x) w (bk b)) shapeCasts_S1x2048_S2048)
      (shapeCast S24 (rBe (F := Ideal) (xk x) w (bk b)) shapeCasts_S1x24_S24) (shapeCast S24 (rBv (F := Ideal) (xk x) w (bk b)) shapeCasts_S1x24_S24)
    ∧ (∀ t, Router.Ref.topI (soft x w b) (ix2 t 0) = BitVec.ofNat 32 (a t).val) ∧ ∀ t, Router.Ref.topI (soft x w b) (ix2 t 1) = BitVec.ofNat 32 (c t).val := by
  choose a c hne h3 h4 h0 h1 using picks_eq hr
  have hs : ∀ e t, Cert.RouterIdeal.Gen.k0_pay5 (F := Ideal) w (xk x) (bk b) (ix2 e t) = bit (e = a t ∨ e = c t) := fun e t => pay5_apply (h3 t) (h4 t) e
  refine ⟨a, c, ⟨hne, fun t => ?_, fun t => ?_, fun n => ?_, fun n => ?_⟩, fun t => ?_, fun t => ?_⟩
  · refine Eq.trans ?_ (posA hs hne (fun e t => h3 t e) 0 t)
    refine Eq.trans (b := rPosA (F := Ideal) (xk x) w (bk b) (ix2 0 t)) ?_ rfl
    rw [ix1_val]
    pointwise
  · refine Eq.trans ?_ (posB hs hne (fun e t => h4 t e) 0 t)
    refine Eq.trans (b := rPosB (F := Ideal) (xk x) w (bk b) (ix2 0 t)) ?_ rfl
    rw [ix1_val]
    pointwise
  · refine Eq.trans ?_ (pay21_apply hs hne 0 n)
    refine Eq.trans (b := rBe (F := Ideal) (xk x) w (bk b) (ix2 0 n)) ?_ rfl
    pointwise
  · refine Eq.trans ?_ (pay22_apply hs hne 0 n)
    refine Eq.trans (b := rBv (F := Ideal) (xk x) w (bk b) (ix2 0 n)) ?_ rfl
    pointwise
  · rw [Router.Ref.topI_apply, ← h0 t]; rfl
  · rw [Router.Ref.topI_apply, ← h1 t]; rfl

theorem weightA (hr : ∀ t e, ∃ r : ℝ, Router.Ref.logits x w b (ix2 t e) = r) (t : Fin 2048) :
    (shapeCast S2048 (rWa (F := Ideal) (xk x) w (bk b)) shapeCasts_S1x2048_S2048 : FVec Ideal S2048 .f32) (ix1 t) = Router.Ref.topW (Router.Ref.topV (soft x w b)) (ix2 t 0) := by
  refine Eq.trans ?_ (first_weight hr t 0)
  refine Eq.trans (b := rWa (F := Ideal) (xk x) w (bk b) (ix2 0 t)) ?_ rfl
  rw [ix1_val]
  pointwise

theorem weightB (hr : ∀ t e, ∃ r : ℝ, Router.Ref.logits x w b (ix2 t e) = r) (t : Fin 2048) :
    (shapeCast S2048 (rWb (F := Ideal) (xk x) w (bk b)) shapeCasts_S1x2048_S2048 : FVec Ideal S2048 .f32) (ix1 t) = Router.Ref.topW (Router.Ref.topV (soft x w b)) (ix2 t 1) := by
  refine Eq.trans ?_ (second_weight hr t 0)
  refine Eq.trans (b := rWb (F := Ideal) (xk x) w (bk b) (ix2 0 t)) ?_ rfl
  rw [ix1_val]
  pointwise

theorem lossEq (hr : ∀ t e, ∃ r : ℝ, Router.Ref.logits x w b (ix2 t e) = r) :
    (shapeCast S_ (rLoss (F := Ideal) (xk x) w (bk b)) shapeCasts_S1x1_S_ : FVec Ideal S_ .f32)
      = mulf (Router.Ref.cv (Router.Ref.util (Router.Ref.hot (Router.Ref.topI (soft x w b))))) (Router.Ref.cv (Router.Ref.util (Router.Ref.hot (Router.Ref.topI (soft x w b))))) := by
  funext i
  obtain rfl : i = ix0 := funext fun a => a.elim0
  refine Eq.trans ?_ (loss_same hr 0 0)
  refine Eq.trans (b := rLoss (F := Ideal) (xk x) w (bk b) (ix2 0 0)) ?_ rfl
  pointwise

end Facts
end Cert.Proof.Whole.Routing
-- ==== Proof.WholeRow.lean ====
/-
  One row of the experts' outputs over the extended reals: two products with a GELU between them, times the row's weight.
-/
module

public import proofs.«01_k».proof.Proof.WholeExperts
public import proofs.«01_k».proof.Proof.RouterRead

@[expose] public section
noncomputable section
namespace Cert.Proof.Whole.Row
open Cert.WholeIdeal Cert.WholeIdeal.Gen Idealize.ShloMosaic

/-- The exact GELU, its one half and its root of one half as the programs print them. -/
def act (z : EReal) : EReal :=
  Ideal.ofBits .f32 0x3F000000#32 * z * (Ideal.ofBits .f32 0x3F800000#32 + Ideal.erf (z * Ideal.ofBits .f32 0x3F3504F3#32))

/-- One expert's output for one token, at one column. -/
def row (x : Fin 768 → EReal) (w1 : Fin 768 → Fin 3072 → EReal) (b1 : Fin 3072 → EReal) (w2 : Fin 3072 → EReal) (b2 : EReal) : EReal :=
  ∑ k : Fin 3072, act (∑ j : Fin 768, x j * w1 j k + b1 k) * w2 k + b2

theorem pay_apply (X : Vec Ideal S256x768 .f32) (W1 : Vec Ideal S1x768x3072 .f32) (B1 : Vec Ideal S1x1x3072 .f32) (W2 : Vec Ideal S1x3072x768 .f32)
    (B2 : Vec Ideal S1x1x768 .f32) (Ws : Vec Ideal S256x1 .f32) (r : Fin 256) (c : Fin 768) :
    k2_pay1 X W1 B1 W2 B2 Ws (ix2 r c)
      = Ws (ix2 r 0) * row (fun j => X (ix2 r j)) (fun j k => W1 (ix3 0 j k)) (fun k => B1 (ix3 0 0 k)) (fun k => W2 (ix3 0 k c)) (B2 (ix3 0 0 c)) := by
  unfold row act
  pointwise [k2_pay1]
  rfl

end Cert.Proof.Whole.Row
-- ==== Proof.WholeRowAt.lean ====
/-
  A row of the experts' outputs of the whole program, where the list of rows names it.
-/
module

public import proofs.«01_k».proof.Proof.WholeRow

@[expose] public section
noncomputable section
namespace Cert.Proof.Whole.Row
open Cert.WholeIdeal Cert.WholeIdeal.Gen Idealize.ShloMosaic

theorem E1_at (d : Dev nD) (w1 : S8x768x3072.Idx → Elt Ideal .f32) (e : Fin 8) (j : Fin 768) (k : Fin 3072) :
    E1 (F := Ideal) d w1 e (ix3 0 j k) = w1 (ix3 e j k) := by
  refine congrArg w1 (funext fun a => Fin.ext ?_)
  match a with
  | 0 => show e.val + 1 * 0 = e.val; omega
  | 1 => show 0 + 1 * j.val = j.val; omega
  | 2 => show 0 + 1 * k.val = k.val; omega

theorem E2_at (d : Dev nD) (w2 : S8x3072x768.Idx → Elt Ideal .f32) (e : Fin 8) (k : Fin 3072) (c : Fin 768) :
    E2 (F := Ideal) d w2 e (ix3 0 k c) = w2 (ix3 e k c) := by
  refine congrArg w2 (funext fun a => Fin.ext ?_)
  match a with
  | 0 => show e.val + 1 * 0 = e.val; omega
  | 1 => show 0 + 1 * k.val = k.val; omega
  | 2 => show 0 + 1 * c.val = c.val; omega

theorem row_at (V : Ent Ideal) (d : Dev nD) (ys : S6144x768.Idx → Elt Ideal .f32) (hG : GoodYs V d 24 ys) (e : Fin 8) (p : Fin 6144)
    (he : (tb V.be (p.val / 256)).toNat = e.val) (hv : tb V.bv (p.val / 256) ≠ 0#32) (c : Fin 768) :
    ys (at6 p c) = V.ws (at61 p) * row (fun j => V.xs (at6 p j)) (fun j k => V.w1 (ix3 e j k)) (fun k => V.b1 (atB1 e k)) (fun k => V.w2 (ix3 e k c)) (V.b2 (atB2 e c)) := by
  have hp := p.isLt
  have hr : rowOf ⟨p.val / 256, by omega⟩ ⟨p.val % 256, by omega⟩ = p := Fin.ext (by show 256 * (p.val / 256) + p.val % 256 = p.val; omega)
  have h := hG ⟨p.val / 256, by omega⟩ (by show p.val / 256 < 24; omega) hv ⟨p.val % 256, by omega⟩ c
  have hi : ∀ (r : Fin 256) (c : Fin 768), at25 r c = ix2 r c := fun r c => funext fun a => match a with | 0 => rfl | 1 => rfl
  have hE : V.e ⟨p.val / 256, by omega⟩ = e := Fin.ext he
  rw [hr, hi, Ent.out, pay_apply, hE] at h
  simp only [E1_at, E2_at] at h
  rw [h]
  show V.ws (at61 (rowOf ⟨p.val / 256, _⟩ ⟨p.val % 256, _⟩)) * row (fun j => V.xs (at6 (rowOf ⟨p.val / 256, _⟩ ⟨p.val % 256, _⟩) j)) _ (fun k => V.b1 (atB1 e k)) _ (V.b2 (atB2 e c)) = _
  rw [hr]

/-- The same, of the values its arrays hold there. -/
theorem row_of_values {xs ys0 : S6144x768.Idx → Elt Ideal .f32} {b1 : S8x1x3072.Idx → Elt Ideal .f32} {b2 : S8x1x768.Idx → Elt Ideal .f32} {ws : S6144x1.Idx → Elt Ideal .f32}
    {w1 : S8x768x3072.Idx → Elt Ideal .f32} {w2 : S8x3072x768.Idx → Elt Ideal .f32} {be bv : S24.Idx → BitVec 32} {hbe : InRange be} (d : Dev nD)
    (ys : S6144x768.Idx → Elt Ideal .f32) (hG : GoodYs (F := Ideal) ⟨xs, b1, b2, ws, ys0, w1, w2, be, bv, hbe⟩ d 24 ys) (e : Fin 8) (p : Fin 6144)
    (he : (tb be (p.val / 256)).toNat = e.val) (hv : tb bv (p.val / 256) ≠ 0#32) (c : Fin 768) {w : EReal} {X : Fin 768 → EReal} {W1 : Fin 768 → Fin 3072 → EReal}
    {B1 : Fin 3072 → EReal} {W2 : Fin 3072 → EReal} {B2 : EReal} (hw : ws (at61 p) = w) (hX : ∀ j, xs (at6 p j) = X j) (h1 : ∀ j k, w1 (ix3 e j k) = W1 j k)
    (hB1 : ∀ k, b1 (atB1 e k) = B1 k) (h2 : ∀ k, w2 (ix3 e k c) = W2 k) (hB2 : b2 (atB2 e c) = B2) :
    ys (at6 p c) = w * row X W1 B1 W2 B2 := by
  rw [row_at _ d ys hG e p he hv c]
  dsimp only
  rw [hw, hB2]
  simp only [hX, h1, hB1, h2]

end Cert.Proof.Whole.Row
-- ==== Proof.WholeReference.lean ====
/-
  The whole layer's reference read at an index over the extended reals: every expert at every token, the two rows each token
  takes of them, and their weighted sum.
-/
module

public import proofs.«01_k».proof.Proof.WholeRow
public import proofs.«01_k».proof.Proof.Gen.WholeReferenceIdeal.Run
public import Idealize.ShloMosaic.Lib.Routing.Ops
public import Idealize.ShloMosaic.PureOps.Ideal.Laws

@[expose] public section
noncomputable section
namespace Cert.Proof.Whole.Ref
open Cert.WholeReferenceIdeal Cert.WholeReferenceIdeal.Gen Idealize.ShloMosaic Idealize.ShloMosaic.TcCoe Idealize.SL.Sem
open Cert.WholeReferenceIdeal.Value
open Cert.Proof.Whole.Row (act row)
variable {F : FTy → Type} [FloatOps F]

/-- Every expert's hidden values before the GELU. -/
def hid (x : FVec F S1x2048x768 .f32) (w1 : FVec F S8x768x3072 .f32) (b1 : FVec F S8x3072 .f32) : FVec F S8x2048x3072 .f32 :=
  addf (transpose S8x2048x3072 [0, 2, 1] (Host.dotGeneral dot_S8x768x3072_S2048x768_S8x3072x2048_1_1_02_0_n_n none w1 (shapeCast _ x shapeCasts_S1x2048x768_S2048x768)) transposes_S8x3072x2048_S8x2048x3072_0_2_1)
    (broadcastInDim S8x2048x3072 ![0, 1, 2] bcast_S8x1x3072_S8x2048x3072_0_1_2 (broadcastInDim S8x1x3072 ![0, 2] bcast_S8x3072_S8x1x3072_0_2 b1))

/-- The GELU of them. -/
def gel (h : FVec F S8x2048x3072 .f32) : FVec F S8x2048x3072 .f32 :=
  mulf (mulf (broadcastInDim S8x2048x3072 ![] bcast_S_S8x2048x3072 (constant S_ .f32 0x3F000000#32)) h)
    (Host.erfc (mulf (Host.negf h) (broadcastInDim S8x2048x3072 ![] bcast_S_S8x2048x3072 (constant S_ .f32 0x3F3504F3#32))))

/-- Every expert's output at every token. -/
def exps (h : FVec F S8x2048x3072 .f32) (w2 : FVec F S8x3072x768 .f32) (b2 : FVec F S8x768 .f32) : FVec F S8x2048x768 .f32 :=
  addf (Host.dotGeneral dot_S8x2048x3072_S8x3072x768_S8x2048x768_2_1_1_2_0_0 none h w2)
    (broadcastInDim S8x2048x768 ![0, 1, 2] bcast_S8x1x768_S8x2048x768_0_1_2 (broadcastInDim S8x1x768 ![0, 2] bcast_S8x768_S8x1x768_0_2 b2))

/-- An index of `n` counted from the end if negative. -/
def wrap (n : BitVec 32) (i : IVec S2048 32) : IVec S2048 32 :=
  select (cmpi .slt i (broadcastInDim S2048 ![] bcast_S_S2048 (constantI S_ 32 0#32))) (addi i (broadcastInDim S2048 ![] bcast_S_S2048 (constantI S_ 32 n))) i

/-- Expert and token, side by side. -/
def pairs (i : IVec S2048 32) : IVec S2048x2 32 :=
  concatenate S2048x2 1 [⟨S2048x1, broadcastInDim S2048x1 ![0] bcast_S2048_S2048x1_0 (wrap 8#32 i)⟩,
    ⟨S2048x1, broadcastInDim S2048x1 ![0] bcast_S2048_S2048x1_0 (wrap 2048#32 (iotaInDim S2048 32 0))⟩] concatenates_S2048x1_S2048x1_S2048x2_d1

/-- The rows of the named experts. -/
def rows (E : FVec F S8x2048x768 .f32) (i : IVec S2048 32) : FVec F S2048x768 .f32 :=
  Host.gather gather_S8x2048x768_S2048x2_S2048x768_1_01_n_n_01_1_11768 E (pairs i)

/-- The weighted sum of the two rows. -/
def mix (E : FVec F S8x2048x768 .f32) (w : FVec F S2048x2 .f32) (i : IVec S2048x2 32) : FVec F S2048x768 .f32 :=
  addf (addf (broadcastInDim S2048x768 ![] bcast_S_S2048x768 (constant S_ .f32 0x00000000#32))
      (mulf (broadcastInDim S2048x768 ![0, 1] bcast_S2048x1_S2048x768_0_1 (extractStridedSlice S2048x1 ![0, 0] w slices_S2048x2_S2048x1_0_0))
        (rows E (shapeCast _ (extractStridedSlice S2048x1 ![0, 0] i slices_S2048x2_S2048x1_0_0) shapeCasts_S2048x1_S2048))))
    (mulf (broadcastInDim S2048x768 ![0, 1] bcast_S2048x1_S2048x768_0_1 (extractStridedSlice S2048x1 ![0, 1] w slices_S2048x2_S2048x1_0_1))
      (rows E (shapeCast _ (extractStridedSlice S2048x1 ![0, 1] i slices_S2048x2_S2048x1_0_1) shapeCasts_S2048x1_S2048)))

section Res
variable (m : (ℓ : Loc nD τ sig) → Buf (Elt F) ℓ) (c : Dev nD)
open Cert.Proof.Router.Ref (softm expo logits topW topV topI cv util hot)

abbrev W : FVec F S2048x8 .f32 := softm (expo (logits (m ((c.tc : Thread nD τ).loc main_arg0)) (m ((c.tc : Thread nD τ).loc main_arg1)) (m ((c.tc : Thread nD τ).loc main_arg2))))

theorem res0 : res_main_v88 m c = shapeCast _ (mix (exps (gel (hid (m ((c.tc : Thread nD τ).loc main_arg0)) (m ((c.tc : Thread nD τ).loc main_arg3)) (m ((c.tc : Thread nD τ).loc main_arg4))))
    (m ((c.tc : Thread nD τ).loc main_arg5)) (m ((c.tc : Thread nD τ).loc main_arg6))) (topW (topV (W m c))) (topI (W m c))) shapeCasts_S2048x768_S1x2048x768 := rfl

theorem res1 : res_main_v87 m c = mulf (cv (util (hot (topI (W m c))))) (cv (util (hot (topI (W m c))))) := rfl
end Res

section Readings

theorem hid_apply (x : FVec Ideal S1x2048x768 .f32) (w1 : FVec Ideal S8x768x3072 .f32) (b1 : FVec Ideal S8x3072 .f32) (e : Fin 8) (t : Fin 2048) (k : Fin 3072) :
    hid x w1 b1 (ix3 e t k) = ∑ j : Fin 768, w1 (ix3 e j k) * x (ix3 0 t j) + b1 (ix2 e k) := by
  pointwise [hid]

theorem gel_apply (h : FVec Ideal S8x2048x3072 .f32) (i : S8x2048x3072.Idx) : gel h i = act (h i) := by
  show Ideal.ofBits .f32 0x3F000000#32 * h i * Ideal.erfc (-(h i) * Ideal.ofBits .f32 0x3F3504F3#32) = _
  have h1 : Ideal.ofBits .f32 0x3F800000#32 = 1 := by
    simp [Ideal.ofBits, Ideal.ieee]
    rw [← EReal.coe_mul]
    norm_num
  rw [EReal.neg_mul, Ideal.erfc_neg]
  unfold act
  rw [h1]

theorem exps_apply (h : FVec Ideal S8x2048x3072 .f32) (w2 : FVec Ideal S8x3072x768 .f32) (b2 : FVec Ideal S8x768 .f32) (e : Fin 8) (t : Fin 2048) (c : Fin 768) :
    exps h w2 b2 (ix3 e t c) = ∑ k : Fin 3072, h (ix3 e t k) * w2 (ix3 e k c) + b2 (ix2 e c) := by
  pointwise [exps]

theorem gather_pair {α : Type} (x : S8x2048x768.Idx → α) (idx : IVec S2048x2 32) (t : Fin 2048) (y : Fin 768) (e : Fin 8) (b : Fin 2048)
    (h0 : idx (ix2 t (0 : Fin 2)) = BitVec.ofNat 32 e.val) (h1 : idx (ix2 t (1 : Fin 2)) = BitVec.ofNat 32 b.val) :
    Host.gather gather_S8x2048x768_S2048x2_S2048x768_1_01_n_n_01_1_11768 x idx (ix2 t y) = x (ix3 e b y) := by
  unfold Host.gather
  refine congrArg x (funext fun a => Fin.ext ?_)
  match a with
  | ⟨0, _⟩ =>
    show GatherDims.start _ (ix2 t y) idx 0 + GatherDims.batchCoord _ (ix2 t y) 0 + GatherDims.offCoord _ (ix2 t y) 0 = e.val
    rw [GatherDims.batchCoord_eq_zero _ _ _ List.not_mem_nil, GatherDims.offCoord_eq_zero _ _ _ (by decide)]
    simp only [Nat.add_zero]
    unfold GatherDims.start
    have hm : (0 : Fin S8x2048x768.rank) ∈ gather_S8x2048x768_S2048x2_S2048x768_1_01_n_n_01_1_11768.startIndexMap := by decide
    rw [dif_pos hm]
    have hsi : GatherDims.siIdx gather_S8x2048x768_S2048x2_S2048x768_1_01_n_n_01_1_11768 (ix2 t y) ⟨List.idxOf (0 : Fin S8x2048x768.rank) gather_S8x2048x768_S2048x2_S2048x768_1_01_n_n_01_1_11768.startIndexMap, List.idxOf_lt_length_iff.2 hm⟩ = ix2 t (0 : Fin 2) := by
      funext b'
      match b' with
      | ⟨0, _⟩ => rfl
      | ⟨1, _⟩ => rfl
    have he := e.isLt
    rw [hsi, h0, StableHlo.Predicate.toInt_ofNat_small _ (by omega)]
    show min ((e.val : Int)).toNat (8 - 1) = e.val
    omega
  | ⟨1, _⟩ =>
    show GatherDims.start _ (ix2 t y) idx 1 + GatherDims.batchCoord _ (ix2 t y) 1 + GatherDims.offCoord _ (ix2 t y) 1 = b.val
    rw [GatherDims.batchCoord_eq_zero _ _ _ List.not_mem_nil, GatherDims.offCoord_eq_zero _ _ _ (by decide)]
    simp only [Nat.add_zero]
    unfold GatherDims.start
    have hm : (1 : Fin S8x2048x768.rank) ∈ gather_S8x2048x768_S2048x2_S2048x768_1_01_n_n_01_1_11768.startIndexMap := by decide
    rw [dif_pos hm]
    have hsi : GatherDims.siIdx gather_S8x2048x768_S2048x2_S2048x768_1_01_n_n_01_1_11768 (ix2 t y) ⟨List.idxOf (1 : Fin S8x2048x768.rank) gather_S8x2048x768_S2048x2_S2048x768_1_01_n_n_01_1_11768.startIndexMap, List.idxOf_lt_length_iff.2 hm⟩ = ix2 t (1 : Fin 2) := by
      funext b'
      match b' with
      | ⟨0, _⟩ => rfl
      | ⟨1, _⟩ => rfl
    have he := b.isLt
    rw [hsi, h1, StableHlo.Predicate.toInt_ofNat_small _ (by omega)]
    show min ((b.val : Int)).toNat (2048 - 1) = b.val
    omega
  | ⟨2, _⟩ =>
    show GatherDims.start _ (ix2 t y) idx 2 + GatherDims.batchCoord _ (ix2 t y) 2 + GatherDims.offCoord _ (ix2 t y) 2 = y.val
    rw [GatherDims.batchCoord_eq_zero _ _ _ List.not_mem_nil, Nat.add_zero]
    unfold GatherDims.start
    rw [dif_neg (show (2 : Fin S8x2048x768.rank) ∉ gather_S8x2048x768_S2048x2_S2048x768_1_01_n_n_01_1_11768.startIndexMap by decide), Nat.zero_add]
    rfl

theorem wrap_apply (n : BitVec 32) (i : IVec S2048 32) (t : Fin 2048) (k : ℕ) (hk : k < 2048) (h : i (ix1 t) = BitVec.ofNat 32 k) :
    wrap n i (ix1 t) = BitVec.ofNat 32 k := by
  show Scalar.select (IntOp.cmpi .slt (i (ix1 t)) 0#32) (IntOp.addi (i (ix1 t)) n) (i (ix1 t)) = _
  rw [h]
  have h0 : (BitVec.ofNat 32 k).slt 0#32 = false := by
    rw [BitVec.slt_eq_decide, decide_eq_false_iff_not, StableHlo.Predicate.toInt_ofNat_small _ (by omega)]
    simp only [BitVec.toInt_zero]
    omega
  show (if BitVec.ofBool ((BitVec.ofNat 32 k).slt 0#32) = 1 then _ else BitVec.ofNat 32 k) = _
  rw [h0]
  exact if_neg (by decide)

theorem rows_apply (E : FVec Ideal S8x2048x768 .f32) (i : IVec S2048 32) (t : Fin 2048) (y : Fin 768) (e : Fin 8) (h : i (ix1 t) = BitVec.ofNat 32 e.val) :
    rows E i (ix2 t y) = E (ix3 e t y) := by
  refine gather_pair E (pairs i) t y e t ?_ ?_
  · refine (concatenate_pair_apply_left (t := S2048x2) (s₁ := S2048x1) (s₂ := S2048x1) (1 : Fin 2) _ _ _ (ix2 t (0 : Fin 2)) rfl (ix2 t (0 : Fin 1)) fun b => ?_).trans ?_
    · fin_cases b <;> rfl
    · have hw := wrap_apply 8#32 i t e.val (by omega) h
      rw [← hw]
      pointwise
  · refine (concatenate_pair_apply_right (t := S2048x2) (s₁ := S2048x1) (s₂ := S2048x1) (1 : Fin 2) _ _ _ (ix2 t (1 : Fin 2)) rfl rfl (ix2 t (0 : Fin 1)) (fun b hb => ?_) rfl).trans ?_
    · fin_cases b
      · rfl
      · exact absurd rfl hb
    · have hw := wrap_apply 2048#32 (iotaInDim S2048 32 0) t t.val t.isLt rfl
      rw [← hw]
      pointwise

theorem mix_apply (E : FVec Ideal S8x2048x768 .f32) (w : FVec Ideal S2048x2 .f32) (i : IVec S2048x2 32) (t : Fin 2048) (y : Fin 768) (a c : Fin 8)
    (ha : i (ix2 t 0) = BitVec.ofNat 32 a.val) (hc : i (ix2 t 1) = BitVec.ofNat 32 c.val) :
    mix E w i (ix2 t y) = w (ix2 t 0) * E (ix3 a t y) + w (ix2 t 1) * E (ix3 c t y) := by
  have r0 := rows_apply E (shapeCast _ (extractStridedSlice S2048x1 ![0, 0] i slices_S2048x2_S2048x1_0_0) shapeCasts_S2048x1_S2048) t y a (by rw [← ha]; pointwise)
  have r1 := rows_apply E (shapeCast _ (extractStridedSlice S2048x1 ![0, 1] i slices_S2048x2_S2048x1_0_1) shapeCasts_S2048x1_S2048) t y c (by rw [← hc]; pointwise)
  rw [← r0, ← r1]
  generalize hR0 : rows E (shapeCast _ (extractStridedSlice S2048x1 ![0, 0] i slices_S2048x2_S2048x1_0_0) shapeCasts_S2048x1_S2048) = R0
  generalize hR1 : rows E (shapeCast _ (extractStridedSlice S2048x1 ![0, 1] i slices_S2048x2_S2048x1_0_1) shapeCasts_S2048x1_S2048) = R1
  unfold mix
  rw [hR0, hR1]
  have hz : Ideal.ofBits .f32 0x00000000#32 = 0 := by simp [Ideal.ofBits, Ideal.ieee]
  pointwise

end Readings
end Cert.Proof.Whole.Ref
-- ==== Proof.WholeDispatch.lean ====
/-
  One task of the dispatch call: its tokens' two position lists and rows fetched, each row scattered strip by strip to the
  two positions of its token; the first task also puts every token's weights at its positions.
-/
module

public import proofs.«01_k».proof.Proof.WholeWeights

@[expose] public section
noncomputable section
namespace Cert.Proof.Whole
open Cert.WholeIdeal Cert.WholeIdeal.Gen
open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
variable {F : FTy → Type}
local notation "𝕄" => MT nD τ sig (HIx 2) (Elt F) ℕ UU ℕ
variable [FloatOps F]

/-! ## The task's semaphores and buffers -/

/-- The task's transfer cells. -/
def dcell (d : Dev nD) (L : grid1.Coords) (k : Fin 20) : GSem nD τ sig := cell d L ⟨10 + k.val, by omega⟩

/-- The task's scratch buffers. -/
def dscr : Fin 8 → Ref sig .scVector
  | 0 => cc1_scratch0 | 1 => cc1_scratch1 | 2 => cc1_scratch2 | 3 => cc1_scratch3
  | 4 => cc1_scratch4 | 5 => cc1_scratch5 | 6 => cc1_scratch6 | 7 => cc1_scratch7

omit [FloatOps F] in
/-- The twenty transfer cells are among the subcore's own semaphores. -/
theorem ownSems0_D (d : Dev nD) (L : grid1.Coords) :
    (ownSems0 (thr d L) : sProp 𝕄)
      = iprop((semVal (cell d L 10) 0 ∗ semVal (cell d L 11) 0 ∗ semVal (cell d L 12) 0 ∗ semVal (cell d L 13) 0 ∗ semVal (cell d L 14) 0
          ∗ semVal (cell d L 15) 0 ∗ semVal (cell d L 16) 0 ∗ semVal (cell d L 17) 0 ∗ semVal (cell d L 18) 0 ∗ semVal (cell d L 19) 0
          ∗ semVal (cell d L 20) 0 ∗ semVal (cell d L 21) 0 ∗ semVal (cell d L 22) 0 ∗ semVal (cell d L 23) 0 ∗ semVal (cell d L 24) 0
          ∗ semVal (cell d L 25) 0 ∗ semVal (cell d L 26) 0 ∗ semVal (cell d L 27) 0 ∗ semVal (cell d L 28) 0 ∗ semVal (cell d L 29) 0)
          ∗ bigSep (ownCells (thr d L) \ (Finset.univ : Finset (Fin 20)).image (dcell d L)) fun g => semVal g 0) := by
  unfold SparseCore.Cfg.ownSems0
  rw [bigSep_sdiff_split (t := (Finset.univ : Finset (Fin 20)).image (dcell d L)) (fun g hg => by
      obtain ⟨k, -, rfl⟩ := Finset.mem_image.mp hg
      exact mem_ownCells.mpr ⟨rfl, cell_scoped d L _ (by show 10 ≤ 10 + k.val; omega) (by show ¬ (30 ≤ 10 + k.val ∧ 10 + k.val < 44); omega)⟩),
    SparseCore.bigSep_image_of_injOn (fun k _ k' _ h => by
      have := congrArg Fin.val (SemLoc.dma.inj (Prod.ext_iff.mp h).2)
      exact Fin.ext (by have h' : 10 + k.val = 10 + k'.val := this; omega))]
  simp only [bigSep_univ_succ, bigSep_univ_of_subsingleton (0 : Fin 1)]
  rfl

theorem dscr_inj : ∀ {k k' : Fin 8}, dscr k = dscr k' → k = k' := by decide

omit [FloatOps F] in
/-- The eight scratch buffers are among the subcore's own. -/
theorem ownBufs_D (d : Dev nD) (L : grid1.Coords) :
    (ownBufs (thr d L) : sProp 𝕄)
      = iprop(((∃ f, (thr d L).loc cc1_scratch0 ↦{fullShare} f) ∗ (∃ f, (thr d L).loc cc1_scratch1 ↦{fullShare} f)
          ∗ (∃ f, (thr d L).loc cc1_scratch2 ↦{fullShare} f) ∗ (∃ f, (thr d L).loc cc1_scratch3 ↦{fullShare} f)
          ∗ (∃ f, (thr d L).loc cc1_scratch4 ↦{fullShare} f) ∗ (∃ f, (thr d L).loc cc1_scratch5 ↦{fullShare} f)
          ∗ (∃ f, (thr d L).loc cc1_scratch6 ↦{fullShare} f) ∗ (∃ f, (thr d L).loc cc1_scratch7 ↦{fullShare} f))
          ∗ bigSep (ownRefs (τ := τ) (.scVector (cV L) (jV L)) \ (Finset.univ : Finset (Fin 8)).image
              fun k => (Proc.scVector (cV L) (jV L)).devRef (dscr k)) fun b => iprop(∃ f, ((d, b) : Loc nD τ sig) ↦{fullShare} f)) := by
  unfold SparseCore.Cfg.ownBufs
  rw [bigSep_sdiff_split (t := (Finset.univ : Finset (Fin 8)).image fun k => (Proc.scVector (cV L) (jV L)).devRef (dscr k)) (fun g hg => by
      obtain ⟨k, -, rfl⟩ := Finset.mem_image.mp hg
      refine SparseCore.Cfg.mem_ownRefs_of_owner ?_
      clear hg; fin_cases k <;> rfl),
    SparseCore.bigSep_image_of_injOn (fun k _ k' _ h => by
      exact dscr_inj (Proc.devRef_injective _ h))]
  simp only [bigSep_univ_succ, bigSep_univ_of_subsingleton (0 : Fin 1)]
  rfl

/-! ## The first task's part -/

/-- The list of weights is the first task's alone. -/
def wsRes (d : Dev nD) (L : grid1.Coords) (R : sProp 𝕄) : sProp 𝕄 := if k1_cond1 L = 1#1 then R else iprop(emp)

set_option maxHeartbeats 8000000 in
theorem weights_part (d : Dev nD) (L : grid1.Coords) {pa pb : S2048.Idx → Elt F .i32} (hp : Pos pa pb) (wa wb : S2048.Idx → Elt F .f32)
    (O : CellTallies nD τ sig (HIx 2)) (W : Waits sig (HIx 2)) (hO : ∀ g, O g none = 0) (h1 : k1_cond1 L = 1#1) (v1 : BitVec 32) (q : PosShare TreeShare)
    (Φ : PUnit → sProp 𝕄) (k : Prog (TpuEff nD τ sig (Elt F) Λ₀ (thr d L).2) PUnit) :
    iprop(Transfers.MayWaits (thr d L) (default : HIx 2) O ∗ ((paH).view.loc (thr d L) ↦{q} pa) ∗ ((pbH).view.loc (thr d L) ↦{q} pb)
        ∗ ((waH).view.loc (thr d L) ↦{q} wa) ∗ ((wbH).view.loc (thr d L) ↦{q} wb)
        ∗ (∃ f, (uaV).view.loc (thr d L) ↦{fullShare} f) ∗ (∃ f, (ubV).view.loc (thr d L) ↦{fullShare} f)
        ∗ (∃ f, (afV).view.loc (thr d L) ↦{fullShare} f) ∗ (∃ f, (bfV).view.loc (thr d L) ↦{fullShare} f)
        ∗ (∃ f, (usV).view.loc (thr d L) ↦{fullShare} f) ∗ (∃ f, (wsH).view.loc (thr d L) ↦{fullShare} f)
        ∗ semVal (cell d L 25) 0 ∗ semVal (cell d L 26) 0 ∗ semVal (cell d L 27) 0 ∗ semVal (cell d L 28) 0 ∗ semVal (cell d L 29) 0
        ∗ owes (thr d L) O W ∗
        ((((paH).view.loc (thr d L) ↦{q} pa) ∗ ((pbH).view.loc (thr d L) ↦{q} pb)
          ∗ ((waH).view.loc (thr d L) ↦{q} wa) ∗ ((wbH).view.loc (thr d L) ↦{q} wb)
          ∗ (∃ f, (uaV).view.loc (thr d L) ↦{fullShare} f) ∗ (∃ f, (ubV).view.loc (thr d L) ↦{fullShare} f)
          ∗ (∃ f, (afV).view.loc (thr d L) ↦{fullShare} f) ∗ (∃ f, (bfV).view.loc (thr d L) ↦{fullShare} f)
          ∗ (∃ f, (usV).view.loc (thr d L) ↦{fullShare} f) ∗ (∃ f, ⌜Put pa pb wa wb 128 f⌝ ∗ (wsH).view.loc (thr d L) ↦{fullShare} f)
          ∗ semVal (cell d L 25) 0 ∗ semVal (cell d L 26) 0 ∗ semVal (cell d L 27) 0 ∗ semVal (cell d L 28) 0 ∗ semVal (cell d L 29) 0
          ∗ ∃ W', ⌜OkW W W'⌝ ∗ owes (thr d L) O W') -∗ wp frame (wpE (defs₀ (F := F)) 𝒱₀ (thr d L) none) Set.univ k Φ))
      ⊢ (wp frame (wpE (defs₀ (F := F)) 𝒱₀ (thr d L) none) Set.univ
          (do
            Prog.lift (.enqueueDma paH (.here afV) (.dma cc1_scoped3.sem) (Memref.isWhole_whole _).wordExact (Memref.isWhole_whole _).wordExact ⟨Or.inl rfl, trivial⟩)
            Prog.lift (.waitDma2 cc1_scoped3.sem paH afV (Memref.isWhole_whole _).wordExact (Memref.isWhole_whole _).wordExact)
            Prog.lift (.enqueueDma pbH (.here bfV) (.dma cc1_scoped4.sem) (Memref.isWhole_whole _).wordExact (Memref.isWhole_whole _).wordExact ⟨Or.inl rfl, trivial⟩)
            Prog.lift (.waitDma2 cc1_scoped4.sem pbH bfV (Memref.isWhole_whole _).wordExact (Memref.isWhole_whole _).wordExact)
            Prog.lift (.enqueueDma waH (.here uaV) (.dma cc1_scoped5.sem) (Memref.isWhole_whole _).wordExact (Memref.isWhole_whole _).wordExact ⟨Or.inl rfl, trivial⟩)
            Prog.lift (.waitDma2 cc1_scoped5.sem waH uaV (Memref.isWhole_whole _).wordExact (Memref.isWhole_whole _).wordExact)
            Prog.lift (.enqueueDma wbH (.here ubV) (.dma cc1_scoped6.sem) (Memref.isWhole_whole _).wordExact (Memref.isWhole_whole _).wordExact ⟨Or.inl rfl, trivial⟩)
            Prog.lift (.waitDma2 cc1_scoped6.sem wbH ubV (Memref.isWhole_whole _).wordExact (Memref.isWhole_whole _).wordExact)
            Scf.Loop.for k1_t1_loop (k1_t1_ok L h1) ⟨⟩ (k1_t1_body (F := F) L paH (Memref.isWhole_whole _) pbH (Memref.isWhole_whole _) waH (Memref.isWhole_whole _) wbH (Memref.isWhole_whole _)
              xH (Memref.isWhole_whole _) xsH (Memref.isWhole_whole _) wsH (Memref.isWhole_whole _) paS (Memref.isWhole_whole _) pbS (Memref.isWhole_whole _)
              uaV (Memref.isWhole_whole _) ubV (Memref.isWhole_whole _) afV (Memref.isWhole_whole _) bfV (Memref.isWhole_whole _) usV (Memref.isWhole_whole _)
              rwS (Memref.isWhole_whole _) cc1_scratch8 cc1_scratch9 cc1_scoped0 cc1_scoped1 cc1_scoped2 cc1_scoped3 cc1_scoped4 cc1_scoped5 cc1_scoped6 cc1_scoped7
              v1 h1)
            Prog.lift (.enqueueDma usV (.here wsH) (.dma cc1_scoped7.sem) (Memref.isWhole_whole _).wordExact (Memref.isWhole_whole _).wordExact ⟨Or.inl rfl, trivial⟩)
            Prog.lift (.waitDma2 cc1_scoped7.sem usV wsH (Memref.isWhole_whole _).wordExact (Memref.isWhole_whole _).wordExact)
            k) Φ : sProp 𝕄) := by
  iintro ⟨#Hmw, Ha, Hb, Hwa, Hwb, ⟨%f1, Hu⟩, ⟨%f2, Hv⟩, ⟨%f3, Hf⟩, ⟨%f4, Hg⟩, ⟨%f5, Hs⟩, ⟨%f6, Hw⟩, S5, S6, S7, S8, S9, HO, Hk⟩
  sl_exec
  ihave Hf := (Entails.of_eq (congrArg (fun h : Buf (Elt F) ((afV).view.loc (thr d L)) => ((afV).view.loc (thr d L) ↦{fullShare} h : sProp 𝕄))
    (show View.write (Elt F) (afV).view f3 (weights_part.sl.dma0 (F := F)) Finset.univ = pa from View.write_whole_univ _ _ _))) $$ Hf
  ihave Hg := (Entails.of_eq (congrArg (fun h : Buf (Elt F) ((bfV).view.loc (thr d L)) => ((bfV).view.loc (thr d L) ↦{fullShare} h : sProp 𝕄))
    (show View.write (Elt F) (bfV).view f4 (weights_part.sl.dma0_1 (F := F)) Finset.univ = pb from View.write_whole_univ _ _ _))) $$ Hg
  ihave Hu := (Entails.of_eq (congrArg (fun h : Buf (Elt F) ((uaV).view.loc (thr d L)) => ((uaV).view.loc (thr d L) ↦{fullShare} h : sProp 𝕄))
    (show View.write (Elt F) (uaV).view f1 (weights_part.sl.dma0_2 wa) Finset.univ = wa from View.write_whole_univ _ _ _))) $$ Hu
  ihave Hv := (Entails.of_eq (congrArg (fun h : Buf (Elt F) ((ubV).view.loc (thr d L)) => ((ubV).view.loc (thr d L) ↦{fullShare} h : sProp 𝕄))
    (show View.write (Elt F) (ubV).view f2 (weights_part.sl.dma0_3 wb) Finset.univ = wb from View.write_whole_univ _ _ _))) $$ Hv
  sl_for (putInv d L pa pb wa wb) $$ [Hf Hg Hu Hv Hs]
  case region =>
    intro t _
    exact put_trip d L h1 hp wa wb v1 t
  · unfold putInv
    isplitl [Hf]; · iexact Hf
    isplitl [Hg]; · iexact Hg
    isplitl [Hu]; · iexact Hu
    isplitl [Hv]; · iexact Hv
    iexists f5
    isplitr
    · ipureintro
      intro j hj
      exact absurd hj (by omega)
    · iexact Hs
  iintro %_ HI
  have htrips : Scf.trips k1_t1_loop.lb k1_t1_loop.ub k1_t1_loop.st = 128 := by decide
  rw [htrips]
  unfold putInv
  icases HI with ⟨Hf, Hg, Hu, Hv, %f, %hf, Hs⟩
  sl_exec
  ihave Hw := (Entails.of_eq (congrArg (fun h : Buf (Elt F) ((wsH).view.loc (thr d L)) => ((wsH).view.loc (thr d L) ↦{fullShare} h : sProp 𝕄))
    (show View.write (Elt F) (wsH).view f6 (weights_part.sl.dma0_4 (F := F) f) Finset.univ = f from View.write_whole_univ _ _ _))) $$ Hw
  iapply Hk
  isplitl [Ha]; · iexact Ha
  isplitl [Hb]; · iexact Hb
  isplitl [Hwa]; · iexact Hwa
  isplitl [Hwb]; · iexact Hwb
  isplitl [Hu]; · iexists _; iexact Hu
  isplitl [Hv]; · iexists _; iexact Hv
  isplitl [Hf]; · iexists _; iexact Hf
  isplitl [Hg]; · iexists _; iexact Hg
  isplitl [Hs]; · iexists _; iexact Hs
  isplitl [Hw]
  · iexists f
    isplitr
    · ipureintro; exact hf
    · iexact Hw
  isplitl [S5]; · iexact S5
  isplitl [S6]; · iexact S6
  isplitl [S7]; · iexact S7
  isplitl [S8]; · iexact S8
  isplitl [S9]; · iexact S9
  iexists _
  isplitr
  swap; · iexact HO
  ipureintro
  exact (okW_self W).insert.insert.insert.insert.insert

set_option maxHeartbeats 8000000 in
theorem weights_any (d : Dev nD) (L : grid1.Coords) {pa pb : S2048.Idx → Elt F .i32} (hp : Pos pa pb) (wa wb : S2048.Idx → Elt F .f32)
    (O : CellTallies nD τ sig (HIx 2)) (W : Waits sig (HIx 2)) (hO : ∀ g, O g none = 0) (v1 : BitVec 32) (q : PosShare TreeShare)
    (Φ : PUnit → sProp 𝕄) (k : Prog (TpuEff nD τ sig (Elt F) Λ₀ (thr d L).2) PUnit) :
    iprop(Transfers.MayWaits (thr d L) (default : HIx 2) O ∗ ((paH).view.loc (thr d L) ↦{q} pa) ∗ ((pbH).view.loc (thr d L) ↦{q} pb)
        ∗ ((waH).view.loc (thr d L) ↦{q} wa) ∗ ((wbH).view.loc (thr d L) ↦{q} wb)
        ∗ (∃ f, (uaV).view.loc (thr d L) ↦{fullShare} f) ∗ (∃ f, (ubV).view.loc (thr d L) ↦{fullShare} f)
        ∗ (∃ f, (afV).view.loc (thr d L) ↦{fullShare} f) ∗ (∃ f, (bfV).view.loc (thr d L) ↦{fullShare} f)
        ∗ (∃ f, (usV).view.loc (thr d L) ↦{fullShare} f) ∗ wsRes d L iprop(∃ f, (wsH).view.loc (thr d L) ↦{fullShare} f)
        ∗ semVal (cell d L 25) 0 ∗ semVal (cell d L 26) 0 ∗ semVal (cell d L 27) 0 ∗ semVal (cell d L 28) 0 ∗ semVal (cell d L 29) 0
        ∗ owes (thr d L) O W ∗
        ((((paH).view.loc (thr d L) ↦{q} pa) ∗ ((pbH).view.loc (thr d L) ↦{q} pb)
          ∗ ((waH).view.loc (thr d L) ↦{q} wa) ∗ ((wbH).view.loc (thr d L) ↦{q} wb)
          ∗ (∃ f, (uaV).view.loc (thr d L) ↦{fullShare} f) ∗ (∃ f, (ubV).view.loc (thr d L) ↦{fullShare} f)
          ∗ (∃ f, (afV).view.loc (thr d L) ↦{fullShare} f) ∗ (∃ f, (bfV).view.loc (thr d L) ↦{fullShare} f)
          ∗ (∃ f, (usV).view.loc (thr d L) ↦{fullShare} f) ∗ wsRes d L iprop(∃ f, ⌜Put pa pb wa wb 128 f⌝ ∗ (wsH).view.loc (thr d L) ↦{fullShare} f)
          ∗ semVal (cell d L 25) 0 ∗ semVal (cell d L 26) 0 ∗ semVal (cell d L 27) 0 ∗ semVal (cell d L 28) 0 ∗ semVal (cell d L 29) 0
          ∗ ∃ W', ⌜OkW W W'⌝ ∗ owes (thr d L) O W') -∗ wp frame (wpE (defs₀ (F := F)) 𝒱₀ (thr d L) none) Set.univ k Φ))
      ⊢ (wp frame (wpE (defs₀ (F := F)) 𝒱₀ (thr d L) none) Set.univ
          (do
           if h1 : k1_cond1 L = 1#1 then do
            Prog.lift (.enqueueDma paH (.here afV) (.dma cc1_scoped3.sem) (Memref.isWhole_whole _).wordExact (Memref.isWhole_whole _).wordExact ⟨Or.inl rfl, trivial⟩)
            Prog.lift (.waitDma2 cc1_scoped3.sem paH afV (Memref.isWhole_whole _).wordExact (Memref.isWhole_whole _).wordExact)
            Prog.lift (.enqueueDma pbH (.here bfV) (.dma cc1_scoped4.sem) (Memref.isWhole_whole _).wordExact (Memref.isWhole_whole _).wordExact ⟨Or.inl rfl, trivial⟩)
            Prog.lift (.waitDma2 cc1_scoped4.sem pbH bfV (Memref.isWhole_whole _).wordExact (Memref.isWhole_whole _).wordExact)
            Prog.lift (.enqueueDma waH (.here uaV) (.dma cc1_scoped5.sem) (Memref.isWhole_whole _).wordExact (Memref.isWhole_whole _).wordExact ⟨Or.inl rfl, trivial⟩)
            Prog.lift (.waitDma2 cc1_scoped5.sem waH uaV (Memref.isWhole_whole _).wordExact (Memref.isWhole_whole _).wordExact)
            Prog.lift (.enqueueDma wbH (.here ubV) (.dma cc1_scoped6.sem) (Memref.isWhole_whole _).wordExact (Memref.isWhole_whole _).wordExact ⟨Or.inl rfl, trivial⟩)
            Prog.lift (.waitDma2 cc1_scoped6.sem wbH ubV (Memref.isWhole_whole _).wordExact (Memref.isWhole_whole _).wordExact)
            Scf.Loop.for k1_t1_loop (k1_t1_ok L h1) ⟨⟩ (k1_t1_body (F := F) L paH (Memref.isWhole_whole _) pbH (Memref.isWhole_whole _) waH (Memref.isWhole_whole _) wbH (Memref.isWhole_whole _)
              xH (Memref.isWhole_whole _) xsH (Memref.isWhole_whole _) wsH (Memref.isWhole_whole _) paS (Memref.isWhole_whole _) pbS (Memref.isWhole_whole _)
              uaV (Memref.isWhole_whole _) ubV (Memref.isWhole_whole _) afV (Memref.isWhole_whole _) bfV (Memref.isWhole_whole _) usV (Memref.isWhole_whole _)
              rwS (Memref.isWhole_whole _) cc1_scratch8 cc1_scratch9 cc1_scoped0 cc1_scoped1 cc1_scoped2 cc1_scoped3 cc1_scoped4 cc1_scoped5 cc1_scoped6 cc1_scoped7
              v1 h1)
            Prog.lift (.enqueueDma usV (.here wsH) (.dma cc1_scoped7.sem) (Memref.isWhole_whole _).wordExact (Memref.isWhole_whole _).wordExact ⟨Or.inl rfl, trivial⟩)
            Prog.lift (.waitDma2 cc1_scoped7.sem usV wsH (Memref.isWhole_whole _).wordExact (Memref.isWhole_whole _).wordExact)
            pure ⟨⟩
           else do
            pure ⟨⟩
           k) Φ : sProp 𝕄) := by
  unfold wsRes
  by_cases h1 : k1_cond1 L = 1#1
  · rw [dif_pos h1, if_pos h1, if_pos h1]
    exact weights_part d L hp wa wb O W hO h1 v1 q Φ k
  · rw [dif_neg h1, if_neg h1, if_neg h1]
    iintro ⟨#Hmw, Ha, Hb, Hwa, Hwb, Hu, Hv, Hf, Hg, Hs, Hw, S5, S6, S7, S8, S9, HO, Hk⟩
    iapply Hk
    isplitl [Ha]; · iexact Ha
    isplitl [Hb]; · iexact Hb
    isplitl [Hwa]; · iexact Hwa
    isplitl [Hwb]; · iexact Hwb
    isplitl [Hu]; · iexact Hu
    isplitl [Hv]; · iexact Hv
    isplitl [Hf]; · iexact Hf
    isplitl [Hg]; · iexact Hg
    isplitl [Hs]; · iexact Hs
    isplitl [Hw]; · iexact Hw
    isplitl [S5]; · iexact S5
    isplitl [S6]; · iexact S6
    isplitl [S7]; · iexact S7
    isplitl [S8]; · iexact S8
    isplitl [S9]; · iexact S9
    iexists W
    isplitr
    · ipureintro; exact okW_self W
    · iexact HO

end Cert.Proof.Whole
-- ==== Proof.WholeRows.lean ====
/-
  What a task of the dispatch call puts: the sorted rows, strip by strip.
-/
module

public import proofs.«01_k».proof.Proof.WholeDispatch

@[expose] public section
noncomputable section
namespace Cert.Proof.Whole
open Cert.WholeIdeal Cert.WholeIdeal.Gen
open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
variable {F : FTy → Type}
local notation "𝕄" => MT nD τ sig (HIx 2) (Elt F) ℕ UU ℕ
variable [FloatOps F]

/-! ## What a task fetches and where it puts it -/

abbrev drow (L : grid1.Coords) : Rect S2048 := Rect.unit (s := S2048) (k1_off1 L) S64.size (k1_off1_inb L)
abbrev xrow (L : grid1.Coords) : Rect S2048x768 := Rect.unit (s := S2048x768) (k1_off2 L) S64x768.size (k1_off2_inb L)

/-- A task's part of a list. -/
abbrev lst {e : EltTy} (L : grid1.Coords) (p : S2048.Idx → Elt F e) : S64.Idx → Elt F e := fun j => p ((drow L).emb j)
/-- A task's rows. -/
abbrev xrows (L : grid1.Coords) (x : S2048x768.Idx → Elt F .f32) : S64x768.Idx → Elt F .f32 := fun y => x ((xrow L).emb y)

/-- A strip of the sorted rows: 128 columns. -/
abbrev xst (o : ℕ) (inb : ∀ a, (![0, o] : Fin 2 → ℕ) a + S6144x128.size a ≤ S6144x768.size a) : Memref sig .scVector .hbm S6144x128 .f32 :=
  (xsH).slice (Rect.unit (s := S6144x768) ![0, o] S6144x128.size inb) (fun _ => rfl)

/-- The rows a task's tokens go to. -/
def Own (pa pb : S2048.Idx → Elt F .i32) (L : grid1.Coords) (n : ℕ) : Prop :=
  (∃ j, (lst L pa j : BitVec 32).toNat = n) ∨ ∃ j, (lst L pb j : BitVec 32).toNat = n

/-- A task's strips of the sorted rows. -/
def strips (d : Dev nD) (pa pb : S2048.Idx → Elt F .i32) (L : grid1.Coords) (f : S6144x768.Idx → Elt F .f32) : sProp 𝕄 :=
  iprop(((xst 0 inb_S6144x768_S6144x128_0_0).view.loc (thr d L) ↦[SparseCore.rowsWhere (xst 0 inb_S6144x768_S6144x128_0_0).view gathers_S6144x128_S64x128.axis (Own pa pb L)]{fullShare} f)
    ∗ ((xst 128 inb_S6144x768_S6144x128_0_128).view.loc (thr d L) ↦[SparseCore.rowsWhere (xst 128 inb_S6144x768_S6144x128_0_128).view gathers_S6144x128_S64x128.axis (Own pa pb L)]{fullShare} f)
    ∗ ((xst 256 inb_S6144x768_S6144x128_0_256).view.loc (thr d L) ↦[SparseCore.rowsWhere (xst 256 inb_S6144x768_S6144x128_0_256).view gathers_S6144x128_S64x128.axis (Own pa pb L)]{fullShare} f)
    ∗ ((xst 384 inb_S6144x768_S6144x128_0_384).view.loc (thr d L) ↦[SparseCore.rowsWhere (xst 384 inb_S6144x768_S6144x128_0_384).view gathers_S6144x128_S64x128.axis (Own pa pb L)]{fullShare} f)
    ∗ ((xst 512 inb_S6144x768_S6144x128_0_512).view.loc (thr d L) ↦[SparseCore.rowsWhere (xst 512 inb_S6144x768_S6144x128_0_512).view gathers_S6144x128_S64x128.axis (Own pa pb L)]{fullShare} f)
    ∗ ((xst 640 inb_S6144x768_S6144x128_0_640).view.loc (thr d L) ↦[SparseCore.rowsWhere (xst 640 inb_S6144x768_S6144x128_0_640).view gathers_S6144x128_S64x128.axis (Own pa pb L)]{fullShare} f))

/-- What a task is given. -/
def dGo (d : Dev nD) (L : grid1.Coords) (pa pb : S2048.Idx → Elt F .i32) (wa wb : S2048.Idx → Elt F .f32) (x : S2048x768.Idx → Elt F .f32)
    (f : S6144x768.Idx → Elt F .f32) (R : sProp 𝕄) : sProp 𝕄 :=
  iprop(((paH).view.loc (thr d L) ↦{shr L} pa) ∗ ((pbH).view.loc (thr d L) ↦{shr L} pb)
    ∗ ((waH).view.loc (thr d L) ↦{shr L} wa) ∗ ((wbH).view.loc (thr d L) ↦{shr L} wb) ∗ ((xH).view.loc (thr d L) ↦{shr L} x)
    ∗ strips d pa pb L f ∗ wsRes d L R)

/-- How a task ends. -/
def dEnd (d : Dev nD) (L : grid1.Coords) (pa pb : S2048.Idx → Elt F .i32) (wa wb : S2048.Idx → Elt F .f32) (x : S2048x768.Idx → Elt F .f32)
    (g : S6144x768.Idx → Elt F .f32) (O : CellTallies nD τ sig (HIx 2)) (W : Waits sig (HIx 2)) : sProp 𝕄 :=
  iprop(dGo d L pa pb wa wb x g iprop(∃ f, ⌜Put pa pb wa wb 128 f⌝ ∗ (wsH).view.loc (thr d L) ↦{fullShare} f)
    ∗ scopedBufs (thr d L) ∗ scopedSems0 (thr d L) ∗ ∃ W', ⌜OkW W W'⌝ ∗ owes (thr d L) O W')

/-- A strip of a task's rows in scratch: 128 columns. -/
abbrev rst (o : ℕ) (inb : ∀ a, (![0, o] : Fin 2 → ℕ) a + S64x128.size a ≤ S64x768.size a) : Memref sig .scVector .vmem S64x128 .f32 :=
  (rwS).slice (Rect.unit (s := S64x768) ![0, o] S64x128.size inb) (fun _ => rfl)

def at64 (k : Fin 64) (c : Fin 768) : S64x768.Idx := fun | 0 => k | 1 => c

omit [FloatOps F] in
/-- A memref at an equal shape reads the same elements. -/
theorem read_at_cast {κ : Kind} {sp : Space} {s s' : Shape} {e : EltTy} (m : Memref sig κ sp s e) (hs : s = s') (f : m.view.ty.Contents (Elt F)) (y : s'.Idx) (y₀ : s.Idx)
    (h : ∀ b : Fin s.rank, (y (b.cast (congrArg Shape.rank hs))).val = (y₀ b).val) :
    (m.cast hs rfl).view.read (Elt F) f y = m.view.read (Elt F) f y₀ := by
  subst hs
  obtain rfl : y = y₀ := funext fun b => Fin.ext (h b)
  rfl

/-- One row put: the row's number, and what it then holds. -/
theorem put_row (d : Dev nD) (L : grid1.Coords) (o : ℕ) (inb) (inb') (ys : S64x768.Idx → Elt F .f32) (f : S6144x768.Idx → Elt F .f32)
    (n : Fin 6144) (k : Fin 64) (i : S6144x768.Idx)
    (hi : i ∈ ((xst o inb).view.slice (S6144x128.rowRect gathers_S6144x128_S64x128.axis n)).set) :
    (i 0).val = n.val ∧ ((xst o inb).view.slice (S6144x128.rowRect gathers_S6144x128_S64x128.axis n)).write (Elt F) f
      (SparseCore.scatterRowPayload (F := F) (thr d L) (rst o inb') gathers_S6144x128_S64x128 ys k) Finset.univ i = ys (at64 k (i 1)) := by
  obtain ⟨y, -, rfl⟩ := Finset.mem_map.mp hi
  have y0 : (y (0 : Fin 2)).val = 0 := Nat.lt_one_iff.mp (y (0 : Fin 2)).isLt
  constructor
  · show 0 + 1 * (n.val + 1 * (y (0 : Fin 2)).val) = n.val
    omega
  · refine (View.write_emb_of_mem (Val := Elt F) _ _ (Finset.mem_univ y)).trans ?_
    refine (read_at_cast ((rst o inb').slice (S64x128.rowRect gathers_S6144x128_S64x128.axis' k) (S64x128.stride_rowRect _ _))
      gathers_S6144x128_S64x128.rowShape_eq ys y (fun | (0 : Fin 2) => ⟨(y (0 : Fin 2)).val, (y (0 : Fin 2)).isLt⟩ | (1 : Fin 2) => ⟨(y (1 : Fin 2)).val, (y (1 : Fin 2)).isLt⟩)
      (fun b => match b with | (0 : Fin 2) => rfl | (1 : Fin 2) => rfl)).trans ?_
    refine congrArg ys (funext fun a => match a with
      | (0 : Fin 2) => Fin.ext ?_
      | (1 : Fin 2) => Fin.ext ?_)
    · show 0 + 1 * (k.val + 1 * (y (0 : Fin 2)).val) = k.val
      omega
    · rfl

/-- The sorted rows: at the rows the tokens go to, the tokens' own rows. -/
def Sorted (pa pb : S2048.Idx → Elt F .i32) (x : S2048x768.Idx → Elt F .f32) (g : S6144x768.Idx → Elt F .f32) : Prop :=
  ∀ (t : Fin 2048) (i : S6144x768.Idx), ((pa (ix1 t) : BitVec 32).toNat = (i 0).val ∨ (pb (ix1 t) : BitVec 32).toNat = (i 0).val) →
    g i = x (fun | 0 => t | 1 => i 1)

set_option maxRecDepth 20000 in
/-- A strip after both lists' rows are put holds the sorted rows. -/
theorem put_strip (d : Dev nD) (L : grid1.Coords) {pa pb : S2048.Idx → Elt F .i32} (hp : Pos pa pb) (x : S2048x768.Idx → Elt F .f32)
    (f g : S6144x768.Idx → Elt F .f32) (hg : Sorted pa pb x g) (o : ℕ) (inb) (inb') (hn hn' : S64.numel = 64)
    (hA : ∀ y, ((paS).view.read (Elt F) (lst L pa) y : BitVec 32).toNat < 6144) (hB : ∀ y, ((pbS).view.read (Elt F) (lst L pb) y : BitVec 32).toNat < 6144) :
    ((xst o inb).view.loc (thr d L) ↦[SparseCore.rowsWhere (xst o inb).view gathers_S6144x128_S64x128.axis (Own pa pb L)]{fullShare}
        (SparseCore.scatterBuf (F := F) (thr d L) (xst o inb).view gathers_S6144x128_S64x128.axis
          (SparseCore.rows (F := F) ((pbS).view.read (Elt F) (lst L pb)) hn hB) (SparseCore.scatterRowPayload (F := F) (thr d L) (rst o inb') gathers_S6144x128_S64x128 (xrows L x))
          (SparseCore.scatterBuf (F := F) (thr d L) (xst o inb).view gathers_S6144x128_S64x128.axis
            (SparseCore.rows (F := F) ((paS).view.read (Elt F) (lst L pa)) hn' hA) (SparseCore.scatterRowPayload (F := F) (thr d L) (rst o inb') gathers_S6144x128_S64x128 (xrows L x)) f)) : sProp 𝕄)
      = (xst o inb).view.loc (thr d L) ↦[SparseCore.rowsWhere (xst o inb).view gathers_S6144x128_S64x128.axis (Own pa pb L)]{fullShare} g := by
  refine pointsTo_congr fun i hi => ?_
  obtain ⟨n, hn0, hin⟩ := (SparseCore.mem_rowsWhere (v := (xst o inb).view) (ax := gathers_S6144x128_S64x128.axis) (p := Own pa pb L) (x := i)).mp hi
  have emb : ∀ j : S64.Idx, ix1 (tok L (j 0)) = (drow L).emb j := fun j => funext fun a => match a with
    | (0 : Fin 1) => Fin.ext (by
      show 128 * (L 1).val + 64 * (L 0).val + (j 0).val = k1_off1 L 0 + 1 * (j 0).val
      rw [k1_off1_eq]; show _ = 128 * (L 1).val + 64 * (L 0).val + 1 * (j 0).val; omega)
  have key : ∀ (p : S2048.Idx → Elt F .i32) (j : S64.Idx), (lst L p j : BitVec 32).toNat = n.val →
      p (ix1 (tok L (j 0))) = lst L p j := fun p j _ => congrArg p (emb j)
  have hjA : Function.Injective fun x => ((paS).view.read (Elt F) (lst L pa) x : BitVec 32).toNat := fun x y e => (drow L).emb.injective (hp.ia e)
  have hjB : Function.Injective fun x => ((pbS).view.read (Elt F) (lst L pb) x : BitVec 32).toNat := fun x y e => (drow L).emb.injective (hp.ib e)
  have fin : ∀ (j : S64.Idx) (p : S2048.Idx → Elt F .i32), (p = pa ∨ p = pb) → (lst L p j : BitVec 32).toNat = n.val →
      xrows L x (at64 (j 0) (i 1)) = g i := fun j p hpp e => by
    have h0 := (put_row d L o inb inb' (xrows L x) f n (j 0) i hin).1
    refine Eq.trans (congrArg x (funext fun a => Fin.ext ?_)) (hg (tok L (j 0)) i ?_).symm
    · match a with
      | (0 : Fin 2) =>
        show k1_off2 L 0 + 1 * (j 0).val = 128 * (L 1).val + 64 * (L 0).val + (j 0).val
        rw [k1_off2_eq]; show 128 * (L 1).val + 64 * (L 0).val + 1 * (j 0).val = _; omega
      | (1 : Fin 2) =>
        show k1_off2 L 1 + 1 * (i 1).val = (i 1).val
        rw [k1_off2_eq]; show 0 + 1 * (i 1).val = _; omega
    · rcases hpp with rfl | rfl
      · left; rw [key _ j e, e, h0]
      · right; rw [key _ j e, e, h0]
  have row : ∀ (p : S2048.Idx → Elt F .i32) (r : S64.Idx → Elt F .i32) (_ : r = lst L p) (hn : S64.numel = 64) (hA) (j : S64.Idx), (lst L p j : BitVec 32).toNat = n.val →
      SparseCore.rows (F := F) (si := S64) r hn hA (j 0) = n := fun p r hr hn hA j e => by
    subst hr
    refine Fin.ext (Eq.trans ?_ e)
    refine congrArg (fun z => (lst L p z : BitVec 32).toNat) ?_
    refine (Equiv.symm_apply_eq _).mpr (Fin.ext ?_)
    exact (Shape.rowMajor_val_one j).symm
  by_cases hb : ∃ j, (lst L pb j : BitVec 32).toNat = n.val
  · obtain ⟨j, e⟩ := hb
    have hk := row pb ((pbS).view.read (Elt F) (lst L pb)) rfl hn hB j e
    have hin' := hin
    rw [← hk] at hin'
    refine (SparseCore.scatterBuf_of_mem (thr d L) _ _ _ (SparseCore.rows_injective hjB) _ _ hin').trans ?_
    exact (put_row d L o inb inb' (xrows L x) _ _ (j 0) i hin').2.trans (fin j pb (.inr rfl) e)
  · have ha := hn0.resolve_right hb
    obtain ⟨j, e⟩ := ha
    refine (SparseCore.scatterBuf_of_not_mem (thr d L) _ _ _ _ _ ?_).trans ?_
    · intro hm
      obtain ⟨k, -, hk⟩ := Finset.mem_biUnion.mp hm
      refine hb ⟨S64.rowMajor.symm (k.cast hn.symm), ?_⟩
      exact ((put_row d L o inb inb' (xrows L x) f _ k i hk).1.symm.trans (put_row d L o inb inb' (xrows L x) f n k i hin).1)
    have hk := row pa ((paS).view.read (Elt F) (lst L pa)) rfl hn' hA j e
    have hin' := hin
    rw [← hk] at hin'
    refine (SparseCore.scatterBuf_of_mem (thr d L) _ _ _ (SparseCore.rows_injective hjA) _ _ hin').trans ?_
    exact (put_row d L o inb inb' (xrows L x) _ _ (j 0) i hin').2.trans (fin j pa (.inl rfl) e)

end Cert.Proof.Whole
-- ==== Proof.WholeScatter.lean ====
/-
  One task of the dispatch call, whole.
-/
module

public import proofs.«01_k».proof.Proof.WholeRows

@[expose] public section
noncomputable section
namespace Cert.Proof.Whole
open Cert.WholeIdeal Cert.WholeIdeal.Gen
open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
variable {F : FTy → Type}
local notation "𝕄" => MT nD τ sig (HIx 2) (Elt F) ℕ UU ℕ
variable [FloatOps F]

set_option maxHeartbeats 16000000 in
theorem dispatch_tile (hF : (K (F := F)).Facts) (d : Dev nD) (L : grid1.Coords) {pa pb : S2048.Idx → Elt F .i32} (hp : Pos pa pb) (wa wb : S2048.Idx → Elt F .f32)
    (x : S2048x768.Idx → Elt F .f32) (f g : S6144x768.Idx → Elt F .f32) (hg : Sorted pa pb x g)
    (O : CellTallies nD τ sig (HIx 2)) (W : Waits sig (HIx 2)) (hO : ∀ g, O g none = 0) :
    iprop(levAts (K (F := F)).L (K (F := F)).lev ∗ emp ∗ dGo d L pa pb wa wb x f iprop(∃ f, (wsH).view.loc (thr d L) ↦{fullShare} f)
        ∗ scopedBufs (thr d L) ∗ scopedSems0 (thr d L) ∗ owes (thr d L) O W)
      ⊢ (wp frame (wpE (defs₀ (F := F)) 𝒱₀ (thr d L) none) Set.univ
          (cc1__dispatch_body (F := F) L paH (Memref.isWhole_whole _) pbH (Memref.isWhole_whole _) waH (Memref.isWhole_whole _) wbH (Memref.isWhole_whole _)
            xH (Memref.isWhole_whole _) xsH (Memref.isWhole_whole _) wsH (Memref.isWhole_whole _) paS (Memref.isWhole_whole _) pbS (Memref.isWhole_whole _)
            uaV (Memref.isWhole_whole _) ubV (Memref.isWhole_whole _) afV (Memref.isWhole_whole _) bfV (Memref.isWhole_whole _) usV (Memref.isWhole_whole _)
            rwS (Memref.isWhole_whole _) cc1_scratch8 cc1_scratch9 cc1_scoped0 cc1_scoped1 cc1_scoped2 cc1_scoped3 cc1_scoped4 cc1_scoped5 cc1_scoped6 cc1_scoped7)
          fun _ => dEnd d L pa pb wa wb x g O W : sProp 𝕄) := by
  simp only [cc1__dispatch_body_eq_skeleton]
  unfold cc1__dispatch_body_skel
  simp only [k1_part1_eq_skeleton, k1_part2_eq_skeleton, k1_part3_eq_skeleton, k1_part4_eq_skeleton]
  unfold k1_part1_skel k1_part2_skel k1_part3_skel k1_part4_skel
  rw [(K (F := F)).scopedBufs_V hF d (cV L) (jV L), SparseCore.Cfg.scopedSems0_V (Val := Elt F) d (cV L) (jV L), ownSems0_D, ownBufs_D]
  unfold dGo strips
  iintro ⟨#Hlv, -, ⟨Ha, Hb, Hwa, Hwb, Hx, ⟨X0, X1, X2, X3, X4, X5⟩, Hw⟩, ⟨⟨⟨%f0, Hpa⟩, ⟨%f1, Hpb⟩, B2, B3, B4, B5, B6, ⟨%f7, Hrw⟩⟩, Hbufs⟩,
    ⟨⟨S10, S11, S12, S13, S14, S15, S16, S17, S18, S19, S20, S21, S22, S23, S24, S25, S26, S27, S28, S29⟩, Hsems⟩, HO⟩
  ihave Hmw := (show levAts (K (F := F)).L (K (F := F)).lev ⊢ Transfers.MayWaits (thr d L) (default : HIx 2) O from
    (K (F := F)).mayWaits_none (thr := thr d L) hO) $$ Hlv
  ihave Hpa := (Entails.of_eq (show ((thr d L).loc cc1_scratch0 ↦{fullShare} f0 : sProp 𝕄) = (paS).view.loc (thr d L) ↦{fullShare} f0 from rfl)) $$ Hpa
  ihave Hpb := (Entails.of_eq (show ((thr d L).loc cc1_scratch1 ↦{fullShare} f1 : sProp 𝕄) = (pbS).view.loc (thr d L) ↦{fullShare} f1 from rfl)) $$ Hpb
  ihave Hrw := (Entails.of_eq (show ((thr d L).loc cc1_scratch7 ↦{fullShare} f7 : sProp 𝕄) = (rwS).view.loc (thr d L) ↦{fullShare} f7 from rfl)) $$ Hrw
  sl_exec
  have hinA : ∀ x, ((paS).view.read (Elt F) (lst L pa) x : BitVec 32).toNat < 6144 := fun x => hp.la _
  have hinB : ∀ x, ((pbS).view.read (Elt F) (lst L pb) x : BitVec 32).toNat < 6144 := fun x => hp.lb _
  have hjA : Function.Injective fun x => ((paS).view.read (Elt F) (lst L pa) x : BitVec 32).toNat := fun x y e => (drow L).emb.injective (hp.ia e)
  have hjB : Function.Injective fun x => ((pbS).view.read (Elt F) (lst L pb) x : BitVec 32).toNat := fun x y e => (drow L).emb.injective (hp.ib e)
  have hoA : ∀ x, Own pa pb L ((paS).view.read (Elt F) (lst L pa) x : BitVec 32).toNat := fun x => .inl ⟨x, rfl⟩
  have hoB : ∀ x, Own pa pb L ((pbS).view.read (Elt F) (lst L pb) x : BitVec 32).toNat := fun x => .inr ⟨x, rfl⟩
  have hAB : ∀ x y, ((paS).view.read (Elt F) (lst L pa) x : BitVec 32).toNat ≠ ((pbS).view.read (Elt F) (lst L pb) y : BitVec 32).toNat := fun x y => hp.ab _ _
  ihave Hpa := (Entails.of_eq (congrArg (fun h : Buf (Elt F) ((paS).view.loc (thr d L)) => ((paS).view.loc (thr d L) ↦{fullShare} h : sProp 𝕄))
    (show View.write (Elt F) (paS).view f0 (dispatch_tile.sl.dma0 L) Finset.univ = lst L pa from View.write_whole_univ _ _ _))) $$ Hpa
  ihave Hpb := (Entails.of_eq (congrArg (fun h : Buf (Elt F) ((pbS).view.loc (thr d L)) => ((pbS).view.loc (thr d L) ↦{fullShare} h : sProp 𝕄))
    (show View.write (Elt F) (pbS).view f1 (dispatch_tile.sl.dma0_1 L) Finset.univ = lst L pb from View.write_whole_univ _ _ _))) $$ Hpb
  ihave Hrw := (Entails.of_eq (congrArg (fun h : Buf (Elt F) ((rwS).view.loc (thr d L)) => ((rwS).view.loc (thr d L) ↦{fullShare} h : sProp 𝕄))
    (show View.write (Elt F) (rwS).view f7 (dispatch_tile.sl.dma0_2 L x) Finset.univ = xrows L x from View.write_whole_univ _ _ _))) $$ Hrw
  ihave Hpa := (Entails.of_eq (pointsTo_six (F := F) (ℓ := (paS).view.loc (thr d L)) Finset.univ (lst L pa) fullShare)) $$ Hpa
  ihave Hpb := (Entails.of_eq (pointsTo_six (F := F) (ℓ := (pbS).view.loc (thr d L)) Finset.univ (lst L pb) fullShare)) $$ Hpb
  icases Hpa with ⟨A0, A1, A2, A3, A4, A5⟩
  icases Hpb with ⟨C0, C1, C2, C3, C4, C5⟩
  ihave Hrw := (pointsTo_share (PosShare.mem_left_op_right fullShare)).1 $$ Hrw
  icases Hrw with ⟨Hy, Hy'⟩
  ihave Hy := (Entails.of_eq (pointsTo_six (F := F) (ℓ := (rwS).view.loc (thr d L)) Finset.univ (xrows L x) (fullShare).left)) $$ Hy
  ihave Hy' := (Entails.of_eq (pointsTo_six (F := F) (ℓ := (rwS).view.loc (thr d L)) Finset.univ (xrows L x) (fullShare).right)) $$ Hy'
  icases Hy with ⟨Y0, Y1, Y2, Y3, Y4, Y5⟩
  icases Hy' with ⟨Y6, Y7, Y8, Y9, Y10, Y11⟩
  sl_exec
  rw [wp_bind]
  iapply (weights_any d L hp wa wb O _ hO _ (shr L) _ _)
  isplitr; · iexact Hmw
  isplitl [Ha]; · iexact Ha
  isplitl [Hb]; · iexact Hb
  isplitl [Hwa]; · iexact Hwa
  isplitl [Hwb]; · iexact Hwb
  isplitl [B2]; · iexact B2
  isplitl [B3]; · iexact B3
  isplitl [B4]; · iexact B4
  isplitl [B5]; · iexact B5
  isplitl [B6]; · iexact B6
  isplitl [Hw]; · iexact Hw
  isplitl [S25]; · iexact S25
  isplitl [S26]; · iexact S26
  isplitl [S27]; · iexact S27
  isplitl [S28]; · iexact S28
  isplitl [S29]; · iexact S29
  isplitl [HO]; · iexact HO
  iintro ⟨Ha, Hb, Hwa, Hwb, B2, B3, B4, B5, B6, Hw, S25, S26, S27, S28, S29, %W', %hW, HO⟩
  sl_exec
  ihave X0 := (show ((xst 0 inb_S6144x768_S6144x128_0_0).view.loc (thr d L) ↦[SparseCore.rowsWhere (xst 0 inb_S6144x768_S6144x128_0_0).view gathers_S6144x128_S64x128.axis (Own pa pb L)]{fullShare}
      dispatch_tile.sl.X0_sc1 d L x f hinA hinB : sProp 𝕄) ⊢ _ from
    Entails.of_eq (put_strip d L hp x f g hg 0 inb_S6144x768_S6144x128_0_0 inb_S64x768_S64x128_0_0 rfl rfl hinA hinB)) $$ X0
  ihave X1 := (show ((xst 128 inb_S6144x768_S6144x128_0_128).view.loc (thr d L) ↦[SparseCore.rowsWhere (xst 128 inb_S6144x768_S6144x128_0_128).view gathers_S6144x128_S64x128.axis (Own pa pb L)]{fullShare}
      dispatch_tile.sl.X1_sc3 d L x f hinA hinB : sProp 𝕄) ⊢ _ from
    Entails.of_eq (put_strip d L hp x f g hg 128 inb_S6144x768_S6144x128_0_128 inb_S64x768_S64x128_0_128 rfl rfl hinA hinB)) $$ X1
  ihave X2 := (show ((xst 256 inb_S6144x768_S6144x128_0_256).view.loc (thr d L) ↦[SparseCore.rowsWhere (xst 256 inb_S6144x768_S6144x128_0_256).view gathers_S6144x128_S64x128.axis (Own pa pb L)]{fullShare}
      dispatch_tile.sl.X2_sc5 d L x f hinA hinB : sProp 𝕄) ⊢ _ from
    Entails.of_eq (put_strip d L hp x f g hg 256 inb_S6144x768_S6144x128_0_256 inb_S64x768_S64x128_0_256 rfl rfl hinA hinB)) $$ X2
  ihave X3 := (show ((xst 384 inb_S6144x768_S6144x128_0_384).view.loc (thr d L) ↦[SparseCore.rowsWhere (xst 384 inb_S6144x768_S6144x128_0_384).view gathers_S6144x128_S64x128.axis (Own pa pb L)]{fullShare}
      dispatch_tile.sl.X3_sc7 d L x f hinA hinB : sProp 𝕄) ⊢ _ from
    Entails.of_eq (put_strip d L hp x f g hg 384 inb_S6144x768_S6144x128_0_384 inb_S64x768_S64x128_0_384 rfl rfl hinA hinB)) $$ X3
  ihave X4 := (show ((xst 512 inb_S6144x768_S6144x128_0_512).view.loc (thr d L) ↦[SparseCore.rowsWhere (xst 512 inb_S6144x768_S6144x128_0_512).view gathers_S6144x128_S64x128.axis (Own pa pb L)]{fullShare}
      dispatch_tile.sl.X4_sc9 d L x f hinA hinB : sProp 𝕄) ⊢ _ from
    Entails.of_eq (put_strip d L hp x f g hg 512 inb_S6144x768_S6144x128_0_512 inb_S64x768_S64x128_0_512 rfl rfl hinA hinB)) $$ X4
  ihave X5 := (show ((xst 640 inb_S6144x768_S6144x128_0_640).view.loc (thr d L) ↦[SparseCore.rowsWhere (xst 640 inb_S6144x768_S6144x128_0_640).view gathers_S6144x128_S64x128.axis (Own pa pb L)]{fullShare}
      dispatch_tile.sl.X5_sc11 d L x f hinA hinB : sProp 𝕄) ⊢ _ from
    Entails.of_eq (put_strip d L hp x f g hg 640 inb_S6144x768_S6144x128_0_640 inb_S64x768_S64x128_0_640 rfl rfl hinA hinB)) $$ X5
  sl_step
  unfold dEnd dGo strips
  rw [(K (F := F)).scopedBufs_V hF d (cV L) (jV L), SparseCore.Cfg.scopedSems0_V (Val := Elt F) d (cV L) (jV L), ownSems0_D, ownBufs_D]
  isplitl [Ha Hb Hwa Hwb Hx X0 X1 X2 X3 X4 X5 Hw]
  · isplitl [Ha]; · iexact Ha
    isplitl [Hb]; · iexact Hb
    isplitl [Hwa]; · iexact Hwa
    isplitl [Hwb]; · iexact Hwb
    isplitl [Hx]; · iexact Hx
    isplitr [Hw]
    · isplitl [X0]; · iexact X0
      isplitl [X1]; · iexact X1
      isplitl [X2]; · iexact X2
      isplitl [X3]; · iexact X3
      isplitl [X4]; · iexact X4
      iexact X5
    iexact Hw
  isplitl [A0 A1 A2 A3 A4 A5 C0 C1 C2 C3 C4 C5 Y0 Y1 Y2 Y3 Y4 Y5 Y6 Y7 Y8 Y9 Y10 Y11 B2 B3 B4 B5 B6 Hbufs]
  · isplitr [Hbufs]
    · isplitl [A0 A1 A2 A3 A4 A5]
      · iexists (lst L pa)
        iapply (Entails.of_eq (pointsTo_six (F := F) (ℓ := (paS).view.loc (thr d L)) Finset.univ (lst L pa) fullShare).symm)
        isplitl [A0]; · iexact A0
        isplitl [A1]; · iexact A1
        isplitl [A2]; · iexact A2
        isplitl [A3]; · iexact A3
        isplitl [A4]; · iexact A4
        iexact A5
      isplitl [C0 C1 C2 C3 C4 C5]
      · iexists (lst L pb)
        iapply (Entails.of_eq (pointsTo_six (F := F) (ℓ := (pbS).view.loc (thr d L)) Finset.univ (lst L pb) fullShare).symm)
        isplitl [C0]; · iexact C0
        isplitl [C1]; · iexact C1
        isplitl [C2]; · iexact C2
        isplitl [C3]; · iexact C3
        isplitl [C4]; · iexact C4
        iexact C5
      isplitl [B2]; · iexact B2
      isplitl [B3]; · iexact B3
      isplitl [B4]; · iexact B4
      isplitl [B5]; · iexact B5
      isplitl [B6]; · iexact B6
      iexists (xrows L x)
      iapply (pointsTo_share (PosShare.mem_left_op_right fullShare)).2
      isplitl [Y0 Y1 Y2 Y3 Y4 Y5]
      · iapply (Entails.of_eq (pointsTo_six (F := F) (ℓ := (rwS).view.loc (thr d L)) Finset.univ (xrows L x) (fullShare).left).symm)
        isplitl [Y0]; · iexact Y0
        isplitl [Y1]; · iexact Y1
        isplitl [Y2]; · iexact Y2
        isplitl [Y3]; · iexact Y3
        isplitl [Y4]; · iexact Y4
        iexact Y5
      · iapply (Entails.of_eq (pointsTo_six (F := F) (ℓ := (rwS).view.loc (thr d L)) Finset.univ (xrows L x) (fullShare).right).symm)
        isplitl [Y6]; · iexact Y6
        isplitl [Y7]; · iexact Y7
        isplitl [Y8]; · iexact Y8
        isplitl [Y9]; · iexact Y9
        isplitl [Y10]; · iexact Y10
        iexact Y11
    iexact Hbufs
  isplitr [HO]
  · isplitr [Hsems]
    · isplitl [S10]; · iexact S10
      isplitl [S11]; · iexact S11
      isplitl [S12]; · iexact S12
      isplitl [S13]; · iexact S13
      isplitl [S14]; · iexact S14
      isplitl [S15]; · iexact S15
      isplitl [S16]; · iexact S16
      isplitl [S17]; · iexact S17
      isplitl [S18]; · iexact S18
      isplitl [S19]; · iexact S19
      isplitl [S20]; · iexact S20
      isplitl [S21]; · iexact S21
      isplitl [S22]; · iexact S22
      isplitl [S23]; · iexact S23
      isplitl [S24]; · iexact S24
      isplitl [S25]; · iexact S25
      isplitl [S26]; · iexact S26
      isplitl [S27]; · iexact S27
      isplitl [S28]; · iexact S28
      iexact S29
    iexact Hsems
  iexists _
  isplitr; swap
  · iexact HO
  ipureintro
  have t : OkW W W' := fun p hp => by
    rcases hW p hp with h | h
    · exact (okW_self W).insert.insert.insert p h
    · exact .inr h
  exact t.insert.insert.insert.insert.insert.insert.insert.insert.insert.insert.insert.insert

end Cert.Proof.Whole
-- ==== Proof.WholeTrip.lean ====
/-
  One trip of the combine task's loop, within the whole kernel: row `t` of the first block of gathered rows becomes its
  sum with row `t` of the second, sixteen columns at a time.
-/
module

public import proofs.«01_k».proof.Proof.WholeTasks
public import proofs.«01_k».proof.Proof.Blocks

@[expose] public section
noncomputable section
namespace Cert.Proof.Whole
open Cert.WholeIdeal Cert.WholeIdeal.Gen
open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
variable {F : FTy → Type}
local notation "𝕄" => MT nD τ sig (HIx 2) (Elt F) ℕ UU ℕ
variable [FloatOps F]
open Cert.Proof.Combine (acc mid mid_acc blk comb rowIx acc_zero acc_full strip_val ix64)

abbrev ysH : Memref sig .scVector .hbm S6144x768 .f32 := Memref.whole main_v13_scv
abbrev paC : Memref sig .scVector .hbm S2048 .i32 := Memref.whole main_v3_scv
abbrev pbC : Memref sig .scVector .hbm S2048 .i32 := Memref.whole main_v4_scv
abbrev oH : Memref sig .scVector .hbm S2048x768 .f32 := Memref.whole main_v14_scv
abbrev pa3 : Memref sig .scVector .vmem S64 .i32 := Memref.whole cc3_scratch0
abbrev pb3 : Memref sig .scVector .vmem S64 .i32 := Memref.whole cc3_scratch1
abbrev ra3 : Memref sig .scVector .vmem S64x768 .f32 := Memref.whole cc3_scratch2
abbrev rb3 : Memref sig .scVector .vmem S64x768 .f32 := Memref.whole cc3_scratch3

/-- A store of strip `n` of row `t` — the sum of the two blocks' strips — takes the columns below `16 n` to those
    below `16 (n + 1)`. -/
theorem mid_step3 (t n : Nat) (f g : S64x768.Idx → Elt F .f32) (off : Fin 2 → Nat) (inb : ∀ a, off a + S1x16.size a ≤ S64x768.size a)
    (w : S1x16.Idx → Elt F .f32) (Lw : List (View.Piece (Elt F) S64x768 .f32)) (hoff : off = ![t, 16 * n])
    (hw : w = shapeCast S1x16 (addf (shapeCast S16 ((ra3).view.readAt (Elt F) (Rect.unit (s := S64x768) off S1x16.size inb).toLoadRect f) shapeCasts_S1x16_S16)
      (shapeCast S16 ((rb3).view.readAt (Elt F) (Rect.unit (s := S64x768) off S1x16.size inb).toLoadRect g) shapeCasts_S1x16_S16)) shapeCasts_S16_S1x16)
    (ih : (ra3).view.writes (Elt F) f Lw = mid t n f g) :
    (ra3).view.writes (Elt F) f (⟨Rect.unit (s := S64x768) off S1x16.size inb, w⟩ :: Lw) = mid t (n + 1) f g := by
  subst hw
  funext y
  have hread : ∀ h : S64x768.Idx → Elt F .f32, h y = (ra3).view.read (Elt F) h y := fun h => (congrFun (View.read_whole (cc3_scratch2 : Ref sig .scVector) h) y).symm
  rw [hread ((ra3).view.writes (Elt F) f _)]
  by_cases hy : (y 0).val = t ∧ 16 * n ≤ (y 1).val ∧ (y 1).val < 16 * n + 16
  · obtain ⟨h0, h1, h2⟩ := hy
    have hx : ∀ a, (y a).val = (Rect.unit (s := S64x768) off S1x16.size inb).off a + (Rect.unit (s := S64x768) off S1x16.size inb).stride a
        * ((fun | 0 => ⟨0, by show 0 < 1; omega⟩ | 1 => ⟨(y 1).val - 16 * n, by show _ < 16; omega⟩ : (Rect.unit (s := S64x768) off S1x16.size inb).shape.Idx) a).val := by
      subst hoff
      intro a
      match a with
      | 0 => show (y 0).val = t + 1 * 0; omega
      | 1 => show (y 1).val = 16 * n + 1 * ((y 1).val - 16 * n); omega
    rw [View.read_writes_cons_hit_of_coords _ _ _ _ _ _ y hx]
    have he := (Rect.unit (s := S64x768) off S1x16.size inb).emb_eq_of_coords _ y hx
    unfold mid
    rw [if_pos ⟨h0, by omega⟩]
    have hc : ∀ x : S1x16.Idx, Shape.reshapeEquiv shapeCasts_S1x16_S16 (Shape.reshapeEquiv shapeCasts_S16_S1x16 x) = x := fun x => by
      rw [Shape.reshapeEquiv_reshapeEquiv]; exact Shape.reshapeEquiv_self _ x
    show FloatOps.addf ((ra3).view.readAt (Elt F) _ f (Shape.reshapeEquiv _ (Shape.reshapeEquiv _ _))) ((rb3).view.readAt (Elt F) _ g (Shape.reshapeEquiv _ (Shape.reshapeEquiv _ _))) = _
    rw [hc]
    exact congrArg₂ FloatOps.addf (congrArg f he) (congrArg g he)
  · rw [View.read_writes_cons_miss, ih, ← hread]
    · unfold mid
      by_cases h : (y 0).val = t ∧ (y 1).val < 16 * n
      · rw [if_pos h, if_pos ⟨h.1, by omega⟩]
      · rw [if_neg h, if_neg (by intro h'; exact hy ⟨h'.1, by omega, by omega⟩)]
    · subst hoff
      intro hm
      obtain ⟨j0, hj0, e0⟩ := (Rect.unit (s := S64x768) ![t, 16 * n] S1x16.size inb).mem_set.mp hm 0
      obtain ⟨j1, hj1, e1⟩ := (Rect.unit (s := S64x768) ![t, 16 * n] S1x16.size inb).mem_set.mp hm 1
      refine hy ⟨?_, ?_, ?_⟩
      · have : j0 < 1 := hj0
        have e0' : (y 0).val = t + 1 * j0 := e0
        omega
      · have e1' : (y 1).val = 16 * n + 1 * j1 := e1
        omega
      · have : j1 < 16 := hj1
        have e1' : (y 1).val = 16 * n + 1 * j1 := e1
        omega

set_option maxHeartbeats 8000000 in
/-- One trip: from both blocks whole, row `t` of the first becomes its sum with row `t` of the second. -/
theorem trip3 (d : Dev nD) (L : grid1.Coords) (t : Fin k3_t1_loop.trips) (f : Buf (Elt F) ((thr d L).loc cc3_scratch2)) (g : Buf (Elt F) ((thr d L).loc cc3_scratch3)) :
    iprop(((ra3).view.loc (thr d L) ↦{fullShare} f) ∗ ((rb3).view.loc (thr d L) ↦{fullShare} g))
      ⊢ (wp frame (wpE (defs₀ (F := F)) 𝒱₀ (thr d L) none) Set.univ
          (k3_t1_body (F := F) L ysH (Memref.isWhole_whole _) paC (Memref.isWhole_whole _) pbC (Memref.isWhole_whole _) oH (Memref.isWhole_whole _)
            pa3 (Memref.isWhole_whole _) pb3 (Memref.isWhole_whole _) ra3 (Memref.isWhole_whole _) rb3 (Memref.isWhole_whole _)
            cc3_scratch4 cc3_scratch5 cc3_scoped0 cc3_scoped1 cc3_scoped2 t ⟨⟩)
          fun _ => iprop(((ra3).view.loc (thr d L) ↦{fullShare} (mid t.val 48 f g : S64x768.Idx → Elt F .f32)) ∗ ((rb3).view.loc (thr d L) ↦{fullShare} g)) : sProp 𝕄) := by
  unfold k3_t1_body
  iintro ⟨Ha, Hb⟩
  sl_exec
  sl_step
  isplitr [Hb]
  · iapply (Entails.of_eq (congrArg (fun h : Buf (Elt F) ((ra3).view.loc (thr d L)) => ((ra3).view.loc (thr d L) ↦{fullShare} h : sProp 𝕄)) ?_))
    swap; · iexact Ha
    refine mid_step3 t.val 47 f g _ _ _ _ (k3_off49_eq t) rfl ?_
    refine mid_step3 t.val 46 f g _ _ _ _ (k3_off48_eq t) rfl ?_
    refine mid_step3 t.val 45 f g _ _ _ _ (k3_off47_eq t) rfl ?_
    refine mid_step3 t.val 44 f g _ _ _ _ (k3_off46_eq t) rfl ?_
    refine mid_step3 t.val 43 f g _ _ _ _ (k3_off45_eq t) rfl ?_
    refine mid_step3 t.val 42 f g _ _ _ _ (k3_off44_eq t) rfl ?_
    refine mid_step3 t.val 41 f g _ _ _ _ (k3_off43_eq t) rfl ?_
    refine mid_step3 t.val 40 f g _ _ _ _ (k3_off42_eq t) rfl ?_
    refine mid_step3 t.val 39 f g _ _ _ _ (k3_off41_eq t) rfl ?_
    refine mid_step3 t.val 38 f g _ _ _ _ (k3_off40_eq t) rfl ?_
    refine mid_step3 t.val 37 f g _ _ _ _ (k3_off39_eq t) rfl ?_
    refine mid_step3 t.val 36 f g _ _ _ _ (k3_off38_eq t) rfl ?_
    refine mid_step3 t.val 35 f g _ _ _ _ (k3_off37_eq t) rfl ?_
    refine mid_step3 t.val 34 f g _ _ _ _ (k3_off36_eq t) rfl ?_
    refine mid_step3 t.val 33 f g _ _ _ _ (k3_off35_eq t) rfl ?_
    refine mid_step3 t.val 32 f g _ _ _ _ (k3_off34_eq t) rfl ?_
    refine mid_step3 t.val 31 f g _ _ _ _ (k3_off33_eq t) rfl ?_
    refine mid_step3 t.val 30 f g _ _ _ _ (k3_off32_eq t) rfl ?_
    refine mid_step3 t.val 29 f g _ _ _ _ (k3_off31_eq t) rfl ?_
    refine mid_step3 t.val 28 f g _ _ _ _ (k3_off30_eq t) rfl ?_
    refine mid_step3 t.val 27 f g _ _ _ _ (k3_off29_eq t) rfl ?_
    refine mid_step3 t.val 26 f g _ _ _ _ (k3_off28_eq t) rfl ?_
    refine mid_step3 t.val 25 f g _ _ _ _ (k3_off27_eq t) rfl ?_
    refine mid_step3 t.val 24 f g _ _ _ _ (k3_off26_eq t) rfl ?_
    refine mid_step3 t.val 23 f g _ _ _ _ (k3_off25_eq t) rfl ?_
    refine mid_step3 t.val 22 f g _ _ _ _ (k3_off24_eq t) rfl ?_
    refine mid_step3 t.val 21 f g _ _ _ _ (k3_off23_eq t) rfl ?_
    refine mid_step3 t.val 20 f g _ _ _ _ (k3_off22_eq t) rfl ?_
    refine mid_step3 t.val 19 f g _ _ _ _ (k3_off21_eq t) rfl ?_
    refine mid_step3 t.val 18 f g _ _ _ _ (k3_off20_eq t) rfl ?_
    refine mid_step3 t.val 17 f g _ _ _ _ (k3_off19_eq t) rfl ?_
    refine mid_step3 t.val 16 f g _ _ _ _ (k3_off18_eq t) rfl ?_
    refine mid_step3 t.val 15 f g _ _ _ _ (k3_off17_eq t) rfl ?_
    refine mid_step3 t.val 14 f g _ _ _ _ (k3_off16_eq t) rfl ?_
    refine mid_step3 t.val 13 f g _ _ _ _ (k3_off15_eq t) rfl ?_
    refine mid_step3 t.val 12 f g _ _ _ _ (k3_off14_eq t) rfl ?_
    refine mid_step3 t.val 11 f g _ _ _ _ (k3_off13_eq t) rfl ?_
    refine mid_step3 t.val 10 f g _ _ _ _ (k3_off12_eq t) rfl ?_
    refine mid_step3 t.val 9 f g _ _ _ _ (k3_off11_eq t) rfl ?_
    refine mid_step3 t.val 8 f g _ _ _ _ (k3_off10_eq t) rfl ?_
    refine mid_step3 t.val 7 f g _ _ _ _ (k3_off9_eq t) rfl ?_
    refine mid_step3 t.val 6 f g _ _ _ _ (k3_off8_eq t) rfl ?_
    refine mid_step3 t.val 5 f g _ _ _ _ (k3_off7_eq t) rfl ?_
    refine mid_step3 t.val 4 f g _ _ _ _ (k3_off6_eq t) rfl ?_
    refine mid_step3 t.val 3 f g _ _ _ _ (k3_off5_eq t) rfl ?_
    refine mid_step3 t.val 2 f g _ _ _ _ (k3_off4_eq t) rfl ?_
    refine mid_step3 t.val 1 f g _ _ _ _ (k3_off3_eq t) rfl ?_
    refine mid_step3 t.val 0 f g _ _ _ _ (k3_off2_eq t) rfl ?_
    · funext y
      exact (if_neg (fun h => absurd h.2 (by omega))).symm
  · iexact Hb

/-- A block written strip by strip with the strips of `G` reads `G`. -/
theorem strips_read3 {κ : Kind} {sp : Space} (v : View sig κ sp S64x768 .f32) (f : v.ty.Contents (Elt F)) (G : S64x768.Idx → Elt F .f32)
    (w0 w1 w2 w3 w4 w5 : S64x128.Idx → Elt F .f32)
    (h0 : ∀ x, w0 x = G ((Rect.unit (s := S64x768) ![0, 0] S64x128.size inb_S64x768_S64x128_0_0).emb x))
    (h1 : ∀ x, w1 x = G ((Rect.unit (s := S64x768) ![0, 128] S64x128.size inb_S64x768_S64x128_0_128).emb x))
    (h2 : ∀ x, w2 x = G ((Rect.unit (s := S64x768) ![0, 256] S64x128.size inb_S64x768_S64x128_0_256).emb x))
    (h3 : ∀ x, w3 x = G ((Rect.unit (s := S64x768) ![0, 384] S64x128.size inb_S64x768_S64x128_0_384).emb x))
    (h4 : ∀ x, w4 x = G ((Rect.unit (s := S64x768) ![0, 512] S64x128.size inb_S64x768_S64x128_0_512).emb x))
    (h5 : ∀ x, w5 x = G ((Rect.unit (s := S64x768) ![0, 640] S64x128.size inb_S64x768_S64x128_0_640).emb x)) (y : S64x768.Idx) :
    v.read (Elt F) (v.writes (Elt F) f
      [⟨Rect.unit (s := S64x768) ![0, 640] S64x128.size inb_S64x768_S64x128_0_640, w5⟩, ⟨Rect.unit (s := S64x768) ![0, 512] S64x128.size inb_S64x768_S64x128_0_512, w4⟩,
        ⟨Rect.unit (s := S64x768) ![0, 384] S64x128.size inb_S64x768_S64x128_0_384, w3⟩, ⟨Rect.unit (s := S64x768) ![0, 256] S64x128.size inb_S64x768_S64x128_0_256, w2⟩,
        ⟨Rect.unit (s := S64x768) ![0, 128] S64x128.size inb_S64x768_S64x128_0_128, w1⟩, ⟨Rect.unit (s := S64x768) ![0, 0] S64x128.size inb_S64x768_S64x128_0_0, w0⟩]) y = G y := by
  refine View.read_writes_apply_of_pieces v f G _ ?_ y ?_
  · simp only [List.forall_mem_cons]
    exact ⟨h5, h4, h3, h2, h1, h0, fun p hp => absurd hp List.not_mem_nil⟩
  · have hy1 : (y 1).val < 768 := (y 1).isLt
    have hy0 : (y 0).val < 64 := (y 0).isLt
    have key : ∀ (o : ℕ) (inb : ∀ a, (![0, o] : Fin 2 → ℕ) a + S64x128.size a ≤ S64x768.size a), o ≤ (y 1).val → (y 1).val < o + 128 →
        y ∈ (Rect.unit (s := S64x768) ![0, o] S64x128.size inb).set := fun o inb hl hu =>
      (Rect.unit (s := S64x768) ![0, o] S64x128.size inb).mem_set.mpr fun a => by
        match a with
        | 0 => exact ⟨(y 0).val, hy0, show (y 0).val = 0 + 1 * (y 0).val by omega⟩
        | 1 => exact ⟨(y 1).val - o, show _ < 128 by omega, show (y 1).val = o + 1 * ((y 1).val - o) by omega⟩
    simp only [List.exists_mem_cons_iff]
    rcases Nat.lt_or_ge (y 1).val 128 with h | h
    · exact .inr (.inr (.inr (.inr (.inr (.inl (key 0 _ (by omega) (by omega)))))))
    rcases Nat.lt_or_ge (y 1).val 256 with h' | h'
    · exact .inr (.inr (.inr (.inr (.inl (key 128 _ (by omega) (by omega))))))
    rcases Nat.lt_or_ge (y 1).val 384 with h'' | h''
    · exact .inr (.inr (.inr (.inl (key 256 _ (by omega) (by omega)))))
    rcases Nat.lt_or_ge (y 1).val 512 with h3' | h3'
    · exact .inr (.inr (.inl (key 384 _ (by omega) (by omega))))
    rcases Nat.lt_or_ge (y 1).val 640 with h4' | h4'
    · exact .inr (.inl (key 512 _ (by omega) (by omega)))
    · exact .inl (key 640 _ (by omega) (by omega))

/-- A buffer held at contents that read `G` is held at `G`. -/
theorem ra3_eq (d : Dev nD) (L : grid1.Coords) {f : (ra3).view.ty.Contents (Elt F)} {G : S64x768.Idx → Elt F .f32}
    (h : ∀ y, (ra3).view.read (Elt F) f y = G y) :
    ((ra3).view.loc (thr d L) ↦{fullShare} f) ⊢ ((ra3).view.loc (thr d L) ↦{fullShare} G : sProp 𝕄) := by
  obtain rfl : f = G := funext h
  exact BI.BIBase.Entails.rfl

theorem rb3_eq (d : Dev nD) (L : grid1.Coords) {f : (rb3).view.ty.Contents (Elt F)} {G : S64x768.Idx → Elt F .f32}
    (h : ∀ y, (rb3).view.read (Elt F) f y = G y) :
    ((rb3).view.loc (thr d L) ↦{fullShare} f) ⊢ ((rb3).view.loc (thr d L) ↦{fullShare} G : sProp 𝕄) := by
  obtain rfl : f = G := funext h
  exact BI.BIBase.Entails.rfl

end Cert.Proof.Whole
-- ==== Proof.WholeCombine.lean ====
/-
  One task of the combine call within the whole kernel: its two position lists fetched, the rows they name gathered strip
  by strip into its two blocks, the blocks summed row by row, the sum written out to its 64 rows of the result.
-/
module

public import proofs.«01_k».proof.Proof.WholeTrip

@[expose] public section
noncomputable section
namespace Cert.Proof.Whole
open Cert.WholeIdeal Cert.WholeIdeal.Gen
open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
variable {F : FTy → Type}
local notation "𝕄" => MT nD τ sig (HIx 2) (Elt F) ℕ UU ℕ
variable [FloatOps F]
open Cert.Proof.Combine (acc mid mid_acc blk comb rowIx acc_zero acc_full strip_val ix64)

variable (ys : S6144x768.Idx → Elt F .f32) (pa pb : S2048.Idx → Elt F .i32)

/-- The combine call's transfer semaphores. -/
abbrev ccell (d : Dev nD) (L : grid1.Coords) (k : Fin 15) : GSem nD τ sig := cell d L ⟨k.val + 44, by omega⟩

omit [FloatOps F] in
/-- The fifteen transfer cells are among the subcore's own semaphores. -/
theorem ownSems0_C (d : Dev nD) (L : grid1.Coords) :
    (ownSems0 (thr d L) : sProp 𝕄)
      = iprop((semVal (cell d L 44) 0 ∗ semVal (cell d L 45) 0 ∗ semVal (cell d L 46) 0 ∗ semVal (cell d L 47) 0 ∗ semVal (cell d L 48) 0
          ∗ semVal (cell d L 49) 0 ∗ semVal (cell d L 50) 0 ∗ semVal (cell d L 51) 0 ∗ semVal (cell d L 52) 0 ∗ semVal (cell d L 53) 0
          ∗ semVal (cell d L 54) 0 ∗ semVal (cell d L 55) 0 ∗ semVal (cell d L 56) 0 ∗ semVal (cell d L 57) 0 ∗ semVal (cell d L 58) 0)
          ∗ bigSep (ownCells (thr d L) \ (Finset.univ : Finset (Fin 15)).image (ccell d L)) fun g => semVal g 0) := by
  unfold SparseCore.Cfg.ownSems0
  rw [bigSep_sdiff_split (t := (Finset.univ : Finset (Fin 15)).image (ccell d L)) (fun g hg => by
      obtain ⟨k, -, rfl⟩ := Finset.mem_image.mp hg
      exact mem_ownCells.mpr ⟨rfl, cell_scoped d L _ (by show 10 ≤ k.val + 44; omega) (by show ¬ (30 ≤ k.val + 44 ∧ k.val + 44 < 44); omega)⟩),
    SparseCore.bigSep_image_of_injOn (fun k _ k' _ h => by
      have := (Prod.ext_iff.mp h).2
      exact Fin.ext (by have e := congrArg Fin.val (SemLoc.dma.inj this); change k.val + 44 = k'.val + 44 at e; omega))]
  simp only [bigSep_univ_succ, bigSep_univ_of_subsingleton (0 : Fin 1)]
  rfl

omit [FloatOps F] in
/-- The four scratch buffers are among the subcore's own. -/
theorem ownBufs_C (d : Dev nD) (L : grid1.Coords) :
    (ownBufs (thr d L) : sProp 𝕄)
      = iprop((∃ f, (thr d L).loc cc3_scratch0 ↦{fullShare} f) ∗ (∃ f, (thr d L).loc cc3_scratch1 ↦{fullShare} f)
          ∗ (∃ f, (thr d L).loc cc3_scratch2 ↦{fullShare} f) ∗ (∃ f, (thr d L).loc cc3_scratch3 ↦{fullShare} f)
          ∗ bigSep (((((ownRefs (τ := τ) (.scVector (cV L) (jV L))).erase ((Proc.scVector (cV L) (jV L)).devRef cc3_scratch0)).erase
              ((Proc.scVector (cV L) (jV L)).devRef cc3_scratch1)).erase ((Proc.scVector (cV L) (jV L)).devRef cc3_scratch2)).erase
              ((Proc.scVector (cV L) (jV L)).devRef cc3_scratch3))
              fun b => iprop(∃ f, ((d, b) : Loc nD τ sig) ↦{fullShare} f)) := by
  unfold SparseCore.Cfg.ownBufs
  have ho : ∀ b : Ref sig .scVector, ((Proc.scVector (cV L) (jV L)).devRef b).owner = .proc (Proc.scVector (cV L) (jV L)) →
      (Proc.scVector (cV L) (jV L)).devRef b ∈ ownRefs (τ := τ) (Proc.scVector (cV L) (jV L)) := fun b h =>
    SparseCore.Cfg.mem_ownRefs_of_owner h
  have hne : ∀ b b' : Ref sig .scVector, b ≠ b' → (Proc.scVector (cV L) (jV L)).devRef b ≠ (Proc.scVector (cV L) (jV L)).devRef b' :=
    fun b b' h e => h (Proc.devRef_injective _ e)
  refine (SparseCore.bigSep_erase' (ho cc3_scratch0 rfl)).trans ?_
  rw [SparseCore.bigSep_erase' (Finset.mem_erase.mpr ⟨hne cc3_scratch1 cc3_scratch0 (by decide), ho cc3_scratch1 rfl⟩),
    SparseCore.bigSep_erase' (Finset.mem_erase.mpr ⟨hne cc3_scratch2 cc3_scratch1 (by decide),
      Finset.mem_erase.mpr ⟨hne cc3_scratch2 cc3_scratch0 (by decide), ho cc3_scratch2 rfl⟩⟩),
    SparseCore.bigSep_erase' (Finset.mem_erase.mpr ⟨hne cc3_scratch3 cc3_scratch2 (by decide),
      Finset.mem_erase.mpr ⟨hne cc3_scratch3 cc3_scratch1 (by decide),
        Finset.mem_erase.mpr ⟨hne cc3_scratch3 cc3_scratch0 (by decide), ho cc3_scratch3 rfl⟩⟩⟩)]

/-! ## The task's parts of the arrays -/

abbrev lrow (L : grid1.Coords) : Rect S2048 := Rect.unit (s := S2048) (k3_off1 L) S64.size (k3_off1_inb L)
abbrev orow (L : grid1.Coords) : Rect S2048x768 := Rect.unit (s := S2048x768) (k3_off50 L) S64x768.size (k3_off50_inb L)
abbrev aK (L : grid1.Coords) : Memref sig .scVector .hbm S64 .i32 := (paC).slice (lrow L) (fun _ => rfl)
abbrev bK (L : grid1.Coords) : Memref sig .scVector .hbm S64 .i32 := (pbC).slice (lrow L) (fun _ => rfl)
abbrev oK (L : grid1.Coords) : Memref sig .scVector .hbm S64x768 .f32 := (oH).slice (orow L) (fun _ => rfl)

/-- What a combine task is given: its share of the sorted results and of the two position lists, its rows of the result. -/
abbrev cGo (d : Dev nD) (L : grid1.Coords) (ys : S6144x768.Idx → Elt F .f32) (pa pb : S2048.Idx → Elt F .i32) (f : S2048x768.Idx → Elt F .f32) : sProp 𝕄 :=
  iprop(((ysH).view.loc (thr d L) ↦{shr L} ys) ∗ ((paC).view.loc (thr d L) ↦{shr L} pa)
    ∗ ((pbC).view.loc (thr d L) ↦{shr L} pb) ∗ ((oK L).view.loc (thr d L) ↦[(oK L).view.set]{fullShare} f))

/-- The positions a task fetches. -/
abbrev pA (L : grid1.Coords) (pa : S2048.Idx → Elt F .i32) : S64.Idx → Elt F .i32 := (aK L).view.read (Elt F) pa
abbrev pB (L : grid1.Coords) (pb : S2048.Idx → Elt F .i32) : S64.Idx → Elt F .i32 := (bK L).view.read (Elt F) pb

/-- The blocks of rows the task gathers. -/
abbrev gA (L : grid1.Coords) (ys : S6144x768.Idx → Elt F .f32) (pa : S2048.Idx → Elt F .i32) : S64x768.Idx → Elt F .f32 := blk ys (pA L pa)
abbrev gB (L : grid1.Coords) (ys : S6144x768.Idx → Elt F .f32) (pb : S2048.Idx → Elt F .i32) : S64x768.Idx → Elt F .f32 := blk ys (pB L pb)

/-- Position entry `n` of a task is entry `64 w + n` of the list, and its block's rows are the result's rows from `64 w`. -/
theorem sum_val (d : Dev nD) (L : grid1.Coords) (y : S64x768.Idx) :
    comb (ys) (pa) (pb) ((orow L).emb y) = FloatOps.addf (gA L ys pa y) (gB L ys pb y) := by
  have h0 : (orow L).emb y 1 = y 1 := Fin.ext (by
    show k3_off50 L 1 + 1 * (y 1).val = (y 1).val
    rw [k3_off50_eq]; show 0 + 1 * (y 1).val = _; omega)
  have h1 : (lrow L).emb (ix64 (y 0)) = ix1 ((orow L).emb y 0) := funext fun a => Fin.ext (by
    match a with
    | 0 =>
      show k3_off1 L 0 + 1 * (y 0).val = k3_off50 L 0 + 1 * (y 0).val
      rw [k3_off1_eq, k3_off50_eq]; rfl)
  show FloatOps.addf (ys (rowIx (pa (ix1 ((orow L).emb y 0))) ((orow L).emb y 1))) (ys (rowIx (pb (ix1 ((orow L).emb y 0))) ((orow L).emb y 1)))
    = FloatOps.addf (ys (rowIx (pa ((lrow L).emb (ix64 (y 0)))) (y 1))) (ys (rowIx (pb ((lrow L).emb (ix64 (y 0)))) (y 1)))
  rw [h1, h0]

omit [FloatOps F] in
/-- Elements written whole through a view are held at any contents that read what was written. -/
theorem whole_written {sp : Space} {sh : Shape} {e : EltTy} (c : Thread nD τ) (v : View sig c.2.kind sp sh e) (f g : Buf (Elt F) (v.loc c))
    (w : sh.Idx → Elt F e) (hw : ∀ y, v.read (Elt F) g y = w y) :
    (v.loc c ↦[v.set]{fullShare} v.writes (Elt F) f [⟨Rect.whole sh, w⟩] : sProp 𝕄) = (v.loc c ↦[v.set]{fullShare} g) :=
  pointsTo_congr fun i hi => by
    obtain ⟨y, -, rfl⟩ := Finset.mem_map.mp hi
    have hem : ∀ x : sh.Idx, (Rect.whole sh).emb x = x := fun x => funext fun a => Fin.ext (by
      show 0 + 1 * (x a).val = (x a).val; omega)
    have h := View.read_writes_apply_of_pieces v f w [⟨Rect.whole sh, w⟩] (fun p hp => by
        obtain rfl := List.mem_singleton.mp hp
        intro x; rw [hem]) y
      ⟨_, List.mem_singleton.mpr rfl, (Rect.whole sh).mem_set.mpr fun a => ⟨(y a).val, (y a).isLt, show (y a).val = 0 + 1 * (y a).val by omega⟩⟩
    rw [← hw y, View.read_apply, View.read_apply] at h
    exact (cast_inj _).mp h

/-- The task's rows of the result, written with the summed block, hold the combined rows. -/
theorem out_eq (d : Dev nD) (L : grid1.Coords) (f : S2048x768.Idx → Elt F .f32) (w : S64x768.Idx → Elt F .f32)
    (hw : ∀ y, w y = FloatOps.addf (gA L ys pa y) (gB L ys pb y)) :
    ((oK L).view.loc (thr d L) ↦[(oK L).view.set]{fullShare} (oK L).view.writes (Elt F) f [⟨Rect.whole S64x768, w⟩] : sProp 𝕄)
      = ((oK L).view.loc (thr d L) ↦[(oK L).view.set]{fullShare} comb (ys) (pa) (pb)) :=
  whole_written (thr d L) (oK L).view f _ w fun y => (sum_val ys pa pb d L y).trans (hw y).symm

/-- The loop's invariant: after `t` trips the first block's rows below `t` are summed with the second's. -/
def cInv (d : Dev nD) (L : grid1.Coords) (t : Nat) (_ : PUnit) : sProp 𝕄 :=
  iprop(((ra3).view.loc (thr d L) ↦{fullShare} (acc t (gA L ys pa) (gB L ys pb) : S64x768.Idx → Elt F .f32))
    ∗ ((rb3).view.loc (thr d L) ↦{fullShare} (gB L ys pb : S64x768.Idx → Elt F .f32)))

set_option maxHeartbeats 8000000 in
theorem combine_tile (hF : (K (F := F)).Facts) (ha : ∀ j, (pa j : BitVec 32).toNat < 6144) (hb : ∀ j, (pb j : BitVec 32).toNat < 6144) (d : Dev nD) (L : grid1.Coords) (f : S2048x768.Idx → Elt F .f32) (O : CellTallies nD τ sig (HIx 2)) (W : Waits sig (HIx 2)) (hO : ∀ g, O g none = 0) :
    iprop(levAts (K (F := F)).L (K (F := F)).lev ∗ emp ∗ cGo d L ys pa pb f
        ∗ scopedBufs (thr d L) ∗ scopedSems0 (thr d L) ∗ owes (thr d L) O W)
      ⊢ (wp frame (wpE (defs₀ (F := F)) 𝒱₀ (thr d L) none) Set.univ
          (cc3__combine_body (F := F) L ysH (Memref.isWhole_whole _) paC (Memref.isWhole_whole _) pbC (Memref.isWhole_whole _) oH (Memref.isWhole_whole _)
            pa3 (Memref.isWhole_whole _) pb3 (Memref.isWhole_whole _) ra3 (Memref.isWhole_whole _) rb3 (Memref.isWhole_whole _)
            cc3_scratch4 cc3_scratch5 cc3_scoped0 cc3_scoped1 cc3_scoped2)
          fun _ => iprop(cGo d L ys pa pb (comb (ys) (pa) (pb))
            ∗ scopedBufs (thr d L) ∗ scopedSems0 (thr d L)
            ∗ ∃ W', ⌜∀ p ∈ W', p ∈ W ∨ p.2 = none⌝ ∗ owes (thr d L) O W') : sProp 𝕄) := by
  simp only [cc3__combine_body_eq_skeleton]; unfold cc3__combine_body_skel
  rw [(K (F := F)).scopedBufs_V hF d (cV L) (jV L), SparseCore.Cfg.scopedSems0_V (Val := Elt F) d (cV L) (jV L), ownSems0_C, ownBufs_C]
  iintro ⟨#Hlv, -, ⟨Hy, Ha, Hb, Ho⟩, ⟨⟨%f0, Hpa⟩, ⟨%f1, Hpb⟩, ⟨%f2, Hra⟩, ⟨%f3, Hrb⟩, Hbufs⟩,
    ⟨⟨S0, S1, S2, S3, S4, S5, S6, S7, S8, S9, S10, S11, S12, S13, S14⟩, Hsems⟩, HO⟩
  ihave Hmw := (show levAts (K (F := F)).L (K (F := F)).lev ⊢ Transfers.MayWaits (thr d L) (default : HIx 2) O from
    (K (F := F)).mayWaits_none (thr := thr d L) hO) $$ Hlv
  ihave Hpa := (Entails.of_eq (show ((thr d L).loc cc3_scratch0 ↦{fullShare} f0 : sProp 𝕄) = (pa3).view.loc (thr d L) ↦{fullShare} f0 from rfl)) $$ Hpa
  ihave Hpb := (Entails.of_eq (show ((thr d L).loc cc3_scratch1 ↦{fullShare} f1 : sProp 𝕄) = (pb3).view.loc (thr d L) ↦{fullShare} f1 from rfl)) $$ Hpb
  ihave Hra := (Entails.of_eq (show ((thr d L).loc cc3_scratch2 ↦{fullShare} f2 : sProp 𝕄) = (ra3).view.loc (thr d L) ↦{fullShare} f2 from rfl)) $$ Hra
  ihave Hrb := (Entails.of_eq (show ((thr d L).loc cc3_scratch3 ↦{fullShare} f3 : sProp 𝕄) = (rb3).view.loc (thr d L) ↦{fullShare} f3 from rfl)) $$ Hrb
  sl_exec
  have hinA : ∀ x, ((pa3).view.read (Elt F) (pA L pa) x : BitVec 32).toNat < 6144 := fun x => ha _
  have hinB : ∀ x, ((pb3).view.read (Elt F) (pB L pb) x : BitVec 32).toNat < 6144 := fun x => hb _
  ihave Hpa := (Entails.of_eq (congrArg (fun h : Buf (Elt F) ((pa3).view.loc (thr d L)) => ((pa3).view.loc (thr d L) ↦{fullShare} h : sProp 𝕄))
    (show View.write (Elt F) (pa3).view f0 (combine_tile.sl.dma0 pa L) Finset.univ = pA L pa from View.write_whole_univ _ _ _))) $$ Hpa
  ihave Hpb := (Entails.of_eq (congrArg (fun h : Buf (Elt F) ((pb3).view.loc (thr d L)) => ((pb3).view.loc (thr d L) ↦{fullShare} h : sProp 𝕄))
    (show View.write (Elt F) (pb3).view f1 (combine_tile.sl.dma0_1 pb L) Finset.univ = pB L pb from View.write_whole_univ _ _ _))) $$ Hpb
  ihave Hpa := (Entails.of_eq (pointsTo_six (F := F) (ℓ := (pa3).view.loc (thr d L)) Finset.univ (pA L pa) fullShare)) $$ Hpa
  ihave Hpb := (Entails.of_eq (pointsTo_six (F := F) (ℓ := (pb3).view.loc (thr d L)) Finset.univ (pB L pb) fullShare)) $$ Hpb
  icases Hpa with ⟨A0, A1, A2, A3, A4, A5⟩
  icases Hpb with ⟨B0, B1, B2, B3, B4, B5⟩
  ihave Hy := (pointsTo_share (PosShare.mem_left_op_right (shr L))).1 $$ Hy
  icases Hy with ⟨Hy, Hy'⟩
  ihave Hy := (Entails.of_eq (pointsTo_six (F := F) (ℓ := (ysH).view.loc (thr d L)) Finset.univ (ys) (shr L).left)) $$ Hy
  ihave Hy' := (Entails.of_eq (pointsTo_six (F := F) (ℓ := (ysH).view.loc (thr d L)) Finset.univ (ys) (shr L).right)) $$ Hy'
  icases Hy with ⟨Y0, Y1, Y2, Y3, Y4, Y5⟩
  icases Hy' with ⟨Y6, Y7, Y8, Y9, Y10, Y11⟩
  sl_exec
  ihave Hra := (ra3_eq d L (G := gA L ys pa) (strips_read3 (ra3).view (ra3).view.junk (gA L ys pa)
    (combine_tile.sl.gather0 ys pa L hinA) (combine_tile.sl.gather2 ys pa L hinA) (combine_tile.sl.gather4 ys pa L hinA) (combine_tile.sl.gather6 ys pa L hinA) (combine_tile.sl.gather8 ys pa L hinA) (combine_tile.sl.gather10 ys pa L hinA)
    (fun x => strip_val (ys) (pA L pa) 0 _ _ _ _ x) (fun x => strip_val (ys) (pA L pa) 128 _ _ _ _ x)
    (fun x => strip_val (ys) (pA L pa) 256 _ _ _ _ x) (fun x => strip_val (ys) (pA L pa) 384 _ _ _ _ x)
    (fun x => strip_val (ys) (pA L pa) 512 _ _ _ _ x) (fun x => strip_val (ys) (pA L pa) 640 _ _ _ _ x))) $$ Hra
  ihave Hrb := (rb3_eq d L (G := gB L ys pb) (strips_read3 (rb3).view (rb3).view.junk (gB L ys pb)
    (combine_tile.sl.gather1 ys pb L hinB) (combine_tile.sl.gather3 ys pb L hinB) (combine_tile.sl.gather5 ys pb L hinB) (combine_tile.sl.gather7 ys pb L hinB) (combine_tile.sl.gather9 ys pb L hinB) (combine_tile.sl.gather11 ys pb L hinB)
    (fun x => strip_val (ys) (pB L pb) 0 _ _ _ _ x) (fun x => strip_val (ys) (pB L pb) 128 _ _ _ _ x)
    (fun x => strip_val (ys) (pB L pb) 256 _ _ _ _ x) (fun x => strip_val (ys) (pB L pb) 384 _ _ _ _ x)
    (fun x => strip_val (ys) (pB L pb) 512 _ _ _ _ x) (fun x => strip_val (ys) (pB L pb) 640 _ _ _ _ x))) $$ Hrb
  sl_for (cInv ys pa pb d L) $$ [Hra Hrb]
  case region =>
    intro t _
    unfold cInv
    rw [← mid_acc]
    exact trip3 d L t (acc t.val (gA L ys pa) (gB L ys pb)) (gB L ys pb)
  · unfold cInv
    rw [acc_zero]
    isplitl [Hra]; · iexact Hra
    iexact Hrb
  iintro %_ HI
  unfold cInv
  icases HI with ⟨Hra, Hrb⟩
  sl_exec
  have htrips : Scf.trips k3_t1_loop.lb k3_t1_loop.ub k3_t1_loop.st = 64 := by decide
  ihave Ho := (Entails.of_eq (out_eq ys pa pb d L f (combine_tile.sl.dma0_2 ys pa pb L) (fun y => by
    show acc (Scf.trips k3_t1_loop.lb k3_t1_loop.ub k3_t1_loop.st) (gA L ys pa) (gB L ys pb) y = _
    rw [htrips, acc_full]))) $$ Ho
  sl_step
  isplitl [Y0 Y1 Y2 Y3 Y4 Y5 Y6 Y7 Y8 Y9 Y10 Y11 Ha Hb Ho]
  · isplitl [Y0 Y1 Y2 Y3 Y4 Y5 Y6 Y7 Y8 Y9 Y10 Y11]
    · iapply (pointsTo_share (PosShare.mem_left_op_right (shr L))).2
      isplitl [Y0 Y1 Y2 Y3 Y4 Y5]
      · iapply (Entails.of_eq (pointsTo_six (F := F) (ℓ := (ysH).view.loc (thr d L)) Finset.univ (ys) (shr L).left).symm)
        isplitl [Y0]; · iexact Y0
        isplitl [Y1]; · iexact Y1
        isplitl [Y2]; · iexact Y2
        isplitl [Y3]; · iexact Y3
        isplitl [Y4]; · iexact Y4
        iexact Y5
      · iapply (Entails.of_eq (pointsTo_six (F := F) (ℓ := (ysH).view.loc (thr d L)) Finset.univ (ys) (shr L).right).symm)
        isplitl [Y6]; · iexact Y6
        isplitl [Y7]; · iexact Y7
        isplitl [Y8]; · iexact Y8
        isplitl [Y9]; · iexact Y9
        isplitl [Y10]; · iexact Y10
        iexact Y11
    isplitl [Ha]; · iexact Ha
    isplitl [Hb]; · iexact Hb
    iexact Ho
  isplitl [A0 A1 A2 A3 A4 A5 B0 B1 B2 B3 B4 B5 Hra Hrb Hbufs]
  · isplitl [A0 A1 A2 A3 A4 A5]
    · iexists (pA L pa)
      iapply (Entails.of_eq (pointsTo_six (F := F) (ℓ := (pa3).view.loc (thr d L)) Finset.univ (pA L pa) fullShare).symm)
      isplitl [A0]; · iexact A0
      isplitl [A1]; · iexact A1
      isplitl [A2]; · iexact A2
      isplitl [A3]; · iexact A3
      isplitl [A4]; · iexact A4
      iexact A5
    isplitl [B0 B1 B2 B3 B4 B5]
    · iexists (pB L pb)
      iapply (Entails.of_eq (pointsTo_six (F := F) (ℓ := (pb3).view.loc (thr d L)) Finset.univ (pB L pb) fullShare).symm)
      isplitl [B0]; · iexact B0
      isplitl [B1]; · iexact B1
      isplitl [B2]; · iexact B2
      isplitl [B3]; · iexact B3
      isplitl [B4]; · iexact B4
      iexact B5
    isplitl [Hra]; · iexists _; iexact Hra
    isplitl [Hrb]; · iexists _; iexact Hrb
    iexact Hbufs
  isplitl [S0 S1 S2 S3 S4 S5 S6 S7 S8 S9 S10 S11 S12 S13 S14 Hsems]
  · isplitl [S0 S1 S2 S3 S4 S5 S6 S7 S8 S9 S10 S11 S12 S13 S14]
    · isplitl [S0]; · iexact S0
      isplitl [S1]; · iexact S1
      isplitl [S2]; · iexact S2
      isplitl [S3]; · iexact S3
      isplitl [S4]; · iexact S4
      isplitl [S5]; · iexact S5
      isplitl [S6]; · iexact S6
      isplitl [S7]; · iexact S7
      isplitl [S8]; · iexact S8
      isplitl [S9]; · iexact S9
      isplitl [S10]; · iexact S10
      isplitl [S11]; · iexact S11
      isplitl [S12]; · iexact S12
      isplitl [S13]; · iexact S13
      iexact S14
    iexact Hsems
  iexists _
  isplitr
  swap; · iexact HO
  ipureintro
  exact (okW_self W).insert.insert.insert.insert.insert.insert.insert.insert.insert.insert.insert.insert.insert.insert.insert

end Cert.Proof.Whole
-- ==== Proof.WholeDeal.lean ====
/-
  The two SparseCore calls as the launch sees them: what each task is given and gives back, the arrays dealt out to the 32
  tasks and put together again.
-/
module

public import proofs.«01_k».proof.Proof.WholeScatter
public import proofs.«01_k».proof.Proof.WholeCombine

@[expose] public section
set_option maxRecDepth 20000
noncomputable section
namespace Cert.Proof.Whole
open Cert.WholeIdeal Cert.WholeIdeal.Gen
open Idealize.ShloMosaic
open Idealize.ShloMosaic.SparseCore (S V)
open Idealize.ShloMosaic.TcCoe
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Combine (comb rowIx ix64)
variable {F : FTy → Type}
local notation "𝕄" => MT nD τ sig (HIx 2) (Elt F) ℕ UU ℕ
variable [FloatOps F]

/-! ## The sorted rows dealt out -/

theorem inbS (k : Fin 6) : ∀ a, (![0, 128 * k.val] : Fin 2 → ℕ) a + S6144x128.size a ≤ S6144x768.size a := fun a => match a with
  | (0 : Fin 2) => le_refl 6144
  | (1 : Fin 2) => show 128 * k.val + 128 ≤ 768 by omega

set_option maxRecDepth 20000 in
/-- A strip's elements of the named rows. -/
theorem strip_mem (o : ℕ) (inb) (p : ℕ → Prop) (i : S6144x768.Idx) :
    i ∈ SparseCore.rowsWhere (xst o inb).view gathers_S6144x128_S64x128.axis p ↔ p (i 0).val ∧ o ≤ (i 1).val ∧ (i 1).val < o + 128 := by
  constructor
  · intro h
    obtain ⟨n, hn, hin⟩ := (SparseCore.mem_rowsWhere (v := (xst o inb).view) (ax := gathers_S6144x128_S64x128.axis) (p := p) (x := i)).mp h
    obtain ⟨y, -, rfl⟩ := Finset.mem_map.mp hin
    have y0 : (y (0 : Fin 2)).val = 0 := Nat.lt_one_iff.mp (y (0 : Fin 2)).isLt
    have y1 : (y (1 : Fin 2)).val < 128 := (y (1 : Fin 2)).isLt
    have h0 : 0 + 1 * (n.val + 1 * (y (0 : Fin 2)).val) = n.val := by omega
    refine ⟨?_, ?_, ?_⟩
    · show p (0 + 1 * (n.val + 1 * (y (0 : Fin 2)).val))
      rw [h0]; exact hn
    · show o ≤ o + 1 * (0 + 1 * (y (1 : Fin 2)).val); omega
    · show o + 1 * (0 + 1 * (y (1 : Fin 2)).val) < o + 128; omega
  · rintro ⟨hp, h1, h2⟩
    refine (SparseCore.mem_rowsWhere (v := (xst o inb).view) (ax := gathers_S6144x128_S64x128.axis) (p := p) (x := i)).mpr ⟨i 0, hp, ?_⟩
    refine Finset.mem_map.mpr ⟨fun | (0 : Fin 2) => (⟨0, Nat.one_pos⟩ : Fin 1) | (1 : Fin 2) => (⟨(i 1).val - o, by omega⟩ : Fin 128), Finset.mem_univ _, funext fun a => Fin.ext ?_⟩
    match a with
    | (0 : Fin 2) => show 0 + 1 * ((i 0).val + 1 * 0) = (i 0).val; omega
    | (1 : Fin 2) => show o + 1 * (0 + 1 * ((i 1).val - o)) = (i 1).val; omega

section Rows
variable (pa pb : S2048.Idx → Elt F .i32)

open Classical in
/-- The rows task `p` fills. -/
def owned (p : Fin 2 × Fin 16) : Finset S6144x768.Idx := Finset.univ.filter fun i => Own pa pb (pairV p) (i 0).val

theorem mem_owned (p : Fin 2 × Fin 16) (i : S6144x768.Idx) : i ∈ owned pa pb p ↔ Own pa pb (pairV p) (i 0).val := by
  classical
  unfold owned
  rw [Finset.mem_filter]
  exact and_iff_right (Finset.mem_univ _)

theorem emb_tok (L : grid1.Coords) (j : S64.Idx) : (drow L).emb j = ix1 (tok L (j 0)) := funext fun a => match a with
  | (0 : Fin 1) => Fin.ext (by
    show k1_off1 L 0 + 1 * (j 0).val = 128 * (L 1).val + 64 * (L 0).val + (j 0).val
    rw [k1_off1_eq]; show 128 * (L 1).val + 64 * (L 0).val + 1 * (j 0).val = _; omega)

/-- Two tasks that fill one row are the same. -/
theorem own_inj {pa pb : S2048.Idx → Elt F .i32} (hp : Pos pa pb) {p p' : Fin 2 × Fin 16} {n : ℕ} (h : Own pa pb (pairV p) n) (h' : Own pa pb (pairV p') n) : p = p' := by
  have key : ∀ {q : S2048.Idx → Elt F .i32} (_ : Function.Injective fun j => (q j : BitVec 32).toNat) (j j' : S64.Idx),
      (lst (pairV p) q j : BitVec 32).toNat = (lst (pairV p') q j' : BitVec 32).toNat → p = p' := fun {q} hq j j' e => by
    have e' := hq (a₁ := (drow (pairV p)).emb j) (a₂ := (drow (pairV p')).emb j') e
    rw [emb_tok, emb_tok] at e'
    exact (tok_inj (congrFun e' 0)).1
  rcases h with ⟨j, e⟩ | ⟨j, e⟩ <;> rcases h' with ⟨j', e'⟩ | ⟨j', e'⟩
  · exact key hp.ia j j' (e.trans e'.symm)
  · exact absurd (e.trans e'.symm) (hp.ab _ _)
  · exact absurd (e'.trans e.symm) (hp.ab _ _)
  · exact key hp.ib j j' (e.trans e'.symm)

/-- The rows a token's position names are its task's. -/
theorem own_of {n : ℕ} (t : Fin 2048) (h : (pa (ix1 t) : BitVec 32).toNat = n ∨ (pb (ix1 t) : BitVec 32).toNat = n) : ∃ p, Own pa pb (pairV p) n := by
  obtain ⟨p, k, rfl⟩ := tok_cover t
  have e : ix1 (tok (pairV p) k) = (drow (pairV p)).emb (ix64 k) := (emb_tok (pairV p) (ix64 k)).symm
  rw [e] at h
  exact ⟨p, h.imp (fun h => ⟨_, h⟩) fun h => ⟨_, h⟩⟩

/-- A task's elements of one strip. -/
def stripSet (p : Fin 2 × Fin 16) (k : Fin 6) : Finset S6144x768.Idx :=
  SparseCore.rowsWhere (xst (128 * k.val) (inbS k)).view gathers_S6144x128_S64x128.axis (Own pa pb (pairV p))

theorem mem_stripSet (p : Fin 2 × Fin 16) (k : Fin 6) (i : S6144x768.Idx) :
    i ∈ stripSet pa pb p k ↔ Own pa pb (pairV p) (i 0).val ∧ 128 * k.val ≤ (i 1).val ∧ (i 1).val < 128 * k.val + 128 := strip_mem _ _ _ i

theorem owned_eq (p : Fin 2 × Fin 16) : owned pa pb p = Finset.univ.biUnion (stripSet pa pb p) := by
  ext i
  have hi : (i 1).val < 768 := (i 1).isLt
  rw [mem_owned, Finset.mem_biUnion]
  constructor
  · intro h
    have hk : (i 1).val / 128 < 6 := by omega
    have h1 : 128 * ((i 1).val / 128) ≤ (i 1).val := by omega
    have h2 : (i 1).val < 128 * ((i 1).val / 128) + 128 := by omega
    exact ⟨⟨(i 1).val / 128, hk⟩, Finset.mem_univ _, (mem_stripSet pa pb p ⟨(i 1).val / 128, hk⟩ i).mpr ⟨h, h1, h2⟩⟩
  · rintro ⟨k, -, h⟩
    exact ((mem_stripSet _ _ _ _ i).mp h).1

theorem strips_sep (d : Dev nD) (p : Fin 2 × Fin 16) (f : S6144x768.Idx → Elt F .f32) :
    strips d pa pb (pairV p) f = (bigSep Finset.univ fun k : Fin 6 => ((d : Thread nD τ).loc main_v7_0 ↦[stripSet pa pb p k]{fullShare} f : sProp 𝕄)) := by
  unfold strips
  simp only [bigSep_univ_succ, bigSep_univ_of_subsingleton (0 : Fin 1)]
  rfl

theorem strips_eq (d : Dev nD) (p : Fin 2 × Fin 16) (f : S6144x768.Idx → Elt F .f32) :
    strips d pa pb (pairV p) f = ((d : Thread nD τ).loc main_v7_0 ↦[owned pa pb p]{fullShare} f : sProp 𝕄) := by
  rw [owned_eq]
  refine Eq.trans (strips_sep pa pb d p f) (pointsTo_biUnion (ℓ := (d : Thread nD τ).loc main_v7_0) (q := fullShare) (f := f) Finset.univ (stripSet pa pb p)
    (fun k _ k' _ h => Finset.disjoint_left.mpr fun i hi hi' => h ?_)).symm
  have a := ((mem_stripSet _ _ _ _ i).mp hi).2
  have b := ((mem_stripSet _ _ _ _ i).mp hi').2
  exact Fin.ext (by omega)

/-- The rows nothing fills. -/
def unowned : Finset S6144x768.Idx := Finset.univ \ Finset.univ.biUnion (owned pa pb)

variable {pa pb}

theorem owned_all (hp : Pos pa pb) (d : Dev nD) (f : S6144x768.Idx → Elt F .f32) :
    (bigSep Finset.univ fun p : Fin 2 × Fin 16 => strips d pa pb (pairV p) f) = ((d : Thread nD τ).loc main_v7_0 ↦[Finset.univ.biUnion (owned pa pb)]{fullShare} f : sProp 𝕄) := by
  refine Eq.trans (bigSep_congr fun p _ => strips_eq pa pb d p f) (pointsTo_biUnion (ℓ := (d : Thread nD τ).loc main_v7_0) (q := fullShare) (f := f) Finset.univ (owned pa pb)
    (fun p _ p' _ h => Finset.disjoint_left.mpr fun i hi hi' => h ?_)).symm
  exact own_inj hp ((mem_owned _ _ _ _).mp hi) ((mem_owned _ _ _ _).mp hi')

theorem rows_out (hp : Pos pa pb) (d : Dev nD) (f : S6144x768.Idx → Elt F .f32) :
    ((d : Thread nD τ).loc main_v7_0 ↦{fullShare} f : sProp 𝕄)
      ⊢ iprop((bigSep Finset.univ fun p : Fin 2 × Fin 16 => strips d pa pb (pairV p) f) ∗ ((d : Thread nD τ).loc main_v7_0 ↦[unowned pa pb]{fullShare} f)) := by
  rw [owned_all hp]
  exact (pointsTo_split_subset (Finset.subset_univ (Finset.univ.biUnion (owned pa pb)))).1

theorem rows_back (hp : Pos pa pb) (d : Dev nD) (f g : S6144x768.Idx → Elt F .f32) (hfg : ∀ i, (∀ p, ¬ Own pa pb (pairV p) (i 0).val) → f i = g i) :
    iprop((bigSep Finset.univ fun p : Fin 2 × Fin 16 => strips d pa pb (pairV p) g) ∗ ((d : Thread nD τ).loc main_v7_0 ↦[unowned pa pb]{fullShare} f))
      ⊢ ((d : Thread nD τ).loc main_v7_0 ↦{fullShare} g : sProp 𝕄) := by
  rw [owned_all hp, show ((d : Thread nD τ).loc main_v7_0 ↦[unowned pa pb]{fullShare} f : sProp 𝕄) = ((d : Thread nD τ).loc main_v7_0 ↦[unowned pa pb]{fullShare} g) from
    pointsTo_congr fun i hi => hfg i fun p ho => by
      unfold unowned at hi
      exact (Finset.mem_sdiff.mp hi).2 (Finset.mem_biUnion.mpr ⟨p, Finset.mem_univ _, (mem_owned _ _ _ _).mpr ho⟩)]
  exact (pointsTo_split_subset (Finset.subset_univ (Finset.univ.biUnion (owned pa pb)))).2

end Rows

/-! ## The one task that puts the weights -/

theorem cond_iff : ∀ p : Fin 2 × Fin 16, k1_cond1 (pairV p) = 1#1 ↔ p = (0, 0) := by decide

theorem one_task (d : Dev nD) (R : sProp 𝕄) : (bigSep Finset.univ fun p : Fin 2 × Fin 16 => wsRes (F := F) d (pairV p) R) = R := by
  rw [bigSep_erase (Finset.mem_univ ((0 : Fin 2), (0 : Fin 16)))]
  have h0 : wsRes (F := F) d (pairV ((0 : Fin 2), (0 : Fin 16))) R = R := by
    unfold wsRes; exact if_pos ((cond_iff _).mpr rfl)
  have h1 : (bigSep (Finset.univ.erase ((0 : Fin 2), (0 : Fin 16))) fun p => wsRes (F := F) d (pairV p) R) = iprop(emp) := by
    refine (bigSep_congr (Ψ := fun _ => iprop(emp)) fun p hp => ?_).trans (bigSep_emp_const _)
    unfold wsRes; exact if_neg fun h => (Finset.mem_erase.mp hp).1 ((cond_iff p).mp h)
  rw [h0, h1]
  exact Entails.antisymm sep_emp.1 sep_emp.2

/-! ## The rows of the result -/

theorem orow_mem (L : grid1.Coords) (x : S2048x768.Idx) :
    x ∈ (orow L).set ↔ 128 * (L 1).val + 64 * (L 0).val ≤ (x 0).val ∧ (x 0).val < 128 * (L 1).val + 64 * (L 0).val + 64 := by
  rw [(orow L).mem_set]
  have ho : k3_off50 L 0 = 128 * (L 1).val + 64 * (L 0).val := congrFun (k3_off50_eq L) 0
  have ho1 : k3_off50 L 1 = 0 := congrFun (k3_off50_eq L) 1
  have hx1 : (x 1).val < 768 := (x 1).isLt
  constructor
  · intro h
    obtain ⟨j, hj, e⟩ := h 0
    have hj' : j < 64 := hj
    have e' : (x 0).val = k3_off50 L 0 + 1 * j := e
    omega
  · intro h a
    match a with
    | 0 => exact ⟨(x 0).val - (128 * (L 1).val + 64 * (L 0).val), show _ < 64 by omega, show (x 0).val = k3_off50 L 0 + 1 * _ by omega⟩
    | 1 => exact ⟨(x 1).val, show _ < 768 from hx1, show (x 1).val = k3_off50 L 1 + 1 * _ by omega⟩

theorem out_split (d : Dev nD) (f : S2048x768.Idx → Elt F .f32) :
    ((d : Thread nD τ).loc main_v14 ↦{fullShare} f : sProp 𝕄)
      = bigSep Finset.univ fun p : Fin 2 × Fin 16 => (oK (pairV p)).view.loc (thr d (pairV p)) ↦[(oK (pairV p)).view.set]{fullShare} f := by
  refine (deal_out (ℓ := (d : Thread nD τ).loc main_v14) f (fun p => (orow (pairV p)).set) (fun p p' x h h' => ?_) fun x => ?_).trans
    (bigSep_congr fun p _ => congrArg (fun s : Finset S2048x768.Idx => ((d : Thread nD τ).loc main_v14 ↦[s]{fullShare} f : sProp 𝕄)) (View.set_slice_whole _ _).symm)
  · have a := (orow_mem _ x).mp h
    have b := (orow_mem _ x).mp h'
    obtain ⟨c, i⟩ := p; obtain ⟨c', i'⟩ := p'
    have hc := c.isLt; have hc' := c'.isLt
    have a' : 128 * i.val + 64 * c.val ≤ (x 0).val ∧ (x 0).val < 128 * i.val + 64 * c.val + 64 := a
    have b' : 128 * i'.val + 64 * c'.val ≤ (x 0).val ∧ (x 0).val < 128 * i'.val + 64 * c'.val + 64 := b
    exact Prod.ext (Fin.ext (by show c.val = c'.val; omega)) (Fin.ext (by show i.val = i'.val; omega))
  · have hx : (x 0).val < 2048 := (x 0).isLt
    exact ⟨(⟨(x 0).val / 64 % 2, by omega⟩, ⟨(x 0).val / 128, by omega⟩), (orow_mem _ x).mpr
      ⟨show 128 * ((x 0).val / 128) + 64 * ((x 0).val / 64 % 2) ≤ (x 0).val by omega,
        show (x 0).val < 128 * ((x 0).val / 128) + 64 * ((x 0).val / 64 % 2) + 64 by omega⟩⟩

/-! ## The launch's payloads -/

variable (F) in
/-- What the two calls run on and end with. -/
structure Vals where
  x : S2048x768.Idx → Elt F .f32
  pa : S2048.Idx → Elt F .i32
  pb : S2048.Idx → Elt F .i32
  wa : S2048.Idx → Elt F .f32
  wb : S2048.Idx → Elt F .f32
  hp : Pos pa pb
  f : S6144x768.Idx → Elt F .f32
  g : S6144x768.Idx → Elt F .f32
  hg : Sorted pa pb x g
  hfg : ∀ i, (∀ p, ¬ Own pa pb (pairV p) (i 0).val) → f i = g i
  o : S2048x768.Idx → Elt F .f32
  Ok : (S6144x768.Idx → Elt F .f32) → Prop
  out : S2048x768.Idx → Elt F .f32
  hout : ∀ ys, Ok ys → comb ys pa pb = out

variable (A : Vals F)

/-- The list of weights, at any contents, and with the weights put. -/
def ws0 (d : Dev nD) : sProp 𝕄 := iprop(∃ f : S6144.Idx → Elt F .f32, (d : Thread nD τ).loc main_v7_1 ↦{fullShare} (f : Buf (Elt F) ((d : Thread nD τ).loc main_v7_1)))
def ws1 (d : Dev nD) : sProp 𝕄 := iprop(∃ f : S6144.Idx → Elt F .f32, ⌜Put A.pa A.pb A.wa A.wb 128 f⌝ ∗ (d : Thread nD τ).loc main_v7_1 ↦{fullShare} (f : Buf (Elt F) ((d : Thread nD τ).loc main_v7_1)))
def go0 (d : Dev nD) (L : grid1.Coords) : sProp 𝕄 := dGo d L A.pa A.pb A.wa A.wb A.x A.f (ws0 d)
def td0 (d : Dev nD) (L : grid1.Coords) : sProp 𝕄 := dGo d L A.pa A.pb A.wa A.wb A.x A.g (ws1 A d)
def go1 (d : Dev nD) (L : grid1.Coords) : sProp 𝕄 := iprop(∃ ys, ⌜A.Ok ys⌝ ∗ cGo d L ys A.pa A.pb A.o)
def td1 (d : Dev nD) (L : grid1.Coords) : sProp 𝕄 := (oK L).view.loc (thr d L) ↦[(oK L).view.set]{fullShare} A.out

instance ws0_storable (d : Dev nD) : BI.Storable (upEmb : UEmb _ 𝕄) (ws0 (F := F) d) := by unfold ws0; infer_instance
instance ws1_storable (d : Dev nD) : BI.Storable (upEmb : UEmb _ 𝕄) (ws1 A d) := by unfold ws1; infer_instance
instance dGo_storable (d : Dev nD) (L : grid1.Coords) (pa pb wa wb x f) (R : sProp 𝕄) [BI.Storable (upEmb : UEmb _ 𝕄) R] :
    BI.Storable (upEmb : UEmb _ 𝕄) (dGo (F := F) d L pa pb wa wb x f R) := by
  have : BI.Storable (upEmb : UEmb _ 𝕄) (wsRes (F := F) d L R) := by unfold wsRes; split <;> infer_instance
  unfold dGo strips
  infer_instance

instance go0_storable (d : Dev nD) (L : grid1.Coords) : BI.Storable (upEmb : UEmb _ 𝕄) (go0 A d L) := by unfold go0; exact dGo_storable ..
instance td0_storable (d : Dev nD) (L : grid1.Coords) : BI.Storable (upEmb : UEmb _ 𝕄) (td0 A d L) := by unfold td0; exact dGo_storable ..
instance go1_storable (d : Dev nD) (L : grid1.Coords) : BI.Storable (upEmb : UEmb _ 𝕄) (go1 A d L) := by unfold go1; infer_instance
instance td1_storable (d : Dev nD) (L : grid1.Coords) : BI.Storable (upEmb : UEmb _ 𝕄) (td1 A d L) := by unfold td1; infer_instance

abbrev coreSep (q : Fin 2) (R : Dev nD → grid1.Coords → sProp 𝕄) (d : Dev nD) (c : Fin 2) : sProp 𝕄 :=
  bigSep Finset.univ fun i : Fin 16 => R d (coordsV c i)

instance coreSep_storable (q : Fin 2) (R : Dev nD → grid1.Coords → sProp 𝕄) [h : ∀ d L, BI.Storable (upEmb : UEmb _ 𝕄) (R d L)] (d : Dev nD) (c : Fin 2) :
    BI.Storable (upEmb : UEmb _ 𝕄) (coreSep q R d c) := by
  unfold coreSep
  have := fun i : Fin 16 => h d (coordsV c i)
  infer_instance

def P : (K (F := F)).Pay (nD := nD) (Val := Elt F) (Name := ℕ) (U := UU) where
  st := fun q d c => match q with | 0 => coreSep 0 (go0 A) d c | 1 => coreSep 1 (go1 A) d c
  dn := fun q d c => match q with | 0 => coreSep 0 (td0 A) d c | 1 => coreSep 1 (td1 A) d c
  go := fun q d c i => match q with | 0 => go0 A d (coordsV c i) | 1 => go1 A d (coordsV c i)
  td := fun q d c i => match q with | 0 => td0 A d (coordsV c i) | 1 => td1 A d (coordsV c i)
  x := fun _ _ => iprop(emp)

instance P_storable : (P A).IsStorable where
  st q d c := match q with
    | 0 => coreSep_storable (h := go0_storable A) 0 (go0 A) d c
    | 1 => coreSep_storable (h := go1_storable A) 1 (go1 A) d c
  dn q d c := match q with
    | 0 => coreSep_storable (h := td0_storable A) 0 (td0 A) d c
    | 1 => coreSep_storable (h := td1_storable A) 1 (td1 A) d c
  go q d c i := match q with
    | 0 => go0_storable A d (coordsV c i)
    | 1 => go1_storable A d (coordsV c i)
  td q d c i := match q with
    | 0 => td0_storable A d (coordsV c i)
    | 1 => td1_storable A d (coordsV c i)

/-! ## The tasks' obligations -/

theorem defs₀_dispatch (c : Fin τ.nSC) (s : Fin τ.nSub) :
    defs₀ (F := F) (.scVector c s) 1 ()
      = SparseCore.onTile hcore1 hsub1 (fun c s => cc1__dispatch_body (F := F) (coordsV c s) paH (Memref.isWhole_whole _) pbH (Memref.isWhole_whole _) waH (Memref.isWhole_whole _) wbH (Memref.isWhole_whole _)
            xH (Memref.isWhole_whole _) xsH (Memref.isWhole_whole _) wsH (Memref.isWhole_whole _) paS (Memref.isWhole_whole _) pbS (Memref.isWhole_whole _)
            uaV (Memref.isWhole_whole _) ubV (Memref.isWhole_whole _) afV (Memref.isWhole_whole _) bfV (Memref.isWhole_whole _) usV (Memref.isWhole_whole _)
            rwS (Memref.isWhole_whole _) cc1_scratch8 cc1_scratch9 cc1_scoped0 cc1_scoped1 cc1_scoped2 cc1_scoped3 cc1_scoped4 cc1_scoped5 cc1_scoped6 cc1_scoped7) ⟨⟩ c s := rfl

theorem defs₀_combine (c : Fin τ.nSC) (s : Fin τ.nSub) :
    defs₀ (F := F) (.scVector c s) 3 ()
      = SparseCore.onTile hcore3 hsub3 (fun c s => cc3__combine_body (F := F) (coordsV c s) ysH (Memref.isWhole_whole _) paC (Memref.isWhole_whole _) pbC (Memref.isWhole_whole _) oH (Memref.isWhole_whole _)
            pa3 (Memref.isWhole_whole _) pb3 (Memref.isWhole_whole _) ra3 (Memref.isWhole_whole _) rb3 (Memref.isWhole_whole _)
            cc3_scratch4 cc3_scratch5 cc3_scoped0 cc3_scoped1 cc3_scoped2) ⟨⟩ c s := rfl

theorem obl0 {thr : Thread nD τ} {A B C : sProp 𝕄} {O : CellTallies nD τ sig (HIx 2)} {W : Waits sig (HIx 2)} {q : Fin 2} :
    iprop(A ∗ B ∗ C ∗ ∃ W', ⌜OkW W W'⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem obl1 (d : Dev nD) (L : grid1.Coords) (ys : S6144x768.Idx → Elt F .f32) (h : A.Ok ys) {B C : sProp 𝕄} {O : CellTallies nD τ sig (HIx 2)} {W : Waits sig (HIx 2)} {q : Fin 2} :
    iprop(cGo d L ys A.pa A.pb (comb ys A.pa A.pb) ∗ B ∗ C ∗ ∃ W', ⌜∀ p ∈ W', p ∈ W ∨ p.2 = none⌝ ∗ owes (thr d L) O W')
      ⊢ iprop(td1 A d L ∗ B ∗ C ∗ ∃ W', ⌜∀ p ∈ W', p ∈ W ∨ p.2 = none ∨ p.2 = some q⌝ ∗ owes (thr d L) O W') := by
  rw [A.hout ys h]
  unfold td1
  iintro ⟨⟨-, -, -, HA⟩, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl0 (hF : (K (F := F)).Facts) : (K (F := F)).TileObl (D (F := F)) 𝒱 (P A) v₀ 0 := by
  intro d c i O W hO _ _
  simp only [show (P A).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_dispatch]; simp only [SparseCore.onTile, hci, and_self, ↓reduceDIte]
  refine (?_ : iprop(_ ∗ _ ∗ go0 A d (coordsV ⟨_, hci.1⟩ ⟨_, hci.2⟩) ∗ _) ⊢ _)
  unfold go0 ws0
  refine (dispatch_tile hF d (coordsV ⟨_, hci.1⟩ ⟨_, hci.2⟩) A.hp A.wa A.wb A.x A.f A.g A.hg O W hO).trans (wp_mono frame _ _ fun _ => ?_)
  exact obl0 (A := td0 A d (coordsV ⟨_, hci.1⟩ ⟨_, hci.2⟩))

set_option maxHeartbeats 2000000 in
theorem combine_any (hF : (K (F := F)).Facts) (d : Dev nD) (L : grid1.Coords) (O : CellTallies nD τ sig (HIx 2)) (W : Waits sig (HIx 2)) (hO : ∀ g, O g none = 0) :
    iprop(levAts (K (F := F)).L (K (F := F)).lev ∗ emp ∗ go1 A d L ∗ scopedBufs (thr d L) ∗ scopedSems0 (thr d L) ∗ owes (thr d L) O W)
      ⊢ (wp frame (wpE (defs₀ (F := F)) 𝒱₀ (thr d L) none) Set.univ
          (cc3__combine_body (F := F) L ysH (Memref.isWhole_whole _) paC (Memref.isWhole_whole _) pbC (Memref.isWhole_whole _) oH (Memref.isWhole_whole _)
            pa3 (Memref.isWhole_whole _) pb3 (Memref.isWhole_whole _) ra3 (Memref.isWhole_whole _) rb3 (Memref.isWhole_whole _)
            cc3_scratch4 cc3_scratch5 cc3_scoped0 cc3_scoped1 cc3_scoped2)
          fun _ => iprop(td1 A d L ∗ scopedBufs (thr d L) ∗ scopedSems0 (thr d L)
            ∗ ∃ W', ⌜∀ p ∈ W', p ∈ W ∨ p.2 = none ∨ p.2 = some (1 : Fin 2)⌝ ∗ owes (thr d L) O W') : sProp 𝕄) := by
  have key := fun ys h => (combine_tile ys A.pa A.pb hF A.hp.la A.hp.lb d L A.o O W hO).trans (wp_mono frame _ _ fun _ => obl1 A d L ys h (q := 1))
  unfold go1
  iintro ⟨#Hl, -, ⟨%ys, %h, H⟩, HR⟩
  iapply (key ys h)
  isplitr; · iexact Hl
  isplitr; · iempintro
  isplitl [H]; · iexact H
  iexact HR

set_option maxRecDepth 16384 in
theorem tileObl1 (hF : (K (F := F)).Facts) : (K (F := F)).TileObl (D (F := F)) 𝒱 (P A) v₀ 1 := by
  intro d c i O W hO _ _
  simp only [show (P A).ox = fun _ _ => 0 from rfl, add_zero]
  have hci : ((K (F := F)).core 1 c).val < grid3.bound 0 ∧ ((K (F := F)).sub 1 i).val < grid3.bound 1 := ⟨c.isLt, i.isLt⟩
  change _ ⊢ wp _ _ _ (Pipeline.liftProg (defs₀ (F := F) (.scVector ((K (F := F)).core 1 c) ((K (F := F)).sub 1 i)) 3 ())) _
  refine BI.Entails.trans ?_ (Pipeline.wp_liftProg (D (F := F)) (Pipeline.defs_kernel pcfgs defs₀) 𝒱₀ _ Set.univ none _ _)
  rw [defs₀_combine]; simp only [SparseCore.onTile, hci, and_self, ↓reduceDIte]
  exact combine_any A hF d (coordsV ⟨_, hci.1⟩ ⟨_, hci.2⟩) O W hO

theorem vecSplit0 : (K (F := F)).VecSplit' (P A) 0 := by
  intro d c
  show coreSep 0 (go0 A) d c ⊢ |={Set.univ}=> iprop(coreSep 0 (go0 A) d c ∗ (coreSep 0 (td0 A) d c -∗ coreSep 0 (td0 A) d c))
  iintro H; imodintro
  isplitl [H]; · iexact H
  iintro H; iexact H

theorem vecSplit1 : (K (F := F)).VecSplit' (P A) 1 := by
  intro d c
  show coreSep 1 (go1 A) d c ⊢ |={Set.univ}=> iprop(coreSep 1 (go1 A) d c ∗ (coreSep 1 (td1 A) d c -∗ coreSep 1 (td1 A) d c))
  iintro H; imodintro
  isplitl [H]; · iexact H
  iintro H; iexact H

/-! ## The calls' arrays whole -/

/-- What the dispatch call runs on, whole. -/
abbrev dArr (d : Dev nD) (f : S6144x768.Idx → Elt F .f32) (R : sProp 𝕄) : sProp 𝕄 :=
  iprop(((d : Thread nD τ).loc main_v3 ↦{fullShare} (A.pa : Buf (Elt F) ((d : Thread nD τ).loc main_v3))) ∗ ((d : Thread nD τ).loc main_v4 ↦{fullShare} (A.pb : Buf (Elt F) ((d : Thread nD τ).loc main_v4)))
    ∗ ((d : Thread nD τ).loc main_v5 ↦{fullShare} (A.wa : Buf (Elt F) ((d : Thread nD τ).loc main_v5))) ∗ ((d : Thread nD τ).loc main_v6 ↦{fullShare} (A.wb : Buf (Elt F) ((d : Thread nD τ).loc main_v6)))
    ∗ ((d : Thread nD τ).loc main_v0 ↦{fullShare} (A.x : Buf (Elt F) ((d : Thread nD τ).loc main_v0)))
    ∗ (bigSep Finset.univ fun p : Fin 2 × Fin 16 => strips d A.pa A.pb (pairV p) f) ∗ R)

theorem dArr_eq (d : Dev nD) (f : S6144x768.Idx → Elt F .f32) (R : sProp 𝕄) :
    dArr A d f R = bigSep Finset.univ fun c : Fin 2 => bigSep Finset.univ fun i : Fin 16 => dGo d (coordsV c i) A.pa A.pb A.wa A.wb A.x f R := by
  unfold dArr
  rw [share_split (ℓ := (d : Thread nD τ).loc main_v3), share_split (ℓ := (d : Thread nD τ).loc main_v4), share_split (ℓ := (d : Thread nD τ).loc main_v5), share_split (ℓ := (d : Thread nD τ).loc main_v6),
    share_split (ℓ := (d : Thread nD τ).loc main_v0)]
  conv_lhs => rw [← one_task (F := F) d R]
  rw [← bigSep_sep', ← bigSep_sep', ← bigSep_sep', ← bigSep_sep', ← bigSep_sep', ← bigSep_sep', bigSep_univ_prod]
  rfl

theorem st0 (d : Dev nD) : (bigSep Finset.univ fun c : Fin ((K (F := F)).nCore 0) => (P A).st 0 d c)
    = dArr A d A.f (ws0 d) := (dArr_eq A d A.f _).symm

theorem dn0 (d : Dev nD) : (bigSep Finset.univ fun c : Fin ((K (F := F)).nCore 0) => (P A).dn 0 d c)
    = dArr A d A.g (ws1 A d) := (dArr_eq A d A.g _).symm

theorem go1_intro (d : Dev nD) (L : grid1.Coords) (ys : S6144x768.Idx → Elt F .f32) (h : A.Ok ys) : (cGo d L ys A.pa A.pb A.o : sProp 𝕄) ⊢ go1 A d L := by
  refine (?_ : (iprop(((ysH).view.loc (thr d L) ↦{shr L} ys) ∗ ((paC).view.loc (thr d L) ↦{shr L} A.pa)
    ∗ ((pbC).view.loc (thr d L) ↦{shr L} A.pb) ∗ ((oK L).view.loc (thr d L) ↦[(oK L).view.set]{fullShare} A.o)) : sProp 𝕄) ⊢ iprop(∃ ys, ⌜A.Ok ys⌝ ∗ cGo d L ys A.pa A.pb A.o))
  iintro H
  iexists ys
  isplitr; · ipureintro; exact h
  iexact H

theorem st1 (d : Dev nD) (ys : S6144x768.Idx → Elt F .f32) (h : A.Ok ys) :
    (iprop(((d : Thread nD τ).loc main_v13 ↦{fullShare} (ys : Buf (Elt F) ((d : Thread nD τ).loc main_v13))) ∗ ((d : Thread nD τ).loc main_v3 ↦{fullShare} (A.pa : Buf (Elt F) ((d : Thread nD τ).loc main_v3)))
      ∗ ((d : Thread nD τ).loc main_v4 ↦{fullShare} (A.pb : Buf (Elt F) ((d : Thread nD τ).loc main_v4))) ∗ ((d : Thread nD τ).loc main_v14 ↦{fullShare} (A.o : Buf (Elt F) ((d : Thread nD τ).loc main_v14)))) : sProp 𝕄)
      ⊢ bigSep Finset.univ fun c : Fin ((K (F := F)).nCore 1) => (P A).st 1 d c := by
  have e : (iprop(((d : Thread nD τ).loc main_v13 ↦{fullShare} (ys : Buf (Elt F) ((d : Thread nD τ).loc main_v13))) ∗ ((d : Thread nD τ).loc main_v3 ↦{fullShare} (A.pa : Buf (Elt F) ((d : Thread nD τ).loc main_v3)))
      ∗ ((d : Thread nD τ).loc main_v4 ↦{fullShare} (A.pb : Buf (Elt F) ((d : Thread nD τ).loc main_v4))) ∗ ((d : Thread nD τ).loc main_v14 ↦{fullShare} (A.o : Buf (Elt F) ((d : Thread nD τ).loc main_v14)))) : sProp 𝕄)
      = bigSep Finset.univ fun c : Fin 2 => bigSep Finset.univ fun i : Fin 16 => cGo d (coordsV c i) ys A.pa A.pb A.o := by
    rw [share_split (ℓ := (d : Thread nD τ).loc main_v13), share_split (ℓ := (d : Thread nD τ).loc main_v3), share_split (ℓ := (d : Thread nD τ).loc main_v4), out_split,
      ← bigSep_sep', ← bigSep_sep', ← bigSep_sep', bigSep_univ_prod]
  rw [e]
  refine (?_ : _ ⊢ bigSep Finset.univ fun c : Fin 2 => bigSep Finset.univ fun i : Fin 16 => go1 A d (coordsV c i))
  refine bigSep_mono fun c _ => bigSep_mono fun i _ => ?_
  exact go1_intro A d _ ys h

theorem dn1 (d : Dev nD) : (bigSep Finset.univ fun c : Fin ((K (F := F)).nCore 1) => (P A).dn 1 d c)
    = ((d : Thread nD τ).loc main_v14 ↦{fullShare} (A.out : Buf (Elt F) ((d : Thread nD τ).loc main_v14)) : sProp 𝕄) := by
  rw [out_split, bigSep_univ_prod]
  rfl

end Cert.Proof.Whole
-- ==== Proof.WholeMain.lean ====
/-
  @main on the TensorCore: the host's reshapes, the router's region, the dispatch call, the experts' region, the combine
  call; and the run of the whole program.
-/
module

public import proofs.«01_k».proof.Proof.WholeDeal
public import proofs.«01_k».proof.Proof.WholeRegion
public import proofs.«01_k».proof.Proof.WholeRouter
public import Idealize.ShloMosaic.Lib.StableHlo.Run

@[expose] public section
noncomputable section
namespace Cert.Proof.Whole
open Cert.WholeIdeal Cert.WholeIdeal.Gen
open Idealize.ShloMosaic
open Idealize.ShloMosaic.SparseCore (S V)
open Idealize.ShloMosaic.TcCoe
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (RDat cellsGhost toksInit)
open Cert.Proof.Combine (comb)
variable {F : FTy → Type}
local notation "𝕄" => MT nD τ sig (HIx 2) (Elt F) ℕ UU ℕ
variable [FloatOps F]

variable (m : (ℓ : Loc nD τ sig) → Buf (Elt F) ℓ) (ρ : Dev nD → PrngReg) (d : Dev nD)

/-! ## What the arrays hold along the way -/

abbrev x2 : Vec F S2048x768 .f32 := shapeCast S2048x768 (m ((d : Thread nD τ).loc main_arg0) : Vec F S1x2048x768 .f32) shapeCasts_S1x2048x768_S2048x768
abbrev w0 : Vec F S768x8 .f32 := m ((d : Thread nD τ).loc main_arg1)
abbrev b0 : Vec F S1x8 .f32 := shapeCast S1x8 (m ((d : Thread nD τ).loc main_arg2) : Vec F S8 .f32) shapeCasts_S8_S1x8
/-- The router's results. -/
abbrev rr : Res F := res (x2 m d) (w0 m d) (b0 m d)
abbrev pa : Vec F S2048 .i32 := shapeCast S2048 (rr m d).pa shapeCasts_S1x2048_S2048
abbrev pb : Vec F S2048 .i32 := shapeCast S2048 (rr m d).pb shapeCasts_S1x2048_S2048
abbrev wa : Vec F S2048 .f32 := shapeCast S2048 (rr m d).wa shapeCasts_S1x2048_S2048
abbrev wb : Vec F S2048 .f32 := shapeCast S2048 (rr m d).wb shapeCasts_S1x2048_S2048
abbrev be : S24.Idx → BitVec 32 := shapeCast S24 (rr m d).be shapeCasts_S1x24_S24
abbrev bv : S24.Idx → BitVec 32 := shapeCast S24 (rr m d).bv shapeCasts_S1x24_S24

abbrev xs0 : S6144x768.Idx → Elt F .f32 := m ((d : Thread nD τ).loc main_v7_0)

open Classical in
/-- The sorted rows: where a token's position names a row, the token's row. -/
def srt : S6144x768.Idx → Elt F .f32 := fun i =>
  if h : ∃ t : Fin 2048, (pa m d (ix1 t) : BitVec 32).toNat = (i 0).val ∨ (pb m d (ix1 t) : BitVec 32).toNat = (i 0).val
  then x2 m d (fun | 0 => h.choose | 1 => i 1) else xs0 m d i

theorem srt_sorted (hp : Pos (pa m d) (pb m d)) : Sorted (pa m d) (pb m d) (x2 m d) (srt m d) := by
  intro t i ht
  have h : ∃ t : Fin 2048, (pa m d (ix1 t) : BitVec 32).toNat = (i 0).val ∨ (pb m d (ix1 t) : BitVec 32).toNat = (i 0).val := ⟨t, ht⟩
  have e : h.choose = t := by
    have hc := h.choose_spec
    rcases hc with hc | hc <;> rcases ht with ht | ht
    · exact congrFun (hp.ia (a₁ := ix1 _) (a₂ := ix1 t) (hc.trans ht.symm)) 0
    · exact absurd (hc.trans ht.symm) (hp.ab _ _)
    · exact absurd (ht.trans hc.symm) (hp.ab _ _)
    · exact congrFun (hp.ib (a₁ := ix1 _) (a₂ := ix1 t) (hc.trans ht.symm)) 0
  unfold srt
  rw [dif_pos h, e]
  exact congrArg (x2 m d) (funext fun a => match a with | 0 => rfl | 1 => rfl)

theorem srt_rest (i : S6144x768.Idx) (h : ∀ p, ¬ Own (pa m d) (pb m d) (pairV p) (i 0).val) : xs0 m d i = srt m d i := by
  unfold srt
  rw [dif_neg]
  rintro ⟨t, ht⟩
  obtain ⟨p, hp⟩ := own_of _ _ t ht
  exact h p hp

/-- What the experts' region is entered with, the list of weights at `ws`. -/
def ent (hbe : InRange (be m d)) (ws : S6144.Idx → Elt F .f32) : Ent F where
  xs := srt m d
  b1 := shapeCast S8x1x3072 (m ((d : Thread nD τ).loc main_arg4) : Vec F S8x3072 .f32) shapeCasts_S8x3072_S8x1x3072
  b2 := shapeCast S8x1x768 (m ((d : Thread nD τ).loc main_arg6) : Vec F S8x768 .f32) shapeCasts_S8x768_S8x1x768
  ws := shapeCast S6144x1 ws shapeCasts_S6144_S6144x1
  ys := m ((d : Thread nD τ).loc main_v13)
  w1 := m ((d : Thread nD τ).loc main_arg3)
  w2 := m ((d : Thread nD τ).loc main_arg5)
  be := be m d
  bv := bv m d
  hbe := hbe

/-- What the experts' region leaves: from a list with the weights put, every block with tokens at its value. -/
def OkYs (hbe : InRange (be m d)) (ys : S6144x768.Idx → Elt F .f32) : Prop :=
  ∃ ws, Put (pa m d) (pb m d) (wa m d) (wb m d) 128 ws ∧ GoodYs (ent m d hbe ws) d 24 ys

/-- What the run needs of the router's results, the combined rows ending at `out`. -/
structure Good (out : S2048x768.Idx → Elt F .f32) : Prop where
  hbe : InRange (be m d)
  hp : Pos (pa m d) (pb m d)
  hout : ∀ ys, OkYs m d hbe ys → comb ys (pa m d) (pb m d) = out

variable {out : S2048x768.Idx → Elt F .f32} (H : Good m d out)

/-- The two calls' values. -/
def vals : Vals F where
  x := x2 m d
  pa := pa m d
  pb := pb m d
  wa := wa m d
  wb := wb m d
  hp := H.hp
  f := xs0 m d
  g := srt m d
  hg := srt_sorted m d H.hp
  hfg := srt_rest m d
  o := m ((d : Thread nD τ).loc main_v14)
  Ok := OkYs m d H.hbe
  out := out
  hout := H.hout

/-! ## One step of @main -/

section Steps

/-- A reshape: its operand as it was, its result at the operand's elements. -/
theorem reshape_step (Q : PUnit.{1} → sProp 𝕄) (x y : Ref sig .tc) (hne : x ≠ y) (he : x.ty.elt = y.ty.elt) (hn : x.ty.shape.ShapeCasts y.ty.shape)
    (hx : x.space ≠ .host ∧ (x : DevRef τ sig).isScoped = false) (hy : y.space ≠ .host ∧ (y : DevRef τ sig).isScoped = false) (V0 : Valuation τ sig (Elt F)) (f : Buf (Elt F) ((d : Thread nD τ).loc x)) (g : Buf (Elt F) ((d : Thread nD τ).loc y)) :
    iprop(boundary (d : Thread nD τ) ∗ ((d : Thread nD τ).loc x ↦{fullShare} f) ∗ ((d : Thread nD τ).loc y ↦{fullShare} g)
        ∗ ((boundary (d : Thread nD τ) ∗ ((d : Thread nD τ).loc x ↦{fullShare} f)
            ∗ ((d : Thread nD τ).loc y ↦{fullShare} (fun i => he ▸ shapeCast y.ty.shape f hn i : Buf (Elt F) ((d : Thread nD τ).loc y)))) -∗ Q ⟨⟩))
      ⊢ wp frame (wpE ((K (F := F)).defs (D (F := F))) 𝒱 (d : Thread nD τ) none) Set.univ
          (hlo rfl (StableHlo.reshape x y he hn hx hy) fun _ => .ret ⟨⟩) Q := by
  have hd : (Proc.devRef .tc x : DevRef τ sig) ≠ Proc.devRef .tc y := StableHlo.devRef_ne_of_ne hne
  let W : Valuation τ sig (Elt F) := Function.update (Function.update V0 (Proc.devRef .tc x) f) (Proc.devRef .tc y) g
  have hW : W (Proc.devRef .tc y) = g := Function.update_self ..
  have hWx : W (Proc.devRef .tc x) = f := (Function.update_of_ne hd ..).trans (Function.update_self ..)
  have hpair : ∀ V : Valuation τ sig (Elt F), (bigSep (StableHlo.reshape (τ := τ) (Val := Elt F) x y he hn hx hy).bufs fun b => ((d, b) ↦{fullShare} V b : sProp 𝕄))
      = iprop(((d : Thread nD τ).loc x ↦{fullShare} V (Proc.devRef .tc x)) ∗ ((d : Thread nD τ).loc y ↦{fullShare} V (Proc.devRef .tc y))) := fun V => by
    rw [StableHlo.reshape_bufs, SparseCore.bigSep_insert' (by rw [Finset.mem_singleton]; exact hd), bigSep_singleton]
  have hstep := wp_hlo (defs := (K (F := F)).defs (D (F := F))) 𝒱 (d : Thread nD τ) none Set.univ (hp := rfl) (op := StableHlo.reshape x y he hn hx hy)
    (k := fun _ => .ret PUnit.unit) (Γ := .empty) (q := fun _ => fullShare) (F := W) (Q := Q) (fun _ _ => rfl)
  rw [hpair, hpair, StableHlo.reshape_result, StableHlo.reshape_result_ne (h := hne), hW, hWx] at hstep
  iintro ⟨Hb, Hx, Hy, Hk⟩
  iapply hstep $$ [Hb Hx Hy]
  · isplitl [Hb]; · iexact Hb
    isplitl [Hx] <;> iassumption
  iintro HH
  rw [wp_ret]
  imodintro
  iapply Hk
  iexact HH

/-- A pipeline's ghost state. -/
def gh (be bv : S24.Idx → BitVec 32) (hbe : InRange be) (p : Fin 2) : sProp 𝕄 :=
  iprop(cellsGhost (Pipeline.pin (pcfgs (F := F)) (adm be bv hbe)) EP p d ∗ toksInit (Pipeline.pin (pcfgs (F := F)) (adm be bv hbe)) EP p d)

/-- A region's holdings, in the order its rule takes them. -/
theorem region_order (Lv Bd Pre Cg Ti Post W Q : sProp 𝕄) (hQ : Q ⊢ W) :
    iprop(Lv ∗ Bd ∗ Pre ∗ (Cg ∗ Ti) ∗ ((Bd ∗ Post) -∗ Q)) ⊢ iprop(((Bd ∗ Post) -∗ W) ∗ Bd ∗ Pre ∗ Lv ∗ Cg ∗ Ti) := by
  iintro ⟨Hl, Hb, HA, ⟨Hg, Ht⟩, Hk⟩
  isplitl [Hk]
  · iintro HH
    iapply hQ
    iapply Hk
    iexact HH
  isplitl [Hb]; · iexact Hb
  isplitl [HA]; · iexact HA
  isplitl [Hl]; · iexact Hl
  isplitl [Hg] <;> iassumption

/-- A program that is done meets what it was to meet. -/
theorem done_step (Q : PUnit.{1} → sProp 𝕄) :
    Q ⟨⟩ ⊢ wp frame (wpE (D (F := F)) 𝒱 (d : Thread nD τ) none) Set.univ (.ret PUnit.unit) Q := by
  rw [wp_ret]
  iintro H
  imodintro
  iexact H

/-- The router's call. -/
theorem region0_step (Q : PUnit.{1} → sProp 𝕄) [∀ e, Nonempty (Elt F e)] (be bv : S24.Idx → BitVec 32) (hbe : InRange be) (x : Vec F S2048x768 .f32) (w : Vec F S768x8 .f32) (b : Vec F S1x8 .f32) (R : Res F) :
    iprop(levAts (K (F := F)).L ((K (F := F)).lev (N := 2)) ∗ boundary (d : Thread nD τ) ∗ (Arr0 x w b R d ∗ Owe (F := F) d 0) ∗ gh (F := F) d be bv hbe 0
        ∗ ((boundary (d : Thread nD τ) ∗ (reg0 be bv hbe x w b R).post d) -∗ Q ⟨⟩))
      ⊢ wp frame (wpE ((K (F := F)).defs (D (F := F))) 𝒱 (d : Thread nD τ) none) Set.univ
          (Prog.lift (.customCall (SparseCore.inner (Pipeline.entry 0)) ())) Q := by
  have h := RDat.RegionSeg.wp (pcfgs (F := F)) (adm be bv hbe) (rdats0 be bv hbe x w b R) (none : HIx 2)
    (cellOf_inj (adm be bv hbe)) EP (defs₀ (F := F)) 𝒱₀ (K (F := F)).L ((K (F := F)).lev (N := 2))
    (reg0 be bv hbe x w b R) d none (fun u h => nomatch h) (fun _ => .ret PUnit.unit) Q
  refine BIBase.Entails.trans (BIBase.Entails.trans ?_ h) ((K (F := F)).wp_liftProg (D (F := F)) 𝒱 (d : Thread nD τ) Set.univ none (.op (.customCall (Pipeline.entry 0) ()) fun _ => .ret PUnit.unit) Q)
  exact region_order _ _ _ _ _ _ _ _ (done_step d Q)

/-- The experts' call. -/
theorem region2_step (Q : PUnit.{1} → sProp 𝕄) [∀ e, Nonempty (Elt F e)] (V : Ent F) :
    iprop(levAts (K (F := F)).L ((K (F := F)).lev (N := 2)) ∗ boundary (d : Thread nD τ) ∗ (Arr2 V d V.ys ∗ Mats V d ∗ Tabs V d ∗ Owe (F := F) d 1) ∗ gh (F := F) d V.be V.bv V.hbe 1
        ∗ ((boundary (d : Thread nD τ) ∗ ((∃ ys, ⌜GoodYs V d 24 ys⌝ ∗ Arr2 V d ys) ∗ Mats V d ∗ Tabs V d ∗ Owe (F := F) d 1)) -∗ Q ⟨⟩))
      ⊢ wp frame (wpE ((K (F := F)).defs (D (F := F))) 𝒱 (d : Thread nD τ) none) Set.univ
          (Prog.lift (.customCall (SparseCore.inner (Pipeline.entry 1)) ())) Q := by
  have h := RDat.RegionSeg.wp (pcfgs (F := F)) (aV V) (rdats2 V) (none : HIx 2)
    (cellOf_inj (aV V)) EP (defs₀ (F := F)) 𝒱₀ (K (F := F)).L ((K (F := F)).lev (N := 2))
    (reg2 V) d none (fun u h => nomatch h) (fun _ => .ret PUnit.unit) Q
  refine BIBase.Entails.trans (BIBase.Entails.trans ?_ h) ((K (F := F)).wp_liftProg (D (F := F)) 𝒱 (d : Thread nD τ) Set.univ none (.op (.customCall (Pipeline.entry 1) ()) fun _ => .ret PUnit.unit) Q)
  exact region_order _ _ _ _ _ _ _ _ (done_step d Q)

end Steps

end Cert.Proof.Whole
-- ==== Proof.WholeRun.lean ====
/-
  @main on the TensorCore, from the arrays as launched to the results; and the run of the whole program.
-/
module

public import proofs.«01_k».proof.Proof.WholeMain
public import proofs.«01_k».proof.Proof.WholeRegion
public import proofs.«01_k».proof.Proof.WholeRouter
public import Idealize.ShloMosaic.Lib.StableHlo.Run

@[expose] public section
noncomputable section
namespace Cert.Proof.Whole
open Cert.WholeIdeal Cert.WholeIdeal.Gen
open Idealize.ShloMosaic
open Idealize.ShloMosaic.SparseCore (S V)
open Idealize.ShloMosaic.TcCoe
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (RDat cellsGhost toksInit)
open Cert.Proof.Combine (comb)
variable {F : FTy → Type}
local notation "𝕄" => MT nD τ sig (HIx 2) (Elt F) ℕ UU ℕ
variable [FloatOps F]

variable (m : (ℓ : Loc nD τ sig) → Buf (Elt F) ℓ) (ρ : Dev nD → PrngReg) (d : Dev nD)

abbrev arr (r : Ref sig .tc) (f : Buf (Elt F) ((d : Thread nD τ).loc r)) : sProp 𝕄 := (d : Thread nD τ).loc r ↦{fullShare} f

theorem unscopedBufs_eq (W : (b : Ref sig .tc) → Buf (Elt F) ((d : Thread nD τ).loc b)) :
    (unscopedBufs d W : sProp 𝕄) = iprop(arr d main_arg0 (W main_arg0) ∗ arr d main_arg1 (W main_arg1) ∗ arr d main_arg2 (W main_arg2) ∗ arr d main_arg3 (W main_arg3)
      ∗ arr d main_arg4 (W main_arg4) ∗ arr d main_arg5 (W main_arg5) ∗ arr d main_arg6 (W main_arg6) ∗ arr d main_v0 (W main_v0) ∗ arr d main_v1 (W main_v1)
      ∗ arr d main_v2_0 (W main_v2_0) ∗ arr d main_v2_1 (W main_v2_1) ∗ arr d main_v2_2 (W main_v2_2) ∗ arr d main_v2_3 (W main_v2_3) ∗ arr d main_v2_4 (W main_v2_4)
      ∗ arr d main_v2_5 (W main_v2_5) ∗ arr d main_v2_6 (W main_v2_6) ∗ arr d main_v3 (W main_v3) ∗ arr d main_v4 (W main_v4) ∗ arr d main_v5 (W main_v5) ∗ arr d main_v6 (W main_v6)
      ∗ arr d main_v7_0 (W main_v7_0) ∗ arr d main_v7_1 (W main_v7_1) ∗ arr d main_v8 (W main_v8) ∗ arr d main_v9 (W main_v9) ∗ arr d main_v10 (W main_v10) ∗ arr d main_v11 (W main_v11)
      ∗ arr d main_v12 (W main_v12) ∗ arr d main_v13 (W main_v13) ∗ arr d main_v14 (W main_v14) ∗ arr d main_v15 (W main_v15) ∗ arr d main_v16 (W main_v16)) := by
  unfold unscopedBufs
  exact bigSep_eq_bigSepL_of_eq [main_arg0, main_arg1, main_arg2, main_arg3, main_arg4, main_arg5, main_arg6, main_v0, main_v1, main_v2_0, main_v2_1, main_v2_2, main_v2_3, main_v2_4, main_v2_5, main_v2_6,
    main_v3, main_v4, main_v5, main_v6, main_v7_0, main_v7_1, main_v8, main_v9, main_v10, main_v11, main_v12, main_v13, main_v14, main_v15, main_v16] (by decide) (by decide) _

/-- What is still owed, apart from the rest of the core's state, and back. -/
theorem owe_split (n : ℕ) : (K (F := F)).tcSt EH d n ⊢ iprop(Owe (F := F) d n ∗ (Owe (F := F) d n -∗ (K (F := F)).tcSt EH d n)) := by
  unfold SparseCore.Cfg.tcSt Owe
  iintro ⟨H, R⟩
  isplitl [H]; · iexact H
  iintro H
  isplitl [H]; · iexact H
  iexact R

theorem reshape_to (Q : PUnit.{1} → sProp 𝕄) (x y : Ref sig .tc) (hne : x ≠ y) (he : x.ty.elt = y.ty.elt) (hn : x.ty.shape.ShapeCasts y.ty.shape)
    (hx : x.space ≠ .host ∧ (x : DevRef τ sig).isScoped = false) (hy : y.space ≠ .host ∧ (y : DevRef τ sig).isScoped = false) (V0 : Valuation τ sig (Elt F)) (f : Buf (Elt F) ((d : Thread nD τ).loc x)) (g g' : Buf (Elt F) ((d : Thread nD τ).loc y))
    (hg : (fun i => he ▸ shapeCast y.ty.shape f hn i : Buf (Elt F) ((d : Thread nD τ).loc y)) = g') :
    iprop(boundary (d : Thread nD τ) ∗ arr d x f ∗ arr d y g ∗ ((boundary (d : Thread nD τ) ∗ arr d x f ∗ arr d y g') -∗ Q ⟨⟩))
      ⊢ wp frame (wpE ((K (F := F)).defs (D (F := F))) 𝒱 (d : Thread nD τ) none) Set.univ
          (hlo rfl (StableHlo.reshape x y he hn hx hy) fun _ => .ret ⟨⟩) Q := by
  subst hg
  exact reshape_step d Q x y hne he hn hx hy V0 f g

variable (A : Vals F) (R : Res F) (w : Vec F S768x8 .f32) (b : Vec F S1x8 .f32) (be bv : S24.Idx → BitVec 32) (hbe : InRange be)
  (b1 : S8x1x3072.Idx → Elt F .f32) (b2 : S8x1x768.Idx → Elt F .f32) (o : S1x2048x768.Idx → Elt F .f32) (ls : S_.Idx → Elt F .f32)

/-- What the experts' region is entered with. -/
abbrev entG (ws : S6144.Idx → Elt F .f32) : Ent F where
  xs := A.g
  b1 := b1
  b2 := b2
  ws := shapeCast S6144x1 ws shapeCasts_S6144_S6144x1
  ys := m ((d : Thread nD τ).loc main_v13)
  w1 := m ((d : Thread nD τ).loc main_arg3)
  w2 := m ((d : Thread nD τ).loc main_arg5)
  be := be
  bv := bv
  hbe := hbe

/-- How the values along the way follow from one another. -/
structure Links : Prop where
  hx : shapeCast S2048x768 (m ((d : Thread nD τ).loc main_arg0) : Vec F S1x2048x768 .f32) shapeCasts_S1x2048x768_S2048x768 = A.x
  hb : shapeCast S1x8 (m ((d : Thread nD τ).loc main_arg2) : Vec F S8 .f32) shapeCasts_S8_S1x8 = b
  hw : (m ((d : Thread nD τ).loc main_arg1) : Vec F S768x8 .f32) = w
  hR : res A.x w b = R
  hpa : shapeCast S2048 R.pa shapeCasts_S1x2048_S2048 = A.pa
  hpb : shapeCast S2048 R.pb shapeCasts_S1x2048_S2048 = A.pb
  hwa : shapeCast S2048 R.wa shapeCasts_S1x2048_S2048 = A.wa
  hwb : shapeCast S2048 R.wb shapeCasts_S1x2048_S2048 = A.wb
  hbe' : shapeCast S24 R.be shapeCasts_S1x24_S24 = be
  hbv : shapeCast S24 R.bv shapeCasts_S1x24_S24 = bv
  hb1 : shapeCast S8x1x3072 (m ((d : Thread nD τ).loc main_arg4) : Vec F S8x3072 .f32) shapeCasts_S8x3072_S8x1x3072 = b1
  hb2 : shapeCast S8x1x768 (m ((d : Thread nD τ).loc main_arg6) : Vec F S8x768 .f32) shapeCasts_S8x768_S8x1x768 = b2
  hf : (m ((d : Thread nD τ).loc main_v7_0) : S6144x768.Idx → Elt F .f32) = A.f
  ho : (m ((d : Thread nD τ).loc main_v14) : S2048x768.Idx → Elt F .f32) = A.o
  hok : ∀ ws ys, Put A.pa A.pb A.wa A.wb 128 ws → GoodYs (entG m d A be bv hbe b1 b2 ws) d 24 ys → A.Ok ys
  hout : shapeCast S1x2048x768 A.out shapeCasts_S2048x768_S1x2048x768 = o
  hls : shapeCast S_ R.ls shapeCasts_S1x1_S_ = ls

/-- What @main ends with: the arguments as launched, the two results. -/
abbrev FIN : sProp 𝕄 :=
  iprop(arr d main_arg0 (m ((d : Thread nD τ).loc main_arg0)) ∗ arr d main_arg1 (m ((d : Thread nD τ).loc main_arg1)) ∗ arr d main_arg2 (m ((d : Thread nD τ).loc main_arg2))
    ∗ arr d main_arg3 (m ((d : Thread nD τ).loc main_arg3)) ∗ arr d main_arg4 (m ((d : Thread nD τ).loc main_arg4)) ∗ arr d main_arg5 (m ((d : Thread nD τ).loc main_arg5))
    ∗ arr d main_arg6 (m ((d : Thread nD τ).loc main_arg6)) ∗ arr d main_v15 o ∗ arr d main_v16 ls)

theorem post0 (H : Links m d A R w b be bv hbe b1 b2 o ls) (R0 : Res F) [∀ e, Nonempty (Elt F e)] :
    ((reg0 be bv hbe A.x w b R0).post d : sProp 𝕄)
      ⊢ iprop((arr d main_v0 A.x ∗ arr d main_arg1 (m ((d : Thread nD τ).loc main_arg1)) ∗ arr d main_v1 b ∗ arr d main_v2_0 R.pa ∗ arr d main_v2_1 R.pb ∗ arr d main_v2_2 R.wa ∗ arr d main_v2_3 R.wb
        ∗ arr d main_v2_4 R.be ∗ arr d main_v2_5 R.bv ∗ arr d main_v2_6 R.ls) ∗ Owe (F := F) d 0) := by
  refine (?_ : iprop(Arr0 A.x w b (res A.x w b) d ∗ Owe (F := F) d 0) ⊢ _)
  rw [H.hR, ← H.hw]
  exact .rfl

theorem hmain [∀ e, Nonempty (Elt F e)] (H : Links m d A R w b be bv hbe b1 b2 o ls) (κ : GSem nD τ sig → ℕ) :
    iprop((K (F := F)).ctx EH (P A) κ ∗ (K (F := F)).tcSt EH d 0 ∗ (K (F := F)).tcRes m ρ d ∗ gh (F := F) d be bv hbe 0 ∗ gh (F := F) d be bv hbe 1)
      ⊢ wp frame (wpE ((K (F := F)).defs (D (F := F))) 𝒱 (d : Thread nD τ) none) Set.univ (main d)
          fun _ => iprop((K (F := F)).tcSt EH d 2 ∗ FIN m d o ls ∗ (K (F := F)).tcEnd d) := by
  unfold SparseCore.Cfg.tcRes SparseCore.Cfg.tcEnd
  rw [unscopedBufs_eq]
  simp only [main, wp_bind, wp_pure]
  iintro ⟨#Hctx, Hst, ⟨Hb, ⟨Ha0, Ha1, Ha2, Ha3, Ha4, Ha5, Ha6, Hv0, Hv1, Hv20, Hv21, Hv22, Hv23, Hv24, Hv25, Hv26, Hv3, Hv4, Hv5, Hv6, Hv70, Hv71, Hv8, Hv9, Hv10, Hv11, Hv12, Hv13, Hv14, Hv15, Hv16⟩, Hts, -⟩, Hg0, Hg1⟩
  ihave #Hl := ((K (F := F)).ctx_levAts (EH := EH) (P := P A) κ) $$ Hctx
  iapply (reshape_to d _ main_arg0 main_v0 (by decide) rfl shapeCasts_S1x2048x768_S2048x768 _ _ (fun b => m (d, b)) _ _ _ H.hx)
  isplitl [Hb]; · iexact Hb
  isplitl [Ha0]; · iexact Ha0
  isplitl [Hv0]; · iexact Hv0
  iintro ⟨Hb, Ha0, Hv0⟩
  iapply (reshape_to d _ main_arg2 main_v1 (by decide) rfl shapeCasts_S8_S1x8 _ _ (fun b => m (d, b)) _ _ _ H.hb)
  isplitl [Hb]; · iexact Hb
  isplitl [Ha2]; · iexact Ha2
  isplitl [Hv1]; · iexact Hv1
  iintro ⟨Hb, Ha2, Hv1⟩
  ihave HO := (owe_split d 0) $$ Hst
  icases HO with ⟨HO, Hst⟩
  iapply (region0_step d _ be bv hbe A.x w b ⟨m ((d : Thread nD τ).loc main_v2_0), m ((d : Thread nD τ).loc main_v2_1), m ((d : Thread nD τ).loc main_v2_2), m ((d : Thread nD τ).loc main_v2_3), m ((d : Thread nD τ).loc main_v2_4), m ((d : Thread nD τ).loc main_v2_5), m ((d : Thread nD τ).loc main_v2_6)⟩)
  isplitr; · iexact Hl
  isplitl [Hb]; · iexact Hb
  isplitl [Hv0 Ha1 Hv1 Hv20 Hv21 Hv22 Hv23 Hv24 Hv25 Hv26 HO]
  · isplitr [HO]
    · unfold Arr0
      isplitl [Hv0]; · iexact Hv0
      isplitl [Ha1]; · rw [← H.hw]; iexact Ha1
      isplitl [Hv1]; · iexact Hv1
      isplitl [Hv20]; · iexact Hv20
      isplitl [Hv21]; · iexact Hv21
      isplitl [Hv22]; · iexact Hv22
      isplitl [Hv23]; · iexact Hv23
      isplitl [Hv24]; · iexact Hv24
      isplitl [Hv25]; · iexact Hv25
      iexact Hv26
    · iexact HO
  isplitl [Hg0]; · iexact Hg0
  iintro ⟨Hb, HP⟩
  ihave HP := (post0 m d A R w b be bv hbe b1 b2 o ls H _) $$ HP
  icases HP with ⟨⟨Hv0, Ha1, Hv1, Hv20, Hv21, Hv22, Hv23, Hv24, Hv25, Hv26⟩, HO⟩
  ihave Hst := Hst $$ HO
  iapply (reshape_to d _ main_v2_0 main_v3 (by decide) rfl shapeCasts_S1x2048_S2048 _ _ (fun b => m (d, b)) _ _ _ H.hpa)
  isplitl [Hb]; · iexact Hb
  isplitl [Hv20]; · iexact Hv20
  isplitl [Hv3]; · iexact Hv3
  iintro ⟨Hb, Hv20, Hv3⟩
  iapply (reshape_to d _ main_v2_1 main_v4 (by decide) rfl shapeCasts_S1x2048_S2048 _ _ (fun b => m (d, b)) _ _ _ H.hpb)
  isplitl [Hb]; · iexact Hb
  isplitl [Hv21]; · iexact Hv21
  isplitl [Hv4]; · iexact Hv4
  iintro ⟨Hb, Hv21, Hv4⟩
  iapply (reshape_to d _ main_v2_2 main_v5 (by decide) rfl shapeCasts_S1x2048_S2048 _ _ (fun b => m (d, b)) _ _ _ H.hwa)
  isplitl [Hb]; · iexact Hb
  isplitl [Hv22]; · iexact Hv22
  isplitl [Hv5]; · iexact Hv5
  iintro ⟨Hb, Hv22, Hv5⟩
  iapply (reshape_to d _ main_v2_3 main_v6 (by decide) rfl shapeCasts_S1x2048_S2048 _ _ (fun b => m (d, b)) _ _ _ H.hwb)
  isplitl [Hb]; · iexact Hb
  isplitl [Hv23]; · iexact Hv23
  isplitl [Hv6]; · iexact Hv6
  iintro ⟨Hb, Hv23, Hv6⟩
  ihave HR := (rows_out A.hp d _) $$ Hv70
  icases HR with ⟨Hrows, Hv70⟩
  iapply ((K (F := F)).wp_run (D (F := F)) 𝒱 (EH := EH) (P := P A) κ d 0)
  isplitr; · iexact Hctx
  isplitl [Hst]; · iexact Hst
  isplitl [Hv3 Hv4 Hv5 Hv6 Hv0 Hrows Hv71]
  · rw [st0, ← H.hf]
    isplitl [Hv3]; · iexact Hv3
    isplitl [Hv4]; · iexact Hv4
    isplitl [Hv5]; · iexact Hv5
    isplitl [Hv6]; · iexact Hv6
    isplitl [Hv0]; · iexact Hv0
    isplitl [Hrows]; · iexact Hrows
    unfold ws0
    iexists _
    iexact Hv71
  iintro ⟨Hst, HD⟩
  ihave Hst := (show (K (F := F)).tcSt EH d ((0 : Fin 2).val + 1) ⊢ (K (F := F)).tcSt EH d 1 from .rfl) $$ Hst
  ihave HD := (Entails.of_eq (dn0 A d)) $$ HD
  unfold dArr ws1
  icases HD with ⟨Hv3, Hv4, Hv5, Hv6, Hv0, Hrows, ⟨%ws, %hws, Hv71⟩⟩
  ihave Hv70 := (rows_back A.hp d (m ((d : Thread nD τ).loc main_v7_0)) A.g (fun i h => (congrFun H.hf i).trans (A.hfg i h))) $$ [Hrows Hv70]
  · isplitl [Hrows] <;> iassumption
  iapply (reshape_to d _ main_v2_4 main_v8 (by decide) rfl shapeCasts_S1x24_S24 _ _ (fun b => m (d, b)) _ _ _ H.hbe')
  isplitl [Hb]; · iexact Hb
  isplitl [Hv24]; · iexact Hv24
  isplitl [Hv8]; · iexact Hv8
  iintro ⟨Hb, Hv24, Hv8⟩
  iapply (reshape_to d _ main_v2_5 main_v9 (by decide) rfl shapeCasts_S1x24_S24 _ _ (fun b => m (d, b)) _ _ _ H.hbv)
  isplitl [Hb]; · iexact Hb
  isplitl [Hv25]; · iexact Hv25
  isplitl [Hv9]; · iexact Hv9
  iintro ⟨Hb, Hv25, Hv9⟩
  iapply (reshape_to d _ main_arg4 main_v10 (by decide) rfl shapeCasts_S8x3072_S8x1x3072 _ _ (fun b => m (d, b)) _ _ _ H.hb1)
  isplitl [Hb]; · iexact Hb
  isplitl [Ha4]; · iexact Ha4
  isplitl [Hv10]; · iexact Hv10
  iintro ⟨Hb, Ha4, Hv10⟩
  iapply (reshape_to d _ main_arg6 main_v11 (by decide) rfl shapeCasts_S8x768_S8x1x768 _ _ (fun b => m (d, b)) _ _ _ H.hb2)
  isplitl [Hb]; · iexact Hb
  isplitl [Ha6]; · iexact Ha6
  isplitl [Hv11]; · iexact Hv11
  iintro ⟨Hb, Ha6, Hv11⟩
  iapply (reshape_to d _ main_v7_1 main_v12 (by decide) rfl shapeCasts_S6144_S6144x1 _ _ (fun b => m (d, b)) _ _ _ (rfl : _ = shapeCast S6144x1 ws shapeCasts_S6144_S6144x1))
  isplitl [Hb]; · iexact Hb
  isplitl [Hv71]; · iexact Hv71
  isplitl [Hv12]; · iexact Hv12
  iintro ⟨Hb, Hv71, Hv12⟩
  ihave HO := (owe_split d 1) $$ Hst
  icases HO with ⟨HO, Hst⟩
  iapply (region2_step d _ (entG m d A be bv hbe b1 b2 ws))
  isplitr; · iexact Hl
  isplitl [Hb]; · iexact Hb
  isplitl [Hv70 Hv10 Hv11 Hv12 Hv13 Ha3 Ha5 Hv8 Hv9 HO]
  · unfold Arr2 Mats Tabs
    isplitl [Hv70 Hv10 Hv11 Hv12 Hv13]
    · isplitl [Hv70]; · iexact Hv70
      isplitl [Hv10]; · iexact Hv10
      isplitl [Hv11]; · iexact Hv11
      isplitl [Hv12]; · iexact Hv12
      iexact Hv13
    isplitl [Ha3 Ha5]
    · isplitl [Ha3]; · iexact Ha3
      iexact Ha5
    isplitl [Hv8 Hv9]
    · isplitl [Hv8]; · iexact Hv8
      iexact Hv9
    iexact HO
  isplitl [Hg1]; · iexact Hg1
  unfold Arr2 Mats Tabs
  iintro ⟨Hb, ⟨%ys, %hys, ⟨Hv70, Hv10, Hv11, Hv12, Hv13⟩⟩, ⟨Ha3, Ha5⟩, ⟨Hv8, Hv9⟩, HO⟩
  ihave Hst := Hst $$ HO
  iapply ((K (F := F)).wp_run (D (F := F)) 𝒱 (EH := EH) (P := P A) κ d 1)
  isplitr; · iexact Hctx
  isplitl [Hst]; · iexact Hst
  isplitl [Hv13 Hv3 Hv4 Hv14]
  · iapply (st1 A d ys (H.hok ws ys hws hys))
    isplitl [Hv13]; · iexact Hv13
    isplitl [Hv3]; · iexact Hv3
    isplitl [Hv4]; · iexact Hv4
    rw [← H.ho]
    iexact Hv14
  iintro ⟨Hst, HD⟩
  ihave Hst := (show (K (F := F)).tcSt EH d ((1 : Fin 2).val + 1) ⊢ (K (F := F)).tcSt EH d 2 from .rfl) $$ Hst
  ihave Hv14 := (Entails.of_eq (dn1 A d)) $$ HD
  iapply (reshape_to d _ main_v14 main_v15 (by decide) rfl shapeCasts_S2048x768_S1x2048x768 _ _ (fun b => m (d, b)) _ _ _ H.hout)
  isplitl [Hb]; · iexact Hb
  isplitl [Hv14]; · iexact Hv14
  isplitl [Hv15]; · iexact Hv15
  iintro ⟨Hb, Hv14, Hv15⟩
  iapply (reshape_to d _ main_v2_6 main_v16 (by decide) rfl shapeCasts_S1x1_S_ _ _ (fun b => m (d, b)) _ _ _ H.hls)
  isplitl [Hb]; · iexact Hb
  isplitl [Hv26]; · iexact Hv26
  isplitl [Hv16]; · iexact Hv16
  iintro ⟨Hb, Hv26, Hv16⟩
  imodintro
  isplitl [Hst]; · iexact Hst
  isplitr [Hb Hts]
  · isplitl [Ha0]; · iexact Ha0
    isplitl [Ha1]; · iexact Ha1
    isplitl [Ha2]; · iexact Ha2
    isplitl [Ha3]; · iexact Ha3
    isplitl [Ha4]; · iexact Ha4
    isplitl [Ha5]; · iexact Ha5
    isplitl [Ha6]; · iexact Ha6
    isplitl [Hv15]; · iexact Hv15
    iexact Hv16
  isplitl [Hb] <;> iassumption

/-! ## The launch element -/

abbrev pinned : (p : Fin 2) → Pipeline.Cfg sig Λ₀ := Pipeline.pin (pcfgs (F := F)) (adm be bv hbe)

def uP : UP := initOf (Pipeline.cells (nD := nD) (τ := τ) (pinned (F := F) be bv hbe) (cellOf_inj (adm be bv hbe))) (Pipeline.launchToks (nD := nD) (τ := τ) (pinned (F := F) be bv hbe) (cellOf_inj (adm be bv hbe)))

def u₀ : UU := (initOf (K (F := F)).hsCells (K (F := F)).hsToks, (uP (F := F) be bv hbe, (1 : Counters)))

theorem ghosts :
    iprop((bigSep Finset.univ fun d : Dev nD => bigSep Finset.univ fun p : Fin 2 => cellsGhost (pinned (F := F) be bv hbe) EP p d)
        ∗ bigSep Finset.univ fun d : Dev nD => bigSep Finset.univ fun p : Fin 2 => toksInit (pinned (F := F) be bv hbe) EP p d)
      ⊢ (bigSep Finset.univ fun d : Dev nD => iprop(gh (F := F) d be bv hbe 0 ∗ gh (F := F) d be bv hbe 1) : sProp 𝕄) := by
  rw [bigSep_univ_of_subsingleton (0 : Dev nD), bigSep_univ_of_subsingleton (0 : Dev nD), bigSep_univ_of_subsingleton (0 : Dev nD), bigSep_fin_two, bigSep_fin_two]
  unfold gh
  refine (?_ : iprop((cellsGhost (pinned (F := F) be bv hbe) EP 0 0 ∗ cellsGhost (pinned (F := F) be bv hbe) EP 1 0) ∗ (toksInit (pinned (F := F) be bv hbe) EP 0 0 ∗ toksInit (pinned (F := F) be bv hbe) EP 1 0)) ⊢ (_ : sProp 𝕄))
  iintro ⟨⟨HC0, HC1⟩, HT0, HT1⟩
  isplitl [HC0 HT0]
  · isplitl [HC0] <;> iassumption
  · isplitl [HC1] <;> iassumption

theorem hu₀ : (ownU (u₀ (F := F) be bv hbe) : sProp 𝕄)
    ⊢ |={Set.univ}=> iprop(BI.own (EH (initOf (K (F := F)).hsCells (K (F := F)).hsToks)) ∗ (bigSep Finset.univ fun d : Dev nD => iprop(gh (F := F) d be bv hbe 0 ∗ gh (F := F) d be bv hbe 1))
        ∗ bigSep Finset.univ fun thr : Thread nD τ => bigSep Finset.univ fun q : Fin 2 => (P A).x q thr) := by
  unfold u₀
  iintro Hu
  ihave H := (ownU_pair (initOf (K (F := F)).hsCells (K (F := F)).hsToks) ((uP (F := F) be bv hbe, (1 : Counters)) : UP × Counters)) $$ Hu
  icases H with ⟨HH, HR⟩
  ihave HR := (own_pair_emb (embR : Emb (UP × Counters) 𝕄) (uP (F := F) be bv hbe) (1 : Counters)) $$ HR
  icases HR with ⟨HP, -⟩
  ihave HP := (show BI.own (((Emb.inl : Emb UP (UP × Counters)).trans (embR : Emb (UP × Counters) 𝕄)) (uP (F := F) be bv hbe)) ⊢ BI.own (EP (uP (F := F) be bv hbe)) from .rfl) $$ HP
  ihave HP := (show BI.own (EP (uP (F := F) be bv hbe)) ⊢ _ from Pipeline.fund_ghost (pinned (F := F) be bv hbe) EP (cellOf_inj (adm be bv hbe))) $$ HP
  imod HP with ⟨HC, HT⟩
  imodintro
  isplitl [HH]; · iexact HH
  isplitl [HC HT]
  · iapply (ghosts be bv hbe)
    isplitl [HC] <;> iassumption
  rw [show (bigSep Finset.univ fun thr : Thread nD τ => bigSep Finset.univ fun q : Fin 2 => (P A).x q thr) = bigSep Finset.univ fun _ => iprop(emp) from
    bigSep_congr fun _ _ => bigSep_emp_const _]
  iapply (show (iprop(emp) : sProp 𝕄) ⊢ bigSep Finset.univ fun _ : Thread nD τ => iprop(emp) from Entails.of_eq (bigSep_emp_const _).symm)
  iempintro

/-! ## What is read off the end -/

/-- The memory's arguments as launched, its results at `o` and `ls`. -/
def fq (s' : Phys nD τ sig (Elt F)) : Prop :=
  s'.mem.mem ((d : Thread nD τ).loc main_arg0) = m ((d : Thread nD τ).loc main_arg0) ∧ s'.mem.mem ((d : Thread nD τ).loc main_arg1) = m ((d : Thread nD τ).loc main_arg1)
    ∧ s'.mem.mem ((d : Thread nD τ).loc main_arg2) = m ((d : Thread nD τ).loc main_arg2) ∧ s'.mem.mem ((d : Thread nD τ).loc main_arg3) = m ((d : Thread nD τ).loc main_arg3)
    ∧ s'.mem.mem ((d : Thread nD τ).loc main_arg4) = m ((d : Thread nD τ).loc main_arg4) ∧ s'.mem.mem ((d : Thread nD τ).loc main_arg5) = m ((d : Thread nD τ).loc main_arg5)
    ∧ s'.mem.mem ((d : Thread nD τ).loc main_arg6) = m ((d : Thread nD τ).loc main_arg6) ∧ s'.mem.mem ((d : Thread nD τ).loc main_v15) = o ∧ s'.mem.mem ((d : Thread nD τ).loc main_v16) = ls

theorem agree {ℓ : Loc nD τ sig} {f : Buf (Elt F) ℓ} {s' : Phys nD τ sig (Elt F)} :
    iprop((ℓ ↦{fullShare} f) ∗ SI s') ⊢ (iprop(⌜s'.mem.mem ℓ = f⌝ ∗ SI s') : sProp 𝕄) := by
  iintro ⟨Hx, HSI⟩
  ihave H := (persistent_entails_right (SI_pointsTo_agree (st := s') (ℓ := ℓ) (I := Finset.univ) (q := fullShare) (f := f))) $$ [HSI Hx]
  · isplitl [HSI] <;> iassumption
  icases H with ⟨%h, HSI, -⟩
  isplitr
  · ipureintro; exact funext fun i => h i (Finset.mem_univ i)
  iexact HSI

theorem hfin (s' : Phys nD τ sig (Elt F)) : iprop(FIN m d o ls ∗ SI s') ⊢ (⌜fq m d o ls s'⌝ : sProp 𝕄) := by
  iintro ⟨⟨H0, H1, H2, H3, H4, H5, H6, H7, H8⟩, HSI⟩
  ihave H := (agree (F := F)) $$ [H0 HSI]
  · isplitl [H0] <;> iassumption
  icases H with ⟨%h0, HSI⟩
  ihave H := (agree (F := F)) $$ [H1 HSI]
  · isplitl [H1] <;> iassumption
  icases H with ⟨%h1, HSI⟩
  ihave H := (agree (F := F)) $$ [H2 HSI]
  · isplitl [H2] <;> iassumption
  icases H with ⟨%h2, HSI⟩
  ihave H := (agree (F := F)) $$ [H3 HSI]
  · isplitl [H3] <;> iassumption
  icases H with ⟨%h3, HSI⟩
  ihave H := (agree (F := F)) $$ [H4 HSI]
  · isplitl [H4] <;> iassumption
  icases H with ⟨%h4, HSI⟩
  ihave H := (agree (F := F)) $$ [H5 HSI]
  · isplitl [H5] <;> iassumption
  icases H with ⟨%h5, HSI⟩
  ihave H := (agree (F := F)) $$ [H6 HSI]
  · isplitl [H6] <;> iassumption
  icases H with ⟨%h6, HSI⟩
  ihave H := (agree (F := F)) $$ [H7 HSI]
  · isplitl [H7] <;> iassumption
  icases H with ⟨%h7, HSI⟩
  ihave H := (agree (F := F)) $$ [H8 HSI]
  · isplitl [H8] <;> iassumption
  icases H with ⟨%h8, HSI⟩
  ipureintro; exact ⟨h0, h1, h2, h3, h4, h5, h6, h7, h8⟩

/-! ## The program's run -/

/-- The device's arguments as launched, its results at `o` and `ls`, every semaphore at zero. -/
def QC : PUnit × MemSt nD τ sig (Elt F) → Prop := fun r =>
  (r.2.mem (((0 : Dev nD) : Thread nD τ).loc main_arg0) = m (((0 : Dev nD) : Thread nD τ).loc main_arg0) ∧ r.2.mem (((0 : Dev nD) : Thread nD τ).loc main_arg1) = m (((0 : Dev nD) : Thread nD τ).loc main_arg1)
    ∧ r.2.mem (((0 : Dev nD) : Thread nD τ).loc main_arg2) = m (((0 : Dev nD) : Thread nD τ).loc main_arg2) ∧ r.2.mem (((0 : Dev nD) : Thread nD τ).loc main_arg3) = m (((0 : Dev nD) : Thread nD τ).loc main_arg3)
    ∧ r.2.mem (((0 : Dev nD) : Thread nD τ).loc main_arg4) = m (((0 : Dev nD) : Thread nD τ).loc main_arg4) ∧ r.2.mem (((0 : Dev nD) : Thread nD τ).loc main_arg5) = m (((0 : Dev nD) : Thread nD τ).loc main_arg5)
    ∧ r.2.mem (((0 : Dev nD) : Thread nD τ).loc main_arg6) = m (((0 : Dev nD) : Thread nD τ).loc main_arg6) ∧ r.2.mem (((0 : Dev nD) : Thread nD τ).loc main_v15) = o ∧ r.2.mem (((0 : Dev nD) : Thread nD τ).loc main_v16) = ls)
    ∧ r.2.sem = fun _ => 0

/-- From values that follow from one another, every execution ends with the results at `o` and `ls`. -/
theorem run_main [∀ e, Nonempty (Elt F e)] (H : Links m 0 A R w b be bv hbe b1 b2 o ls) :
    θ_run (Cert.WholeIdeal.defs (F := F)) (Cert.WholeIdeal.threads (F := F)) ⟨m, fun _ => 0, ρ⟩ (QC m o ls) :=
  SparseCore.Cfg.θ_run_sc_quiescent (K := K (F := F)) (D := D (F := F)) (𝒱 := 𝒱) (EH := EH) (P := P A) (A := ∅) facts v₀
    (fun q hq => match q with | 0 => nomatch hq | 1 => nomatch hq)
    (fun q _ => match q with | 0 => tileObl0 A facts | 1 => tileObl1 A facts)
    (fun q _ => match q with | 0 => SparseCore.Cfg.VecSplit.of_plain (vecSplit0 A) | 1 => SparseCore.Cfg.VecSplit.of_plain (vecSplit1 A))
    m ρ main (fun d => iprop(gh (F := F) d be bv hbe 0 ∗ gh (F := F) d be bv hbe 1)) (fun d => FIN m d o ls) (u₀ (F := F) be bv hbe) (sep_elim_left.trans (hu₀ A be bv hbe))
    (fun κ d => match d with | ⟨0, _⟩ => hmain m ρ 0 A R w b be bv hbe b1 b2 o ls H κ) (fun d => fq m d o ls) (fun d s' => hfin m d o ls s') (QC m o ls) (fun _ h hz => ⟨h 0, hz⟩)

end Cert.Proof.Whole
-- ==== Proof.WholeEq.lean ====
/-
  The whole program against its reference over the extended reals: the rows it adds up are the reference's weighted rows.
-/
module

public import proofs.«01_k».proof.Proof.WholeRouting
public import proofs.«01_k».proof.Proof.WholeRowAt
public import proofs.«01_k».proof.Proof.WholeReference
public import proofs.«01_k».proof.Proof.WholeRun

@[expose] public section
noncomputable section
namespace Cert.Proof.Whole.Final
open Cert.WholeIdeal Cert.WholeIdeal.Gen Idealize.ShloMosaic Idealize.ShloMosaic.TcCoe Idealize.SL.Sem
open Cert.Proof.Combine (comb rowIx)
open Cert.Proof.Router.Eq Cert.Proof.Whole.Count Cert.Proof.Whole.Routing Cert.Proof.Whole.Row
open Cert.Proof.Whole.Ref (mix exps gel hid mix_apply exps_apply gel_apply hid_apply)

/-- The reference's row of one expert, as the kernel's. -/
theorem exps_row (x : FVec Ideal S1x2048x768 .f32) (w1 : FVec Ideal S8x768x3072 .f32) (b1 : FVec Ideal S8x3072 .f32) (w2 : FVec Ideal S8x3072x768 .f32) (b2 : FVec Ideal S8x768 .f32)
    (e : Fin 8) (t : Fin 2048) (y : Fin 768) :
    exps (F := Ideal) (gel (hid x w1 b1)) w2 b2 (ix3 e t y)
      = row (fun j => x (ix3 0 t j)) (fun j k => w1 (ix3 e j k)) (fun k => b1 (ix2 e k)) (fun k => w2 (ix3 e k y)) (b2 (ix2 e y)) := by
  rw [exps_apply]
  simp only [gel_apply, hid_apply, mul_comm (w1 _)]
  rfl

theorem at6_rowIx {v : BitVec 32} {n : ℕ} (h : v.toNat = n) (hn : n < 6144) (y : Fin 768) : rowIx v y = at6 ⟨n, hn⟩ y :=
  funext fun a => match a with
    | 0 => Fin.ext (show min v.toNat 6143 = n by omega)
    | 1 => rfl

variable (m : (ℓ : Loc nD τ sig) → Buf (Elt Ideal) ℓ)

abbrev a0 : FVec Ideal S1x2048x768 .f32 := m (((0 : Dev nD) : Thread nD τ).loc main_arg0)
abbrev a1 : FVec Ideal S768x8 .f32 := m (((0 : Dev nD) : Thread nD τ).loc main_arg1)
abbrev a2 : FVec Ideal S8 .f32 := m (((0 : Dev nD) : Thread nD τ).loc main_arg2)
abbrev a3 : FVec Ideal S8x768x3072 .f32 := m (((0 : Dev nD) : Thread nD τ).loc main_arg3)
abbrev a4 : FVec Ideal S8x3072 .f32 := m (((0 : Dev nD) : Thread nD τ).loc main_arg4)
abbrev a5 : FVec Ideal S8x3072x768 .f32 := m (((0 : Dev nD) : Thread nD τ).loc main_arg5)
abbrev a6 : FVec Ideal S8x768 .f32 := m (((0 : Dev nD) : Thread nD τ).loc main_arg6)

/-- The reference's result, before its last reshape, and its loss. -/
def outR : FVec Ideal S2048x768 .f32 :=
  mix (F := Ideal) (exps (gel (hid (a0 m) (a3 m) (a4 m))) (a5 m) (a6 m)) (Router.Ref.topW (Router.Ref.topV (soft (a0 m) (a1 m) (a2 m)))) (Router.Ref.topI (soft (a0 m) (a1 m) (a2 m)))
def lossR : FVec Ideal S_ .f32 :=
  mulf (Router.Ref.cv (Router.Ref.util (Router.Ref.hot (Router.Ref.topI (soft (a0 m) (a1 m) (a2 m)))))) (Router.Ref.cv (Router.Ref.util (Router.Ref.hot (Router.Ref.topI (soft (a0 m) (a1 m) (a2 m))))))

/-- The experts' staged biases. -/
abbrev bb1 : S8x1x3072.Idx → Elt Ideal .f32 := shapeCast S8x1x3072 (a4 m) shapeCasts_S8x3072_S8x1x3072
abbrev bb2 : S8x1x768.Idx → Elt Ideal .f32 := shapeCast S8x1x768 (a6 m) shapeCasts_S8x768_S8x1x768

/-- What the experts' region is entered with, the list of weights at `ws`. -/
abbrev entE (hbe : InRange (be m 0)) (ws : S6144.Idx → Elt Ideal .f32) : Ent Ideal where
  xs := srt m 0
  b1 := bb1 m
  b2 := bb2 m
  ws := shapeCast S6144x1 ws shapeCasts_S6144_S6144x1
  ys := m (((0 : Dev nD) : Thread nD τ).loc main_v13)
  w1 := m (((0 : Dev nD) : Thread nD τ).loc main_arg3)
  w2 := m (((0 : Dev nD) : Thread nD τ).loc main_arg5)
  be := be m 0
  bv := bv m 0
  hbe := hbe

variable {m}

theorem row_of {a c : Fin 2048 → Fin 8} (H : Placed a c (pa m 0) (pb m 0) (be m 0) (bv m 0)) (hbe : InRange (be m 0))
    (ws : S6144.Idx → Elt Ideal .f32) (ys : S6144x768.Idx → Elt Ideal .f32) (hG : GoodYs (entE m hbe ws) 0 24 ys)
    {e : Fin 8} {t : Fin 2048} (h : e = a t ∨ e = c t) (hn : pos a c e t < 6144) (hs : (pa m 0 (ix1 t) : BitVec 32).toNat = pos a c e t ∨ (pb m 0 (ix1 t) : BitVec 32).toNat = pos a c e t)
    (y : Fin 768) :
    ys (at6 ⟨pos a c e t, hn⟩ y) = ws (Idealize.ShloMosaic.ix1 ⟨pos a c e t, hn⟩)
      * exps (F := Ideal) (gel (hid (a0 m) (a3 m) (a4 m))) (a5 m) (a6 m) (ix3 e t y) := by
  obtain ⟨he, hv⟩ := H.block h
  rw [exps_row]
  generalize hp : (⟨pos a c e t, hn⟩ : Fin 6144) = p
  have hpv : p.val = pos a c e t := by rw [← hp]
  rw [← hpv] at he hv hs
  clear hp hpv
  have hx : ∀ j, srt m 0 (at6 p j) = a0 m (ix3 0 t j) := fun j => by
    rw [srt_sorted m 0 H.places t (at6 p j) hs]
    have h2 : (fun | 0 => t | 1 => j : S2048x768.Idx) = ix2 t j := funext fun a => match a with | 0 => rfl | 1 => rfl
    show x2 m 0 (fun | 0 => t | 1 => j) = _
    rw [h2]
    pointwise
  have hw : (shapeCast S6144x1 ws shapeCasts_S6144_S6144x1 : S6144x1.Idx → Elt Ideal .f32) (at61 p) = ws (Idealize.ShloMosaic.ix1 p) := by
    have h2 : at61 p = ix2 p 0 := funext fun a => match a with | 0 => rfl | 1 => rfl
    rw [h2]
    pointwise
  have h1 : ∀ k, bb1 m (atB1 e k) = a4 m (ix2 e k) := fun k => by
    have h2 : atB1 e k = ix3 e 0 k := funext fun a => match a with | 0 => rfl | 1 => rfl | 2 => rfl
    rw [h2]
    pointwise
  have h2 : bb2 m (atB2 e y) = a6 m (ix2 e y) := by
    have h2 : atB2 e y = ix3 e 0 y := funext fun a => match a with | 0 => rfl | 1 => rfl | 2 => rfl
    rw [h2]
    pointwise
  exact row_of_values 0 ys hG e p he hv y hw hx (fun _ _ => rfl) h1 (fun _ => rfl) h2

theorem out_eq (hr : ∀ t e, ∃ r : ℝ, Router.Ref.logits (a0 m) (a1 m) (a2 m) (ix2 t e) = r) :
    ∃ (hp : Pos (pa m 0) (pb m 0)) (hbe : InRange (be m 0)), ∀ ws ys, Put (pa m 0) (pb m 0) (wa m 0) (wb m 0) 128 ws → GoodYs (entE m hbe ws) 0 24 ys →
      comb ys (pa m 0) (pb m 0) = outR m := by
  obtain ⟨a, c, H, hi0, hi1⟩ := routed hr
  have H : Placed a c (pa m 0) (pb m 0) (be m 0) (bv m 0) := H
  refine ⟨H.places, H.inRange, fun ws ys hP hG => funext fun i => ?_⟩
  obtain ⟨t, y, rfl⟩ : ∃ (t : Fin 2048) (y : Fin 768), i = ix2 t y := ⟨i 0, i 1, funext fun a => match a with | 0 => rfl | 1 => rfl⟩
  have bA := pos_bound H.ne (e := a t) (t := t) (.inl rfl)
  have bB := pos_bound H.ne (e := c t) (t := t) (.inr rfl)
  have hA := at6_rowIx (H.nA t) bA y
  have hB := at6_rowIx (H.nB t) bB y
  have hC : comb ys (pa m 0) (pb m 0) (ix2 t y) = ys (rowIx (pa m 0 (ix1 t)) y) + ys (rowIx (pb m 0 (ix1 t)) y) := rfl
  have hwA : ws (Idealize.ShloMosaic.ix1 ⟨_, bA⟩) = wa m 0 (ix1 t) := (hP (ix1 t) (by show t.val < 16 * 128; omega) (Idealize.ShloMosaic.ix1 ⟨_, bA⟩)).1 (H.nA t).symm
  have hwB : ws (Idealize.ShloMosaic.ix1 ⟨_, bB⟩) = wb m 0 (ix1 t) := (hP (ix1 t) (by show t.val < 16 * 128; omega) (Idealize.ShloMosaic.ix1 ⟨_, bB⟩)).2 (H.nB t).symm
  have hwA' : wa m 0 (ix1 t) = Router.Ref.topW (Router.Ref.topV (soft (a0 m) (a1 m) (a2 m))) (ix2 t 0) := weightA hr t
  have hwB' : wb m 0 (ix1 t) = Router.Ref.topW (Router.Ref.topV (soft (a0 m) (a1 m) (a2 m))) (ix2 t 1) := weightB hr t
  rw [hC, hA, hB, row_of H H.inRange ws ys hG (.inl rfl) bA (.inl (H.nA t)) y, row_of H H.inRange ws ys hG (.inr rfl) bB (.inr (H.nB t)) y, hwA, hwB, hwA', hwB']
  exact (mix_apply _ _ _ t y (a t) (c t) (hi0 t) (hi1 t)).symm

variable (m)

/-- The values along the way. -/
def vals (hp : Pos (pa m 0) (pb m 0)) (hbe : InRange (be m 0))
    (ho : ∀ ws ys, Put (pa m 0) (pb m 0) (wa m 0) (wb m 0) 128 ws → GoodYs (entE m hbe ws) 0 24 ys → comb ys (pa m 0) (pb m 0) = outR m) : Vals Ideal where
  x := x2 m 0
  pa := pa m 0
  pb := pb m 0
  wa := wa m 0
  wb := wb m 0
  hp := hp
  f := xs0 m 0
  g := srt m 0
  hg := srt_sorted m 0 hp
  hfg := srt_rest m 0
  o := m (((0 : Dev nD) : Thread nD τ).loc main_v14)
  Ok := fun ys => ∃ ws, Put (pa m 0) (pb m 0) (wa m 0) (wb m 0) 128 ws ∧ GoodYs (entE m hbe ws) 0 24 ys
  out := outR m
  hout := fun ys ⟨ws, h1, h2⟩ => ho ws ys h1 h2

attribute [local irreducible] srt in
theorem links (hr : ∀ t e, ∃ r : ℝ, Router.Ref.logits (a0 m) (a1 m) (a2 m) (ix2 t e) = r) (hp hbe ho) :
    Links (F := Ideal) m 0 (vals m hp hbe ho) (rr m 0) (w0 m 0) (b0 m 0) (be m 0) (bv m 0) hbe (bb1 m) (bb2 m) (shapeCast S1x2048x768 (outR m) shapeCasts_S2048x768_S1x2048x768) (lossR m) where
  hx := by rfl
  hb := by rfl
  hw := by rfl
  hR := by rfl
  hpa := by rfl
  hpb := by rfl
  hwa := by rfl
  hwb := by rfl
  hbe' := by rfl
  hbv := by rfl
  hb1 := by rfl
  hb2 := by rfl
  hf := by rfl
  ho := by rfl
  hok := by
    intro ws ys h1 h2
    refine ⟨ws, h1, ?_⟩
    dsimp only [entG, vals] at h2
    exact h2
  hout := by rfl
  hls := by exact lossEq hr

/-- From finite arrays, every execution of the whole program ends with the reference's results. -/
theorem whole_run (ρ : Dev nD → PrngReg) (hr : ∀ t e, ∃ r : ℝ, Router.Ref.logits (a0 m) (a1 m) (a2 m) (ix2 t e) = r) :
    θ_run (Cert.WholeIdeal.defs (F := Ideal)) (Cert.WholeIdeal.threads (F := Ideal)) ⟨m, fun _ => 0, ρ⟩
      (QC (F := Ideal) m (shapeCast S1x2048x768 (outR m) shapeCasts_S2048x768_S1x2048x768) (lossR m)) := by
  obtain ⟨hp, hbe, ho⟩ := out_eq hr
  haveI : ∀ e, Nonempty (Elt Ideal e) := fun e => by
    cases e <;> first | exact ⟨(0 : EReal)⟩ | exact ⟨0⟩
  exact run_main m ρ (vals m hp hbe ho) (rr m 0) (w0 m 0) (b0 m 0) (be m 0) (bv m 0) hbe (bb1 m) (bb2 m) _ _ (links m hr hp hbe ho)

end Cert.Proof.Whole.Final
-- ==== Proof.lean ====
/-
  The certificate of the whole layer, of its combine step on the SparseCore alone, and of its router alone. Proof/Setup.lean, Trip.lean,
  Blocks.lean and Tile.lean prove one combine task's run, Proof/Launch.lean that of the combine program with the value of its
  result, for any float values; Proof/Reference.lean reads the reference's gathers. Proof/RouterTop.lean is about the two best of
  eight values, Proof/RouterKernel.lean and RouterRead.lean read the router's kernel, Proof/RouterReference.lean its
  reference, and Proof/RouterEq.lean compares the two. The whole layer: Proof/WholeRun.lean proves its run, from the modules
  on its router, its dispatch and combine on the SparseCore and its experts, and Proof/WholeEq.lean compares its results with
  the reference's. Here the claims are put together.
-/
module

public import proofs.«01_k».proof.Proof.Gen.RouterIdeal.Value
public import proofs.«01_k».proof.Proof.Gen.RouterReferenceIdeal.Run
public import proofs.«01_k».proof.Proof.Gen.Router.Frame
public import proofs.«01_k».proof.Proof.Gen.WholeReferenceIdeal.Run
public import proofs.«01_k».proof.Proof.Gen.Pre_finite
public import proofs.«01_k».proof.Defs
public import proofs.«01_k».proof.Proof.Gen.Kernel
public import proofs.«01_k».proof.Proof.Gen.KernelIdeal
public import proofs.«01_k».proof.Proof.Gen.Reference
public import proofs.«01_k».proof.Proof.Gen.ReferenceIdeal
public import proofs.«01_k».proof.Proof.Gen.ReferenceIdeal.Run
public import proofs.«01_k».proof.Proof.Gen.Pre_rows_in_range
public import proofs.«01_k».proof.Proof.Gen.Pre_router_finite
public import proofs.«01_k».proof.Proof.Launch
public import proofs.«01_k».proof.Proof.Reference
public import proofs.«01_k».proof.Proof.RouterEq
public import proofs.«01_k».proof.Proof.WholeEq

@[expose] public section
noncomputable section
namespace Cert.Proof
open Idealize.ShloMosaic Idealize.SL.Sem
open Cert.Proof.Combine (comb run_main PreOK)

section Values
variable {F : FTy → Type} [FloatOps F]

open Cert.ReferenceIdeal Cert.ReferenceIdeal.Gen in
/-- The reference's run from positions in range: the combined rows in its result, the arguments unchanged. -/
theorem reference_run (m : (ℓ : Loc nD τ sig) → Buf (Elt F) ℓ) (ρ : Dev nD → PrngReg)
    (hp : ∀ c : Dev nD, (∀ j, (m ((c.tc : Thread nD τ).loc main_arg1) j : BitVec 32).toNat < 6144) ∧ ∀ j, (m ((c.tc : Thread nD τ).loc main_arg2) j : BitVec 32).toNat < 6144) :
    θ_run (defs (F := F)) (onTc (τ := τ) (main (F := F))) ⟨m, fun _ => 0, ρ⟩ fun r => ∀ c : Dev nD,
      r.2.mem ((c.tc : Thread nD τ).loc main_v14)
          = comb (m ((c.tc : Thread nD τ).loc main_arg0)) (m ((c.tc : Thread nD τ).loc main_arg1)) (m ((c.tc : Thread nD τ).loc main_arg2))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2) :=
  (θ_run defs _ _).mono (fun _ h c => ⟨(h c).1.trans (funext fun y => congrArg₂ FloatOps.addf
      (Reference.gather_val _ rfl rfl rfl rfl rfl _ _ _ _ (hp c).1 y) (Reference.gather_val _ rfl rfl rfl rfl rfl _ _ _ _ (hp c).2 y)), (h c).2⟩)
    (Value.run m ρ)

end Values

/-- The kernel as printed runs to the end, its arguments unchanged, every semaphore at zero. -/
theorem frame_kernel : Cert.quiescent_Kernel := fun m ρ hpre =>
  (θ_run Cert.KernelIdeal.defs _ _).mono (fun _ h => ⟨fun c => ⟨(h.1 c).1, (h.1 c).2.1, (h.1 c).2.2.1⟩, h.2⟩)
    (run_main (F := Bits) m ρ fun d => Reference.pre_range (hpre d))

/-- So does the kernel over the extended reals. -/
theorem frame_ideal : Cert.quiescent_KernelIdeal := fun m ρ hpre =>
  (θ_run Cert.KernelIdeal.defs _ _).mono (fun _ h => ⟨fun c => ⟨(h.1 c).1, (h.1 c).2.1, (h.1 c).2.2.1⟩, h.2⟩)
    (run_main (F := Ideal) m ρ fun d => Reference.pre_range (hpre d))

/-- The references run to the end, their arguments unchanged; they have no semaphore. -/
theorem frame_reference_ideal : Cert.quiescent_ReferenceIdeal := fun m ρ hpre =>
  (θ_run Cert.ReferenceIdeal.defs _ _).mono (fun r h => ⟨fun c => (h c).2, sem_eq_zero_of_no_sems (by decide) r.2⟩)
    (reference_run (F := Ideal) m ρ fun d => Reference.pre_range (hpre d))

theorem frame_reference : Cert.quiescent_Reference := fun m ρ hpre =>
  (θ_run Cert.ReferenceIdeal.defs _ _).mono (fun r h => ⟨fun c => (h c).2, sem_eq_zero_of_no_sems (by decide) r.2⟩)
    (reference_run (F := Bits) m ρ fun d => Reference.pre_range (hpre d))

/-- Kernel and reference, from equal arguments, end with equal results over the extended reals: the combined rows. -/
theorem algebraic : Cert.algebraic_KernelIdeal_ReferenceIdeal := fun m ρ m' ρ' hpre hagree =>
  have hr : PreOK (F := Ideal) m := fun d => Reference.pre_range (hpre d)
  ⟨fun c => Combine.outV (F := Ideal) m c,
    (θ_run Cert.KernelIdeal.defs _ _).mono (fun _ h c => ⟨(h.1 c).2.2.2, (h.1 c).1, (h.1 c).2.1, (h.1 c).2.2.1⟩) (run_main (F := Ideal) m ρ hr),
    (θ_run Cert.ReferenceIdeal.defs _ _).mono (fun _ h c => ⟨(h c).1.trans (by rw [(hagree c).1, (hagree c).2.1, (hagree c).2.2]), (h c).2⟩)
      (reference_run (F := Ideal) m' ρ' fun d => by rw [(hagree d).2.1, (hagree d).2.2]; exact hr d)⟩

/-- And equal bit for bit as printed. -/
theorem bitexact : Cert.bitexact_Kernel_Reference := fun m ρ m' ρ' hpre hagree =>
  have hr : PreOK (F := Bits) m := fun d => Reference.pre_range (hpre d)
  ⟨fun c => Combine.outV (F := Bits) m c,
    (θ_run Cert.KernelIdeal.defs _ _).mono (fun _ h c => ⟨(h.1 c).2.2.2, (h.1 c).1, (h.1 c).2.1, (h.1 c).2.2.1⟩) (run_main (F := Bits) m ρ hr),
    (θ_run Cert.ReferenceIdeal.defs _ _).mono (fun _ h c => ⟨(h c).1.trans (by rw [(hagree c).1, (hagree c).2.1, (hagree c).2.2]), (h c).2⟩)
      (reference_run (F := Bits) m' ρ' fun d => by rw [(hagree d).2.1, (hagree d).2.2]; exact hr d)⟩

/-! ## The router -/

/-- The router over the extended reals runs to the end, its arguments unchanged, every semaphore at zero. -/
theorem frame_router_ideal : Cert.quiescent_RouterIdeal := fun m ρ _ => Cert.RouterIdeal.Gen.frame m ρ

/-- So does it as printed. -/
theorem frame_router : Cert.quiescent_Router := fun m ρ _ => Cert.Router.Gen.frame m ρ

/-- And its reference. -/
theorem frame_router_reference : Cert.quiescent_RouterReferenceIdeal := fun m ρ _ =>
  (θ_run Cert.RouterReferenceIdeal.defs _ _).mono (fun r h => ⟨fun c => (h c).2.2.2, sem_eq_zero_of_no_sems (by decide) r.2⟩)
    (Cert.RouterReferenceIdeal.Value.run m ρ)

/-- From finite arguments the router and its reference end with equal weights and an equal loss over the extended reals. -/
theorem router_algebraic : Cert.algebraic_RouterIdeal_RouterReferenceIdeal_pre_router_finite := fun m ρ m' ρ' hpre hagree => by
  refine ⟨fun c => (Cert.RouterIdeal.Gen.dats m 0 c).arrAt 5 Cert.RouterIdeal.cfg0.N, fun c => (Cert.RouterIdeal.Gen.dats m 0 c).arrAt 6 Cert.RouterIdeal.cfg0.N,
    fun c => (Cert.RouterIdeal.Gen.dats m 0 c).arrAt 9 Cert.RouterIdeal.cfg0.N, ?_, ?_⟩
  · exact (θ_run Cert.RouterIdeal.defs _ _).mono (fun r h c => by
      obtain ⟨_, _, h2, h3, _, _, h6, ha⟩ := h c
      exact ⟨h2, h3, h6, ha⟩) (Cert.RouterIdeal.Value.run_blocks m ρ)
  · refine (θ_run Cert.RouterReferenceIdeal.defs _ _).mono (fun r h c => ?_) (Cert.RouterReferenceIdeal.Value.run m' ρ')
    obtain ⟨h0, h1, h2, ha⟩ := h c
    obtain ⟨hx, hw, hb⟩ := Router.Eq.pre_finite (hpre c)
    have hr := Router.Eq.logits_real hx hw hb
    obtain ⟨e0, e1, e2⟩ := hagree c
    refine ⟨h0.trans ?_, h1.trans ?_, h2.trans ?_, ha⟩
    · rw [Router.Ref.res0, Router.Ref.W, e0, e1, e2]
      exact (Router.Eq.result0 hr).trans (Router.Kernel.first_eq m c).symm
    · rw [Router.Ref.res1, Router.Ref.W, e0, e1, e2]
      exact (Router.Eq.result1 hr).trans (Router.Kernel.second_eq m c).symm
    · rw [Router.Ref.res2, Router.Ref.W, e0, e1, e2]
      exact (Router.Eq.result2 hr).trans (Router.Kernel.loss_eq m c).symm

/-! ## The whole layer -/

/-- The precondition, all ones, says each element of the tokens, the router's weights and its biases is a real number. -/
theorem finite_router {x : FVec Ideal Cert.Pre_finite.S1x2048x768 .f32} {w : FVec Ideal Cert.Pre_finite.S768x8 .f32} {b : FVec Ideal Cert.Pre_finite.S8 .f32}
    {w1 : FVec Ideal Cert.Pre_finite.S8x768x3072 .f32} {b1 : FVec Ideal Cert.Pre_finite.S8x3072 .f32} {w2 : FVec Ideal Cert.Pre_finite.S8x3072x768 .f32} {b2 : FVec Ideal Cert.Pre_finite.S8x768 .f32}
    (h : Cert.Pre_finite.fn (F := Ideal) x w b w1 b1 w2 b2 = fun _ => 1#1) : (∀ i, ∃ r : ℝ, x i = r) ∧ (∀ i, ∃ r : ℝ, w i = r) ∧ ∀ i, ∃ r : ℝ, b i = r := by
  have h0 := congrFun h ix0
  obtain ⟨h1, hb⟩ := IntOp.andi_eq_one.1 h0
  obtain ⟨hx, hw⟩ := IntOp.andi_eq_one.1 h1
  haveI : Subsingleton Cert.Pre_finite.S_.Idx := ⟨fun a b => funext fun i => i.elim0⟩
  exact ⟨fun i => Router.Eq.real_of_olt (Host.reduce_andi_all _ _ _ _ _ hx i), fun i => Router.Eq.real_of_olt (Host.reduce_andi_all _ _ _ _ _ hw i),
    fun i => Router.Eq.real_of_olt (Host.reduce_andi_all _ _ _ _ _ hb i)⟩

/-- So the router's logits are real numbers. -/
theorem whole_logits {m : (ℓ : Loc Cert.WholeIdeal.nD Cert.WholeIdeal.τ Cert.WholeIdeal.sig) → Buf (Elt Ideal) ℓ} (h : Cert.Pre_WholeIdeal m) :
    ∀ t e, ∃ r : ℝ, Router.Ref.logits (Whole.Final.a0 m) (Whole.Final.a1 m) (Whole.Final.a2 m) (ix2 t e) = r :=
  have hf := finite_router (h 0)
  Router.Eq.logits_real hf.1 hf.2.1 hf.2.2

/-- The whole layer over the extended reals runs to the end, its arguments unchanged, every semaphore at zero. -/
theorem frame_whole : Cert.quiescent_WholeIdeal := fun m ρ hpre =>
  (θ_run Cert.WholeIdeal.defs _ _).mono (fun _ h => ⟨fun c => match c with
    | ⟨0, _⟩ => ⟨h.1.1, h.1.2.1, h.1.2.2.1, h.1.2.2.2.1, h.1.2.2.2.2.1, h.1.2.2.2.2.2.1, h.1.2.2.2.2.2.2.1⟩, h.2⟩)
    (Whole.Final.whole_run m ρ (whole_logits hpre))

/-- And its reference. -/
theorem frame_whole_reference : Cert.quiescent_WholeReferenceIdeal := fun m ρ _ =>
  (θ_run Cert.WholeReferenceIdeal.defs _ _).mono (fun r h => ⟨fun c => (h c).2.2, sem_eq_zero_of_no_sems (by decide) r.2⟩)
    (Cert.WholeReferenceIdeal.Value.run m ρ)

/-- From finite arguments the whole layer and its reference end with equal outputs and an equal loss over the extended reals. -/
theorem whole_algebraic : Cert.algebraic_WholeIdeal_WholeReferenceIdeal := fun m ρ m' ρ' hpre hagree => by
  refine ⟨fun c => match c with | ⟨0, _⟩ => shapeCast Cert.WholeIdeal.S1x2048x768 (Whole.Final.outR m) Cert.WholeIdeal.Facts₀.shapeCasts_S2048x768_S1x2048x768,
    fun c => match c with | ⟨0, _⟩ => Whole.Final.lossR m, ?_, ?_⟩
  · exact (θ_run Cert.WholeIdeal.defs _ _).mono (fun _ h c => match c with
      | ⟨0, _⟩ => ⟨h.1.2.2.2.2.2.2.2.1, h.1.2.2.2.2.2.2.2.2, h.1.1, h.1.2.1, h.1.2.2.1, h.1.2.2.2.1, h.1.2.2.2.2.1, h.1.2.2.2.2.2.1, h.1.2.2.2.2.2.2.1⟩)
      (Whole.Final.whole_run m ρ (whole_logits hpre))
  · refine (θ_run Cert.WholeReferenceIdeal.defs _ _).mono (fun r h c => ?_) (Cert.WholeReferenceIdeal.Value.run m' ρ')
    obtain ⟨h0, h1, ha⟩ := h c
    obtain ⟨e0, e1, e2, e3, e4, e5, e6⟩ := hagree c
    match c with
    | ⟨0, _⟩ =>
      refine ⟨h0.trans ?_, h1.trans ?_, ha⟩
      · rw [Whole.Ref.res0, Whole.Ref.W, e0, e1, e2, e3, e4, e5, e6]
        rfl
      · rw [Whole.Ref.res1, Whole.Ref.W, e0, e1, e2]
        rfl

/-- Everything claimed. -/
theorem claim : Cert.Claim :=
  ⟨Cert.Kernel.Gen.facts, Cert.KernelIdeal.Gen.facts, Cert.ReferenceIdeal.Gen.facts, Cert.Reference.Gen.facts,
    Cert.Router.Gen.facts, Cert.RouterIdeal.Gen.facts, Cert.RouterReferenceIdeal.Gen.facts, Cert.WholeIdeal.Gen.facts, Cert.WholeReferenceIdeal.Gen.facts,
    Cert.Pre_rows_in_range.Gen.facts, Cert.Pre_router_finite.Gen.facts, Cert.Pre_finite.Gen.facts,
    frame_kernel, frame_ideal, frame_reference_ideal, frame_reference,
    frame_router, frame_router_ideal, fun m ρ _ => frame_router_ideal m ρ trivial, frame_router_reference, fun m ρ _ => frame_router_reference m ρ trivial,
    frame_whole, frame_whole_reference, fun m ρ _ => frame_whole_reference m ρ trivial,
    trivial, algebraic, bitexact, trivial, router_algebraic, whole_algebraic⟩

end Cert.Proof
